-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.2 = (fun _ => 1#1)

def Pre_GwKernel (m : (ℓ : Loc Cert.GwKernel.nD Cert.GwKernel.τ Cert.GwKernel.sig) → Buf (Elt Bits) ℓ) : Prop :=
  True

def Pre_GwKernelIdeal (m : (ℓ : Loc Cert.GwKernelIdeal.nD Cert.GwKernelIdeal.τ Cert.GwKernelIdeal.sig) → Buf (Elt Ideal) ℓ) : Prop :=
  True

def Pre_GwReferenceIdeal (m : (ℓ : Loc Cert.GwReferenceIdeal.nD Cert.GwReferenceIdeal.τ Cert.GwReferenceIdeal.sig) → Buf (Elt Ideal) ℓ) : Prop :=
  True

def Pre_DyKernel (m : (ℓ : Loc Cert.DyKernel.nD Cert.DyKernel.τ Cert.DyKernel.sig) → Buf (Elt Bits) ℓ) : Prop :=
  True

def Pre_DyKernelIdeal (m : (ℓ : Loc Cert.DyKernelIdeal.nD Cert.DyKernelIdeal.τ Cert.DyKernelIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_GbKernel (m : (ℓ : Loc Cert.GbKernel.nD Cert.GbKernel.τ Cert.GbKernel.sig) → Buf (Elt Bits) ℓ) : Prop :=
  True

def Pre_GbKernelIdeal (m : (ℓ : Loc Cert.GbKernelIdeal.nD Cert.GbKernelIdeal.τ Cert.GbKernelIdeal.sig) → Buf (Elt Ideal) ℓ) : Prop :=
  True

def Pre_GbReferenceIdeal (m : (ℓ : Loc Cert.GbReferenceIdeal.nD Cert.GbReferenceIdeal.τ Cert.GbReferenceIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_H1Kernel (m : (ℓ : Loc Cert.H1Kernel.nD Cert.H1Kernel.τ Cert.H1Kernel.sig) → Buf (Elt Bits) ℓ) : Prop :=
  True

def Pre_H1KernelIdeal (m : (ℓ : Loc Cert.H1KernelIdeal.nD Cert.H1KernelIdeal.τ Cert.H1KernelIdeal.sig) → Buf (Elt Ideal) ℓ) : Prop :=
  True

def Pre_H1ReferenceIdeal (m : (ℓ : Loc Cert.H1ReferenceIdeal.nD Cert.H1ReferenceIdeal.τ Cert.H1ReferenceIdeal.sig) → Buf (Elt Ideal) ℓ) : Prop :=
  True

def Pre_DyxKernel (m : (ℓ : Loc Cert.DyxKernel.nD Cert.DyxKernel.τ Cert.DyxKernel.sig) → Buf (Elt Bits) ℓ) : Prop :=
  True

def Pre_DyxKernelIdeal (m : (ℓ : Loc Cert.DyxKernelIdeal.nD Cert.DyxKernelIdeal.τ Cert.DyxKernelIdeal.sig) → Buf (Elt Ideal) ℓ) : Prop :=
  True

def Pre_DyxReferenceIdeal (m : (ℓ : Loc Cert.DyxReferenceIdeal.nD Cert.DyxReferenceIdeal.τ Cert.DyxReferenceIdeal.sig) → Buf (Elt Ideal) ℓ) : Prop :=
  True

def Pre_GoKernel (m : (ℓ : Loc Cert.GoKernel.nD Cert.GoKernel.τ Cert.GoKernel.sig) → Buf (Elt Bits) ℓ) : Prop :=
  True

def Pre_GoKernelIdeal (m : (ℓ : Loc Cert.GoKernelIdeal.nD Cert.GoKernelIdeal.τ Cert.GoKernelIdeal.sig) → Buf (Elt Ideal) ℓ) : Prop :=
  True

def Pre_GoReferenceIdeal (m : (ℓ : Loc Cert.GoReferenceIdeal.nD Cert.GoReferenceIdeal.τ Cert.GoReferenceIdeal.sig) → Buf (Elt Ideal) ℓ) : Prop :=
  True

def Pre_X1Kernel (m : (ℓ : Loc Cert.X1Kernel.nD Cert.X1Kernel.τ Cert.X1Kernel.sig) → Buf (Elt Bits) ℓ) : Prop :=
  True

def Pre_X1KernelIdeal (m : (ℓ : Loc Cert.X1KernelIdeal.nD Cert.X1KernelIdeal.τ Cert.X1KernelIdeal.sig) → Buf (Elt Ideal) ℓ) : Prop :=
  True

def Pre_X1ReferenceIdeal (m : (ℓ : Loc Cert.X1ReferenceIdeal.nD Cert.X1ReferenceIdeal.τ Cert.X1ReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_XfKernel (m : (ℓ : Loc Cert.XfKernel.nD Cert.XfKernel.τ Cert.XfKernel.sig) → Buf (Elt Bits) ℓ) : Prop :=
  True

def Pre_XfKernelIdeal (m : (ℓ : Loc Cert.XfKernelIdeal.nD Cert.XfKernelIdeal.τ Cert.XfKernelIdeal.sig) → Buf (Elt Ideal) ℓ) : Prop :=
  True

def Pre_XfReferenceIdeal (m : (ℓ : Loc Cert.XfReferenceIdeal.nD Cert.XfReferenceIdeal.τ Cert.XfReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_GkvKernel (m : (ℓ : Loc Cert.GkvKernel.nD Cert.GkvKernel.τ Cert.GkvKernel.sig) → Buf (Elt Bits) ℓ) : Prop :=
  True

def Pre_GkvKernelIdeal (m : (ℓ : Loc Cert.GkvKernelIdeal.nD Cert.GkvKernelIdeal.τ Cert.GkvKernelIdeal.sig) → Buf (Elt Ideal) ℓ) : Prop :=
  True

def Pre_GkvReferenceIdeal (m : (ℓ : Loc Cert.GkvReferenceIdeal.nD Cert.GkvReferenceIdeal.τ Cert.GkvReferenceIdeal.sig) → Buf (Elt Ideal) ℓ) : Prop :=
  True

def Pre_DmKernel (m : (ℓ : Loc Cert.DmKernel.nD Cert.DmKernel.τ Cert.DmKernel.sig) → Buf (Elt Bits) ℓ) : Prop :=
  True

def Pre_DmKernelIdeal (m : (ℓ : Loc Cert.DmKernelIdeal.nD Cert.DmKernelIdeal.τ Cert.DmKernelIdeal.sig) → Buf (Elt Ideal) ℓ) : Prop :=
  True

def Pre_DmReferenceIdeal (m : (ℓ : Loc Cert.DmReferenceIdeal.nD Cert.DmReferenceIdeal.τ Cert.DmReferenceIdeal.sig) → Buf (Elt Ideal) ℓ) : Prop :=
  True

def Pre_ZffKernel (m : (ℓ : Loc Cert.ZffKernel.nD Cert.ZffKernel.τ Cert.ZffKernel.sig) → Buf (Elt Bits) ℓ) : Prop :=
  True

def Pre_ZffKernelIdeal (m : (ℓ : Loc Cert.ZffKernelIdeal.nD Cert.ZffKernelIdeal.τ Cert.ZffKernelIdeal.sig) → Buf (Elt Ideal) ℓ) : Prop :=
  True

def Pre_ZffReferenceIdeal (m : (ℓ : Loc Cert.ZffReferenceIdeal.nD Cert.ZffReferenceIdeal.τ Cert.ZffReferenceIdeal.sig) → Buf (Elt Ideal) ℓ) : Prop :=
  True

def Pre_NfKernel (m : (ℓ : Loc Cert.NfKernel.nD Cert.NfKernel.τ Cert.NfKernel.sig) → Buf (Elt Bits) ℓ) : Prop :=
  True

def Pre_NfKernelIdeal (m : (ℓ : Loc Cert.NfKernelIdeal.nD Cert.NfKernelIdeal.τ Cert.NfKernelIdeal.sig) → Buf (Elt Ideal) ℓ) : Prop :=
  True

def Pre_NfReferenceIdeal (m : (ℓ : Loc Cert.NfReferenceIdeal.nD Cert.NfReferenceIdeal.τ Cert.NfReferenceIdeal.sig) → Buf (Elt Ideal) ℓ) : Prop :=
  True

def Pre_AnKernel (m : (ℓ : Loc Cert.AnKernel.nD Cert.AnKernel.τ Cert.AnKernel.sig) → Buf (Elt Bits) ℓ) : Prop :=
  True

def Pre_AnKernelIdeal (m : (ℓ : Loc Cert.AnKernelIdeal.nD Cert.AnKernelIdeal.τ Cert.AnKernelIdeal.sig) → Buf (Elt Ideal) ℓ) : Prop :=
  True

def Pre_AnReferenceIdeal (m : (ℓ : Loc Cert.AnReferenceIdeal.nD Cert.AnReferenceIdeal.τ Cert.AnReferenceIdeal.sig) → Buf (Elt Ideal) ℓ) : Prop :=
  True

def Pre_AcKernel (m : (ℓ : Loc Cert.AcKernel.nD Cert.AcKernel.τ Cert.AcKernel.sig) → Buf (Elt Bits) ℓ) : Prop :=
  True

def Pre_AcKernelIdeal (m : (ℓ : Loc Cert.AcKernelIdeal.nD Cert.AcKernelIdeal.τ Cert.AcKernelIdeal.sig) → Buf (Elt Ideal) ℓ) : Prop :=
  True

def Pre_AcReferenceIdeal (m : (ℓ : Loc Cert.AcReferenceIdeal.nD Cert.AcReferenceIdeal.τ Cert.AcReferenceIdeal.sig) → Buf (Elt Ideal) ℓ) : Prop :=
  True

def Pre_AfKernel (m : (ℓ : Loc Cert.AfKernel.nD Cert.AfKernel.τ Cert.AfKernel.sig) → Buf (Elt Bits) ℓ) : Prop :=
  True

def Pre_AfKernelIdeal (m : (ℓ : Loc Cert.AfKernelIdeal.nD Cert.AfKernelIdeal.τ Cert.AfKernelIdeal.sig) → Buf (Elt Ideal) ℓ) : Prop :=
  True

def Pre_AfReferenceIdeal (m : (ℓ : Loc Cert.AfReferenceIdeal.nD Cert.AfReferenceIdeal.τ Cert.AfReferenceIdeal.sig) → Buf (Elt Ideal) ℓ) : Prop :=
  True

def Pre_AgKernel (m : (ℓ : Loc Cert.AgKernel.nD Cert.AgKernel.τ Cert.AgKernel.sig) → Buf (Elt Bits) ℓ) : Prop :=
  True

def Pre_AgKernelIdeal (m : (ℓ : Loc Cert.AgKernelIdeal.nD Cert.AgKernelIdeal.τ Cert.AgKernelIdeal.sig) → Buf (Elt Ideal) ℓ) : Prop :=
  True

def Pre_AgReferenceIdeal (m : (ℓ : Loc Cert.AgReferenceIdeal.nD Cert.AgReferenceIdeal.τ Cert.AgReferenceIdeal.sig) → Buf (Elt Ideal) ℓ) : Prop :=
  True

def Pre_AxKernel (m : (ℓ : Loc Cert.AxKernel.nD Cert.AxKernel.τ Cert.AxKernel.sig) → Buf (Elt Bits) ℓ) : Prop :=
  True

def Pre_AxKernelIdeal (m : (ℓ : Loc Cert.AxKernelIdeal.nD Cert.AxKernelIdeal.τ Cert.AxKernelIdeal.sig) → Buf (Elt Ideal) ℓ) : Prop :=
  True

def Pre_AxReferenceIdeal (m : (ℓ : Loc Cert.AxReferenceIdeal.nD Cert.AxReferenceIdeal.τ Cert.AxReferenceIdeal.sig) → Buf (Elt Ideal) ℓ) : Prop :=
  True

def Pre_AiKernel (m : (ℓ : Loc Cert.AiKernel.nD Cert.AiKernel.τ Cert.AiKernel.sig) → Buf (Elt Bits) ℓ) : Prop :=
  True

def Pre_AiKernelIdeal (m : (ℓ : Loc Cert.AiKernelIdeal.nD Cert.AiKernelIdeal.τ Cert.AiKernelIdeal.sig) → Buf (Elt Ideal) ℓ) : Prop :=
  True

def Pre_AiReferenceIdeal (m : (ℓ : Loc Cert.AiReferenceIdeal.nD Cert.AiReferenceIdeal.τ Cert.AiReferenceIdeal.sig) → Buf (Elt Ideal) ℓ) : Prop :=
  True

def Pre_AkKernel (m : (ℓ : Loc Cert.AkKernel.nD Cert.AkKernel.τ Cert.AkKernel.sig) → Buf (Elt Bits) ℓ) : Prop :=
  True

def Pre_AkKernelIdeal (m : (ℓ : Loc Cert.AkKernelIdeal.nD Cert.AkKernelIdeal.τ Cert.AkKernelIdeal.sig) → Buf (Elt Ideal) ℓ) : Prop :=
  True

def Pre_AkReferenceIdeal (m : (ℓ : Loc Cert.AkReferenceIdeal.nD Cert.AkReferenceIdeal.τ Cert.AkReferenceIdeal.sig) → Buf (Elt Ideal) ℓ) : Prop :=
  True

def Pre_AbKernel (m : (ℓ : Loc Cert.AbKernel.nD Cert.AbKernel.τ Cert.AbKernel.sig) → Buf (Elt Bits) ℓ) : Prop :=
  True

def Pre_AbKernelIdeal (m : (ℓ : Loc Cert.AbKernelIdeal.nD Cert.AbKernelIdeal.τ Cert.AbKernelIdeal.sig) → Buf (Elt Ideal) ℓ) : Prop :=
  True

def Pre_AbReferenceIdeal (m : (ℓ : Loc Cert.AbReferenceIdeal.nD Cert.AbReferenceIdeal.τ Cert.AbReferenceIdeal.sig) → Buf (Elt Ideal) ℓ) : Prop :=
  True

def Pre_ApKernel (m : (ℓ : Loc Cert.ApKernel.nD Cert.ApKernel.τ Cert.ApKernel.sig) → Buf (Elt Bits) ℓ) : Prop :=
  True

def Pre_ApKernelIdeal (m : (ℓ : Loc Cert.ApKernelIdeal.nD Cert.ApKernelIdeal.τ Cert.ApKernelIdeal.sig) → Buf (Elt Ideal) ℓ) : Prop :=
  True

def Pre_ApReferenceIdeal (m : (ℓ : Loc Cert.ApReferenceIdeal.nD Cert.ApReferenceIdeal.τ Cert.ApReferenceIdeal.sig) → Buf (Elt Ideal) ℓ) : Prop :=
  True

def Pre_AoKernel (m : (ℓ : Loc Cert.AoKernel.nD Cert.AoKernel.τ Cert.AoKernel.sig) → Buf (Elt Bits) ℓ) : Prop :=
  True

def Pre_AoKernelIdeal (m : (ℓ : Loc Cert.AoKernelIdeal.nD Cert.AoKernelIdeal.τ Cert.AoKernelIdeal.sig) → Buf (Elt Ideal) ℓ) : Prop :=
  True

def Pre_AoReferenceIdeal (m : (ℓ : Loc Cert.AoReferenceIdeal.nD Cert.AoReferenceIdeal.τ Cert.AoReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_GwKernel [hGwKernel : Cert.GwKernel.Facts] : Prop :=
  ∀ (m : (ℓ : Loc Cert.GwKernel.nD Cert.GwKernel.τ Cert.GwKernel.sig) → Buf (Elt Bits) ℓ) (g : Dev Cert.GwKernel.nD → PrngReg), Pre_GwKernel m →
    θ_run (Cert.GwKernel.defs (F := Bits)) (onTc (τ := Cert.GwKernel.τ) (Cert.GwKernel.main (F := Bits))) ⟨m, fun _ => 0, g⟩ (fun r => (∀ c : Dev Cert.GwKernel.nD,
      r.2.mem ((c.tc : Thread Cert.GwKernel.nD Cert.GwKernel.τ).loc Cert.GwKernel.main_arg0) = m ((c.tc : Thread Cert.GwKernel.nD Cert.GwKernel.τ).loc Cert.GwKernel.main_arg0)
      ∧ r.2.mem ((c.tc : Thread Cert.GwKernel.nD Cert.GwKernel.τ).loc Cert.GwKernel.main_arg1) = m ((c.tc : Thread Cert.GwKernel.nD Cert.GwKernel.τ).loc Cert.GwKernel.main_arg1))
      ∧ r.2.sem = fun _ => 0)

def quiescent_GwKernelIdeal [hGwKernelIdeal : Cert.GwKernelIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg), Pre_GwKernelIdeal m →
    θ_run (Cert.GwKernelIdeal.defs (F := Ideal)) (onTc (τ := Cert.GwKernelIdeal.τ) (Cert.GwKernelIdeal.main (F := Ideal))) ⟨m, fun _ => 0, g⟩ (fun r => (∀ c : Dev Cert.GwKernelIdeal.nD,
      r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
      ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1))
      ∧ r.2.sem = fun _ => 0)

def quiescent_GwReferenceIdeal [hGwReferenceIdeal : Cert.GwReferenceIdeal.Facts] : Prop :=
  ∀ (m : (ℓ : Loc Cert.GwReferenceIdeal.nD Cert.GwReferenceIdeal.τ Cert.GwReferenceIdeal.sig) → Buf (Elt Ideal) ℓ) (g : Dev Cert.GwReferenceIdeal.nD → PrngReg), Pre_GwReferenceIdeal m →
    θ_run (Cert.GwReferenceIdeal.defs (F := Ideal)) (onTc (τ := Cert.GwReferenceIdeal.τ) (Cert.GwReferenceIdeal.main (F := Ideal))) ⟨m, fun _ => 0, g⟩ (fun r => (∀ c : Dev Cert.GwReferenceIdeal.nD,
      r.2.mem ((c.tc : Thread Cert.GwReferenceIdeal.nD Cert.GwReferenceIdeal.τ).loc Cert.GwReferenceIdeal.main_arg0) = m ((c.tc : Thread Cert.GwReferenceIdeal.nD Cert.GwReferenceIdeal.τ).loc Cert.GwReferenceIdeal.main_arg0)
      ∧ r.2.mem ((c.tc : Thread Cert.GwReferenceIdeal.nD Cert.GwReferenceIdeal.τ).loc Cert.GwReferenceIdeal.main_arg1) = m ((c.tc : Thread Cert.GwReferenceIdeal.nD Cert.GwReferenceIdeal.τ).loc Cert.GwReferenceIdeal.main_arg1))
      ∧ r.2.sem = fun _ => 0)

def quiescent_DyKernel [hDyKernel : Cert.DyKernel.Facts] : Prop :=
  ∀ (m : (ℓ : Loc Cert.DyKernel.nD Cert.DyKernel.τ Cert.DyKernel.sig) → Buf (Elt Bits) ℓ) (g : Dev Cert.DyKernel.nD → PrngReg), Pre_DyKernel m →
    θ_run (Cert.DyKernel.defs (F := Bits)) (onTc (τ := Cert.DyKernel.τ) (Cert.DyKernel.main (F := Bits))) ⟨m, fun _ => 0, g⟩ (fun r => (∀ c : Dev Cert.DyKernel.nD,
      r.2.mem ((c.tc : Thread Cert.DyKernel.nD Cert.DyKernel.τ).loc Cert.DyKernel.main_arg0) = m ((c.tc : Thread Cert.DyKernel.nD Cert.DyKernel.τ).loc Cert.DyKernel.main_arg0)
      ∧ r.2.mem ((c.tc : Thread Cert.DyKernel.nD Cert.DyKernel.τ).loc Cert.DyKernel.main_arg1) = m ((c.tc : Thread Cert.DyKernel.nD Cert.DyKernel.τ).loc Cert.DyKernel.main_arg1))
      ∧ r.2.sem = fun _ => 0)

def quiescent_DyKernelIdeal [hDyKernelIdeal : Cert.DyKernelIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg), Pre_DyKernelIdeal m →
    θ_run (Cert.DyKernelIdeal.defs (F := Ideal)) (onTc (τ := Cert.DyKernelIdeal.τ) (Cert.DyKernelIdeal.main (F := Ideal))) ⟨m, fun _ => 0, g⟩ (fun r => (∀ c : Dev Cert.DyKernelIdeal.nD,
      r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
      ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_GbKernel [hGbKernel : Cert.GbKernel.Facts] : Prop :=
  ∀ (m : (ℓ : Loc Cert.GbKernel.nD Cert.GbKernel.τ Cert.GbKernel.sig) → Buf (Elt Bits) ℓ) (g : Dev Cert.GbKernel.nD → PrngReg), Pre_GbKernel m →
    θ_run (Cert.GbKernel.defs (F := Bits)) (onTc (τ := Cert.GbKernel.τ) (Cert.GbKernel.main (F := Bits))) ⟨m, fun _ => 0, g⟩ (fun r => (∀ c : Dev Cert.GbKernel.nD,
      r.2.mem ((c.tc : Thread Cert.GbKernel.nD Cert.GbKernel.τ).loc Cert.GbKernel.main_arg0) = m ((c.tc : Thread Cert.GbKernel.nD Cert.GbKernel.τ).loc Cert.GbKernel.main_arg0)
      ∧ r.2.mem ((c.tc : Thread Cert.GbKernel.nD Cert.GbKernel.τ).loc Cert.GbKernel.main_arg1) = m ((c.tc : Thread Cert.GbKernel.nD Cert.GbKernel.τ).loc Cert.GbKernel.main_arg1))
      ∧ r.2.sem = fun _ => 0)

def quiescent_GbKernelIdeal [hGbKernelIdeal : Cert.GbKernelIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg), Pre_GbKernelIdeal m →
    θ_run (Cert.GbKernelIdeal.defs (F := Ideal)) (onTc (τ := Cert.GbKernelIdeal.τ) (Cert.GbKernelIdeal.main (F := Ideal))) ⟨m, fun _ => 0, g⟩ (fun r => (∀ c : Dev Cert.GbKernelIdeal.nD,
      r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
      ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1))
      ∧ r.2.sem = fun _ => 0)

def quiescent_GbReferenceIdeal [hGbReferenceIdeal : Cert.GbReferenceIdeal.Facts] : Prop :=
  ∀ (m : (ℓ : Loc Cert.GbReferenceIdeal.nD Cert.GbReferenceIdeal.τ Cert.GbReferenceIdeal.sig) → Buf (Elt Ideal) ℓ) (g : Dev Cert.GbReferenceIdeal.nD → PrngReg), Pre_GbReferenceIdeal m →
    θ_run (Cert.GbReferenceIdeal.defs (F := Ideal)) (onTc (τ := Cert.GbReferenceIdeal.τ) (Cert.GbReferenceIdeal.main (F := Ideal))) ⟨m, fun _ => 0, g⟩ (fun r => (∀ c : Dev Cert.GbReferenceIdeal.nD,
      r.2.mem ((c.tc : Thread Cert.GbReferenceIdeal.nD Cert.GbReferenceIdeal.τ).loc Cert.GbReferenceIdeal.main_arg0) = m ((c.tc : Thread Cert.GbReferenceIdeal.nD Cert.GbReferenceIdeal.τ).loc Cert.GbReferenceIdeal.main_arg0)
      ∧ r.2.mem ((c.tc : Thread Cert.GbReferenceIdeal.nD Cert.GbReferenceIdeal.τ).loc Cert.GbReferenceIdeal.main_arg1) = m ((c.tc : Thread Cert.GbReferenceIdeal.nD Cert.GbReferenceIdeal.τ).loc Cert.GbReferenceIdeal.main_arg1))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_H1Kernel [hH1Kernel : Cert.H1Kernel.Facts] : Prop :=
  ∀ (m : (ℓ : Loc Cert.H1Kernel.nD Cert.H1Kernel.τ Cert.H1Kernel.sig) → Buf (Elt Bits) ℓ) (g : Dev Cert.H1Kernel.nD → PrngReg), Pre_H1Kernel m →
    θ_run (Cert.H1Kernel.defs (F := Bits)) (onTc (τ := Cert.H1Kernel.τ) (Cert.H1Kernel.main (F := Bits))) ⟨m, fun _ => 0, g⟩ (fun r => (∀ c : Dev Cert.H1Kernel.nD,
      r.2.mem ((c.tc : Thread Cert.H1Kernel.nD Cert.H1Kernel.τ).loc Cert.H1Kernel.main_arg0) = m ((c.tc : Thread Cert.H1Kernel.nD Cert.H1Kernel.τ).loc Cert.H1Kernel.main_arg0)
      ∧ r.2.mem ((c.tc : Thread Cert.H1Kernel.nD Cert.H1Kernel.τ).loc Cert.H1Kernel.main_arg1) = m ((c.tc : Thread Cert.H1Kernel.nD Cert.H1Kernel.τ).loc Cert.H1Kernel.main_arg1))
      ∧ r.2.sem = fun _ => 0)

def quiescent_H1KernelIdeal [hH1KernelIdeal : Cert.H1KernelIdeal.Facts] : Prop :=
  ∀ (m : (ℓ : Loc Cert.H1KernelIdeal.nD Cert.H1KernelIdeal.τ Cert.H1KernelIdeal.sig) → Buf (Elt Ideal) ℓ) (g : Dev Cert.H1KernelIdeal.nD → PrngReg), Pre_H1KernelIdeal m →
    θ_run (Cert.H1KernelIdeal.defs (F := Ideal)) (onTc (τ := Cert.H1KernelIdeal.τ) (Cert.H1KernelIdeal.main (F := Ideal))) ⟨m, fun _ => 0, g⟩ (fun r => (∀ c : Dev Cert.H1KernelIdeal.nD,
      r.2.mem ((c.tc : Thread Cert.H1KernelIdeal.nD Cert.H1KernelIdeal.τ).loc Cert.H1KernelIdeal.main_arg0) = m ((c.tc : Thread Cert.H1KernelIdeal.nD Cert.H1KernelIdeal.τ).loc Cert.H1KernelIdeal.main_arg0)
      ∧ r.2.mem ((c.tc : Thread Cert.H1KernelIdeal.nD Cert.H1KernelIdeal.τ).loc Cert.H1KernelIdeal.main_arg1) = m ((c.tc : Thread Cert.H1KernelIdeal.nD Cert.H1KernelIdeal.τ).loc Cert.H1KernelIdeal.main_arg1))
      ∧ r.2.sem = fun _ => 0)

def quiescent_H1ReferenceIdeal [hH1ReferenceIdeal : Cert.H1ReferenceIdeal.Facts] : Prop :=
  ∀ (m : (ℓ : Loc Cert.H1ReferenceIdeal.nD Cert.H1ReferenceIdeal.τ Cert.H1ReferenceIdeal.sig) → Buf (Elt Ideal) ℓ) (g : Dev Cert.H1ReferenceIdeal.nD → PrngReg), Pre_H1ReferenceIdeal m →
    θ_run (Cert.H1ReferenceIdeal.defs (F := Ideal)) (onTc (τ := Cert.H1ReferenceIdeal.τ) (Cert.H1ReferenceIdeal.main (F := Ideal))) ⟨m, fun _ => 0, g⟩ (fun r => (∀ c : Dev Cert.H1ReferenceIdeal.nD,
      r.2.mem ((c.tc : Thread Cert.H1ReferenceIdeal.nD Cert.H1ReferenceIdeal.τ).loc Cert.H1ReferenceIdeal.main_arg0) = m ((c.tc : Thread Cert.H1ReferenceIdeal.nD Cert.H1ReferenceIdeal.τ).loc Cert.H1ReferenceIdeal.main_arg0)
      ∧ r.2.mem ((c.tc : Thread Cert.H1ReferenceIdeal.nD Cert.H1ReferenceIdeal.τ).loc Cert.H1ReferenceIdeal.main_arg1) = m ((c.tc : Thread Cert.H1ReferenceIdeal.nD Cert.H1ReferenceIdeal.τ).loc Cert.H1ReferenceIdeal.main_arg1))
      ∧ r.2.sem = fun _ => 0)

def quiescent_DyxKernel [hDyxKernel : Cert.DyxKernel.Facts] : Prop :=
  ∀ (m : (ℓ : Loc Cert.DyxKernel.nD Cert.DyxKernel.τ Cert.DyxKernel.sig) → Buf (Elt Bits) ℓ) (g : Dev Cert.DyxKernel.nD → PrngReg), Pre_DyxKernel m →
    θ_run (Cert.DyxKernel.defs (F := Bits)) (onTc (τ := Cert.DyxKernel.τ) (Cert.DyxKernel.main (F := Bits))) ⟨m, fun _ => 0, g⟩ (fun r => (∀ c : Dev Cert.DyxKernel.nD,
      r.2.mem ((c.tc : Thread Cert.DyxKernel.nD Cert.DyxKernel.τ).loc Cert.DyxKernel.main_arg0) = m ((c.tc : Thread Cert.DyxKernel.nD Cert.DyxKernel.τ).loc Cert.DyxKernel.main_arg0)
      ∧ r.2.mem ((c.tc : Thread Cert.DyxKernel.nD Cert.DyxKernel.τ).loc Cert.DyxKernel.main_arg1) = m ((c.tc : Thread Cert.DyxKernel.nD Cert.DyxKernel.τ).loc Cert.DyxKernel.main_arg1))
      ∧ r.2.sem = fun _ => 0)

def quiescent_DyxKernelIdeal [hDyxKernelIdeal : Cert.DyxKernelIdeal.Facts] : Prop :=
  ∀ (m : (ℓ : Loc Cert.DyxKernelIdeal.nD Cert.DyxKernelIdeal.τ Cert.DyxKernelIdeal.sig) → Buf (Elt Ideal) ℓ) (g : Dev Cert.DyxKernelIdeal.nD → PrngReg), Pre_DyxKernelIdeal m →
    θ_run (Cert.DyxKernelIdeal.defs (F := Ideal)) (onTc (τ := Cert.DyxKernelIdeal.τ) (Cert.DyxKernelIdeal.main (F := Ideal))) ⟨m, fun _ => 0, g⟩ (fun r => (∀ c : Dev Cert.DyxKernelIdeal.nD,
      r.2.mem ((c.tc : Thread Cert.DyxKernelIdeal.nD Cert.DyxKernelIdeal.τ).loc Cert.DyxKernelIdeal.main_arg0) = m ((c.tc : Thread Cert.DyxKernelIdeal.nD Cert.DyxKernelIdeal.τ).loc Cert.DyxKernelIdeal.main_arg0)
      ∧ r.2.mem ((c.tc : Thread Cert.DyxKernelIdeal.nD Cert.DyxKernelIdeal.τ).loc Cert.DyxKernelIdeal.main_arg1) = m ((c.tc : Thread Cert.DyxKernelIdeal.nD Cert.DyxKernelIdeal.τ).loc Cert.DyxKernelIdeal.main_arg1))
      ∧ r.2.sem = fun _ => 0)

def quiescent_DyxReferenceIdeal [hDyxReferenceIdeal : Cert.DyxReferenceIdeal.Facts] : Prop :=
  ∀ (m : (ℓ : Loc Cert.DyxReferenceIdeal.nD Cert.DyxReferenceIdeal.τ Cert.DyxReferenceIdeal.sig) → Buf (Elt Ideal) ℓ) (g : Dev Cert.DyxReferenceIdeal.nD → PrngReg), Pre_DyxReferenceIdeal m →
    θ_run (Cert.DyxReferenceIdeal.defs (F := Ideal)) (onTc (τ := Cert.DyxReferenceIdeal.τ) (Cert.DyxReferenceIdeal.main (F := Ideal))) ⟨m, fun _ => 0, g⟩ (fun r => (∀ c : Dev Cert.DyxReferenceIdeal.nD,
      r.2.mem ((c.tc : Thread Cert.DyxReferenceIdeal.nD Cert.DyxReferenceIdeal.τ).loc Cert.DyxReferenceIdeal.main_arg0) = m ((c.tc : Thread Cert.DyxReferenceIdeal.nD Cert.DyxReferenceIdeal.τ).loc Cert.DyxReferenceIdeal.main_arg0)
      ∧ r.2.mem ((c.tc : Thread Cert.DyxReferenceIdeal.nD Cert.DyxReferenceIdeal.τ).loc Cert.DyxReferenceIdeal.main_arg1) = m ((c.tc : Thread Cert.DyxReferenceIdeal.nD Cert.DyxReferenceIdeal.τ).loc Cert.DyxReferenceIdeal.main_arg1))
      ∧ r.2.sem = fun _ => 0)

def quiescent_GoKernel [hGoKernel : Cert.GoKernel.Facts] : Prop :=
  ∀ (m : (ℓ : Loc Cert.GoKernel.nD Cert.GoKernel.τ Cert.GoKernel.sig) → Buf (Elt Bits) ℓ) (g : Dev Cert.GoKernel.nD → PrngReg), Pre_GoKernel m →
    θ_run (Cert.GoKernel.defs (F := Bits)) (onTc (τ := Cert.GoKernel.τ) (Cert.GoKernel.main (F := Bits))) ⟨m, fun _ => 0, g⟩ (fun r => (∀ c : Dev Cert.GoKernel.nD,
      r.2.mem ((c.tc : Thread Cert.GoKernel.nD Cert.GoKernel.τ).loc Cert.GoKernel.main_arg0) = m ((c.tc : Thread Cert.GoKernel.nD Cert.GoKernel.τ).loc Cert.GoKernel.main_arg0)
      ∧ r.2.mem ((c.tc : Thread Cert.GoKernel.nD Cert.GoKernel.τ).loc Cert.GoKernel.main_arg1) = m ((c.tc : Thread Cert.GoKernel.nD Cert.GoKernel.τ).loc Cert.GoKernel.main_arg1))
      ∧ r.2.sem = fun _ => 0)

def quiescent_GoKernelIdeal [hGoKernelIdeal : Cert.GoKernelIdeal.Facts] : Prop :=
  ∀ (m : (ℓ : Loc Cert.GoKernelIdeal.nD Cert.GoKernelIdeal.τ Cert.GoKernelIdeal.sig) → Buf (Elt Ideal) ℓ) (g : Dev Cert.GoKernelIdeal.nD → PrngReg), Pre_GoKernelIdeal m →
    θ_run (Cert.GoKernelIdeal.defs (F := Ideal)) (onTc (τ := Cert.GoKernelIdeal.τ) (Cert.GoKernelIdeal.main (F := Ideal))) ⟨m, fun _ => 0, g⟩ (fun r => (∀ c : Dev Cert.GoKernelIdeal.nD,
      r.2.mem ((c.tc : Thread Cert.GoKernelIdeal.nD Cert.GoKernelIdeal.τ).loc Cert.GoKernelIdeal.main_arg0) = m ((c.tc : Thread Cert.GoKernelIdeal.nD Cert.GoKernelIdeal.τ).loc Cert.GoKernelIdeal.main_arg0)
      ∧ r.2.mem ((c.tc : Thread Cert.GoKernelIdeal.nD Cert.GoKernelIdeal.τ).loc Cert.GoKernelIdeal.main_arg1) = m ((c.tc : Thread Cert.GoKernelIdeal.nD Cert.GoKernelIdeal.τ).loc Cert.GoKernelIdeal.main_arg1))
      ∧ r.2.sem = fun _ => 0)

def quiescent_GoReferenceIdeal [hGoReferenceIdeal : Cert.GoReferenceIdeal.Facts] : Prop :=
  ∀ (m : (ℓ : Loc Cert.GoReferenceIdeal.nD Cert.GoReferenceIdeal.τ Cert.GoReferenceIdeal.sig) → Buf (Elt Ideal) ℓ) (g : Dev Cert.GoReferenceIdeal.nD → PrngReg), Pre_GoReferenceIdeal m →
    θ_run (Cert.GoReferenceIdeal.defs (F := Ideal)) (onTc (τ := Cert.GoReferenceIdeal.τ) (Cert.GoReferenceIdeal.main (F := Ideal))) ⟨m, fun _ => 0, g⟩ (fun r => (∀ c : Dev Cert.GoReferenceIdeal.nD,
      r.2.mem ((c.tc : Thread Cert.GoReferenceIdeal.nD Cert.GoReferenceIdeal.τ).loc Cert.GoReferenceIdeal.main_arg0) = m ((c.tc : Thread Cert.GoReferenceIdeal.nD Cert.GoReferenceIdeal.τ).loc Cert.GoReferenceIdeal.main_arg0)
      ∧ r.2.mem ((c.tc : Thread Cert.GoReferenceIdeal.nD Cert.GoReferenceIdeal.τ).loc Cert.GoReferenceIdeal.main_arg1) = m ((c.tc : Thread Cert.GoReferenceIdeal.nD Cert.GoReferenceIdeal.τ).loc Cert.GoReferenceIdeal.main_arg1))
      ∧ r.2.sem = fun _ => 0)

def quiescent_X1Kernel [hX1Kernel : Cert.X1Kernel.Facts] : Prop :=
  ∀ (m : (ℓ : Loc Cert.X1Kernel.nD Cert.X1Kernel.τ Cert.X1Kernel.sig) → Buf (Elt Bits) ℓ) (g : Dev Cert.X1Kernel.nD → PrngReg), Pre_X1Kernel m →
    θ_run (Cert.X1Kernel.defs (F := Bits)) (onTc (τ := Cert.X1Kernel.τ) (Cert.X1Kernel.main (F := Bits))) ⟨m, fun _ => 0, g⟩ (fun r => (∀ c : Dev Cert.X1Kernel.nD,
      r.2.mem ((c.tc : Thread Cert.X1Kernel.nD Cert.X1Kernel.τ).loc Cert.X1Kernel.main_arg0) = m ((c.tc : Thread Cert.X1Kernel.nD Cert.X1Kernel.τ).loc Cert.X1Kernel.main_arg0)
      ∧ r.2.mem ((c.tc : Thread Cert.X1Kernel.nD Cert.X1Kernel.τ).loc Cert.X1Kernel.main_arg1) = m ((c.tc : Thread Cert.X1Kernel.nD Cert.X1Kernel.τ).loc Cert.X1Kernel.main_arg1)
      ∧ r.2.mem ((c.tc : Thread Cert.X1Kernel.nD Cert.X1Kernel.τ).loc Cert.X1Kernel.main_arg2) = m ((c.tc : Thread Cert.X1Kernel.nD Cert.X1Kernel.τ).loc Cert.X1Kernel.main_arg2))
      ∧ r.2.sem = fun _ => 0)

def quiescent_X1KernelIdeal [hX1KernelIdeal : Cert.X1KernelIdeal.Facts] : Prop :=
  ∀ (m : (ℓ : Loc Cert.X1KernelIdeal.nD Cert.X1KernelIdeal.τ Cert.X1KernelIdeal.sig) → Buf (Elt Ideal) ℓ) (g : Dev Cert.X1KernelIdeal.nD → PrngReg), Pre_X1KernelIdeal m →
    θ_run (Cert.X1KernelIdeal.defs (F := Ideal)) (onTc (τ := Cert.X1KernelIdeal.τ) (Cert.X1KernelIdeal.main (F := Ideal))) ⟨m, fun _ => 0, g⟩ (fun r => (∀ c : Dev Cert.X1KernelIdeal.nD,
      r.2.mem ((c.tc : Thread Cert.X1KernelIdeal.nD Cert.X1KernelIdeal.τ).loc Cert.X1KernelIdeal.main_arg0) = m ((c.tc : Thread Cert.X1KernelIdeal.nD Cert.X1KernelIdeal.τ).loc Cert.X1KernelIdeal.main_arg0)
      ∧ r.2.mem ((c.tc : Thread Cert.X1KernelIdeal.nD Cert.X1KernelIdeal.τ).loc Cert.X1KernelIdeal.main_arg1) = m ((c.tc : Thread Cert.X1KernelIdeal.nD Cert.X1KernelIdeal.τ).loc Cert.X1KernelIdeal.main_arg1)
      ∧ r.2.mem ((c.tc : Thread Cert.X1KernelIdeal.nD Cert.X1KernelIdeal.τ).loc Cert.X1KernelIdeal.main_arg2) = m ((c.tc : Thread Cert.X1KernelIdeal.nD Cert.X1KernelIdeal.τ).loc Cert.X1KernelIdeal.main_arg2))
      ∧ r.2.sem = fun _ => 0)

def quiescent_X1ReferenceIdeal [hX1ReferenceIdeal : Cert.X1ReferenceIdeal.Facts] : Prop :=
  ∀ (m : (ℓ : Loc Cert.X1ReferenceIdeal.nD Cert.X1ReferenceIdeal.τ Cert.X1ReferenceIdeal.sig) → Buf (Elt Ideal) ℓ) (g : Dev Cert.X1ReferenceIdeal.nD → PrngReg), Pre_X1ReferenceIdeal m →
    θ_run (Cert.X1ReferenceIdeal.defs (F := Ideal)) (onTc (τ := Cert.X1ReferenceIdeal.τ) (Cert.X1ReferenceIdeal.main (F := Ideal))) ⟨m, fun _ => 0, g⟩ (fun r => (∀ c : Dev Cert.X1ReferenceIdeal.nD,
      r.2.mem ((c.tc : Thread Cert.X1ReferenceIdeal.nD Cert.X1ReferenceIdeal.τ).loc Cert.X1ReferenceIdeal.main_arg0) = m ((c.tc : Thread Cert.X1ReferenceIdeal.nD Cert.X1ReferenceIdeal.τ).loc Cert.X1ReferenceIdeal.main_arg0)
      ∧ r.2.mem ((c.tc : Thread Cert.X1ReferenceIdeal.nD Cert.X1ReferenceIdeal.τ).loc Cert.X1ReferenceIdeal.main_arg1) = m ((c.tc : Thread Cert.X1ReferenceIdeal.nD Cert.X1ReferenceIdeal.τ).loc Cert.X1ReferenceIdeal.main_arg1)
      ∧ r.2.mem ((c.tc : Thread Cert.X1ReferenceIdeal.nD Cert.X1ReferenceIdeal.τ).loc Cert.X1ReferenceIdeal.main_arg2) = m ((c.tc : Thread Cert.X1ReferenceIdeal.nD Cert.X1ReferenceIdeal.τ).loc Cert.X1ReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_XfKernel [hXfKernel : Cert.XfKernel.Facts] : Prop :=
  ∀ (m : (ℓ : Loc Cert.XfKernel.nD Cert.XfKernel.τ Cert.XfKernel.sig) → Buf (Elt Bits) ℓ) (g : Dev Cert.XfKernel.nD → PrngReg), Pre_XfKernel m →
    θ_run (Cert.XfKernel.defs (F := Bits)) (onTc (τ := Cert.XfKernel.τ) (Cert.XfKernel.main (F := Bits))) ⟨m, fun _ => 0, g⟩ (fun r => (∀ c : Dev Cert.XfKernel.nD,
      r.2.mem ((c.tc : Thread Cert.XfKernel.nD Cert.XfKernel.τ).loc Cert.XfKernel.main_arg0) = m ((c.tc : Thread Cert.XfKernel.nD Cert.XfKernel.τ).loc Cert.XfKernel.main_arg0)
      ∧ r.2.mem ((c.tc : Thread Cert.XfKernel.nD Cert.XfKernel.τ).loc Cert.XfKernel.main_arg1) = m ((c.tc : Thread Cert.XfKernel.nD Cert.XfKernel.τ).loc Cert.XfKernel.main_arg1)
      ∧ r.2.mem ((c.tc : Thread Cert.XfKernel.nD Cert.XfKernel.τ).loc Cert.XfKernel.main_arg2) = m ((c.tc : Thread Cert.XfKernel.nD Cert.XfKernel.τ).loc Cert.XfKernel.main_arg2)
      ∧ r.2.mem ((c.tc : Thread Cert.XfKernel.nD Cert.XfKernel.τ).loc Cert.XfKernel.main_arg3) = m ((c.tc : Thread Cert.XfKernel.nD Cert.XfKernel.τ).loc Cert.XfKernel.main_arg3))
      ∧ r.2.sem = fun _ => 0)

def quiescent_XfKernelIdeal [hXfKernelIdeal : Cert.XfKernelIdeal.Facts] : Prop :=
  ∀ (m : (ℓ : Loc Cert.XfKernelIdeal.nD Cert.XfKernelIdeal.τ Cert.XfKernelIdeal.sig) → Buf (Elt Ideal) ℓ) (g : Dev Cert.XfKernelIdeal.nD → PrngReg), Pre_XfKernelIdeal m →
    θ_run (Cert.XfKernelIdeal.defs (F := Ideal)) (onTc (τ := Cert.XfKernelIdeal.τ) (Cert.XfKernelIdeal.main (F := Ideal))) ⟨m, fun _ => 0, g⟩ (fun r => (∀ c : Dev Cert.XfKernelIdeal.nD,
      r.2.mem ((c.tc : Thread Cert.XfKernelIdeal.nD Cert.XfKernelIdeal.τ).loc Cert.XfKernelIdeal.main_arg0) = m ((c.tc : Thread Cert.XfKernelIdeal.nD Cert.XfKernelIdeal.τ).loc Cert.XfKernelIdeal.main_arg0)
      ∧ r.2.mem ((c.tc : Thread Cert.XfKernelIdeal.nD Cert.XfKernelIdeal.τ).loc Cert.XfKernelIdeal.main_arg1) = m ((c.tc : Thread Cert.XfKernelIdeal.nD Cert.XfKernelIdeal.τ).loc Cert.XfKernelIdeal.main_arg1)
      ∧ r.2.mem ((c.tc : Thread Cert.XfKernelIdeal.nD Cert.XfKernelIdeal.τ).loc Cert.XfKernelIdeal.main_arg2) = m ((c.tc : Thread Cert.XfKernelIdeal.nD Cert.XfKernelIdeal.τ).loc Cert.XfKernelIdeal.main_arg2)
      ∧ r.2.mem ((c.tc : Thread Cert.XfKernelIdeal.nD Cert.XfKernelIdeal.τ).loc Cert.XfKernelIdeal.main_arg3) = m ((c.tc : Thread Cert.XfKernelIdeal.nD Cert.XfKernelIdeal.τ).loc Cert.XfKernelIdeal.main_arg3))
      ∧ r.2.sem = fun _ => 0)

def quiescent_XfReferenceIdeal [hXfReferenceIdeal : Cert.XfReferenceIdeal.Facts] : Prop :=
  ∀ (m : (ℓ : Loc Cert.XfReferenceIdeal.nD Cert.XfReferenceIdeal.τ Cert.XfReferenceIdeal.sig) → Buf (Elt Ideal) ℓ) (g : Dev Cert.XfReferenceIdeal.nD → PrngReg), Pre_XfReferenceIdeal m →
    θ_run (Cert.XfReferenceIdeal.defs (F := Ideal)) (onTc (τ := Cert.XfReferenceIdeal.τ) (Cert.XfReferenceIdeal.main (F := Ideal))) ⟨m, fun _ => 0, g⟩ (fun r => (∀ c : Dev Cert.XfReferenceIdeal.nD,
      r.2.mem ((c.tc : Thread Cert.XfReferenceIdeal.nD Cert.XfReferenceIdeal.τ).loc Cert.XfReferenceIdeal.main_arg0) = m ((c.tc : Thread Cert.XfReferenceIdeal.nD Cert.XfReferenceIdeal.τ).loc Cert.XfReferenceIdeal.main_arg0)
      ∧ r.2.mem ((c.tc : Thread Cert.XfReferenceIdeal.nD Cert.XfReferenceIdeal.τ).loc Cert.XfReferenceIdeal.main_arg1) = m ((c.tc : Thread Cert.XfReferenceIdeal.nD Cert.XfReferenceIdeal.τ).loc Cert.XfReferenceIdeal.main_arg1)
      ∧ r.2.mem ((c.tc : Thread Cert.XfReferenceIdeal.nD Cert.XfReferenceIdeal.τ).loc Cert.XfReferenceIdeal.main_arg2) = m ((c.tc : Thread Cert.XfReferenceIdeal.nD Cert.XfReferenceIdeal.τ).loc Cert.XfReferenceIdeal.main_arg2)
      ∧ r.2.mem ((c.tc : Thread Cert.XfReferenceIdeal.nD Cert.XfReferenceIdeal.τ).loc Cert.XfReferenceIdeal.main_arg3) = m ((c.tc : Thread Cert.XfReferenceIdeal.nD Cert.XfReferenceIdeal.τ).loc Cert.XfReferenceIdeal.main_arg3))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_GkvKernel [hGkvKernel : Cert.GkvKernel.Facts] : Prop :=
  ∀ (m : (ℓ : Loc Cert.GkvKernel.nD Cert.GkvKernel.τ Cert.GkvKernel.sig) → Buf (Elt Bits) ℓ) (g : Dev Cert.GkvKernel.nD → PrngReg), Pre_GkvKernel m →
    θ_run (Cert.GkvKernel.defs (F := Bits)) (onTc (τ := Cert.GkvKernel.τ) (Cert.GkvKernel.main (F := Bits))) ⟨m, fun _ => 0, g⟩ (fun r => (∀ c : Dev Cert.GkvKernel.nD,
      r.2.mem ((c.tc : Thread Cert.GkvKernel.nD Cert.GkvKernel.τ).loc Cert.GkvKernel.main_arg0) = m ((c.tc : Thread Cert.GkvKernel.nD Cert.GkvKernel.τ).loc Cert.GkvKernel.main_arg0)
      ∧ r.2.mem ((c.tc : Thread Cert.GkvKernel.nD Cert.GkvKernel.τ).loc Cert.GkvKernel.main_arg1) = m ((c.tc : Thread Cert.GkvKernel.nD Cert.GkvKernel.τ).loc Cert.GkvKernel.main_arg1))
      ∧ r.2.sem = fun _ => 0)

def quiescent_GkvKernelIdeal [hGkvKernelIdeal : Cert.GkvKernelIdeal.Facts] : Prop :=
  ∀ (m : (ℓ : Loc Cert.GkvKernelIdeal.nD Cert.GkvKernelIdeal.τ Cert.GkvKernelIdeal.sig) → Buf (Elt Ideal) ℓ) (g : Dev Cert.GkvKernelIdeal.nD → PrngReg), Pre_GkvKernelIdeal m →
    θ_run (Cert.GkvKernelIdeal.defs (F := Ideal)) (onTc (τ := Cert.GkvKernelIdeal.τ) (Cert.GkvKernelIdeal.main (F := Ideal))) ⟨m, fun _ => 0, g⟩ (fun r => (∀ c : Dev Cert.GkvKernelIdeal.nD,
      r.2.mem ((c.tc : Thread Cert.GkvKernelIdeal.nD Cert.GkvKernelIdeal.τ).loc Cert.GkvKernelIdeal.main_arg0) = m ((c.tc : Thread Cert.GkvKernelIdeal.nD Cert.GkvKernelIdeal.τ).loc Cert.GkvKernelIdeal.main_arg0)
      ∧ r.2.mem ((c.tc : Thread Cert.GkvKernelIdeal.nD Cert.GkvKernelIdeal.τ).loc Cert.GkvKernelIdeal.main_arg1) = m ((c.tc : Thread Cert.GkvKernelIdeal.nD Cert.GkvKernelIdeal.τ).loc Cert.GkvKernelIdeal.main_arg1))
      ∧ r.2.sem = fun _ => 0)

def quiescent_GkvReferenceIdeal [hGkvReferenceIdeal : Cert.GkvReferenceIdeal.Facts] : Prop :=
  ∀ (m : (ℓ : Loc Cert.GkvReferenceIdeal.nD Cert.GkvReferenceIdeal.τ Cert.GkvReferenceIdeal.sig) → Buf (Elt Ideal) ℓ) (g : Dev Cert.GkvReferenceIdeal.nD → PrngReg), Pre_GkvReferenceIdeal m →
    θ_run (Cert.GkvReferenceIdeal.defs (F := Ideal)) (onTc (τ := Cert.GkvReferenceIdeal.τ) (Cert.GkvReferenceIdeal.main (F := Ideal))) ⟨m, fun _ => 0, g⟩ (fun r => (∀ c : Dev Cert.GkvReferenceIdeal.nD,
      r.2.mem ((c.tc : Thread Cert.GkvReferenceIdeal.nD Cert.GkvReferenceIdeal.τ).loc Cert.GkvReferenceIdeal.main_arg0) = m ((c.tc : Thread Cert.GkvReferenceIdeal.nD Cert.GkvReferenceIdeal.τ).loc Cert.GkvReferenceIdeal.main_arg0)
      ∧ r.2.mem ((c.tc : Thread Cert.GkvReferenceIdeal.nD Cert.GkvReferenceIdeal.τ).loc Cert.GkvReferenceIdeal.main_arg1) = m ((c.tc : Thread Cert.GkvReferenceIdeal.nD Cert.GkvReferenceIdeal.τ).loc Cert.GkvReferenceIdeal.main_arg1))
      ∧ r.2.sem = fun _ => 0)

def quiescent_DmKernel [hDmKernel : Cert.DmKernel.Facts] : Prop :=
  ∀ (m : (ℓ : Loc Cert.DmKernel.nD Cert.DmKernel.τ Cert.DmKernel.sig) → Buf (Elt Bits) ℓ) (g : Dev Cert.DmKernel.nD → PrngReg), Pre_DmKernel m →
    θ_run (Cert.DmKernel.defs (F := Bits)) (onTc (τ := Cert.DmKernel.τ) (Cert.DmKernel.main (F := Bits))) ⟨m, fun _ => 0, g⟩ (fun r => (∀ c : Dev Cert.DmKernel.nD,
      r.2.mem ((c.tc : Thread Cert.DmKernel.nD Cert.DmKernel.τ).loc Cert.DmKernel.main_arg0) = m ((c.tc : Thread Cert.DmKernel.nD Cert.DmKernel.τ).loc Cert.DmKernel.main_arg0)
      ∧ r.2.mem ((c.tc : Thread Cert.DmKernel.nD Cert.DmKernel.τ).loc Cert.DmKernel.main_arg1) = m ((c.tc : Thread Cert.DmKernel.nD Cert.DmKernel.τ).loc Cert.DmKernel.main_arg1))
      ∧ r.2.sem = fun _ => 0)

def quiescent_DmKernelIdeal [hDmKernelIdeal : Cert.DmKernelIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg), Pre_DmKernelIdeal m →
    θ_run (Cert.DmKernelIdeal.defs (F := Ideal)) (onTc (τ := Cert.DmKernelIdeal.τ) (Cert.DmKernelIdeal.main (F := Ideal))) ⟨m, fun _ => 0, g⟩ (fun r => (∀ c : Dev Cert.DmKernelIdeal.nD,
      r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
      ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ r.2.sem = fun _ => 0)

def quiescent_DmReferenceIdeal [hDmReferenceIdeal : Cert.DmReferenceIdeal.Facts] : Prop :=
  ∀ (m : (ℓ : Loc Cert.DmReferenceIdeal.nD Cert.DmReferenceIdeal.τ Cert.DmReferenceIdeal.sig) → Buf (Elt Ideal) ℓ) (g : Dev Cert.DmReferenceIdeal.nD → PrngReg), Pre_DmReferenceIdeal m →
    θ_run (Cert.DmReferenceIdeal.defs (F := Ideal)) (onTc (τ := Cert.DmReferenceIdeal.τ) (Cert.DmReferenceIdeal.main (F := Ideal))) ⟨m, fun _ => 0, g⟩ (fun r => (∀ c : Dev Cert.DmReferenceIdeal.nD,
      r.2.mem ((c.tc : Thread Cert.DmReferenceIdeal.nD Cert.DmReferenceIdeal.τ).loc Cert.DmReferenceIdeal.main_arg0) = m ((c.tc : Thread Cert.DmReferenceIdeal.nD Cert.DmReferenceIdeal.τ).loc Cert.DmReferenceIdeal.main_arg0)
      ∧ r.2.mem ((c.tc : Thread Cert.DmReferenceIdeal.nD Cert.DmReferenceIdeal.τ).loc Cert.DmReferenceIdeal.main_arg1) = m ((c.tc : Thread Cert.DmReferenceIdeal.nD Cert.DmReferenceIdeal.τ).loc Cert.DmReferenceIdeal.main_arg1))
      ∧ r.2.sem = fun _ => 0)

def quiescent_ZffKernel [hZffKernel : Cert.ZffKernel.Facts] : Prop :=
  ∀ (m : (ℓ : Loc Cert.ZffKernel.nD Cert.ZffKernel.τ Cert.ZffKernel.sig) → Buf (Elt Bits) ℓ) (g : Dev Cert.ZffKernel.nD → PrngReg), Pre_ZffKernel m →
    θ_run (Cert.ZffKernel.defs (F := Bits)) (onTc (τ := Cert.ZffKernel.τ) (Cert.ZffKernel.main (F := Bits))) ⟨m, fun _ => 0, g⟩ (fun r => (∀ c : Dev Cert.ZffKernel.nD,
      r.2.mem ((c.tc : Thread Cert.ZffKernel.nD Cert.ZffKernel.τ).loc Cert.ZffKernel.main_arg0) = m ((c.tc : Thread Cert.ZffKernel.nD Cert.ZffKernel.τ).loc Cert.ZffKernel.main_arg0)
      ∧ r.2.mem ((c.tc : Thread Cert.ZffKernel.nD Cert.ZffKernel.τ).loc Cert.ZffKernel.main_arg1) = m ((c.tc : Thread Cert.ZffKernel.nD Cert.ZffKernel.τ).loc Cert.ZffKernel.main_arg1))
      ∧ r.2.sem = fun _ => 0)

def quiescent_ZffKernelIdeal [hZffKernelIdeal : Cert.ZffKernelIdeal.Facts] : Prop :=
  ∀ (m : (ℓ : Loc Cert.ZffKernelIdeal.nD Cert.ZffKernelIdeal.τ Cert.ZffKernelIdeal.sig) → Buf (Elt Ideal) ℓ) (g : Dev Cert.ZffKernelIdeal.nD → PrngReg), Pre_ZffKernelIdeal m →
    θ_run (Cert.ZffKernelIdeal.defs (F := Ideal)) (onTc (τ := Cert.ZffKernelIdeal.τ) (Cert.ZffKernelIdeal.main (F := Ideal))) ⟨m, fun _ => 0, g⟩ (fun r => (∀ c : Dev Cert.ZffKernelIdeal.nD,
      r.2.mem ((c.tc : Thread Cert.ZffKernelIdeal.nD Cert.ZffKernelIdeal.τ).loc Cert.ZffKernelIdeal.main_arg0) = m ((c.tc : Thread Cert.ZffKernelIdeal.nD Cert.ZffKernelIdeal.τ).loc Cert.ZffKernelIdeal.main_arg0)
      ∧ r.2.mem ((c.tc : Thread Cert.ZffKernelIdeal.nD Cert.ZffKernelIdeal.τ).loc Cert.ZffKernelIdeal.main_arg1) = m ((c.tc : Thread Cert.ZffKernelIdeal.nD Cert.ZffKernelIdeal.τ).loc Cert.ZffKernelIdeal.main_arg1))
      ∧ r.2.sem = fun _ => 0)

def quiescent_ZffReferenceIdeal [hZffReferenceIdeal : Cert.ZffReferenceIdeal.Facts] : Prop :=
  ∀ (m : (ℓ : Loc Cert.ZffReferenceIdeal.nD Cert.ZffReferenceIdeal.τ Cert.ZffReferenceIdeal.sig) → Buf (Elt Ideal) ℓ) (g : Dev Cert.ZffReferenceIdeal.nD → PrngReg), Pre_ZffReferenceIdeal m →
    θ_run (Cert.ZffReferenceIdeal.defs (F := Ideal)) (onTc (τ := Cert.ZffReferenceIdeal.τ) (Cert.ZffReferenceIdeal.main (F := Ideal))) ⟨m, fun _ => 0, g⟩ (fun r => (∀ c : Dev Cert.ZffReferenceIdeal.nD,
      r.2.mem ((c.tc : Thread Cert.ZffReferenceIdeal.nD Cert.ZffReferenceIdeal.τ).loc Cert.ZffReferenceIdeal.main_arg0) = m ((c.tc : Thread Cert.ZffReferenceIdeal.nD Cert.ZffReferenceIdeal.τ).loc Cert.ZffReferenceIdeal.main_arg0)
      ∧ r.2.mem ((c.tc : Thread Cert.ZffReferenceIdeal.nD Cert.ZffReferenceIdeal.τ).loc Cert.ZffReferenceIdeal.main_arg1) = m ((c.tc : Thread Cert.ZffReferenceIdeal.nD Cert.ZffReferenceIdeal.τ).loc Cert.ZffReferenceIdeal.main_arg1))
      ∧ r.2.sem = fun _ => 0)

def quiescent_NfKernel [hNfKernel : Cert.NfKernel.Facts] : Prop :=
  ∀ (m : (ℓ : Loc Cert.NfKernel.nD Cert.NfKernel.τ Cert.NfKernel.sig) → Buf (Elt Bits) ℓ) (g : Dev Cert.NfKernel.nD → PrngReg), Pre_NfKernel m →
    θ_run (Cert.NfKernel.defs (F := Bits)) (onTc (τ := Cert.NfKernel.τ) (Cert.NfKernel.main (F := Bits))) ⟨m, fun _ => 0, g⟩ (fun r => (∀ c : Dev Cert.NfKernel.nD,
      r.2.mem ((c.tc : Thread Cert.NfKernel.nD Cert.NfKernel.τ).loc Cert.NfKernel.main_arg0) = m ((c.tc : Thread Cert.NfKernel.nD Cert.NfKernel.τ).loc Cert.NfKernel.main_arg0)
      ∧ r.2.mem ((c.tc : Thread Cert.NfKernel.nD Cert.NfKernel.τ).loc Cert.NfKernel.main_arg1) = m ((c.tc : Thread Cert.NfKernel.nD Cert.NfKernel.τ).loc Cert.NfKernel.main_arg1))
      ∧ r.2.sem = fun _ => 0)

def quiescent_NfKernelIdeal [hNfKernelIdeal : Cert.NfKernelIdeal.Facts] : Prop :=
  ∀ (m : (ℓ : Loc Cert.NfKernelIdeal.nD Cert.NfKernelIdeal.τ Cert.NfKernelIdeal.sig) → Buf (Elt Ideal) ℓ) (g : Dev Cert.NfKernelIdeal.nD → PrngReg), Pre_NfKernelIdeal m →
    θ_run (Cert.NfKernelIdeal.defs (F := Ideal)) (onTc (τ := Cert.NfKernelIdeal.τ) (Cert.NfKernelIdeal.main (F := Ideal))) ⟨m, fun _ => 0, g⟩ (fun r => (∀ c : Dev Cert.NfKernelIdeal.nD,
      r.2.mem ((c.tc : Thread Cert.NfKernelIdeal.nD Cert.NfKernelIdeal.τ).loc Cert.NfKernelIdeal.main_arg0) = m ((c.tc : Thread Cert.NfKernelIdeal.nD Cert.NfKernelIdeal.τ).loc Cert.NfKernelIdeal.main_arg0)
      ∧ r.2.mem ((c.tc : Thread Cert.NfKernelIdeal.nD Cert.NfKernelIdeal.τ).loc Cert.NfKernelIdeal.main_arg1) = m ((c.tc : Thread Cert.NfKernelIdeal.nD Cert.NfKernelIdeal.τ).loc Cert.NfKernelIdeal.main_arg1))
      ∧ r.2.sem = fun _ => 0)

def quiescent_NfReferenceIdeal [hNfReferenceIdeal : Cert.NfReferenceIdeal.Facts] : Prop :=
  ∀ (m : (ℓ : Loc Cert.NfReferenceIdeal.nD Cert.NfReferenceIdeal.τ Cert.NfReferenceIdeal.sig) → Buf (Elt Ideal) ℓ) (g : Dev Cert.NfReferenceIdeal.nD → PrngReg), Pre_NfReferenceIdeal m →
    θ_run (Cert.NfReferenceIdeal.defs (F := Ideal)) (onTc (τ := Cert.NfReferenceIdeal.τ) (Cert.NfReferenceIdeal.main (F := Ideal))) ⟨m, fun _ => 0, g⟩ (fun r => (∀ c : Dev Cert.NfReferenceIdeal.nD,
      r.2.mem ((c.tc : Thread Cert.NfReferenceIdeal.nD Cert.NfReferenceIdeal.τ).loc Cert.NfReferenceIdeal.main_arg0) = m ((c.tc : Thread Cert.NfReferenceIdeal.nD Cert.NfReferenceIdeal.τ).loc Cert.NfReferenceIdeal.main_arg0)
      ∧ r.2.mem ((c.tc : Thread Cert.NfReferenceIdeal.nD Cert.NfReferenceIdeal.τ).loc Cert.NfReferenceIdeal.main_arg1) = m ((c.tc : Thread Cert.NfReferenceIdeal.nD Cert.NfReferenceIdeal.τ).loc Cert.NfReferenceIdeal.main_arg1))
      ∧ r.2.sem = fun _ => 0)

def quiescent_AnKernel [hAnKernel : Cert.AnKernel.Facts] : Prop :=
  ∀ (m : (ℓ : Loc Cert.AnKernel.nD Cert.AnKernel.τ Cert.AnKernel.sig) → Buf (Elt Bits) ℓ) (g : Dev Cert.AnKernel.nD → PrngReg), Pre_AnKernel m →
    θ_run (Cert.AnKernel.defs (F := Bits)) (onTc (τ := Cert.AnKernel.τ) (Cert.AnKernel.main (F := Bits))) ⟨m, fun _ => 0, g⟩ (fun r => (∀ c : Dev Cert.AnKernel.nD,
      r.2.mem ((c.tc : Thread Cert.AnKernel.nD Cert.AnKernel.τ).loc Cert.AnKernel.main_arg0) = m ((c.tc : Thread Cert.AnKernel.nD Cert.AnKernel.τ).loc Cert.AnKernel.main_arg0)
      ∧ r.2.mem ((c.tc : Thread Cert.AnKernel.nD Cert.AnKernel.τ).loc Cert.AnKernel.main_arg1) = m ((c.tc : Thread Cert.AnKernel.nD Cert.AnKernel.τ).loc Cert.AnKernel.main_arg1)
      ∧ r.2.mem ((c.tc : Thread Cert.AnKernel.nD Cert.AnKernel.τ).loc Cert.AnKernel.main_arg2) = m ((c.tc : Thread Cert.AnKernel.nD Cert.AnKernel.τ).loc Cert.AnKernel.main_arg2)
      ∧ r.2.mem ((c.tc : Thread Cert.AnKernel.nD Cert.AnKernel.τ).loc Cert.AnKernel.main_arg3) = m ((c.tc : Thread Cert.AnKernel.nD Cert.AnKernel.τ).loc Cert.AnKernel.main_arg3))
      ∧ r.2.sem = fun _ => 0)

def quiescent_AnKernelIdeal [hAnKernelIdeal : Cert.AnKernelIdeal.Facts] : Prop :=
  ∀ (m : (ℓ : Loc Cert.AnKernelIdeal.nD Cert.AnKernelIdeal.τ Cert.AnKernelIdeal.sig) → Buf (Elt Ideal) ℓ) (g : Dev Cert.AnKernelIdeal.nD → PrngReg), Pre_AnKernelIdeal m →
    θ_run (Cert.AnKernelIdeal.defs (F := Ideal)) (onTc (τ := Cert.AnKernelIdeal.τ) (Cert.AnKernelIdeal.main (F := Ideal))) ⟨m, fun _ => 0, g⟩ (fun r => (∀ c : Dev Cert.AnKernelIdeal.nD,
      r.2.mem ((c.tc : Thread Cert.AnKernelIdeal.nD Cert.AnKernelIdeal.τ).loc Cert.AnKernelIdeal.main_arg0) = m ((c.tc : Thread Cert.AnKernelIdeal.nD Cert.AnKernelIdeal.τ).loc Cert.AnKernelIdeal.main_arg0)
      ∧ r.2.mem ((c.tc : Thread Cert.AnKernelIdeal.nD Cert.AnKernelIdeal.τ).loc Cert.AnKernelIdeal.main_arg1) = m ((c.tc : Thread Cert.AnKernelIdeal.nD Cert.AnKernelIdeal.τ).loc Cert.AnKernelIdeal.main_arg1)
      ∧ r.2.mem ((c.tc : Thread Cert.AnKernelIdeal.nD Cert.AnKernelIdeal.τ).loc Cert.AnKernelIdeal.main_arg2) = m ((c.tc : Thread Cert.AnKernelIdeal.nD Cert.AnKernelIdeal.τ).loc Cert.AnKernelIdeal.main_arg2)
      ∧ r.2.mem ((c.tc : Thread Cert.AnKernelIdeal.nD Cert.AnKernelIdeal.τ).loc Cert.AnKernelIdeal.main_arg3) = m ((c.tc : Thread Cert.AnKernelIdeal.nD Cert.AnKernelIdeal.τ).loc Cert.AnKernelIdeal.main_arg3))
      ∧ r.2.sem = fun _ => 0)

def quiescent_AnReferenceIdeal [hAnReferenceIdeal : Cert.AnReferenceIdeal.Facts] : Prop :=
  ∀ (m : (ℓ : Loc Cert.AnReferenceIdeal.nD Cert.AnReferenceIdeal.τ Cert.AnReferenceIdeal.sig) → Buf (Elt Ideal) ℓ) (g : Dev Cert.AnReferenceIdeal.nD → PrngReg), Pre_AnReferenceIdeal m →
    θ_run (Cert.AnReferenceIdeal.defs (F := Ideal)) (onTc (τ := Cert.AnReferenceIdeal.τ) (Cert.AnReferenceIdeal.main (F := Ideal))) ⟨m, fun _ => 0, g⟩ (fun r => (∀ c : Dev Cert.AnReferenceIdeal.nD,
      r.2.mem ((c.tc : Thread Cert.AnReferenceIdeal.nD Cert.AnReferenceIdeal.τ).loc Cert.AnReferenceIdeal.main_arg0) = m ((c.tc : Thread Cert.AnReferenceIdeal.nD Cert.AnReferenceIdeal.τ).loc Cert.AnReferenceIdeal.main_arg0)
      ∧ r.2.mem ((c.tc : Thread Cert.AnReferenceIdeal.nD Cert.AnReferenceIdeal.τ).loc Cert.AnReferenceIdeal.main_arg1) = m ((c.tc : Thread Cert.AnReferenceIdeal.nD Cert.AnReferenceIdeal.τ).loc Cert.AnReferenceIdeal.main_arg1)
      ∧ r.2.mem ((c.tc : Thread Cert.AnReferenceIdeal.nD Cert.AnReferenceIdeal.τ).loc Cert.AnReferenceIdeal.main_arg2) = m ((c.tc : Thread Cert.AnReferenceIdeal.nD Cert.AnReferenceIdeal.τ).loc Cert.AnReferenceIdeal.main_arg2)
      ∧ r.2.mem ((c.tc : Thread Cert.AnReferenceIdeal.nD Cert.AnReferenceIdeal.τ).loc Cert.AnReferenceIdeal.main_arg3) = m ((c.tc : Thread Cert.AnReferenceIdeal.nD Cert.AnReferenceIdeal.τ).loc Cert.AnReferenceIdeal.main_arg3))
      ∧ r.2.sem = fun _ => 0)

def quiescent_AcKernel [hAcKernel : Cert.AcKernel.Facts] : Prop :=
  ∀ (m : (ℓ : Loc Cert.AcKernel.nD Cert.AcKernel.τ Cert.AcKernel.sig) → Buf (Elt Bits) ℓ) (g : Dev Cert.AcKernel.nD → PrngReg), Pre_AcKernel m →
    θ_run (Cert.AcKernel.defs (F := Bits)) (onTc (τ := Cert.AcKernel.τ) (Cert.AcKernel.main (F := Bits))) ⟨m, fun _ => 0, g⟩ (fun r => (∀ c : Dev Cert.AcKernel.nD,
      r.2.mem ((c.tc : Thread Cert.AcKernel.nD Cert.AcKernel.τ).loc Cert.AcKernel.main_arg0) = m ((c.tc : Thread Cert.AcKernel.nD Cert.AcKernel.τ).loc Cert.AcKernel.main_arg0)
      ∧ r.2.mem ((c.tc : Thread Cert.AcKernel.nD Cert.AcKernel.τ).loc Cert.AcKernel.main_arg1) = m ((c.tc : Thread Cert.AcKernel.nD Cert.AcKernel.τ).loc Cert.AcKernel.main_arg1)
      ∧ r.2.mem ((c.tc : Thread Cert.AcKernel.nD Cert.AcKernel.τ).loc Cert.AcKernel.main_arg2) = m ((c.tc : Thread Cert.AcKernel.nD Cert.AcKernel.τ).loc Cert.AcKernel.main_arg2)
      ∧ r.2.mem ((c.tc : Thread Cert.AcKernel.nD Cert.AcKernel.τ).loc Cert.AcKernel.main_arg3) = m ((c.tc : Thread Cert.AcKernel.nD Cert.AcKernel.τ).loc Cert.AcKernel.main_arg3))
      ∧ r.2.sem = fun _ => 0)

def quiescent_AcKernelIdeal [hAcKernelIdeal : Cert.AcKernelIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg), Pre_AcKernelIdeal m →
    θ_run (Cert.AcKernelIdeal.defs (F := Ideal)) (onTc (τ := Cert.AcKernelIdeal.τ) (Cert.AcKernelIdeal.main (F := Ideal))) ⟨m, fun _ => 0, g⟩ (fun r => (∀ c : Dev Cert.AcKernelIdeal.nD,
      r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
      ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
      ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
      ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3))
      ∧ r.2.sem = fun _ => 0)

def quiescent_AcReferenceIdeal [hAcReferenceIdeal : Cert.AcReferenceIdeal.Facts] : Prop :=
  ∀ (m : (ℓ : Loc Cert.AcReferenceIdeal.nD Cert.AcReferenceIdeal.τ Cert.AcReferenceIdeal.sig) → Buf (Elt Ideal) ℓ) (g : Dev Cert.AcReferenceIdeal.nD → PrngReg), Pre_AcReferenceIdeal m →
    θ_run (Cert.AcReferenceIdeal.defs (F := Ideal)) (onTc (τ := Cert.AcReferenceIdeal.τ) (Cert.AcReferenceIdeal.main (F := Ideal))) ⟨m, fun _ => 0, g⟩ (fun r => (∀ c : Dev Cert.AcReferenceIdeal.nD,
      r.2.mem ((c.tc : Thread Cert.AcReferenceIdeal.nD Cert.AcReferenceIdeal.τ).loc Cert.AcReferenceIdeal.main_arg0) = m ((c.tc : Thread Cert.AcReferenceIdeal.nD Cert.AcReferenceIdeal.τ).loc Cert.AcReferenceIdeal.main_arg0)
      ∧ r.2.mem ((c.tc : Thread Cert.AcReferenceIdeal.nD Cert.AcReferenceIdeal.τ).loc Cert.AcReferenceIdeal.main_arg1) = m ((c.tc : Thread Cert.AcReferenceIdeal.nD Cert.AcReferenceIdeal.τ).loc Cert.AcReferenceIdeal.main_arg1)
      ∧ r.2.mem ((c.tc : Thread Cert.AcReferenceIdeal.nD Cert.AcReferenceIdeal.τ).loc Cert.AcReferenceIdeal.main_arg2) = m ((c.tc : Thread Cert.AcReferenceIdeal.nD Cert.AcReferenceIdeal.τ).loc Cert.AcReferenceIdeal.main_arg2)
      ∧ r.2.mem ((c.tc : Thread Cert.AcReferenceIdeal.nD Cert.AcReferenceIdeal.τ).loc Cert.AcReferenceIdeal.main_arg3) = m ((c.tc : Thread Cert.AcReferenceIdeal.nD Cert.AcReferenceIdeal.τ).loc Cert.AcReferenceIdeal.main_arg3))
      ∧ r.2.sem = fun _ => 0)

def quiescent_AfKernel [hAfKernel : Cert.AfKernel.Facts] : Prop :=
  ∀ (m : (ℓ : Loc Cert.AfKernel.nD Cert.AfKernel.τ Cert.AfKernel.sig) → Buf (Elt Bits) ℓ) (g : Dev Cert.AfKernel.nD → PrngReg), Pre_AfKernel m →
    θ_run (Cert.AfKernel.defs (F := Bits)) (onTc (τ := Cert.AfKernel.τ) (Cert.AfKernel.main (F := Bits))) ⟨m, fun _ => 0, g⟩ (fun r => (∀ c : Dev Cert.AfKernel.nD,
      r.2.mem ((c.tc : Thread Cert.AfKernel.nD Cert.AfKernel.τ).loc Cert.AfKernel.main_arg0) = m ((c.tc : Thread Cert.AfKernel.nD Cert.AfKernel.τ).loc Cert.AfKernel.main_arg0)
      ∧ r.2.mem ((c.tc : Thread Cert.AfKernel.nD Cert.AfKernel.τ).loc Cert.AfKernel.main_arg1) = m ((c.tc : Thread Cert.AfKernel.nD Cert.AfKernel.τ).loc Cert.AfKernel.main_arg1)
      ∧ r.2.mem ((c.tc : Thread Cert.AfKernel.nD Cert.AfKernel.τ).loc Cert.AfKernel.main_arg2) = m ((c.tc : Thread Cert.AfKernel.nD Cert.AfKernel.τ).loc Cert.AfKernel.main_arg2)
      ∧ r.2.mem ((c.tc : Thread Cert.AfKernel.nD Cert.AfKernel.τ).loc Cert.AfKernel.main_arg3) = m ((c.tc : Thread Cert.AfKernel.nD Cert.AfKernel.τ).loc Cert.AfKernel.main_arg3))
      ∧ r.2.sem = fun _ => 0)

def quiescent_AfKernelIdeal [hAfKernelIdeal : Cert.AfKernelIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg), Pre_AfKernelIdeal m →
    θ_run (Cert.AfKernelIdeal.defs (F := Ideal)) (onTc (τ := Cert.AfKernelIdeal.τ) (Cert.AfKernelIdeal.main (F := Ideal))) ⟨m, fun _ => 0, g⟩ (fun r => (∀ c : Dev Cert.AfKernelIdeal.nD,
      r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
      ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
      ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
      ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3))
      ∧ r.2.sem = fun _ => 0)

def quiescent_AfReferenceIdeal [hAfReferenceIdeal : Cert.AfReferenceIdeal.Facts] : Prop :=
  ∀ (m : (ℓ : Loc Cert.AfReferenceIdeal.nD Cert.AfReferenceIdeal.τ Cert.AfReferenceIdeal.sig) → Buf (Elt Ideal) ℓ) (g : Dev Cert.AfReferenceIdeal.nD → PrngReg), Pre_AfReferenceIdeal m →
    θ_run (Cert.AfReferenceIdeal.defs (F := Ideal)) (onTc (τ := Cert.AfReferenceIdeal.τ) (Cert.AfReferenceIdeal.main (F := Ideal))) ⟨m, fun _ => 0, g⟩ (fun r => (∀ c : Dev Cert.AfReferenceIdeal.nD,
      r.2.mem ((c.tc : Thread Cert.AfReferenceIdeal.nD Cert.AfReferenceIdeal.τ).loc Cert.AfReferenceIdeal.main_arg0) = m ((c.tc : Thread Cert.AfReferenceIdeal.nD Cert.AfReferenceIdeal.τ).loc Cert.AfReferenceIdeal.main_arg0)
      ∧ r.2.mem ((c.tc : Thread Cert.AfReferenceIdeal.nD Cert.AfReferenceIdeal.τ).loc Cert.AfReferenceIdeal.main_arg1) = m ((c.tc : Thread Cert.AfReferenceIdeal.nD Cert.AfReferenceIdeal.τ).loc Cert.AfReferenceIdeal.main_arg1)
      ∧ r.2.mem ((c.tc : Thread Cert.AfReferenceIdeal.nD Cert.AfReferenceIdeal.τ).loc Cert.AfReferenceIdeal.main_arg2) = m ((c.tc : Thread Cert.AfReferenceIdeal.nD Cert.AfReferenceIdeal.τ).loc Cert.AfReferenceIdeal.main_arg2)
      ∧ r.2.mem ((c.tc : Thread Cert.AfReferenceIdeal.nD Cert.AfReferenceIdeal.τ).loc Cert.AfReferenceIdeal.main_arg3) = m ((c.tc : Thread Cert.AfReferenceIdeal.nD Cert.AfReferenceIdeal.τ).loc Cert.AfReferenceIdeal.main_arg3))
      ∧ r.2.sem = fun _ => 0)

def quiescent_AgKernel [hAgKernel : Cert.AgKernel.Facts] : Prop :=
  ∀ (m : (ℓ : Loc Cert.AgKernel.nD Cert.AgKernel.τ Cert.AgKernel.sig) → Buf (Elt Bits) ℓ) (g : Dev Cert.AgKernel.nD → PrngReg), Pre_AgKernel m →
    θ_run (Cert.AgKernel.defs (F := Bits)) (onTc (τ := Cert.AgKernel.τ) (Cert.AgKernel.main (F := Bits))) ⟨m, fun _ => 0, g⟩ (fun r => (∀ c : Dev Cert.AgKernel.nD,
      r.2.mem ((c.tc : Thread Cert.AgKernel.nD Cert.AgKernel.τ).loc Cert.AgKernel.main_arg0) = m ((c.tc : Thread Cert.AgKernel.nD Cert.AgKernel.τ).loc Cert.AgKernel.main_arg0)
      ∧ r.2.mem ((c.tc : Thread Cert.AgKernel.nD Cert.AgKernel.τ).loc Cert.AgKernel.main_arg1) = m ((c.tc : Thread Cert.AgKernel.nD Cert.AgKernel.τ).loc Cert.AgKernel.main_arg1)
      ∧ r.2.mem ((c.tc : Thread Cert.AgKernel.nD Cert.AgKernel.τ).loc Cert.AgKernel.main_arg2) = m ((c.tc : Thread Cert.AgKernel.nD Cert.AgKernel.τ).loc Cert.AgKernel.main_arg2)
      ∧ r.2.mem ((c.tc : Thread Cert.AgKernel.nD Cert.AgKernel.τ).loc Cert.AgKernel.main_arg3) = m ((c.tc : Thread Cert.AgKernel.nD Cert.AgKernel.τ).loc Cert.AgKernel.main_arg3))
      ∧ r.2.sem = fun _ => 0)

def quiescent_AgKernelIdeal [hAgKernelIdeal : Cert.AgKernelIdeal.Facts] : Prop :=
  ∀ (m : (ℓ : Loc Cert.AgKernelIdeal.nD Cert.AgKernelIdeal.τ Cert.AgKernelIdeal.sig) → Buf (Elt Ideal) ℓ) (g : Dev Cert.AgKernelIdeal.nD → PrngReg), Pre_AgKernelIdeal m →
    θ_run (Cert.AgKernelIdeal.defs (F := Ideal)) (onTc (τ := Cert.AgKernelIdeal.τ) (Cert.AgKernelIdeal.main (F := Ideal))) ⟨m, fun _ => 0, g⟩ (fun r => (∀ c : Dev Cert.AgKernelIdeal.nD,
      r.2.mem ((c.tc : Thread Cert.AgKernelIdeal.nD Cert.AgKernelIdeal.τ).loc Cert.AgKernelIdeal.main_arg0) = m ((c.tc : Thread Cert.AgKernelIdeal.nD Cert.AgKernelIdeal.τ).loc Cert.AgKernelIdeal.main_arg0)
      ∧ r.2.mem ((c.tc : Thread Cert.AgKernelIdeal.nD Cert.AgKernelIdeal.τ).loc Cert.AgKernelIdeal.main_arg1) = m ((c.tc : Thread Cert.AgKernelIdeal.nD Cert.AgKernelIdeal.τ).loc Cert.AgKernelIdeal.main_arg1)
      ∧ r.2.mem ((c.tc : Thread Cert.AgKernelIdeal.nD Cert.AgKernelIdeal.τ).loc Cert.AgKernelIdeal.main_arg2) = m ((c.tc : Thread Cert.AgKernelIdeal.nD Cert.AgKernelIdeal.τ).loc Cert.AgKernelIdeal.main_arg2)
      ∧ r.2.mem ((c.tc : Thread Cert.AgKernelIdeal.nD Cert.AgKernelIdeal.τ).loc Cert.AgKernelIdeal.main_arg3) = m ((c.tc : Thread Cert.AgKernelIdeal.nD Cert.AgKernelIdeal.τ).loc Cert.AgKernelIdeal.main_arg3))
      ∧ r.2.sem = fun _ => 0)

def quiescent_AgReferenceIdeal [hAgReferenceIdeal : Cert.AgReferenceIdeal.Facts] : Prop :=
  ∀ (m : (ℓ : Loc Cert.AgReferenceIdeal.nD Cert.AgReferenceIdeal.τ Cert.AgReferenceIdeal.sig) → Buf (Elt Ideal) ℓ) (g : Dev Cert.AgReferenceIdeal.nD → PrngReg), Pre_AgReferenceIdeal m →
    θ_run (Cert.AgReferenceIdeal.defs (F := Ideal)) (onTc (τ := Cert.AgReferenceIdeal.τ) (Cert.AgReferenceIdeal.main (F := Ideal))) ⟨m, fun _ => 0, g⟩ (fun r => (∀ c : Dev Cert.AgReferenceIdeal.nD,
      r.2.mem ((c.tc : Thread Cert.AgReferenceIdeal.nD Cert.AgReferenceIdeal.τ).loc Cert.AgReferenceIdeal.main_arg0) = m ((c.tc : Thread Cert.AgReferenceIdeal.nD Cert.AgReferenceIdeal.τ).loc Cert.AgReferenceIdeal.main_arg0)
      ∧ r.2.mem ((c.tc : Thread Cert.AgReferenceIdeal.nD Cert.AgReferenceIdeal.τ).loc Cert.AgReferenceIdeal.main_arg1) = m ((c.tc : Thread Cert.AgReferenceIdeal.nD Cert.AgReferenceIdeal.τ).loc Cert.AgReferenceIdeal.main_arg1)
      ∧ r.2.mem ((c.tc : Thread Cert.AgReferenceIdeal.nD Cert.AgReferenceIdeal.τ).loc Cert.AgReferenceIdeal.main_arg2) = m ((c.tc : Thread Cert.AgReferenceIdeal.nD Cert.AgReferenceIdeal.τ).loc Cert.AgReferenceIdeal.main_arg2)
      ∧ r.2.mem ((c.tc : Thread Cert.AgReferenceIdeal.nD Cert.AgReferenceIdeal.τ).loc Cert.AgReferenceIdeal.main_arg3) = m ((c.tc : Thread Cert.AgReferenceIdeal.nD Cert.AgReferenceIdeal.τ).loc Cert.AgReferenceIdeal.main_arg3))
      ∧ r.2.sem = fun _ => 0)

def quiescent_AxKernel [hAxKernel : Cert.AxKernel.Facts] : Prop :=
  ∀ (m : (ℓ : Loc Cert.AxKernel.nD Cert.AxKernel.τ Cert.AxKernel.sig) → Buf (Elt Bits) ℓ) (g : Dev Cert.AxKernel.nD → PrngReg), Pre_AxKernel m →
    θ_run (Cert.AxKernel.defs (F := Bits)) (onTc (τ := Cert.AxKernel.τ) (Cert.AxKernel.main (F := Bits))) ⟨m, fun _ => 0, g⟩ (fun r => (∀ c : Dev Cert.AxKernel.nD,
      r.2.mem ((c.tc : Thread Cert.AxKernel.nD Cert.AxKernel.τ).loc Cert.AxKernel.main_arg0) = m ((c.tc : Thread Cert.AxKernel.nD Cert.AxKernel.τ).loc Cert.AxKernel.main_arg0)
      ∧ r.2.mem ((c.tc : Thread Cert.AxKernel.nD Cert.AxKernel.τ).loc Cert.AxKernel.main_arg1) = m ((c.tc : Thread Cert.AxKernel.nD Cert.AxKernel.τ).loc Cert.AxKernel.main_arg1)
      ∧ r.2.mem ((c.tc : Thread Cert.AxKernel.nD Cert.AxKernel.τ).loc Cert.AxKernel.main_arg2) = m ((c.tc : Thread Cert.AxKernel.nD Cert.AxKernel.τ).loc Cert.AxKernel.main_arg2)
      ∧ r.2.mem ((c.tc : Thread Cert.AxKernel.nD Cert.AxKernel.τ).loc Cert.AxKernel.main_arg3) = m ((c.tc : Thread Cert.AxKernel.nD Cert.AxKernel.τ).loc Cert.AxKernel.main_arg3))
      ∧ r.2.sem = fun _ => 0)

def quiescent_AxKernelIdeal [hAxKernelIdeal : Cert.AxKernelIdeal.Facts] : Prop :=
  ∀ (m : (ℓ : Loc Cert.AxKernelIdeal.nD Cert.AxKernelIdeal.τ Cert.AxKernelIdeal.sig) → Buf (Elt Ideal) ℓ) (g : Dev Cert.AxKernelIdeal.nD → PrngReg), Pre_AxKernelIdeal m →
    θ_run (Cert.AxKernelIdeal.defs (F := Ideal)) (onTc (τ := Cert.AxKernelIdeal.τ) (Cert.AxKernelIdeal.main (F := Ideal))) ⟨m, fun _ => 0, g⟩ (fun r => (∀ c : Dev Cert.AxKernelIdeal.nD,
      r.2.mem ((c.tc : Thread Cert.AxKernelIdeal.nD Cert.AxKernelIdeal.τ).loc Cert.AxKernelIdeal.main_arg0) = m ((c.tc : Thread Cert.AxKernelIdeal.nD Cert.AxKernelIdeal.τ).loc Cert.AxKernelIdeal.main_arg0)
      ∧ r.2.mem ((c.tc : Thread Cert.AxKernelIdeal.nD Cert.AxKernelIdeal.τ).loc Cert.AxKernelIdeal.main_arg1) = m ((c.tc : Thread Cert.AxKernelIdeal.nD Cert.AxKernelIdeal.τ).loc Cert.AxKernelIdeal.main_arg1)
      ∧ r.2.mem ((c.tc : Thread Cert.AxKernelIdeal.nD Cert.AxKernelIdeal.τ).loc Cert.AxKernelIdeal.main_arg2) = m ((c.tc : Thread Cert.AxKernelIdeal.nD Cert.AxKernelIdeal.τ).loc Cert.AxKernelIdeal.main_arg2)
      ∧ r.2.mem ((c.tc : Thread Cert.AxKernelIdeal.nD Cert.AxKernelIdeal.τ).loc Cert.AxKernelIdeal.main_arg3) = m ((c.tc : Thread Cert.AxKernelIdeal.nD Cert.AxKernelIdeal.τ).loc Cert.AxKernelIdeal.main_arg3))
      ∧ r.2.sem = fun _ => 0)

def quiescent_AxReferenceIdeal [hAxReferenceIdeal : Cert.AxReferenceIdeal.Facts] : Prop :=
  ∀ (m : (ℓ : Loc Cert.AxReferenceIdeal.nD Cert.AxReferenceIdeal.τ Cert.AxReferenceIdeal.sig) → Buf (Elt Ideal) ℓ) (g : Dev Cert.AxReferenceIdeal.nD → PrngReg), Pre_AxReferenceIdeal m →
    θ_run (Cert.AxReferenceIdeal.defs (F := Ideal)) (onTc (τ := Cert.AxReferenceIdeal.τ) (Cert.AxReferenceIdeal.main (F := Ideal))) ⟨m, fun _ => 0, g⟩ (fun r => (∀ c : Dev Cert.AxReferenceIdeal.nD,
      r.2.mem ((c.tc : Thread Cert.AxReferenceIdeal.nD Cert.AxReferenceIdeal.τ).loc Cert.AxReferenceIdeal.main_arg0) = m ((c.tc : Thread Cert.AxReferenceIdeal.nD Cert.AxReferenceIdeal.τ).loc Cert.AxReferenceIdeal.main_arg0)
      ∧ r.2.mem ((c.tc : Thread Cert.AxReferenceIdeal.nD Cert.AxReferenceIdeal.τ).loc Cert.AxReferenceIdeal.main_arg1) = m ((c.tc : Thread Cert.AxReferenceIdeal.nD Cert.AxReferenceIdeal.τ).loc Cert.AxReferenceIdeal.main_arg1)
      ∧ r.2.mem ((c.tc : Thread Cert.AxReferenceIdeal.nD Cert.AxReferenceIdeal.τ).loc Cert.AxReferenceIdeal.main_arg2) = m ((c.tc : Thread Cert.AxReferenceIdeal.nD Cert.AxReferenceIdeal.τ).loc Cert.AxReferenceIdeal.main_arg2)
      ∧ r.2.mem ((c.tc : Thread Cert.AxReferenceIdeal.nD Cert.AxReferenceIdeal.τ).loc Cert.AxReferenceIdeal.main_arg3) = m ((c.tc : Thread Cert.AxReferenceIdeal.nD Cert.AxReferenceIdeal.τ).loc Cert.AxReferenceIdeal.main_arg3))
      ∧ r.2.sem = fun _ => 0)

def quiescent_AiKernel [hAiKernel : Cert.AiKernel.Facts] : Prop :=
  ∀ (m : (ℓ : Loc Cert.AiKernel.nD Cert.AiKernel.τ Cert.AiKernel.sig) → Buf (Elt Bits) ℓ) (g : Dev Cert.AiKernel.nD → PrngReg), Pre_AiKernel m →
    θ_run (Cert.AiKernel.defs (F := Bits)) (onTc (τ := Cert.AiKernel.τ) (Cert.AiKernel.main (F := Bits))) ⟨m, fun _ => 0, g⟩ (fun r => (∀ c : Dev Cert.AiKernel.nD,
      r.2.mem ((c.tc : Thread Cert.AiKernel.nD Cert.AiKernel.τ).loc Cert.AiKernel.main_arg0) = m ((c.tc : Thread Cert.AiKernel.nD Cert.AiKernel.τ).loc Cert.AiKernel.main_arg0)
      ∧ r.2.mem ((c.tc : Thread Cert.AiKernel.nD Cert.AiKernel.τ).loc Cert.AiKernel.main_arg1) = m ((c.tc : Thread Cert.AiKernel.nD Cert.AiKernel.τ).loc Cert.AiKernel.main_arg1)
      ∧ r.2.mem ((c.tc : Thread Cert.AiKernel.nD Cert.AiKernel.τ).loc Cert.AiKernel.main_arg2) = m ((c.tc : Thread Cert.AiKernel.nD Cert.AiKernel.τ).loc Cert.AiKernel.main_arg2)
      ∧ r.2.mem ((c.tc : Thread Cert.AiKernel.nD Cert.AiKernel.τ).loc Cert.AiKernel.main_arg3) = m ((c.tc : Thread Cert.AiKernel.nD Cert.AiKernel.τ).loc Cert.AiKernel.main_arg3))
      ∧ r.2.sem = fun _ => 0)

def quiescent_AiKernelIdeal [hAiKernelIdeal : Cert.AiKernelIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg), Pre_AiKernelIdeal m →
    θ_run (Cert.AiKernelIdeal.defs (F := Ideal)) (onTc (τ := Cert.AiKernelIdeal.τ) (Cert.AiKernelIdeal.main (F := Ideal))) ⟨m, fun _ => 0, g⟩ (fun r => (∀ c : Dev Cert.AiKernelIdeal.nD,
      r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
      ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
      ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
      ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3))
      ∧ r.2.sem = fun _ => 0)

def quiescent_AiReferenceIdeal [hAiReferenceIdeal : Cert.AiReferenceIdeal.Facts] : Prop :=
  ∀ (m : (ℓ : Loc Cert.AiReferenceIdeal.nD Cert.AiReferenceIdeal.τ Cert.AiReferenceIdeal.sig) → Buf (Elt Ideal) ℓ) (g : Dev Cert.AiReferenceIdeal.nD → PrngReg), Pre_AiReferenceIdeal m →
    θ_run (Cert.AiReferenceIdeal.defs (F := Ideal)) (onTc (τ := Cert.AiReferenceIdeal.τ) (Cert.AiReferenceIdeal.main (F := Ideal))) ⟨m, fun _ => 0, g⟩ (fun r => (∀ c : Dev Cert.AiReferenceIdeal.nD,
      r.2.mem ((c.tc : Thread Cert.AiReferenceIdeal.nD Cert.AiReferenceIdeal.τ).loc Cert.AiReferenceIdeal.main_arg0) = m ((c.tc : Thread Cert.AiReferenceIdeal.nD Cert.AiReferenceIdeal.τ).loc Cert.AiReferenceIdeal.main_arg0)
      ∧ r.2.mem ((c.tc : Thread Cert.AiReferenceIdeal.nD Cert.AiReferenceIdeal.τ).loc Cert.AiReferenceIdeal.main_arg1) = m ((c.tc : Thread Cert.AiReferenceIdeal.nD Cert.AiReferenceIdeal.τ).loc Cert.AiReferenceIdeal.main_arg1)
      ∧ r.2.mem ((c.tc : Thread Cert.AiReferenceIdeal.nD Cert.AiReferenceIdeal.τ).loc Cert.AiReferenceIdeal.main_arg2) = m ((c.tc : Thread Cert.AiReferenceIdeal.nD Cert.AiReferenceIdeal.τ).loc Cert.AiReferenceIdeal.main_arg2)
      ∧ r.2.mem ((c.tc : Thread Cert.AiReferenceIdeal.nD Cert.AiReferenceIdeal.τ).loc Cert.AiReferenceIdeal.main_arg3) = m ((c.tc : Thread Cert.AiReferenceIdeal.nD Cert.AiReferenceIdeal.τ).loc Cert.AiReferenceIdeal.main_arg3))
      ∧ r.2.sem = fun _ => 0)

def quiescent_AkKernel [hAkKernel : Cert.AkKernel.Facts] : Prop :=
  ∀ (m : (ℓ : Loc Cert.AkKernel.nD Cert.AkKernel.τ Cert.AkKernel.sig) → Buf (Elt Bits) ℓ) (g : Dev Cert.AkKernel.nD → PrngReg), Pre_AkKernel m →
    θ_run (Cert.AkKernel.defs (F := Bits)) (onTc (τ := Cert.AkKernel.τ) (Cert.AkKernel.main (F := Bits))) ⟨m, fun _ => 0, g⟩ (fun r => (∀ c : Dev Cert.AkKernel.nD,
      r.2.mem ((c.tc : Thread Cert.AkKernel.nD Cert.AkKernel.τ).loc Cert.AkKernel.main_arg0) = m ((c.tc : Thread Cert.AkKernel.nD Cert.AkKernel.τ).loc Cert.AkKernel.main_arg0)
      ∧ r.2.mem ((c.tc : Thread Cert.AkKernel.nD Cert.AkKernel.τ).loc Cert.AkKernel.main_arg1) = m ((c.tc : Thread Cert.AkKernel.nD Cert.AkKernel.τ).loc Cert.AkKernel.main_arg1)
      ∧ r.2.mem ((c.tc : Thread Cert.AkKernel.nD Cert.AkKernel.τ).loc Cert.AkKernel.main_arg2) = m ((c.tc : Thread Cert.AkKernel.nD Cert.AkKernel.τ).loc Cert.AkKernel.main_arg2)
      ∧ r.2.mem ((c.tc : Thread Cert.AkKernel.nD Cert.AkKernel.τ).loc Cert.AkKernel.main_arg3) = m ((c.tc : Thread Cert.AkKernel.nD Cert.AkKernel.τ).loc Cert.AkKernel.main_arg3))
      ∧ r.2.sem = fun _ => 0)

def quiescent_AkKernelIdeal [hAkKernelIdeal : Cert.AkKernelIdeal.Facts] : Prop :=
  ∀ (m : (ℓ : Loc Cert.AkKernelIdeal.nD Cert.AkKernelIdeal.τ Cert.AkKernelIdeal.sig) → Buf (Elt Ideal) ℓ) (g : Dev Cert.AkKernelIdeal.nD → PrngReg), Pre_AkKernelIdeal m →
    θ_run (Cert.AkKernelIdeal.defs (F := Ideal)) (onTc (τ := Cert.AkKernelIdeal.τ) (Cert.AkKernelIdeal.main (F := Ideal))) ⟨m, fun _ => 0, g⟩ (fun r => (∀ c : Dev Cert.AkKernelIdeal.nD,
      r.2.mem ((c.tc : Thread Cert.AkKernelIdeal.nD Cert.AkKernelIdeal.τ).loc Cert.AkKernelIdeal.main_arg0) = m ((c.tc : Thread Cert.AkKernelIdeal.nD Cert.AkKernelIdeal.τ).loc Cert.AkKernelIdeal.main_arg0)
      ∧ r.2.mem ((c.tc : Thread Cert.AkKernelIdeal.nD Cert.AkKernelIdeal.τ).loc Cert.AkKernelIdeal.main_arg1) = m ((c.tc : Thread Cert.AkKernelIdeal.nD Cert.AkKernelIdeal.τ).loc Cert.AkKernelIdeal.main_arg1)
      ∧ r.2.mem ((c.tc : Thread Cert.AkKernelIdeal.nD Cert.AkKernelIdeal.τ).loc Cert.AkKernelIdeal.main_arg2) = m ((c.tc : Thread Cert.AkKernelIdeal.nD Cert.AkKernelIdeal.τ).loc Cert.AkKernelIdeal.main_arg2)
      ∧ r.2.mem ((c.tc : Thread Cert.AkKernelIdeal.nD Cert.AkKernelIdeal.τ).loc Cert.AkKernelIdeal.main_arg3) = m ((c.tc : Thread Cert.AkKernelIdeal.nD Cert.AkKernelIdeal.τ).loc Cert.AkKernelIdeal.main_arg3))
      ∧ r.2.sem = fun _ => 0)

def quiescent_AkReferenceIdeal [hAkReferenceIdeal : Cert.AkReferenceIdeal.Facts] : Prop :=
  ∀ (m : (ℓ : Loc Cert.AkReferenceIdeal.nD Cert.AkReferenceIdeal.τ Cert.AkReferenceIdeal.sig) → Buf (Elt Ideal) ℓ) (g : Dev Cert.AkReferenceIdeal.nD → PrngReg), Pre_AkReferenceIdeal m →
    θ_run (Cert.AkReferenceIdeal.defs (F := Ideal)) (onTc (τ := Cert.AkReferenceIdeal.τ) (Cert.AkReferenceIdeal.main (F := Ideal))) ⟨m, fun _ => 0, g⟩ (fun r => (∀ c : Dev Cert.AkReferenceIdeal.nD,
      r.2.mem ((c.tc : Thread Cert.AkReferenceIdeal.nD Cert.AkReferenceIdeal.τ).loc Cert.AkReferenceIdeal.main_arg0) = m ((c.tc : Thread Cert.AkReferenceIdeal.nD Cert.AkReferenceIdeal.τ).loc Cert.AkReferenceIdeal.main_arg0)
      ∧ r.2.mem ((c.tc : Thread Cert.AkReferenceIdeal.nD Cert.AkReferenceIdeal.τ).loc Cert.AkReferenceIdeal.main_arg1) = m ((c.tc : Thread Cert.AkReferenceIdeal.nD Cert.AkReferenceIdeal.τ).loc Cert.AkReferenceIdeal.main_arg1)
      ∧ r.2.mem ((c.tc : Thread Cert.AkReferenceIdeal.nD Cert.AkReferenceIdeal.τ).loc Cert.AkReferenceIdeal.main_arg2) = m ((c.tc : Thread Cert.AkReferenceIdeal.nD Cert.AkReferenceIdeal.τ).loc Cert.AkReferenceIdeal.main_arg2)
      ∧ r.2.mem ((c.tc : Thread Cert.AkReferenceIdeal.nD Cert.AkReferenceIdeal.τ).loc Cert.AkReferenceIdeal.main_arg3) = m ((c.tc : Thread Cert.AkReferenceIdeal.nD Cert.AkReferenceIdeal.τ).loc Cert.AkReferenceIdeal.main_arg3))
      ∧ r.2.sem = fun _ => 0)

def quiescent_AbKernel [hAbKernel : Cert.AbKernel.Facts] : Prop :=
  ∀ (m : (ℓ : Loc Cert.AbKernel.nD Cert.AbKernel.τ Cert.AbKernel.sig) → Buf (Elt Bits) ℓ) (g : Dev Cert.AbKernel.nD → PrngReg), Pre_AbKernel m →
    θ_run (Cert.AbKernel.defs (F := Bits)) (onTc (τ := Cert.AbKernel.τ) (Cert.AbKernel.main (F := Bits))) ⟨m, fun _ => 0, g⟩ (fun r => (∀ c : Dev Cert.AbKernel.nD,
      r.2.mem ((c.tc : Thread Cert.AbKernel.nD Cert.AbKernel.τ).loc Cert.AbKernel.main_arg0) = m ((c.tc : Thread Cert.AbKernel.nD Cert.AbKernel.τ).loc Cert.AbKernel.main_arg0)
      ∧ r.2.mem ((c.tc : Thread Cert.AbKernel.nD Cert.AbKernel.τ).loc Cert.AbKernel.main_arg1) = m ((c.tc : Thread Cert.AbKernel.nD Cert.AbKernel.τ).loc Cert.AbKernel.main_arg1)
      ∧ r.2.mem ((c.tc : Thread Cert.AbKernel.nD Cert.AbKernel.τ).loc Cert.AbKernel.main_arg2) = m ((c.tc : Thread Cert.AbKernel.nD Cert.AbKernel.τ).loc Cert.AbKernel.main_arg2)
      ∧ r.2.mem ((c.tc : Thread Cert.AbKernel.nD Cert.AbKernel.τ).loc Cert.AbKernel.main_arg3) = m ((c.tc : Thread Cert.AbKernel.nD Cert.AbKernel.τ).loc Cert.AbKernel.main_arg3))
      ∧ r.2.sem = fun _ => 0)

def quiescent_AbKernelIdeal [hAbKernelIdeal : Cert.AbKernelIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg), Pre_AbKernelIdeal m →
    θ_run (Cert.AbKernelIdeal.defs (F := Ideal)) (onTc (τ := Cert.AbKernelIdeal.τ) (Cert.AbKernelIdeal.main (F := Ideal))) ⟨m, fun _ => 0, g⟩ (fun r => (∀ c : Dev Cert.AbKernelIdeal.nD,
      r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
      ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
      ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
      ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ r.2.sem = fun _ => 0)

def quiescent_AbReferenceIdeal [hAbReferenceIdeal : Cert.AbReferenceIdeal.Facts] : Prop :=
  ∀ (m : (ℓ : Loc Cert.AbReferenceIdeal.nD Cert.AbReferenceIdeal.τ Cert.AbReferenceIdeal.sig) → Buf (Elt Ideal) ℓ) (g : Dev Cert.AbReferenceIdeal.nD → PrngReg), Pre_AbReferenceIdeal m →
    θ_run (Cert.AbReferenceIdeal.defs (F := Ideal)) (onTc (τ := Cert.AbReferenceIdeal.τ) (Cert.AbReferenceIdeal.main (F := Ideal))) ⟨m, fun _ => 0, g⟩ (fun r => (∀ c : Dev Cert.AbReferenceIdeal.nD,
      r.2.mem ((c.tc : Thread Cert.AbReferenceIdeal.nD Cert.AbReferenceIdeal.τ).loc Cert.AbReferenceIdeal.main_arg0) = m ((c.tc : Thread Cert.AbReferenceIdeal.nD Cert.AbReferenceIdeal.τ).loc Cert.AbReferenceIdeal.main_arg0)
      ∧ r.2.mem ((c.tc : Thread Cert.AbReferenceIdeal.nD Cert.AbReferenceIdeal.τ).loc Cert.AbReferenceIdeal.main_arg1) = m ((c.tc : Thread Cert.AbReferenceIdeal.nD Cert.AbReferenceIdeal.τ).loc Cert.AbReferenceIdeal.main_arg1)
      ∧ r.2.mem ((c.tc : Thread Cert.AbReferenceIdeal.nD Cert.AbReferenceIdeal.τ).loc Cert.AbReferenceIdeal.main_arg2) = m ((c.tc : Thread Cert.AbReferenceIdeal.nD Cert.AbReferenceIdeal.τ).loc Cert.AbReferenceIdeal.main_arg2)
      ∧ r.2.mem ((c.tc : Thread Cert.AbReferenceIdeal.nD Cert.AbReferenceIdeal.τ).loc Cert.AbReferenceIdeal.main_arg3) = m ((c.tc : Thread Cert.AbReferenceIdeal.nD Cert.AbReferenceIdeal.τ).loc Cert.AbReferenceIdeal.main_arg3))
      ∧ r.2.sem = fun _ => 0)

def quiescent_ApKernel [hApKernel : Cert.ApKernel.Facts] : Prop :=
  ∀ (m : (ℓ : Loc Cert.ApKernel.nD Cert.ApKernel.τ Cert.ApKernel.sig) → Buf (Elt Bits) ℓ) (g : Dev Cert.ApKernel.nD → PrngReg), Pre_ApKernel m →
    θ_run (Cert.ApKernel.defs (F := Bits)) (onTc (τ := Cert.ApKernel.τ) (Cert.ApKernel.main (F := Bits))) ⟨m, fun _ => 0, g⟩ (fun r => (∀ c : Dev Cert.ApKernel.nD,
      r.2.mem ((c.tc : Thread Cert.ApKernel.nD Cert.ApKernel.τ).loc Cert.ApKernel.main_arg0) = m ((c.tc : Thread Cert.ApKernel.nD Cert.ApKernel.τ).loc Cert.ApKernel.main_arg0)
      ∧ r.2.mem ((c.tc : Thread Cert.ApKernel.nD Cert.ApKernel.τ).loc Cert.ApKernel.main_arg1) = m ((c.tc : Thread Cert.ApKernel.nD Cert.ApKernel.τ).loc Cert.ApKernel.main_arg1)
      ∧ r.2.mem ((c.tc : Thread Cert.ApKernel.nD Cert.ApKernel.τ).loc Cert.ApKernel.main_arg2) = m ((c.tc : Thread Cert.ApKernel.nD Cert.ApKernel.τ).loc Cert.ApKernel.main_arg2)
      ∧ r.2.mem ((c.tc : Thread Cert.ApKernel.nD Cert.ApKernel.τ).loc Cert.ApKernel.main_arg3) = m ((c.tc : Thread Cert.ApKernel.nD Cert.ApKernel.τ).loc Cert.ApKernel.main_arg3))
      ∧ r.2.sem = fun _ => 0)

def quiescent_ApKernelIdeal [hApKernelIdeal : Cert.ApKernelIdeal.Facts] : Prop :=
  ∀ (m : (ℓ : Loc Cert.ApKernelIdeal.nD Cert.ApKernelIdeal.τ Cert.ApKernelIdeal.sig) → Buf (Elt Ideal) ℓ) (g : Dev Cert.ApKernelIdeal.nD → PrngReg), Pre_ApKernelIdeal m →
    θ_run (Cert.ApKernelIdeal.defs (F := Ideal)) (onTc (τ := Cert.ApKernelIdeal.τ) (Cert.ApKernelIdeal.main (F := Ideal))) ⟨m, fun _ => 0, g⟩ (fun r => (∀ c : Dev Cert.ApKernelIdeal.nD,
      r.2.mem ((c.tc : Thread Cert.ApKernelIdeal.nD Cert.ApKernelIdeal.τ).loc Cert.ApKernelIdeal.main_arg0) = m ((c.tc : Thread Cert.ApKernelIdeal.nD Cert.ApKernelIdeal.τ).loc Cert.ApKernelIdeal.main_arg0)
      ∧ r.2.mem ((c.tc : Thread Cert.ApKernelIdeal.nD Cert.ApKernelIdeal.τ).loc Cert.ApKernelIdeal.main_arg1) = m ((c.tc : Thread Cert.ApKernelIdeal.nD Cert.ApKernelIdeal.τ).loc Cert.ApKernelIdeal.main_arg1)
      ∧ r.2.mem ((c.tc : Thread Cert.ApKernelIdeal.nD Cert.ApKernelIdeal.τ).loc Cert.ApKernelIdeal.main_arg2) = m ((c.tc : Thread Cert.ApKernelIdeal.nD Cert.ApKernelIdeal.τ).loc Cert.ApKernelIdeal.main_arg2)
      ∧ r.2.mem ((c.tc : Thread Cert.ApKernelIdeal.nD Cert.ApKernelIdeal.τ).loc Cert.ApKernelIdeal.main_arg3) = m ((c.tc : Thread Cert.ApKernelIdeal.nD Cert.ApKernelIdeal.τ).loc Cert.ApKernelIdeal.main_arg3))
      ∧ r.2.sem = fun _ => 0)

def quiescent_ApReferenceIdeal [hApReferenceIdeal : Cert.ApReferenceIdeal.Facts] : Prop :=
  ∀ (m : (ℓ : Loc Cert.ApReferenceIdeal.nD Cert.ApReferenceIdeal.τ Cert.ApReferenceIdeal.sig) → Buf (Elt Ideal) ℓ) (g : Dev Cert.ApReferenceIdeal.nD → PrngReg), Pre_ApReferenceIdeal m →
    θ_run (Cert.ApReferenceIdeal.defs (F := Ideal)) (onTc (τ := Cert.ApReferenceIdeal.τ) (Cert.ApReferenceIdeal.main (F := Ideal))) ⟨m, fun _ => 0, g⟩ (fun r => (∀ c : Dev Cert.ApReferenceIdeal.nD,
      r.2.mem ((c.tc : Thread Cert.ApReferenceIdeal.nD Cert.ApReferenceIdeal.τ).loc Cert.ApReferenceIdeal.main_arg0) = m ((c.tc : Thread Cert.ApReferenceIdeal.nD Cert.ApReferenceIdeal.τ).loc Cert.ApReferenceIdeal.main_arg0)
      ∧ r.2.mem ((c.tc : Thread Cert.ApReferenceIdeal.nD Cert.ApReferenceIdeal.τ).loc Cert.ApReferenceIdeal.main_arg1) = m ((c.tc : Thread Cert.ApReferenceIdeal.nD Cert.ApReferenceIdeal.τ).loc Cert.ApReferenceIdeal.main_arg1)
      ∧ r.2.mem ((c.tc : Thread Cert.ApReferenceIdeal.nD Cert.ApReferenceIdeal.τ).loc Cert.ApReferenceIdeal.main_arg2) = m ((c.tc : Thread Cert.ApReferenceIdeal.nD Cert.ApReferenceIdeal.τ).loc Cert.ApReferenceIdeal.main_arg2)
      ∧ r.2.mem ((c.tc : Thread Cert.ApReferenceIdeal.nD Cert.ApReferenceIdeal.τ).loc Cert.ApReferenceIdeal.main_arg3) = m ((c.tc : Thread Cert.ApReferenceIdeal.nD Cert.ApReferenceIdeal.τ).loc Cert.ApReferenceIdeal.main_arg3))
      ∧ r.2.sem = fun _ => 0)

def quiescent_AoKernel [hAoKernel : Cert.AoKernel.Facts] : Prop :=
  ∀ (m : (ℓ : Loc Cert.AoKernel.nD Cert.AoKernel.τ Cert.AoKernel.sig) → Buf (Elt Bits) ℓ) (g : Dev Cert.AoKernel.nD → PrngReg), Pre_AoKernel m →
    θ_run (Cert.AoKernel.defs (F := Bits)) (onTc (τ := Cert.AoKernel.τ) (Cert.AoKernel.main (F := Bits))) ⟨m, fun _ => 0, g⟩ (fun r => (∀ c : Dev Cert.AoKernel.nD,
      r.2.mem ((c.tc : Thread Cert.AoKernel.nD Cert.AoKernel.τ).loc Cert.AoKernel.main_arg0) = m ((c.tc : Thread Cert.AoKernel.nD Cert.AoKernel.τ).loc Cert.AoKernel.main_arg0)
      ∧ r.2.mem ((c.tc : Thread Cert.AoKernel.nD Cert.AoKernel.τ).loc Cert.AoKernel.main_arg1) = m ((c.tc : Thread Cert.AoKernel.nD Cert.AoKernel.τ).loc Cert.AoKernel.main_arg1)
      ∧ r.2.mem ((c.tc : Thread Cert.AoKernel.nD Cert.AoKernel.τ).loc Cert.AoKernel.main_arg2) = m ((c.tc : Thread Cert.AoKernel.nD Cert.AoKernel.τ).loc Cert.AoKernel.main_arg2)
      ∧ r.2.mem ((c.tc : Thread Cert.AoKernel.nD Cert.AoKernel.τ).loc Cert.AoKernel.main_arg3) = m ((c.tc : Thread Cert.AoKernel.nD Cert.AoKernel.τ).loc Cert.AoKernel.main_arg3))
      ∧ r.2.sem = fun _ => 0)

def quiescent_AoKernelIdeal [hAoKernelIdeal : Cert.AoKernelIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg), Pre_AoKernelIdeal m →
    θ_run (Cert.AoKernelIdeal.defs (F := Ideal)) (onTc (τ := Cert.AoKernelIdeal.τ) (Cert.AoKernelIdeal.main (F := Ideal))) ⟨m, fun _ => 0, g⟩ (fun r => (∀ c : Dev Cert.AoKernelIdeal.nD,
      r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
      ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
      ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
      ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ r.2.sem = fun _ => 0)

def quiescent_AoReferenceIdeal [hAoReferenceIdeal : Cert.AoReferenceIdeal.Facts] : Prop :=
  ∀ (m : (ℓ : Loc Cert.AoReferenceIdeal.nD Cert.AoReferenceIdeal.τ Cert.AoReferenceIdeal.sig) → Buf (Elt Ideal) ℓ) (g : Dev Cert.AoReferenceIdeal.nD → PrngReg), Pre_AoReferenceIdeal m →
    θ_run (Cert.AoReferenceIdeal.defs (F := Ideal)) (onTc (τ := Cert.AoReferenceIdeal.τ) (Cert.AoReferenceIdeal.main (F := Ideal))) ⟨m, fun _ => 0, g⟩ (fun r => (∀ c : Dev Cert.AoReferenceIdeal.nD,
      r.2.mem ((c.tc : Thread Cert.AoReferenceIdeal.nD Cert.AoReferenceIdeal.τ).loc Cert.AoReferenceIdeal.main_arg0) = m ((c.tc : Thread Cert.AoReferenceIdeal.nD Cert.AoReferenceIdeal.τ).loc Cert.AoReferenceIdeal.main_arg0)
      ∧ r.2.mem ((c.tc : Thread Cert.AoReferenceIdeal.nD Cert.AoReferenceIdeal.τ).loc Cert.AoReferenceIdeal.main_arg1) = m ((c.tc : Thread Cert.AoReferenceIdeal.nD Cert.AoReferenceIdeal.τ).loc Cert.AoReferenceIdeal.main_arg1)
      ∧ r.2.mem ((c.tc : Thread Cert.AoReferenceIdeal.nD Cert.AoReferenceIdeal.τ).loc Cert.AoReferenceIdeal.main_arg2) = m ((c.tc : Thread Cert.AoReferenceIdeal.nD Cert.AoReferenceIdeal.τ).loc Cert.AoReferenceIdeal.main_arg2)
      ∧ r.2.mem ((c.tc : Thread Cert.AoReferenceIdeal.nD Cert.AoReferenceIdeal.τ).loc Cert.AoReferenceIdeal.main_arg3) = m ((c.tc : Thread Cert.AoReferenceIdeal.nD Cert.AoReferenceIdeal.τ).loc Cert.AoReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v0_2)) (v1 : (c : Dev Cert.FfnKernelIdeal.nD) → Buf (Elt Ideal) ((c.tc : Thread Cert.FfnKernelIdeal.nD Cert.FfnKernelIdeal.τ).loc Cert.FfnKernelIdeal.main_v1_0)) (v2 : (c : Dev Cert.FfnKernelIdeal.nD) → Buf (Elt Ideal) ((c.tc : Thread Cert.FfnKernelIdeal.nD Cert.FfnKernelIdeal.τ).loc Cert.FfnKernelIdeal.main_v1_1)) (v3 : (c : Dev Cert.FfnKernelIdeal.nD) → Buf (Elt Ideal) ((c.tc : Thread Cert.FfnKernelIdeal.nD Cert.FfnKernelIdeal.τ).loc Cert.FfnKernelIdeal.main_v3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0_2) = v0 c
          ∧ r.2.mem ((c.tc : Thread Cert.FfnKernelIdeal.nD Cert.FfnKernelIdeal.τ).loc Cert.FfnKernelIdeal.main_v1_0) = v1 c
          ∧ r.2.mem ((c.tc : Thread Cert.FfnKernelIdeal.nD Cert.FfnKernelIdeal.τ).loc Cert.FfnKernelIdeal.main_v1_1) = v2 c
          ∧ r.2.mem ((c.tc : Thread Cert.FfnKernelIdeal.nD Cert.FfnKernelIdeal.τ).loc Cert.FfnKernelIdeal.main_v3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_v21) = v1 c
          ∧ r.2.mem ((c.tc : Thread Cert.FfnReferenceIdeal.nD Cert.FfnReferenceIdeal.τ).loc Cert.FfnReferenceIdeal.main_v22) = v2 c
          ∧ r.2.mem ((c.tc : Thread Cert.FfnReferenceIdeal.nD Cert.FfnReferenceIdeal.τ).loc Cert.FfnReferenceIdeal.main_v18) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_GwKernel_GwKernelIdeal : Prop :=
  True

def algebraic_GwKernelIdeal_GwReferenceIdeal [hGwKernelIdeal : Cert.GwKernelIdeal.Facts] [hGwReferenceIdeal : Cert.GwReferenceIdeal.Facts] : Prop :=
  ∀ (m : (ℓ : Loc Cert.GwKernelIdeal.nD Cert.GwKernelIdeal.τ Cert.GwKernelIdeal.sig) → Buf (Elt Ideal) ℓ) (g : Dev Cert.GwKernelIdeal.nD → PrngReg)
    (m' : (ℓ : Loc Cert.GwReferenceIdeal.nD Cert.GwReferenceIdeal.τ Cert.GwReferenceIdeal.sig) → Buf (Elt Ideal) ℓ) (g' : Dev Cert.GwReferenceIdeal.nD → PrngReg), Pre_GwKernelIdeal m →
    (∀ c : Dev Cert.GwKernelIdeal.nD,
      m' ((c.tc : Thread Cert.GwReferenceIdeal.nD Cert.GwReferenceIdeal.τ).loc Cert.GwReferenceIdeal.main_arg0) = m ((c.tc : Thread Cert.GwKernelIdeal.nD Cert.GwKernelIdeal.τ).loc Cert.GwKernelIdeal.main_arg0)
      ∧ m' ((c.tc : Thread Cert.GwReferenceIdeal.nD Cert.GwReferenceIdeal.τ).loc Cert.GwReferenceIdeal.main_arg1) = m ((c.tc : Thread Cert.GwKernelIdeal.nD Cert.GwKernelIdeal.τ).loc Cert.GwKernelIdeal.main_arg1)) →
    ∃ (v0 : (c : Dev Cert.GwKernelIdeal.nD) → Buf (Elt Ideal) ((c.tc : Thread Cert.GwKernelIdeal.nD Cert.GwKernelIdeal.τ).loc Cert.GwKernelIdeal.main_v0)),
      θ_run (Cert.GwKernelIdeal.defs (F := Ideal)) (onTc (τ := Cert.GwKernelIdeal.τ) (Cert.GwKernelIdeal.main (F := Ideal))) ⟨m, fun _ => 0, g⟩ (fun r => ∀ c : Dev Cert.GwKernelIdeal.nD,
          r.2.mem ((c.tc : Thread Cert.GwKernelIdeal.nD Cert.GwKernelIdeal.τ).loc Cert.GwKernelIdeal.main_v0) = v0 c
          ∧ r.2.mem ((c.tc : Thread Cert.GwKernelIdeal.nD Cert.GwKernelIdeal.τ).loc Cert.GwKernelIdeal.main_arg0) = m ((c.tc : Thread Cert.GwKernelIdeal.nD Cert.GwKernelIdeal.τ).loc Cert.GwKernelIdeal.main_arg0)
          ∧ r.2.mem ((c.tc : Thread Cert.GwKernelIdeal.nD Cert.GwKernelIdeal.τ).loc Cert.GwKernelIdeal.main_arg1) = m ((c.tc : Thread Cert.GwKernelIdeal.nD Cert.GwKernelIdeal.τ).loc Cert.GwKernelIdeal.main_arg1))
      ∧ θ_run (Cert.GwReferenceIdeal.defs (F := Ideal)) (onTc (τ := Cert.GwReferenceIdeal.τ) (Cert.GwReferenceIdeal.main (F := Ideal))) ⟨m', fun _ => 0, g'⟩ (fun r => ∀ c : Dev Cert.GwReferenceIdeal.nD,
          r.2.mem ((c.tc : Thread Cert.GwReferenceIdeal.nD Cert.GwReferenceIdeal.τ).loc Cert.GwReferenceIdeal.main_v6) = v0 c
          ∧ r.2.mem ((c.tc : Thread Cert.GwReferenceIdeal.nD Cert.GwReferenceIdeal.τ).loc Cert.GwReferenceIdeal.main_arg0) = m' ((c.tc : Thread Cert.GwReferenceIdeal.nD Cert.GwReferenceIdeal.τ).loc Cert.GwReferenceIdeal.main_arg0)
          ∧ r.2.mem ((c.tc : Thread Cert.GwReferenceIdeal.nD Cert.GwReferenceIdeal.τ).loc Cert.GwReferenceIdeal.main_arg1) = m' ((c.tc : Thread Cert.GwReferenceIdeal.nD Cert.GwReferenceIdeal.τ).loc Cert.GwReferenceIdeal.main_arg1))

def preserves_DyKernel_DyKernelIdeal : Prop :=
  True

def algebraic_DyKernelIdeal_DyReferenceIdeal [hDyKernelIdeal : Cert.DyKernelIdeal.Facts] [hDyReferenceIdeal : Cert.DyReferenceIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyKernelIdeal m →
    (∀ c : Dev Cert.DyKernelIdeal.nD,
      m' ((c.tc : Thread Cert.DyReferenceIdeal.nD Cert.DyReferenceIdeal.τ).loc Cert.DyReferenceIdeal.main_arg0) = m ((c.tc : Thread Cert.DyKernelIdeal.nD Cert.DyKernelIdeal.τ).loc Cert.DyKernelIdeal.main_arg0)
      ∧ m' ((c.tc : Thread Cert.DyReferenceIdeal.nD Cert.DyReferenceIdeal.τ).loc Cert.DyReferenceIdeal.main_arg1) = m ((c.tc : Thread Cert.DyKernelIdeal.nD Cert.DyKernelIdeal.τ).loc Cert.DyKernelIdeal.main_arg1)) →
    ∃ (v0 : (c : Dev Cert.DyKernelIdeal.nD) → Buf (Elt Ideal) ((c.tc : Thread Cert.DyKernelIdeal.nD Cert.DyKernelIdeal.τ).loc Cert.DyKernelIdeal.main_v0)),
      θ_run (Cert.DyKernelIdeal.defs (F := Ideal)) (onTc (τ := Cert.DyKernelIdeal.τ) (Cert.DyKernelIdeal.main (F := Ideal))) ⟨m, fun _ => 0, g⟩ (fun r => ∀ c : Dev Cert.DyKernelIdeal.nD,
          r.2.mem ((c.tc : Thread Cert.DyKernelIdeal.nD Cert.DyKernelIdeal.τ).loc Cert.DyKernelIdeal.main_v0) = v0 c
          ∧ r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
          ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v4) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_GbKernel_GbKernelIdeal : Prop :=
  True

def algebraic_GbKernelIdeal_GbReferenceIdeal [hGbKernelIdeal : Cert.GbKernelIdeal.Facts] [hGbReferenceIdeal : Cert.GbReferenceIdeal.Facts] : Prop :=
  ∀ (m : (ℓ : Loc Cert.GbKernelIdeal.nD Cert.GbKernelIdeal.τ Cert.GbKernelIdeal.sig) → Buf (Elt Ideal) ℓ) (g : Dev Cert.GbKernelIdeal.nD → PrngReg)
    (m' : (ℓ : Loc Cert.GbReferenceIdeal.nD Cert.GbReferenceIdeal.τ Cert.GbReferenceIdeal.sig) → Buf (Elt Ideal) ℓ) (g' : Dev Cert.GbReferenceIdeal.nD → PrngReg), Pre_GbKernelIdeal m →
    (∀ c : Dev Cert.GbKernelIdeal.nD,
      m' ((c.tc : Thread Cert.GbReferenceIdeal.nD Cert.GbReferenceIdeal.τ).loc Cert.GbReferenceIdeal.main_arg0) = m ((c.tc : Thread Cert.GbKernelIdeal.nD Cert.GbKernelIdeal.τ).loc Cert.GbKernelIdeal.main_arg0)
      ∧ m' ((c.tc : Thread Cert.GbReferenceIdeal.nD Cert.GbReferenceIdeal.τ).loc Cert.GbReferenceIdeal.main_arg1) = m ((c.tc : Thread Cert.GbKernelIdeal.nD Cert.GbKernelIdeal.τ).loc Cert.GbKernelIdeal.main_arg1)) →
    ∃ (v0 : (c : Dev Cert.GbKernelIdeal.nD) → Buf (Elt Ideal) ((c.tc : Thread Cert.GbKernelIdeal.nD Cert.GbKernelIdeal.τ).loc Cert.GbKernelIdeal.main_v0)),
      θ_run (Cert.GbKernelIdeal.defs (F := Ideal)) (onTc (τ := Cert.GbKernelIdeal.τ) (Cert.GbKernelIdeal.main (F := Ideal))) ⟨m, fun _ => 0, g⟩ (fun r => ∀ c : Dev Cert.GbKernelIdeal.nD,
          r.2.mem ((c.tc : Thread Cert.GbKernelIdeal.nD Cert.GbKernelIdeal.τ).loc Cert.GbKernelIdeal.main_v0) = v0 c
          ∧ r.2.mem ((c.tc : Thread Cert.GbKernelIdeal.nD Cert.GbKernelIdeal.τ).loc Cert.GbKernelIdeal.main_arg0) = m ((c.tc : Thread Cert.GbKernelIdeal.nD Cert.GbKernelIdeal.τ).loc Cert.GbKernelIdeal.main_arg0)
          ∧ r.2.mem ((c.tc : Thread Cert.GbKernelIdeal.nD Cert.GbKernelIdeal.τ).loc Cert.GbKernelIdeal.main_arg1) = m ((c.tc : Thread Cert.GbKernelIdeal.nD Cert.GbKernelIdeal.τ).loc Cert.GbKernelIdeal.main_arg1))
      ∧ θ_run (Cert.GbReferenceIdeal.defs (F := Ideal)) (onTc (τ := Cert.GbReferenceIdeal.τ) (Cert.GbReferenceIdeal.main (F := Ideal))) ⟨m', fun _ => 0, g'⟩ (fun r => ∀ c : Dev Cert.GbReferenceIdeal.nD,
          r.2.mem ((c.tc : Thread Cert.GbReferenceIdeal.nD Cert.GbReferenceIdeal.τ).loc Cert.GbReferenceIdeal.main_v6) = v0 c
          ∧ r.2.mem ((c.tc : Thread Cert.GbReferenceIdeal.nD Cert.GbReferenceIdeal.τ).loc Cert.GbReferenceIdeal.main_arg0) = m' ((c.tc : Thread Cert.GbReferenceIdeal.nD Cert.GbReferenceIdeal.τ).loc Cert.GbReferenceIdeal.main_arg0)
          ∧ r.2.mem ((c.tc : Thread Cert.GbReferenceIdeal.nD Cert.GbReferenceIdeal.τ).loc Cert.GbReferenceIdeal.main_arg1) = m' ((c.tc : Thread Cert.GbReferenceIdeal.nD Cert.GbReferenceIdeal.τ).loc Cert.GbReferenceIdeal.main_arg1))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)) →
    ∃ (v0 : (c : Dev Cert.RmsKernelIdeal.nD) → Buf (Elt Ideal) ((c.tc : Thread Cert.RmsKernelIdeal.nD Cert.RmsKernelIdeal.τ).loc Cert.RmsKernelIdeal.main_v0_0)) (v1 : (c : Dev Cert.RmsKernelIdeal.nD) → Buf (Elt Ideal) ((c.tc : Thread Cert.RmsKernelIdeal.nD Cert.RmsKernelIdeal.τ).loc Cert.RmsKernelIdeal.main_v0_1)) (v2 : (c : Dev Cert.RmsKernelIdeal.nD) → Buf (Elt Ideal) ((c.tc : Thread Cert.RmsKernelIdeal.nD Cert.RmsKernelIdeal.τ).loc Cert.RmsKernelIdeal.main_v0_2)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0_0) = v0 c
          ∧ r.2.mem ((c.tc : Thread Cert.RmsKernelIdeal.nD Cert.RmsKernelIdeal.τ).loc Cert.RmsKernelIdeal.main_v0_1) = v1 c
          ∧ r.2.mem ((c.tc : Thread Cert.RmsKernelIdeal.nD Cert.RmsKernelIdeal.τ).loc Cert.RmsKernelIdeal.main_v0_2) = v2 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v34) = v0 c
          ∧ r.2.mem ((c.tc : Thread Cert.RmsReferenceIdeal.nD Cert.RmsReferenceIdeal.τ).loc Cert.RmsReferenceIdeal.main_v35) = v1 c
          ∧ r.2.mem ((c.tc : Thread Cert.RmsReferenceIdeal.nD Cert.RmsReferenceIdeal.τ).loc Cert.RmsReferenceIdeal.main_v17) = v2 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_H1Kernel_H1KernelIdeal : Prop :=
  True

def algebraic_H1KernelIdeal_H1ReferenceIdeal [hH1KernelIdeal : Cert.H1KernelIdeal.Facts] [hH1ReferenceIdeal : Cert.H1ReferenceIdeal.Facts] : Prop :=
  ∀ (m : (ℓ : Loc Cert.H1KernelIdeal.nD Cert.H1KernelIdeal.τ Cert.H1KernelIdeal.sig) → Buf (Elt Ideal) ℓ) (g : Dev Cert.H1KernelIdeal.nD → PrngReg)
    (m' : (ℓ : Loc Cert.H1ReferenceIdeal.nD Cert.H1ReferenceIdeal.τ Cert.H1ReferenceIdeal.sig) → Buf (Elt Ideal) ℓ) (g' : Dev Cert.H1ReferenceIdeal.nD → PrngReg), Pre_H1KernelIdeal m →
    (∀ c : Dev Cert.H1KernelIdeal.nD,
      m' ((c.tc : Thread Cert.H1ReferenceIdeal.nD Cert.H1ReferenceIdeal.τ).loc Cert.H1ReferenceIdeal.main_arg0) = m ((c.tc : Thread Cert.H1KernelIdeal.nD Cert.H1KernelIdeal.τ).loc Cert.H1KernelIdeal.main_arg0)
      ∧ m' ((c.tc : Thread Cert.H1ReferenceIdeal.nD Cert.H1ReferenceIdeal.τ).loc Cert.H1ReferenceIdeal.main_arg1) = m ((c.tc : Thread Cert.H1KernelIdeal.nD Cert.H1KernelIdeal.τ).loc Cert.H1KernelIdeal.main_arg1)) →
    ∃ (v0 : (c : Dev Cert.H1KernelIdeal.nD) → Buf (Elt Ideal) ((c.tc : Thread Cert.H1KernelIdeal.nD Cert.H1KernelIdeal.τ).loc Cert.H1KernelIdeal.main_v2)),
      θ_run (Cert.H1KernelIdeal.defs (F := Ideal)) (onTc (τ := Cert.H1KernelIdeal.τ) (Cert.H1KernelIdeal.main (F := Ideal))) ⟨m, fun _ => 0, g⟩ (fun r => ∀ c : Dev Cert.H1KernelIdeal.nD,
          r.2.mem ((c.tc : Thread Cert.H1KernelIdeal.nD Cert.H1KernelIdeal.τ).loc Cert.H1KernelIdeal.main_v2) = v0 c
          ∧ r.2.mem ((c.tc : Thread Cert.H1KernelIdeal.nD Cert.H1KernelIdeal.τ).loc Cert.H1KernelIdeal.main_arg0) = m ((c.tc : Thread Cert.H1KernelIdeal.nD Cert.H1KernelIdeal.τ).loc Cert.H1KernelIdeal.main_arg0)
          ∧ r.2.mem ((c.tc : Thread Cert.H1KernelIdeal.nD Cert.H1KernelIdeal.τ).loc Cert.H1KernelIdeal.main_arg1) = m ((c.tc : Thread Cert.H1KernelIdeal.nD Cert.H1KernelIdeal.τ).loc Cert.H1KernelIdeal.main_arg1))
      ∧ θ_run (Cert.H1ReferenceIdeal.defs (F := Ideal)) (onTc (τ := Cert.H1ReferenceIdeal.τ) (Cert.H1ReferenceIdeal.main (F := Ideal))) ⟨m', fun _ => 0, g'⟩ (fun r => ∀ c : Dev Cert.H1ReferenceIdeal.nD,
          r.2.mem ((c.tc : Thread Cert.H1ReferenceIdeal.nD Cert.H1ReferenceIdeal.τ).loc Cert.H1ReferenceIdeal.main_v6) = v0 c
          ∧ r.2.mem ((c.tc : Thread Cert.H1ReferenceIdeal.nD Cert.H1ReferenceIdeal.τ).loc Cert.H1ReferenceIdeal.main_arg0) = m' ((c.tc : Thread Cert.H1ReferenceIdeal.nD Cert.H1ReferenceIdeal.τ).loc Cert.H1ReferenceIdeal.main_arg0)
          ∧ r.2.mem ((c.tc : Thread Cert.H1ReferenceIdeal.nD Cert.H1ReferenceIdeal.τ).loc Cert.H1ReferenceIdeal.main_arg1) = m' ((c.tc : Thread Cert.H1ReferenceIdeal.nD Cert.H1ReferenceIdeal.τ).loc Cert.H1ReferenceIdeal.main_arg1))

def preserves_DyxKernel_DyxKernelIdeal : Prop :=
  True

def algebraic_DyxKernelIdeal_DyxReferenceIdeal [hDyxKernelIdeal : Cert.DyxKernelIdeal.Facts] [hDyxReferenceIdeal : Cert.DyxReferenceIdeal.Facts] : Prop :=
  ∀ (m : (ℓ : Loc Cert.DyxKernelIdeal.nD Cert.DyxKernelIdeal.τ Cert.DyxKernelIdeal.sig) → Buf (Elt Ideal) ℓ) (g : Dev Cert.DyxKernelIdeal.nD → PrngReg)
    (m' : (ℓ : Loc Cert.DyxReferenceIdeal.nD Cert.DyxReferenceIdeal.τ Cert.DyxReferenceIdeal.sig) → Buf (Elt Ideal) ℓ) (g' : Dev Cert.DyxReferenceIdeal.nD → PrngReg), Pre_DyxKernelIdeal m →
    (∀ c : Dev Cert.DyxKernelIdeal.nD,
      m' ((c.tc : Thread Cert.DyxReferenceIdeal.nD Cert.DyxReferenceIdeal.τ).loc Cert.DyxReferenceIdeal.main_arg0) = m ((c.tc : Thread Cert.DyxKernelIdeal.nD Cert.DyxKernelIdeal.τ).loc Cert.DyxKernelIdeal.main_arg0)
      ∧ m' ((c.tc : Thread Cert.DyxReferenceIdeal.nD Cert.DyxReferenceIdeal.τ).loc Cert.DyxReferenceIdeal.main_arg1) = m ((c.tc : Thread Cert.DyxKernelIdeal.nD Cert.DyxKernelIdeal.τ).loc Cert.DyxKernelIdeal.main_arg1)) →
    ∃ (v0 : (c : Dev Cert.DyxKernelIdeal.nD) → Buf (Elt Ideal) ((c.tc : Thread Cert.DyxKernelIdeal.nD Cert.DyxKernelIdeal.τ).loc Cert.DyxKernelIdeal.main_v0)),
      θ_run (Cert.DyxKernelIdeal.defs (F := Ideal)) (onTc (τ := Cert.DyxKernelIdeal.τ) (Cert.DyxKernelIdeal.main (F := Ideal))) ⟨m, fun _ => 0, g⟩ (fun r => ∀ c : Dev Cert.DyxKernelIdeal.nD,
          r.2.mem ((c.tc : Thread Cert.DyxKernelIdeal.nD Cert.DyxKernelIdeal.τ).loc Cert.DyxKernelIdeal.main_v0) = v0 c
          ∧ r.2.mem ((c.tc : Thread Cert.DyxKernelIdeal.nD Cert.DyxKernelIdeal.τ).loc Cert.DyxKernelIdeal.main_arg0) = m ((c.tc : Thread Cert.DyxKernelIdeal.nD Cert.DyxKernelIdeal.τ).loc Cert.DyxKernelIdeal.main_arg0)
          ∧ r.2.mem ((c.tc : Thread Cert.DyxKernelIdeal.nD Cert.DyxKernelIdeal.τ).loc Cert.DyxKernelIdeal.main_arg1) = m ((c.tc : Thread Cert.DyxKernelIdeal.nD Cert.DyxKernelIdeal.τ).loc Cert.DyxKernelIdeal.main_arg1))
      ∧ θ_run (Cert.DyxReferenceIdeal.defs (F := Ideal)) (onTc (τ := Cert.DyxReferenceIdeal.τ) (Cert.DyxReferenceIdeal.main (F := Ideal))) ⟨m', fun _ => 0, g'⟩ (fun r => ∀ c : Dev Cert.DyxReferenceIdeal.nD,
          r.2.mem ((c.tc : Thread Cert.DyxReferenceIdeal.nD Cert.DyxReferenceIdeal.τ).loc Cert.DyxReferenceIdeal.main_v5) = v0 c
          ∧ r.2.mem ((c.tc : Thread Cert.DyxReferenceIdeal.nD Cert.DyxReferenceIdeal.τ).loc Cert.DyxReferenceIdeal.main_arg0) = m' ((c.tc : Thread Cert.DyxReferenceIdeal.nD Cert.DyxReferenceIdeal.τ).loc Cert.DyxReferenceIdeal.main_arg0)
          ∧ r.2.mem ((c.tc : Thread Cert.DyxReferenceIdeal.nD Cert.DyxReferenceIdeal.τ).loc Cert.DyxReferenceIdeal.main_arg1) = m' ((c.tc : Thread Cert.DyxReferenceIdeal.nD Cert.DyxReferenceIdeal.τ).loc Cert.DyxReferenceIdeal.main_arg1))

def preserves_GoKernel_GoKernelIdeal : Prop :=
  True

def algebraic_GoKernelIdeal_GoReferenceIdeal [hGoKernelIdeal : Cert.GoKernelIdeal.Facts] [hGoReferenceIdeal : Cert.GoReferenceIdeal.Facts] : Prop :=
  ∀ (m : (ℓ : Loc Cert.GoKernelIdeal.nD Cert.GoKernelIdeal.τ Cert.GoKernelIdeal.sig) → Buf (Elt Ideal) ℓ) (g : Dev Cert.GoKernelIdeal.nD → PrngReg)
    (m' : (ℓ : Loc Cert.GoReferenceIdeal.nD Cert.GoReferenceIdeal.τ Cert.GoReferenceIdeal.sig) → Buf (Elt Ideal) ℓ) (g' : Dev Cert.GoReferenceIdeal.nD → PrngReg), Pre_GoKernelIdeal m →
    (∀ c : Dev Cert.GoKernelIdeal.nD,
      m' ((c.tc : Thread Cert.GoReferenceIdeal.nD Cert.GoReferenceIdeal.τ).loc Cert.GoReferenceIdeal.main_arg0) = m ((c.tc : Thread Cert.GoKernelIdeal.nD Cert.GoKernelIdeal.τ).loc Cert.GoKernelIdeal.main_arg0)
      ∧ m' ((c.tc : Thread Cert.GoReferenceIdeal.nD Cert.GoReferenceIdeal.τ).loc Cert.GoReferenceIdeal.main_arg1) = m ((c.tc : Thread Cert.GoKernelIdeal.nD Cert.GoKernelIdeal.τ).loc Cert.GoKernelIdeal.main_arg1)) →
    ∃ (v0 : (c : Dev Cert.GoKernelIdeal.nD) → Buf (Elt Ideal) ((c.tc : Thread Cert.GoKernelIdeal.nD Cert.GoKernelIdeal.τ).loc Cert.GoKernelIdeal.main_v0)),
      θ_run (Cert.GoKernelIdeal.defs (F := Ideal)) (onTc (τ := Cert.GoKernelIdeal.τ) (Cert.GoKernelIdeal.main (F := Ideal))) ⟨m, fun _ => 0, g⟩ (fun r => ∀ c : Dev Cert.GoKernelIdeal.nD,
          r.2.mem ((c.tc : Thread Cert.GoKernelIdeal.nD Cert.GoKernelIdeal.τ).loc Cert.GoKernelIdeal.main_v0) = v0 c
          ∧ r.2.mem ((c.tc : Thread Cert.GoKernelIdeal.nD Cert.GoKernelIdeal.τ).loc Cert.GoKernelIdeal.main_arg0) = m ((c.tc : Thread Cert.GoKernelIdeal.nD Cert.GoKernelIdeal.τ).loc Cert.GoKernelIdeal.main_arg0)
          ∧ r.2.mem ((c.tc : Thread Cert.GoKernelIdeal.nD Cert.GoKernelIdeal.τ).loc Cert.GoKernelIdeal.main_arg1) = m ((c.tc : Thread Cert.GoKernelIdeal.nD Cert.GoKernelIdeal.τ).loc Cert.GoKernelIdeal.main_arg1))
      ∧ θ_run (Cert.GoReferenceIdeal.defs (F := Ideal)) (onTc (τ := Cert.GoReferenceIdeal.τ) (Cert.GoReferenceIdeal.main (F := Ideal))) ⟨m', fun _ => 0, g'⟩ (fun r => ∀ c : Dev Cert.GoReferenceIdeal.nD,
          r.2.mem ((c.tc : Thread Cert.GoReferenceIdeal.nD Cert.GoReferenceIdeal.τ).loc Cert.GoReferenceIdeal.main_v6) = v0 c
          ∧ r.2.mem ((c.tc : Thread Cert.GoReferenceIdeal.nD Cert.GoReferenceIdeal.τ).loc Cert.GoReferenceIdeal.main_arg0) = m' ((c.tc : Thread Cert.GoReferenceIdeal.nD Cert.GoReferenceIdeal.τ).loc Cert.GoReferenceIdeal.main_arg0)
          ∧ r.2.mem ((c.tc : Thread Cert.GoReferenceIdeal.nD Cert.GoReferenceIdeal.τ).loc Cert.GoReferenceIdeal.main_arg1) = m' ((c.tc : Thread Cert.GoReferenceIdeal.nD Cert.GoReferenceIdeal.τ).loc Cert.GoReferenceIdeal.main_arg1))

def preserves_X1Kernel_X1KernelIdeal : Prop :=
  True

def algebraic_X1KernelIdeal_X1ReferenceIdeal [hX1KernelIdeal : Cert.X1KernelIdeal.Facts] [hX1ReferenceIdeal : Cert.X1ReferenceIdeal.Facts] : Prop :=
  ∀ (m : (ℓ : Loc Cert.X1KernelIdeal.nD Cert.X1KernelIdeal.τ Cert.X1KernelIdeal.sig) → Buf (Elt Ideal) ℓ) (g : Dev Cert.X1KernelIdeal.nD → PrngReg)
    (m' : (ℓ : Loc Cert.X1ReferenceIdeal.nD Cert.X1ReferenceIdeal.τ Cert.X1ReferenceIdeal.sig) → Buf (Elt Ideal) ℓ) (g' : Dev Cert.X1ReferenceIdeal.nD → PrngReg), Pre_X1KernelIdeal m →
    (∀ c : Dev Cert.X1KernelIdeal.nD,
      m' ((c.tc : Thread Cert.X1ReferenceIdeal.nD Cert.X1ReferenceIdeal.τ).loc Cert.X1ReferenceIdeal.main_arg0) = m ((c.tc : Thread Cert.X1KernelIdeal.nD Cert.X1KernelIdeal.τ).loc Cert.X1KernelIdeal.main_arg0)
      ∧ m' ((c.tc : Thread Cert.X1ReferenceIdeal.nD Cert.X1ReferenceIdeal.τ).loc Cert.X1ReferenceIdeal.main_arg1) = m ((c.tc : Thread Cert.X1KernelIdeal.nD Cert.X1KernelIdeal.τ).loc Cert.X1KernelIdeal.main_arg1)
      ∧ m' ((c.tc : Thread Cert.X1ReferenceIdeal.nD Cert.X1ReferenceIdeal.τ).loc Cert.X1ReferenceIdeal.main_arg2) = m ((c.tc : Thread Cert.X1KernelIdeal.nD Cert.X1KernelIdeal.τ).loc Cert.X1KernelIdeal.main_arg2)) →
    ∃ (v0 : (c : Dev Cert.X1KernelIdeal.nD) → Buf (Elt Ideal) ((c.tc : Thread Cert.X1KernelIdeal.nD Cert.X1KernelIdeal.τ).loc Cert.X1KernelIdeal.main_v0)),
      θ_run (Cert.X1KernelIdeal.defs (F := Ideal)) (onTc (τ := Cert.X1KernelIdeal.τ) (Cert.X1KernelIdeal.main (F := Ideal))) ⟨m, fun _ => 0, g⟩ (fun r => ∀ c : Dev Cert.X1KernelIdeal.nD,
          r.2.mem ((c.tc : Thread Cert.X1KernelIdeal.nD Cert.X1KernelIdeal.τ).loc Cert.X1KernelIdeal.main_v0) = v0 c
          ∧ r.2.mem ((c.tc : Thread Cert.X1KernelIdeal.nD Cert.X1KernelIdeal.τ).loc Cert.X1KernelIdeal.main_arg0) = m ((c.tc : Thread Cert.X1KernelIdeal.nD Cert.X1KernelIdeal.τ).loc Cert.X1KernelIdeal.main_arg0)
          ∧ r.2.mem ((c.tc : Thread Cert.X1KernelIdeal.nD Cert.X1KernelIdeal.τ).loc Cert.X1KernelIdeal.main_arg1) = m ((c.tc : Thread Cert.X1KernelIdeal.nD Cert.X1KernelIdeal.τ).loc Cert.X1KernelIdeal.main_arg1)
          ∧ r.2.mem ((c.tc : Thread Cert.X1KernelIdeal.nD Cert.X1KernelIdeal.τ).loc Cert.X1KernelIdeal.main_arg2) = m ((c.tc : Thread Cert.X1KernelIdeal.nD Cert.X1KernelIdeal.τ).loc Cert.X1KernelIdeal.main_arg2))
      ∧ θ_run (Cert.X1ReferenceIdeal.defs (F := Ideal)) (onTc (τ := Cert.X1ReferenceIdeal.τ) (Cert.X1ReferenceIdeal.main (F := Ideal))) ⟨m', fun _ => 0, g'⟩ (fun r => ∀ c : Dev Cert.X1ReferenceIdeal.nD,
          r.2.mem ((c.tc : Thread Cert.X1ReferenceIdeal.nD Cert.X1ReferenceIdeal.τ).loc Cert.X1ReferenceIdeal.main_v3) = v0 c
          ∧ r.2.mem ((c.tc : Thread Cert.X1ReferenceIdeal.nD Cert.X1ReferenceIdeal.τ).loc Cert.X1ReferenceIdeal.main_arg0) = m' ((c.tc : Thread Cert.X1ReferenceIdeal.nD Cert.X1ReferenceIdeal.τ).loc Cert.X1ReferenceIdeal.main_arg0)
          ∧ r.2.mem ((c.tc : Thread Cert.X1ReferenceIdeal.nD Cert.X1ReferenceIdeal.τ).loc Cert.X1ReferenceIdeal.main_arg1) = m' ((c.tc : Thread Cert.X1ReferenceIdeal.nD Cert.X1ReferenceIdeal.τ).loc Cert.X1ReferenceIdeal.main_arg1)
          ∧ r.2.mem ((c.tc : Thread Cert.X1ReferenceIdeal.nD Cert.X1ReferenceIdeal.τ).loc Cert.X1ReferenceIdeal.main_arg2) = m' ((c.tc : Thread Cert.X1ReferenceIdeal.nD Cert.X1ReferenceIdeal.τ).loc Cert.X1ReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v36) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v18) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_v12) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_XfKernel_XfKernelIdeal : Prop :=
  True

def algebraic_XfKernelIdeal_XfReferenceIdeal [hXfKernelIdeal : Cert.XfKernelIdeal.Facts] [hXfReferenceIdeal : Cert.XfReferenceIdeal.Facts] : Prop :=
  ∀ (m : (ℓ : Loc Cert.XfKernelIdeal.nD Cert.XfKernelIdeal.τ Cert.XfKernelIdeal.sig) → Buf (Elt Ideal) ℓ) (g : Dev Cert.XfKernelIdeal.nD → PrngReg)
    (m' : (ℓ : Loc Cert.XfReferenceIdeal.nD Cert.XfReferenceIdeal.τ Cert.XfReferenceIdeal.sig) → Buf (Elt Ideal) ℓ) (g' : Dev Cert.XfReferenceIdeal.nD → PrngReg), Pre_XfKernelIdeal m →
    (∀ c : Dev Cert.XfKernelIdeal.nD,
      m' ((c.tc : Thread Cert.XfReferenceIdeal.nD Cert.XfReferenceIdeal.τ).loc Cert.XfReferenceIdeal.main_arg0) = m ((c.tc : Thread Cert.XfKernelIdeal.nD Cert.XfKernelIdeal.τ).loc Cert.XfKernelIdeal.main_arg0)
      ∧ m' ((c.tc : Thread Cert.XfReferenceIdeal.nD Cert.XfReferenceIdeal.τ).loc Cert.XfReferenceIdeal.main_arg1) = m ((c.tc : Thread Cert.XfKernelIdeal.nD Cert.XfKernelIdeal.τ).loc Cert.XfKernelIdeal.main_arg1)
      ∧ m' ((c.tc : Thread Cert.XfReferenceIdeal.nD Cert.XfReferenceIdeal.τ).loc Cert.XfReferenceIdeal.main_arg2) = m ((c.tc : Thread Cert.XfKernelIdeal.nD Cert.XfKernelIdeal.τ).loc Cert.XfKernelIdeal.main_arg2)
      ∧ m' ((c.tc : Thread Cert.XfReferenceIdeal.nD Cert.XfReferenceIdeal.τ).loc Cert.XfReferenceIdeal.main_arg3) = m ((c.tc : Thread Cert.XfKernelIdeal.nD Cert.XfKernelIdeal.τ).loc Cert.XfKernelIdeal.main_arg3)) →
    ∃ (v0 : (c : Dev Cert.XfKernelIdeal.nD) → Buf (Elt Ideal) ((c.tc : Thread Cert.XfKernelIdeal.nD Cert.XfKernelIdeal.τ).loc Cert.XfKernelIdeal.main_v0)),
      θ_run (Cert.XfKernelIdeal.defs (F := Ideal)) (onTc (τ := Cert.XfKernelIdeal.τ) (Cert.XfKernelIdeal.main (F := Ideal))) ⟨m, fun _ => 0, g⟩ (fun r => ∀ c : Dev Cert.XfKernelIdeal.nD,
          r.2.mem ((c.tc : Thread Cert.XfKernelIdeal.nD Cert.XfKernelIdeal.τ).loc Cert.XfKernelIdeal.main_v0) = v0 c
          ∧ r.2.mem ((c.tc : Thread Cert.XfKernelIdeal.nD Cert.XfKernelIdeal.τ).loc Cert.XfKernelIdeal.main_arg0) = m ((c.tc : Thread Cert.XfKernelIdeal.nD Cert.XfKernelIdeal.τ).loc Cert.XfKernelIdeal.main_arg0)
          ∧ r.2.mem ((c.tc : Thread Cert.XfKernelIdeal.nD Cert.XfKernelIdeal.τ).loc Cert.XfKernelIdeal.main_arg1) = m ((c.tc : Thread Cert.XfKernelIdeal.nD Cert.XfKernelIdeal.τ).loc Cert.XfKernelIdeal.main_arg1)
          ∧ r.2.mem ((c.tc : Thread Cert.XfKernelIdeal.nD Cert.XfKernelIdeal.τ).loc Cert.XfKernelIdeal.main_arg2) = m ((c.tc : Thread Cert.XfKernelIdeal.nD Cert.XfKernelIdeal.τ).loc Cert.XfKernelIdeal.main_arg2)
          ∧ r.2.mem ((c.tc : Thread Cert.XfKernelIdeal.nD Cert.XfKernelIdeal.τ).loc Cert.XfKernelIdeal.main_arg3) = m ((c.tc : Thread Cert.XfKernelIdeal.nD Cert.XfKernelIdeal.τ).loc Cert.XfKernelIdeal.main_arg3))
      ∧ θ_run (Cert.XfReferenceIdeal.defs (F := Ideal)) (onTc (τ := Cert.XfReferenceIdeal.τ) (Cert.XfReferenceIdeal.main (F := Ideal))) ⟨m', fun _ => 0, g'⟩ (fun r => ∀ c : Dev Cert.XfReferenceIdeal.nD,
          r.2.mem ((c.tc : Thread Cert.XfReferenceIdeal.nD Cert.XfReferenceIdeal.τ).loc Cert.XfReferenceIdeal.main_v37) = v0 c
          ∧ r.2.mem ((c.tc : Thread Cert.XfReferenceIdeal.nD Cert.XfReferenceIdeal.τ).loc Cert.XfReferenceIdeal.main_arg0) = m' ((c.tc : Thread Cert.XfReferenceIdeal.nD Cert.XfReferenceIdeal.τ).loc Cert.XfReferenceIdeal.main_arg0)
          ∧ r.2.mem ((c.tc : Thread Cert.XfReferenceIdeal.nD Cert.XfReferenceIdeal.τ).loc Cert.XfReferenceIdeal.main_arg1) = m' ((c.tc : Thread Cert.XfReferenceIdeal.nD Cert.XfReferenceIdeal.τ).loc Cert.XfReferenceIdeal.main_arg1)
          ∧ r.2.mem ((c.tc : Thread Cert.XfReferenceIdeal.nD Cert.XfReferenceIdeal.τ).loc Cert.XfReferenceIdeal.main_arg2) = m' ((c.tc : Thread Cert.XfReferenceIdeal.nD Cert.XfReferenceIdeal.τ).loc Cert.XfReferenceIdeal.main_arg2)
          ∧ r.2.mem ((c.tc : Thread Cert.XfReferenceIdeal.nD Cert.XfReferenceIdeal.τ).loc Cert.XfReferenceIdeal.main_arg3) = m' ((c.tc : Thread Cert.XfReferenceIdeal.nD Cert.XfReferenceIdeal.τ).loc Cert.XfReferenceIdeal.main_arg3))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)) →
    ∃ (v0 : (c : Dev Cert.KvKernelIdeal.nD) → Buf (Elt Ideal) ((c.tc : Thread Cert.KvKernelIdeal.nD Cert.KvKernelIdeal.τ).loc Cert.KvKernelIdeal.main_v0)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v0) = v0 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v3) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_GkvKernel_GkvKernelIdeal : Prop :=
  True

def algebraic_GkvKernelIdeal_GkvReferenceIdeal [hGkvKernelIdeal : Cert.GkvKernelIdeal.Facts] [hGkvReferenceIdeal : Cert.GkvReferenceIdeal.Facts] : Prop :=
  ∀ (m : (ℓ : Loc Cert.GkvKernelIdeal.nD Cert.GkvKernelIdeal.τ Cert.GkvKernelIdeal.sig) → Buf (Elt Ideal) ℓ) (g : Dev Cert.GkvKernelIdeal.nD → PrngReg)
    (m' : (ℓ : Loc Cert.GkvReferenceIdeal.nD Cert.GkvReferenceIdeal.τ Cert.GkvReferenceIdeal.sig) → Buf (Elt Ideal) ℓ) (g' : Dev Cert.GkvReferenceIdeal.nD → PrngReg), Pre_GkvKernelIdeal m →
    (∀ c : Dev Cert.GkvKernelIdeal.nD,
      m' ((c.tc : Thread Cert.GkvReferenceIdeal.nD Cert.GkvReferenceIdeal.τ).loc Cert.GkvReferenceIdeal.main_arg0) = m ((c.tc : Thread Cert.GkvKernelIdeal.nD Cert.GkvKernelIdeal.τ).loc Cert.GkvKernelIdeal.main_arg0)
      ∧ m' ((c.tc : Thread Cert.GkvReferenceIdeal.nD Cert.GkvReferenceIdeal.τ).loc Cert.GkvReferenceIdeal.main_arg1) = m ((c.tc : Thread Cert.GkvKernelIdeal.nD Cert.GkvKernelIdeal.τ).loc Cert.GkvKernelIdeal.main_arg1)) →
    ∃ (v0 : (c : Dev Cert.GkvKernelIdeal.nD) → Buf (Elt Ideal) ((c.tc : Thread Cert.GkvKernelIdeal.nD Cert.GkvKernelIdeal.τ).loc Cert.GkvKernelIdeal.main_v0)),
      θ_run (Cert.GkvKernelIdeal.defs (F := Ideal)) (onTc (τ := Cert.GkvKernelIdeal.τ) (Cert.GkvKernelIdeal.main (F := Ideal))) ⟨m, fun _ => 0, g⟩ (fun r => ∀ c : Dev Cert.GkvKernelIdeal.nD,
          r.2.mem ((c.tc : Thread Cert.GkvKernelIdeal.nD Cert.GkvKernelIdeal.τ).loc Cert.GkvKernelIdeal.main_v0) = v0 c
          ∧ r.2.mem ((c.tc : Thread Cert.GkvKernelIdeal.nD Cert.GkvKernelIdeal.τ).loc Cert.GkvKernelIdeal.main_arg0) = m ((c.tc : Thread Cert.GkvKernelIdeal.nD Cert.GkvKernelIdeal.τ).loc Cert.GkvKernelIdeal.main_arg0)
          ∧ r.2.mem ((c.tc : Thread Cert.GkvKernelIdeal.nD Cert.GkvKernelIdeal.τ).loc Cert.GkvKernelIdeal.main_arg1) = m ((c.tc : Thread Cert.GkvKernelIdeal.nD Cert.GkvKernelIdeal.τ).loc Cert.GkvKernelIdeal.main_arg1))
      ∧ θ_run (Cert.GkvReferenceIdeal.defs (F := Ideal)) (onTc (τ := Cert.GkvReferenceIdeal.τ) (Cert.GkvReferenceIdeal.main (F := Ideal))) ⟨m', fun _ => 0, g'⟩ (fun r => ∀ c : Dev Cert.GkvReferenceIdeal.nD,
          r.2.mem ((c.tc : Thread Cert.GkvReferenceIdeal.nD Cert.GkvReferenceIdeal.τ).loc Cert.GkvReferenceIdeal.main_v7) = v0 c
          ∧ r.2.mem ((c.tc : Thread Cert.GkvReferenceIdeal.nD Cert.GkvReferenceIdeal.τ).loc Cert.GkvReferenceIdeal.main_arg0) = m' ((c.tc : Thread Cert.GkvReferenceIdeal.nD Cert.GkvReferenceIdeal.τ).loc Cert.GkvReferenceIdeal.main_arg0)
          ∧ r.2.mem ((c.tc : Thread Cert.GkvReferenceIdeal.nD Cert.GkvReferenceIdeal.τ).loc Cert.GkvReferenceIdeal.main_arg1) = m' ((c.tc : Thread Cert.GkvReferenceIdeal.nD Cert.GkvReferenceIdeal.τ).loc Cert.GkvReferenceIdeal.main_arg1))

def preserves_DmKernel_DmKernelIdeal : Prop :=
  True

def algebraic_DmKernelIdeal_DmReferenceIdeal [hDmKernelIdeal : Cert.DmKernelIdeal.Facts] [hDmReferenceIdeal : Cert.DmReferenceIdeal.Facts] : Prop :=
  ∀ (m : (ℓ : Loc Cert.DmKernelIdeal.nD Cert.DmKernelIdeal.τ Cert.DmKernelIdeal.sig) → Buf (Elt Ideal) ℓ) (g : Dev Cert.DmKernelIdeal.nD → PrngReg)
    (m' : (ℓ : Loc Cert.DmReferenceIdeal.nD Cert.DmReferenceIdeal.τ Cert.DmReferenceIdeal.sig) → Buf (Elt Ideal) ℓ) (g' : Dev Cert.DmReferenceIdeal.nD → PrngReg), Pre_DmKernelIdeal m →
    (∀ c : Dev Cert.DmKernelIdeal.nD,
      m' ((c.tc : Thread Cert.DmReferenceIdeal.nD Cert.DmReferenceIdeal.τ).loc Cert.DmReferenceIdeal.main_arg0) = m ((c.tc : Thread Cert.DmKernelIdeal.nD Cert.DmKernelIdeal.τ).loc Cert.DmKernelIdeal.main_arg0)
      ∧ m' ((c.tc : Thread Cert.DmReferenceIdeal.nD Cert.DmReferenceIdeal.τ).loc Cert.DmReferenceIdeal.main_arg1) = m ((c.tc : Thread Cert.DmKernelIdeal.nD Cert.DmKernelIdeal.τ).loc Cert.DmKernelIdeal.main_arg1)) →
    ∃ (v0 : (c : Dev Cert.DmKernelIdeal.nD) → Buf (Elt Ideal) ((c.tc : Thread Cert.DmKernelIdeal.nD Cert.DmKernelIdeal.τ).loc Cert.DmKernelIdeal.main_v0)),
      θ_run (Cert.DmKernelIdeal.defs (F := Ideal)) (onTc (τ := Cert.DmKernelIdeal.τ) (Cert.DmKernelIdeal.main (F := Ideal))) ⟨m, fun _ => 0, g⟩ (fun r => ∀ c : Dev Cert.DmKernelIdeal.nD,
          r.2.mem ((c.tc : Thread Cert.DmKernelIdeal.nD Cert.DmKernelIdeal.τ).loc Cert.DmKernelIdeal.main_v0) = v0 c
          ∧ r.2.mem ((c.tc : Thread Cert.DmKernelIdeal.nD Cert.DmKernelIdeal.τ).loc Cert.DmKernelIdeal.main_arg0) = m ((c.tc : Thread Cert.DmKernelIdeal.nD Cert.DmKernelIdeal.τ).loc Cert.DmKernelIdeal.main_arg0)
          ∧ r.2.mem ((c.tc : Thread Cert.DmKernelIdeal.nD Cert.DmKernelIdeal.τ).loc Cert.DmKernelIdeal.main_arg1) = m ((c.tc : Thread Cert.DmKernelIdeal.nD Cert.DmKernelIdeal.τ).loc Cert.DmKernelIdeal.main_arg1))
      ∧ θ_run (Cert.DmReferenceIdeal.defs (F := Ideal)) (onTc (τ := Cert.DmReferenceIdeal.τ) (Cert.DmReferenceIdeal.main (F := Ideal))) ⟨m', fun _ => 0, g'⟩ (fun r => ∀ c : Dev Cert.DmReferenceIdeal.nD,
          r.2.mem ((c.tc : Thread Cert.DmReferenceIdeal.nD Cert.DmReferenceIdeal.τ).loc Cert.DmReferenceIdeal.main_v5) = v0 c
          ∧ r.2.mem ((c.tc : Thread Cert.DmReferenceIdeal.nD Cert.DmReferenceIdeal.τ).loc Cert.DmReferenceIdeal.main_arg0) = m' ((c.tc : Thread Cert.DmReferenceIdeal.nD Cert.DmReferenceIdeal.τ).loc Cert.DmReferenceIdeal.main_arg0)
          ∧ r.2.mem ((c.tc : Thread Cert.DmReferenceIdeal.nD Cert.DmReferenceIdeal.τ).loc Cert.DmReferenceIdeal.main_arg1) = m' ((c.tc : Thread Cert.DmReferenceIdeal.nD Cert.DmReferenceIdeal.τ).loc Cert.DmReferenceIdeal.main_arg1))

def preserves_ZffKernel_ZffKernelIdeal : Prop :=
  True

def algebraic_ZffKernelIdeal_ZffReferenceIdeal [hZffKernelIdeal : Cert.ZffKernelIdeal.Facts] [hZffReferenceIdeal : Cert.ZffReferenceIdeal.Facts] : Prop :=
  ∀ (m : (ℓ : Loc Cert.ZffKernelIdeal.nD Cert.ZffKernelIdeal.τ Cert.ZffKernelIdeal.sig) → Buf (Elt Ideal) ℓ) (g : Dev Cert.ZffKernelIdeal.nD → PrngReg)
    (m' : (ℓ : Loc Cert.ZffReferenceIdeal.nD Cert.ZffReferenceIdeal.τ Cert.ZffReferenceIdeal.sig) → Buf (Elt Ideal) ℓ) (g' : Dev Cert.ZffReferenceIdeal.nD → PrngReg), Pre_ZffKernelIdeal m →
    (∀ c : Dev Cert.ZffKernelIdeal.nD,
      m' ((c.tc : Thread Cert.ZffReferenceIdeal.nD Cert.ZffReferenceIdeal.τ).loc Cert.ZffReferenceIdeal.main_arg0) = m ((c.tc : Thread Cert.ZffKernelIdeal.nD Cert.ZffKernelIdeal.τ).loc Cert.ZffKernelIdeal.main_arg0)
      ∧ m' ((c.tc : Thread Cert.ZffReferenceIdeal.nD Cert.ZffReferenceIdeal.τ).loc Cert.ZffReferenceIdeal.main_arg1) = m ((c.tc : Thread Cert.ZffKernelIdeal.nD Cert.ZffKernelIdeal.τ).loc Cert.ZffKernelIdeal.main_arg1)) →
    ∃ (v0 : (c : Dev Cert.ZffKernelIdeal.nD) → Buf (Elt Ideal) ((c.tc : Thread Cert.ZffKernelIdeal.nD Cert.ZffKernelIdeal.τ).loc Cert.ZffKernelIdeal.main_v0)),
      θ_run (Cert.ZffKernelIdeal.defs (F := Ideal)) (onTc (τ := Cert.ZffKernelIdeal.τ) (Cert.ZffKernelIdeal.main (F := Ideal))) ⟨m, fun _ => 0, g⟩ (fun r => ∀ c : Dev Cert.ZffKernelIdeal.nD,
          r.2.mem ((c.tc : Thread Cert.ZffKernelIdeal.nD Cert.ZffKernelIdeal.τ).loc Cert.ZffKernelIdeal.main_v0) = v0 c
          ∧ r.2.mem ((c.tc : Thread Cert.ZffKernelIdeal.nD Cert.ZffKernelIdeal.τ).loc Cert.ZffKernelIdeal.main_arg0) = m ((c.tc : Thread Cert.ZffKernelIdeal.nD Cert.ZffKernelIdeal.τ).loc Cert.ZffKernelIdeal.main_arg0)
          ∧ r.2.mem ((c.tc : Thread Cert.ZffKernelIdeal.nD Cert.ZffKernelIdeal.τ).loc Cert.ZffKernelIdeal.main_arg1) = m ((c.tc : Thread Cert.ZffKernelIdeal.nD Cert.ZffKernelIdeal.τ).loc Cert.ZffKernelIdeal.main_arg1))
      ∧ θ_run (Cert.ZffReferenceIdeal.defs (F := Ideal)) (onTc (τ := Cert.ZffReferenceIdeal.τ) (Cert.ZffReferenceIdeal.main (F := Ideal))) ⟨m', fun _ => 0, g'⟩ (fun r => ∀ c : Dev Cert.ZffReferenceIdeal.nD,
          r.2.mem ((c.tc : Thread Cert.ZffReferenceIdeal.nD Cert.ZffReferenceIdeal.τ).loc Cert.ZffReferenceIdeal.main_v3) = v0 c
          ∧ r.2.mem ((c.tc : Thread Cert.ZffReferenceIdeal.nD Cert.ZffReferenceIdeal.τ).loc Cert.ZffReferenceIdeal.main_arg0) = m' ((c.tc : Thread Cert.ZffReferenceIdeal.nD Cert.ZffReferenceIdeal.τ).loc Cert.ZffReferenceIdeal.main_arg0)
          ∧ r.2.mem ((c.tc : Thread Cert.ZffReferenceIdeal.nD Cert.ZffReferenceIdeal.τ).loc Cert.ZffReferenceIdeal.main_arg1) = m' ((c.tc : Thread Cert.ZffReferenceIdeal.nD Cert.ZffReferenceIdeal.τ).loc Cert.ZffReferenceIdeal.main_arg1))

def preserves_NfKernel_NfKernelIdeal : Prop :=
  True

def algebraic_NfKernelIdeal_NfReferenceIdeal [hNfKernelIdeal : Cert.NfKernelIdeal.Facts] [hNfReferenceIdeal : Cert.NfReferenceIdeal.Facts] : Prop :=
  ∀ (m : (ℓ : Loc Cert.NfKernelIdeal.nD Cert.NfKernelIdeal.τ Cert.NfKernelIdeal.sig) → Buf (Elt Ideal) ℓ) (g : Dev Cert.NfKernelIdeal.nD → PrngReg)
    (m' : (ℓ : Loc Cert.NfReferenceIdeal.nD Cert.NfReferenceIdeal.τ Cert.NfReferenceIdeal.sig) → Buf (Elt Ideal) ℓ) (g' : Dev Cert.NfReferenceIdeal.nD → PrngReg), Pre_NfKernelIdeal m →
    (∀ c : Dev Cert.NfKernelIdeal.nD,
      m' ((c.tc : Thread Cert.NfReferenceIdeal.nD Cert.NfReferenceIdeal.τ).loc Cert.NfReferenceIdeal.main_arg0) = m ((c.tc : Thread Cert.NfKernelIdeal.nD Cert.NfKernelIdeal.τ).loc Cert.NfKernelIdeal.main_arg0)
      ∧ m' ((c.tc : Thread Cert.NfReferenceIdeal.nD Cert.NfReferenceIdeal.τ).loc Cert.NfReferenceIdeal.main_arg1) = m ((c.tc : Thread Cert.NfKernelIdeal.nD Cert.NfKernelIdeal.τ).loc Cert.NfKernelIdeal.main_arg1)) →
    ∃ (v0 : (c : Dev Cert.NfKernelIdeal.nD) → Buf (Elt Ideal) ((c.tc : Thread Cert.NfKernelIdeal.nD Cert.NfKernelIdeal.τ).loc Cert.NfKernelIdeal.main_v0)),
      θ_run (Cert.NfKernelIdeal.defs (F := Ideal)) (onTc (τ := Cert.NfKernelIdeal.τ) (Cert.NfKernelIdeal.main (F := Ideal))) ⟨m, fun _ => 0, g⟩ (fun r => ∀ c : Dev Cert.NfKernelIdeal.nD,
          r.2.mem ((c.tc : Thread Cert.NfKernelIdeal.nD Cert.NfKernelIdeal.τ).loc Cert.NfKernelIdeal.main_v0) = v0 c
          ∧ r.2.mem ((c.tc : Thread Cert.NfKernelIdeal.nD Cert.NfKernelIdeal.τ).loc Cert.NfKernelIdeal.main_arg0) = m ((c.tc : Thread Cert.NfKernelIdeal.nD Cert.NfKernelIdeal.τ).loc Cert.NfKernelIdeal.main_arg0)
          ∧ r.2.mem ((c.tc : Thread Cert.NfKernelIdeal.nD Cert.NfKernelIdeal.τ).loc Cert.NfKernelIdeal.main_arg1) = m ((c.tc : Thread Cert.NfKernelIdeal.nD Cert.NfKernelIdeal.τ).loc Cert.NfKernelIdeal.main_arg1))
      ∧ θ_run (Cert.NfReferenceIdeal.defs (F := Ideal)) (onTc (τ := Cert.NfReferenceIdeal.τ) (Cert.NfReferenceIdeal.main (F := Ideal))) ⟨m', fun _ => 0, g'⟩ (fun r => ∀ c : Dev Cert.NfReferenceIdeal.nD,
          r.2.mem ((c.tc : Thread Cert.NfReferenceIdeal.nD Cert.NfReferenceIdeal.τ).loc Cert.NfReferenceIdeal.main_v12) = v0 c
          ∧ r.2.mem ((c.tc : Thread Cert.NfReferenceIdeal.nD Cert.NfReferenceIdeal.τ).loc Cert.NfReferenceIdeal.main_arg0) = m' ((c.tc : Thread Cert.NfReferenceIdeal.nD Cert.NfReferenceIdeal.τ).loc Cert.NfReferenceIdeal.main_arg0)
          ∧ r.2.mem ((c.tc : Thread Cert.NfReferenceIdeal.nD Cert.NfReferenceIdeal.τ).loc Cert.NfReferenceIdeal.main_arg1) = m' ((c.tc : Thread Cert.NfReferenceIdeal.nD Cert.NfReferenceIdeal.τ).loc Cert.NfReferenceIdeal.main_arg1))

def preserves_AnKernel_AnKernelIdeal : Prop :=
  True

def algebraic_AnKernelIdeal_AnReferenceIdeal [hAnKernelIdeal : Cert.AnKernelIdeal.Facts] [hAnReferenceIdeal : Cert.AnReferenceIdeal.Facts] : Prop :=
  ∀ (m : (ℓ : Loc Cert.AnKernelIdeal.nD Cert.AnKernelIdeal.τ Cert.AnKernelIdeal.sig) → Buf (Elt Ideal) ℓ) (g : Dev Cert.AnKernelIdeal.nD → PrngReg)
    (m' : (ℓ : Loc Cert.AnReferenceIdeal.nD Cert.AnReferenceIdeal.τ Cert.AnReferenceIdeal.sig) → Buf (Elt Ideal) ℓ) (g' : Dev Cert.AnReferenceIdeal.nD → PrngReg), Pre_AnKernelIdeal m →
    (∀ c : Dev Cert.AnKernelIdeal.nD,
      m' ((c.tc : Thread Cert.AnReferenceIdeal.nD Cert.AnReferenceIdeal.τ).loc Cert.AnReferenceIdeal.main_arg0) = m ((c.tc : Thread Cert.AnKernelIdeal.nD Cert.AnKernelIdeal.τ).loc Cert.AnKernelIdeal.main_arg0)
      ∧ m' ((c.tc : Thread Cert.AnReferenceIdeal.nD Cert.AnReferenceIdeal.τ).loc Cert.AnReferenceIdeal.main_arg1) = m ((c.tc : Thread Cert.AnKernelIdeal.nD Cert.AnKernelIdeal.τ).loc Cert.AnKernelIdeal.main_arg1)
      ∧ m' ((c.tc : Thread Cert.AnReferenceIdeal.nD Cert.AnReferenceIdeal.τ).loc Cert.AnReferenceIdeal.main_arg2) = m ((c.tc : Thread Cert.AnKernelIdeal.nD Cert.AnKernelIdeal.τ).loc Cert.AnKernelIdeal.main_arg2)
      ∧ m' ((c.tc : Thread Cert.AnReferenceIdeal.nD Cert.AnReferenceIdeal.τ).loc Cert.AnReferenceIdeal.main_arg3) = m ((c.tc : Thread Cert.AnKernelIdeal.nD Cert.AnKernelIdeal.τ).loc Cert.AnKernelIdeal.main_arg3)) →
    ∃ (v0 : (c : Dev Cert.AnKernelIdeal.nD) → Buf (Elt Ideal) ((c.tc : Thread Cert.AnKernelIdeal.nD Cert.AnKernelIdeal.τ).loc Cert.AnKernelIdeal.main_v0_0)) (v1 : (c : Dev Cert.AnKernelIdeal.nD) → Buf (Elt Ideal) ((c.tc : Thread Cert.AnKernelIdeal.nD Cert.AnKernelIdeal.τ).loc Cert.AnKernelIdeal.main_v0_1)) (v2 : (c : Dev Cert.AnKernelIdeal.nD) → Buf (Elt Ideal) ((c.tc : Thread Cert.AnKernelIdeal.nD Cert.AnKernelIdeal.τ).loc Cert.AnKernelIdeal.main_v0_2)),
      θ_run (Cert.AnKernelIdeal.defs (F := Ideal)) (onTc (τ := Cert.AnKernelIdeal.τ) (Cert.AnKernelIdeal.main (F := Ideal))) ⟨m, fun _ => 0, g⟩ (fun r => ∀ c : Dev Cert.AnKernelIdeal.nD,
          r.2.mem ((c.tc : Thread Cert.AnKernelIdeal.nD Cert.AnKernelIdeal.τ).loc Cert.AnKernelIdeal.main_v0_0) = v0 c
          ∧ r.2.mem ((c.tc : Thread Cert.AnKernelIdeal.nD Cert.AnKernelIdeal.τ).loc Cert.AnKernelIdeal.main_v0_1) = v1 c
          ∧ r.2.mem ((c.tc : Thread Cert.AnKernelIdeal.nD Cert.AnKernelIdeal.τ).loc Cert.AnKernelIdeal.main_v0_2) = v2 c
          ∧ r.2.mem ((c.tc : Thread Cert.AnKernelIdeal.nD Cert.AnKernelIdeal.τ).loc Cert.AnKernelIdeal.main_arg0) = m ((c.tc : Thread Cert.AnKernelIdeal.nD Cert.AnKernelIdeal.τ).loc Cert.AnKernelIdeal.main_arg0)
          ∧ r.2.mem ((c.tc : Thread Cert.AnKernelIdeal.nD Cert.AnKernelIdeal.τ).loc Cert.AnKernelIdeal.main_arg1) = m ((c.tc : Thread Cert.AnKernelIdeal.nD Cert.AnKernelIdeal.τ).loc Cert.AnKernelIdeal.main_arg1)
          ∧ r.2.mem ((c.tc : Thread Cert.AnKernelIdeal.nD Cert.AnKernelIdeal.τ).loc Cert.AnKernelIdeal.main_arg2) = m ((c.tc : Thread Cert.AnKernelIdeal.nD Cert.AnKernelIdeal.τ).loc Cert.AnKernelIdeal.main_arg2)
          ∧ r.2.mem ((c.tc : Thread Cert.AnKernelIdeal.nD Cert.AnKernelIdeal.τ).loc Cert.AnKernelIdeal.main_arg3) = m ((c.tc : Thread Cert.AnKernelIdeal.nD Cert.AnKernelIdeal.τ).loc Cert.AnKernelIdeal.main_arg3))
      ∧ θ_run (Cert.AnReferenceIdeal.defs (F := Ideal)) (onTc (τ := Cert.AnReferenceIdeal.τ) (Cert.AnReferenceIdeal.main (F := Ideal))) ⟨m', fun _ => 0, g'⟩ (fun r => ∀ c : Dev Cert.AnReferenceIdeal.nD,
          r.2.mem ((c.tc : Thread Cert.AnReferenceIdeal.nD Cert.AnReferenceIdeal.τ).loc Cert.AnReferenceIdeal.main_v23) = v0 c
          ∧ r.2.mem ((c.tc : Thread Cert.AnReferenceIdeal.nD Cert.AnReferenceIdeal.τ).loc Cert.AnReferenceIdeal.main_v4) = v1 c
          ∧ r.2.mem ((c.tc : Thread Cert.AnReferenceIdeal.nD Cert.AnReferenceIdeal.τ).loc Cert.AnReferenceIdeal.main_v10) = v2 c
          ∧ r.2.mem ((c.tc : Thread Cert.AnReferenceIdeal.nD Cert.AnReferenceIdeal.τ).loc Cert.AnReferenceIdeal.main_arg0) = m' ((c.tc : Thread Cert.AnReferenceIdeal.nD Cert.AnReferenceIdeal.τ).loc Cert.AnReferenceIdeal.main_arg0)
          ∧ r.2.mem ((c.tc : Thread Cert.AnReferenceIdeal.nD Cert.AnReferenceIdeal.τ).loc Cert.AnReferenceIdeal.main_arg1) = m' ((c.tc : Thread Cert.AnReferenceIdeal.nD Cert.AnReferenceIdeal.τ).loc Cert.AnReferenceIdeal.main_arg1)
          ∧ r.2.mem ((c.tc : Thread Cert.AnReferenceIdeal.nD Cert.AnReferenceIdeal.τ).loc Cert.AnReferenceIdeal.main_arg2) = m' ((c.tc : Thread Cert.AnReferenceIdeal.nD Cert.AnReferenceIdeal.τ).loc Cert.AnReferenceIdeal.main_arg2)
          ∧ r.2.mem ((c.tc : Thread Cert.AnReferenceIdeal.nD Cert.AnReferenceIdeal.τ).loc Cert.AnReferenceIdeal.main_arg3) = m' ((c.tc : Thread Cert.AnReferenceIdeal.nD Cert.AnReferenceIdeal.τ).loc Cert.AnReferenceIdeal.main_arg3))

def preserves_AcKernel_AcKernelIdeal : Prop :=
  True

def algebraic_AcKernelIdeal_AcReferenceIdeal [hAcKernelIdeal : Cert.AcKernelIdeal.Facts] [hAcReferenceIdeal : Cert.AcReferenceIdeal.Facts] : Prop :=
  ∀ (m : (ℓ : Loc Cert.AcKernelIdeal.nD Cert.AcKernelIdeal.τ Cert.AcKernelIdeal.sig) → Buf (Elt Ideal) ℓ) (g : Dev Cert.AcKernelIdeal.nD → PrngReg)
    (m' : (ℓ : Loc Cert.AcReferenceIdeal.nD Cert.AcReferenceIdeal.τ Cert.AcReferenceIdeal.sig) → Buf (Elt Ideal) ℓ) (g' : Dev Cert.AcReferenceIdeal.nD → PrngReg), Pre_AcKernelIdeal m →
    (∀ c : Dev Cert.AcKernelIdeal.nD,
      m' ((c.tc : Thread Cert.AcReferenceIdeal.nD Cert.AcReferenceIdeal.τ).loc Cert.AcReferenceIdeal.main_arg0) = m ((c.tc : Thread Cert.AcKernelIdeal.nD Cert.AcKernelIdeal.τ).loc Cert.AcKernelIdeal.main_arg0)
      ∧ m' ((c.tc : Thread Cert.AcReferenceIdeal.nD Cert.AcReferenceIdeal.τ).loc Cert.AcReferenceIdeal.main_arg1) = m ((c.tc : Thread Cert.AcKernelIdeal.nD Cert.AcKernelIdeal.τ).loc Cert.AcKernelIdeal.main_arg1)
      ∧ m' ((c.tc : Thread Cert.AcReferenceIdeal.nD Cert.AcReferenceIdeal.τ).loc Cert.AcReferenceIdeal.main_arg2) = m ((c.tc : Thread Cert.AcKernelIdeal.nD Cert.AcKernelIdeal.τ).loc Cert.AcKernelIdeal.main_arg2)
      ∧ m' ((c.tc : Thread Cert.AcReferenceIdeal.nD Cert.AcReferenceIdeal.τ).loc Cert.AcReferenceIdeal.main_arg3) = m ((c.tc : Thread Cert.AcKernelIdeal.nD Cert.AcKernelIdeal.τ).loc Cert.AcKernelIdeal.main_arg3)) →
    ∃ (v0 : (c : Dev Cert.AcKernelIdeal.nD) → Buf (Elt Ideal) ((c.tc : Thread Cert.AcKernelIdeal.nD Cert.AcKernelIdeal.τ).loc Cert.AcKernelIdeal.main_v4)) (v1 : (c : Dev Cert.AcKernelIdeal.nD) → Buf (Elt Ideal) ((c.tc : Thread Cert.AcKernelIdeal.nD Cert.AcKernelIdeal.τ).loc Cert.AcKernelIdeal.main_v5)) (v2 : (c : Dev Cert.AcKernelIdeal.nD) → Buf (Elt Ideal) ((c.tc : Thread Cert.AcKernelIdeal.nD Cert.AcKernelIdeal.τ).loc Cert.AcKernelIdeal.main_v6)),
      θ_run (Cert.AcKernelIdeal.defs (F := Ideal)) (onTc (τ := Cert.AcKernelIdeal.τ) (Cert.AcKernelIdeal.main (F := Ideal))) ⟨m, fun _ => 0, g⟩ (fun r => ∀ c : Dev Cert.AcKernelIdeal.nD,
          r.2.mem ((c.tc : Thread Cert.AcKernelIdeal.nD Cert.AcKernelIdeal.τ).loc Cert.AcKernelIdeal.main_v4) = v0 c
          ∧ r.2.mem ((c.tc : Thread Cert.AcKernelIdeal.nD Cert.AcKernelIdeal.τ).loc Cert.AcKernelIdeal.main_v5) = v1 c
          ∧ r.2.mem ((c.tc : Thread Cert.AcKernelIdeal.nD Cert.AcKernelIdeal.τ).loc Cert.AcKernelIdeal.main_v6) = v2 c
          ∧ r.2.mem ((c.tc : Thread Cert.AcKernelIdeal.nD Cert.AcKernelIdeal.τ).loc Cert.AcKernelIdeal.main_arg0) = m ((c.tc : Thread Cert.AcKernelIdeal.nD Cert.AcKernelIdeal.τ).loc Cert.AcKernelIdeal.main_arg0)
          ∧ r.2.mem ((c.tc : Thread Cert.AcKernelIdeal.nD Cert.AcKernelIdeal.τ).loc Cert.AcKernelIdeal.main_arg1) = m ((c.tc : Thread Cert.AcKernelIdeal.nD Cert.AcKernelIdeal.τ).loc Cert.AcKernelIdeal.main_arg1)
          ∧ r.2.mem ((c.tc : Thread Cert.AcKernelIdeal.nD Cert.AcKernelIdeal.τ).loc Cert.AcKernelIdeal.main_arg2) = m ((c.tc : Thread Cert.AcKernelIdeal.nD Cert.AcKernelIdeal.τ).loc Cert.AcKernelIdeal.main_arg2)
          ∧ r.2.mem ((c.tc : Thread Cert.AcKernelIdeal.nD Cert.AcKernelIdeal.τ).loc Cert.AcKernelIdeal.main_arg3) = m ((c.tc : Thread Cert.AcKernelIdeal.nD Cert.AcKernelIdeal.τ).loc Cert.AcKernelIdeal.main_arg3))
      ∧ θ_run (Cert.AcReferenceIdeal.defs (F := Ideal)) (onTc (τ := Cert.AcReferenceIdeal.τ) (Cert.AcReferenceIdeal.main (F := Ideal))) ⟨m', fun _ => 0, g'⟩ (fun r => ∀ c : Dev Cert.AcReferenceIdeal.nD,
          r.2.mem ((c.tc : Thread Cert.AcReferenceIdeal.nD Cert.AcReferenceIdeal.τ).loc Cert.AcReferenceIdeal.main_v24) = v0 c
          ∧ r.2.mem ((c.tc : Thread Cert.AcReferenceIdeal.nD Cert.AcReferenceIdeal.τ).loc Cert.AcReferenceIdeal.main_v5) = v1 c
          ∧ r.2.mem ((c.tc : Thread Cert.AcReferenceIdeal.nD Cert.AcReferenceIdeal.τ).loc Cert.AcReferenceIdeal.main_v11) = v2 c
          ∧ r.2.mem ((c.tc : Thread Cert.AcReferenceIdeal.nD Cert.AcReferenceIdeal.τ).loc Cert.AcReferenceIdeal.main_arg0) = m' ((c.tc : Thread Cert.AcReferenceIdeal.nD Cert.AcReferenceIdeal.τ).loc Cert.AcReferenceIdeal.main_arg0)
          ∧ r.2.mem ((c.tc : Thread Cert.AcReferenceIdeal.nD Cert.AcReferenceIdeal.τ).loc Cert.AcReferenceIdeal.main_arg1) = m' ((c.tc : Thread Cert.AcReferenceIdeal.nD Cert.AcReferenceIdeal.τ).loc Cert.AcReferenceIdeal.main_arg1)
          ∧ r.2.mem ((c.tc : Thread Cert.AcReferenceIdeal.nD Cert.AcReferenceIdeal.τ).loc Cert.AcReferenceIdeal.main_arg2) = m' ((c.tc : Thread Cert.AcReferenceIdeal.nD Cert.AcReferenceIdeal.τ).loc Cert.AcReferenceIdeal.main_arg2)
          ∧ r.2.mem ((c.tc : Thread Cert.AcReferenceIdeal.nD Cert.AcReferenceIdeal.τ).loc Cert.AcReferenceIdeal.main_arg3) = m' ((c.tc : Thread Cert.AcReferenceIdeal.nD Cert.AcReferenceIdeal.τ).loc Cert.AcReferenceIdeal.main_arg3))

def preserves_AfKernel_AfKernelIdeal : Prop :=
  True

def algebraic_AfKernelIdeal_AfReferenceIdeal [hAfKernelIdeal : Cert.AfKernelIdeal.Facts] [hAfReferenceIdeal : Cert.AfReferenceIdeal.Facts] : Prop :=
  ∀ (m : (ℓ : Loc Cert.AfKernelIdeal.nD Cert.AfKernelIdeal.τ Cert.AfKernelIdeal.sig) → Buf (Elt Ideal) ℓ) (g : Dev Cert.AfKernelIdeal.nD → PrngReg)
    (m' : (ℓ : Loc Cert.AfReferenceIdeal.nD Cert.AfReferenceIdeal.τ Cert.AfReferenceIdeal.sig) → Buf (Elt Ideal) ℓ) (g' : Dev Cert.AfReferenceIdeal.nD → PrngReg), Pre_AfKernelIdeal m →
    (∀ c : Dev Cert.AfKernelIdeal.nD,
      m' ((c.tc : Thread Cert.AfReferenceIdeal.nD Cert.AfReferenceIdeal.τ).loc Cert.AfReferenceIdeal.main_arg0) = m ((c.tc : Thread Cert.AfKernelIdeal.nD Cert.AfKernelIdeal.τ).loc Cert.AfKernelIdeal.main_arg0)
      ∧ m' ((c.tc : Thread Cert.AfReferenceIdeal.nD Cert.AfReferenceIdeal.τ).loc Cert.AfReferenceIdeal.main_arg1) = m ((c.tc : Thread Cert.AfKernelIdeal.nD Cert.AfKernelIdeal.τ).loc Cert.AfKernelIdeal.main_arg1)
      ∧ m' ((c.tc : Thread Cert.AfReferenceIdeal.nD Cert.AfReferenceIdeal.τ).loc Cert.AfReferenceIdeal.main_arg2) = m ((c.tc : Thread Cert.AfKernelIdeal.nD Cert.AfKernelIdeal.τ).loc Cert.AfKernelIdeal.main_arg2)
      ∧ m' ((c.tc : Thread Cert.AfReferenceIdeal.nD Cert.AfReferenceIdeal.τ).loc Cert.AfReferenceIdeal.main_arg3) = m ((c.tc : Thread Cert.AfKernelIdeal.nD Cert.AfKernelIdeal.τ).loc Cert.AfKernelIdeal.main_arg3)) →
    ∃ (v0 : (c : Dev Cert.AfKernelIdeal.nD) → Buf (Elt Ideal) ((c.tc : Thread Cert.AfKernelIdeal.nD Cert.AfKernelIdeal.τ).loc Cert.AfKernelIdeal.main_v0_0)) (v1 : (c : Dev Cert.AfKernelIdeal.nD) → Buf (Elt Ideal) ((c.tc : Thread Cert.AfKernelIdeal.nD Cert.AfKernelIdeal.τ).loc Cert.AfKernelIdeal.main_v0_1)) (v2 : (c : Dev Cert.AfKernelIdeal.nD) → Buf (Elt Ideal) ((c.tc : Thread Cert.AfKernelIdeal.nD Cert.AfKernelIdeal.τ).loc Cert.AfKernelIdeal.main_v0_2)),
      θ_run (Cert.AfKernelIdeal.defs (F := Ideal)) (onTc (τ := Cert.AfKernelIdeal.τ) (Cert.AfKernelIdeal.main (F := Ideal))) ⟨m, fun _ => 0, g⟩ (fun r => ∀ c : Dev Cert.AfKernelIdeal.nD,
          r.2.mem ((c.tc : Thread Cert.AfKernelIdeal.nD Cert.AfKernelIdeal.τ).loc Cert.AfKernelIdeal.main_v0_0) = v0 c
          ∧ r.2.mem ((c.tc : Thread Cert.AfKernelIdeal.nD Cert.AfKernelIdeal.τ).loc Cert.AfKernelIdeal.main_v0_1) = v1 c
          ∧ r.2.mem ((c.tc : Thread Cert.AfKernelIdeal.nD Cert.AfKernelIdeal.τ).loc Cert.AfKernelIdeal.main_v0_2) = v2 c
          ∧ r.2.mem ((c.tc : Thread Cert.AfKernelIdeal.nD Cert.AfKernelIdeal.τ).loc Cert.AfKernelIdeal.main_arg0) = m ((c.tc : Thread Cert.AfKernelIdeal.nD Cert.AfKernelIdeal.τ).loc Cert.AfKernelIdeal.main_arg0)
          ∧ r.2.mem ((c.tc : Thread Cert.AfKernelIdeal.nD Cert.AfKernelIdeal.τ).loc Cert.AfKernelIdeal.main_arg1) = m ((c.tc : Thread Cert.AfKernelIdeal.nD Cert.AfKernelIdeal.τ).loc Cert.AfKernelIdeal.main_arg1)
          ∧ r.2.mem ((c.tc : Thread Cert.AfKernelIdeal.nD Cert.AfKernelIdeal.τ).loc Cert.AfKernelIdeal.main_arg2) = m ((c.tc : Thread Cert.AfKernelIdeal.nD Cert.AfKernelIdeal.τ).loc Cert.AfKernelIdeal.main_arg2)
          ∧ r.2.mem ((c.tc : Thread Cert.AfKernelIdeal.nD Cert.AfKernelIdeal.τ).loc Cert.AfKernelIdeal.main_arg3) = m ((c.tc : Thread Cert.AfKernelIdeal.nD Cert.AfKernelIdeal.τ).loc Cert.AfKernelIdeal.main_arg3))
      ∧ θ_run (Cert.AfReferenceIdeal.defs (F := Ideal)) (onTc (τ := Cert.AfReferenceIdeal.τ) (Cert.AfReferenceIdeal.main (F := Ideal))) ⟨m', fun _ => 0, g'⟩ (fun r => ∀ c : Dev Cert.AfReferenceIdeal.nD,
          r.2.mem ((c.tc : Thread Cert.AfReferenceIdeal.nD Cert.AfReferenceIdeal.τ).loc Cert.AfReferenceIdeal.main_v23) = v0 c
          ∧ r.2.mem ((c.tc : Thread Cert.AfReferenceIdeal.nD Cert.AfReferenceIdeal.τ).loc Cert.AfReferenceIdeal.main_v4) = v1 c
          ∧ r.2.mem ((c.tc : Thread Cert.AfReferenceIdeal.nD Cert.AfReferenceIdeal.τ).loc Cert.AfReferenceIdeal.main_v10) = v2 c
          ∧ r.2.mem ((c.tc : Thread Cert.AfReferenceIdeal.nD Cert.AfReferenceIdeal.τ).loc Cert.AfReferenceIdeal.main_arg0) = m' ((c.tc : Thread Cert.AfReferenceIdeal.nD Cert.AfReferenceIdeal.τ).loc Cert.AfReferenceIdeal.main_arg0)
          ∧ r.2.mem ((c.tc : Thread Cert.AfReferenceIdeal.nD Cert.AfReferenceIdeal.τ).loc Cert.AfReferenceIdeal.main_arg1) = m' ((c.tc : Thread Cert.AfReferenceIdeal.nD Cert.AfReferenceIdeal.τ).loc Cert.AfReferenceIdeal.main_arg1)
          ∧ r.2.mem ((c.tc : Thread Cert.AfReferenceIdeal.nD Cert.AfReferenceIdeal.τ).loc Cert.AfReferenceIdeal.main_arg2) = m' ((c.tc : Thread Cert.AfReferenceIdeal.nD Cert.AfReferenceIdeal.τ).loc Cert.AfReferenceIdeal.main_arg2)
          ∧ r.2.mem ((c.tc : Thread Cert.AfReferenceIdeal.nD Cert.AfReferenceIdeal.τ).loc Cert.AfReferenceIdeal.main_arg3) = m' ((c.tc : Thread Cert.AfReferenceIdeal.nD Cert.AfReferenceIdeal.τ).loc Cert.AfReferenceIdeal.main_arg3))

def preserves_AgKernel_AgKernelIdeal : Prop :=
  True

def algebraic_AgKernelIdeal_AgReferenceIdeal [hAgKernelIdeal : Cert.AgKernelIdeal.Facts] [hAgReferenceIdeal : Cert.AgReferenceIdeal.Facts] : Prop :=
  ∀ (m : (ℓ : Loc Cert.AgKernelIdeal.nD Cert.AgKernelIdeal.τ Cert.AgKernelIdeal.sig) → Buf (Elt Ideal) ℓ) (g : Dev Cert.AgKernelIdeal.nD → PrngReg)
    (m' : (ℓ : Loc Cert.AgReferenceIdeal.nD Cert.AgReferenceIdeal.τ Cert.AgReferenceIdeal.sig) → Buf (Elt Ideal) ℓ) (g' : Dev Cert.AgReferenceIdeal.nD → PrngReg), Pre_AgKernelIdeal m →
    (∀ c : Dev Cert.AgKernelIdeal.nD,
      m' ((c.tc : Thread Cert.AgReferenceIdeal.nD Cert.AgReferenceIdeal.τ).loc Cert.AgReferenceIdeal.main_arg0) = m ((c.tc : Thread Cert.AgKernelIdeal.nD Cert.AgKernelIdeal.τ).loc Cert.AgKernelIdeal.main_arg0)
      ∧ m' ((c.tc : Thread Cert.AgReferenceIdeal.nD Cert.AgReferenceIdeal.τ).loc Cert.AgReferenceIdeal.main_arg1) = m ((c.tc : Thread Cert.AgKernelIdeal.nD Cert.AgKernelIdeal.τ).loc Cert.AgKernelIdeal.main_arg1)
      ∧ m' ((c.tc : Thread Cert.AgReferenceIdeal.nD Cert.AgReferenceIdeal.τ).loc Cert.AgReferenceIdeal.main_arg2) = m ((c.tc : Thread Cert.AgKernelIdeal.nD Cert.AgKernelIdeal.τ).loc Cert.AgKernelIdeal.main_arg2)
      ∧ m' ((c.tc : Thread Cert.AgReferenceIdeal.nD Cert.AgReferenceIdeal.τ).loc Cert.AgReferenceIdeal.main_arg3) = m ((c.tc : Thread Cert.AgKernelIdeal.nD Cert.AgKernelIdeal.τ).loc Cert.AgKernelIdeal.main_arg3)) →
    ∃ (v0 : (c : Dev Cert.AgKernelIdeal.nD) → Buf (Elt Ideal) ((c.tc : Thread Cert.AgKernelIdeal.nD Cert.AgKernelIdeal.τ).loc Cert.AgKernelIdeal.main_v0_0)) (v1 : (c : Dev Cert.AgKernelIdeal.nD) → Buf (Elt Ideal) ((c.tc : Thread Cert.AgKernelIdeal.nD Cert.AgKernelIdeal.τ).loc Cert.AgKernelIdeal.main_v0_1)) (v2 : (c : Dev Cert.AgKernelIdeal.nD) → Buf (Elt Ideal) ((c.tc : Thread Cert.AgKernelIdeal.nD Cert.AgKernelIdeal.τ).loc Cert.AgKernelIdeal.main_v0_2)),
      θ_run (Cert.AgKernelIdeal.defs (F := Ideal)) (onTc (τ := Cert.AgKernelIdeal.τ) (Cert.AgKernelIdeal.main (F := Ideal))) ⟨m, fun _ => 0, g⟩ (fun r => ∀ c : Dev Cert.AgKernelIdeal.nD,
          r.2.mem ((c.tc : Thread Cert.AgKernelIdeal.nD Cert.AgKernelIdeal.τ).loc Cert.AgKernelIdeal.main_v0_0) = v0 c
          ∧ r.2.mem ((c.tc : Thread Cert.AgKernelIdeal.nD Cert.AgKernelIdeal.τ).loc Cert.AgKernelIdeal.main_v0_1) = v1 c
          ∧ r.2.mem ((c.tc : Thread Cert.AgKernelIdeal.nD Cert.AgKernelIdeal.τ).loc Cert.AgKernelIdeal.main_v0_2) = v2 c
          ∧ r.2.mem ((c.tc : Thread Cert.AgKernelIdeal.nD Cert.AgKernelIdeal.τ).loc Cert.AgKernelIdeal.main_arg0) = m ((c.tc : Thread Cert.AgKernelIdeal.nD Cert.AgKernelIdeal.τ).loc Cert.AgKernelIdeal.main_arg0)
          ∧ r.2.mem ((c.tc : Thread Cert.AgKernelIdeal.nD Cert.AgKernelIdeal.τ).loc Cert.AgKernelIdeal.main_arg1) = m ((c.tc : Thread Cert.AgKernelIdeal.nD Cert.AgKernelIdeal.τ).loc Cert.AgKernelIdeal.main_arg1)
          ∧ r.2.mem ((c.tc : Thread Cert.AgKernelIdeal.nD Cert.AgKernelIdeal.τ).loc Cert.AgKernelIdeal.main_arg2) = m ((c.tc : Thread Cert.AgKernelIdeal.nD Cert.AgKernelIdeal.τ).loc Cert.AgKernelIdeal.main_arg2)
          ∧ r.2.mem ((c.tc : Thread Cert.AgKernelIdeal.nD Cert.AgKernelIdeal.τ).loc Cert.AgKernelIdeal.main_arg3) = m ((c.tc : Thread Cert.AgKernelIdeal.nD Cert.AgKernelIdeal.τ).loc Cert.AgKernelIdeal.main_arg3))
      ∧ θ_run (Cert.AgReferenceIdeal.defs (F := Ideal)) (onTc (τ := Cert.AgReferenceIdeal.τ) (Cert.AgReferenceIdeal.main (F := Ideal))) ⟨m', fun _ => 0, g'⟩ (fun r => ∀ c : Dev Cert.AgReferenceIdeal.nD,
          r.2.mem ((c.tc : Thread Cert.AgReferenceIdeal.nD Cert.AgReferenceIdeal.τ).loc Cert.AgReferenceIdeal.main_v23) = v0 c
          ∧ r.2.mem ((c.tc : Thread Cert.AgReferenceIdeal.nD Cert.AgReferenceIdeal.τ).loc Cert.AgReferenceIdeal.main_v4) = v1 c
          ∧ r.2.mem ((c.tc : Thread Cert.AgReferenceIdeal.nD Cert.AgReferenceIdeal.τ).loc Cert.AgReferenceIdeal.main_v10) = v2 c
          ∧ r.2.mem ((c.tc : Thread Cert.AgReferenceIdeal.nD Cert.AgReferenceIdeal.τ).loc Cert.AgReferenceIdeal.main_arg0) = m' ((c.tc : Thread Cert.AgReferenceIdeal.nD Cert.AgReferenceIdeal.τ).loc Cert.AgReferenceIdeal.main_arg0)
          ∧ r.2.mem ((c.tc : Thread Cert.AgReferenceIdeal.nD Cert.AgReferenceIdeal.τ).loc Cert.AgReferenceIdeal.main_arg1) = m' ((c.tc : Thread Cert.AgReferenceIdeal.nD Cert.AgReferenceIdeal.τ).loc Cert.AgReferenceIdeal.main_arg1)
          ∧ r.2.mem ((c.tc : Thread Cert.AgReferenceIdeal.nD Cert.AgReferenceIdeal.τ).loc Cert.AgReferenceIdeal.main_arg2) = m' ((c.tc : Thread Cert.AgReferenceIdeal.nD Cert.AgReferenceIdeal.τ).loc Cert.AgReferenceIdeal.main_arg2)
          ∧ r.2.mem ((c.tc : Thread Cert.AgReferenceIdeal.nD Cert.AgReferenceIdeal.τ).loc Cert.AgReferenceIdeal.main_arg3) = m' ((c.tc : Thread Cert.AgReferenceIdeal.nD Cert.AgReferenceIdeal.τ).loc Cert.AgReferenceIdeal.main_arg3))

def preserves_AxKernel_AxKernelIdeal : Prop :=
  True

def algebraic_AxKernelIdeal_AxReferenceIdeal [hAxKernelIdeal : Cert.AxKernelIdeal.Facts] [hAxReferenceIdeal : Cert.AxReferenceIdeal.Facts] : Prop :=
  ∀ (m : (ℓ : Loc Cert.AxKernelIdeal.nD Cert.AxKernelIdeal.τ Cert.AxKernelIdeal.sig) → Buf (Elt Ideal) ℓ) (g : Dev Cert.AxKernelIdeal.nD → PrngReg)
    (m' : (ℓ : Loc Cert.AxReferenceIdeal.nD Cert.AxReferenceIdeal.τ Cert.AxReferenceIdeal.sig) → Buf (Elt Ideal) ℓ) (g' : Dev Cert.AxReferenceIdeal.nD → PrngReg), Pre_AxKernelIdeal m →
    (∀ c : Dev Cert.AxKernelIdeal.nD,
      m' ((c.tc : Thread Cert.AxReferenceIdeal.nD Cert.AxReferenceIdeal.τ).loc Cert.AxReferenceIdeal.main_arg0) = m ((c.tc : Thread Cert.AxKernelIdeal.nD Cert.AxKernelIdeal.τ).loc Cert.AxKernelIdeal.main_arg0)
      ∧ m' ((c.tc : Thread Cert.AxReferenceIdeal.nD Cert.AxReferenceIdeal.τ).loc Cert.AxReferenceIdeal.main_arg1) = m ((c.tc : Thread Cert.AxKernelIdeal.nD Cert.AxKernelIdeal.τ).loc Cert.AxKernelIdeal.main_arg1)
      ∧ m' ((c.tc : Thread Cert.AxReferenceIdeal.nD Cert.AxReferenceIdeal.τ).loc Cert.AxReferenceIdeal.main_arg2) = m ((c.tc : Thread Cert.AxKernelIdeal.nD Cert.AxKernelIdeal.τ).loc Cert.AxKernelIdeal.main_arg2)
      ∧ m' ((c.tc : Thread Cert.AxReferenceIdeal.nD Cert.AxReferenceIdeal.τ).loc Cert.AxReferenceIdeal.main_arg3) = m ((c.tc : Thread Cert.AxKernelIdeal.nD Cert.AxKernelIdeal.τ).loc Cert.AxKernelIdeal.main_arg3)) →
    ∃ (v0 : (c : Dev Cert.AxKernelIdeal.nD) → Buf (Elt Ideal) ((c.tc : Thread Cert.AxKernelIdeal.nD Cert.AxKernelIdeal.τ).loc Cert.AxKernelIdeal.main_v0_0)) (v1 : (c : Dev Cert.AxKernelIdeal.nD) → Buf (Elt Ideal) ((c.tc : Thread Cert.AxKernelIdeal.nD Cert.AxKernelIdeal.τ).loc Cert.AxKernelIdeal.main_v0_1)) (v2 : (c : Dev Cert.AxKernelIdeal.nD) → Buf (Elt Ideal) ((c.tc : Thread Cert.AxKernelIdeal.nD Cert.AxKernelIdeal.τ).loc Cert.AxKernelIdeal.main_v0_2)),
      θ_run (Cert.AxKernelIdeal.defs (F := Ideal)) (onTc (τ := Cert.AxKernelIdeal.τ) (Cert.AxKernelIdeal.main (F := Ideal))) ⟨m, fun _ => 0, g⟩ (fun r => ∀ c : Dev Cert.AxKernelIdeal.nD,
          r.2.mem ((c.tc : Thread Cert.AxKernelIdeal.nD Cert.AxKernelIdeal.τ).loc Cert.AxKernelIdeal.main_v0_0) = v0 c
          ∧ r.2.mem ((c.tc : Thread Cert.AxKernelIdeal.nD Cert.AxKernelIdeal.τ).loc Cert.AxKernelIdeal.main_v0_1) = v1 c
          ∧ r.2.mem ((c.tc : Thread Cert.AxKernelIdeal.nD Cert.AxKernelIdeal.τ).loc Cert.AxKernelIdeal.main_v0_2) = v2 c
          ∧ r.2.mem ((c.tc : Thread Cert.AxKernelIdeal.nD Cert.AxKernelIdeal.τ).loc Cert.AxKernelIdeal.main_arg0) = m ((c.tc : Thread Cert.AxKernelIdeal.nD Cert.AxKernelIdeal.τ).loc Cert.AxKernelIdeal.main_arg0)
          ∧ r.2.mem ((c.tc : Thread Cert.AxKernelIdeal.nD Cert.AxKernelIdeal.τ).loc Cert.AxKernelIdeal.main_arg1) = m ((c.tc : Thread Cert.AxKernelIdeal.nD Cert.AxKernelIdeal.τ).loc Cert.AxKernelIdeal.main_arg1)
          ∧ r.2.mem ((c.tc : Thread Cert.AxKernelIdeal.nD Cert.AxKernelIdeal.τ).loc Cert.AxKernelIdeal.main_arg2) = m ((c.tc : Thread Cert.AxKernelIdeal.nD Cert.AxKernelIdeal.τ).loc Cert.AxKernelIdeal.main_arg2)
          ∧ r.2.mem ((c.tc : Thread Cert.AxKernelIdeal.nD Cert.AxKernelIdeal.τ).loc Cert.AxKernelIdeal.main_arg3) = m ((c.tc : Thread Cert.AxKernelIdeal.nD Cert.AxKernelIdeal.τ).loc Cert.AxKernelIdeal.main_arg3))
      ∧ θ_run (Cert.AxReferenceIdeal.defs (F := Ideal)) (onTc (τ := Cert.AxReferenceIdeal.τ) (Cert.AxReferenceIdeal.main (F := Ideal))) ⟨m', fun _ => 0, g'⟩ (fun r => ∀ c : Dev Cert.AxReferenceIdeal.nD,
          r.2.mem ((c.tc : Thread Cert.AxReferenceIdeal.nD Cert.AxReferenceIdeal.τ).loc Cert.AxReferenceIdeal.main_v23) = v0 c
          ∧ r.2.mem ((c.tc : Thread Cert.AxReferenceIdeal.nD Cert.AxReferenceIdeal.τ).loc Cert.AxReferenceIdeal.main_v4) = v1 c
          ∧ r.2.mem ((c.tc : Thread Cert.AxReferenceIdeal.nD Cert.AxReferenceIdeal.τ).loc Cert.AxReferenceIdeal.main_v10) = v2 c
          ∧ r.2.mem ((c.tc : Thread Cert.AxReferenceIdeal.nD Cert.AxReferenceIdeal.τ).loc Cert.AxReferenceIdeal.main_arg0) = m' ((c.tc : Thread Cert.AxReferenceIdeal.nD Cert.AxReferenceIdeal.τ).loc Cert.AxReferenceIdeal.main_arg0)
          ∧ r.2.mem ((c.tc : Thread Cert.AxReferenceIdeal.nD Cert.AxReferenceIdeal.τ).loc Cert.AxReferenceIdeal.main_arg1) = m' ((c.tc : Thread Cert.AxReferenceIdeal.nD Cert.AxReferenceIdeal.τ).loc Cert.AxReferenceIdeal.main_arg1)
          ∧ r.2.mem ((c.tc : Thread Cert.AxReferenceIdeal.nD Cert.AxReferenceIdeal.τ).loc Cert.AxReferenceIdeal.main_arg2) = m' ((c.tc : Thread Cert.AxReferenceIdeal.nD Cert.AxReferenceIdeal.τ).loc Cert.AxReferenceIdeal.main_arg2)
          ∧ r.2.mem ((c.tc : Thread Cert.AxReferenceIdeal.nD Cert.AxReferenceIdeal.τ).loc Cert.AxReferenceIdeal.main_arg3) = m' ((c.tc : Thread Cert.AxReferenceIdeal.nD Cert.AxReferenceIdeal.τ).loc Cert.AxReferenceIdeal.main_arg3))

def preserves_AiKernel_AiKernelIdeal : Prop :=
  True

def algebraic_AiKernelIdeal_AiReferenceIdeal [hAiKernelIdeal : Cert.AiKernelIdeal.Facts] [hAiReferenceIdeal : Cert.AiReferenceIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg)
    (m' : (ℓ : Loc Cert.AiReferenceIdeal.nD Cert.AiReferenceIdeal.τ Cert.AiReferenceIdeal.sig) → Buf (Elt Ideal) ℓ) (g' : Dev Cert.AiReferenceIdeal.nD → PrngReg), Pre_AiKernelIdeal m →
    (∀ c : Dev Cert.AiKernelIdeal.nD,
      m' ((c.tc : Thread Cert.AiReferenceIdeal.nD Cert.AiReferenceIdeal.τ).loc Cert.AiReferenceIdeal.main_arg0) = m ((c.tc : Thread Cert.AiKernelIdeal.nD Cert.AiKernelIdeal.τ).loc Cert.AiKernelIdeal.main_arg0)
      ∧ m' ((c.tc : Thread Cert.AiReferenceIdeal.nD Cert.AiReferenceIdeal.τ).loc Cert.AiReferenceIdeal.main_arg1) = m ((c.tc : Thread Cert.AiKernelIdeal.nD Cert.AiKernelIdeal.τ).loc Cert.AiKernelIdeal.main_arg1)
      ∧ m' ((c.tc : Thread Cert.AiReferenceIdeal.nD Cert.AiReferenceIdeal.τ).loc Cert.AiReferenceIdeal.main_arg2) = m ((c.tc : Thread Cert.AiKernelIdeal.nD Cert.AiKernelIdeal.τ).loc Cert.AiKernelIdeal.main_arg2)
      ∧ m' ((c.tc : Thread Cert.AiReferenceIdeal.nD Cert.AiReferenceIdeal.τ).loc Cert.AiReferenceIdeal.main_arg3) = m ((c.tc : Thread Cert.AiKernelIdeal.nD Cert.AiKernelIdeal.τ).loc Cert.AiKernelIdeal.main_arg3)) →
    ∃ (v0 : (c : Dev Cert.AiKernelIdeal.nD) → Buf (Elt Ideal) ((c.tc : Thread Cert.AiKernelIdeal.nD Cert.AiKernelIdeal.τ).loc Cert.AiKernelIdeal.main_v4)) (v1 : (c : Dev Cert.AiKernelIdeal.nD) → Buf (Elt Ideal) ((c.tc : Thread Cert.AiKernelIdeal.nD Cert.AiKernelIdeal.τ).loc Cert.AiKernelIdeal.main_v5)) (v2 : (c : Dev Cert.AiKernelIdeal.nD) → Buf (Elt Ideal) ((c.tc : Thread Cert.AiKernelIdeal.nD Cert.AiKernelIdeal.τ).loc Cert.AiKernelIdeal.main_v6)),
      θ_run (Cert.AiKernelIdeal.defs (F := Ideal)) (onTc (τ := Cert.AiKernelIdeal.τ) (Cert.AiKernelIdeal.main (F := Ideal))) ⟨m, fun _ => 0, g⟩ (fun r => ∀ c : Dev Cert.AiKernelIdeal.nD,
          r.2.mem ((c.tc : Thread Cert.AiKernelIdeal.nD Cert.AiKernelIdeal.τ).loc Cert.AiKernelIdeal.main_v4) = v0 c
          ∧ r.2.mem ((c.tc : Thread Cert.AiKernelIdeal.nD Cert.AiKernelIdeal.τ).loc Cert.AiKernelIdeal.main_v5) = v1 c
          ∧ r.2.mem ((c.tc : Thread Cert.AiKernelIdeal.nD Cert.AiKernelIdeal.τ).loc Cert.AiKernelIdeal.main_v6) = v2 c
          ∧ r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
          ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
          ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
          ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3))
      ∧ θ_run (Cert.AiReferenceIdeal.defs (F := Ideal)) (onTc (τ := Cert.AiReferenceIdeal.τ) (Cert.AiReferenceIdeal.main (F := Ideal))) ⟨m', fun _ => 0, g'⟩ (fun r => ∀ c : Dev Cert.AiReferenceIdeal.nD,
          r.2.mem ((c.tc : Thread Cert.AiReferenceIdeal.nD Cert.AiReferenceIdeal.τ).loc Cert.AiReferenceIdeal.main_v25) = v0 c
          ∧ r.2.mem ((c.tc : Thread Cert.AiReferenceIdeal.nD Cert.AiReferenceIdeal.τ).loc Cert.AiReferenceIdeal.main_v6) = v1 c
          ∧ r.2.mem ((c.tc : Thread Cert.AiReferenceIdeal.nD Cert.AiReferenceIdeal.τ).loc Cert.AiReferenceIdeal.main_v12) = v2 c
          ∧ r.2.mem ((c.tc : Thread Cert.AiReferenceIdeal.nD Cert.AiReferenceIdeal.τ).loc Cert.AiReferenceIdeal.main_arg0) = m' ((c.tc : Thread Cert.AiReferenceIdeal.nD Cert.AiReferenceIdeal.τ).loc Cert.AiReferenceIdeal.main_arg0)
          ∧ r.2.mem ((c.tc : Thread Cert.AiReferenceIdeal.nD Cert.AiReferenceIdeal.τ).loc Cert.AiReferenceIdeal.main_arg1) = m' ((c.tc : Thread Cert.AiReferenceIdeal.nD Cert.AiReferenceIdeal.τ).loc Cert.AiReferenceIdeal.main_arg1)
          ∧ r.2.mem ((c.tc : Thread Cert.AiReferenceIdeal.nD Cert.AiReferenceIdeal.τ).loc Cert.AiReferenceIdeal.main_arg2) = m' ((c.tc : Thread Cert.AiReferenceIdeal.nD Cert.AiReferenceIdeal.τ).loc Cert.AiReferenceIdeal.main_arg2)
          ∧ r.2.mem ((c.tc : Thread Cert.AiReferenceIdeal.nD Cert.AiReferenceIdeal.τ).loc Cert.AiReferenceIdeal.main_arg3) = m' ((c.tc : Thread Cert.AiReferenceIdeal.nD Cert.AiReferenceIdeal.τ).loc Cert.AiReferenceIdeal.main_arg3))

def preserves_AkKernel_AkKernelIdeal : Prop :=
  True

def algebraic_AkKernelIdeal_AkReferenceIdeal [hAkKernelIdeal : Cert.AkKernelIdeal.Facts] [hAkReferenceIdeal : Cert.AkReferenceIdeal.Facts] : Prop :=
  ∀ (m : (ℓ : Loc Cert.AkKernelIdeal.nD Cert.AkKernelIdeal.τ Cert.AkKernelIdeal.sig) → Buf (Elt Ideal) ℓ) (g : Dev Cert.AkKernelIdeal.nD → PrngReg)
    (m' : (ℓ : Loc Cert.AkReferenceIdeal.nD Cert.AkReferenceIdeal.τ Cert.AkReferenceIdeal.sig) → Buf (Elt Ideal) ℓ) (g' : Dev Cert.AkReferenceIdeal.nD → PrngReg), Pre_AkKernelIdeal m →
    (∀ c : Dev Cert.AkKernelIdeal.nD,
      m' ((c.tc : Thread Cert.AkReferenceIdeal.nD Cert.AkReferenceIdeal.τ).loc Cert.AkReferenceIdeal.main_arg0) = m ((c.tc : Thread Cert.AkKernelIdeal.nD Cert.AkKernelIdeal.τ).loc Cert.AkKernelIdeal.main_arg0)
      ∧ m' ((c.tc : Thread Cert.AkReferenceIdeal.nD Cert.AkReferenceIdeal.τ).loc Cert.AkReferenceIdeal.main_arg1) = m ((c.tc : Thread Cert.AkKernelIdeal.nD Cert.AkKernelIdeal.τ).loc Cert.AkKernelIdeal.main_arg1)
      ∧ m' ((c.tc : Thread Cert.AkReferenceIdeal.nD Cert.AkReferenceIdeal.τ).loc Cert.AkReferenceIdeal.main_arg2) = m ((c.tc : Thread Cert.AkKernelIdeal.nD Cert.AkKernelIdeal.τ).loc Cert.AkKernelIdeal.main_arg2)
      ∧ m' ((c.tc : Thread Cert.AkReferenceIdeal.nD Cert.AkReferenceIdeal.τ).loc Cert.AkReferenceIdeal.main_arg3) = m ((c.tc : Thread Cert.AkKernelIdeal.nD Cert.AkKernelIdeal.τ).loc Cert.AkKernelIdeal.main_arg3)) →
    ∃ (v0 : (c : Dev Cert.AkKernelIdeal.nD) → Buf (Elt Ideal) ((c.tc : Thread Cert.AkKernelIdeal.nD Cert.AkKernelIdeal.τ).loc Cert.AkKernelIdeal.main_v8)) (v1 : (c : Dev Cert.AkKernelIdeal.nD) → Buf (Elt Ideal) ((c.tc : Thread Cert.AkKernelIdeal.nD Cert.AkKernelIdeal.τ).loc Cert.AkKernelIdeal.main_v10)) (v2 : (c : Dev Cert.AkKernelIdeal.nD) → Buf (Elt Ideal) ((c.tc : Thread Cert.AkKernelIdeal.nD Cert.AkKernelIdeal.τ).loc Cert.AkKernelIdeal.main_v12)),
      θ_run (Cert.AkKernelIdeal.defs (F := Ideal)) (onTc (τ := Cert.AkKernelIdeal.τ) (Cert.AkKernelIdeal.main (F := Ideal))) ⟨m, fun _ => 0, g⟩ (fun r => ∀ c : Dev Cert.AkKernelIdeal.nD,
          r.2.mem ((c.tc : Thread Cert.AkKernelIdeal.nD Cert.AkKernelIdeal.τ).loc Cert.AkKernelIdeal.main_v8) = v0 c
          ∧ r.2.mem ((c.tc : Thread Cert.AkKernelIdeal.nD Cert.AkKernelIdeal.τ).loc Cert.AkKernelIdeal.main_v10) = v1 c
          ∧ r.2.mem ((c.tc : Thread Cert.AkKernelIdeal.nD Cert.AkKernelIdeal.τ).loc Cert.AkKernelIdeal.main_v12) = v2 c
          ∧ r.2.mem ((c.tc : Thread Cert.AkKernelIdeal.nD Cert.AkKernelIdeal.τ).loc Cert.AkKernelIdeal.main_arg0) = m ((c.tc : Thread Cert.AkKernelIdeal.nD Cert.AkKernelIdeal.τ).loc Cert.AkKernelIdeal.main_arg0)
          ∧ r.2.mem ((c.tc : Thread Cert.AkKernelIdeal.nD Cert.AkKernelIdeal.τ).loc Cert.AkKernelIdeal.main_arg1) = m ((c.tc : Thread Cert.AkKernelIdeal.nD Cert.AkKernelIdeal.τ).loc Cert.AkKernelIdeal.main_arg1)
          ∧ r.2.mem ((c.tc : Thread Cert.AkKernelIdeal.nD Cert.AkKernelIdeal.τ).loc Cert.AkKernelIdeal.main_arg2) = m ((c.tc : Thread Cert.AkKernelIdeal.nD Cert.AkKernelIdeal.τ).loc Cert.AkKernelIdeal.main_arg2)
          ∧ r.2.mem ((c.tc : Thread Cert.AkKernelIdeal.nD Cert.AkKernelIdeal.τ).loc Cert.AkKernelIdeal.main_arg3) = m ((c.tc : Thread Cert.AkKernelIdeal.nD Cert.AkKernelIdeal.τ).loc Cert.AkKernelIdeal.main_arg3))
      ∧ θ_run (Cert.AkReferenceIdeal.defs (F := Ideal)) (onTc (τ := Cert.AkReferenceIdeal.τ) (Cert.AkReferenceIdeal.main (F := Ideal))) ⟨m', fun _ => 0, g'⟩ (fun r => ∀ c : Dev Cert.AkReferenceIdeal.nD,
          r.2.mem ((c.tc : Thread Cert.AkReferenceIdeal.nD Cert.AkReferenceIdeal.τ).loc Cert.AkReferenceIdeal.main_v25) = v0 c
          ∧ r.2.mem ((c.tc : Thread Cert.AkReferenceIdeal.nD Cert.AkReferenceIdeal.τ).loc Cert.AkReferenceIdeal.main_v6) = v1 c
          ∧ r.2.mem ((c.tc : Thread Cert.AkReferenceIdeal.nD Cert.AkReferenceIdeal.τ).loc Cert.AkReferenceIdeal.main_v12) = v2 c
          ∧ r.2.mem ((c.tc : Thread Cert.AkReferenceIdeal.nD Cert.AkReferenceIdeal.τ).loc Cert.AkReferenceIdeal.main_arg0) = m' ((c.tc : Thread Cert.AkReferenceIdeal.nD Cert.AkReferenceIdeal.τ).loc Cert.AkReferenceIdeal.main_arg0)
          ∧ r.2.mem ((c.tc : Thread Cert.AkReferenceIdeal.nD Cert.AkReferenceIdeal.τ).loc Cert.AkReferenceIdeal.main_arg1) = m' ((c.tc : Thread Cert.AkReferenceIdeal.nD Cert.AkReferenceIdeal.τ).loc Cert.AkReferenceIdeal.main_arg1)
          ∧ r.2.mem ((c.tc : Thread Cert.AkReferenceIdeal.nD Cert.AkReferenceIdeal.τ).loc Cert.AkReferenceIdeal.main_arg2) = m' ((c.tc : Thread Cert.AkReferenceIdeal.nD Cert.AkReferenceIdeal.τ).loc Cert.AkReferenceIdeal.main_arg2)
          ∧ r.2.mem ((c.tc : Thread Cert.AkReferenceIdeal.nD Cert.AkReferenceIdeal.τ).loc Cert.AkReferenceIdeal.main_arg3) = m' ((c.tc : Thread Cert.AkReferenceIdeal.nD Cert.AkReferenceIdeal.τ).loc Cert.AkReferenceIdeal.main_arg3))

def preserves_AbKernel_AbKernelIdeal : Prop :=
  True

def algebraic_AbKernelIdeal_AbReferenceIdeal [hAbKernelIdeal : Cert.AbKernelIdeal.Facts] [hAbReferenceIdeal : Cert.AbReferenceIdeal.Facts] : Prop :=
  ∀ (m : (ℓ : Loc Cert.AbKernelIdeal.nD Cert.AbKernelIdeal.τ Cert.AbKernelIdeal.sig) → Buf (Elt Ideal) ℓ) (g : Dev Cert.AbKernelIdeal.nD → PrngReg)
    (m' : (ℓ : Loc Cert.AbReferenceIdeal.nD Cert.AbReferenceIdeal.τ Cert.AbReferenceIdeal.sig) → Buf (Elt Ideal) ℓ) (g' : Dev Cert.AbReferenceIdeal.nD → PrngReg), Pre_AbKernelIdeal m →
    (∀ c : Dev Cert.AbKernelIdeal.nD,
      m' ((c.tc : Thread Cert.AbReferenceIdeal.nD Cert.AbReferenceIdeal.τ).loc Cert.AbReferenceIdeal.main_arg0) = m ((c.tc : Thread Cert.AbKernelIdeal.nD Cert.AbKernelIdeal.τ).loc Cert.AbKernelIdeal.main_arg0)
      ∧ m' ((c.tc : Thread Cert.AbReferenceIdeal.nD Cert.AbReferenceIdeal.τ).loc Cert.AbReferenceIdeal.main_arg1) = m ((c.tc : Thread Cert.AbKernelIdeal.nD Cert.AbKernelIdeal.τ).loc Cert.AbKernelIdeal.main_arg1)
      ∧ m' ((c.tc : Thread Cert.AbReferenceIdeal.nD Cert.AbReferenceIdeal.τ).loc Cert.AbReferenceIdeal.main_arg2) = m ((c.tc : Thread Cert.AbKernelIdeal.nD Cert.AbKernelIdeal.τ).loc Cert.AbKernelIdeal.main_arg2)
      ∧ m' ((c.tc : Thread Cert.AbReferenceIdeal.nD Cert.AbReferenceIdeal.τ).loc Cert.AbReferenceIdeal.main_arg3) = m ((c.tc : Thread Cert.AbKernelIdeal.nD Cert.AbKernelIdeal.τ).loc Cert.AbKernelIdeal.main_arg3)) →
    ∃ (v0 : (c : Dev Cert.AbKernelIdeal.nD) → Buf (Elt Ideal) ((c.tc : Thread Cert.AbKernelIdeal.nD Cert.AbKernelIdeal.τ).loc Cert.AbKernelIdeal.main_v4)) (v1 : (c : Dev Cert.AbKernelIdeal.nD) → Buf (Elt Ideal) ((c.tc : Thread Cert.AbKernelIdeal.nD Cert.AbKernelIdeal.τ).loc Cert.AbKernelIdeal.main_v5)) (v2 : (c : Dev Cert.AbKernelIdeal.nD) → Buf (Elt Ideal) ((c.tc : Thread Cert.AbKernelIdeal.nD Cert.AbKernelIdeal.τ).loc Cert.AbKernelIdeal.main_v6)),
      θ_run (Cert.AbKernelIdeal.defs (F := Ideal)) (onTc (τ := Cert.AbKernelIdeal.τ) (Cert.AbKernelIdeal.main (F := Ideal))) ⟨m, fun _ => 0, g⟩ (fun r => ∀ c : Dev Cert.AbKernelIdeal.nD,
          r.2.mem ((c.tc : Thread Cert.AbKernelIdeal.nD Cert.AbKernelIdeal.τ).loc Cert.AbKernelIdeal.main_v4) = v0 c
          ∧ r.2.mem ((c.tc : Thread Cert.AbKernelIdeal.nD Cert.AbKernelIdeal.τ).loc Cert.AbKernelIdeal.main_v5) = v1 c
          ∧ r.2.mem ((c.tc : Thread Cert.AbKernelIdeal.nD Cert.AbKernelIdeal.τ).loc Cert.AbKernelIdeal.main_v6) = v2 c
          ∧ r.2.mem ((c.tc : Thread Cert.AbKernelIdeal.nD Cert.AbKernelIdeal.τ).loc Cert.AbKernelIdeal.main_arg0) = m ((c.tc : Thread Cert.AbKernelIdeal.nD Cert.AbKernelIdeal.τ).loc Cert.AbKernelIdeal.main_arg0)
          ∧ r.2.mem ((c.tc : Thread Cert.AbKernelIdeal.nD Cert.AbKernelIdeal.τ).loc Cert.AbKernelIdeal.main_arg1) = m ((c.tc : Thread Cert.AbKernelIdeal.nD Cert.AbKernelIdeal.τ).loc Cert.AbKernelIdeal.main_arg1)
          ∧ r.2.mem ((c.tc : Thread Cert.AbKernelIdeal.nD Cert.AbKernelIdeal.τ).loc Cert.AbKernelIdeal.main_arg2) = m ((c.tc : Thread Cert.AbKernelIdeal.nD Cert.AbKernelIdeal.τ).loc Cert.AbKernelIdeal.main_arg2)
          ∧ r.2.mem ((c.tc : Thread Cert.AbKernelIdeal.nD Cert.AbKernelIdeal.τ).loc Cert.AbKernelIdeal.main_arg3) = m ((c.tc : Thread Cert.AbKernelIdeal.nD Cert.AbKernelIdeal.τ).loc Cert.AbKernelIdeal.main_arg3))
      ∧ θ_run (Cert.AbReferenceIdeal.defs (F := Ideal)) (onTc (τ := Cert.AbReferenceIdeal.τ) (Cert.AbReferenceIdeal.main (F := Ideal))) ⟨m', fun _ => 0, g'⟩ (fun r => ∀ c : Dev Cert.AbReferenceIdeal.nD,
          r.2.mem ((c.tc : Thread Cert.AbReferenceIdeal.nD Cert.AbReferenceIdeal.τ).loc Cert.AbReferenceIdeal.main_v24) = v0 c
          ∧ r.2.mem ((c.tc : Thread Cert.AbReferenceIdeal.nD Cert.AbReferenceIdeal.τ).loc Cert.AbReferenceIdeal.main_v5) = v1 c
          ∧ r.2.mem ((c.tc : Thread Cert.AbReferenceIdeal.nD Cert.AbReferenceIdeal.τ).loc Cert.AbReferenceIdeal.main_v11) = v2 c
          ∧ r.2.mem ((c.tc : Thread Cert.AbReferenceIdeal.nD Cert.AbReferenceIdeal.τ).loc Cert.AbReferenceIdeal.main_arg0) = m' ((c.tc : Thread Cert.AbReferenceIdeal.nD Cert.AbReferenceIdeal.τ).loc Cert.AbReferenceIdeal.main_arg0)
          ∧ r.2.mem ((c.tc : Thread Cert.AbReferenceIdeal.nD Cert.AbReferenceIdeal.τ).loc Cert.AbReferenceIdeal.main_arg1) = m' ((c.tc : Thread Cert.AbReferenceIdeal.nD Cert.AbReferenceIdeal.τ).loc Cert.AbReferenceIdeal.main_arg1)
          ∧ r.2.mem ((c.tc : Thread Cert.AbReferenceIdeal.nD Cert.AbReferenceIdeal.τ).loc Cert.AbReferenceIdeal.main_arg2) = m' ((c.tc : Thread Cert.AbReferenceIdeal.nD Cert.AbReferenceIdeal.τ).loc Cert.AbReferenceIdeal.main_arg2)
          ∧ r.2.mem ((c.tc : Thread Cert.AbReferenceIdeal.nD Cert.AbReferenceIdeal.τ).loc Cert.AbReferenceIdeal.main_arg3) = m' ((c.tc : Thread Cert.AbReferenceIdeal.nD Cert.AbReferenceIdeal.τ).loc Cert.AbReferenceIdeal.main_arg3))

def preserves_ApKernel_ApKernelIdeal : Prop :=
  True

def algebraic_ApKernelIdeal_ApReferenceIdeal [hApKernelIdeal : Cert.ApKernelIdeal.Facts] [hApReferenceIdeal : Cert.ApReferenceIdeal.Facts] : Prop :=
  ∀ (m : (ℓ : Loc Cert.ApKernelIdeal.nD Cert.ApKernelIdeal.τ Cert.ApKernelIdeal.sig) → Buf (Elt Ideal) ℓ) (g : Dev Cert.ApKernelIdeal.nD → PrngReg)
    (m' : (ℓ : Loc Cert.ApReferenceIdeal.nD Cert.ApReferenceIdeal.τ Cert.ApReferenceIdeal.sig) → Buf (Elt Ideal) ℓ) (g' : Dev Cert.ApReferenceIdeal.nD → PrngReg), Pre_ApKernelIdeal m →
    (∀ c : Dev Cert.ApKernelIdeal.nD,
      m' ((c.tc : Thread Cert.ApReferenceIdeal.nD Cert.ApReferenceIdeal.τ).loc Cert.ApReferenceIdeal.main_arg0) = m ((c.tc : Thread Cert.ApKernelIdeal.nD Cert.ApKernelIdeal.τ).loc Cert.ApKernelIdeal.main_arg0)
      ∧ m' ((c.tc : Thread Cert.ApReferenceIdeal.nD Cert.ApReferenceIdeal.τ).loc Cert.ApReferenceIdeal.main_arg1) = m ((c.tc : Thread Cert.ApKernelIdeal.nD Cert.ApKernelIdeal.τ).loc Cert.ApKernelIdeal.main_arg1)
      ∧ m' ((c.tc : Thread Cert.ApReferenceIdeal.nD Cert.ApReferenceIdeal.τ).loc Cert.ApReferenceIdeal.main_arg2) = m ((c.tc : Thread Cert.ApKernelIdeal.nD Cert.ApKernelIdeal.τ).loc Cert.ApKernelIdeal.main_arg2)
      ∧ m' ((c.tc : Thread Cert.ApReferenceIdeal.nD Cert.ApReferenceIdeal.τ).loc Cert.ApReferenceIdeal.main_arg3) = m ((c.tc : Thread Cert.ApKernelIdeal.nD Cert.ApKernelIdeal.τ).loc Cert.ApKernelIdeal.main_arg3)) →
    ∃ (v0 : (c : Dev Cert.ApKernelIdeal.nD) → Buf (Elt Ideal) ((c.tc : Thread Cert.ApKernelIdeal.nD Cert.ApKernelIdeal.τ).loc Cert.ApKernelIdeal.main_v8)) (v1 : (c : Dev Cert.ApKernelIdeal.nD) → Buf (Elt Ideal) ((c.tc : Thread Cert.ApKernelIdeal.nD Cert.ApKernelIdeal.τ).loc Cert.ApKernelIdeal.main_v10)) (v2 : (c : Dev Cert.ApKernelIdeal.nD) → Buf (Elt Ideal) ((c.tc : Thread Cert.ApKernelIdeal.nD Cert.ApKernelIdeal.τ).loc Cert.ApKernelIdeal.main_v12)),
      θ_run (Cert.ApKernelIdeal.defs (F := Ideal)) (onTc (τ := Cert.ApKernelIdeal.τ) (Cert.ApKernelIdeal.main (F := Ideal))) ⟨m, fun _ => 0, g⟩ (fun r => ∀ c : Dev Cert.ApKernelIdeal.nD,
          r.2.mem ((c.tc : Thread Cert.ApKernelIdeal.nD Cert.ApKernelIdeal.τ).loc Cert.ApKernelIdeal.main_v8) = v0 c
          ∧ r.2.mem ((c.tc : Thread Cert.ApKernelIdeal.nD Cert.ApKernelIdeal.τ).loc Cert.ApKernelIdeal.main_v10) = v1 c
          ∧ r.2.mem ((c.tc : Thread Cert.ApKernelIdeal.nD Cert.ApKernelIdeal.τ).loc Cert.ApKernelIdeal.main_v12) = v2 c
          ∧ r.2.mem ((c.tc : Thread Cert.ApKernelIdeal.nD Cert.ApKernelIdeal.τ).loc Cert.ApKernelIdeal.main_arg0) = m ((c.tc : Thread Cert.ApKernelIdeal.nD Cert.ApKernelIdeal.τ).loc Cert.ApKernelIdeal.main_arg0)
          ∧ r.2.mem ((c.tc : Thread Cert.ApKernelIdeal.nD Cert.ApKernelIdeal.τ).loc Cert.ApKernelIdeal.main_arg1) = m ((c.tc : Thread Cert.ApKernelIdeal.nD Cert.ApKernelIdeal.τ).loc Cert.ApKernelIdeal.main_arg1)
          ∧ r.2.mem ((c.tc : Thread Cert.ApKernelIdeal.nD Cert.ApKernelIdeal.τ).loc Cert.ApKernelIdeal.main_arg2) = m ((c.tc : Thread Cert.ApKernelIdeal.nD Cert.ApKernelIdeal.τ).loc Cert.ApKernelIdeal.main_arg2)
          ∧ r.2.mem ((c.tc : Thread Cert.ApKernelIdeal.nD Cert.ApKernelIdeal.τ).loc Cert.ApKernelIdeal.main_arg3) = m ((c.tc : Thread Cert.ApKernelIdeal.nD Cert.ApKernelIdeal.τ).loc Cert.ApKernelIdeal.main_arg3))
      ∧ θ_run (Cert.ApReferenceIdeal.defs (F := Ideal)) (onTc (τ := Cert.ApReferenceIdeal.τ) (Cert.ApReferenceIdeal.main (F := Ideal))) ⟨m', fun _ => 0, g'⟩ (fun r => ∀ c : Dev Cert.ApReferenceIdeal.nD,
          r.2.mem ((c.tc : Thread Cert.ApReferenceIdeal.nD Cert.ApReferenceIdeal.τ).loc Cert.ApReferenceIdeal.main_v25) = v0 c
          ∧ r.2.mem ((c.tc : Thread Cert.ApReferenceIdeal.nD Cert.ApReferenceIdeal.τ).loc Cert.ApReferenceIdeal.main_v6) = v1 c
          ∧ r.2.mem ((c.tc : Thread Cert.ApReferenceIdeal.nD Cert.ApReferenceIdeal.τ).loc Cert.ApReferenceIdeal.main_v12) = v2 c
          ∧ r.2.mem ((c.tc : Thread Cert.ApReferenceIdeal.nD Cert.ApReferenceIdeal.τ).loc Cert.ApReferenceIdeal.main_arg0) = m' ((c.tc : Thread Cert.ApReferenceIdeal.nD Cert.ApReferenceIdeal.τ).loc Cert.ApReferenceIdeal.main_arg0)
          ∧ r.2.mem ((c.tc : Thread Cert.ApReferenceIdeal.nD Cert.ApReferenceIdeal.τ).loc Cert.ApReferenceIdeal.main_arg1) = m' ((c.tc : Thread Cert.ApReferenceIdeal.nD Cert.ApReferenceIdeal.τ).loc Cert.ApReferenceIdeal.main_arg1)
          ∧ r.2.mem ((c.tc : Thread Cert.ApReferenceIdeal.nD Cert.ApReferenceIdeal.τ).loc Cert.ApReferenceIdeal.main_arg2) = m' ((c.tc : Thread Cert.ApReferenceIdeal.nD Cert.ApReferenceIdeal.τ).loc Cert.ApReferenceIdeal.main_arg2)
          ∧ r.2.mem ((c.tc : Thread Cert.ApReferenceIdeal.nD Cert.ApReferenceIdeal.τ).loc Cert.ApReferenceIdeal.main_arg3) = m' ((c.tc : Thread Cert.ApReferenceIdeal.nD Cert.ApReferenceIdeal.τ).loc Cert.ApReferenceIdeal.main_arg3))

def preserves_AoKernel_AoKernelIdeal : Prop :=
  True

def algebraic_AoKernelIdeal_AoReferenceIdeal [hAoKernelIdeal : Cert.AoKernelIdeal.Facts] [hAoReferenceIdeal : Cert.AoReferenceIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg)
    (m' : (ℓ : Loc Cert.AoReferenceIdeal.nD Cert.AoReferenceIdeal.τ Cert.AoReferenceIdeal.sig) → Buf (Elt Ideal) ℓ) (g' : Dev Cert.AoReferenceIdeal.nD → PrngReg), Pre_AoKernelIdeal m →
    (∀ c : Dev Cert.AoKernelIdeal.nD,
      m' ((c.tc : Thread Cert.AoReferenceIdeal.nD Cert.AoReferenceIdeal.τ).loc Cert.AoReferenceIdeal.main_arg0) = m ((c.tc : Thread Cert.AoKernelIdeal.nD Cert.AoKernelIdeal.τ).loc Cert.AoKernelIdeal.main_arg0)
      ∧ m' ((c.tc : Thread Cert.AoReferenceIdeal.nD Cert.AoReferenceIdeal.τ).loc Cert.AoReferenceIdeal.main_arg1) = m ((c.tc : Thread Cert.AoKernelIdeal.nD Cert.AoKernelIdeal.τ).loc Cert.AoKernelIdeal.main_arg1)
      ∧ m' ((c.tc : Thread Cert.AoReferenceIdeal.nD Cert.AoReferenceIdeal.τ).loc Cert.AoReferenceIdeal.main_arg2) = m ((c.tc : Thread Cert.AoKernelIdeal.nD Cert.AoKernelIdeal.τ).loc Cert.AoKernelIdeal.main_arg2)
      ∧ m' ((c.tc : Thread Cert.AoReferenceIdeal.nD Cert.AoReferenceIdeal.τ).loc Cert.AoReferenceIdeal.main_arg3) = m ((c.tc : Thread Cert.AoKernelIdeal.nD Cert.AoKernelIdeal.τ).loc Cert.AoKernelIdeal.main_arg3)) →
    ∃ (v0 : (c : Dev Cert.AoKernelIdeal.nD) → Buf (Elt Ideal) ((c.tc : Thread Cert.AoKernelIdeal.nD Cert.AoKernelIdeal.τ).loc Cert.AoKernelIdeal.main_v4)) (v1 : (c : Dev Cert.AoKernelIdeal.nD) → Buf (Elt Ideal) ((c.tc : Thread Cert.AoKernelIdeal.nD Cert.AoKernelIdeal.τ).loc Cert.AoKernelIdeal.main_v5)) (v2 : (c : Dev Cert.AoKernelIdeal.nD) → Buf (Elt Ideal) ((c.tc : Thread Cert.AoKernelIdeal.nD Cert.AoKernelIdeal.τ).loc Cert.AoKernelIdeal.main_v6)),
      θ_run (Cert.AoKernelIdeal.defs (F := Ideal)) (onTc (τ := Cert.AoKernelIdeal.τ) (Cert.AoKernelIdeal.main (F := Ideal))) ⟨m, fun _ => 0, g⟩ (fun r => ∀ c : Dev Cert.AoKernelIdeal.nD,
          r.2.mem ((c.tc : Thread Cert.AoKernelIdeal.nD Cert.AoKernelIdeal.τ).loc Cert.AoKernelIdeal.main_v4) = v0 c
          ∧ r.2.mem ((c.tc : Thread Cert.AoKernelIdeal.nD Cert.AoKernelIdeal.τ).loc Cert.AoKernelIdeal.main_v5) = v1 c
          ∧ r.2.mem ((c.tc : Thread Cert.AoKernelIdeal.nD Cert.AoKernelIdeal.τ).loc Cert.AoKernelIdeal.main_v6) = v2 c
          ∧ r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
          ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
          ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
          ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ θ_run (Cert.AoReferenceIdeal.defs (F := Ideal)) (onTc (τ := Cert.AoReferenceIdeal.τ) (Cert.AoReferenceIdeal.main (F := Ideal))) ⟨m', fun _ => 0, g'⟩ (fun r => ∀ c : Dev Cert.AoReferenceIdeal.nD,
          r.2.mem ((c.tc : Thread Cert.AoReferenceIdeal.nD Cert.AoReferenceIdeal.τ).loc Cert.AoReferenceIdeal.main_v24) = v0 c
          ∧ r.2.mem ((c.tc : Thread Cert.AoReferenceIdeal.nD Cert.AoReferenceIdeal.τ).loc Cert.AoReferenceIdeal.main_v5) = v1 c
          ∧ r.2.mem ((c.tc : Thread Cert.AoReferenceIdeal.nD Cert.AoReferenceIdeal.τ).loc Cert.AoReferenceIdeal.main_v11) = v2 c
          ∧ r.2.mem ((c.tc : Thread Cert.AoReferenceIdeal.nD Cert.AoReferenceIdeal.τ).loc Cert.AoReferenceIdeal.main_arg0) = m' ((c.tc : Thread Cert.AoReferenceIdeal.nD Cert.AoReferenceIdeal.τ).loc Cert.AoReferenceIdeal.main_arg0)
          ∧ r.2.mem ((c.tc : Thread Cert.AoReferenceIdeal.nD Cert.AoReferenceIdeal.τ).loc Cert.AoReferenceIdeal.main_arg1) = m' ((c.tc : Thread Cert.AoReferenceIdeal.nD Cert.AoReferenceIdeal.τ).loc Cert.AoReferenceIdeal.main_arg1)
          ∧ r.2.mem ((c.tc : Thread Cert.AoReferenceIdeal.nD Cert.AoReferenceIdeal.τ).loc Cert.AoReferenceIdeal.main_arg2) = m' ((c.tc : Thread Cert.AoReferenceIdeal.nD Cert.AoReferenceIdeal.τ).loc Cert.AoReferenceIdeal.main_arg2)
          ∧ r.2.mem ((c.tc : Thread Cert.AoReferenceIdeal.nD Cert.AoReferenceIdeal.τ).loc Cert.AoReferenceIdeal.main_arg3) = m' ((c.tc : Thread Cert.AoReferenceIdeal.nD Cert.AoReferenceIdeal.τ).loc Cert.AoReferenceIdeal.main_arg3))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hGwKernel : Cert.GwKernel.Facts) (hGwKernelIdeal : Cert.GwKernelIdeal.Facts) (hGwReferenceIdeal : Cert.GwReferenceIdeal.Facts) (hDyKernel : Cert.DyKernel.Facts) (hDyKernelIdeal : Cert.DyKernelIdeal.Facts) (hDyReferenceIdeal : Cert.DyReferenceIdeal.Facts) (hGbKernel : Cert.GbKernel.Facts) (hGbKernelIdeal : Cert.GbKernelIdeal.Facts) (hGbReferenceIdeal : Cert.GbReferenceIdeal.Facts) (hRmsKernel : Cert.RmsKernel.Facts) (hRmsKernelIdeal : Cert.RmsKernelIdeal.Facts) (hRmsReferenceIdeal : Cert.RmsReferenceIdeal.Facts) (hH1Kernel : Cert.H1Kernel.Facts) (hH1KernelIdeal : Cert.H1KernelIdeal.Facts) (hH1ReferenceIdeal : Cert.H1ReferenceIdeal.Facts) (hDyxKernel : Cert.DyxKernel.Facts) (hDyxKernelIdeal : Cert.DyxKernelIdeal.Facts) (hDyxReferenceIdeal : Cert.DyxReferenceIdeal.Facts) (hGoKernel : Cert.GoKernel.Facts) (hGoKernelIdeal : Cert.GoKernelIdeal.Facts) (hGoReferenceIdeal : Cert.GoReferenceIdeal.Facts) (hX1Kernel : Cert.X1Kernel.Facts) (hX1KernelIdeal : Cert.X1KernelIdeal.Facts) (hX1ReferenceIdeal : Cert.X1ReferenceIdeal.Facts) (hMergeKernel : Cert.MergeKernel.Facts) (hMergeKernelIdeal : Cert.MergeKernelIdeal.Facts) (hMergeReferenceIdeal : Cert.MergeReferenceIdeal.Facts) (hLossKernel : Cert.LossKernel.Facts) (hLossKernelIdeal : Cert.LossKernelIdeal.Facts) (hLossReferenceIdeal : Cert.LossReferenceIdeal.Facts) (hXfKernel : Cert.XfKernel.Facts) (hXfKernelIdeal : Cert.XfKernelIdeal.Facts) (hXfReferenceIdeal : Cert.XfReferenceIdeal.Facts) (hKvKernel : Cert.KvKernel.Facts) (hKvKernelIdeal : Cert.KvKernelIdeal.Facts) (hKvReferenceIdeal : Cert.KvReferenceIdeal.Facts) (hGkvKernel : Cert.GkvKernel.Facts) (hGkvKernelIdeal : Cert.GkvKernelIdeal.Facts) (hGkvReferenceIdeal : Cert.GkvReferenceIdeal.Facts) (hDmKernel : Cert.DmKernel.Facts) (hDmKernelIdeal : Cert.DmKernelIdeal.Facts) (hDmReferenceIdeal : Cert.DmReferenceIdeal.Facts) (hZffKernel : Cert.ZffKernel.Facts) (hZffKernelIdeal : Cert.ZffKernelIdeal.Facts) (hZffReferenceIdeal : Cert.ZffReferenceIdeal.Facts) (hNfKernel : Cert.NfKernel.Facts) (hNfKernelIdeal : Cert.NfKernelIdeal.Facts) (hNfReferenceIdeal : Cert.NfReferenceIdeal.Facts) (hAnKernel : Cert.AnKernel.Facts) (hAnKernelIdeal : Cert.AnKernelIdeal.Facts) (hAnReferenceIdeal : Cert.AnReferenceIdeal.Facts) (hAcKernel : Cert.AcKernel.Facts) (hAcKernelIdeal : Cert.AcKernelIdeal.Facts) (hAcReferenceIdeal : Cert.AcReferenceIdeal.Facts) (hAfKernel : Cert.AfKernel.Facts) (hAfKernelIdeal : Cert.AfKernelIdeal.Facts) (hAfReferenceIdeal : Cert.AfReferenceIdeal.Facts) (hAgKernel : Cert.AgKernel.Facts) (hAgKernelIdeal : Cert.AgKernelIdeal.Facts) (hAgReferenceIdeal : Cert.AgReferenceIdeal.Facts) (hAxKernel : Cert.AxKernel.Facts) (hAxKernelIdeal : Cert.AxKernelIdeal.Facts) (hAxReferenceIdeal : Cert.AxReferenceIdeal.Facts) (hAiKernel : Cert.AiKernel.Facts) (hAiKernelIdeal : Cert.AiKernelIdeal.Facts) (hAiReferenceIdeal : Cert.AiReferenceIdeal.Facts) (hAkKernel : Cert.AkKernel.Facts) (hAkKernelIdeal : Cert.AkKernelIdeal.Facts) (hAkReferenceIdeal : Cert.AkReferenceIdeal.Facts) (hAbKernel : Cert.AbKernel.Facts) (hAbKernelIdeal : Cert.AbKernelIdeal.Facts) (hAbReferenceIdeal : Cert.AbReferenceIdeal.Facts) (hApKernel : Cert.ApKernel.Facts) (hApKernelIdeal : Cert.ApKernelIdeal.Facts) (hApReferenceIdeal : Cert.ApReferenceIdeal.Facts) (hAoKernel : Cert.AoKernel.Facts) (hAoKernelIdeal : Cert.AoKernelIdeal.Facts) (hAoReferenceIdeal : Cert.AoReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_GwKernel (hGwKernel := hGwKernel)
    ∧ quiescent_GwKernelIdeal (hGwKernelIdeal := hGwKernelIdeal)
    ∧ quiescent_GwReferenceIdeal (hGwReferenceIdeal := hGwReferenceIdeal)
    ∧ quiescent_DyKernel (hDyKernel := hDyKernel)
    ∧ quiescent_DyKernelIdeal (hDyKernelIdeal := hDyKernelIdeal)
    ∧ quiescent_DyReferenceIdeal (hDyReferenceIdeal := hDyReferenceIdeal)
    ∧ quiescent_GbKernel (hGbKernel := hGbKernel)
    ∧ quiescent_GbKernelIdeal (hGbKernelIdeal := hGbKernelIdeal)
    ∧ quiescent_GbReferenceIdeal (hGbReferenceIdeal := hGbReferenceIdeal)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_H1Kernel (hH1Kernel := hH1Kernel)
    ∧ quiescent_H1KernelIdeal (hH1KernelIdeal := hH1KernelIdeal)
    ∧ quiescent_H1ReferenceIdeal (hH1ReferenceIdeal := hH1ReferenceIdeal)
    ∧ quiescent_DyxKernel (hDyxKernel := hDyxKernel)
    ∧ quiescent_DyxKernelIdeal (hDyxKernelIdeal := hDyxKernelIdeal)
    ∧ quiescent_DyxReferenceIdeal (hDyxReferenceIdeal := hDyxReferenceIdeal)
    ∧ quiescent_GoKernel (hGoKernel := hGoKernel)
    ∧ quiescent_GoKernelIdeal (hGoKernelIdeal := hGoKernelIdeal)
    ∧ quiescent_GoReferenceIdeal (hGoReferenceIdeal := hGoReferenceIdeal)
    ∧ quiescent_X1Kernel (hX1Kernel := hX1Kernel)
    ∧ quiescent_X1KernelIdeal (hX1KernelIdeal := hX1KernelIdeal)
    ∧ quiescent_X1ReferenceIdeal (hX1ReferenceIdeal := hX1ReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_XfKernel (hXfKernel := hXfKernel)
    ∧ quiescent_XfKernelIdeal (hXfKernelIdeal := hXfKernelIdeal)
    ∧ quiescent_XfReferenceIdeal (hXfReferenceIdeal := hXfReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_GkvKernel (hGkvKernel := hGkvKernel)
    ∧ quiescent_GkvKernelIdeal (hGkvKernelIdeal := hGkvKernelIdeal)
    ∧ quiescent_GkvReferenceIdeal (hGkvReferenceIdeal := hGkvReferenceIdeal)
    ∧ quiescent_DmKernel (hDmKernel := hDmKernel)
    ∧ quiescent_DmKernelIdeal (hDmKernelIdeal := hDmKernelIdeal)
    ∧ quiescent_DmReferenceIdeal (hDmReferenceIdeal := hDmReferenceIdeal)
    ∧ quiescent_ZffKernel (hZffKernel := hZffKernel)
    ∧ quiescent_ZffKernelIdeal (hZffKernelIdeal := hZffKernelIdeal)
    ∧ quiescent_ZffReferenceIdeal (hZffReferenceIdeal := hZffReferenceIdeal)
    ∧ quiescent_NfKernel (hNfKernel := hNfKernel)
    ∧ quiescent_NfKernelIdeal (hNfKernelIdeal := hNfKernelIdeal)
    ∧ quiescent_NfReferenceIdeal (hNfReferenceIdeal := hNfReferenceIdeal)
    ∧ quiescent_AnKernel (hAnKernel := hAnKernel)
    ∧ quiescent_AnKernelIdeal (hAnKernelIdeal := hAnKernelIdeal)
    ∧ quiescent_AnReferenceIdeal (hAnReferenceIdeal := hAnReferenceIdeal)
    ∧ quiescent_AcKernel (hAcKernel := hAcKernel)
    ∧ quiescent_AcKernelIdeal (hAcKernelIdeal := hAcKernelIdeal)
    ∧ quiescent_AcReferenceIdeal (hAcReferenceIdeal := hAcReferenceIdeal)
    ∧ quiescent_AfKernel (hAfKernel := hAfKernel)
    ∧ quiescent_AfKernelIdeal (hAfKernelIdeal := hAfKernelIdeal)
    ∧ quiescent_AfReferenceIdeal (hAfReferenceIdeal := hAfReferenceIdeal)
    ∧ quiescent_AgKernel (hAgKernel := hAgKernel)
    ∧ quiescent_AgKernelIdeal (hAgKernelIdeal := hAgKernelIdeal)
    ∧ quiescent_AgReferenceIdeal (hAgReferenceIdeal := hAgReferenceIdeal)
    ∧ quiescent_AxKernel (hAxKernel := hAxKernel)
    ∧ quiescent_AxKernelIdeal (hAxKernelIdeal := hAxKernelIdeal)
    ∧ quiescent_AxReferenceIdeal (hAxReferenceIdeal := hAxReferenceIdeal)
    ∧ quiescent_AiKernel (hAiKernel := hAiKernel)
    ∧ quiescent_AiKernelIdeal (hAiKernelIdeal := hAiKernelIdeal)
    ∧ quiescent_AiReferenceIdeal (hAiReferenceIdeal := hAiReferenceIdeal)
    ∧ quiescent_AkKernel (hAkKernel := hAkKernel)
    ∧ quiescent_AkKernelIdeal (hAkKernelIdeal := hAkKernelIdeal)
    ∧ quiescent_AkReferenceIdeal (hAkReferenceIdeal := hAkReferenceIdeal)
    ∧ quiescent_AbKernel (hAbKernel := hAbKernel)
    ∧ quiescent_AbKernelIdeal (hAbKernelIdeal := hAbKernelIdeal)
    ∧ quiescent_AbReferenceIdeal (hAbReferenceIdeal := hAbReferenceIdeal)
    ∧ quiescent_ApKernel (hApKernel := hApKernel)
    ∧ quiescent_ApKernelIdeal (hApKernelIdeal := hApKernelIdeal)
    ∧ quiescent_ApReferenceIdeal (hApReferenceIdeal := hApReferenceIdeal)
    ∧ quiescent_AoKernel (hAoKernel := hAoKernel)
    ∧ quiescent_AoKernelIdeal (hAoKernelIdeal := hAoKernelIdeal)
    ∧ quiescent_AoReferenceIdeal (hAoReferenceIdeal := hAoReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_GwKernel_GwKernelIdeal
    ∧ algebraic_GwKernelIdeal_GwReferenceIdeal (hGwKernelIdeal := hGwKernelIdeal) (hGwReferenceIdeal := hGwReferenceIdeal)
    ∧ preserves_DyKernel_DyKernelIdeal
    ∧ algebraic_DyKernelIdeal_DyReferenceIdeal (hDyKernelIdeal := hDyKernelIdeal) (hDyReferenceIdeal := hDyReferenceIdeal)
    ∧ preserves_GbKernel_GbKernelIdeal
    ∧ algebraic_GbKernelIdeal_GbReferenceIdeal (hGbKernelIdeal := hGbKernelIdeal) (hGbReferenceIdeal := hGbReferenceIdeal)
    ∧ preserves_RmsKernel_RmsKernelIdeal
    ∧ algebraic_RmsKernelIdeal_RmsReferenceIdeal (hRmsKernelIdeal := hRmsKernelIdeal) (hRmsReferenceIdeal := hRmsReferenceIdeal)
    ∧ preserves_H1Kernel_H1KernelIdeal
    ∧ algebraic_H1KernelIdeal_H1ReferenceIdeal (hH1KernelIdeal := hH1KernelIdeal) (hH1ReferenceIdeal := hH1ReferenceIdeal)
    ∧ preserves_DyxKernel_DyxKernelIdeal
    ∧ algebraic_DyxKernelIdeal_DyxReferenceIdeal (hDyxKernelIdeal := hDyxKernelIdeal) (hDyxReferenceIdeal := hDyxReferenceIdeal)
    ∧ preserves_GoKernel_GoKernelIdeal
    ∧ algebraic_GoKernelIdeal_GoReferenceIdeal (hGoKernelIdeal := hGoKernelIdeal) (hGoReferenceIdeal := hGoReferenceIdeal)
    ∧ preserves_X1Kernel_X1KernelIdeal
    ∧ algebraic_X1KernelIdeal_X1ReferenceIdeal (hX1KernelIdeal := hX1KernelIdeal) (hX1ReferenceIdeal := hX1ReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_LossKernel_LossKernelIdeal
    ∧ algebraic_LossKernelIdeal_LossReferenceIdeal (hLossKernelIdeal := hLossKernelIdeal) (hLossReferenceIdeal := hLossReferenceIdeal)
    ∧ preserves_XfKernel_XfKernelIdeal
    ∧ algebraic_XfKernelIdeal_XfReferenceIdeal (hXfKernelIdeal := hXfKernelIdeal) (hXfReferenceIdeal := hXfReferenceIdeal)
    ∧ preserves_KvKernel_KvKernelIdeal
    ∧ algebraic_KvKernelIdeal_KvReferenceIdeal (hKvKernelIdeal := hKvKernelIdeal) (hKvReferenceIdeal := hKvReferenceIdeal)
    ∧ preserves_GkvKernel_GkvKernelIdeal
    ∧ algebraic_GkvKernelIdeal_GkvReferenceIdeal (hGkvKernelIdeal := hGkvKernelIdeal) (hGkvReferenceIdeal := hGkvReferenceIdeal)
    ∧ preserves_DmKernel_DmKernelIdeal
    ∧ algebraic_DmKernelIdeal_DmReferenceIdeal (hDmKernelIdeal := hDmKernelIdeal) (hDmReferenceIdeal := hDmReferenceIdeal)
    ∧ preserves_ZffKernel_ZffKernelIdeal
    ∧ algebraic_ZffKernelIdeal_ZffReferenceIdeal (hZffKernelIdeal := hZffKernelIdeal) (hZffReferenceIdeal := hZffReferenceIdeal)
    ∧ preserves_NfKernel_NfKernelIdeal
    ∧ algebraic_NfKernelIdeal_NfReferenceIdeal (hNfKernelIdeal := hNfKernelIdeal) (hNfReferenceIdeal := hNfReferenceIdeal)
    ∧ preserves_AnKernel_AnKernelIdeal
    ∧ algebraic_AnKernelIdeal_AnReferenceIdeal (hAnKernelIdeal := hAnKernelIdeal) (hAnReferenceIdeal := hAnReferenceIdeal)
    ∧ preserves_AcKernel_AcKernelIdeal
    ∧ algebraic_AcKernelIdeal_AcReferenceIdeal (hAcKernelIdeal := hAcKernelIdeal) (hAcReferenceIdeal := hAcReferenceIdeal)
    ∧ preserves_AfKernel_AfKernelIdeal
    ∧ algebraic_AfKernelIdeal_AfReferenceIdeal (hAfKernelIdeal := hAfKernelIdeal) (hAfReferenceIdeal := hAfReferenceIdeal)
    ∧ preserves_AgKernel_AgKernelIdeal
    ∧ algebraic_AgKernelIdeal_AgReferenceIdeal (hAgKernelIdeal := hAgKernelIdeal) (hAgReferenceIdeal := hAgReferenceIdeal)
    ∧ preserves_AxKernel_AxKernelIdeal
    ∧ algebraic_AxKernelIdeal_AxReferenceIdeal (hAxKernelIdeal := hAxKernelIdeal) (hAxReferenceIdeal := hAxReferenceIdeal)
    ∧ preserves_AiKernel_AiKernelIdeal
    ∧ algebraic_AiKernelIdeal_AiReferenceIdeal (hAiKernelIdeal := hAiKernelIdeal) (hAiReferenceIdeal := hAiReferenceIdeal)
    ∧ preserves_AkKernel_AkKernelIdeal
    ∧ algebraic_AkKernelIdeal_AkReferenceIdeal (hAkKernelIdeal := hAkKernelIdeal) (hAkReferenceIdeal := hAkReferenceIdeal)
    ∧ preserves_AbKernel_AbKernelIdeal
    ∧ algebraic_AbKernelIdeal_AbReferenceIdeal (hAbKernelIdeal := hAbKernelIdeal) (hAbReferenceIdeal := hAbReferenceIdeal)
    ∧ preserves_ApKernel_ApKernelIdeal
    ∧ algebraic_ApKernelIdeal_ApReferenceIdeal (hApKernelIdeal := hApKernelIdeal) (hApReferenceIdeal := hApReferenceIdeal)
    ∧ preserves_AoKernel_AoKernelIdeal
    ∧ algebraic_AoKernelIdeal_AoReferenceIdeal (hAoKernelIdeal := hAoKernelIdeal) (hAoReferenceIdeal := hAoReferenceIdeal)
-- ==== Pre_finite.lean ====
abbrev S4096x10240 : Shape := ⟨2, ![4096, 10240]⟩
abbrev S512x1024 : Shape := ⟨2, ![512, 1024]⟩
abbrev S1x256 : Shape := ⟨2, ![1, 256]⟩
abbrev S4096x1024 : Shape := ⟨2, ![4096, 1024]⟩
abbrev S4096x10368 : Shape := ⟨2, ![4096, 10368]⟩
abbrev S_ : Shape := ⟨0, ![]⟩

class Facts : Prop where
  slices_S4096x10240_S4096x1024_0_6144 : S4096x10240.Slices ![0, 6144] S4096x1024
  bcast_S_S4096x1024 : S_.BroadcastsInDim S4096x1024 (![] : Fin 0 → Fin S4096x1024.rank)
  bcast_S_S512x1024 : S_.BroadcastsInDim S512x1024 (![] : Fin 0 → Fin S512x1024.rank)
  bcast_S_S1x256 : S_.BroadcastsInDim S1x256 (![] : Fin 0 → Fin S1x256.rank)

variable [Facts]

def fn {F : FTy → Type} [FloatOps F] (main_arg0 : FVec F S4096x10240 .bf16) (main_arg1 : FVec F S512x1024 .bf16) (main_arg2 : FVec F S512x1024 .bf16) (main_arg3 : FVec F S1x256 .f32) (main_arg4 : FVec F S4096x1024 .bf16) (main_arg5 : FVec F S4096x10368 .bf16) : IVec S4096x1024 1 × IVec S512x1024 1 × IVec S1x256 1 :=
  let main_v0 : FVec F S4096x1024 .bf16 := (extractStridedSlice S4096x1024 ![0, 6144] · slices_S4096x10240_S4096x1024_0_6144) main_arg0
  let main_v1 : FVec F S4096x1024 .bf16 := Host.absf main_v0
  let main_cst : FVec F S_ .bf16 := constant S_ .bf16 0x7F80#16
  let main_v2 : FVec F S4096x1024 .bf16 := broadcastInDim S4096x1024 ![] bcast_S_S4096x1024 main_cst
  let main_v3 : IVec S4096x1024 1 := cmpf .olt main_v1 main_v2
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_v7 : FVec F S1x256 .f32 := Host.absf main_arg3
  let main_cst_1 : FVec F S_ .f32 := constant S_ .f32 0x7F800000#32
  let main_v8 : FVec F S1x256 .f32 := broadcastInDim S1x256 ![] bcast_S_S1x256 main_cst_1
  let main_v9 : IVec S1x256 1 := cmpf .olt main_v7 main_v8
  (main_v3, main_v6, main_v9)
-- ==== Pre_finite_ffn.lean ====
abbrev S4096x1024 : Shape := ⟨2, ![4096, 1024]⟩
abbrev S5632x1024 : Shape := ⟨2, ![5632, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S5632x1024 : S_.BroadcastsInDim S5632x1024 (![] : Fin 0 → Fin S5632x1024.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S5632x1024 .bf16) (main_arg2 : FVec F S2816x1024 .bf16) (main_arg3 : FVec F S4096x1024 .bf16) : IVec S4096x1024 1 × IVec S5632x1024 1 × IVec S2816x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S5632x1024 .bf16 := Host.absf main_arg1
  let main_cst_0 : FVec F S_ .bf16 := constant S_ .bf16 0x7F80#16
  let main_v4 : FVec F S5632x1024 .bf16 := broadcastInDim S5632x1024 ![] bcast_S_S5632x1024 main_cst_0
  let main_v5 : IVec S5632x1024 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Kernel.lean ====
abbrev S4096x10240 : Shape := ⟨2, ![4096, 10240]⟩
abbrev S512x1024 : Shape := ⟨2, ![512, 1024]⟩
abbrev S1x256 : Shape := ⟨2, ![1, 256]⟩
abbrev S4096x1024 : Shape := ⟨2, ![4096, 1024]⟩
abbrev S4096x10368 : Shape := ⟨2, ![4096, 10368]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩
abbrev S256 : Shape := ⟨1, ![256]⟩

abbrev nBuf : Space → Nat
  | .hbm => 10
  | .vmem => 16
  | .smem => 0
  | _ => 0

abbrev bufTy : (tb : Table) → Fin (tcTables nBuf tb) → BufTy
  | .hbm, ⟨0, _⟩ => ⟨S4096x10240, .bf16⟩
  | .hbm, ⟨1, _⟩ => ⟨S512x1024, .bf16⟩
  | .hbm, ⟨2, _⟩ => ⟨S512x1024, .bf16⟩
  | .hbm, ⟨3, _⟩ => ⟨S1x256, .f32⟩
  | .hbm, ⟨4, _⟩ => ⟨S4096x1024, .bf16⟩
  | .hbm, ⟨5, _⟩ => ⟨S4096x10368, .bf16⟩
  | .hbm, ⟨6, _⟩ => ⟨S4096x10368, .bf16⟩
  | .hbm, ⟨7, _⟩ => ⟨S512x1024, .f32⟩
  | .hbm, ⟨8, _⟩ => ⟨S512x1024, .f32⟩
  | .hbm, ⟨9, _⟩ => ⟨S1x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x256, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x10240 : Shape := ⟨2, ![4096, 10240]⟩
abbrev S512x1024 : Shape := ⟨2, ![512, 1024]⟩
abbrev S1x256 : Shape := ⟨2, ![1, 256]⟩
abbrev S4096x1024 : Shape := ⟨2, ![4096, 1024]⟩
abbrev S4096x10368 : Shape := ⟨2, ![4096, 10368]⟩
abbrev S2x2048x4x256 : Shape := ⟨4, ![2, 2048, 4, 256]⟩
abbrev S2x256x4x256 : Shape := ⟨4, ![2, 256, 4, 256]⟩
abbrev S_ : Shape := ⟨0, ![]⟩
abbrev S2x2048x4 : Shape := ⟨3, ![2, 2048, 4]⟩
abbrev S2x2048x4x1 : Shape := ⟨4, ![2, 2048, 4, 1]⟩
abbrev S1x1x1x256 : Shape := ⟨4, ![1, 1, 1, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S256 : Shape := ⟨1, ![256]⟩
abbrev S4096x6144 : Shape := ⟨2, ![4096, 6144]⟩
abbrev S4096x3200 : Shape := ⟨2, ![4096, 3200]⟩

abbrev nBuf : Space → Nat
  | .hbm => 138
  | .vmem => 0
  | .smem => 0
  | _ => 0

abbrev hbmTy0_0 (i : Nat) : BufTy := match i % 128 with
  | 0 => ⟨S4096x10240, .bf16⟩
  | 1 => ⟨S512x1024, .bf16⟩
  | 2 => ⟨S512x1024, .bf16⟩
  | 3 => ⟨S1x256, .f32⟩
  | 4 => ⟨S4096x1024, .bf16⟩
  | 5 => ⟨S4096x10368, .bf16⟩
  | 6 => ⟨S4096x1024, .bf16⟩
  | 7 => ⟨S4096x1024, .f32⟩
  | 8 => ⟨S512x1024, .f32⟩
  | 9 => ⟨S512x1024, .f32⟩
  | 10 => ⟨S4096x1024, .f32⟩
  | 11 => ⟨S2x2048x4x256, .f32⟩
  | 12 => ⟨S2x256x4x256, .f32⟩
  | 13 => ⟨S2x256x4x256, .f32⟩
  | 14 => ⟨S2x2048x4x256, .f32⟩
  | 15 => ⟨S_, .f32⟩
  | 16 => ⟨S2x2048x4, .f32⟩
  | 17 => ⟨S2x2048x4x1, .f32⟩
  | 18 => ⟨S_, .f32⟩
  | 19 => ⟨S2x2048x4x1, .f32⟩
  | 20 => ⟨S2x2048x4x1, .f32⟩
  | 21 => ⟨S_, .f32⟩
  | 22 => ⟨S2x2048x4x1, .f32⟩
  | 23 => ⟨S2x2048x4x1, .f32⟩
  | 24 => ⟨S2x2048x4x1, .f32⟩
  | 25 => ⟨S2x2048x4x1, .f32⟩
  | 26 => ⟨S_, .f32⟩
  | 27 => ⟨S2x2048x4x1, .f32⟩
  | 28 => ⟨S2x2048x4x1, .f32⟩
  | 29 => ⟨S2x2048x4x256, .f32⟩
  | 30 => ⟨S2x2048x4x256, .f32⟩
  | 31 => ⟨S1x1x1x256, .f32⟩
  | 32 => ⟨S2x2048x4x256, .f32⟩
  | 33 => ⟨S2x2048x4x256, .f32⟩
  | 34 => ⟨S2x4x2048x256, .f32⟩
  | 35 => ⟨S_, .f32⟩
  | 36 => ⟨S2x4x2048x256, .f32⟩
  | 37 => ⟨S2x4x2048x256, .f32⟩
  | 38 => ⟨S_, .f32⟩
  | 39 => ⟨S2x4x2048, .f32⟩
  | 40 => ⟨S2x4x2048x1, .f32⟩
  | 41 => ⟨S2x4x2048x256, .f32⟩
  | 42 => ⟨S2x4x2048x256, .i1⟩
  | 43 => ⟨S2x4x2048x256, .f32⟩
  | 44 => ⟨S_, .f32⟩
  | 45 => ⟨S2x4x2048, .f32⟩
  | 46 => ⟨S_, .f32⟩
  | 47 => ⟨S2x4x2048, .f32⟩
  | 48 => ⟨S2x4x2048, .f32⟩
  | 49 => ⟨S_, .f32⟩
  | 50 => ⟨S2x4x2048, .f32⟩
  | 51 => ⟨S2x4x2048, .i1⟩
  | 52 => ⟨S_, .f32⟩
  | 53 => ⟨S2x4x2048, .f32⟩
  | 54 => ⟨S2x4x2048, .i1⟩
  | 55 => ⟨S_, .f32⟩
  | 56 => ⟨S2x4x2048, .f32⟩
  | 57 => ⟨S_, .f32⟩
  | 58 => ⟨S2x4x2048, .f32⟩
  | 59 => ⟨S_, .f32⟩
  | 60 => ⟨S2x4x2048, .f32⟩
  | 61 => ⟨S2x4x2048, .f32⟩
  | 62 => ⟨S2x4x2048, .f32⟩
  | 63 => ⟨S2x4x2048x1, .f32⟩
  | 64 => ⟨S2x4x2048x256, .f32⟩
  | 65 => ⟨S2x4x2048x256, .f32⟩
  | 66 => ⟨S2x4x2048x256, .f32⟩
  | 67 => ⟨S_, .f32⟩
  | 68 => ⟨S2x4x2048, .f32⟩
  | 69 => ⟨S2x4x2048x1, .f32⟩
  | 70 => ⟨S2x4x2048x256, .f32⟩
  | 71 => ⟨S2x4x2048x256, .f32⟩
  | 72 => ⟨S2x4x2048x1, .f32⟩
  | 73 => ⟨S_, .f32⟩
  | 74 => ⟨S2x4x2048x1, .f32⟩
  | 75 => ⟨S2x4x2048x1, .f32⟩
  | 76 => ⟨S2x4x256x2048, .f32⟩
  | 77 => ⟨S2x2048x4x256, .f32⟩
  | 78 => ⟨S4096x1024, .f32⟩
  | 79 => ⟨S2x2048x4x256, .f32⟩
  | 80 => ⟨S2x4x256x2048, .f32⟩
  | 81 => ⟨S2x4x2048x256, .f32⟩
  | 82 => ⟨S2x4x256x256, .f32⟩
  | 83 => ⟨S2x256x4x256, .f32⟩
  | 84 => ⟨S2x4x2048x256, .f32⟩
  | 85 => ⟨S2x4x2048x256, .f32⟩
  | 86 => ⟨S2x4x2048x256, .f32⟩
  | 87 => ⟨S_, .f32⟩
  | 88 => ⟨S2x4x2048, .f32⟩
  | 89 => ⟨S2x4x2048x1, .f32⟩
  | 90 => ⟨S2x4x2048x1, .f32⟩
  | 91 => ⟨S2x4x2048x256, .f32⟩
  | 92 => ⟨S2x4x2048x256, .f32⟩
  | 93 => ⟨S_, .f32⟩
  | 94 => ⟨S2x4x2048, .f32⟩
  | 95 => ⟨S2x4x2048x256, .f32⟩
  | 96 => ⟨S2x4x2048x256, .f32⟩
  | 97 => ⟨S2x4x2048x256, .f32⟩
  | 98 => ⟨S_, .f32⟩
  | 99 => ⟨S2x4x2048x256, .f32⟩
  | 100 => ⟨S2x4x2048x256, .f32⟩
  | 101 => ⟨S2x4x256x256, .f32⟩
  | 102 => ⟨S2x256x4x256, .f32⟩
  | 103 => ⟨S2x4x2048x256, .f32⟩
  | 104 => ⟨S2x2048x4x256, .f32⟩
  | 105 => ⟨S2x2048x4x256, .f32⟩
  | 106 => ⟨S_, .f32⟩
  | 107 => ⟨S256, .f32⟩
  | 108 => ⟨S1x1x1x256, .f32⟩
  | 109 => ⟨S2x2048x4x256, .f32⟩
  | 110 => ⟨S2x2048x4x256, .f32⟩
  | 111 => ⟨S_, .f32⟩
  | 112 => ⟨S256, .f32⟩
  | 113 => ⟨S1x256, .f32⟩
  | 114 => ⟨S2x2048x4x256, .f32⟩
  | 115 => ⟨S_, .f32⟩
  | 116 => ⟨S2x2048x4, .f32⟩
  | 117 => ⟨S2x2048x4x1, .f32⟩
  | 118 => ⟨S2x2048x4x256, .f32⟩
  | 119 => ⟨S2x2048x4x256, .f32⟩
  | 120 => ⟨S2x2048x4x1, .f32⟩
  | 121 => ⟨S_, .f32⟩
  | 122 => ⟨S2x2048x4x1, .f32⟩
  | 123 => ⟨S2x2048x4x1, .f32⟩
  | 124 => ⟨S_, .f32⟩
  | 125 => ⟨S2x2048x4, .f32⟩
  | 126 => ⟨S2x2048x4x256, .f32⟩
  | 127 => ⟨S2x2048x4x256, .f32⟩
  | _ => ⟨S4096x10240, .bf16⟩

abbrev hbmTy0_1 (i : Nat) : BufTy := match i % 128 with
  | 0 => ⟨S2x2048x4x256, .f32⟩
  | 1 => ⟨S2x2048x4x256, .f32⟩
  | 2 => ⟨S2x2048x4x256, .f32⟩
  | 3 => ⟨S512x1024, .f32⟩
  | 4 => ⟨S512x1024, .f32⟩
  | 5 => ⟨S4096x1024, .f32⟩
  | 6 => ⟨S4096x6144, .bf16⟩
  | 7 => ⟨S4096x1024, .bf16⟩
  | 8 => ⟨S4096x3200, .bf16⟩
  | 9 => ⟨S4096x10368, .bf16⟩
  | _ => ⟨S4096x10240, .bf16⟩

abbrev hbmTy (i : Nat) : BufTy := match i / 128 with
  | 0 => hbmTy0_0 i
  | 1 => hbmTy0_1 i
  | _ => ⟨S4096x10240, .bf16⟩

abbrev bufTy : (tb : Table) → Fin (tcTables nBuf tb) → BufTy
  | .hbm, ⟨i, _⟩ => hbmTy i
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_20 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩

abbrev nD : Nat := 1
abbrev τ : Topo := Topo.v7x

variable {F : FTy → Type} [FloatOps F]
-- ==== FfnKernel.lean ====
abbrev S4096x1024 : Shape := ⟨2, ![4096, 1024]⟩
abbrev S5632x1024 : Shape := ⟨2, ![5632, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512x2816 : Shape := ⟨2, ![512, 2816]⟩

abbrev nBuf : Space → Nat
  | .hbm => 11
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2816x1024, .bf16⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x1024, .f32⟩
  | .hbm, ⟨10, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x2816, .bf16⟩
  | .local _ .vmem, ⟨25, _⟩ => ⟨S512x2816, .bf16⟩
  | .local _ .vmem, ⟨26, _⟩ => ⟨S2816x1024, .bf16⟩
  | .local _ .vmem, ⟨27, _⟩ => ⟨S512x1024, .f32⟩
  | .local _ .vmem, ⟨28, _⟩ => ⟨S512x1024, .f32⟩
  | .local _ .vmem, ⟨29, _⟩ => ⟨S512x2816, .bf16⟩
  | .local _ .vmem, ⟨30, _⟩ => ⟨S512x2816, .bf16⟩
  | .local _ .vmem, ⟨31, _⟩ => ⟨S2816x1024, .bf16⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== FfnReferenceIdeal.lean ====
abbrev S4096x1024 : Shape := ⟨2, ![4096, 1024]⟩
abbrev S5632x1024 : Shape := ⟨2, ![5632, 1024]⟩
abbrev S2816x1024 : Shape := ⟨2, ![2816, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2816x1024, .bf16⟩
  | .hbm, ⟨3, _⟩ => ⟨S4096x1024, .bf16⟩
  | .hbm, ⟨4, _⟩ => ⟨S1024x5632, .bf16⟩
  | .hbm, ⟨5, _⟩ => ⟨S4096x1024, .f32⟩
  | .hbm, ⟨6, _⟩ => ⟨S1024x5632, .f32⟩
  | .hbm, ⟨7, _⟩ => ⟨S2816x1024, .f32⟩
  | .hbm, ⟨8, _⟩ => ⟨S4096x1024, .f32⟩
  | .hbm, ⟨9, _⟩ => ⟨S4096x5632, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x1024, .f32⟩
  | .hbm, ⟨40, _⟩ => ⟨S4096x2816, .bf16⟩
  | .hbm, ⟨41, _⟩ => ⟨S4096x5632, .bf16⟩
  | .hbm, ⟨42, _⟩ => ⟨S4096x2816, .bf16⟩
  | .hbm, ⟨43, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== GwKernel.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DyKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GbKernel.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GbReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RmsKernel.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== H1Kernel.lean ====
abbrev S4096x10368 : Shape := ⟨2, ![4096, 10368]⟩
abbrev S10248x1024 : Shape := ⟨2, ![10248, 1024]⟩
abbrev S8x1281x1024 : Shape := ⟨3, ![8, 1281, 1024]⟩
abbrev S_ : Shape := ⟨0, ![]⟩
abbrev S8x1296x1024 : Shape := ⟨3, ![8, 1296, 1024]⟩
abbrev S4096x1024 : Shape := ⟨2, ![4096, 1024]⟩
abbrev S1024x1280 : Shape := ⟨2, ![1024, 1280]⟩
abbrev S1024x128 : Shape := ⟨2, ![1024, 128]⟩
abbrev S1x1296x1024 : Shape := ⟨3, ![1, 1296, 1024]⟩
abbrev S1024x1024 : Shape := ⟨2, ![1024, 1024]⟩
abbrev S1024x1408 : Shape := ⟨2, ![1024, 1408]⟩
abbrev S1x16x1024 : Shape := ⟨3, ![1, 16, 1024]⟩
abbrev S16x1024 : Shape := ⟨2, ![16, 1024]⟩
abbrev S112x1024 : Shape := ⟨2, ![112, 1024]⟩
abbrev S128x1024 : Shape := ⟨2, ![128, 1024]⟩
abbrev S1x1280x1024 : Shape := ⟨3, ![1, 1280, 1024]⟩
abbrev S1280x1024 : Shape := ⟨2, ![1280, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x10368, .bf16⟩
  | .hbm, ⟨1, _⟩ => ⟨S10248x1024, .bf16⟩
  | .hbm, ⟨2, _⟩ => ⟨S8x1281x1024, .bf16⟩
  | .hbm, ⟨3, _⟩ => ⟨S_, .i32⟩
  | .hbm, ⟨4, _⟩ => ⟨S_, .bf16⟩
  | .hbm, ⟨5, _⟩ => ⟨S8x1296x1024, .bf16⟩
  | .hbm, ⟨6, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x128, .bf16⟩
  | .local _ .vmem, ⟨3, _⟩ => ⟨S1024x128, .bf16⟩
  | .local _ .vmem, ⟨4, _⟩ => ⟨S1x1296x1024, .bf16⟩
  | .local _ .vmem, ⟨5, _⟩ => ⟨S1x1296x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let v1 : BitVec 32 := Scalar.muli c10_i32 v0
  let c0_i32 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1296x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== H1ReferenceIdeal.lean ====
abbrev S4096x10368 : Shape := ⟨2, ![4096, 10368]⟩
abbrev S10248x1024 : Shape := ⟨2, ![10248, 1024]⟩
abbrev S1024x10248 : Shape := ⟨2, ![1024, 10248]⟩
abbrev S_ : Shape := ⟨0, ![]⟩
abbrev S4096x1024 : Shape := ⟨2, ![4096, 1024]⟩
abbrev S4096x10248 : Shape := ⟨2, ![4096, 10248]⟩

abbrev nBuf : Space → Nat
  | .hbm => 10
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S10248x1024, .bf16⟩
  | .hbm, ⟨2, _⟩ => ⟨S1024x10248, .bf16⟩
  | .hbm, ⟨3, _⟩ => ⟨S1024x10248, .f32⟩
  | .hbm, ⟨4, _⟩ => ⟨S_, .f32⟩
  | .hbm, ⟨5, _⟩ => ⟨S4096x1024, .f32⟩
  | .hbm, ⟨6, _⟩ => ⟨S4096x10248, .f32⟩
  | .hbm, ⟨7, _⟩ => ⟨S4096x10248, .bf16⟩
  | .hbm, ⟨8, _⟩ => ⟨S4096x10248, .f32⟩
  | .hbm, ⟨9, _⟩ => ⟨S4096x1024, .f32⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DyxKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GoKernel.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== X1Kernel.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== X1ReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeKernel.lean ====
abbrev S4096x10240 : Shape := ⟨2, ![4096, 10240]⟩
abbrev S4096x1024 : Shape := ⟨2, ![4096, 1024]⟩
abbrev S1024x1024 : Shape := ⟨2, ![1024, 1024]⟩
abbrev S3x4096x1024 : Shape := ⟨3, ![3, 4096, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 9
  | .vmem => 22
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S3x4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S3x1024x512, .bf16⟩
  | .local _ .vmem, ⟨21, _⟩ => ⟨S3x1024x512, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeReferenceIdeal.lean ====
abbrev S4096x10240 : Shape := ⟨2, ![4096, 10240]⟩
abbrev S4096x1024 : Shape := ⟨2, ![4096, 1024]⟩
abbrev S1024x1024 : Shape := ⟨2, ![1024, 1024]⟩
abbrev S_ : Shape := ⟨0, ![]⟩
abbrev S1x4096x1024 : Shape := ⟨3, ![1, 4096, 1024]⟩
abbrev S3x4096x1024 : Shape := ⟨3, ![3, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096x10240, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S3x4096x1024, .f32⟩
  | .hbm, ⟨54, _⟩ => ⟨S3x4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== LossKernel.lean ====
abbrev S4096x2816 : Shape := ⟨2, ![4096, 2816]⟩
abbrev S2816x1024 : Shape := ⟨2, ![2816, 1024]⟩
abbrev S4096x1024 : Shape := ⟨2, ![4096, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x128, .f32⟩
  | .hbm, ⟨7, _⟩ => ⟨S1x1, .f32⟩
  | .hbm, ⟨8, _⟩ => ⟨S_, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== XfKernel.lean ====
abbrev S4096x10240 : Shape := ⟨2, ![4096, 10240]⟩
abbrev S512x1024 : Shape := ⟨2, ![512, 1024]⟩
abbrev S1x256 : Shape := ⟨2, ![1, 256]⟩
abbrev S4096x1024 : Shape := ⟨2, ![4096, 1024]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S512x1024, .bf16⟩
  | .hbm, ⟨2, _⟩ => ⟨S512x1024, .bf16⟩
  | .hbm, ⟨3, _⟩ => ⟨S1x256, .f32⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256, .f32⟩
  | .local _ .vmem, ⟨7, _⟩ => ⟨S1024x1024, .bf16⟩
  | .local _ .vmem, ⟨8, _⟩ => ⟨S1024x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XfReferenceIdeal.lean ====
abbrev S4096x10240 : Shape := ⟨2, ![4096, 10240]⟩
abbrev S512x1024 : Shape := ⟨2, ![512, 1024]⟩
abbrev S1x256 : Shape := ⟨2, ![1, 256]⟩
abbrev S4096x1024 : Shape := ⟨2, ![4096, 1024]⟩
abbrev S2x2048x4x256 : Shape := ⟨4, ![2, 2048, 4, 256]⟩
abbrev S2x256x4x256 : Shape := ⟨4, ![2, 256, 4, 256]⟩
abbrev S_ : Shape := ⟨0, ![]⟩
abbrev S2x2048x4 : Shape := ⟨3, ![2, 2048, 4]⟩
abbrev S2x2048x4x1 : Shape := ⟨4, ![2, 2048, 4, 1]⟩
abbrev S1x1x1x256 : Shape := ⟨4, ![1, 1, 1, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S512x1024, .bf16⟩
  | .hbm, ⟨2, _⟩ => ⟨S512x1024, .bf16⟩
  | .hbm, ⟨3, _⟩ => ⟨S1x256, .f32⟩
  | .hbm, ⟨4, _⟩ => ⟨S4096x1024, .bf16⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S2x2048x4x256, .f32⟩
  | .hbm, ⟨9, _⟩ => ⟨S2x256x4x256, .f32⟩
  | .hbm, ⟨10, _⟩ => ⟨S2x256x4x256, .f32⟩
  | .hbm, ⟨11, _⟩ => ⟨S2x2048x4x256, .f32⟩
  | .hbm, ⟨12, _⟩ => ⟨S_, .f32⟩
  | .hbm, ⟨13, _⟩ => ⟨S2x2048x4, .f32⟩
  | .hbm, ⟨14, _⟩ => ⟨S2x2048x4x1, .f32⟩
  | .hbm, ⟨15, _⟩ => ⟨S_, .f32⟩
  | .hbm, ⟨16, _⟩ => ⟨S2x2048x4x1, .f32⟩
  | .hbm, ⟨17, _⟩ => ⟨S2x2048x4x1, .f32⟩
  | .hbm, ⟨18, _⟩ => ⟨S_, .f32⟩
  | .hbm, ⟨19, _⟩ => ⟨S2x2048x4x1, .f32⟩
  | .hbm, ⟨20, _⟩ => ⟨S2x2048x4x1, .f32⟩
  | .hbm, ⟨21, _⟩ => ⟨S2x2048x4x1, .f32⟩
  | .hbm, ⟨22, _⟩ => ⟨S2x2048x4x256, .f32⟩
  | .hbm, ⟨23, _⟩ => ⟨S2x2048x4x256, .f32⟩
  | .hbm, ⟨24, _⟩ => ⟨S1x1x1x256, .f32⟩
  | .hbm, ⟨25, _⟩ => ⟨S2x2048x4x256, .f32⟩
  | .hbm, ⟨26, _⟩ => ⟨S2x2048x4x256, .f32⟩
  | .hbm, ⟨27, _⟩ => ⟨S2x4x2048x256, .f32⟩
  | .hbm, ⟨28, _⟩ => ⟨S_, .f32⟩
  | .hbm, ⟨29, _⟩ => ⟨S2x4x2048x256, .f32⟩
  | .hbm, ⟨30, _⟩ => ⟨S2x4x2048x256, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048x1, .f32⟩
  | .hbm, ⟨37, _⟩ => ⟨S2x4x2048x256, .f32⟩
  | .hbm, ⟨38, _⟩ => ⟨S2x4x2048x256, .f32⟩
  | .hbm, ⟨39, _⟩ => ⟨S2x4x2048x256, .f32⟩
  | .hbm, ⟨40, _⟩ => ⟨S_, .f32⟩
  | .hbm, ⟨41, _⟩ => ⟨S2x4x2048, .f32⟩
  | .hbm, ⟨42, _⟩ => ⟨S2x4x2048x1, .f32⟩
  | .hbm, ⟨43, _⟩ => ⟨S2x4x2048x256, .f32⟩
  | .hbm, ⟨44, _⟩ => ⟨S2x4x2048x256, .f32⟩
  | .hbm, ⟨45, _⟩ => ⟨S2x4x256x2048, .f32⟩
  | .hbm, ⟨46, _⟩ => ⟨S2x2048x4x256, .f32⟩
  | .hbm, ⟨47, _⟩ => ⟨S4096x1024, .f32⟩
  | .hbm, ⟨48, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== KvKernel.lean ====
abbrev S512x1024 : Shape := ⟨2, ![512, 1024]⟩
abbrev S2048x1024 : Shape := ⟨2, ![2048, 1024]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x2048, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S512x1024 : Shape := ⟨2, ![512, 1024]⟩
abbrev S2048x1024 : Shape := ⟨2, ![2048, 1024]⟩
abbrev S1024x2048 : Shape := ⟨2, ![1024, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S2048x1024, .bf16⟩
  | .hbm, ⟨2, _⟩ => ⟨S512x1024, .f32⟩
  | .hbm, ⟨3, _⟩ => ⟨S1024x2048, .bf16⟩
  | .hbm, ⟨4, _⟩ => ⟨S1024x2048, .f32⟩
  | .hbm, ⟨5, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GkvKernel.lean ====
abbrev S512x2048 : Shape := ⟨2, ![512, 2048]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GkvReferenceIdeal.lean ====
abbrev S512x2048 : Shape := ⟨2, ![512, 2048]⟩
abbrev S512x1024 : Shape := ⟨2, ![512, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S1024x2048, .f32⟩
  | .hbm, ⟨5, _⟩ => ⟨S512x2048, .f32⟩
  | .hbm, ⟨6, _⟩ => ⟨S512x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DmKernel.lean ====
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S512x1024, .f32⟩
  | .local _ .vmem, ⟨0, _⟩ => ⟨S512x2048, .bf16⟩
  | .local _ .vmem, ⟨1, _⟩ => ⟨S2048x1024, .bf16⟩
  | .local _ .vmem, ⟨2, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DmReferenceIdeal.lean ====
abbrev S512x2048 : Shape := ⟨2, ![512, 2048]⟩
abbrev S2048x1024 : Shape := ⟨2, ![2048, 1024]⟩
abbrev S1024x2048 : Shape := ⟨2, ![1024, 2048]⟩
abbrev S_ : Shape := ⟨0, ![]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x1024, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S512x1024, .f32⟩
  | .hbm, ⟨6, _⟩ => ⟨S512x2048, .f32⟩
  | .hbm, ⟨7, _⟩ => ⟨S512x2048, .f32⟩
  | .hbm, ⟨8, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ZffKernel.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZffReferenceIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S1024x128, .bf16⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NfKernel.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NfReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AnKernel.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AnKernelIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AnReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AcKernel.lean ====
abbrev S1x3x128 : Shape := ⟨3, ![1, 3, 128]⟩
abbrev S3x128 : Shape := ⟨2, ![3, 128]⟩

abbrev nBuf : Space → Nat
  | .hbm => 13
  | .vmem => 7
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S1x3x128, .f32⟩
  | .hbm, ⟨3, _⟩ => ⟨S1x3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S1x3x128, .f32⟩
  | .hbm, ⟨11, _⟩ => ⟨S1x3x128, .f32⟩
  | .hbm, ⟨12, _⟩ => ⟨S1x3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AcKernelIdeal.lean ====
abbrev S1x3x128 : Shape := ⟨3, ![1, 3, 128]⟩
abbrev S3x128 : Shape := ⟨2, ![3, 128]⟩

abbrev nBuf : Space → Nat
  | .hbm => 13
  | .vmem => 7
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S1x3x128, .f32⟩
  | .hbm, ⟨3, _⟩ => ⟨S1x3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S1x3x128, .f32⟩
  | .hbm, ⟨11, _⟩ => ⟨S1x3x128, .f32⟩
  | .hbm, ⟨12, _⟩ => ⟨S1x3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AcReferenceIdeal.lean ====
abbrev S1x3x128 : Shape := ⟨3, ![1, 3, 128]⟩
abbrev S3x128 : Shape := ⟨2, ![3, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S1x3x128, .f32⟩
  | .hbm, ⟨3, _⟩ => ⟨S1x3x128, .f32⟩
  | .hbm, ⟨4, _⟩ => ⟨S1x3x128, .f32⟩
  | .hbm, ⟨5, _⟩ => ⟨S_, .f32⟩
  | .hbm, ⟨6, _⟩ => ⟨S1x3x128, .f32⟩
  | .hbm, ⟨7, _⟩ => ⟨S1x3x128, .f32⟩
  | .hbm, ⟨8, _⟩ => ⟨S_, .f32⟩
  | .hbm, ⟨9, _⟩ => ⟨S1x3x128, .f32⟩
  | .hbm, ⟨10, _⟩ => ⟨S1x3x128, .f32⟩
  | .hbm, ⟨11, _⟩ => ⟨S1x3x128, .f32⟩
  | .hbm, ⟨12, _⟩ => ⟨S_, .f32⟩
  | .hbm, ⟨13, _⟩ => ⟨S1x3x128, .f32⟩
  | .hbm, ⟨14, _⟩ => ⟨S1x3x128, .f32⟩
  | .hbm, ⟨15, _⟩ => ⟨S1x3x128, .f32⟩
  | .hbm, ⟨16, _⟩ => ⟨S_, .f32⟩
  | .hbm, ⟨17, _⟩ => ⟨S1x3x128, .f32⟩
  | .hbm, ⟨18, _⟩ => ⟨S1x3x128, .f32⟩
  | .hbm, ⟨19, _⟩ => ⟨S1x3x128, .f32⟩
  | .hbm, ⟨20, _⟩ => ⟨S_, .f32⟩
  | .hbm, ⟨21, _⟩ => ⟨S1x3x128, .f32⟩
  | .hbm, ⟨22, _⟩ => ⟨S1x3x128, .f32⟩
  | .hbm, ⟨23, _⟩ => ⟨S_, .f32⟩
  | .hbm, ⟨24, _⟩ => ⟨S1x3x128, .f32⟩
  | .hbm, ⟨25, _⟩ => ⟨S1x3x128, .f32⟩
  | .hbm, ⟨26, _⟩ => ⟨S1x3x128, .f32⟩
  | .hbm, ⟨27, _⟩ => ⟨S_, .f32⟩
  | .hbm, ⟨28, _⟩ => ⟨S1x3x128, .f32⟩
  | .hbm, ⟨29, _⟩ => ⟨S1x3x128, .f32⟩
  | .hbm, ⟨30, _⟩ => ⟨S1x3x128, .f32⟩
  | .hbm, ⟨31, _⟩ => ⟨S_, .f32⟩
  | .hbm, ⟨32, _⟩ => ⟨S1x3x128, .f32⟩
  | .hbm, ⟨33, _⟩ => ⟨S1x3x128, .f32⟩
  | .hbm, ⟨34, _⟩ => ⟨S1x3x128, .f32⟩
  | .hbm, ⟨35, _⟩ => ⟨S_, .f32⟩
  | .hbm, ⟨36, _⟩ => ⟨S1x3x128, .f32⟩
  | .hbm, ⟨37, _⟩ => ⟨S1x3x128, .f32⟩
  | _, _ => ⟨S1x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AfKernel.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AfKernelIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AfReferenceIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AgKernel.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AgKernelIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AgReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AxKernel.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AxKernelIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AxReferenceIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AiKernel.lean ====
abbrev S1x1024x1281 : Shape := ⟨3, ![1, 1024, 1281]⟩
abbrev S1296x1x1024 : Shape := ⟨3, ![1296, 1, 1024]⟩
abbrev S1281x1x1024 : Shape := ⟨3, ![1281, 1, 1024]⟩
abbrev S61x1x1024 : Shape := ⟨3, ![61, 1, 1024]⟩
abbrev S61x1024 : Shape := ⟨2, ![61, 1024]⟩

abbrev nBuf : Space → Nat
  | .hbm => 13
  | .vmem => 14
  | .smem => 0
  | _ => 0

abbrev bufTy : (tb : Table) → Fin (tcTables nBuf tb) → BufTy
  | .hbm, ⟨0, _⟩ => ⟨S1x1024x1281, .f32⟩
  | .hbm, ⟨1, _⟩ => ⟨S1296x1x1024, .f32⟩
  | .hbm, ⟨2, _⟩ => ⟨S1x1024x1281, .f32⟩
  | .hbm, ⟨3, _⟩ => ⟨S1x1024x1281, .f32⟩
  | .hbm, ⟨4, _⟩ => ⟨S1281x1x1024, .f32⟩
  | .hbm, ⟨5, _⟩ => ⟨S1281x1x1024, .f32⟩
  | .hbm, ⟨6, _⟩ => ⟨S1281x1x1024, .f32⟩
  | .hbm, ⟨7, _⟩ => ⟨S1281x1x1024, .f32⟩
  | .hbm, ⟨8, _⟩ => ⟨S1281x1x1024, .f32⟩
  | .hbm, ⟨9, _⟩ => ⟨S1281x1x1024, .f32⟩
  | .hbm, ⟨10, _⟩ => ⟨S1x1024x1281, .f32⟩
  | .hbm, ⟨11, _⟩ => ⟨S1x1024x1281, .f32⟩
  | .hbm, ⟨12, _⟩ => ⟨S1x1024x1281, .f32⟩
  | .local _ .vmem, ⟨0, _⟩ => ⟨S61x1x1024, .f32⟩
  | .local _ .vmem, ⟨1, _⟩ => ⟨S61x1x1024, .f32⟩
  | .local _ .vmem, ⟨2, _⟩ => ⟨S61x1x1024, .f32⟩
  | .local _ .vmem, ⟨3, _⟩ => ⟨S61x1x1024, .f32⟩
  | .local _ .vmem, ⟨4, _⟩ => ⟨S61x1x1024, .f32⟩
  | .local _ .vmem, ⟨5, _⟩ => ⟨S61x1x1024, .f32⟩
  | .local _ .vmem, ⟨6, _⟩ => ⟨S61x1x1024, .f32⟩
  | .local _ .vmem, ⟨7, _⟩ => ⟨S61x1x1024, .f32⟩
  | .local _ .vmem, ⟨8, _⟩ => ⟨S61x1x1024, .f32⟩
  | .local _ .vmem, ⟨9, _⟩ => ⟨S61x1x1024, .f32⟩
  | .local _ .vmem, ⟨10, _⟩ => ⟨S61x1x1024, .f32⟩
  | .local _ .vmem, ⟨11, _⟩ => ⟨S61x1x1024, .f32⟩
  | .local _ .vmem, ⟨12, _⟩ => ⟨S61x1x1024, .f32⟩
  | .local _ .vmem, ⟨13, _⟩ => ⟨S61x1x1024, .f32⟩
  | _, _ => ⟨S1x1024x1281, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![21, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S61x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S61x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S61x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S61x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S61x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S61x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S61x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AiReferenceIdeal.lean ====
abbrev S1x1024x1281 : Shape := ⟨3, ![1, 1024, 1281]⟩
abbrev S1296x1x1024 : Shape := ⟨3, ![1296, 1, 1024]⟩
abbrev S1281x1x1024 : Shape := ⟨3, ![1281, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1281, .f32⟩
  | .hbm, ⟨1, _⟩ => ⟨S1296x1x1024, .f32⟩
  | .hbm, ⟨2, _⟩ => ⟨S1x1024x1281, .f32⟩
  | .hbm, ⟨3, _⟩ => ⟨S1x1024x1281, .f32⟩
  | .hbm, ⟨4, _⟩ => ⟨S1281x1x1024, .f32⟩
  | .hbm, ⟨5, _⟩ => ⟨S1x1024x1281, .f32⟩
  | .hbm, ⟨6, _⟩ => ⟨S_, .f32⟩
  | .hbm, ⟨7, _⟩ => ⟨S1x1024x1281, .f32⟩
  | .hbm, ⟨8, _⟩ => ⟨S1x1024x1281, .f32⟩
  | .hbm, ⟨9, _⟩ => ⟨S_, .f32⟩
  | .hbm, ⟨10, _⟩ => ⟨S1x1024x1281, .f32⟩
  | .hbm, ⟨11, _⟩ => ⟨S1x1024x1281, .f32⟩
  | .hbm, ⟨12, _⟩ => ⟨S1x1024x1281, .f32⟩
  | .hbm, ⟨13, _⟩ => ⟨S_, .f32⟩
  | .hbm, ⟨14, _⟩ => ⟨S1x1024x1281, .f32⟩
  | .hbm, ⟨15, _⟩ => ⟨S1x1024x1281, .f32⟩
  | .hbm, ⟨16, _⟩ => ⟨S1x1024x1281, .f32⟩
  | .hbm, ⟨17, _⟩ => ⟨S_, .f32⟩
  | .hbm, ⟨18, _⟩ => ⟨S1x1024x1281, .f32⟩
  | .hbm, ⟨19, _⟩ => ⟨S1x1024x1281, .f32⟩
  | .hbm, ⟨20, _⟩ => ⟨S1x1024x1281, .f32⟩
  | .hbm, ⟨21, _⟩ => ⟨S_, .f32⟩
  | .hbm, ⟨22, _⟩ => ⟨S1x1024x1281, .f32⟩
  | .hbm, ⟨23, _⟩ => ⟨S1x1024x1281, .f32⟩
  | .hbm, ⟨24, _⟩ => ⟨S_, .f32⟩
  | .hbm, ⟨25, _⟩ => ⟨S1x1024x1281, .f32⟩
  | .hbm, ⟨26, _⟩ => ⟨S1x1024x1281, .f32⟩
  | .hbm, ⟨27, _⟩ => ⟨S1x1024x1281, .f32⟩
  | .hbm, ⟨28, _⟩ => ⟨S_, .f32⟩
  | .hbm, ⟨29, _⟩ => ⟨S1x1024x1281, .f32⟩
  | .hbm, ⟨30, _⟩ => ⟨S1x1024x1281, .f32⟩
  | .hbm, ⟨31, _⟩ => ⟨S1x1024x1281, .f32⟩
  | .hbm, ⟨32, _⟩ => ⟨S_, .f32⟩
  | .hbm, ⟨33, _⟩ => ⟨S1x1024x1281, .f32⟩
  | .hbm, ⟨34, _⟩ => ⟨S1x1024x1281, .f32⟩
  | .hbm, ⟨35, _⟩ => ⟨S1x1024x1281, .f32⟩
  | .hbm, ⟨36, _⟩ => ⟨S_, .f32⟩
  | .hbm, ⟨37, _⟩ => ⟨S1x1024x1281, .f32⟩
  | .hbm, ⟨38, _⟩ => ⟨S1x1024x1281, .f32⟩
  | _, _ => ⟨S1x1024x1281, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AkKernel.lean ====
abbrev S1x1024x256 : Shape := ⟨3, ![1, 1024, 256]⟩
abbrev S256x1024 : Shape := ⟨2, ![256, 1024]⟩
abbrev S1024x256 : Shape := ⟨2, ![1024, 256]⟩

abbrev nBuf : Space → Nat
  | .hbm => 19
  | .vmem => 7
  | .smem => 0
  | _ => 0

abbrev bufTy : (tb : Table) → Fin (tcTables nBuf tb) → BufTy
  | .hbm, ⟨0, _⟩ => ⟨S1x1024x256, .f32⟩
  | .hbm, ⟨1, _⟩ => ⟨S256x1024, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S256x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1x1024x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AkKernelIdeal.lean ====
abbrev S1x1024x256 : Shape := ⟨3, ![1, 1024, 256]⟩
abbrev S256x1024 : Shape := ⟨2, ![256, 1024]⟩
abbrev S1024x256 : Shape := ⟨2, ![1024, 256]⟩

abbrev nBuf : Space → Nat
  | .hbm => 19
  | .vmem => 7
  | .smem => 0
  | _ => 0

abbrev bufTy : (tb : Table) → Fin (tcTables nBuf tb) → BufTy
  | .hbm, ⟨0, _⟩ => ⟨S1x1024x256, .f32⟩
  | .hbm, ⟨1, _⟩ => ⟨S256x1024, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S256x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1x1024x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AkReferenceIdeal.lean ====
abbrev S1x1024x256 : Shape := ⟨3, ![1, 1024, 256]⟩
abbrev S256x1024 : Shape := ⟨2, ![256, 1024]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S256x1024, .f32⟩
  | .hbm, ⟨2, _⟩ => ⟨S1x1024x256, .f32⟩
  | .hbm, ⟨3, _⟩ => ⟨S1x1024x256, .f32⟩
  | .hbm, ⟨4, _⟩ => ⟨S1024x256, .f32⟩
  | .hbm, ⟨5, _⟩ => ⟨S1x1024x256, .f32⟩
  | .hbm, ⟨6, _⟩ => ⟨S_, .f32⟩
  | .hbm, ⟨7, _⟩ => ⟨S1x1024x256, .f32⟩
  | .hbm, ⟨8, _⟩ => ⟨S1x1024x256, .f32⟩
  | .hbm, ⟨9, _⟩ => ⟨S_, .f32⟩
  | .hbm, ⟨10, _⟩ => ⟨S1x1024x256, .f32⟩
  | .hbm, ⟨11, _⟩ => ⟨S1x1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S_, .f32⟩
  | .hbm, ⟨25, _⟩ => ⟨S1x1024x256, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AbKernel.lean ====
abbrev S1x128x1024 : Shape := ⟨3, ![1, 128, 1024]⟩
abbrev S128x1024 : Shape := ⟨2, ![128, 1024]⟩

abbrev nBuf : Space → Nat
  | .hbm => 13
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AbKernelIdeal.lean ====
abbrev S1x128x1024 : Shape := ⟨3, ![1, 128, 1024]⟩
abbrev S128x1024 : Shape := ⟨2, ![128, 1024]⟩

abbrev nBuf : Space → Nat
  | .hbm => 13
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AbReferenceIdeal.lean ====
abbrev S1x128x1024 : Shape := ⟨3, ![1, 128, 1024]⟩
abbrev S128x1024 : Shape := ⟨2, ![128, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S_, .f32⟩
  | .hbm, ⟨6, _⟩ => ⟨S1x128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== ApKernel.lean ====
abbrev S1x1024x704 : Shape := ⟨3, ![1, 1024, 704]⟩
abbrev S704x1024 : Shape := ⟨2, ![704, 1024]⟩
abbrev S1024x704 : Shape := ⟨2, ![1024, 704]⟩
abbrev S352x1024 : Shape := ⟨2, ![352, 1024]⟩

abbrev nBuf : Space → Nat
  | .hbm => 19
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S1024x704, .f32⟩
  | .hbm, ⟨14, _⟩ => ⟨S1x1024x704, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ApKernelIdeal.lean ====
abbrev S1x1024x704 : Shape := ⟨3, ![1, 1024, 704]⟩
abbrev S704x1024 : Shape := ⟨2, ![704, 1024]⟩
abbrev S1024x704 : Shape := ⟨2, ![1024, 704]⟩
abbrev S352x1024 : Shape := ⟨2, ![352, 1024]⟩

abbrev nBuf : Space → Nat
  | .hbm => 19
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S1024x704, .f32⟩
  | .hbm, ⟨14, _⟩ => ⟨S1x1024x704, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ApReferenceIdeal.lean ====
abbrev S1x1024x704 : Shape := ⟨3, ![1, 1024, 704]⟩
abbrev S704x1024 : Shape := ⟨2, ![704, 1024]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S704x1024, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S1x1024x704, .f32⟩
  | .hbm, ⟨6, _⟩ => ⟨S_, .f32⟩
  | .hbm, ⟨7, _⟩ => ⟨S1x1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S1x1024x704, .f32⟩
  | .hbm, ⟨13, _⟩ => ⟨S_, .f32⟩
  | .hbm, ⟨14, _⟩ => ⟨S1x1024x704, .f32⟩
  | .hbm, ⟨15, _⟩ => ⟨S1x1024x704, .f32⟩
  | .hbm, ⟨16, _⟩ => ⟨S1x1024x704, .f32⟩
  | .hbm, ⟨17, _⟩ => ⟨S_, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S1x1024x704, .f32⟩
  | .hbm, ⟨28, _⟩ => ⟨S_, .f32⟩
  | .hbm, ⟨29, _⟩ => ⟨S1x1024x704, .f32⟩
  | .hbm, ⟨30, _⟩ => ⟨S1x1024x704, .f32⟩
  | .hbm, ⟨31, _⟩ => ⟨S1x1024x704, .f32⟩
  | .hbm, ⟨32, _⟩ => ⟨S_, .f32⟩
  | .hbm, ⟨33, _⟩ => ⟨S1x1024x704, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AoKernel.lean ====
abbrev S1x352x1024 : Shape := ⟨3, ![1, 352, 1024]⟩
abbrev S352x1024 : Shape := ⟨2, ![352, 1024]⟩

abbrev nBuf : Space → Nat
  | .hbm => 13
  | .vmem => 7
  | .smem => 0
  | _ => 0

abbrev bufTy : (tb : Table) → Fin (tcTables nBuf tb) → BufTy
  | .hbm, ⟨0, _⟩ => ⟨S1x352x1024, .f32⟩
  | .hbm, ⟨1, _⟩ => ⟨S352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S1x352x1024, .f32⟩
  | .hbm, ⟨11, _⟩ => ⟨S1x352x1024, .f32⟩
  | .hbm, ⟨12, _⟩ => ⟨S1x352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AoReferenceIdeal.lean ====
abbrev S1x352x1024 : Shape := ⟨3, ![1, 352, 1024]⟩
abbrev S352x1024 : Shape := ⟨2, ![352, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S_, .f32⟩
  | .hbm, ⟨6, _⟩ => ⟨S1x352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.XaSpec.lean ====
module

public import Idealize.ShloMosaic.PureOps.Ideal
public import Idealize.ShloMosaic.Lib.Tactic

/-! The gradient of one query row of one head of the memory cross-attention, over the extended reals:
the row `x` of the projection, the norm's gain `g`, the head's 256 normed keys `K` and values `V`, the
cotangent row `dy`. -/

@[expose] public section

noncomputable section

open Idealize.ShloMosaic

namespace Cert.Xa

/-- A head's row. -/
abbrev Row := Fin 256 → EReal

def c256 : EReal := Ideal.ofBits .f32 1132462080#32
def c16 : EReal := Ideal.ofBits .f32 1098907648#32
def eps : EReal := Ideal.ofBits .f32 897988541#32
def bot : EReal := Ideal.ofBits .f32 4286578688#32

/-- The mean square of the row, and the norm's ε. -/
def ms (x : Row) : EReal := Ideal.div (∑ a, x a * x a) c256 + eps
/-- The norm's factor. -/
def rr (x : Row) : EReal := Ideal.rsqrt (ms x)
def xh (x : Row) (a : Fin 256) : EReal := x a * rr x
/-- The normed query. -/
def qn (g x : Row) (a : Fin 256) : EReal := xh x a * g a
/-- The scores. -/
def sc (g x : Row) (K : Fin 256 → Row) (m : Fin 256) : EReal := Ideal.div (∑ k, qn g x k * K m k) c16
def mx (g x : Row) (K : Fin 256 → Row) : EReal := Finset.univ.fold max bot (fun m => sc g x K m)
/-- The exponentials and their sum. -/
def ex (g x : Row) (K : Fin 256 → Row) (m : Fin 256) : EReal := Ideal.exp (sc g x K m - mx g x K)
def se (g x : Row) (K : Fin 256 → Row) : EReal := ∑ m, ex g x K m
/-- The weights. -/
def pp (g x : Row) (K : Fin 256 → Row) (m : Fin 256) : EReal := Ideal.div (ex g x K m) (se g x K)
/-- The weights' cotangent. -/
def dp (V : Fin 256 → Row) (dy : Row) (m : Fin 256) : EReal := ∑ k, dy k * V m k
/-- The scores' cotangent. -/
def ds (g x : Row) (K V : Fin 256 → Row) (dy : Row) (m : Fin 256) : EReal :=
  Ideal.div (pp g x K m * (dp V dy m - ∑ n, pp g x K n * dp V dy n)) c16
/-- The normed query's cotangent. -/
def dq (g x : Row) (K V : Fin 256 → Row) (dy : Row) (a : Fin 256) : EReal := ∑ m, ds g x K V dy m * K m a
def gd (g x : Row) (K V : Fin 256 → Row) (dy : Row) (a : Fin 256) : EReal := dq g x K V dy a * g a
/-- The row's cotangent. -/
def dx (g x : Row) (K V : Fin 256 → Row) (dy : Row) (a : Fin 256) : EReal :=
  rr x * (gd g x K V dy a - xh x a * Ideal.div (∑ b, gd g x K V dy b * xh x b) c256)

end Cert.Xa
end
-- ==== Proof.XaHead.lean ====
module

public import proofs.«01_k».proof.Proof.Gen.KernelIdeal.Skeleton
public import proofs.«01_k».proof.Proof.XaSpec
public import Idealize.ShloMosaic.Lib.Tactic
public import Idealize.ShloMosaic.Lib.Pointwise
public import Idealize.ShloMosaic.Lib.ValueIdx

/-! What the kernel stores for one head in one block of 1024 queries, read at an index. -/

@[expose] public section

set_option maxRecDepth 16384

noncomputable section

open Idealize.ShloMosaic Idealize.ShloMosaic.TcCoe Idealize.SL.Sem

namespace Cert.KernelIdeal.XaHead

open Cert.KernelIdeal Cert.KernelIdeal.Gen

/-- The rows of a block. -/
def row {m : ℕ} (X : (⟨2, ![m, 256]⟩ : Shape).Idx → EReal) (r : Fin m) : Xa.Row := fun a => X (ix2 r a)

variable (g : Vec Ideal S1x256 .f32) (X DY : Vec Ideal S1024x256 .bf16) (K V : Vec Ideal S256x256 .bf16)

/-- The row's cotangent, as stored. -/
def dxT : FVec Ideal S1024x256 .bf16 :=
  k0_pay17 (k0_pay13 (k0_pay4 X)) (k0_pay14 (k0_pay4 X)) (k0_pay15 g K V (k0_pay6 g X K) (k0_pay7 g X K) DY)
    (k0_pay16 g (k0_pay4 X) K V (k0_pay6 g X K) (k0_pay7 g X K) DY)
/-- The accumulators' next values. -/
def dvT (acc : Vec Ideal S256x256 .f32) : FVec Ideal S256x256 .f32 := k0_pay9 (k0_pay6 g X K) (k0_pay7 g X K) DY acc
def dkT (acc : Vec Ideal S256x256 .f32) : FVec Ideal S256x256 .f32 :=
  k0_pay12 (k0_pay5 g X) V (k0_pay6 g X K) (k0_pay7 g X K) DY acc
def dgT (acc : Vec Ideal S1x256 .f32) : FVec Ideal S1x256 .f32 :=
  k0_pay18 (k0_pay11 K V (k0_pay6 g X K) (k0_pay7 g X K) DY) (k0_pay14 (k0_pay4 X)) acc

variable (r : Fin 1024) (a : Fin 256)

theorem pay5_apply : k0_pay5 (F := Ideal) g X (ix2 r a) = Xa.qn (row g 0) (row X r) a := by
  unfold_payloads
  pointwise
  rfl
theorem pay6_apply : k0_pay6 (F := Ideal) g X K (ix2 r a) = Xa.ex (row g 0) (row X r) (row K) a := by
  unfold k0_pay6
  pointwise [dot_S1024x256_S256x256_S1024x256_1_1_0_0_n_n]
  simp only [pay5_apply]
  rfl
theorem pay7_apply (j : Fin 1) : k0_pay7 (F := Ideal) g X K (ix2 r j) = Xa.se (row g 0) (row X r) (row K) := by
  unfold k0_pay7
  pointwise
  simp only [pay6_apply]
  rfl
theorem pay8_apply : k0_pay8 (F := Ideal) (k0_pay6 g X K) (k0_pay7 g X K) (ix2 r a) = Xa.pp (row g 0) (row X r) (row K) a := by
  unfold k0_pay8
  pointwise
  simp only [pay6_apply, pay7_apply]
  rfl
theorem pay10_apply :
   k0_pay10 (F := Ideal) V (k0_pay6 g X K) (k0_pay7 g X K) DY (ix2 r a) = Xa.ds (row g 0) (row X r) (row K) (row V) (row DY r) a := by
  unfold k0_pay10
  pointwise [dot_S1024x256_S256x256_S1024x256_1_1_0_0_n_n]
  simp only [pay8_apply]
  rfl
theorem pay11_apply :
   k0_pay11 (F := Ideal) K V (k0_pay6 g X K) (k0_pay7 g X K) DY (ix2 r a) = Xa.dq (row g 0) (row X r) (row K) (row V) (row DY r) a := by
  unfold k0_pay11
  pointwise [dot_S1024x256_S256x256_S1024x256_1_0_0_1_n_n]
  simp only [pay10_apply]
  rfl
theorem pay13_apply (j : Fin 1) : k0_pay13 (F := Ideal) (k0_pay4 X) (ix2 r j) = Xa.rr (row X r) := by
  unfold_payloads
  pointwise
  rfl
theorem pay14_apply : k0_pay14 (F := Ideal) (k0_pay4 X) (ix2 r a) = Xa.xh (row X r) a := by
  unfold_payloads
  pointwise
  rfl
theorem pay15_apply :
   k0_pay15 (F := Ideal) g K V (k0_pay6 g X K) (k0_pay7 g X K) DY (ix2 r a) = Xa.gd (row g 0) (row X r) (row K) (row V) (row DY r) a := by
  unfold k0_pay15
  pointwise
  simp only [pay11_apply]
  rfl
theorem dxT_apply : dxT g X DY K V (ix2 r a) = Xa.dx (row g 0) (row X r) (row K) (row V) (row DY r) a := by
  unfold dxT k0_pay17 k0_pay16
  pointwise
  simp only [pay13_apply, pay14_apply, pay15_apply]
  rfl

theorem dvT_apply (acc : Vec Ideal S256x256 .f32) (m : Fin 256) : dvT g X DY K acc (ix2 m a)
    = acc (ix2 m a) + ∑ t : Fin 1024, Xa.pp (row g 0) (row X t) (row K) m * DY (ix2 t a) := by
  unfold dvT k0_pay9
  pointwise [dot_S1024x256_S1024x256_S256x256_0_0_1_1_n_n]
  simp only [pay8_apply]
theorem dkT_apply (acc : Vec Ideal S256x256 .f32) (m : Fin 256) : dkT g X DY K V acc (ix2 m a)
    = acc (ix2 m a) + ∑ t : Fin 1024, Xa.ds (row g 0) (row X t) (row K) (row V) (row DY t) m * Xa.qn (row g 0) (row X t) a := by
  unfold dkT k0_pay12
  pointwise [dot_S1024x256_S1024x256_S256x256_0_0_1_1_n_n]
  simp only [pay10_apply, pay5_apply]
theorem dgT_apply (acc : Vec Ideal S1x256 .f32) (j : Fin 1) : dgT g X DY K V acc (ix2 j a)
    = acc (ix2 j a) + ∑ t : Fin 1024, Xa.dq (row g 0) (row X t) (row K) (row V) (row DY t) a * Xa.xh (row X t) a := by
  unfold dgT k0_pay18
  pointwise
  simp only [pay11_apply, pay14_apply]

end Cert.KernelIdeal.XaHead
end
-- ==== Proof.XaPiece.lean ====
module

public import proofs.«01_k».proof.Proof.Gen.KernelIdeal.Value
public import proofs.«01_k».proof.Proof.XaHead
public import Idealize.ShloMosaic.Lib.Pipeline.Value
public import Idealize.ShloMosaic.Lib.Pipeline.ValueKit

/-! The four stores of a grid step, one for each head's columns. -/

@[expose] public section

set_option maxRecDepth 16384

noncomputable section

open Idealize.ShloMosaic Idealize.ShloMosaic.TcCoe Idealize.SL.Sem
open Idealize.ShloMosaic.Pipeline (Dat)

namespace Cert.KernelIdeal.XaBlock

open Cert.KernelIdeal Cert.KernelIdeal.Gen

open XaHead

/-- The head a column belongs to, its lane in the head, and back. -/
def hd (c : Fin 1024) : Fin 4 := ⟨c.val / 256, by omega⟩
def lane (c : Fin 1024) : Fin 256 := ⟨c.val % 256, by omega⟩
def col (h : Fin 4) (a : Fin 256) : Fin 1024 := ⟨256 * h.val + a.val, by omega⟩

theorem hd_col (h : Fin 4) (a : Fin 256) : hd (col h a) = h := Fin.ext (by simp only [hd, col]; omega)
theorem lane_col (h : Fin 4) (a : Fin 256) : lane (col h a) = a := Fin.ext (by simp only [lane, col]; omega)
theorem col_hd (c : Fin 1024) : col (hd c) (lane c) = c := Fin.ext (by simp only [hd, lane, col]; omega)

/-- A head's columns of a row. -/
def seg {m : ℕ} (X : (⟨2, ![m, 1024]⟩ : Shape).Idx → EReal) (h : Fin 4) (r : Fin m) : Xa.Row := fun a => X (ix2 r (col h a))

theorem emb_col {m : ℕ} (h : Fin 4) (o : ℕ) (ho : o = 256 * h.val) (inb) (x : (⟨2, ![m, 256]⟩ : Shape).Idx) :
    (Rect.unit (s := ⟨2, ![m, 1024]⟩) ![0, o] ![m, 256] inb).emb x = ix2 (x 0) (col h (x 1)) := by
  subst ho
  funext k
  refine Fin.ext ?_
  match k with
  | ⟨0, _⟩ => simp [Rect.emb, Rect.unit, ix2]
  | ⟨1, _⟩ => simp [Rect.emb, Rect.unit, ix2, col]

theorem row_ld {m : ℕ} (X : (⟨2, ![m, 1024]⟩ : Shape).Idx → EReal) (h : Fin 4) (o : ℕ) (ho : o = 256 * h.val) (inb) (r : Fin m) :
    row (m := m) (View.ld (Val := Elt Ideal) (e' := .f32) X (Rect.unit (s := ⟨2, ![m, 1024]⟩) ![0, o] ![m, 256] inb)) r = seg X h r :=
  funext fun a => congrArg X (emb_col h o ho inb (ix2 r a))

theorem eta2 {m n : ℕ} (x : (⟨2, ![m, n]⟩ : Shape).Idx) : x = ix2 (x 0) (x 1) := by
  funext k
  match k with
  | ⟨0, _⟩ => rfl
  | ⟨1, _⟩ => rfl

/-- One step's block of the rows' cotangents. -/
def dzG (x0 : S1024x1024.Idx → EReal) (x1 x2 : S256x1024.Idx → EReal) (x3 : S1x256.Idx → EReal) (x4 : S1024x1024.Idx → EReal)
    (y : S1024x1024.Idx) : EReal :=
  Xa.dx (row x3 0) (seg x0 (hd (y 1)) (y 0)) (seg x1 (hd (y 1))) (seg x2 (hd (y 1))) (seg x4 (hd (y 1)) (y 0)) (lane (y 1))

/-- What one step adds to the keys' cotangents, -/
def dkG (x0 : S1024x1024.Idx → EReal) (x1 x2 : S256x1024.Idx → EReal) (x3 : S1x256.Idx → EReal) (x4 : S1024x1024.Idx → EReal)
    (y : S256x1024.Idx) : EReal :=
  ∑ t : Fin 1024, Xa.ds (row x3 0) (seg x0 (hd (y 1)) t) (seg x1 (hd (y 1))) (seg x2 (hd (y 1))) (seg x4 (hd (y 1)) t) (y 0)
    * Xa.qn (row x3 0) (seg x0 (hd (y 1)) t) (lane (y 1))

/-- to the values' -/
def dvG (x0 : S1024x1024.Idx → EReal) (x1 : S256x1024.Idx → EReal) (x3 : S1x256.Idx → EReal) (x4 : S1024x1024.Idx → EReal)
    (y : S256x1024.Idx) : EReal :=
  ∑ t : Fin 1024, Xa.pp (row x3 0) (seg x0 (hd (y 1)) t) (seg x1 (hd (y 1))) (y 0) * seg x4 (hd (y 1)) t (lane (y 1))

/-- and, for one head, to the gain's. -/
def dgG (x0 : S1024x1024.Idx → EReal) (x1 x2 : S256x1024.Idx → EReal) (x3 : S1x256.Idx → EReal) (x4 : S1024x1024.Idx → EReal)
    (h : Fin 4) (a : Fin 256) : EReal :=
  ∑ t : Fin 1024, Xa.dq (row x3 0) (seg x0 h t) (seg x1 h) (seg x2 h) (seg x4 h t) a * Xa.xh (seg x0 h t) a

/-- The gain's cotangent after a step that found `acc`. -/
def dgS (acc : EReal) (x0 : S1024x1024.Idx → EReal) (x1 x2 : S256x1024.Idx → EReal) (x3 : S1x256.Idx → EReal) (x4 : S1024x1024.Idx → EReal)
    (a : Fin 256) : EReal :=
  acc + dgG x0 x1 x2 x3 x4 0 a + dgG x0 x1 x2 x3 x4 1 a + dgG x0 x1 x2 x3 x4 2 a + dgG x0 x1 x2 x3 x4 3 a

section pieces
variable (x0 : Vec Ideal S1024x1024 .bf16) (x1 x2 : Vec Ideal S256x1024 .bf16) (x3 : Vec Ideal S1x256 .f32) (x4 : Vec Ideal S1024x1024 .bf16)
  (h : Fin 4) (o : ℕ) (ho : o = 256 * h.val)
  (i0 : ∀ a, (![0, o] : Fin 2 → ℕ) a + S1024x256.size a ≤ S1024x1024.size a)
  (i1 : ∀ a, (![0, o] : Fin 2 → ℕ) a + S256x256.size a ≤ S256x1024.size a)
  (i3 : ∀ a, (![0, 0] : Fin 2 → ℕ) a + S1x256.size a ≤ S1x256.size a)

/-- A head's loads. -/
abbrev hX (x0 : Vec Ideal S1024x1024 .bf16) (o : ℕ) (i0 : ∀ a, (![0, o] : Fin 2 → ℕ) a + S1024x256.size a ≤ S1024x1024.size a) : Vec Ideal S1024x256 .bf16 :=
  View.ld x0 (Rect.unit (s := S1024x1024) ![0, o] S1024x256.size i0)
abbrev hK (x1 : Vec Ideal S256x1024 .bf16) (o : ℕ) (i1 : ∀ a, (![0, o] : Fin 2 → ℕ) a + S256x256.size a ≤ S256x1024.size a) : Vec Ideal S256x256 .bf16 :=
  View.ld x1 (Rect.unit (s := S256x1024) ![0, o] S256x256.size i1)
abbrev hG (x3 : Vec Ideal S1x256 .f32) (i3 : ∀ a, (![0, 0] : Fin 2 → ℕ) a + S1x256.size a ≤ S1x256.size a) : Vec Ideal S1x256 .f32 :=
  View.ld x3 (Rect.unit (s := S1x256) ![0, 0] S1x256.size i3)

theorem hG_eq : hG x3 i3 = x3 := View.ld_unit_zero (by funext a; match a with | ⟨0, _⟩ => rfl | ⟨1, _⟩ => rfl) i3 x3
include ho in
theorem row_hX (r : Fin 1024) : row (hX x0 o i0) r = seg x0 h r := row_ld x0 h o ho i0 r
include ho in
theorem row_hK : row (hK x1 o i1) = seg x1 h := funext fun r => row_ld x1 h o ho i1 r

include ho in
theorem dx_piece (x : S1024x256.Idx) :
    dxT (hG x3 i3) (hX x0 o i0) (hX x4 o i0) (hK x1 o i1) (hK x2 o i1) x
      = dzG x0 x1 x2 x3 x4 ((Rect.unit (s := S1024x1024) ![0, o] S1024x256.size i0).emb x) := by
  rw [show (Rect.unit (s := S1024x1024) ![0, o] S1024x256.size i0).emb x = ix2 (x 0) (col h (x 1)) from emb_col h o ho i0 x]
  obtain ⟨r, a, rfl⟩ : ∃ r a, x = ix2 (n0 := 1024) (n1 := 256) r a := ⟨x 0, x 1, eta2 x⟩
  rw [dxT_apply, hG_eq, row_hX x0 h o ho, row_hX x4 h o ho, row_hK x1 h o ho, row_hK x2 h o ho]
  unfold dzG
  show _ = Xa.dx _ (seg x0 (hd (col h a)) r) (seg x1 (hd (col h a))) (seg x2 (hd (col h a))) (seg x4 (hd (col h a)) r) (lane (col h a))
  rw [hd_col, lane_col]
include ho in
theorem dk_piece (acc : Vec Ideal S256x256 .f32) (A : S256x1024.Idx → EReal) (hA : ∀ x, acc x = A ((Rect.unit (s := S256x1024) ![0, o] S256x256.size i1).emb x))
    (x : S256x256.Idx) :
    dkT (hG x3 i3) (hX x0 o i0) (hX x4 o i0) (hK x1 o i1) (hK x2 o i1) acc x
      = A ((Rect.unit (s := S256x1024) ![0, o] S256x256.size i1).emb x)
        + dkG x0 x1 x2 x3 x4 ((Rect.unit (s := S256x1024) ![0, o] S256x256.size i1).emb x) := by
  rw [← hA]
  rw [show (Rect.unit (s := S256x1024) ![0, o] S256x256.size i1).emb x = ix2 (x 0) (col h (x 1)) from emb_col h o ho i1 x]
  obtain ⟨r, a, rfl⟩ : ∃ r a, x = ix2 (n0 := 256) (n1 := 256) r a := ⟨x 0, x 1, eta2 x⟩
  rw [dkT_apply, hG_eq, row_hK x1 h o ho, row_hK x2 h o ho]
  simp only [row_hX x0 h o ho, row_hX x4 h o ho]
  unfold dkG
  show _ = _ + ∑ t, Xa.ds _ (seg x0 (hd (col h a)) t) (seg x1 (hd (col h a))) (seg x2 (hd (col h a))) (seg x4 (hd (col h a)) t) r
    * Xa.qn _ (seg x0 (hd (col h a)) t) (lane (col h a))
  rw [hd_col, lane_col]
include ho in
theorem dv_piece (acc : Vec Ideal S256x256 .f32) (A : S256x1024.Idx → EReal) (hA : ∀ x, acc x = A ((Rect.unit (s := S256x1024) ![0, o] S256x256.size i1).emb x))
    (x : S256x256.Idx) :
    dvT (hG x3 i3) (hX x0 o i0) (hX x4 o i0) (hK x1 o i1) acc x
      = A ((Rect.unit (s := S256x1024) ![0, o] S256x256.size i1).emb x)
        + dvG x0 x1 x3 x4 ((Rect.unit (s := S256x1024) ![0, o] S256x256.size i1).emb x) := by
  rw [← hA]
  rw [show (Rect.unit (s := S256x1024) ![0, o] S256x256.size i1).emb x = ix2 (x 0) (col h (x 1)) from emb_col h o ho i1 x]
  obtain ⟨r, a, rfl⟩ : ∃ r a, x = ix2 (n0 := 256) (n1 := 256) r a := ⟨x 0, x 1, eta2 x⟩
  rw [dvT_apply, hG_eq, row_hK x1 h o ho]
  simp only [row_hX x0 h o ho]
  unfold dvG
  show _ = _ + ∑ t, Xa.pp _ (seg x0 (hd (col h a)) t) (seg x1 (hd (col h a))) r * seg x4 (hd (col h a)) t (lane (col h a))
  rw [hd_col, lane_col]
  simp only [← row_hX x4 h o ho i0]
  rfl
include ho in
theorem dg_piece (acc : Vec Ideal S1x256 .f32) (j : Fin 1) (a : Fin 256) :
    dgT (hG x3 i3) (hX x0 o i0) (hX x4 o i0) (hK x1 o i1) (hK x2 o i1) acc (ix2 j a) = acc (ix2 j a) + dgG x0 x1 x2 x3 x4 h a := by
  rw [dgT_apply, hG_eq, row_hK x1 h o ho, row_hK x2 h o ho]
  simp only [row_hX x0 h o ho, row_hX x4 h o ho]
  rfl
include ho in
theorem dg_piece' (acc : Vec Ideal S1x256 .f32) (j : Fin 1) (a : Fin 256) :
    dgT x3 (hX x0 o i0) (hX x4 o i0) (hK x1 o i1) (hK x2 o i1) acc (ix2 j a) = acc (ix2 j a) + dgG x0 x1 x2 x3 x4 h a := by
  have h' := dg_piece x0 x1 x2 x3 x4 h o ho i0 i1 (by decide) acc j a
  rwa [hG_eq] at h'

/-- The zeros of the first steps. -/
theorem zero1 {sp : Space} (v : View sig .tc sp S256x1024 .f32) (o : ℕ) (inb inb') :
    v.readCov (Val := Elt Ideal) [⟨Rect.unit (s := S256x1024) ![0, 0] ![256, 1024] inb, k0_pay1 (F := Ideal)⟩]
      (Rect.unit (s := S256x1024) ![0, o] ![256, 256] inb').toLoadRect = fun _ => (0 : EReal) := by
  rw [View.readCov_eq_canon']
  funext x
  rw [View.canon_cons_unit_lit (S := S256x1024) inb _ _ (by decide)]
  generalize (Rect.unit (s := S256x1024) ![0, o] ![256, 256] inb').toLoadRect.idx x = y
  unfold_payloads
  pointwise
theorem zero2 {sp : Space} (v : View sig .tc sp S256x1024 .f32) (o : ℕ) (inb inb') :
    v.readCov (Val := Elt Ideal) [⟨Rect.unit (s := S256x1024) ![0, 0] ![256, 1024] inb, k0_pay2 (F := Ideal)⟩]
      (Rect.unit (s := S256x1024) ![0, o] ![256, 256] inb').toLoadRect = fun _ => (0 : EReal) := by
  rw [View.readCov_eq_canon']
  funext x
  rw [View.canon_cons_unit_lit (S := S256x1024) inb _ _ (by decide)]
  generalize (Rect.unit (s := S256x1024) ![0, o] ![256, 256] inb').toLoadRect.idx x = y
  unfold_payloads
  pointwise
/-- A load of one head's columns does not see another's. -/
theorem peel {sp : Space} (v : View sig .tc sp S256x1024 .f32) (o o' : ℕ) (inb inb') (w) (L : List (View.Piece (Elt Ideal) S256x1024 .f32))
    (h : o + 256 ≤ o' ∨ o' + 256 ≤ o) :
    v.readCov (Val := Elt Ideal) (⟨Rect.unit (s := S256x1024) ![0, o] ![256, 256] inb, w⟩ :: L) (Rect.unit (s := S256x1024) ![0, o'] ![256, 256] inb').toLoadRect
      = v.readCov L (Rect.unit (s := S256x1024) ![0, o'] ![256, 256] inb').toLoadRect :=
  View.readCov_cons_of_disjoint _ _ _ _ (Rect.unit_disjoint (inb := inb) (inb' := inb') 1 h)
theorem zero3 (j : Fin 1) (a : Fin 256) : k0_pay3 (F := Ideal) (ix2 j a) = 0 := by
  unfold_payloads
  pointwise
theorem zeros : ∀ a, (![0, 0] : Fin 2 → ℕ) a = 0 := by decide
theorem zerosF : (![0, 0] : Fin 2 → ℕ) = fun _ => 0 := funext zeros

theorem canon1 (inb) (w : S1x256.Idx → EReal) (L : List (View.Piece (Elt Ideal) S1x256 .f32)) :
    View.canon (Val := Elt Ideal) (e := .f32) (⟨Rect.unit (s := S1x256) ![0, 0] ![1, 256] inb, w⟩ :: L) = w :=
  View.canon_cons_unit_lit (S := S1x256) inb w L zeros
theorem ld1 (inb) (w : S1x256.Idx → EReal) : View.ld (Val := Elt Ideal) (e' := .f32) w (Rect.unit (s := S1x256) ![0, 0] ![1, 256] inb) = w :=
  hG_eq w inb

/-- Four stores, one for each head's columns, make a block, whatever was stored before. -/
theorem canon_four (G : S256x1024.Idx → EReal) (y : S256x1024.Idx) (L : List (View.Piece (Elt Ideal) S256x1024 .f32)) {i3 i2 i1 i0}
    (w3 : (Rect.unit (s := S256x1024) ![0, 768] S256x256.size i3).shape.Idx → EReal)
    (w2 : (Rect.unit (s := S256x1024) ![0, 512] S256x256.size i2).shape.Idx → EReal)
    (w1 : (Rect.unit (s := S256x1024) ![0, 256] S256x256.size i1).shape.Idx → EReal)
    (w0 : (Rect.unit (s := S256x1024) ![0, 0] S256x256.size i0).shape.Idx → EReal)
    (h3 : ∀ x, w3 x = G ((Rect.unit (s := S256x1024) ![0, 768] S256x256.size i3).emb x))
    (h2 : ∀ x, w2 x = G ((Rect.unit (s := S256x1024) ![0, 512] S256x256.size i2).emb x))
    (h1 : ∀ x, w1 x = G ((Rect.unit (s := S256x1024) ![0, 256] S256x256.size i1).emb x))
    (h0 : ∀ x, w0 x = G ((Rect.unit (s := S256x1024) ![0, 0] S256x256.size i0).emb x)) :
    View.canon (Val := Elt Ideal) (e := .f32) (⟨Rect.unit (s := S256x1024) ![0, 768] S256x256.size i3, w3⟩ :: ⟨Rect.unit (s := S256x1024) ![0, 512] S256x256.size i2, w2⟩
      :: ⟨Rect.unit (s := S256x1024) ![0, 256] S256x256.size i1, w1⟩ :: ⟨Rect.unit (s := S256x1024) ![0, 0] S256x256.size i0, w0⟩ :: L) y = G y := by
  have key : ∀ (r : Rect S256x1024) (h : Fin 4) (w : r.shape.Idx → EReal) (M : List (View.Piece (Elt Ideal) S256x1024 .f32)),
      (hd (y 1) = h → y ∈ r.set) → (∀ x, w x = G (r.emb x)) → (hd (y 1) ≠ h → View.canon (Val := Elt Ideal) M y = G y) →
      View.canon (Val := Elt Ideal) (e := .f32) (⟨r, w⟩ :: M) y = G y := by
    intro r h w M hr hw hM
    by_cases hm : y ∈ r.set
    · obtain ⟨x, hx⟩ := r.exists_idx_of_mem hm
      rw [← hx]
      exact (View.canon_cons_emb _ _ _ x).trans (hw x)
    · rw [View.canon_cons_of_not_mem _ _ hm]
      exact hM fun hh => hm (hr hh)
  have mem : ∀ (o : ℕ) (h : Fin 4) (ho : o = 256 * h.val) (inb), hd (y 1) = h → y ∈ (Rect.unit (s := S256x1024) ![0, o] S256x256.size inb).set := by
    intro o h ho inb hh
    have hy : (Rect.unit (s := S256x1024) ![0, o] S256x256.size inb).emb (ix2 (y 0) (lane (y 1))) = y := by
      refine (emb_col h o ho inb (ix2 (y 0) (lane (y 1)))).trans (Eq.trans ?_ (eta2 y).symm)
      show ix2 (y 0) (col h (lane (y 1))) = _
      rw [← hh]
      exact congrArg (ix2 (y 0)) (col_hd (y 1))
    have hm := (Rect.unit (s := S256x1024) ![0, o] S256x256.size inb).idx_mem (ix2 (y 0) (lane (y 1)))
    rwa [show (Rect.unit (s := S256x1024) ![0, o] S256x256.size inb).idx (ix2 (y 0) (lane (y 1))) = y from hy] at hm
  refine key _ 3 w3 _ (mem 768 3 rfl i3) h3 fun n3 => key _ 2 w2 _ (mem 512 2 rfl i2) h2 fun n2 =>
    key _ 1 w1 _ (mem 256 1 rfl i1) h1 fun n1 => key _ 0 w0 _ (mem 0 0 rfl i0) h0 fun n0 => ?_
  exfalso
  generalize hd (y 1) = k at n3 n2 n1 n0
  revert k
  decide
end pieces

end Cert.KernelIdeal.XaBlock
end
-- ==== Proof.XaBlock.lean ====
module

public import proofs.«01_k».proof.Proof.Gen.KernelIdeal.Value
public import proofs.«01_k».proof.Proof.XaPiece
public import Idealize.ShloMosaic.Lib.Pipeline.Value
public import Idealize.ShloMosaic.Lib.Pipeline.ValueKit

/-! What one grid step leaves in each of the four outputs' blocks, as functions of the step's input blocks. -/

@[expose] public section

set_option maxRecDepth 16384

noncomputable section

open Idealize.ShloMosaic Idealize.ShloMosaic.TcCoe Idealize.SL.Sem
open Idealize.ShloMosaic.Pipeline (Dat)

namespace Cert.KernelIdeal.XaBlock

open Cert.KernelIdeal Cert.KernelIdeal.Gen

open XaHead

section steps
variable (c : Dev nD) (i : grid0.Coords) (arg2 : Memref sig .tc .vmem S1024x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S1x256 .f32) (harg5 : arg5.IsWhole) (arg6 : Memref sig .tc .vmem S1024x1024 .bf16) (harg6 : arg6.IsWhole) (arg8 : Memref sig .tc .vmem S1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x256 .f32) (harg11 : arg11.IsWhole)
  (x0 : Vec Ideal S1024x1024 .bf16) (x1 : Vec Ideal S256x1024 .bf16) (x2 : Vec Ideal S256x1024 .bf16) (x3 : Vec Ideal S1x256 .f32) (x4 : Vec Ideal S1024x1024 .bf16)

theorem out_A5 (hc0 : cond0_0 i) (hc1 : cond0_1 i)  :
    out0_A_5 (F := Ideal) c i arg2 harg2 arg3 harg3 arg4 harg4 arg5 harg5 arg6 harg6 arg8 harg8 arg9 harg9 arg10 harg10 arg11 harg11 hc0 hc1 x0 x1 x2 x3 x4 = dzG x0 x1 x2 x3 x4 := by
  funext y
  unfold out0_A_5
  rw [View.read_writes_eq_canon _ _ _ (cover0_A_5 c i arg2 harg2 arg3 harg3 arg4 harg4 arg5 harg5 arg6 harg6 arg8 harg8 arg9 harg9 arg10 harg10 arg11 harg11 hc0 hc1 x0 x1 x2 x3 x4)]
  refine View.canon_apply_of_pieces (Val := Elt Ideal) (dzG x0 x1 x2 x3 x4) _ ?_ y (cover0_A_5 c i arg2 harg2 arg3 harg3 arg4 harg4 arg5 harg5 arg6 harg6 arg8 harg8 arg9 harg9 arg10 harg10 arg11 harg11 hc0 hc1 x0 x1 x2 x3 x4 y)
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread]
  rw [List.forall_mem_cons, List.forall_mem_cons, List.forall_mem_cons, List.forall_mem_cons]
  exact ⟨fun x => dx_piece x0 x1 x2 x3 x4 3 768 rfl _ _ _ x, fun x => dx_piece x0 x1 x2 x3 x4 2 512 rfl _ _ _ x,
    fun x => dx_piece x0 x1 x2 x3 x4 1 256 rfl _ _ _ x, fun x => dx_piece x0 x1 x2 x3 x4 0 0 rfl _ _ _ x, fun _ h => absurd h List.not_mem_nil⟩

theorem out_A6 (hc0 : cond0_0 i) (hc1 : cond0_1 i)  :
    out0_A_6 (F := Ideal) c i arg2 harg2 arg3 harg3 arg4 harg4 arg5 harg5 arg6 harg6 arg8 harg8 arg9 harg9 arg10 harg10 arg11 harg11 hc0 hc1 x0 x1 x2 x3 x4 = dkG x0 x1 x2 x3 x4 := by
  funext y
  unfold out0_A_6
  rw [View.read_writes_eq_canon _ _ _ (cover0_A_6 c i arg2 harg2 arg3 harg3 arg4 harg4 arg5 harg5 arg6 harg6 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread]
  simp (disch := decide) only [peel, zero1]
  rw [← zero_add (dkG x0 x1 x2 x3 x4 y)]
  refine canon_four (fun y => 0 + dkG x0 x1 x2 x3 x4 y) y _ _ _ _ _ ?_ ?_ ?_ ?_
  · exact fun x => dk_piece x0 x1 x2 x3 x4 3 768 rfl _ _ _ (fun _ => 0) (fun _ => 0) (fun _ => rfl) x
  · exact fun x => dk_piece x0 x1 x2 x3 x4 2 512 rfl _ _ _ (fun _ => 0) (fun _ => 0) (fun _ => rfl) x
  · exact fun x => dk_piece x0 x1 x2 x3 x4 1 256 rfl _ _ _ (fun _ => 0) (fun _ => 0) (fun _ => rfl) x
  · exact fun x => dk_piece x0 x1 x2 x3 x4 0 0 rfl _ _ _ (fun _ => 0) (fun _ => 0) (fun _ => rfl) x

theorem out_A7 (hc0 : cond0_0 i) (hc1 : cond0_1 i)  :
    out0_A_7 (F := Ideal) c i arg2 harg2 arg3 harg3 arg4 harg4 arg5 harg5 arg6 harg6 arg8 harg8 arg9 harg9 arg10 harg10 arg11 harg11 hc0 hc1 x0 x1 x2 x3 x4 = dvG x0 x1 x3 x4 := by
  funext y
  unfold out0_A_7
  rw [View.read_writes_eq_canon _ _ _ (cover0_A_7 c i arg2 harg2 arg3 harg3 arg4 harg4 arg5 harg5 arg6 harg6 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread]
  simp (disch := decide) only [peel, zero2]
  rw [← zero_add (dvG x0 x1 x3 x4 y)]
  refine canon_four (fun y => 0 + dvG x0 x1 x3 x4 y) y _ _ _ _ _ ?_ ?_ ?_ ?_
  · exact fun x => dv_piece x0 x1 x3 x4 3 768 rfl _ _ _ (fun _ => 0) (fun _ => 0) (fun _ => rfl) x
  · exact fun x => dv_piece x0 x1 x3 x4 2 512 rfl _ _ _ (fun _ => 0) (fun _ => 0) (fun _ => rfl) x
  · exact fun x => dv_piece x0 x1 x3 x4 1 256 rfl _ _ _ (fun _ => 0) (fun _ => 0) (fun _ => rfl) x
  · exact fun x => dv_piece x0 x1 x3 x4 0 0 rfl _ _ _ (fun _ => 0) (fun _ => 0) (fun _ => rfl) x

theorem out_A8 (hc0 : cond0_0 i) (hc1 : cond0_1 i)  (j : Fin 1) (a : Fin 256) :
    out0_A_8 (F := Ideal) c i arg2 harg2 arg3 harg3 arg4 harg4 arg5 harg5 arg6 harg6 arg8 harg8 arg9 harg9 arg10 harg10 arg11 harg11 hc0 hc1 x0 x1 x2 x3 x4 (ix2 j a) = dgS (0) x0 x1 x2 x3 x4 a := by
  unfold out0_A_8
  rw [View.read_writes_eq_canon _ _ _ (cover0_A_8 c i arg2 harg2 arg3 harg3 arg4 harg4 arg5 harg5 arg6 harg6 arg8 harg8 arg9 harg9 arg10 harg10 arg11 harg11 hc0 hc1 x0 x1 x2 x3 x4)]
  unfold kernelRun0_A
  dsimp only
  sl_unfold_words
  simp only [View.readAt_eq_ld, harg2.read_unread, harg3.read_unread, harg4.read_unread, harg5.read_unread, harg6.read_unread, harg8.read_unread, harg9.read_unread, harg10.read_unread, harg11.read_unread]
  simp only [View.readCov_cons_toLoadRect, canon1, ld1]
  refine (dg_piece' x0 x1 x2 x3 x4 3 768 rfl (by decide) (by decide) _ j a).trans (congrArg (· + _) ?_)
  refine (dg_piece' x0 x1 x2 x3 x4 2 512 rfl (by decide) (by decide) _ j a).trans (congrArg (· + _) ?_)
  refine (dg_piece' x0 x1 x2 x3 x4 1 256 rfl (by decide) (by decide) _ j a).trans (congrArg (· + _) ?_)
  refine (dg_piece' x0 x1 x2 x3 x4 0 0 rfl (by decide) (by decide) _ j a).trans (congrArg (· + _) ?_)
  exact zero3 j a

theorem out_B5 (hc0 : ¬cond0_0 i) (hc1 : ¬cond0_1 i) (xo6 : Vec Ideal S256x1024 .f32) (xo7 : Vec Ideal S256x1024 .f32) (xo8 : Vec Ideal S1x256 .f32) :
    out0_B_5 (F := Ideal) c i arg2 harg2 arg3 harg3 arg4 harg4 arg5 harg5 arg6 harg6 arg8 harg8 arg9 harg9 arg10 harg10 arg11 harg11 hc0 hc1 x0 x1 x2 x3 x4 xo6 xo7 xo8 = dzG x0 x1 x2 x3 x4 := by
  funext y
  unfold out0_B_5
  rw [View.read_writes_eq_canon _ _ _ (cover0_B_5 c i arg2 harg2 arg3 harg3 arg4 harg4 arg5 harg5 arg6 harg6 arg8 harg8 arg9 harg9 arg10 harg10 arg11 harg11 hc0 hc1 x0 x1 x2 x3 x4 xo6 xo7 xo8)]
  refine View.canon_apply_of_pieces (Val := Elt Ideal) (dzG x0 x1 x2 x3 x4) _ ?_ y (cover0_B_5 c i arg2 harg2 arg3 harg3 arg4 harg4 arg5 harg5 arg6 harg6 arg8 harg8 arg9 harg9 arg10 harg10 arg11 harg11 hc0 hc1 x0 x1 x2 x3 x4 xo6 xo7 xo8 y)
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  rw [List.forall_mem_cons, List.forall_mem_cons, List.forall_mem_cons, List.forall_mem_cons]
  exact ⟨fun x => dx_piece x0 x1 x2 x3 x4 3 768 rfl _ _ _ x, fun x => dx_piece x0 x1 x2 x3 x4 2 512 rfl _ _ _ x,
    fun x => dx_piece x0 x1 x2 x3 x4 1 256 rfl _ _ _ x, fun x => dx_piece x0 x1 x2 x3 x4 0 0 rfl _ _ _ x, fun _ h => absurd h List.not_mem_nil⟩

theorem out_B6 (hc0 : ¬cond0_0 i) (hc1 : ¬cond0_1 i) (xo6 : Vec Ideal S256x1024 .f32) (xo7 : Vec Ideal S256x1024 .f32) (xo8 : Vec Ideal S1x256 .f32) :
    out0_B_6 (F := Ideal) c i arg2 harg2 arg3 harg3 arg4 harg4 arg5 harg5 arg6 harg6 arg8 harg8 arg9 harg9 arg10 harg10 arg11 harg11 hc0 hc1 x0 x1 x2 x3 x4 xo6 xo7 xo8 = fun y => xo6 y + dkG x0 x1 x2 x3 x4 y := by
  funext y
  unfold out0_B_6
  rw [View.read_writes_eq_canon _ _ _ (cover0_B_6 c i arg2 harg2 arg3 harg3 arg4 harg4 arg5 harg5 arg6 harg6 arg8 harg8 arg9 harg9 arg10 harg10 arg11 harg11 hc0 hc1 x0 x1 x2 x3 x4 xo6 xo7 xo8)]
  refine View.canon_apply_of_pieces (Val := Elt Ideal) (fun y => xo6 y + dkG x0 x1 x2 x3 x4 y) _ ?_ y (cover0_B_6 c i arg2 harg2 arg3 harg3 arg4 harg4 arg5 harg5 arg6 harg6 arg8 harg8 arg9 harg9 arg10 harg10 arg11 harg11 hc0 hc1 x0 x1 x2 x3 x4 xo6 xo7 xo8 y)
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  rw [List.forall_mem_cons, List.forall_mem_cons, List.forall_mem_cons, List.forall_mem_cons]
  exact ⟨fun x => dk_piece x0 x1 x2 x3 x4 3 768 rfl _ _ _ _ xo6 (fun _ => rfl) x, fun x => dk_piece x0 x1 x2 x3 x4 2 512 rfl _ _ _ _ xo6 (fun _ => rfl) x,
    fun x => dk_piece x0 x1 x2 x3 x4 1 256 rfl _ _ _ _ xo6 (fun _ => rfl) x, fun x => dk_piece x0 x1 x2 x3 x4 0 0 rfl _ _ _ _ xo6 (fun _ => rfl) x,
    fun _ h => absurd h List.not_mem_nil⟩

theorem out_B7 (hc0 : ¬cond0_0 i) (hc1 : ¬cond0_1 i) (xo6 : Vec Ideal S256x1024 .f32) (xo7 : Vec Ideal S256x1024 .f32) (xo8 : Vec Ideal S1x256 .f32) :
    out0_B_7 (F := Ideal) c i arg2 harg2 arg3 harg3 arg4 harg4 arg5 harg5 arg6 harg6 arg8 harg8 arg9 harg9 arg10 harg10 arg11 harg11 hc0 hc1 x0 x1 x2 x3 x4 xo6 xo7 xo8 = fun y => xo7 y + dvG x0 x1 x3 x4 y := by
  funext y
  unfold out0_B_7
  rw [View.read_writes_eq_canon _ _ _ (cover0_B_7 c i arg2 harg2 arg3 harg3 arg4 harg4 arg5 harg5 arg6 harg6 arg8 harg8 arg9 harg9 arg10 harg10 arg11 harg11 hc0 hc1 x0 x1 x2 x3 x4 xo6 xo7 xo8)]
  refine View.canon_apply_of_pieces (Val := Elt Ideal) (fun y => xo7 y + dvG x0 x1 x3 x4 y) _ ?_ y (cover0_B_7 c i arg2 harg2 arg3 harg3 arg4 harg4 arg5 harg5 arg6 harg6 arg8 harg8 arg9 harg9 arg10 harg10 arg11 harg11 hc0 hc1 x0 x1 x2 x3 x4 xo6 xo7 xo8 y)
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  rw [List.forall_mem_cons, List.forall_mem_cons, List.forall_mem_cons, List.forall_mem_cons]
  exact ⟨fun x => dv_piece x0 x1 x3 x4 3 768 rfl _ _ _ _ xo7 (fun _ => rfl) x, fun x => dv_piece x0 x1 x3 x4 2 512 rfl _ _ _ _ xo7 (fun _ => rfl) x,
    fun x => dv_piece x0 x1 x3 x4 1 256 rfl _ _ _ _ xo7 (fun _ => rfl) x, fun x => dv_piece x0 x1 x3 x4 0 0 rfl _ _ _ _ xo7 (fun _ => rfl) x,
    fun _ h => absurd h List.not_mem_nil⟩

theorem out_B8 (hc0 : ¬cond0_0 i) (hc1 : ¬cond0_1 i) (xo6 : Vec Ideal S256x1024 .f32) (xo7 : Vec Ideal S256x1024 .f32) (xo8 : Vec Ideal S1x256 .f32) (j : Fin 1) (a : Fin 256) :
    out0_B_8 (F := Ideal) c i arg2 harg2 arg3 harg3 arg4 harg4 arg5 harg5 arg6 harg6 arg8 harg8 arg9 harg9 arg10 harg10 arg11 harg11 hc0 hc1 x0 x1 x2 x3 x4 xo6 xo7 xo8 (ix2 j a) = dgS (xo8 (ix2 j a)) x0 x1 x2 x3 x4 a := by
  unfold out0_B_8
  rw [View.read_writes_eq_canon _ _ _ (cover0_B_8 c i arg2 harg2 arg3 harg3 arg4 harg4 arg5 harg5 arg6 harg6 arg8 harg8 arg9 harg9 arg10 harg10 arg11 harg11 hc0 hc1 x0 x1 x2 x3 x4 xo6 xo7 xo8)]
  unfold kernelRun0_B
  dsimp only
  sl_unfold_words
  simp only [View.readAt_eq_ld, harg2.read_unread, harg3.read_unread, harg4.read_unread, harg5.read_unread, harg6.read_unread, harg8.read_unread, harg9.read_unread, harg10.read_unread, harg11.read_unread]
  simp only [View.readCov_cons_toLoadRect, canon1, ld1]
  refine (dg_piece' x0 x1 x2 x3 x4 3 768 rfl (by decide) (by decide) _ j a).trans (congrArg (· + _) ?_)
  refine (dg_piece' x0 x1 x2 x3 x4 2 512 rfl (by decide) (by decide) _ j a).trans (congrArg (· + _) ?_)
  refine (dg_piece' x0 x1 x2 x3 x4 1 256 rfl (by decide) (by decide) _ j a).trans (congrArg (· + _) ?_)
  refine (dg_piece' x0 x1 x2 x3 x4 0 0 rfl (by decide) (by decide) _ j a).trans (congrArg (· + _) ?_)
  rfl

theorem out_C5 (hc0 : cond0_0 i) (hc1 : ¬cond0_1 i) (xo8 : Vec Ideal S1x256 .f32) :
    out0_C_5 (F := Ideal) c i arg2 harg2 arg3 harg3 arg4 harg4 arg5 harg5 arg6 harg6 arg8 harg8 arg9 harg9 arg10 harg10 arg11 harg11 hc0 hc1 x0 x1 x2 x3 x4 xo8 = dzG x0 x1 x2 x3 x4 := by
  funext y
  unfold out0_C_5
  rw [View.read_writes_eq_canon _ _ _ (cover0_C_5 c i arg2 harg2 arg3 harg3 arg4 harg4 arg5 harg5 arg6 harg6 arg8 harg8 arg9 harg9 arg10 harg10 arg11 harg11 hc0 hc1 x0 x1 x2 x3 x4 xo8)]
  refine View.canon_apply_of_pieces (Val := Elt Ideal) (dzG x0 x1 x2 x3 x4) _ ?_ y (cover0_C_5 c i arg2 harg2 arg3 harg3 arg4 harg4 arg5 harg5 arg6 harg6 arg8 harg8 arg9 harg9 arg10 harg10 arg11 harg11 hc0 hc1 x0 x1 x2 x3 x4 xo8 y)
  unfold kernelRun0_C
  dsimp only
  sl_unfold_words
  simp only [View.readAt_eq_ld, harg2.read_unread, harg3.read_unread, harg4.read_unread, harg5.read_unread, harg6.read_unread, harg8.read_unread, harg9.read_unread, harg10.read_unread, harg11.read_unread]
  rw [List.forall_mem_cons, List.forall_mem_cons, List.forall_mem_cons, List.forall_mem_cons]
  exact ⟨fun x => dx_piece x0 x1 x2 x3 x4 3 768 rfl _ _ _ x, fun x => dx_piece x0 x1 x2 x3 x4 2 512 rfl _ _ _ x,
    fun x => dx_piece x0 x1 x2 x3 x4 1 256 rfl _ _ _ x, fun x => dx_piece x0 x1 x2 x3 x4 0 0 rfl _ _ _ x, fun _ h => absurd h List.not_mem_nil⟩

theorem out_C6 (hc0 : cond0_0 i) (hc1 : ¬cond0_1 i) (xo8 : Vec Ideal S1x256 .f32) :
    out0_C_6 (F := Ideal) c i arg2 harg2 arg3 harg3 arg4 harg4 arg5 harg5 arg6 harg6 arg8 harg8 arg9 harg9 arg10 harg10 arg11 harg11 hc0 hc1 x0 x1 x2 x3 x4 xo8 = dkG x0 x1 x2 x3 x4 := by
  funext y
  unfold out0_C_6
  rw [View.read_writes_eq_canon _ _ _ (cover0_C_6 c i arg2 harg2 arg3 harg3 arg4 harg4 arg5 harg5 arg6 harg6 arg8 harg8 arg9 harg9 arg10 harg10 arg11 harg11 hc0 hc1 x0 x1 x2 x3 x4 xo8)]
  unfold kernelRun0_C
  dsimp only
  sl_unfold_words
  simp only [View.readAt_eq_ld, harg2.read_unread, harg3.read_unread, harg4.read_unread, harg5.read_unread, harg6.read_unread, harg8.read_unread, harg9.read_unread, harg10.read_unread, harg11.read_unread]
  simp (disch := decide) only [peel, zero1]
  rw [← zero_add (dkG x0 x1 x2 x3 x4 y)]
  refine canon_four (fun y => 0 + dkG x0 x1 x2 x3 x4 y) y _ _ _ _ _ ?_ ?_ ?_ ?_
  · exact fun x => dk_piece x0 x1 x2 x3 x4 3 768 rfl _ _ _ (fun _ => 0) (fun _ => 0) (fun _ => rfl) x
  · exact fun x => dk_piece x0 x1 x2 x3 x4 2 512 rfl _ _ _ (fun _ => 0) (fun _ => 0) (fun _ => rfl) x
  · exact fun x => dk_piece x0 x1 x2 x3 x4 1 256 rfl _ _ _ (fun _ => 0) (fun _ => 0) (fun _ => rfl) x
  · exact fun x => dk_piece x0 x1 x2 x3 x4 0 0 rfl _ _ _ (fun _ => 0) (fun _ => 0) (fun _ => rfl) x

theorem out_C7 (hc0 : cond0_0 i) (hc1 : ¬cond0_1 i) (xo8 : Vec Ideal S1x256 .f32) :
    out0_C_7 (F := Ideal) c i arg2 harg2 arg3 harg3 arg4 harg4 arg5 harg5 arg6 harg6 arg8 harg8 arg9 harg9 arg10 harg10 arg11 harg11 hc0 hc1 x0 x1 x2 x3 x4 xo8 = dvG x0 x1 x3 x4 := by
  funext y
  unfold out0_C_7
  rw [View.read_writes_eq_canon _ _ _ (cover0_C_7 c i arg2 harg2 arg3 harg3 arg4 harg4 arg5 harg5 arg6 harg6 arg8 harg8 arg9 harg9 arg10 harg10 arg11 harg11 hc0 hc1 x0 x1 x2 x3 x4 xo8)]
  unfold kernelRun0_C
  dsimp only
  sl_unfold_words
  simp only [View.readAt_eq_ld, harg2.read_unread, harg3.read_unread, harg4.read_unread, harg5.read_unread, harg6.read_unread, harg8.read_unread, harg9.read_unread, harg10.read_unread, harg11.read_unread]
  simp (disch := decide) only [peel, zero2]
  rw [← zero_add (dvG x0 x1 x3 x4 y)]
  refine canon_four (fun y => 0 + dvG x0 x1 x3 x4 y) y _ _ _ _ _ ?_ ?_ ?_ ?_
  · exact fun x => dv_piece x0 x1 x3 x4 3 768 rfl _ _ _ (fun _ => 0) (fun _ => 0) (fun _ => rfl) x
  · exact fun x => dv_piece x0 x1 x3 x4 2 512 rfl _ _ _ (fun _ => 0) (fun _ => 0) (fun _ => rfl) x
  · exact fun x => dv_piece x0 x1 x3 x4 1 256 rfl _ _ _ (fun _ => 0) (fun _ => 0) (fun _ => rfl) x
  · exact fun x => dv_piece x0 x1 x3 x4 0 0 rfl _ _ _ (fun _ => 0) (fun _ => 0) (fun _ => rfl) x

theorem out_C8 (hc0 : cond0_0 i) (hc1 : ¬cond0_1 i) (xo8 : Vec Ideal S1x256 .f32) (j : Fin 1) (a : Fin 256) :
    out0_C_8 (F := Ideal) c i arg2 harg2 arg3 harg3 arg4 harg4 arg5 harg5 arg6 harg6 arg8 harg8 arg9 harg9 arg10 harg10 arg11 harg11 hc0 hc1 x0 x1 x2 x3 x4 xo8 (ix2 j a) = dgS (xo8 (ix2 j a)) x0 x1 x2 x3 x4 a := by
  unfold out0_C_8
  rw [View.read_writes_eq_canon _ _ _ (cover0_C_8 c i arg2 harg2 arg3 harg3 arg4 harg4 arg5 harg5 arg6 harg6 arg8 harg8 arg9 harg9 arg10 harg10 arg11 harg11 hc0 hc1 x0 x1 x2 x3 x4 xo8)]
  unfold kernelRun0_C
  dsimp only
  sl_unfold_words
  simp only [View.readAt_eq_ld, harg2.read_unread, harg3.read_unread, harg4.read_unread, harg5.read_unread, harg6.read_unread, harg8.read_unread, harg9.read_unread, harg10.read_unread, harg11.read_unread]
  simp only [View.readCov_cons_toLoadRect, canon1, ld1]
  refine (dg_piece' x0 x1 x2 x3 x4 3 768 rfl (by decide) (by decide) _ j a).trans (congrArg (· + _) ?_)
  refine (dg_piece' x0 x1 x2 x3 x4 2 512 rfl (by decide) (by decide) _ j a).trans (congrArg (· + _) ?_)
  refine (dg_piece' x0 x1 x2 x3 x4 1 256 rfl (by decide) (by decide) _ j a).trans (congrArg (· + _) ?_)
  refine (dg_piece' x0 x1 x2 x3 x4 0 0 rfl (by decide) (by decide) _ j a).trans (congrArg (· + _) ?_)
  rfl

end steps

end Cert.KernelIdeal.XaBlock
end
-- ==== Proof.XaArray.lean ====
module

public import proofs.«01_k».proof.Proof.XaBlock

/-! The four arrays the kernel leaves, as functions of its arguments. -/

@[expose] public section

set_option maxRecDepth 16384

noncomputable section

open Idealize.ShloMosaic Idealize.ShloMosaic.TcCoe Idealize.SL.Sem
open Idealize.ShloMosaic.Pipeline (Dat)

namespace Cert.Xa

/-- The token `s` of the sequence `b`; the sequence of a token. -/
def tok (b : Fin 2) (s : Fin 2048) : Fin 4096 := ⟨2048 * b.val + s.val, by omega⟩
def bat (t : Fin 4096) : Fin 2 := ⟨t.val / 2048, by omega⟩

/-- A head's row of the queries' columns of the projections' array. -/
def zr (Z : (⟨2, ![4096, 10240]⟩ : Shape).Idx → EReal) (t : Fin 4096) (h : Fin 4) : Row :=
  fun a => Z (ix2 t ⟨6144 + (256 * h.val + a.val), by omega⟩)
/-- A head's keys (values) of the sequence `b`. -/
def kr (K : (⟨2, ![512, 1024]⟩ : Shape).Idx → EReal) (b : Fin 2) (h : Fin 4) (n : Fin 256) : Row :=
  fun a => K (ix2 ⟨256 * b.val + n.val, by omega⟩ ⟨256 * h.val + a.val, by omega⟩)
/-- A head's row of the cotangent. -/
def yr (DY : (⟨2, ![4096, 1024]⟩ : Shape).Idx → EReal) (t : Fin 4096) (h : Fin 4) : Row :=
  fun a => DY (ix2 t ⟨256 * h.val + a.val, by omega⟩)
def gr (G : (⟨2, ![1, 256]⟩ : Shape).Idx → EReal) : Row := fun a => G (ix2 0 a)

section
variable (Z : (⟨2, ![4096, 10240]⟩ : Shape).Idx → EReal) (K V : (⟨2, ![512, 1024]⟩ : Shape).Idx → EReal)
  (G : (⟨2, ![1, 256]⟩ : Shape).Idx → EReal) (DY : (⟨2, ![4096, 1024]⟩ : Shape).Idx → EReal)

/-- The queries' cotangent: token, head, lane. -/
def DX (t : Fin 4096) (h : Fin 4) (a : Fin 256) : EReal :=
  dx (gr G) (zr Z t h) (kr K (bat t) h) (kr V (bat t) h) (yr DY t h) a
/-- The keys' cotangent. -/
def DK (b : Fin 2) (n : Fin 256) (h : Fin 4) (a : Fin 256) : EReal :=
  ∑ s : Fin 2048, ds (gr G) (zr Z (tok b s) h) (kr K b h) (kr V b h) (yr DY (tok b s) h) n * qn (gr G) (zr Z (tok b s) h) a
/-- The values' cotangent. -/
def DV (b : Fin 2) (n : Fin 256) (h : Fin 4) (a : Fin 256) : EReal :=
  ∑ s : Fin 2048, pp (gr G) (zr Z (tok b s) h) (kr K b h) n * yr DY (tok b s) h a
/-- The gain's cotangent, a head's part in a token. -/
def DGt (b : Fin 2) (s : Fin 2048) (h : Fin 4) (a : Fin 256) : EReal :=
  dq (gr G) (zr Z (tok b s) h) (kr K b h) (kr V b h) (yr DY (tok b s) h) a * xh (zr Z (tok b s) h) a
def DG (a : Fin 256) : EReal := ∑ b : Fin 2, ∑ s : Fin 2048, ∑ h : Fin 4, DGt Z K V G DY b s h a

end

theorem sum_halves {M : Type} [AddCommMonoid M] (f : Fin 2048 → M) :
    ∑ s : Fin 2048, f s = ∑ r : Fin 1024, f ⟨r.val, by omega⟩ + ∑ r : Fin 1024, f ⟨1024 + r.val, by omega⟩ :=
  Fin.sum_univ_add (a := 1024) (b := 1024) f

end Cert.Xa

namespace Cert.KernelIdeal.XaArray

open Cert.KernelIdeal Cert.KernelIdeal.Gen
open XaHead XaBlock Cert.Xa

variable (m : (ℓ : Loc nD τ sig) → Buf (Elt Ideal) ℓ) (c : Dev nD)

abbrev aZ : (⟨2, ![4096, 10240]⟩ : Shape).Idx → EReal := m ((c : Thread nD τ).loc main_arg0)
abbrev aK : (⟨2, ![512, 1024]⟩ : Shape).Idx → EReal := m ((c : Thread nD τ).loc main_arg1)
abbrev aV : (⟨2, ![512, 1024]⟩ : Shape).Idx → EReal := m ((c : Thread nD τ).loc main_arg2)
abbrev aG : (⟨2, ![1, 256]⟩ : Shape).Idx → EReal := m ((c : Thread nD τ).loc main_arg3)
abbrev aY : (⟨2, ![4096, 1024]⟩ : Shape).Idx → EReal := m ((c : Thread nD τ).loc main_arg4)
abbrev aD : (⟨2, ![4096, 10368]⟩ : Shape).Idx → EReal := m ((c : Thread nD τ).loc main_arg5)

theorem idx : ∀ t : Fin cfg0.N, win0_0.index t = ![t.val, 6] ∧ win0_1.index t = ![t.val / 2, 0] ∧ win0_2.index t = ![t.val / 2, 0]
    ∧ win0_3.index t = ![0, 0] ∧ win0_4.index t = ![t.val, 0] ∧ win0_5.index t = ![t.val, 6] ∧ win0_6.index t = ![t.val / 2, 0]
    ∧ win0_7.index t = ![t.val / 2, 0] ∧ win0_8.index t = ![0, 0] := by
  decide +kernel

theorem lt4 (t : Fin cfg0.N) : t.val < 4 := t.isLt

/-- The token of a row of a step's block, and the sequence of a step. -/
def tk (t : Fin cfg0.N) (r : Fin 1024) : Fin 4096 := ⟨1024 * t.val + r.val, by have := lt4 t; omega⟩
def sq (t : Fin cfg0.N) : Fin 2 := ⟨t.val / 2, by have := lt4 t; omega⟩

theorem seg_z (t : Fin cfg0.N) (h : Fin 4) (r : Fin 1024) : seg (m := 1024) (iblk m c 0 t) h r = zr (aZ m c) (tk t r) h := by
  funext a
  unfold seg zr aZ tk
  blk_ext [iblk, V, idx t, col]
theorem seg_k (t : Fin cfg0.N) (h : Fin 4) : seg (m := 256) (iblk m c 1 t) h = kr (aK m c) (sq t) h := by
  funext n a
  unfold seg kr aK sq
  blk_ext [iblk, V, idx t, col]
theorem seg_v (t : Fin cfg0.N) (h : Fin 4) : seg (m := 256) (iblk m c 2 t) h = kr (aV m c) (sq t) h := by
  funext n a
  unfold seg kr aV sq
  blk_ext [iblk, V, idx t, col]
theorem row_g (t : Fin cfg0.N) (j : Fin 1) : row (m := 1) (iblk m c 3 t) j = gr (aG m c) := by
  funext a
  unfold row gr aG
  blk_ext [iblk, V, idx t]
theorem seg_y (t : Fin cfg0.N) (h : Fin 4) (r : Fin 1024) : seg (m := 1024) (iblk m c 4 t) h r = yr (aY m c) (tk t r) h := by
  funext a
  unfold seg yr aY tk
  blk_ext [iblk, V, idx t, col]

/-- What a step leaves, in each of the cases. -/
abbrev blkD (t : Fin cfg0.N) : S1024x1024.Idx → EReal := dzG (iblk m c 0 t) (iblk m c 1 t) (iblk m c 2 t) (iblk m c 3 t) (iblk m c 4 t)
abbrev blkK (t : Fin cfg0.N) : S256x1024.Idx → EReal := dkG (iblk m c 0 t) (iblk m c 1 t) (iblk m c 2 t) (iblk m c 3 t) (iblk m c 4 t)
abbrev blkV (t : Fin cfg0.N) : S256x1024.Idx → EReal := dvG (iblk m c 0 t) (iblk m c 1 t) (iblk m c 3 t) (iblk m c 4 t)
abbrev blkG (acc : EReal) (t : Fin cfg0.N) (a : Fin 256) : EReal := dgS acc (iblk m c 0 t) (iblk m c 1 t) (iblk m c 2 t) (iblk m c 3 t) (iblk m c 4 t) a

theorem mod4 (t : Fin cfg0.N) (h0 : ¬t.val % 2 = 0) : ¬t.val % 4 = 0 := by omega

theorem o5 (t : Fin cfg0.N) : (outsAt0 m c t.val t.isLt).1 = blkD m c t := by
  by_cases h0 : t.val % 2 = 0
  · by_cases h1 : t.val % 4 = 0
    · rw [outsAt0_A m c t h0 h1]
      dsimp only
      exact out_A5 ..
    · rw [outsAt0_C m c t h0 h1]
      dsimp only
      exact out_C5 ..
  · rw [outsAt0_B m c t h0 (mod4 t h0)]
    dsimp only
    exact out_B5 ..
theorem o6_even (t : Fin cfg0.N) (h0 : t.val % 2 = 0) : (outsAt0 m c t.val t.isLt).2.1 = blkK m c t := by
  by_cases h1 : t.val % 4 = 0
  · rw [outsAt0_A m c t h0 h1]
    dsimp only
    exact out_A6 ..
  · rw [outsAt0_C m c t h0 h1]
    dsimp only
    exact out_C6 ..
theorem o7_even (t : Fin cfg0.N) (h0 : t.val % 2 = 0) : (outsAt0 m c t.val t.isLt).2.2.1 = blkV m c t := by
  by_cases h1 : t.val % 4 = 0
  · rw [outsAt0_A m c t h0 h1]
    dsimp only
    exact out_A7 ..
  · rw [outsAt0_C m c t h0 h1]
    dsimp only
    exact out_C7 ..
/-- The step before. -/
def pre (t : Fin cfg0.N) : Fin cfg0.N := ⟨t.val - 1, Nat.lt_of_le_of_lt (Nat.sub_le _ _) t.isLt⟩

theorem o6_odd (t : Fin cfg0.N) (h0 : ¬t.val % 2 = 0) (y : S256x1024.Idx) :
    (outsAt0 m c t.val t.isLt).2.1 y = blkK m c (pre t) y + blkK m c t y := by
  rw [outsAt0_B m c t h0 (mod4 t h0), ← o6_even m c (pre t) (by show (t.val - 1) % 2 = 0; omega)]
  dsimp only
  exact congrFun (out_B6 ..) y
theorem o7_odd (t : Fin cfg0.N) (h0 : ¬t.val % 2 = 0) (y : S256x1024.Idx) :
    (outsAt0 m c t.val t.isLt).2.2.1 y = blkV m c (pre t) y + blkV m c t y := by
  rw [outsAt0_B m c t h0 (mod4 t h0), ← o7_even m c (pre t) (by show (t.val - 1) % 2 = 0; omega)]
  dsimp only
  exact congrFun (out_B7 ..) y
theorem o8_first (t : Fin cfg0.N) (h1 : t.val % 4 = 0) (j : Fin 1) (a : Fin 256) :
    (outsAt0 m c t.val t.isLt).2.2.2 (ix2 j a) = blkG m c 0 t a := by
  rw [outsAt0_A m c t (by omega) h1]
  dsimp only
  exact out_A8 ..
theorem o8_next (t : Fin cfg0.N) (h1 : ¬t.val % 4 = 0) (j : Fin 1) (a : Fin 256) :
    (outsAt0 m c t.val t.isLt).2.2.2 (ix2 j a) = blkG m c ((outsAt0 m c (pre t).val (pre t).isLt).2.2.2 (ix2 j a)) t a := by
  by_cases h0 : t.val % 2 = 0
  · rw [outsAt0_C m c t h0 h1]
    dsimp only
    exact out_C8 ..
  · rw [outsAt0_B m c t h0 h1]
    dsimp only
    exact out_B8 ..

/-- A step's blocks over the arguments. -/
theorem blkD_eq (t : Fin cfg0.N) (r q : Fin 1024) :
    blkD m c t (ix2 r q) = DX (aZ m c) (aK m c) (aV m c) (aG m c) (aY m c) (tk t r) (hd q) (lane q) := by
  have hb : bat (tk t r) = sq t := Fin.ext (by show (1024 * t.val + r.val) / 2048 = t.val / 2; omega)
  unfold blkD dzG DX
  show Xa.dx (row _ 0) (seg _ (hd q) r) (seg _ (hd q)) (seg _ (hd q)) (seg _ (hd q) r) (lane q) = _
  rw [row_g, seg_z, seg_k, seg_v, seg_y, hb]
theorem blkK_eq (t : Fin cfg0.N) (n : Fin 256) (q : Fin 1024) :
    blkK m c t (ix2 n q) = ∑ r : Fin 1024, Xa.ds (gr (aG m c)) (zr (aZ m c) (tk t r) (hd q)) (kr (aK m c) (sq t) (hd q)) (kr (aV m c) (sq t) (hd q)) (yr (aY m c) (tk t r) (hd q)) n
      * Xa.qn (gr (aG m c)) (zr (aZ m c) (tk t r) (hd q)) (lane q) := by
  unfold blkK dkG
  show ∑ r : Fin 1024, Xa.ds (row _ 0) (seg _ (hd q) r) (seg _ (hd q)) (seg _ (hd q)) (seg _ (hd q) r) n * Xa.qn (row _ 0) (seg _ (hd q) r) (lane q) = _
  simp only [row_g, seg_z, seg_k, seg_v, seg_y]
theorem blkV_eq (t : Fin cfg0.N) (n : Fin 256) (q : Fin 1024) :
    blkV m c t (ix2 n q) = ∑ r : Fin 1024, Xa.pp (gr (aG m c)) (zr (aZ m c) (tk t r) (hd q)) (kr (aK m c) (sq t) (hd q)) n * yr (aY m c) (tk t r) (hd q) (lane q) := by
  unfold blkV dvG
  show ∑ r : Fin 1024, Xa.pp (row _ 0) (seg _ (hd q) r) (seg _ (hd q)) n * seg _ (hd q) r (lane q) = _
  simp only [row_g, seg_z, seg_k, seg_y]
theorem blkG_eq (acc : EReal) (t : Fin cfg0.N) (a : Fin 256) :
    blkG m c acc t a = acc + ∑ r : Fin 1024, ∑ h : Fin 4, Xa.dq (gr (aG m c)) (zr (aZ m c) (tk t r) h) (kr (aK m c) (sq t) h) (kr (aV m c) (sq t) h) (yr (aY m c) (tk t r) h) a
      * Xa.xh (zr (aZ m c) (tk t r) h) a := by
  unfold blkG dgS dgG
  simp only [row_g, seg_z, seg_k, seg_v, seg_y]
  rw [Finset.sum_comm, Fin.sum_univ_four]
  simp only [add_assoc]

/-- The four arrays. -/
def R5 : S4096x10368.Idx → EReal := fun i =>
  if h : (i 1).val / 1024 = 6 then
    DX (aZ m c) (aK m c) (aV m c) (aG m c) (aY m c) (i 0) (hd ⟨(i 1).val % 1024, Nat.mod_lt _ (by decide)⟩) (lane ⟨(i 1).val % 1024, Nat.mod_lt _ (by decide)⟩)
  else aD m c i
def R6 : S512x1024.Idx → EReal := fun i =>
  DK (aZ m c) (aK m c) (aV m c) (aG m c) (aY m c) ⟨(i 0).val / 256, by have : (i 0).val < 512 := (i 0).isLt; omega⟩ ⟨(i 0).val % 256, Nat.mod_lt _ (by decide)⟩ (hd (i 1)) (lane (i 1))
def R7 : S512x1024.Idx → EReal := fun i =>
  DV (aZ m c) (aK m c) (aG m c) (aY m c) ⟨(i 0).val / 256, by have : (i 0).val < 512 := (i 0).isLt; omega⟩ ⟨(i 0).val % 256, Nat.mod_lt _ (by decide)⟩ (hd (i 1)) (lane (i 1))
def R8 : S1x256.Idx → EReal := fun i => Xa.DG (aZ m c) (aK m c) (aV m c) (aG m c) (aY m c) (i 1)

theorem V_copy : V m c main_v0_0 = aD m c := by
  entry_read
  rfl

theorem left5 (t : Fin cfg0.N) (y : S1024x1024.Idx) (i : S4096x10368.Idx) (h0 : (i 0).val = 1024 * t.val + (y 0).val)
    (h1 : (i 1).val = 6144 + (y 1).val) : blkD m c t y = R5 m c i := by
  obtain ⟨r, q, rfl⟩ : ∃ r q, y = ix2 (n0 := 1024) (n1 := 1024) r q := ⟨y 0, y 1, eta2 (m := 1024) (n := 1024) y⟩
  change (i 0).val = 1024 * t.val + r.val at h0
  change (i 1).val = 6144 + q.val at h1
  refine (blkD_eq m c t r q).trans ?_
  have e0 : tk t r = i 0 := Fin.ext h0.symm
  have e : q = (⟨(i 1).val % 1024, Nat.mod_lt _ (by decide)⟩ : Fin 1024) := Fin.ext (by show q.val = (i 1).val % 1024; omega)
  unfold R5
  rw [dif_pos (by omega), ← e, e0]

theorem final5 : (dats m 0 c).arrAt 5 cfg0.N = R5 m c := by
  have h := (dats m 0 c).arrAt_eq_of_coversWhere 5 (R5 m c) (P := fun i => (i 1).val / 1024 = 6) (fun β => β (1 : Fin _) = 6) (by decide +kernel)
    (fun t hf y => ?_) (fun j => Iff.rfl)
  · rw [h]
    funext i
    by_cases hi : (i 1).val / 1024 = 6
    · rw [if_pos hi]
    · rw [if_neg hi]
      unfold R5
      rw [dif_neg hi]
      exact congrFun (V_copy m c) i
  · blk_simp
    rw [after0_5, o5]
    refine left5 m c t _ _ ?_ ?_
    · have e : ((cfg0.win 5).xinj (cfg0.grid.coords t) y 0).val = (y 0).val := rfl
      blk_simp [idx t]; omega
    · have e : ((cfg0.win 5).xinj (cfg0.grid.coords t) y 1).val = (y 1).val := rfl
      blk_simp [idx t]; try omega

theorem sq_pre (t : Fin cfg0.N) (ht : ¬t.val % 2 = 0) : sq (pre t) = sq t := Fin.ext (by show (t.val - 1) / 2 = t.val / 2; omega)
theorem tok_pre (t : Fin cfg0.N) (ht : ¬t.val % 2 = 0) (r : Fin 1024) : tok (sq t) ⟨r.val, by omega⟩ = tk (pre t) r :=
  Fin.ext (by show 2048 * (t.val / 2) + r.val = 1024 * (t.val - 1) + r.val; omega)
theorem tok_odd (t : Fin cfg0.N) (ht : ¬t.val % 2 = 0) (r : Fin 1024) : tok (sq t) ⟨1024 + r.val, by omega⟩ = tk t r :=
  Fin.ext (by show 2048 * (t.val / 2) + (1024 + r.val) = 1024 * t.val + r.val; omega)

theorem left6 (t : Fin cfg0.N) (ht : ¬t.val % 2 = 0) (y : S256x1024.Idx) (i : S512x1024.Idx) (h0 : (i 0).val = 256 * (t.val / 2) + (y 0).val)
    (h1 : (i 1).val = (y 1).val) : (blkK m c (pre t) y : EReal) + blkK m c t y = R6 m c i := by
  obtain ⟨n, q, rfl⟩ : ∃ r q, y = ix2 (n0 := 256) (n1 := 1024) r q := ⟨y 0, y 1, eta2 (m := 256) (n := 1024) y⟩
  change (i 0).val = 256 * (t.val / 2) + n.val at h0
  have e1 : i 1 = q := Fin.ext h1
  unfold R6
  rw [blkK_eq, blkK_eq, e1, DK]
  have hb : (⟨(i 0).val / 256, by have := lt4 t; omega⟩ : Fin 2) = sq t := Fin.ext (by show (i 0).val / 256 = t.val / 2; omega)
  have hn : (⟨(i 0).val % 256, Nat.mod_lt _ (by decide)⟩ : Fin 256) = n := Fin.ext (by show (i 0).val % 256 = n.val; omega)
  rw [hb, hn, sum_halves, sq_pre t ht]
  simp only [tok_pre t ht, tok_odd t ht]

theorem final6 : (dats m 0 c).arrAt 6 cfg0.N = R6 m c := by
  refine (dats m 0 c).arrAt_eq_of_covers 6 _ (by decide +kernel) fun t hf y => ?_
  have ht : ¬t.val % 2 = 0 := by have := (flush0_6 t).mp hf; omega
  blk_simp
  rw [after0_6, o6_odd m c t ht]
  refine left6 m c t ht _ _ ?_ ?_
  · blk_simp [idx t]; omega
  · blk_simp [idx t]

theorem left7 (t : Fin cfg0.N) (ht : ¬t.val % 2 = 0) (y : S256x1024.Idx) (i : S512x1024.Idx) (h0 : (i 0).val = 256 * (t.val / 2) + (y 0).val)
    (h1 : (i 1).val = (y 1).val) : (blkV m c (pre t) y : EReal) + blkV m c t y = R7 m c i := by
  obtain ⟨n, q, rfl⟩ : ∃ r q, y = ix2 (n0 := 256) (n1 := 1024) r q := ⟨y 0, y 1, eta2 (m := 256) (n := 1024) y⟩
  change (i 0).val = 256 * (t.val / 2) + n.val at h0
  have e1 : i 1 = q := Fin.ext h1
  unfold R7
  rw [blkV_eq, blkV_eq, e1, DV]
  have hb : (⟨(i 0).val / 256, by have := lt4 t; omega⟩ : Fin 2) = sq t := Fin.ext (by show (i 0).val / 256 = t.val / 2; omega)
  have hn : (⟨(i 0).val % 256, Nat.mod_lt _ (by decide)⟩ : Fin 256) = n := Fin.ext (by show (i 0).val % 256 = n.val; omega)
  rw [hb, hn, sum_halves, sq_pre t ht]
  simp only [tok_pre t ht, tok_odd t ht]

theorem final7 : (dats m 0 c).arrAt 7 cfg0.N = R7 m c := by
  refine (dats m 0 c).arrAt_eq_of_covers 7 _ (by decide +kernel) fun t hf y => ?_
  have ht : ¬t.val % 2 = 0 := by have := (flush0_7 t).mp hf; omega
  blk_simp
  rw [after0_7, o7_odd m c t ht]
  refine left7 m c t ht _ _ ?_ ?_
  · blk_simp [idx t]; omega
  · blk_simp [idx t]

/-- What a step adds to the gain's cotangent. -/
def addG (t : Fin cfg0.N) (a : Fin 256) : EReal :=
  ∑ r : Fin 1024, ∑ h : Fin 4, Xa.dq (gr (aG m c)) (zr (aZ m c) (tk t r) h) (kr (aK m c) (sq t) h) (kr (aV m c) (sq t) h) (yr (aY m c) (tk t r) h) a
      * Xa.xh (zr (aZ m c) (tk t r) h) a

theorem o8_last (j : Fin 1) (a : Fin 256) :
    (outsAt0 m c t0_3.val t0_3.isLt).2.2.2 (ix2 j a) = 0 + addG m c t0_0 a + addG m c t0_1 a + addG m c t0_2 a + addG m c t0_3 a := by
  refine (o8_next m c t0_3 (by decide) j a).trans ((blkG_eq m c _ t0_3 a).trans (congrArg (· + addG m c t0_3 a) ?_))
  refine (o8_next m c t0_2 (by decide) j a).trans ((blkG_eq m c _ t0_2 a).trans (congrArg (· + addG m c t0_2 a) ?_))
  refine (o8_next m c t0_1 (by decide) j a).trans ((blkG_eq m c _ t0_1 a).trans (congrArg (· + addG m c t0_1 a) ?_))
  exact (o8_first m c t0_0 (by decide) j a).trans (blkG_eq m c _ t0_0 a)

theorem half_pre (t : Fin cfg0.N) (ht : ¬t.val % 2 = 0) (a : Fin 256) :
    ∑ s : Fin 2048, ∑ h : Fin 4, DGt (aZ m c) (aK m c) (aV m c) (aG m c) (aY m c) (sq t) s h a = addG m c (pre t) a + addG m c t a := by
  rw [sum_halves]
  unfold DGt addG
  rw [sq_pre t ht]
  simp only [tok_pre t ht, tok_odd t ht]

theorem left8 (a : Fin 256) : 0 + addG m c t0_0 a + addG m c t0_1 a + addG m c t0_2 a + addG m c t0_3 a
    = Xa.DG (aZ m c) (aK m c) (aV m c) (aG m c) (aY m c) a := by
  have h1 := half_pre m c t0_1 (by decide) a
  have h3 := half_pre m c t0_3 (by decide) a
  unfold Xa.DG
  rw [Fin.sum_univ_two, zero_add, add_assoc]
  exact (congrArg₂ (· + ·) h1 h3).symm

theorem final8 : (dats m 0 c).arrAt 8 cfg0.N = R8 m c := by
  refine (dats m 0 c).arrAt_eq_of_covers 8 _ (by decide +kernel) fun t hf y => ?_
  have ht : t.val % 4 = 3 := (flush0_8 t).mp hf
  obtain rfl : t = t0_3 := Fin.ext (by have := lt4 t; show t.val = 3; omega)
  obtain ⟨j, a, rfl⟩ : ∃ j a, y = ix2 (n0 := 1) (n1 := 256) j a := ⟨y 0, y 1, eta2 (m := 1) (n := 256) y⟩
  blk_simp
  rw [after0_8]
  refine (o8_last m c j a).trans ((left8 m c a).trans (congrArg (Xa.DG (aZ m c) (aK m c) (aV m c) (aG m c) (aY m c)) (Fin.ext ?_)))
  blk_simp [idx t0_3]

/-- The run: the four arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = R5 m c
      ∧ r.2.mem ((c : Thread nD τ).loc main_v0_1) = R6 m c
      ∧ r.2.mem ((c : Thread nD τ).loc main_v0_2) = R7 m c
      ∧ r.2.mem ((c : Thread nD τ).loc main_v0_3) = R8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2.1.trans (final7 m c),
    (h c).2.2.2.1.trans (final8 m c), (h c).2.2.2.2⟩) (Value.run_blocks m ρ)

end Cert.KernelIdeal.XaArray
end
-- ==== Proof.XaAlg.lean ====
module

public import proofs.«01_k».proof.Proof.XaSpec

/-! The derivative the way reverse differentiation spells it, against the kernel's closed forms, on rows with real
entries. The values and the cotangents may be infinite. -/

@[expose] public section

noncomputable section

open Idealize.ShloMosaic

namespace Cert.Xa

theorem c256_eq : c256 = ((256 : ℝ) : EReal) := by
  unfold c256; simp [Ideal.ofBits, Ideal.ieee, -EReal.coe_mul]; norm_num
theorem c16_eq : c16 = ((16 : ℝ) : EReal) := by
  unfold c16; simp [Ideal.ofBits, Ideal.ieee, -EReal.coe_mul]; norm_num
theorem one_eq : Ideal.ofBits .f32 1065353216#32 = ((1 : ℝ) : EReal) := by
  simp [Ideal.ofBits, Ideal.ieee, -EReal.coe_mul]; norm_num
theorem half_eq : Ideal.ofBits .f32 3204448256#32 = ((-(1 / 2) : ℝ) : EReal) := by
  simp [Ideal.ofBits, Ideal.ieee, -EReal.coe_mul]; norm_num
theorem bot_eq : bot = ⊥ := by
  unfold bot; simp [Ideal.ofBits, Ideal.ieee]
theorem eps_pos : ∃ ε : ℝ, 0 < ε ∧ eps = (ε : EReal) := by
  unfold eps
  simp [Ideal.ofBits, Ideal.ieee, -EReal.coe_mul]

/-- A row of reals. -/
def Fin' (x : Row) : Prop := ∀ a, ∃ r : ℝ, x a = r

theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (by exact_mod_cast hc) (EReal.coe_ne_top _), ih]

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

section
variable {g x : Row} {K : Fin 256 → Row}

theorem rsqrt_pos (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

/-- The norm's factor is a positive real, its square the inverse of the mean square. -/
theorem rr_real (hx : Fin' x) : ∃ q r : ℝ, 0 < q ∧ 0 < r ∧ ms x = (q : EReal) ∧ rr x = (r : EReal) ∧ r * r = 1 / q := by
  choose y hy using hx
  obtain ⟨ε, hε, he⟩ := eps_pos
  have hq : ms x = (((∑ a, y a * y a) * (1 / 256) + ε : ℝ) : EReal) := by
    unfold ms
    rw [c256_eq, he, Ideal.div_coe (by norm_num), EReal.coe_add, EReal.coe_mul, ← coe_sum]
    simp only [hy, EReal.coe_mul]
  have hp : 0 < (∑ a, y a * y a) * (1 / 256) + ε := by
    have : 0 ≤ ∑ a, y a * y a := Finset.sum_nonneg fun a _ => mul_self_nonneg _
    positivity
  refine ⟨_, (Real.sqrt ((∑ a, y a * y a) * (1 / 256) + ε))⁻¹, hp, by positivity, hq, ?_, ?_⟩
  · unfold rr
    rw [hq]
    exact rsqrt_pos _ hp
  · rw [← mul_inv, Real.mul_self_sqrt hp.le, ← one_div]

theorem sc_real (hg : Fin' g) (hx : Fin' x) (hK : ∀ m, Fin' (K m)) : ∃ z : Fin 256 → ℝ, ∀ m, sc g x K m = (z m : EReal) := by
  obtain ⟨q, r, -, -, -, hr, -⟩ := rr_real hx
  choose y hy using hx
  choose w hw using hg
  choose k hk using hK
  refine ⟨fun m => (∑ a, y a * r * w a * k m a) * (1 / 16), fun m => ?_⟩
  unfold sc qn xh
  rw [c16_eq, Ideal.div_coe (by norm_num), EReal.coe_mul, ← coe_sum]
  simp only [hy, hw, hk, hr, EReal.coe_mul]

/-- The exponentials are nonnegative reals with a positive sum. -/
theorem ex_real (hg : Fin' g) (hx : Fin' x) (hK : ∀ m, Fin' (K m)) :
    ∃ (E : Fin 256 → ℝ) (σ : ℝ), (∀ m, 0 ≤ E m) ∧ 0 < σ ∧ (∀ m, ex g x K m = (E m : EReal)) ∧ se g x K = (σ : EReal) := by
  obtain ⟨z, hz⟩ := sc_real hg hx hK
  have hm : ∃ M : ℝ, mx g x K = (M : EReal) := by
    have h1 : mx g x K = Finset.univ.sup fun m => sc g x K m := by
      unfold mx; rw [bot_eq]; rfl
    obtain ⟨m, -, hm⟩ := Finset.exists_mem_eq_sup (Finset.univ : Finset (Fin 256)) ⟨0, Finset.mem_univ _⟩ (fun m => sc g x K m)
    exact ⟨z m, by rw [h1, hm, hz]⟩
  obtain ⟨M, hM⟩ := hm
  have he : ∀ m, ex g x K m = ((Real.exp (z m - M) : ℝ) : EReal) := fun m => by
    unfold ex
    rw [hz, hM, ← EReal.coe_sub]
    rfl
  refine ⟨fun m => Real.exp (z m - M), ∑ m, Real.exp (z m - M), fun m => (Real.exp_pos _).le,
    Finset.sum_pos (fun m _ => Real.exp_pos _) ⟨0, Finset.mem_univ _⟩, he, ?_⟩
  unfold se
  rw [← coe_sum]
  exact Finset.sum_congr rfl fun m _ => he m

/-- The scores' cotangent. -/
theorem ds_eq (hg : Fin' g) (hx : Fin' x) (hK : ∀ m, Fin' (K m)) (V : Fin 256 → Row) (dy : Row) (m : Fin 256) :
    Ideal.div ((Ideal.div (dp V dy m) (se g x K)
      + -∑ n, dp V dy n * Ideal.div (Ideal.ofBits .f32 1065353216#32) (se g x K * se g x K) * ex g x K n) * ex g x K m) c16
      = ds g x K V dy m := by
  obtain ⟨E, σ, hE, hσ, he, hs⟩ := ex_real hg hx hK
  unfold ds
  refine congrArg (Ideal.div · c16) ?_
  unfold pp
  rw [hs, one_eq, ← EReal.coe_mul, Ideal.div_coe (mul_pos hσ hσ).ne']
  simp only [Ideal.div_coe hσ.ne', he]
  have h1 : ∀ n, dp V dy n * (((1 : ℝ) : EReal) * ((1 / (σ * σ) : ℝ) : EReal)) * (E n : EReal)
      = ((1 / σ : ℝ) : EReal) * ((E n : EReal) * ((1 / σ : ℝ) : EReal) * dp V dy n) := fun n => by
    rw [show (1 / (σ * σ) : ℝ) = 1 / σ * (1 / σ) by field_simp, EReal.coe_mul, EReal.coe_one, one_mul]
    ac_rfl
  simp only [h1]
  rw [← mul_sum_coe _ _ (by positivity), mul_comm (dp V dy m), ← mul_neg, ← EReal.left_distrib_of_nonneg_of_ne_top (by exact_mod_cast (by positivity : (0 : ℝ) ≤ 1 / σ)) (EReal.coe_ne_top _),
    ← sub_eq_add_neg]
  ac_rfl

/-- The row's cotangent. -/
theorem dx_eq (hx : Fin' x) (V : Fin 256 → Row) (dy : Row) (a : Fin 256) (T : EReal)
    (hT : T = Ideal.div ((∑ b, x b * gd g x K V dy b) * (Ideal.ofBits .f32 3204448256#32 * Ideal.div (rr x) (ms x))) c256) :
    gd g x K V dy a * rr x + x a * T + T * x a = dx g x K V dy a := by
  obtain ⟨q, r, hq, hr, hms, hrr, hrq⟩ := rr_real hx
  obtain ⟨y, hy⟩ : ∃ y : Fin 256 → ℝ, ∀ b, x b = (y b : EReal) := ⟨fun b => (hx b).choose, fun b => (hx b).choose_spec⟩
  unfold dx xh
  rw [half_eq, hms, hrr, c256_eq, Ideal.div_coe hq.ne', Ideal.div_coe (by norm_num)] at hT
  rw [hrr, c256_eq, Ideal.div_coe (by norm_num)]
  have hG : ∑ b, gd g x K V dy b * (x b * (r : EReal)) = (r : EReal) * ∑ b, x b * gd g x K V dy b := by
    rw [mul_sum_coe _ _ hr.le]
    exact Finset.sum_congr rfl fun b _ => by ac_rfl
  rw [hG]
  generalize (∑ b, x b * gd g x K V dy b) = G at hT ⊢
  have hT' : T = ((-(1 / 2) * (r * (1 / q)) * (1 / 256) : ℝ) : EReal) * G := by
    rw [hT, ← EReal.coe_mul, ← EReal.coe_mul, mul_assoc, ← EReal.coe_mul, mul_comm]
  have h2 : x a * T + T * x a = ((-(r * (y a * r) * (1 / 256) * r) : ℝ) : EReal) * G := by
    rw [mul_comm T, hT', hy, ← mul_assoc, ← EReal.coe_mul]
    generalize hc : (y a * (-(1 / 2) * (r * (1 / q)) * (1 / 256)) : ℝ) = c
    have : (c : EReal) * G + (c : EReal) * G = (2 : ℝ) * ((c : EReal) * G) := by
      rw [show ((2 : ℝ) : EReal) = 1 + 1 by rw [← EReal.coe_one, ← EReal.coe_add]; norm_num, EReal.right_distrib_of_nonneg zero_le_one zero_le_one, one_mul]
    rw [this, ← mul_assoc, ← EReal.coe_mul, ← hc, ← hrq]
    congr 2
    ring
  rw [add_assoc, h2, sub_eq_add_neg, EReal.left_distrib_of_nonneg_of_ne_top (by exact_mod_cast hr.le) (EReal.coe_ne_top _), mul_comm (gd g x K V dy a), hy, mul_neg]
  congr 1
  rw [EReal.coe_neg, neg_mul]
  congr 1
  simp only [EReal.coe_mul]
  ac_rfl

end

end Cert.Xa
end
-- ==== Proof.XaRef.lean ====
module

public import proofs.«01_k».proof.Proof.XaArray
public import proofs.«01_k».proof.Proof.XaAlg
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.XaRef

open Cert.ReferenceIdeal Cert.ReferenceIdeal.Gen Cert.ReferenceIdeal.Read Cert.Xa

theorem bot_lit : Ideal.ofBits FTy.f32 4286578688#32 = (⊥ : EReal) := bot_eq

theorem ds_eq1 {g x : Row} {K : Fin 256 → Row} (hg : Fin' g) (hx : Fin' x) (hK : ∀ m, Fin' (K m)) (V : Fin 256 → Row) (dy : Row) (m : Fin 256) :
    Ideal.div ((Ideal.div (dp V dy m) (se g x K)
      + -∑ n, dp V dy n * Ideal.div 1 (se g x K * se g x K) * ex g x K n) * ex g x K m) c16 = ds g x K V dy m := by
  have h := ds_eq hg hx hK V dy m
  rwa [one_eq, EReal.coe_one] at h

theorem Fin.sum_univ_one {M : Type} [AddCommMonoid M] (f : Fin 1 → M) : ∑ k, f k = f 0 := by
  rw [Fin.sum_univ_succ]; simp

variable (x0 : (⟨2, ![4096, 10240]⟩ : Shape).Idx → EReal) (x1 x2 : (⟨2, ![512, 1024]⟩ : Shape).Idx → EReal)
  (x3 : (⟨2, ![1, 256]⟩ : Shape).Idx → EReal) (x4 : (⟨2, ![4096, 1024]⟩ : Shape).Idx → EReal)
  (b : Fin 2) (s : Fin 2048) (h : Fin 4) (a n : Fin 256)

theorem v5 : val_main_v5 (F := Ideal) x0 (ix4 b s h a) = (zr x0 (tok b s) h) a := by
  unfold val_main_v5 val_main_v1 val_main_v0
  pointwise
  unfold zr tok
  blk_ext

theorem v6 : val_main_v6 (F := Ideal) x1 (ix4 b n h a) = (kr x1 b h) n a := by
  unfold val_main_v6 val_main_v2
  pointwise
  unfold kr
  blk_ext

theorem v7 : val_main_v7 (F := Ideal) x2 (ix4 b n h a) = (kr x2 b h) n a := by
  unfold val_main_v7 val_main_v3
  pointwise
  unfold kr
  blk_ext

theorem v59 : val_main_v59 (F := Ideal) x4 (ix4 b h a s) = (yr x4 (tok b s) h) a := by
  unfold val_main_v59 val_main_v58 val_main_v4
  pointwise
  unfold yr tok
  blk_ext

theorem v14 : val_main_v14 (F := Ideal) x0 (ix4 b s h 0) = ms (zr x0 (tok b s) h) := by
  unfold val_main_v14 val_main_v13 val_main_cst_1 val_main_v12 val_main_v11 val_main_cst_0 val_main_v10 val_main_v9 val_main_v8 val_main_cst
  pointwise
  simp only [v5]
  rfl

theorem v15 : val_main_v15 (F := Ideal) x0 (ix4 b s h 0) = rr (zr x0 (tok b s) h) := by
  unfold val_main_v15
  pointwise
  simp only [v14]
  rfl

theorem v20 : val_main_v20 (F := Ideal) x0 (ix4 b s h a) = xh (zr x0 (tok b s) h) a := by
  unfold val_main_v20 val_main_v19
  pointwise
  simp only [v5, v15]
  rfl

theorem v23 : val_main_v23 (F := Ideal) x0 x3 (ix4 b s h a) = qn (gr x3) (zr x0 (tok b s) h) a := by
  unfold val_main_v23 val_main_v22 val_main_v21
  pointwise
  simp only [v20]
  rfl

theorem v26 : val_main_v26 (F := Ideal) x0 x1 x3 (ix4 b h s n) = sc (gr x3) (zr x0 (tok b s) h) (kr x1 b h) n := by
  unfold val_main_v26 val_main_v25 val_main_cst_3 val_main_v24
  pointwise [dot_S2x2048x4x256_S2x256x4x256_S2x4x2048x256_3_3_1_1_02_02]
  simp only [v23, v6]
  rfl

theorem v27 : val_main_v27 (F := Ideal) x0 x1 x3 (ix3 b h s) = mx (gr x3) (zr x0 (tok b s) h) (kr x1 b h) := by
  unfold val_main_v27 val_main_cst_4
  pointwise
  simp only [v26]
  unfold mx bot
  rfl

theorem v34 : val_main_v34 (F := Ideal) x0 x1 x3 (ix3 b h s) = mx (gr x3) (zr x0 (tok b s) h) (kr x1 b h) := by
  rw [val_main_v34_apply, val_main_v33_apply, val_main_cst_6_apply, v27]
  exact (congrArg (fun e => max e (mx (gr x3) (zr x0 (tok b s) h) (kr x1 b h))) bot_lit).trans (max_eq_right bot_le)

theorem v47 : val_main_v47 (F := Ideal) x0 x1 x3 (ix4 b h s n) = ex (gr x3) (zr x0 (tok b s) h) (kr x1 b h) n := by
  unfold val_main_v47 val_main_v46 val_main_v45 val_main_v44
  pointwise
  simp only [v26, v34]
  rfl

theorem v49 : val_main_v49 (F := Ideal) x0 x1 x3 (ix4 b h s 0) = se (gr x3) (zr x0 (tok b s) h) (kr x1 b h) := by
  unfold val_main_v49 val_main_v48 val_main_cst_12
  pointwise
  simp only [v47]
  rfl

theorem v51 : val_main_v51 (F := Ideal) x0 x1 x3 (ix4 b h s n) = pp (gr x3) (zr x0 (tok b s) h) (kr x1 b h) n := by
  unfold val_main_v51 val_main_v50
  pointwise
  simp only [v47, v49]
  rfl

theorem v60 : val_main_v60 (F := Ideal) x2 x4 (ix4 b h s n) = dp (kr x2 b h) (yr x4 (tok b s) h) n := by
  unfold val_main_v60
  pointwise [dot_S2x4x256x2048_S2x256x4x256_S2x4x2048x256_2_3_3_1_01_02]
  simp only [v59, v7]
  rfl

end Cert.ReferenceIdeal.XaRef
end
-- ==== Proof.XaGrad.lean ====
module

public import proofs.«01_k».proof.Proof.XaRef
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.XaRef

open Cert.ReferenceIdeal Cert.ReferenceIdeal.Gen Cert.ReferenceIdeal.Read Cert.Xa

variable (x0 : (⟨2, ![4096, 10240]⟩ : Shape).Idx → EReal) (x1 x2 : (⟨2, ![512, 1024]⟩ : Shape).Idx → EReal)
  (x3 : (⟨2, ![1, 256]⟩ : Shape).Idx → EReal) (x4 : (⟨2, ![4096, 1024]⟩ : Shape).Idx → EReal)
  (b : Fin 2) (s : Fin 2048) (h : Fin 4) (a n : Fin 256)

theorem v76 (hg : Fin' (gr x3)) (hx : ∀ t h, Fin' (zr x0 t h)) (hK : ∀ b h n, Fin' (kr x1 b h n)) : val_main_v76 (F := Ideal) x0 x1 x2 x3 x4 (ix4 b h s n) = ds (gr x3) (zr x0 (tok b s) h) (kr x1 b h) (kr x2 b h) (yr x4 (tok b s) h) n := by
  unfold val_main_v76 val_main_v75 val_main_cst_16 val_main_v74 val_main_v73 val_main_v72 val_main_v71 val_main_cst_15 val_main_v70 val_main_v69 val_main_v68 val_main_v67 val_main_v66 val_main_cst_14 val_main_v65 val_main_v64 val_main_v63 val_main_v54 val_main_v53 val_main_cst_13 val_main_v52
  pointwise
  simp only [Fin.sum_univ_one, v60, v49, v47]
  exact ds_eq1 hg (hx _ _) (hK _ _) _ _ _

theorem v80 (hg : Fin' (gr x3)) (hx : ∀ t h, Fin' (zr x0 t h)) (hK : ∀ b h n, Fin' (kr x1 b h n)) : val_main_v80 (F := Ideal) x0 x1 x2 x3 x4 (ix4 b s h a) = dq (gr x3) (zr x0 (tok b s) h) (kr x1 b h) (kr x2 b h) (yr x4 (tok b s) h) a := by
  unfold val_main_v80 val_main_v79
  pointwise [dot_S2x4x2048x256_S2x256x4x256_S2x4x2048x256_3_1_2_3_01_02]
  simp only [v76 _ _ _ _ _ _ _ _ _ hg hx hK, v6]
  rfl

theorem v85 (hg : Fin' (gr x3)) (hx : ∀ t h, Fin' (zr x0 t h)) (hK : ∀ b h n, Fin' (kr x1 b h n)) : val_main_v85 (F := Ideal) x0 x1 x2 x3 x4 (ix4 b s h a) = gd (gr x3) (zr x0 (tok b s) h) (kr x1 b h) (kr x2 b h) (yr x4 (tok b s) h) a := by
  unfold val_main_v85 val_main_v84 val_main_v21
  pointwise
  simp only [v80 _ _ _ _ _ _ _ _ _ hg hx hK]
  rfl

theorem v97 (hg : Fin' (gr x3)) (hx : ∀ t h, Fin' (zr x0 t h)) (hK : ∀ b h n, Fin' (kr x1 b h n)) : val_main_v97 (F := Ideal) x0 x1 x2 x3 x4 (ix4 b s h a) = Ideal.div ((∑ b', zr x0 (tok b s) h b' * gd (gr x3) (zr x0 (tok b s) h) (kr x1 b h) (kr x2 b h) (yr x4 (tok b s) h) b') * (Ideal.ofBits .f32 3204448256#32 * Ideal.div (rr (zr x0 (tok b s) h)) (ms (zr x0 (tok b s) h)))) c256 := by
  unfold val_main_v97 val_main_v96 val_main_cst_21 val_main_v95 val_main_v94 val_main_cst_20 val_main_v93 val_main_v90 val_main_v89 val_main_cst_19 val_main_v88 val_main_v18 val_main_v17 val_main_cst_2 val_main_v16
  pointwise
  simp only [Fin.sum_univ_one, v5, v85 _ _ _ _ _ _ _ _ _ hg hx hK, v15, v14]
  rfl

theorem v101 (hg : Fin' (gr x3)) (hx : ∀ t h, Fin' (zr x0 t h)) (hK : ∀ b h n, Fin' (kr x1 b h n)) : val_main_v101 (F := Ideal) x0 x1 x2 x3 x4 (ix4 b s h a) = dx (gr x3) (zr x0 (tok b s) h) (kr x1 b h) (kr x2 b h) (yr x4 (tok b s) h) a := by
  unfold val_main_v101 val_main_v100 val_main_v99 val_main_v98 val_main_v92 val_main_v91
  pointwise
  simp only [v85 _ _ _ _ _ _ _ _ _ hg hx hK, v15, v5, v97 _ _ _ _ _ _ _ _ _ hg hx hK]
  exact dx_eq (hx _ _) _ _ _ _ rfl

theorem v102 : val_main_v102 (F := Ideal) x0 x1 x3 x4 (ix2 (⟨256 * b.val + n.val, by omega⟩ : Fin 512) (⟨256 * h.val + a.val, by omega⟩ : Fin 1024)) = DV x0 x1 x3 x4 b n h a := by
  unfold val_main_v102 val_main_v62 val_main_v61
  pointwise [dot_S2x4x256x2048_S2x4x2048x256_S2x4x256x256_3_2_2_3_01_01]
  simp only [v59, v51, DV]
  exact Finset.sum_congr rfl fun s _ => mul_comm _ _

theorem v103 (hg : Fin' (gr x3)) (hx : ∀ t h, Fin' (zr x0 t h)) (hK : ∀ b h n, Fin' (kr x1 b h n)) : val_main_v103 (F := Ideal) x0 x1 x2 x3 x4 (ix2 (⟨256 * b.val + n.val, by omega⟩ : Fin 512) (⟨256 * h.val + a.val, by omega⟩ : Fin 1024)) = DK x0 x1 x2 x3 x4 b n h a := by
  unfold val_main_v103 val_main_v78 val_main_v77
  pointwise [dot_S2x4x2048x256_S2x2048x4x256_S2x4x256x256_2_1_3_3_01_02]
  simp only [v76 _ _ _ _ _ _ _ _ _ hg hx hK, v23]
  rfl

end Cert.ReferenceIdeal.XaRef
end
-- ==== Proof.XaOut.lean ====
module

public import proofs.«01_k».proof.Proof.XaGrad
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.XaRef

open Cert.KernelIdeal.XaBlock (hd lane)
open Cert.ReferenceIdeal Cert.ReferenceIdeal.Gen Cert.ReferenceIdeal.Read Cert.Xa

variable (x0 : (⟨2, ![4096, 10240]⟩ : Shape).Idx → EReal) (x1 x2 : (⟨2, ![512, 1024]⟩ : Shape).Idx → EReal)
  (x3 : (⟨2, ![1, 256]⟩ : Shape).Idx → EReal) (x4 : (⟨2, ![4096, 1024]⟩ : Shape).Idx → EReal) (x5 : (⟨2, ![4096, 10368]⟩ : Shape).Idx → EReal)
  (hg : Fin' (gr x3)) (hx : ∀ t h, Fin' (zr x0 t h)) (hK : ∀ b h n, Fin' (kr x1 b h n))
/-- A sum over the indices of a rank-4 array that drop to `a` when the first three axes are reduced. -/
theorem reduce3 {n0 n1 n2 n3 : Nat} (hr : (⟨4, ![n0, n1, n2, n3]⟩ : Shape).ReducesTo [0, 1, 2] (⟨1, ![n3]⟩ : Shape))
    (v : (⟨4, ![n0, n1, n2, n3]⟩ : Shape).Idx → EReal) (init : EReal) (a : Fin n3) :
    Ideal.hostReduceAdd hr v init (ix1 a) = init + ∑ b : Fin n0, ∑ s : Fin n1, ∑ h : Fin n2, v (ix4 b s h a) := by
  refine congrArg (init + ·) ?_
  refine (Finset.sum_filter_eq_sum_of_fiber _ (fun k : Fin n0 × Fin n1 × Fin n2 => ix4 k.1 k.2.1 k.2.2 a)
    (fun _ _ e => Prod.ext (congrFun e 0) (Prod.ext (congrFun e 1) (congrFun e 2))) (fun i => ⟨fun e => ⟨(i 0, i 1, i 2), ?_⟩, ?_⟩) v).trans ?_
  · funext x
    apply Fin.ext
    match x with
    | ⟨0, _⟩ => rfl
    | ⟨1, _⟩ => rfl
    | ⟨2, _⟩ => rfl
    | ⟨3, _⟩ => exact (congrArg Fin.val (congrFun e 0)).symm
  · rintro ⟨k, rfl⟩
    funext x
    apply Fin.ext
    match x with
    | ⟨0, _⟩ => rfl
  · simp only [Fintype.sum_prod_type]

include hg hx hK in
theorem out0 (t : Fin 4096) (q : Fin 1024) : val_main_v106 (F := Ideal) x0 x1 x2 x3 x4 (ix2 t q)
    = DX x0 x1 x2 x3 x4 t (hd q) (lane q) := by
  have h := v101 x0 x1 x2 x3 x4 (bat t) ⟨t.val % 2048, by omega⟩ (hd q) (lane q) hg hx hK
  have ht : tok (bat t) ⟨t.val % 2048, by omega⟩ = t := Fin.ext (by show 2048 * (t.val / 2048) + t.val % 2048 = t.val; omega)
  rw [ht] at h
  refine Eq.trans ?_ h
  unfold val_main_v106 val_main_v104
  pointwise
  rfl

include hg hx hK in
theorem out1 (r : Fin 512) (q : Fin 1024) : val_main_v103 (F := Ideal) x0 x1 x2 x3 x4 (ix2 r q)
    = DK x0 x1 x2 x3 x4 ⟨r.val / 256, by omega⟩ ⟨r.val % 256, by omega⟩ (hd q) (lane q) := by
  have h := v103 x0 x1 x2 x3 x4 ⟨r.val / 256, by omega⟩ (hd q) (lane q) ⟨r.val % 256, by omega⟩ hg hx hK
  have hr : (⟨256 * (r.val / 256) + r.val % 256, by omega⟩ : Fin 512) = r := Fin.ext (by show 256 * (r.val / 256) + r.val % 256 = r.val; omega)
  have hq : (⟨256 * (hd q).val + (lane q).val, by omega⟩ : Fin 1024) = q := Fin.ext (by show 256 * (q.val / 256) + q.val % 256 = q.val; omega)
  exact (congrArg₂ (fun u w => val_main_v103 (F := Ideal) x0 x1 x2 x3 x4 (ix2 u w)) hr hq).symm.trans h

theorem out2 (r : Fin 512) (q : Fin 1024) : val_main_v102 (F := Ideal) x0 x1 x3 x4 (ix2 r q)
    = DV x0 x1 x3 x4 ⟨r.val / 256, by omega⟩ ⟨r.val % 256, by omega⟩ (hd q) (lane q) := by
  have h := v102 x0 x1 x3 x4 ⟨r.val / 256, by omega⟩ (hd q) (lane q) ⟨r.val % 256, by omega⟩
  have hr : (⟨256 * (r.val / 256) + r.val % 256, by omega⟩ : Fin 512) = r := Fin.ext (by show 256 * (r.val / 256) + r.val % 256 = r.val; omega)
  have hq : (⟨256 * (hd q).val + (lane q).val, by omega⟩ : Fin 1024) = q := Fin.ext (by show 256 * (q.val / 256) + q.val % 256 = q.val; omega)
  exact (congrArg₂ (fun u w => val_main_v102 (F := Ideal) x0 x1 x3 x4 (ix2 u w)) hr hq).symm.trans h

include hg hx hK in
theorem v82 (a : Fin 256) : val_main_v82 (F := Ideal) x0 x1 x2 x3 x4 (ix1 a) = DG x0 x1 x2 x3 x4 a := by
  unfold val_main_v82 val_main_cst_17 val_main_v81
  pointwise
  rw [reduce3, zero_add]
  unfold DG DGt
  refine Finset.sum_congr rfl fun b _ => Finset.sum_congr rfl fun s _ => Finset.sum_congr rfl fun h _ => ?_
  rw [← v80 x0 x1 x2 x3 x4 b s h a hg hx hK, ← v20]
  exact mul_comm _ _

include hg hx hK in
theorem out3 (a : Fin 256) : val_main_v87 (F := Ideal) x0 x1 x2 x3 x4 (ix2 0 a) = DG x0 x1 x2 x3 x4 a := by
  unfold val_main_v87 val_main_v86 val_main_cst_18 val_main_v83
  pointwise
  rw [reduce3, zero_add, Fin.sum_univ_one, Fin.sum_univ_one, Fin.sum_univ_one, ← v82 x0 x1 x2 x3 x4 hg hx hK]
  pointwise

include hg hx hK in
theorem out0_all (t : Fin 4096) (q : Fin 10368) : val_main_v108 (F := Ideal) x0 x1 x2 x3 x4 x5 (ix2 t q)
    = if h : q.val / 1024 = 6 then DX x0 x1 x2 x3 x4 t (hd ⟨q.val % 1024, by omega⟩) (lane ⟨q.val % 1024, by omega⟩) else x5 (ix2 t q) := by
  unfold val_main_v108 val_main_v107 val_main_v105
  pointwise
  by_cases h1 : q.val < 6144
  · rw [dif_pos h1, dif_neg (by omega)]
  · rw [dif_neg h1]
    by_cases h2 : q.val - 6144 < 1024
    · rw [dif_pos h2, dif_pos (by omega), out0 x0 x1 x2 x3 x4 hg hx hK]
      have e : (⟨q.val - 6144, h2⟩ : Fin 1024) = ⟨q.val % 1024, by omega⟩ := Fin.ext (by show q.val - 6144 = q.val % 1024; omega)
      rw [e]
    · rw [dif_neg h2, dif_neg (by omega)]
      exact congrArg (fun k => x5 (ix2 t k)) (Fin.ext (by show 7168 + (q.val - 6144 - 1024) = q.val; omega))

end Cert.ReferenceIdeal.XaRef
end
-- ==== Proof.XaClaim.lean ====
module

public import proofs.«01_k».proof.Defs
public import proofs.«01_k».proof.Proof.XaOut
public import proofs.«01_k».proof.Proof.Gen.ReferenceIdeal.Run
public import proofs.«01_k».proof.Proof.Gen.Pre_finite

/-! The kernel and `jax.vjp` of the attention leave equal arrays where the scores' three factors are finite. -/

@[expose] public section

noncomputable section

open Idealize.ShloMosaic Idealize.ShloMosaic.TcCoe Idealize.SL.Sem

namespace Cert.XaClaim

open Cert.Xa Cert.KernelIdeal.XaArray
open Cert.KernelIdeal (nD τ sig main_arg0 main_arg1 main_arg2 main_arg3 main_arg4 main_arg5)
open Cert.KernelIdeal.XaBlock (hd lane eta2)

/-- An extended real whose absolute value is less than +∞ is a real. -/
theorem real_of_abs {x : EReal} (h : max x (-x) < ⊤) : ∃ r : ℝ, x = r := by
  induction x with
  | bot => simp at h
  | top => simp at h
  | coe r => exact ⟨r, rfl⟩

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- Where the comparison of the absolute value with +∞ is one, the element is a real. -/
theorem real_of_cmp {x y : EReal} (hy : y = ⊤) (h : BitVec.ofBool (decide (max x (-x) < y)) = 1#1) : ∃ r : ℝ, x = r := by
  subst hy
  by_cases hx : max x (-x) < ⊤
  · exact real_of_abs hx
  · rw [decide_eq_false hx] at h
    exact absurd h (by decide)

section
variable (m : (ℓ : Loc nD τ sig) → Buf (Elt Ideal) ℓ) (hp : Cert.Pre_KernelIdeal_finite m) (c : Dev nD)
include hp

theorem fin_z (t : Fin 4096) (h : Fin 4) : Fin' (zr (aZ m c) t h) := fun a => by
  have e := congrFun (hp c).1 (ix2 t ⟨256 * h.val + a.val, by omega⟩)
  unfold Cert.Pre_finite.fn at e
  dsimp only at e
  pointwise at e
  exact real_of_cmp top_bf16 e

theorem fin_k (b : Fin 2) (h : Fin 4) (n : Fin 256) : Fin' (kr (aK m c) b h n) := fun a => by
  have e := congrFun (hp c).2.1 (ix2 ⟨256 * b.val + n.val, by omega⟩ ⟨256 * h.val + a.val, by omega⟩)
  unfold Cert.Pre_finite.fn at e
  dsimp only at e
  pointwise at e
  exact real_of_cmp top_bf16 e

theorem fin_g : Fin' (gr (aG m c)) := fun a => by
  have e := congrFun (hp c).2.2 (ix2 0 a)
  unfold Cert.Pre_finite.fn at e
  dsimp only at e
  pointwise at e
  exact real_of_cmp top_f32 e

end

open Cert.ReferenceIdeal.Read Cert.ReferenceIdeal.XaRef

/-- The reference's run ends with its arguments unchanged and every counter at zero. -/
theorem frame_ref : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- From memories agreeing on the arguments, with the scores' factors finite, both run and leave equal arrays. -/
theorem algebraic : Cert.algebraic_KernelIdeal_ReferenceIdeal_pre_finite := by
  intro m g m' g' hp ha
  refine ⟨R5 m, R6 m, R7 m, R8 m, (θ_run Cert.KernelIdeal.defs _ _).mono (fun r h c => h c) (Cert.KernelIdeal.XaArray.run m g),
    (θ_run Cert.ReferenceIdeal.defs _ _).mono (fun r h c => ?_) (Cert.ReferenceIdeal.Value.run m' g')⟩
  obtain ⟨h0, h1, h2, h3, hk⟩ := h c
  obtain ⟨a0, a1, a2, a3, a4, a5⟩ := ha c
  refine ⟨h0.trans ?_, h1.trans ?_, h2.trans ?_, h3.trans ?_, hk⟩
  · rw [val_main_v108_eq, a0, a1, a2, a3, a4, a5]
    funext i
    obtain ⟨t, q, rfl⟩ : ∃ t q, i = ix2 (n0 := 4096) (n1 := 10368) t q := ⟨i 0, i 1, eta2 (m := 4096) (n := 10368) i⟩
    exact out0_all _ _ _ _ _ _ (fin_g m hp c) (fin_z m hp c) (fin_k m hp c) t q
  · rw [val_main_v103_eq, a0, a1, a2, a3, a4]
    funext i
    obtain ⟨t, q, rfl⟩ : ∃ t q, i = ix2 (n0 := 512) (n1 := 1024) t q := ⟨i 0, i 1, eta2 (m := 512) (n := 1024) i⟩
    exact out1 _ _ _ _ _ (fin_g m hp c) (fin_z m hp c) (fin_k m hp c) t q
  · rw [val_main_v102_eq, a0, a1, a3, a4]
    funext i
    obtain ⟨t, q, rfl⟩ : ∃ t q, i = ix2 (n0 := 512) (n1 := 1024) t q := ⟨i 0, i 1, eta2 (m := 512) (n := 1024) i⟩
    exact out2 _ _ _ _ t q
  · rw [val_main_v87_eq, a0, a1, a2, a3, a4]
    funext i
    obtain ⟨t, q, rfl⟩ : ∃ t q, i = ix2 (n0 := 1) (n1 := 256) t q := ⟨i 0, i 1, eta2 (m := 1) (n := 256) i⟩
    obtain rfl : t = 0 := Subsingleton.elim _ _
    exact out3 _ _ _ _ _ (fin_g m hp c) (fin_z m hp c) (fin_k m hp c) q

end Cert.XaClaim
end
-- ==== Proof.FfnSpec.lean ====
module

public import proofs.«01_k».proof.Proof.XaAlg
public import Idealize.ShloMosaic.Lib.Pointwise
public import Idealize.ShloMosaic.Lib.ValueIdx

/-! The gated FFN and its gradient at one token and one column, over the extended reals. -/

@[expose] public section

noncomputable section

open Idealize.ShloMosaic

namespace Cert.Ffn

/-- The sigmoid. -/
def sg (x : EReal) : EReal := Ideal.div 1 (1 + Ideal.exp (-x))

section
variable (H : (⟨2, ![4096, 1024]⟩ : Shape).Idx → EReal) (W : (⟨2, ![5632, 1024]⟩ : Shape).Idx → EReal)
  (O : (⟨2, ![2816, 1024]⟩ : Shape).Idx → EReal) (Y : (⟨2, ![4096, 1024]⟩ : Shape).Idx → EReal)

/-- A column of the gate's half of the first weights, and of the other half. -/
def lo (f : Fin 2816) : Fin 5632 := ⟨f.val, by omega⟩
def hi (f : Fin 2816) : Fin 5632 := ⟨2816 + f.val, by omega⟩

/-- The two halves of the first product. -/
def ga (t : Fin 4096) (f : Fin 2816) : EReal := ∑ k : Fin 1024, H (ix2 t k) * W (ix2 (lo f) k)
def up (t : Fin 4096) (f : Fin 2816) : EReal := ∑ k : Fin 1024, H (ix2 t k) * W (ix2 (hi f) k)
/-- What the second product takes. -/
def act (t : Fin 4096) (f : Fin 2816) : EReal := ga H W t f * sg (ga H W t f) * up H W t f
/-- Its cotangent. -/
def da (t : Fin 4096) (f : Fin 2816) : EReal := ∑ k : Fin 1024, Y (ix2 t k) * O (ix2 f k)
/-- The cotangents of the two halves. -/
def dg (t : Fin 4096) (f : Fin 2816) : EReal :=
  da O Y t f * up H W t f * sg (ga H W t f) * (1 + ga H W t f * (1 - sg (ga H W t f)))
def du (t : Fin 4096) (f : Fin 2816) : EReal := da O Y t f * ga H W t f * sg (ga H W t f)
/-- The input's cotangent. -/
def dh (t : Fin 4096) (k : Fin 1024) : EReal :=
  ∑ f : Fin 2816, du H W O Y t f * W (ix2 (hi f) k) + ∑ f : Fin 2816, dg H W O Y t f * W (ix2 (lo f) k)
end

/-- Every element is a real. -/
def Reals {s : Shape} (A : s.Idx → EReal) : Prop := ∀ i, ∃ r : ℝ, A i = r

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {ι : Type} (s : Finset ι) (f : ι → EReal) (h : ∀ i, ∃ r : ℝ, f i = r) : ∃ r : ℝ, ∑ i ∈ s, f i = r := by
  choose g hg using h
  exact ⟨∑ i ∈ s, g i, by rw [← Xa.coe_sum]; exact Finset.sum_congr rfl fun i _ => hg i⟩

theorem sg_real (x : ℝ) : ∃ s : ℝ, sg x = s := by
  have hp : (1 + Real.exp (-x)) ≠ 0 := by positivity
  refine ⟨(1 + Real.exp (-x))⁻¹, ?_⟩
  have e : (1 : EReal) + Ideal.exp (-(x : EReal)) = ((1 + Real.exp (-x) : ℝ) : EReal) := by
    rw [← EReal.coe_neg]
    show (1 : EReal) + ((Real.exp (-x) : ℝ) : EReal) = _
    rw [EReal.coe_add, EReal.coe_one]
  unfold sg Ideal.div
  rw [e, if_neg (by exact_mod_cast hp), one_mul, ← EReal.coe_inv]

/-- The derivative of the gate, as differentiation leaves it. -/
theorem gate_eq {a u g : EReal} (ha : ∃ r : ℝ, a = r) (hu : ∃ r : ℝ, u = r) (hg : ∃ r : ℝ, g = r) :
    a * u * sg g + g * (a * u) * (sg g * (1 - sg g)) = a * u * sg g * (1 + g * (1 - sg g)) := by
  obtain ⟨a, rfl⟩ := ha
  obtain ⟨u, rfl⟩ := hu
  obtain ⟨g, rfl⟩ := hg
  obtain ⟨s, hs⟩ := sg_real g
  rw [hs]
  norm_cast
  ring

end Cert.Ffn
end
-- ==== Proof.FfnBlock.lean ====
module

public import proofs.«01_k».proof.Proof.Gen.FfnKernelIdeal.Frame
public import proofs.«01_k».proof.Proof.FfnSpec
public import Idealize.ShloMosaic.Lib.Pipeline.Value
public import Idealize.ShloMosaic.Lib.Pipeline.ValueKit

/-! What one grid step of each of the four calls leaves in its outputs' blocks. -/

@[expose] public section

set_option maxRecDepth 16384

noncomputable section

open Idealize.ShloMosaic Idealize.ShloMosaic.TcCoe Idealize.SL.Sem

namespace Cert.FfnKernelIdeal.FfnBlock

open Cert.FfnKernelIdeal Cert.FfnKernelIdeal.Gen
open Cert.Ffn (sg)

theorem zeros : (![0, 0] : Fin 2 → ℕ) = fun _ => 0 := by
  funext a
  match a with
  | ⟨0, _⟩ => rfl
  | ⟨1, _⟩ => rfl

/-- A row of the first block against a row of the second. -/
def dd (x : Vec Ideal S512x1024 .bf16) (y : Vec Ideal S1408x1024 .bf16) (r : Fin 512) (q : Fin 1408) : EReal :=
  ∑ k : Fin 1024, x (ix2 r k) * y (ix2 q k)

section
variable (x0 : Vec Ideal S512x1024 .bf16) (x1 x2 : Vec Ideal S1408x1024 .bf16) (x3 x4 : Vec Ideal S512x1408 .bf16)
  (r : Fin 512) (q : Fin 1408)

theorem p01 : k0_pay1 x0 x1 (ix2 r q) = dd x0 x1 r q := by
  unfold k0_pay1 dd
  pointwise [dot_S512x1024_S1408x1024_S512x1408_1_1_0_0_n_n]
theorem p02 : k0_pay2 x0 x2 (ix2 r q) = dd x0 x2 r q := by
  unfold k0_pay2 dd
  pointwise [dot_S512x1024_S1408x1024_S512x1408_1_1_0_0_n_n]
theorem p11 : k1_pay1 x0 x1 (ix2 r q) = dd x0 x1 r q := by
  unfold k1_pay1 dd
  pointwise [dot_S512x1024_S1408x1024_S512x1408_1_1_0_0_n_n]
theorem p12 : k1_pay2 x3 (ix2 r q) = x3 (ix2 r q) := by
  unfold k1_pay2
  pointwise
theorem p13 : k1_pay3 x3 (ix2 r q) = sg (x3 (ix2 r q)) := by
  unfold k1_pay3
  pointwise
  rw [p12, zero_sub]
  rfl

theorem o03 : out0_3 (F := Ideal) x0 x1 x2 (ix2 r q) = dd x0 x1 r q := by
  unfold out0_3
  rw [View.canon_unit_zero zeros, View.ld_unit_zero zeros, View.ld_unit_zero zeros]
  unfold k0_pay3
  pointwise
  exact p01 x0 x1 r q
theorem o04 : out0_4 (F := Ideal) x0 x1 x2 (ix2 r q) = dd x0 x2 r q := by
  unfold out0_4
  rw [View.canon_unit_zero zeros, View.ld_unit_zero zeros, View.ld_unit_zero zeros]
  unfold k0_pay4
  pointwise
  exact p02 x0 x2 r q
theorem o05 : out0_5 (F := Ideal) x0 x1 x2 (ix2 r q) = dd x0 x1 r q * sg (dd x0 x1 r q) * dd x0 x2 r q := by
  unfold out0_5
  rw [View.canon_unit_zero zeros, View.ld_unit_zero zeros, View.ld_unit_zero zeros, View.ld_unit_zero zeros]
  unfold k0_pay5
  pointwise
  rw [p01, p02, zero_sub]
  rfl
theorem o14 : out1_4 (F := Ideal) x0 x1 x3 x4 (ix2 r q)
    = dd x0 x1 r q * x4 (ix2 r q) * sg (x3 (ix2 r q)) * (1 + x3 (ix2 r q) * (1 - sg (x3 (ix2 r q)))) := by
  unfold out1_4
  rw [View.canon_unit_zero zeros, View.ld_unit_zero zeros, View.ld_unit_zero zeros, View.ld_unit_zero zeros, View.ld_unit_zero zeros]
  unfold k1_pay4
  pointwise
  rw [p11, p12, p13]
theorem o15 : out1_5 (F := Ideal) x0 x1 x3 x4 (ix2 r q) = dd x0 x1 r q * x3 (ix2 r q) * sg (x3 (ix2 r q)) := by
  unfold out1_5
  rw [View.canon_unit_zero zeros, View.ld_unit_zero zeros, View.ld_unit_zero zeros, View.ld_unit_zero zeros]
  unfold k1_pay5
  pointwise
  rw [p11, p12, p13]
end

section
variable (x0 : Vec Ideal S512x2816 .bf16) (x1 : Vec Ideal S2816x1024 .bf16) (x2 : Vec Ideal S512x1024 .f32)
  (r : Fin 512) (q : Fin 1024)

theorem o22 : out2_2 (F := Ideal) x0 x1 (ix2 r q) = ∑ f : Fin 2816, x0 (ix2 r f) * x1 (ix2 f q) := by
  unfold out2_2
  rw [View.canon_unit_zero zeros, View.ld_unit_zero zeros, View.ld_unit_zero zeros]
  unfold k2_pay1
  pointwise [dot_S512x2816_S2816x1024_S512x1024_1_0_0_1_n_n]
theorem o33 : out3_3 (F := Ideal) x0 x1 x2 (ix2 r q) = (∑ f : Fin 2816, x0 (ix2 r f) * x1 (ix2 f q)) + x2 (ix2 r q) := by
  unfold out3_3
  rw [View.canon_unit_zero zeros, View.ld_unit_zero zeros, View.ld_unit_zero zeros, View.ld_unit_zero zeros]
  unfold k3_pay1
  pointwise [dot_S512x2816_S2816x1024_S512x1024_1_0_0_1_n_n]
end

end Cert.FfnKernelIdeal.FfnBlock
end
-- ==== Proof.FfnRun.lean ====
module

public import proofs.«01_k».proof.Proof.Gen.FfnKernelIdeal.Frame

/-! The run of the four calls: where it ends, read off the contents each call leaves. -/

@[expose] public section

noncomputable section

namespace Cert.FfnKernelIdeal.FfnRun

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory every execution ends with every array of the program as the last call leaves it. -/
theorem run : θ_run defs (onTc (τ := τ) (main (F := F))) ⟨m, fun _ => 0, ρ⟩ (fun r => ∀ c : Dev nD,
      r.2.mem ((c.tc : Thread nD τ).loc main_v0_2) = W4 m ρ c (Proc.devRef .tc main_v0_2)
      ∧ r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0_2 (by decide)), h c _ (mem_uc main_v1_0 (by decide)), h c _ (mem_uc main_v1_1 (by decide)),
       h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.FfnKernelIdeal.FfnRun
end
-- ==== Proof.FfnArray.lean ====
module

public import proofs.«01_k».proof.Proof.FfnBlock
public import proofs.«01_k».proof.Proof.FfnRun

/-! The arrays each of the four calls leaves, over the arrays it finds. -/

@[expose] public section

set_option maxRecDepth 16384

noncomputable section

open Idealize.ShloMosaic Idealize.ShloMosaic.TcCoe Idealize.SL.Sem
open Idealize.ShloMosaic.Pipeline (Dat)

namespace Cert.FfnKernelIdeal.FfnArray

open Cert.FfnKernelIdeal Cert.FfnKernelIdeal.Gen
open FfnBlock Cert.Ffn

theorem eta2 {m n : ℕ} (y : (⟨2, ![m, n]⟩ : Shape).Idx) : y = ix2 (y 0) (y 1) := by
  funext a
  match a with
  | ⟨0, _⟩ => rfl
  | ⟨1, _⟩ => rfl

section
variable (V : (c : Dev nD) → (b : Ref sig .tc) → Buf (Elt Ideal) ((c : Thread nD τ).loc b)) (c : Dev nD)

abbrev aH : (⟨2, ![4096, 1024]⟩ : Shape).Idx → EReal := V c main_arg0
abbrev aW : (⟨2, ![5632, 1024]⟩ : Shape).Idx → EReal := V c main_arg1
abbrev aO : (⟨2, ![2816, 1024]⟩ : Shape).Idx → EReal := V c main_arg2
abbrev aY : (⟨2, ![4096, 1024]⟩ : Shape).Idx → EReal := V c main_arg3
abbrev aG : (⟨2, ![4096, 2816]⟩ : Shape).Idx → EReal := V c main_v0_0
abbrev aU : (⟨2, ![4096, 2816]⟩ : Shape).Idx → EReal := V c main_v0_1
abbrev aDg : (⟨2, ![4096, 2816]⟩ : Shape).Idx → EReal := V c main_v1_0
abbrev aDu : (⟨2, ![4096, 2816]⟩ : Shape).Idx → EReal := V c main_v1_1
abbrev aP : (⟨2, ![4096, 1024]⟩ : Shape).Idx → EReal := V c main_v2

/-! ## The first call -/

theorem idx0 : ∀ t : Fin cfg0.N, win0_0.index t = ![t.val / 2, 0] ∧ win0_1.index t = ![t.val % 2, 0] ∧ win0_2.index t = ![t.val % 2 + 2, 0]
    ∧ win0_3.index t = ![t.val / 2, t.val % 2] ∧ win0_4.index t = ![t.val / 2, t.val % 2] ∧ win0_5.index t = ![t.val / 2, t.val % 2] := by
  decide +kernel
theorem lt0 (t : Fin cfg0.N) : t.val < 16 := t.isLt

/-- The token of a row of a step's block, and the column of a column. -/
def tk0 (t : Fin cfg0.N) (r : Fin 512) : Fin 4096 := ⟨512 * (t.val / 2) + r.val, by have := lt0 t; omega⟩
def cl0 (t : Fin cfg0.N) (q : Fin 1408) : Fin 2816 := ⟨1408 * (t.val % 2) + q.val, by omega⟩

theorem b00 (t : Fin cfg0.N) (r : Fin 512) (k : Fin 1024) : iblk0 V c 0 t (ix2 r k) = aH V c (ix2 (tk0 t r) k) := by
  unfold aH tk0
  blk_ext [iblk0, idx0 t]
theorem b01 (t : Fin cfg0.N) (q : Fin 1408) (k : Fin 1024) : iblk0 V c 1 t (ix2 q k) = aW V c (ix2 (lo (cl0 t q)) k) := by
  unfold aW cl0 lo
  blk_ext [iblk0, idx0 t]
theorem b02 (t : Fin cfg0.N) (q : Fin 1408) (k : Fin 1024) : iblk0 V c 2 t (ix2 q k) = aW V c (ix2 (hi (cl0 t q)) k) := by
  unfold aW cl0 hi
  blk_ext [iblk0, idx0 t]

theorem d01 (t : Fin cfg0.N) (r : Fin 512) (q : Fin 1408) : dd (iblk0 V c 0 t) (iblk0 V c 1 t) r q = ga (aH V c) (aW V c) (tk0 t r) (cl0 t q) := by
  unfold dd ga
  simp only [b00, b01]
theorem d02 (t : Fin cfg0.N) (r : Fin 512) (q : Fin 1408) : dd (iblk0 V c 0 t) (iblk0 V c 2 t) r q = up (aH V c) (aW V c) (tk0 t r) (cl0 t q) := by
  unfold dd up
  simp only [b00, b02]

def R03 : S4096x2816.Idx → EReal := fun i => ga (aH V c) (aW V c) (i 0) (i 1)
def R04 : S4096x2816.Idx → EReal := fun i => up (aH V c) (aW V c) (i 0) (i 1)
def R05 : S4096x2816.Idx → EReal := fun i => act (aH V c) (aW V c) (i 0) (i 1)

theorem left03 (t : Fin cfg0.N) (y : S512x1408.Idx) (i : S4096x2816.Idx) (h0 : (i 0).val = 512 * (t.val / 2) + (y 0).val)
    (h1 : (i 1).val = 1408 * (t.val % 2) + (y 1).val) : out0_3 (iblk0 V c 0 t) (iblk0 V c 1 t) (iblk0 V c 2 t) y = R03 V c i := by
  obtain ⟨r, q, rfl⟩ : ∃ r q, y = ix2 (n0 := 512) (n1 := 1408) r q := ⟨y 0, y 1, eta2 (m := 512) (n := 1408) y⟩
  have e0 : i 0 = tk0 t r := Fin.ext h0
  have e1 : i 1 = cl0 t q := Fin.ext h1
  unfold R03
  rw [e0, e1]
  exact (o03 _ _ _ r q).trans (d01 V c t r q)
theorem left04 (t : Fin cfg0.N) (y : S512x1408.Idx) (i : S4096x2816.Idx) (h0 : (i 0).val = 512 * (t.val / 2) + (y 0).val)
    (h1 : (i 1).val = 1408 * (t.val % 2) + (y 1).val) : out0_4 (iblk0 V c 0 t) (iblk0 V c 1 t) (iblk0 V c 2 t) y = R04 V c i := by
  obtain ⟨r, q, rfl⟩ : ∃ r q, y = ix2 (n0 := 512) (n1 := 1408) r q := ⟨y 0, y 1, eta2 (m := 512) (n := 1408) y⟩
  have e0 : i 0 = tk0 t r := Fin.ext h0
  have e1 : i 1 = cl0 t q := Fin.ext h1
  unfold R04
  rw [e0, e1]
  exact (o04 _ _ _ r q).trans (d02 V c t r q)
theorem left05 (t : Fin cfg0.N) (y : S512x1408.Idx) (i : S4096x2816.Idx) (h0 : (i 0).val = 512 * (t.val / 2) + (y 0).val)
    (h1 : (i 1).val = 1408 * (t.val % 2) + (y 1).val) : out0_5 (iblk0 V c 0 t) (iblk0 V c 1 t) (iblk0 V c 2 t) y = R05 V c i := by
  obtain ⟨r, q, rfl⟩ : ∃ r q, y = ix2 (n0 := 512) (n1 := 1408) r q := ⟨y 0, y 1, eta2 (m := 512) (n := 1408) y⟩
  have e0 : i 0 = tk0 t r := Fin.ext h0
  have e1 : i 1 = cl0 t q := Fin.ext h1
  unfold R05 act
  rw [e0, e1]
  refine (o05 _ _ _ r q).trans ?_
  rw [d01, d02]

theorem final03 : (dat0 V c).arrAt 3 cfg0.N = R03 V c := by
  refine (dat0 V c).arrAt_eq_of_covers 3 _ (by decide +kernel) fun t hf y => ?_
  blk_simp
  rw [after0_3]
  refine left03 V c t _ _ ?_ ?_
  · blk_simp [idx0 t]; try omega
  · blk_simp [idx0 t]; try omega
theorem final04 : (dat0 V c).arrAt 4 cfg0.N = R04 V c := by
  refine (dat0 V c).arrAt_eq_of_covers 4 _ (by decide +kernel) fun t hf y => ?_
  blk_simp
  rw [after0_4]
  refine left04 V c t _ _ ?_ ?_
  · blk_simp [idx0 t]; try omega
  · blk_simp [idx0 t]; try omega
theorem final05 : (dat0 V c).arrAt 5 cfg0.N = R05 V c := by
  refine (dat0 V c).arrAt_eq_of_covers 5 _ (by decide +kernel) fun t hf y => ?_
  blk_simp
  rw [after0_5]
  refine left05 V c t _ _ ?_ ?_
  · blk_simp [idx0 t]; try omega
  · blk_simp [idx0 t]; try omega

/-! ## The second call -/

theorem idx1 : ∀ t : Fin cfg1.N, win1_0.index t = ![t.val / 2, 0] ∧ win1_1.index t = ![t.val % 2, 0] ∧ win1_2.index t = ![t.val / 2, t.val % 2]
    ∧ win1_3.index t = ![t.val / 2, t.val % 2] ∧ win1_4.index t = ![t.val / 2, t.val % 2] ∧ win1_5.index t = ![t.val / 2, t.val % 2] := by
  decide +kernel
theorem lt1 (t : Fin cfg1.N) : t.val < 16 := t.isLt
def tk1 (t : Fin cfg1.N) (r : Fin 512) : Fin 4096 := ⟨512 * (t.val / 2) + r.val, by have := lt1 t; omega⟩
def cl1 (t : Fin cfg1.N) (q : Fin 1408) : Fin 2816 := ⟨1408 * (t.val % 2) + q.val, by omega⟩

theorem b10 (t : Fin cfg1.N) (r : Fin 512) (k : Fin 1024) : iblk1 V c 0 t (ix2 r k) = aY V c (ix2 (tk1 t r) k) := by
  unfold aY tk1
  blk_ext [iblk1, idx1 t]
theorem b11 (t : Fin cfg1.N) (q : Fin 1408) (k : Fin 1024) : iblk1 V c 1 t (ix2 q k) = aO V c (ix2 (cl1 t q) k) := by
  unfold aO cl1
  blk_ext [iblk1, idx1 t]
theorem b12 (t : Fin cfg1.N) (r : Fin 512) (q : Fin 1408) : iblk1 V c 2 t (ix2 r q) = aG V c (ix2 (tk1 t r) (cl1 t q)) := by
  unfold aG tk1 cl1
  blk_ext [iblk1, idx1 t]
theorem b13 (t : Fin cfg1.N) (r : Fin 512) (q : Fin 1408) : iblk1 V c 3 t (ix2 r q) = aU V c (ix2 (tk1 t r) (cl1 t q)) := by
  unfold aU tk1 cl1
  blk_ext [iblk1, idx1 t]
theorem d11 (t : Fin cfg1.N) (r : Fin 512) (q : Fin 1408) : dd (iblk1 V c 0 t) (iblk1 V c 1 t) r q = da (aO V c) (aY V c) (tk1 t r) (cl1 t q) := by
  unfold dd da
  simp only [b10, b11]

def R14 : S4096x2816.Idx → EReal := fun i => da (aO V c) (aY V c) (i 0) (i 1) * aU V c (ix2 (i 0) (i 1)) * sg (aG V c (ix2 (i 0) (i 1)))
  * (1 + aG V c (ix2 (i 0) (i 1)) * (1 - sg (aG V c (ix2 (i 0) (i 1)))))
def R15 : S4096x2816.Idx → EReal := fun i => da (aO V c) (aY V c) (i 0) (i 1) * aG V c (ix2 (i 0) (i 1)) * sg (aG V c (ix2 (i 0) (i 1)))

theorem left14 (t : Fin cfg1.N) (y : S512x1408.Idx) (i : S4096x2816.Idx) (h0 : (i 0).val = 512 * (t.val / 2) + (y 0).val)
    (h1 : (i 1).val = 1408 * (t.val % 2) + (y 1).val) : out1_4 (iblk1 V c 0 t) (iblk1 V c 1 t) (iblk1 V c 2 t) (iblk1 V c 3 t) y = R14 V c i := by
  obtain ⟨r, q, rfl⟩ : ∃ r q, y = ix2 (n0 := 512) (n1 := 1408) r q := ⟨y 0, y 1, eta2 (m := 512) (n := 1408) y⟩
  have e0 : i 0 = tk1 t r := Fin.ext h0
  have e1 : i 1 = cl1 t q := Fin.ext h1
  unfold R14
  rw [e0, e1]
  refine (o14 _ _ _ _ r q).trans ?_
  rw [d11, b12, b13]
theorem left15 (t : Fin cfg1.N) (y : S512x1408.Idx) (i : S4096x2816.Idx) (h0 : (i 0).val = 512 * (t.val / 2) + (y 0).val)
    (h1 : (i 1).val = 1408 * (t.val % 2) + (y 1).val) : out1_5 (iblk1 V c 0 t) (iblk1 V c 1 t) (iblk1 V c 2 t) (iblk1 V c 3 t) y = R15 V c i := by
  obtain ⟨r, q, rfl⟩ : ∃ r q, y = ix2 (n0 := 512) (n1 := 1408) r q := ⟨y 0, y 1, eta2 (m := 512) (n := 1408) y⟩
  have e0 : i 0 = tk1 t r := Fin.ext h0
  have e1 : i 1 = cl1 t q := Fin.ext h1
  unfold R15
  rw [e0, e1]
  refine (o15 _ _ _ _ r q).trans ?_
  rw [d11, b12]

theorem final14 : (dat1 V c).arrAt 4 cfg1.N = R14 V c := by
  refine (dat1 V c).arrAt_eq_of_covers 4 _ (by decide +kernel) fun t hf y => ?_
  blk_simp
  rw [after1_4]
  refine left14 V c t _ _ ?_ ?_
  · blk_simp [idx1 t]; try omega
  · blk_simp [idx1 t]; try omega
theorem final15 : (dat1 V c).arrAt 5 cfg1.N = R15 V c := by
  refine (dat1 V c).arrAt_eq_of_covers 5 _ (by decide +kernel) fun t hf y => ?_
  blk_simp
  rw [after1_5]
  refine left15 V c t _ _ ?_ ?_
  · blk_simp [idx1 t]; try omega
  · blk_simp [idx1 t]; try omega

/-! ## The third call and the fourth -/

theorem idx2 : ∀ t : Fin cfg2.N, win2_0.index t = ![t.val, 0] ∧ win2_1.index t = ![0, 0] ∧ win2_2.index t = ![t.val, 0] := by
  decide +kernel
theorem lt2 (t : Fin cfg2.N) : t.val < 8 := t.isLt
def tk2 (t : Fin cfg2.N) (r : Fin 512) : Fin 4096 := ⟨512 * t.val + r.val, by have := lt2 t; omega⟩

theorem b20 (t : Fin cfg2.N) (r : Fin 512) (f : Fin 2816) : iblk2 V c 0 t (ix2 r f) = aDg V c (ix2 (tk2 t r) f) := by
  unfold aDg tk2
  blk_ext [iblk2, idx2 t]
theorem b21 (t : Fin cfg2.N) (f : Fin 2816) (k : Fin 1024) : iblk2 V c 1 t (ix2 f k) = aW V c (ix2 (lo f) k) := by
  unfold aW lo
  blk_ext [iblk2, idx2 t]

def R22 : S4096x1024.Idx → EReal := fun i => ∑ f : Fin 2816, aDg V c (ix2 (i 0) f) * aW V c (ix2 (lo f) (i 1))

theorem left22 (t : Fin cfg2.N) (y : S512x1024.Idx) (i : S4096x1024.Idx) (h0 : (i 0).val = 512 * t.val + (y 0).val)
    (h1 : (i 1).val = (y 1).val) : out2_2 (iblk2 V c 0 t) (iblk2 V c 1 t) y = R22 V c i := by
  obtain ⟨r, q, rfl⟩ : ∃ r q, y = ix2 (n0 := 512) (n1 := 1024) r q := ⟨y 0, y 1, eta2 (m := 512) (n := 1024) y⟩
  have e0 : i 0 = tk2 t r := Fin.ext h0
  have e1 : i 1 = q := Fin.ext h1
  unfold R22
  rw [e0, e1]
  refine (o22 _ _ r q).trans ?_
  simp only [b20, b21]

theorem final22 : (dat2 V c).arrAt 2 cfg2.N = R22 V c := by
  refine (dat2 V c).arrAt_eq_of_covers 2 _ (by decide +kernel) fun t hf y => ?_
  blk_simp
  rw [after2_2]
  refine left22 V c t _ _ ?_ ?_
  · blk_simp [idx2 t]; try omega
  · blk_simp [idx2 t]; try omega

theorem idx3 : ∀ t : Fin cfg3.N, win3_0.index t = ![t.val, 0] ∧ win3_1.index t = ![1, 0] ∧ win3_2.index t = ![t.val, 0] ∧ win3_3.index t = ![t.val, 0] := by
  decide +kernel
theorem lt3 (t : Fin cfg3.N) : t.val < 8 := t.isLt
def tk3 (t : Fin cfg3.N) (r : Fin 512) : Fin 4096 := ⟨512 * t.val + r.val, by have := lt3 t; omega⟩

theorem b30 (t : Fin cfg3.N) (r : Fin 512) (f : Fin 2816) : iblk3 V c 0 t (ix2 r f) = aDu V c (ix2 (tk3 t r) f) := by
  unfold aDu tk3
  blk_ext [iblk3, idx3 t]
theorem b31 (t : Fin cfg3.N) (f : Fin 2816) (k : Fin 1024) : iblk3 V c 1 t (ix2 f k) = aW V c (ix2 (hi f) k) := by
  unfold aW hi
  blk_ext [iblk3, idx3 t]
theorem b32 (t : Fin cfg3.N) (r : Fin 512) (k : Fin 1024) : iblk3 V c 2 t (ix2 r k) = aP V c (ix2 (tk3 t r) k) := by
  unfold aP tk3
  blk_ext [iblk3, idx3 t]

def R33 : S4096x1024.Idx → EReal := fun i => (∑ f : Fin 2816, aDu V c (ix2 (i 0) f) * aW V c (ix2 (hi f) (i 1))) + aP V c (ix2 (i 0) (i 1))

theorem left33 (t : Fin cfg3.N) (y : S512x1024.Idx) (i : S4096x1024.Idx) (h0 : (i 0).val = 512 * t.val + (y 0).val)
    (h1 : (i 1).val = (y 1).val) : out3_3 (iblk3 V c 0 t) (iblk3 V c 1 t) (iblk3 V c 2 t) y = R33 V c i := by
  obtain ⟨r, q, rfl⟩ : ∃ r q, y = ix2 (n0 := 512) (n1 := 1024) r q := ⟨y 0, y 1, eta2 (m := 512) (n := 1024) y⟩
  have e0 : i 0 = tk3 t r := Fin.ext h0
  have e1 : i 1 = q := Fin.ext h1
  unfold R33
  rw [e0, e1]
  refine (o33 _ _ _ r q).trans ?_
  simp only [b30, b31, b32]

theorem final33 : (dat3 V c).arrAt 3 cfg3.N = R33 V c := by
  refine (dat3 V c).arrAt_eq_of_covers 3 _ (by decide +kernel) fun t hf y => ?_
  blk_simp
  rw [after3_3]
  refine left33 V c t _ _ ?_ ?_
  · blk_simp [idx3 t]; try omega
  · blk_simp [idx3 t]; try omega
end

end Cert.FfnKernelIdeal.FfnArray
end
-- ==== Proof.FfnOut.lean ====
module

public import proofs.«01_k».proof.Proof.FfnArray

/-! What the four calls, one after the other, leave in the result arrays. -/

@[expose] public section

set_option maxRecDepth 16384

noncomputable section

open Idealize.ShloMosaic Idealize.ShloMosaic.TcCoe Idealize.SL.Sem
open Idealize.ShloMosaic.Pipeline (Dat)

namespace Cert.FfnKernelIdeal.FfnOut

open Cert.FfnKernelIdeal Cert.FfnKernelIdeal.Gen
open FfnBlock FfnArray Cert.Ffn

variable (m : (ℓ : Loc nD τ sig) → Buf (Elt Ideal) ℓ) (ρ : Dev nD → PrngReg) (c : Dev nD)

abbrev mH : (⟨2, ![4096, 1024]⟩ : Shape).Idx → EReal := m ((c : Thread nD τ).loc main_arg0)
abbrev mW : (⟨2, ![5632, 1024]⟩ : Shape).Idx → EReal := m ((c : Thread nD τ).loc main_arg1)
abbrev mO : (⟨2, ![2816, 1024]⟩ : Shape).Idx → EReal := m ((c : Thread nD τ).loc main_arg2)
abbrev mY : (⟨2, ![4096, 1024]⟩ : Shape).Idx → EReal := m ((c : Thread nD τ).loc main_arg3)

/-- The results over the arguments. -/
def RA : S4096x2816.Idx → EReal := fun i => act (mH m c) (mW m c) (i 0) (i 1)
def RG : S4096x2816.Idx → EReal := fun i => dg (mH m c) (mW m c) (mO m c) (mY m c) (i 0) (i 1)
def RU : S4096x2816.Idx → EReal := fun i => du (mH m c) (mW m c) (mO m c) (mY m c) (i 0) (i 1)
def RH : S4096x1024.Idx → EReal := fun i => dh (mH m c) (mW m c) (mO m c) (mY m c) (i 0) (i 1)

theorem w1_gate : aG (V1 m ρ) c = fun i => ga (mH m c) (mW m c) (i 0) (i 1) := (W1_arr m ρ c 3).trans (final03 (V0 m ρ) c)
theorem w1_up : aU (V1 m ρ) c = fun i => up (mH m c) (mW m c) (i 0) (i 1) := (W1_arr m ρ c 4).trans (final04 (V0 m ρ) c)
theorem w1_act : V1 m ρ c main_v0_2 = RA m c := (W1_arr m ρ c 5).trans (final05 (V0 m ρ) c)
theorem w1_o : aO (V1 m ρ) c = mO m c := W1_args m ρ c main_arg2 (by decide)
theorem w1_y : aY (V1 m ρ) c = mY m c := W1_args m ρ c main_arg3 (by decide)

theorem w2_dg : aDg (V2 m ρ) c = RG m c := by
  refine ((W2_arr m ρ c 4).trans (final14 (V1 m ρ) c)).trans ?_
  unfold R14 RG dg
  rw [w1_gate, w1_up, w1_o, w1_y]
  rfl
theorem w2_du : aDu (V2 m ρ) c = RU m c := by
  refine ((W2_arr m ρ c 5).trans (final15 (V1 m ρ) c)).trans ?_
  unfold R15 RU du
  rw [w1_gate, w1_o, w1_y]
  rfl
theorem w2_w : aW (V2 m ρ) c = mW m c := W2_args m ρ c main_arg1 (by decide)

theorem w3_p : aP (V3 m ρ) c = fun i => ∑ f : Fin 2816, dg (mH m c) (mW m c) (mO m c) (mY m c) (i 0) f * mW m c (ix2 (lo f) (i 1)) := by
  refine ((W3_arr m ρ c 2).trans (final22 (V2 m ρ) c)).trans ?_
  unfold R22
  rw [w2_dg, w2_w]
  rfl
theorem w3_du : aDu (V3 m ρ) c = RU m c := (W3_of m ρ c main_v1_1 (by decide)).trans (w2_du m ρ c)
theorem w3_w : aW (V3 m ρ) c = mW m c := W3_args m ρ c main_arg1 (by decide)

theorem w4_dh : W4 m ρ c (Proc.devRef .tc main_v3) = RH m c := by
  refine ((W4_arr m ρ c 3).trans (final33 (V3 m ρ) c)).trans ?_
  unfold R33 RH dh
  rw [w3_du, w3_p, w3_w]
  rfl
theorem w4_du : W4 m ρ c (Proc.devRef .tc main_v1_1) = RU m c := (W4_of m ρ c main_v1_1 (by decide)).trans (w3_du m ρ c)
theorem w4_dg : W4 m ρ c (Proc.devRef .tc main_v1_0) = RG m c :=
  (W4_of m ρ c main_v1_0 (by decide)).trans ((W3_of m ρ c main_v1_0 (by decide)).trans (w2_dg m ρ c))
theorem w4_act : W4 m ρ c (Proc.devRef .tc main_v0_2) = RA m c :=
  (W4_of m ρ c main_v0_2 (by decide)).trans ((W3_of m ρ c main_v0_2 (by decide)).trans
    ((W2_of m ρ c main_v0_2 (by decide)).trans (w1_act m ρ c)))

end Cert.FfnKernelIdeal.FfnOut
end
-- ==== Proof.FfnRef.lean ====
module

public import proofs.«01_k».proof.Proof.FfnSpec
public import Idealize.ShloMosaic.Lib.KernelVsHost
public import Idealize.ShloMosaic.Lib.Pipeline.ValueKit
public import proofs.«01_k».proof.Proof.Gen.FfnReferenceIdeal.Read

/-! The reference's values, one stage after another. -/

@[expose] public section

set_option maxRecDepth 16384

noncomputable section

open Idealize.ShloMosaic Idealize.ShloMosaic.TcCoe Idealize.SL.Sem

namespace Cert.FfnReferenceIdeal.FfnRef

open Cert.FfnReferenceIdeal Cert.FfnReferenceIdeal.Gen Cert.FfnReferenceIdeal.Read Cert.Ffn

variable (H : (⟨2, ![4096, 1024]⟩ : Shape).Idx → EReal) (W : (⟨2, ![5632, 1024]⟩ : Shape).Idx → EReal)
  (O : (⟨2, ![2816, 1024]⟩ : Shape).Idx → EReal) (Y : (⟨2, ![4096, 1024]⟩ : Shape).Idx → EReal)
  (t : Fin 4096) (f : Fin 2816) (e : Fin 5632) (k : Fin 1024)

theorem v2 : val_main_v2 (F := Ideal) W (ix2 k e) = W (ix2 e k) := by
  unfold val_main_v2 val_main_v0
  pointwise

theorem v5 : val_main_v5 (F := Ideal) H W (ix2 t e) = ∑ k : Fin 1024, H (ix2 t k) * W (ix2 e k) := by
  unfold val_main_v5 val_main_v1
  pointwise [dot_S4096x1024_S1024x5632_S4096x5632_1_0_0_1_n_n]
  simp only [v2]

theorem v6 : val_main_v6 (F := Ideal) H W (ix2 t f) = ga H W t f := by
  have h : val_main_v6 (F := Ideal) H W (ix2 t f) = val_main_v5 (F := Ideal) H W (ix2 t (lo f)) := by
    unfold val_main_v6 lo
    generalize val_main_v5 (F := Ideal) H W = X
    pointwise
    try blk_ext
  rw [h, v5]
  rfl

theorem v8 : val_main_v8 (F := Ideal) H W (ix2 t f) = up H W t f := by
  have h : val_main_v8 (F := Ideal) H W (ix2 t f) = val_main_v5 (F := Ideal) H W (ix2 t (hi f)) := by
    unfold val_main_v8 hi
    generalize val_main_v5 (F := Ideal) H W = X
    pointwise
    try blk_ext
  rw [h, v5]
  rfl

theorem v7_2 : val_main_v7_2 (F := Ideal) H W (ix2 t f) = sg (ga H W t f) := by
  unfold val_main_v7_2 val_main_call0_v4 val_main_call0_cst_0 val_main_call0_v3 val_main_call0_v2 val_main_call0_cst val_main_call0_v1 val_main_call0_v0
  pointwise
  simp only [v6]
  rfl

theorem v7_1 : val_main_v7_1 (F := Ideal) H W (ix2 t f) = sg (ga H W t f) * (1 - sg (ga H W t f)) := by
  unfold val_main_v7_1 val_main_call0_v7 val_main_call0_v6 val_main_call0_cst_1
  pointwise
  simp only [v7_2]

theorem v7_0 : val_main_v7_0 (F := Ideal) H W (ix2 t f) = ga H W t f * sg (ga H W t f) := by
  unfold val_main_v7_0
  pointwise
  simp only [v7_2, v6]

theorem v9 : val_main_v9 (F := Ideal) H W (ix2 t f) = act H W t f := by
  unfold val_main_v9
  pointwise
  simp only [v7_0, v8]
  rfl

theorem v11 : val_main_v11 (F := Ideal) O Y (ix2 t f) = da O Y t f := by
  unfold val_main_v11 val_main_v3 val_main_v4
  pointwise [dot_S4096x1024_S2816x1024_S4096x2816_1_1_0_0_n_n]
  rfl

theorem v12 : val_main_v12 (F := Ideal) H W O Y (ix2 t f) = du H W O Y t f := by
  unfold val_main_v12
  pointwise
  simp only [v7_0, v11]
  unfold du
  rw [mul_comm, mul_assoc]

theorem v13 : val_main_v13 (F := Ideal) H W O Y (ix2 t f) = da O Y t f * up H W t f := by
  unfold val_main_v13
  pointwise
  simp only [v8, v11]

section
variable (hH : Reals H) (hW : Reals W) (hO : Reals O) (hY : Reals Y)
include hH hW hO hY

theorem v15 : val_main_v15 (F := Ideal) H W O Y (ix2 t f) = dg H W O Y t f := by
  unfold val_main_v15 val_main_call1_v1 val_main_call1_v2 val_main_call1_v0
  pointwise
  simp only [v6, v7_1, v7_2, v13]
  exact gate_eq (real_sum _ _ fun k => real_mul (hY _) (hO _)) (real_sum _ _ fun k => real_mul (hH _) (hW _))
    (real_sum _ _ fun k => real_mul (hH _) (hW _))
end

theorem cst_zero (i : S_.Idx) : val_main_cst (F := Ideal) i = 0 := by
  unfold val_main_cst
  pointwise
theorem cst_0_zero (i : S_.Idx) : val_main_cst_0 (F := Ideal) i = 0 := by
  unfold val_main_cst_0
  pointwise

theorem v14_lo : val_main_v14 (F := Ideal) H W O Y (ix2 t (lo f)) = 0 := by
  unfold val_main_v14
  refine (pad_apply_of_not_inside _ _ _ _ _ _ _ _ (1 : Fin 2) fun h => ?_).trans (cst_zero _)
  have h0 : 2816 ≤ f.val := h.1
  omega
theorem v14_hi : val_main_v14 (F := Ideal) H W O Y (ix2 t (hi f)) = du H W O Y t f := by
  unfold val_main_v14
  refine (pad_apply_of_inside _ _ _ _ _ _ _ _ (ix2 t f) fun a => ?_).trans (v12 H W O Y t f)
  match a with
  | ⟨0, _⟩ => show t.val = 0 + t.val * (0 + 1); omega
  | ⟨1, _⟩ => show 2816 + f.val = 2816 + f.val * (0 + 1); omega

section
variable (hH : Reals H) (hW : Reals W) (hO : Reals O) (hY : Reals Y)
include hH hW hO hY
theorem v16_lo : val_main_v16 (F := Ideal) H W O Y (ix2 t (lo f)) = dg H W O Y t f := by
  unfold val_main_v16
  refine (pad_apply_of_inside _ _ _ _ _ _ _ _ (ix2 t f) fun a => ?_).trans (v15 H W O Y t f hH hW hO hY)
  match a with
  | ⟨0, _⟩ => show t.val = 0 + t.val * (0 + 1); omega
  | ⟨1, _⟩ => show f.val = 0 + f.val * (0 + 1); omega
end
theorem v16_hi : val_main_v16 (F := Ideal) H W O Y (ix2 t (hi f)) = 0 := by
  unfold val_main_v16
  refine (pad_apply_of_not_inside _ _ _ _ _ _ _ _ (1 : Fin 2) fun h => ?_).trans (cst_0_zero _)
  have h0 : (2816 + f.val - 0) / 1 < 2816 := h.2.2
  omega

section
variable (hH : Reals H) (hW : Reals W) (hO : Reals O) (hY : Reals Y)
include hH hW hO hY

theorem v17_lo : val_main_v17 (F := Ideal) H W O Y (ix2 t (lo f)) = dg H W O Y t f := by
  unfold val_main_v17
  pointwise
  rw [v14_lo, v16_lo H W O Y t f hH hW hO hY, zero_add]
omit hH hW hO hY in
theorem v17_hi : val_main_v17 (F := Ideal) H W O Y (ix2 t (hi f)) = du H W O Y t f := by
  unfold val_main_v17
  pointwise
  rw [v14_hi, v16_hi, add_zero]

omit hH hW hO hY in
/-- A sum over the columns of both halves. -/
theorem sum_halves (g : Fin 5632 → EReal) : ∑ e, g e = ∑ f : Fin 2816, g (hi f) + ∑ f : Fin 2816, g (lo f) := by
  rw [add_comm]
  exact Fin.sum_univ_add (a := 2816) (b := 2816) g

theorem v18 : val_main_v18 (F := Ideal) H W O Y (ix2 t k) = dh H W O Y t k := by
  unfold val_main_v18
  pointwise [dot_S4096x5632_S1024x5632_S4096x1024_1_1_0_0_n_n]
  simp only [v2]
  rw [sum_halves]
  simp only [v17_hi, v17_lo H W O Y _ _ hH hW hO hY]
  rfl

theorem v21 : val_main_v21 (F := Ideal) H W O Y (ix2 t f) = dg H W O Y t f := by
  have h : val_main_v21 (F := Ideal) H W O Y (ix2 t f) = val_main_v17 (F := Ideal) H W O Y (ix2 t (lo f)) := by
    unfold val_main_v21 val_main_v20 lo
    generalize val_main_v17 (F := Ideal) H W O Y = X
    pointwise
    try blk_ext
  rw [h, v17_lo H W O Y t f hH hW hO hY]
end

theorem v22 : val_main_v22 (F := Ideal) H W O Y (ix2 t f) = du H W O Y t f := by
  have h : val_main_v22 (F := Ideal) H W O Y (ix2 t f) = val_main_v17 (F := Ideal) H W O Y (ix2 t (hi f)) := by
    unfold val_main_v22 val_main_v20 hi
    generalize val_main_v17 (F := Ideal) H W O Y = X
    pointwise
    try blk_ext
  rw [h, v17_hi]

theorem v19 : val_main_v19 (F := Ideal) H W (ix2 t f) = act H W t f := by
  unfold val_main_v19
  pointwise
  exact v9 H W t f

end Cert.FfnReferenceIdeal.FfnRef
end
-- ==== Proof.FfnClaim.lean ====
module

public import proofs.«01_k».proof.Defs
public import proofs.«01_k».proof.Proof.XaClaim
public import proofs.«01_k».proof.Proof.FfnOut
public import proofs.«01_k».proof.Proof.FfnRef
public import proofs.«01_k».proof.Proof.Gen.FfnReferenceIdeal.Run
public import proofs.«01_k».proof.Proof.Gen.Pre_finite_ffn

/-! The four calls and `jax.vjp` of the feed-forward layer leave equal arrays where the arguments are finite. -/

@[expose] public section

noncomputable section

open Idealize.ShloMosaic Idealize.ShloMosaic.TcCoe Idealize.SL.Sem

namespace Cert.FfnClaim

open Cert.Ffn Cert.FfnKernelIdeal.FfnOut Cert.FfnKernelIdeal.FfnArray
open Cert.XaClaim (real_of_cmp top_bf16)
open Cert.FfnKernelIdeal (nD τ sig main_arg0 main_arg1 main_arg2 main_arg3)

section
variable (m : (ℓ : Loc nD τ sig) → Buf (Elt Ideal) ℓ) (hp : Cert.Pre_FfnKernelIdeal_finite_ffn m) (c : Dev nD)
include hp

theorem fin_h : Reals (mH m c) := fun i => by
  obtain ⟨t, q, rfl⟩ : ∃ t q, i = ix2 (n0 := 4096) (n1 := 1024) t q := ⟨i 0, i 1, eta2 (m := 4096) (n := 1024) i⟩
  have e := congrFun (hp c).1 (ix2 t q)
  unfold Cert.Pre_finite_ffn.fn at e
  dsimp only at e
  pointwise at e
  exact real_of_cmp top_bf16 e
theorem fin_w : Reals (mW m c) := fun i => by
  obtain ⟨t, q, rfl⟩ : ∃ t q, i = ix2 (n0 := 5632) (n1 := 1024) t q := ⟨i 0, i 1, eta2 (m := 5632) (n := 1024) i⟩
  have e := congrFun (hp c).2.1 (ix2 t q)
  unfold Cert.Pre_finite_ffn.fn at e
  dsimp only at e
  pointwise at e
  exact real_of_cmp top_bf16 e
theorem fin_o : Reals (mO m c) := fun i => by
  obtain ⟨t, q, rfl⟩ : ∃ t q, i = ix2 (n0 := 2816) (n1 := 1024) t q := ⟨i 0, i 1, eta2 (m := 2816) (n := 1024) i⟩
  have e := congrFun (hp c).2.2.1 (ix2 t q)
  unfold Cert.Pre_finite_ffn.fn at e
  dsimp only at e
  pointwise at e
  exact real_of_cmp top_bf16 e
theorem fin_y : Reals (mY m c) := fun i => by
  obtain ⟨t, q, rfl⟩ : ∃ t q, i = ix2 (n0 := 4096) (n1 := 1024) t q := ⟨i 0, i 1, eta2 (m := 4096) (n := 1024) i⟩
  have e := congrFun (hp c).2.2.2 (ix2 t q)
  unfold Cert.Pre_finite_ffn.fn at e
  dsimp only at e
  pointwise at e
  exact real_of_cmp top_bf16 e
end

open Cert.FfnReferenceIdeal.Read Cert.FfnReferenceIdeal.FfnRef

/-- The reference's run ends with its arguments unchanged and every counter at zero. -/
theorem frame_ref : Cert.quiescent_FfnReferenceIdeal := fun m ρ _ =>
  (θ_run Cert.FfnReferenceIdeal.defs _ _).mono
    (fun r h => ⟨fun c => (h c).2.2.2.2, Idealize.ShloMosaic.sem_eq_zero_of_no_sems (by decide) r.2⟩)
    (Cert.FfnReferenceIdeal.Value.run m ρ)

/-- From memories agreeing on finite arguments, both run and leave equal arrays. -/
theorem algebraic : Cert.algebraic_FfnKernelIdeal_FfnReferenceIdeal_pre_finite_ffn := by
  intro m g m' g' hp ha
  refine ⟨RA m, RG m, RU m, RH m, (θ_run Cert.FfnKernelIdeal.defs _ _).mono (fun r h c => ?_) (Cert.FfnKernelIdeal.FfnRun.run m g),
    (θ_run Cert.FfnReferenceIdeal.defs _ _).mono (fun r h c => ?_) (Cert.FfnReferenceIdeal.Value.run m' g')⟩
  · obtain ⟨h0, h1, h2, h3, hk⟩ := h c
    exact ⟨h0.trans (w4_act m g c), h1.trans (w4_dg m g c), h2.trans (w4_du m g c), h3.trans (w4_dh m g c), hk⟩
  obtain ⟨h0, h1, h2, h3, hk⟩ := h c
  obtain ⟨a0, a1, a2, a3⟩ := ha c
  refine ⟨h0.trans ?_, h1.trans ?_, h2.trans ?_, h3.trans ?_, hk⟩
  · rw [val_main_v19_eq, a0, a1]
    funext i
    obtain ⟨t, q, rfl⟩ : ∃ t q, i = ix2 (n0 := 4096) (n1 := 2816) t q := ⟨i 0, i 1, eta2 (m := 4096) (n := 2816) i⟩
    exact v19 (mH m c) (mW m c) t q
  · rw [val_main_v21_eq, a0, a1, a2, a3]
    funext i
    obtain ⟨t, q, rfl⟩ : ∃ t q, i = ix2 (n0 := 4096) (n1 := 2816) t q := ⟨i 0, i 1, eta2 (m := 4096) (n := 2816) i⟩
    exact v21 (mH m c) (mW m c) (mO m c) (mY m c) t q (fin_h m hp c) (fin_w m hp c) (fin_o m hp c) (fin_y m hp c)
  · rw [val_main_v22_eq, a0, a1, a2, a3]
    funext i
    obtain ⟨t, q, rfl⟩ : ∃ t q, i = ix2 (n0 := 4096) (n1 := 2816) t q := ⟨i 0, i 1, eta2 (m := 4096) (n := 2816) i⟩
    exact v22 (mH m c) (mW m c) (mO m c) (mY m c) t q
  · rw [val_main_v18_eq, a0, a1, a2, a3]
    funext i
    obtain ⟨t, q, rfl⟩ : ∃ t q, i = ix2 (n0 := 4096) (n1 := 1024) t q := ⟨i 0, i 1, eta2 (m := 4096) (n := 1024) i⟩
    exact v18 (mH m c) (mW m c) (mO m c) (mY m c) t q (fin_h m hp c) (fin_w m hp c) (fin_o m hp c) (fin_y m hp c)

end Cert.FfnClaim
end
-- ==== Proof.GwBlock.lean ====
module

public import proofs.«01_k».proof.Proof.Gen.GwKernelIdeal.Value
public import Idealize.ShloMosaic.Lib.Pipeline.Value
public import Idealize.ShloMosaic.Lib.Pipeline.ValueKit

/-! What one grid step of the weights' gradient adds, and what a pair of steps leaves. -/

@[expose] public section

set_option maxRecDepth 16384

noncomputable section

open Idealize.ShloMosaic Idealize.ShloMosaic.TcCoe Idealize.SL.Sem
open Idealize.ShloMosaic.Pipeline (Dat)

namespace Cert.GwKernelIdeal.GwBlock

open Cert.GwKernelIdeal Cert.GwKernelIdeal.Gen

theorem zeros : (![0, 0] : Fin 2 → Nat) = fun _ => 0 := by
  funext a
  match a with
  | ⟨0, _⟩ => rfl
  | ⟨1, _⟩ => rfl

/-- One step's product: a sum over the block's tokens. -/
def pd (x0 : S2048x1408.Idx → EReal) (x1 : S2048x1024.Idx → EReal) (r : Fin 1408) (q : Fin 1024) : EReal :=
  ∑ s : Fin 2048, x0 (ix2 s r) * x1 (ix2 s q)

section
variable (x0 : Vec Ideal S2048x1408 .bf16) (x1 : Vec Ideal S2048x1024 .bf16) (r : Fin 1408) (q : Fin 1024)

theorem p1 : k0_pay1 (F := Ideal) x0 x1 (ix2 r q) = pd x0 x1 r q := by
  unfold k0_pay1
  pointwise [dot_S2048x1408_S2048x1024_S1408x1024_0_0_1_1_n_n]
  rfl
theorem p2 : k0_pay2 (F := Ideal) x0 x1 (ix2 r q) = pd x0 x1 r q := by
  unfold k0_pay2
  pointwise
  exact p1 x0 x1 r q
theorem p3 (a : Vec Ideal S1408x1024 .f32) : k0_pay3 (F := Ideal) x0 x1 a (ix2 r q) = a (ix2 r q) + pd x0 x1 r q := by
  unfold k0_pay3
  pointwise
  rw [p1]
theorem p4 (a : Vec Ideal S1408x1024 .f32) : k0_pay4 (F := Ideal) a (ix2 r q) = a (ix2 r q) := by
  unfold k0_pay4
  pointwise

variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)

theorem step_A (hc0 : cond0_0 i) (hc1 : ¬cond0_1 i) (hc2 : ¬cond0_2 i) :
    sout0_A_0 (F := Ideal) c i arg3 harg3 arg4 harg4 arg5 harg5 arg6 harg6 hc0 hc1 hc2 x0 x1 (ix2 r q) = pd x0 x1 r q := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread]
  rw [View.canon_unit_zero zeros, View.ld_unit_zero zeros, View.ld_unit_zero zeros]
  exact p2 x0 x1 r q

theorem step_B (hc0 : ¬cond0_0 i) (hc1 : cond0_1 i) (hc2 : cond0_2 i) (a : Vec Ideal S1408x1024 .f32) :
    out0_B_2 (F := Ideal) c i arg3 harg3 arg4 harg4 arg5 harg5 arg6 harg6 hc0 hc1 hc2 x0 x1 a (ix2 r q) = a (ix2 r q) + pd x0 x1 r q := by
  unfold out0_B_2
  rw [View.read_writes_eq_canon _ _ _ (cover0_B_2 c i arg3 harg3 arg4 harg4 arg5 harg5 arg6 harg6 hc0 hc1 hc2 x0 x1 a)]
  unfold kernelRun0_B
  dsimp only
  sl_unfold_words
  simp only [View.readAt_eq_ld, harg3.read_unread, harg4.read_unread, harg6.read_unread]
  rw [View.canon_unit_zero zeros]
  rw [p4]
  simp only [View.readCov_cons_toLoadRect]
  rw [View.ld_unit_zero zeros, View.ld_unit_zero zeros, View.ld_unit_zero zeros]
  exact p3 x0 x1 r q a
end

end Cert.GwKernelIdeal.GwBlock
end
-- ==== Proof.GwArray.lean ====
module

public import proofs.«01_k».proof.Proof.GwBlock

/-! The array the weights' gradient call leaves, over its arguments. -/

@[expose] public section

set_option maxRecDepth 16384

noncomputable section

open Idealize.ShloMosaic Idealize.ShloMosaic.TcCoe Idealize.SL.Sem
open Idealize.ShloMosaic.Pipeline (Dat)

namespace Cert.GwKernelIdeal.GwArray

open Cert.GwKernelIdeal Cert.GwKernelIdeal.Gen
open GwBlock

theorem eta2 {m n : ℕ} (y : (⟨2, ![m, n]⟩ : Shape).Idx) : y = ix2 (y 0) (y 1) := by
  funext a
  match a with
  | ⟨0, _⟩ => rfl
  | ⟨1, _⟩ => rfl

/-- The product over every token. -/
def gw (A : (⟨2, ![4096, 2816]⟩ : Shape).Idx → EReal) (Y : (⟨2, ![4096, 1024]⟩ : Shape).Idx → EReal) (f : Fin 2816) (k : Fin 1024) : EReal :=
  ∑ t : Fin 4096, A (ix2 t f) * Y (ix2 t k)

theorem sum_halves (f : Fin 4096 → EReal) :
    ∑ s : Fin 4096, f s = ∑ r : Fin 2048, f ⟨r.val, by omega⟩ + ∑ r : Fin 2048, f ⟨2048 + r.val, by omega⟩ :=
  Fin.sum_univ_add (a := 2048) (b := 2048) f

variable (m : (ℓ : Loc nD τ sig) → Buf (Elt Ideal) ℓ) (c : Dev nD)

abbrev aA : (⟨2, ![4096, 2816]⟩ : Shape).Idx → EReal := m ((c : Thread nD τ).loc main_arg0)
abbrev aY : (⟨2, ![4096, 1024]⟩ : Shape).Idx → EReal := m ((c : Thread nD τ).loc main_arg1)

theorem idx : ∀ t : Fin cfg0.N, win0_0.index t = ![t.val % 2, t.val / 2] ∧ win0_1.index t = ![t.val % 2, 0] ∧ win0_2.index t = ![t.val / 2, 0] := by
  decide +kernel
theorem lt4 (t : Fin cfg0.N) : t.val < 4 := t.isLt

/-- The column of a step's block's column. -/
def cl (t : Fin cfg0.N) (r : Fin 1408) : Fin 2816 := ⟨1408 * (t.val / 2) + r.val, by have := lt4 t; omega⟩
def tk (t : Fin cfg0.N) (s : Fin 2048) : Fin 4096 := ⟨2048 * (t.val % 2) + s.val, by omega⟩

theorem b0 (t : Fin cfg0.N) (s : Fin 2048) (r : Fin 1408) : iblk m c 0 t (ix2 s r) = aA m c (ix2 (tk t s) (cl t r)) := by
  unfold aA tk cl
  blk_ext [iblk, V, idx t]
theorem b1 (t : Fin cfg0.N) (s : Fin 2048) (q : Fin 1024) : iblk m c 1 t (ix2 s q) = aY m c (ix2 (tk t s) q) := by
  unfold aY tk
  blk_ext [iblk, V, idx t]

theorem pd_blk (t : Fin cfg0.N) (r : Fin 1408) (q : Fin 1024) :
    pd (iblk m c 0 t) (iblk m c 1 t) r q = ∑ s : Fin 2048, aA m c (ix2 (tk t s) (cl t r)) * aY m c (ix2 (tk t s) q) := by
  unfold pd
  simp only [b0, b1]

/-- What the even step before leaves for the odd one. -/
theorem acc_eq (u : Fin cfg0.N) (hu : u.val % 2 = 0) (r : Fin 1408) (q : Fin 1024) :
    (outsAt0 m c u.val u.isLt).2 (ix2 r q) = pd (iblk m c 0 u) (iblk m c 1 u) r q := by
  rw [outsAt0_A m c u hu (by omega) (by omega)]
  dsimp only
  exact step_A ..

/-- The step before. -/
def pre (t : Fin cfg0.N) : Fin cfg0.N := ⟨t.val - 1, Nat.lt_of_le_of_lt (Nat.sub_le _ _) t.isLt⟩

theorem out_eq (t : Fin cfg0.N) (ht : t.val % 2 = 1) (r : Fin 1408) (q : Fin 1024) :
    (outsAt0 m c t.val t.isLt).1 (ix2 r q) = gw (aA m c) (aY m c) (cl t r) q := by
  have hl := lt4 t
  have hu : (pre t).val % 2 = 0 := by
    show (t.val - 1) % 2 = 0
    omega
  have h : (outsAt0 m c t.val t.isLt).1 (ix2 r q) = (outsAt0 m c (pre t).val (pre t).isLt).2 (ix2 r q) + pd (iblk m c 0 t) (iblk m c 1 t) r q := by
    rw [outsAt0_B m c t (by omega) ht ht]
    dsimp only
    exact step_B ..
  rw [h, acc_eq m c (pre t) hu, pd_blk, pd_blk]
  unfold gw
  rw [sum_halves]
  congr 1
  · refine Finset.sum_congr rfl fun s _ => ?_
    have e : tk (pre t) s = ⟨s.val, by omega⟩ := Fin.ext (by
      show 2048 * ((t.val - 1) % 2) + s.val = s.val
      omega)
    have e' : cl (pre t) r = cl t r := Fin.ext (by
      show 1408 * ((t.val - 1) / 2) + r.val = 1408 * (t.val / 2) + r.val
      omega)
    rw [e, e']
  · refine Finset.sum_congr rfl fun s _ => ?_
    have e : tk t s = ⟨2048 + s.val, by omega⟩ := Fin.ext (by
      show 2048 * (t.val % 2) + s.val = 2048 + s.val
      omega)
    rw [e]

def R2 : S2816x1024.Idx → EReal := fun i => gw (aA m c) (aY m c) (i 0) (i 1)

theorem left2 (t : Fin cfg0.N) (ht : t.val % 2 = 1) (y : S1408x1024.Idx) (i : S2816x1024.Idx) (h0 : (i 0).val = 1408 * (t.val / 2) + (y 0).val)
    (h1 : (i 1).val = (y 1).val) : (outsAt0 m c t.val t.isLt).1 y = R2 m c i := by
  obtain ⟨r, q, rfl⟩ : ∃ r q, y = ix2 (n0 := 1408) (n1 := 1024) r q := ⟨y 0, y 1, eta2 (m := 1408) (n := 1024) y⟩
  have e0 : i 0 = cl t r := Fin.ext h0
  have e1 : i 1 = q := Fin.ext h1
  unfold R2
  rw [e0, e1]
  exact out_eq m c t ht r q

theorem final2 : (dats m 0 c).arrAt 2 cfg0.N = R2 m c := by
  refine (dats m 0 c).arrAt_eq_of_covers 2 _ (by decide +kernel) fun t hf y => ?_
  have ht : t.val % 2 = 1 := (flush0_2 t).mp hf
  blk_simp
  rw [after0_2]
  refine left2 m c t ht _ _ ?_ ?_
  · blk_simp [idx t]; try omega
  · blk_simp [idx t]; try omega

end Cert.GwKernelIdeal.GwArray
end
-- ==== Proof.GwClaim.lean ====
module

public import proofs.«01_k».proof.Defs
public import proofs.«01_k».proof.Proof.GwArray
public import proofs.«01_k».proof.Proof.Gen.GwReferenceIdeal.Run
public import proofs.«01_k».proof.Proof.Gen.GwReferenceIdeal.Read

/-! The weights' gradient call and `jax.vjp` of the product leave equal arrays. -/

@[expose] public section

noncomputable section

open Idealize.ShloMosaic Idealize.ShloMosaic.TcCoe Idealize.SL.Sem

namespace Cert.GwClaim

open Cert.GwKernelIdeal.GwArray

/-- The reference's run ends with its arguments unchanged and every counter at zero. -/
theorem frame_ref : Cert.quiescent_GwReferenceIdeal := fun m ρ _ =>
  (θ_run Cert.GwReferenceIdeal.defs _ _).mono
    (fun r h => ⟨fun c => (h c).2, Idealize.ShloMosaic.sem_eq_zero_of_no_sems (by decide) r.2⟩)
    (Cert.GwReferenceIdeal.Value.run m ρ)

open Cert.GwReferenceIdeal.Read

section
open Cert.GwReferenceIdeal Cert.GwReferenceIdeal.Gen

/-- The reference's weights' gradient: a sum over the tokens. -/
theorem ref_eq (A : (⟨2, ![4096, 2816]⟩ : Shape).Idx → EReal) (Y : (⟨2, ![4096, 1024]⟩ : Shape).Idx → EReal) (f : Fin 2816) (k : Fin 1024) :
    val_main_v6 (F := Ideal) A Y (ix2 f k) = gw A Y f k := by
  unfold val_main_v6 val_main_v5 val_main_v4 val_main_v3 val_main_v1
  pointwise [dot_S4096x1024_S4096x2816_S1024x2816_0_0_1_1_n_n]
  unfold gw
  exact Finset.sum_congr rfl fun t _ => mul_comm _ _
end

/-- From memories agreeing on the arguments, both run and leave equal arrays. -/
theorem algebraic : Cert.algebraic_GwKernelIdeal_GwReferenceIdeal := by
  intro m g m' g' _ ha
  refine ⟨R2 m, (θ_run Cert.GwKernelIdeal.defs _ _).mono (fun r h c => ⟨(h c).1.trans (final2 m c), (h c).2⟩) (Cert.GwKernelIdeal.Value.run_blocks m g),
    (θ_run Cert.GwReferenceIdeal.defs _ _).mono (fun r h c => ?_) (Cert.GwReferenceIdeal.Value.run m' g')⟩
  obtain ⟨h0, hk⟩ := h c
  obtain ⟨a0, a1⟩ := ha c
  refine ⟨h0.trans ?_, hk⟩
  rw [val_main_v6_eq, a0, a1]
  funext i
  obtain ⟨t, q, rfl⟩ : ∃ t q, i = ix2 (n0 := 2816) (n1 := 1024) t q := ⟨i 0, i 1, eta2 (m := 2816) (n := 1024) i⟩
  exact ref_eq (aA m c) (aY m c) t q

end Cert.GwClaim
end
-- ==== Proof.DyClaim.lean ====
module

public import proofs.«01_k».proof.Defs
public import proofs.«01_k».proof.Proof.Gen.DyKernelIdeal.Value
public import proofs.«01_k».proof.Proof.Gen.DyReferenceIdeal.Run
public import proofs.«01_k».proof.Proof.Gen.DyReferenceIdeal.Read
public import Idealize.ShloMosaic.Lib.Pipeline.Value
public import Idealize.ShloMosaic.Lib.Pipeline.ValueKit

/-! The gradient of a product's left factor: the cotangent times the transposed weights, blocks of 1024 rows. -/

@[expose] public section

set_option maxRecDepth 16384

noncomputable section

open Idealize.ShloMosaic Idealize.ShloMosaic.TcCoe Idealize.SL.Sem
open Idealize.ShloMosaic.Pipeline (Dat)

namespace Cert.DyKernelIdeal.DyArray

open Cert.DyKernelIdeal Cert.DyKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A row of the cotangent against a row of the weights. -/
def prod (A : (⟨2, ![4096, 1024]⟩ : Shape).Idx → EReal) (B : (⟨2, ![1024, 1024]⟩ : Shape).Idx → EReal) (r : Fin 4096) (q : Fin 1024) : EReal :=
  ∑ k : Fin 1024, A (ix2 r k) * B (ix2 q k)

/-- One grid step's block of it. -/
theorem block (x0 : Vec Ideal S1024x1024 .bf16) (x1 : Vec Ideal S1024x1024 .bf16) (r : Fin 1024) (q : Fin 1024) :
    out0_2 (F := Ideal) x0 x1 (ix2 r q) = ∑ k : Fin 1024, x0 (ix2 r k) * x1 (ix2 q k) := by
  unfold out0_2
  rw [View.canon_unit_zero zeros]
  rw [View.ld_unit_zero zeros, View.ld_unit_zero zeros]
  unfold k0_pay1
  pointwise [dot_S1024x1024_S1024x1024_S1024x1024_1_1_0_0_n_n]

variable (m : (ℓ : Loc nD τ sig) → Buf (Elt Ideal) ℓ) (c : Dev nD)

abbrev aA : (⟨2, ![4096, 1024]⟩ : Shape).Idx → EReal := m ((c : Thread nD τ).loc main_arg0)
abbrev aB : (⟨2, ![1024, 1024]⟩ : Shape).Idx → EReal := m ((c : Thread nD τ).loc main_arg1)

theorem idx : ∀ t : Fin cfg0.N, win0_0.index t = ![t.val, 0] ∧ win0_1.index t = ![0, 0] ∧ win0_2.index t = ![t.val, 0] := by
  decide +kernel
theorem ltN (t : Fin cfg0.N) : t.val < 4 := t.isLt

/-- The place of a block's row in the array. -/
def at' (t : Fin cfg0.N) (r : Fin 1024) : Fin 4096 := ⟨1024 * t.val + r.val, by have := ltN t; omega⟩

theorem b0 (t : Fin cfg0.N) (r : Fin 1024) (k : Fin 1024) : iblk m c 0 t (ix2 r k) = aA m c (ix2 (at' t r) k) := by
  unfold aA at'
  blk_ext [iblk, V, idx t]
theorem b1 (t : Fin cfg0.N) (k : Fin 1024) (q : Fin 1024) : iblk m c 1 t (ix2 k q) = aB m c (ix2 k q) := by
  unfold aB
  blk_ext [iblk, V, idx t]

theorem out_eq (t : Fin cfg0.N) (r : Fin 1024) (q : Fin 1024) :
    out0_2 (F := Ideal) (iblk m c 0 t) (iblk m c 1 t) (ix2 r q) = prod (aA m c) (aB m c) (at' t r) q := by
  rw [block]
  unfold prod
  simp only [b0, b1]

/-- What the call leaves. -/
def R2 : (⟨2, ![4096, 1024]⟩ : Shape).Idx → EReal := fun i => prod (aA m c) (aB m c) (i 0) (i 1)

theorem left2 (t : Fin cfg0.N) (y : (⟨2, ![1024, 1024]⟩ : Shape).Idx) (i : (⟨2, ![4096, 1024]⟩ : Shape).Idx) (h0 : (i 0).val = 1024 * t.val + (y 0).val)
    (h1 : (i 1).val = (y 1).val) : out0_2 (F := Ideal) (iblk m c 0 t) (iblk m c 1 t) y = R2 m c i := by
  obtain ⟨r, q, rfl⟩ : ∃ r q, y = ix2 (n0 := 1024) (n1 := 1024) r q := ⟨y 0, y 1, eta2 (m := 1024) (n := 1024) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.DyKernelIdeal.DyArray

namespace Cert.DyClaim

open Cert.DyKernelIdeal.DyArray

/-- The reference's run ends with its arguments unchanged and every counter at zero. -/
theorem frame_ref : Cert.quiescent_DyReferenceIdeal := fun m ρ _ =>
  (θ_run Cert.DyReferenceIdeal.defs _ _).mono
    (fun r h => ⟨fun c => (h c).2, Idealize.ShloMosaic.sem_eq_zero_of_no_sems (by decide) r.2⟩)
    (Cert.DyReferenceIdeal.Value.run m ρ)

open Cert.DyReferenceIdeal.Read

section
open Cert.DyReferenceIdeal Cert.DyReferenceIdeal.Gen

/-- The reference's product. -/
theorem ref_eq (A : (⟨2, ![4096, 1024]⟩ : Shape).Idx → EReal) (B : (⟨2, ![1024, 1024]⟩ : Shape).Idx → EReal) (r : Fin 4096) (q : Fin 1024) :
    val_main_v4 (F := Ideal) A B (ix2 r q) = prod A B r q := by
  unfold val_main_v4 val_main_v3 val_main_v0
  pointwise [dot_S4096x1024_S1024x1024_S4096x1024_1_1_0_0_n_n]
  unfold prod
  rfl
end

/-- From memories agreeing on the arguments, both run and leave equal arrays. -/
theorem algebraic : Cert.algebraic_DyKernelIdeal_DyReferenceIdeal := by
  intro m g m' g' _ ha
  refine ⟨R2 m, (θ_run Cert.DyKernelIdeal.defs _ _).mono (fun r h c => ⟨(h c).1.trans (final2 m c), (h c).2⟩) (Cert.DyKernelIdeal.Value.run_blocks m g),
    (θ_run Cert.DyReferenceIdeal.defs _ _).mono (fun r h c => ?_) (Cert.DyReferenceIdeal.Value.run m' g')⟩
  obtain ⟨h0, hk⟩ := h c
  obtain ⟨a0, a1⟩ := ha c
  refine ⟨h0.trans ?_, hk⟩
  rw [val_main_v4_eq, a0, a1]
  funext i
  obtain ⟨t, q, rfl⟩ : ∃ t q, i = ix2 (n0 := 4096) (n1 := 1024) t q := ⟨i 0, i 1, eta2 (m := 4096) (n := 1024) i⟩
  exact ref_eq (aA m c) (aB m c) t q

end Cert.DyClaim
end
-- ==== Proof.GbClaim.lean ====
module

public import proofs.«01_k».proof.Defs
public import proofs.«01_k».proof.Proof.Gen.GbKernelIdeal.Value
public import proofs.«01_k».proof.Proof.Gen.GbReferenceIdeal.Run
public import proofs.«01_k».proof.Proof.Gen.GbReferenceIdeal.Read
public import Idealize.ShloMosaic.Lib.Pipeline.Value
public import Idealize.ShloMosaic.Lib.Pipeline.ValueKit

/-! The gradient of a product's weights, of 1024 rows and columns: a sum over every token, blocks of 512 rows of the result. -/

@[expose] public section

set_option maxRecDepth 16384

noncomputable section

open Idealize.ShloMosaic Idealize.ShloMosaic.TcCoe Idealize.SL.Sem
open Idealize.ShloMosaic.Pipeline (Dat)

namespace Cert.GbKernelIdeal.GbArray

open Cert.GbKernelIdeal Cert.GbKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A column of the left factor against a column of the cotangent. -/
def prod (A : (⟨2, ![4096, 1024]⟩ : Shape).Idx → EReal) (B : (⟨2, ![4096, 1024]⟩ : Shape).Idx → EReal) (r : Fin 1024) (q : Fin 1024) : EReal :=
  ∑ s : Fin 4096, A (ix2 s r) * B (ix2 s q)

/-- One grid step's block of it. -/
theorem block (x0 : Vec Ideal S4096x512 .bf16) (x1 : Vec Ideal S4096x1024 .bf16) (r : Fin 512) (q : Fin 1024) :
    out0_2 (F := Ideal) x0 x1 (ix2 r q) = ∑ s : Fin 4096, x0 (ix2 s r) * x1 (ix2 s q) := by
  unfold out0_2
  rw [View.canon_unit_zero zeros]
  rw [View.ld_unit_zero zeros, View.ld_unit_zero zeros]
  unfold k0_pay1
  pointwise [dot_S4096x512_S4096x1024_S512x1024_0_0_1_1_n_n]

variable (m : (ℓ : Loc nD τ sig) → Buf (Elt Ideal) ℓ) (c : Dev nD)

abbrev aA : (⟨2, ![4096, 1024]⟩ : Shape).Idx → EReal := m ((c : Thread nD τ).loc main_arg0)
abbrev aB : (⟨2, ![4096, 1024]⟩ : Shape).Idx → EReal := m ((c : Thread nD τ).loc main_arg1)

theorem idx : ∀ t : Fin cfg0.N, win0_0.index t = ![0, t.val] ∧ win0_1.index t = ![0, 0] ∧ win0_2.index t = ![t.val, 0] := by
  decide +kernel
theorem ltN (t : Fin cfg0.N) : t.val < 2 := t.isLt

/-- The place of a block's row in the array. -/
def at' (t : Fin cfg0.N) (r : Fin 512) : Fin 1024 := ⟨512 * t.val + r.val, by have := ltN t; omega⟩

theorem b0 (t : Fin cfg0.N) (s : Fin 4096) (r : Fin 512) : iblk m c 0 t (ix2 s r) = aA m c (ix2 s (at' t r)) := by
  unfold aA at'
  blk_ext [iblk, V, idx t]
theorem b1 (t : Fin cfg0.N) (k : Fin 4096) (q : Fin 1024) : iblk m c 1 t (ix2 k q) = aB m c (ix2 k q) := by
  unfold aB
  blk_ext [iblk, V, idx t]

theorem out_eq (t : Fin cfg0.N) (r : Fin 512) (q : Fin 1024) :
    out0_2 (F := Ideal) (iblk m c 0 t) (iblk m c 1 t) (ix2 r q) = prod (aA m c) (aB m c) (at' t r) q := by
  rw [block]
  unfold prod
  simp only [b0, b1]

/-- What the call leaves. -/
def R2 : (⟨2, ![1024, 1024]⟩ : Shape).Idx → EReal := fun i => prod (aA m c) (aB m c) (i 0) (i 1)

theorem left2 (t : Fin cfg0.N) (y : (⟨2, ![512, 1024]⟩ : Shape).Idx) (i : (⟨2, ![1024, 1024]⟩ : Shape).Idx) (h0 : (i 0).val = 512 * t.val + (y 0).val)
    (h1 : (i 1).val = (y 1).val) : out0_2 (F := Ideal) (iblk m c 0 t) (iblk m c 1 t) y = R2 m c i := by
  obtain ⟨r, q, rfl⟩ : ∃ r q, y = ix2 (n0 := 512) (n1 := 1024) r q := ⟨y 0, y 1, eta2 (m := 512) (n := 1024) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.GbKernelIdeal.GbArray

namespace Cert.GbClaim

open Cert.GbKernelIdeal.GbArray

/-- The reference's run ends with its arguments unchanged and every counter at zero. -/
theorem frame_ref : Cert.quiescent_GbReferenceIdeal := fun m ρ _ =>
  (θ_run Cert.GbReferenceIdeal.defs _ _).mono
    (fun r h => ⟨fun c => (h c).2, Idealize.ShloMosaic.sem_eq_zero_of_no_sems (by decide) r.2⟩)
    (Cert.GbReferenceIdeal.Value.run m ρ)

open Cert.GbReferenceIdeal.Read

section
open Cert.GbReferenceIdeal Cert.GbReferenceIdeal.Gen

/-- The reference's product. -/
theorem ref_eq (A : (⟨2, ![4096, 1024]⟩ : Shape).Idx → EReal) (B : (⟨2, ![4096, 1024]⟩ : Shape).Idx → EReal) (r : Fin 1024) (q : Fin 1024) :
    val_main_v6 (F := Ideal) A B (ix2 r q) = prod A B r q := by
  unfold val_main_v6 val_main_v5 val_main_v4 val_main_v3 val_main_v0
  pointwise [dot_S4096x1024_S4096x1024_S1024x1024_0_0_1_1_n_n]
  unfold prod
  exact Finset.sum_congr rfl fun s _ => mul_comm _ _
end

/-- From memories agreeing on the arguments, both run and leave equal arrays. -/
theorem algebraic : Cert.algebraic_GbKernelIdeal_GbReferenceIdeal := by
  intro m g m' g' _ ha
  refine ⟨R2 m, (θ_run Cert.GbKernelIdeal.defs _ _).mono (fun r h c => ⟨(h c).1.trans (final2 m c), (h c).2⟩) (Cert.GbKernelIdeal.Value.run_blocks m g),
    (θ_run Cert.GbReferenceIdeal.defs _ _).mono (fun r h c => ?_) (Cert.GbReferenceIdeal.Value.run m' g')⟩
  obtain ⟨h0, hk⟩ := h c
  obtain ⟨a0, a1⟩ := ha c
  refine ⟨h0.trans ?_, hk⟩
  rw [val_main_v6_eq, a0, a1]
  funext i
  obtain ⟨t, q, rfl⟩ : ∃ t q, i = ix2 (n0 := 1024) (n1 := 1024) t q := ⟨i 0, i 1, eta2 (m := 1024) (n := 1024) i⟩
  exact ref_eq (aA m c) (aB m c) t q

end Cert.GbClaim
end
-- ==== Proof.RmsSpec.lean ====
module

public import proofs.«01_k».proof.Proof.XaAlg

/-! The gradient of one row of the root-mean-square norm, over the extended reals: the row `x`, the gain `g`, the
cotangent `d` of the normed row. -/

@[expose] public section

noncomputable section

open Idealize.ShloMosaic

namespace Cert.Rms

open Cert.Xa (mul_sum_coe coe_sum rsqrt_pos half_eq eps eps_pos)

/-- A row of the residual stream. -/
abbrev Line := Fin 1024 → EReal

def c1024 : EReal := Ideal.ofBits .f32 1149239296#32

/-- The mean square of the row, and the norm's ε. -/
def ms (x : Line) : EReal := Ideal.div (∑ a, x a * x a) c1024 + eps
/-- The norm's factor. -/
def rr (x : Line) : EReal := Ideal.rsqrt (ms x)
def xh (x : Line) (a : Fin 1024) : EReal := x a * rr x
/-- The row's cotangent, the residual's added. -/
def dx (d x g e : Line) (a : Fin 1024) : EReal :=
  rr x * (d a * g a - xh x a * Ideal.div (∑ b, d b * g b * xh x b) c1024) + e a

theorem c1024_eq : c1024 = ((1024 : ℝ) : EReal) := by
  unfold c1024; simp [Ideal.ofBits, Ideal.ieee, -EReal.coe_mul]; norm_num

/-- The norm's factor is a positive real, its square the inverse of the mean square. -/
theorem rr_real {x : Line} (hx : ∀ a, ∃ r : ℝ, x a = r) : ∃ q r : ℝ, 0 < q ∧ 0 < r ∧ ms x = (q : EReal) ∧ rr x = (r : EReal) ∧ r * r = 1 / q := by
  choose y hy using hx
  obtain ⟨ε, hε, he⟩ := eps_pos
  have hq : ms x = (((∑ a, y a * y a) * (1 / 1024) + ε : ℝ) : EReal) := by
    unfold ms
    rw [c1024_eq, he, Ideal.div_coe (by norm_num), EReal.coe_add, EReal.coe_mul, ← coe_sum]
    simp only [hy, EReal.coe_mul]
  have hp : 0 < (∑ a, y a * y a) * (1 / 1024) + ε := by
    have : 0 ≤ ∑ a, y a * y a := Finset.sum_nonneg fun a _ => mul_self_nonneg _
    positivity
  refine ⟨_, (Real.sqrt ((∑ a, y a * y a) * (1 / 1024) + ε))⁻¹, hp, by positivity, hq, ?_, ?_⟩
  · unfold rr
    rw [hq]
    exact rsqrt_pos _ hp
  · rw [← mul_inv, Real.mul_self_sqrt hp.le, ← one_div]

/-- The chain through the mean is the closed form, where the row is real. -/
theorem dx_real {x : Line} (hx : ∀ a, ∃ r : ℝ, x a = r) (d g e : Line) (a : Fin 1024) (T : EReal)
    (hT : T = Ideal.div ((∑ b, x b * (d b * g b)) * (Ideal.ofBits .f32 3204448256#32 * Ideal.div (rr x) (ms x))) c1024) :
    d a * g a * rr x + x a * T + T * x a + e a = dx d x g e a := by
  obtain ⟨q, r, hq, hr, hms, hrr, hrq⟩ := rr_real hx
  choose y hy using hx
  unfold dx xh
  congr 1
  rw [half_eq, hms, hrr, c1024_eq, Ideal.div_coe hq.ne', Ideal.div_coe (by norm_num)] at hT
  rw [hrr, c1024_eq, Ideal.div_coe (by norm_num)]
  have hG : ∑ b, d b * g b * (x b * (r : EReal)) = (r : EReal) * ∑ b, x b * (d b * g b) := by
    rw [mul_sum_coe _ _ hr.le]
    exact Finset.sum_congr rfl fun b _ => by ac_rfl
  rw [hG]
  generalize (∑ b, x b * (d b * g b)) = G at hT ⊢
  have hT' : T = ((-(1 / 2) * (r * (1 / q)) * (1 / 1024) : ℝ) : EReal) * G := by
    rw [hT, ← EReal.coe_mul, ← EReal.coe_mul, mul_assoc, ← EReal.coe_mul, mul_comm]
  have h2 : x a * T + T * x a = ((-(r * (y a * r) * (1 / 1024) * r) : ℝ) : EReal) * G := by
    rw [mul_comm T, hT', hy, ← mul_assoc, ← EReal.coe_mul]
    generalize hc : (y a * (-(1 / 2) * (r * (1 / q)) * (1 / 1024)) : ℝ) = c
    have : (c : EReal) * G + (c : EReal) * G = (2 : ℝ) * ((c : EReal) * G) := by
      rw [show ((2 : ℝ) : EReal) = 1 + 1 by rw [← EReal.coe_one, ← EReal.coe_add]; norm_num, EReal.right_distrib_of_nonneg zero_le_one zero_le_one, one_mul]
    rw [this, ← mul_assoc, ← EReal.coe_mul, ← hc, ← hrq]
    congr 2
    ring
  rw [add_assoc, h2, sub_eq_add_neg, EReal.left_distrib_of_nonneg_of_ne_top (by exact_mod_cast hr.le) (EReal.coe_ne_top _), mul_comm (d a * g a), hy, mul_neg]
  congr 1
  rw [EReal.coe_neg, neg_mul]
  congr 1
  simp only [EReal.coe_mul]
  ac_rfl

/-- Where an element is infinite, so is the mean square: the factor is zero. -/
theorem ms_top {x : Line} {b : Fin 1024} (hb : x b = ⊤ ∨ x b = ⊥) : ms x = ⊤ := by
  have hn : ∀ a, 0 ≤ x a * x a := fun a => by
    induction x a with
    | bot => simp
    | top => simp
    | coe r => rw [← EReal.coe_mul]; exact_mod_cast mul_self_nonneg r
  have ht : x b * x b = ⊤ := by rcases hb with h | h <;> rw [h] <;> simp
  have hs : ∑ a, x a * x a = ⊤ := top_le_iff.mp (ht ▸ Finset.single_le_sum (fun a _ => hn a) (Finset.mem_univ b))
  obtain ⟨ε, hε, he⟩ := eps_pos
  unfold ms
  rw [hs, c1024_eq, he, Ideal.div_coe (by norm_num), EReal.top_mul_coe_of_pos (by norm_num)]
  rfl

/-- The chain through the mean is the closed form. -/
theorem dx_eq (x d g e : Line) (a : Fin 1024) (T : EReal)
    (hT : T = Ideal.div ((∑ b, x b * (d b * g b)) * (Ideal.ofBits .f32 3204448256#32 * Ideal.div (rr x) (ms x))) c1024) :
    d a * g a * rr x + x a * T + T * x a + e a = dx d x g e a := by
  by_cases hx : ∀ a, ∃ r : ℝ, x a = r
  · exact dx_real hx d g e a T hT
  · obtain ⟨b, hb⟩ := not_forall.mp hx
    have hb' : x b = ⊤ ∨ x b = ⊥ := by
      induction h : x b with
      | bot => exact .inr rfl
      | top => exact .inl rfl
      | coe r => exact absurd ⟨r, h⟩ hb
    have hm := ms_top hb'
    have hr : rr x = 0 := by unfold rr; rw [hm]; rfl
    have h0 : T = 0 := by
      rw [hT, hr, hm, c1024_eq, Ideal.div_coe (by norm_num)]
      simp [Ideal.div]
    unfold dx
    rw [hr, h0]
    simp

end Cert.Rms
end
-- ==== Proof.RmsBlock.lean ====
module

public import proofs.«01_k».proof.Proof.RmsSpec
public import proofs.«01_k».proof.Proof.Gen.RmsKernelIdeal.Value
public import Idealize.ShloMosaic.Lib.Pipeline.Value
public import Idealize.ShloMosaic.Lib.Pipeline.ValueKit

/-! What one grid step of the norm's backward call leaves. -/

@[expose] public section

set_option maxRecDepth 16384

noncomputable section

open Idealize.ShloMosaic Idealize.ShloMosaic.TcCoe Idealize.SL.Sem
open Idealize.ShloMosaic.Pipeline (Dat)

namespace Cert.RmsKernelIdeal.RmsBlock

open Cert.RmsKernelIdeal Cert.RmsKernelIdeal.Gen Cert.Rms

theorem zeros : (![0, 0] : Fin 2 → Nat) = fun _ => 0 := by
  funext a
  match a with
  | ⟨0, _⟩ => rfl
  | ⟨1, _⟩ => rfl

theorem zerosF : ∀ a, (![0, 0] : Fin 2 → ℕ) a = 0 := by decide

theorem eta2 {m n : ℕ} (y : (⟨2, ![m, n]⟩ : Shape).Idx) : y = ix2 (y 0) (y 1) := by
  funext a
  match a with
  | ⟨0, _⟩ => rfl
  | ⟨1, _⟩ => rfl

/-- A block's row. -/
def row {n : ℕ} (x : (⟨2, ![n, 1024]⟩ : Shape).Idx → EReal) (r : Fin n) : Line := fun a => x (ix2 r a)

def dxB (x0 x1 : S1024x1024.Idx → EReal) (x2 : S1x1024.Idx → EReal) (x3 : S1024x1024.Idx → EReal) (r a : Fin 1024) : EReal :=
  dx (row x0 r) (row x1 r) (row x2 0) (row x3 r) a
/-- The gain's cotangent over the block's rows. -/
def gs (x0 x1 : S1024x1024.Idx → EReal) (a : Fin 1024) : EReal := ∑ r : Fin 1024, x0 (ix2 r a) * xh (row x1 r) a

section
variable (x0 : Vec Ideal S1024x1024 .f32) (x1 : Vec Ideal S1024x1024 .f32) (x2 : Vec Ideal S1x1024 .f32) (x3 : Vec Ideal S1024x1024 .f32)

theorem p2 (r : Fin 1024) (j : Fin 1) : k0_pay2 (F := Ideal) x1 (ix2 r j) = rr (row x1 r) := by
  obtain rfl : j = 0 := Subsingleton.elim _ _
  unfold k0_pay2
  pointwise
  rfl
theorem p3 (r a : Fin 1024) : k0_pay3 (F := Ideal) x1 (ix2 r a) = xh (row x1 r) a := by
  unfold k0_pay3
  pointwise
  simp only [p2]
  rfl
theorem p4 (r a : Fin 1024) : k0_pay4 (F := Ideal) x1 x0 x2 x3 (ix2 r a) = dxB x0 x1 x2 x3 r a := by
  unfold k0_pay4
  pointwise
  simp only [p2, p3]
  rfl
theorem p5 (r a : Fin 1024) : k0_pay5 (F := Ideal) x1 x0 x2 x3 (ix2 r a) = dxB x0 x1 x2 x3 r a := by
  unfold k0_pay5
  pointwise
  exact p4 x0 x1 x2 x3 r a
theorem p6 (j : Fin 1) (a : Fin 1024) : k0_pay7 (F := Ideal) (k0_pay6 (F := Ideal)) (ix2 j a) = 0 := by
  unfold k0_pay7 k0_pay6
  pointwise
theorem p7 (v : Vec Ideal S1x1024 .f32) : k0_pay7 (F := Ideal) v = v := by
  unfold k0_pay7
  funext i
  obtain ⟨j, a, rfl⟩ : ∃ j a, i = ix2 (n0 := 1) (n1 := 1024) j a := ⟨i 0, i 1, eta2 (m := 1) (n := 1024) i⟩
  pointwise
theorem p1 (v : Vec Ideal S1x1024 .f32) (j : Fin 1) (a : Fin 1024) :
    k0_pay1 (F := Ideal) (k0_pay3 x1) x0 v (ix2 j a) = v (ix2 j a) + gs x0 x1 a := by
  obtain rfl : j = 0 := Subsingleton.elim _ _
  unfold k0_pay1
  pointwise
  simp only [p3]
  rfl

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole)

theorem out_A4 (hc0 : cond0_0 i) (r : Fin 1024) (a : Fin 1024) :
    out0_A_4 (F := Ideal) c i arg1 harg1 arg2 harg2 arg3 harg3 arg4 harg4 arg5 harg5 arg6 harg6 arg7 harg7 hc0 x0 x1 x2 x3 (ix2 r a) = dxB x0 x1 x2 x3 r a := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  rw [View.canon_unit_zero zeros, View.ld_unit_zero zeros, View.ld_unit_zero zeros, View.ld_unit_zero zeros, View.ld_unit_zero zeros]
  exact p4 x0 x1 x2 x3 r a

theorem out_A5 (hc0 : cond0_0 i) (r : Fin 1024) (a : Fin 1024) :
    out0_A_5 (F := Ideal) c i arg1 harg1 arg2 harg2 arg3 harg3 arg4 harg4 arg5 harg5 arg6 harg6 arg7 harg7 hc0 x0 x1 x2 x3 (ix2 r a) = dxB x0 x1 x2 x3 r a := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  rw [View.canon_unit_zero zeros, View.ld_unit_zero zeros, View.ld_unit_zero zeros, View.ld_unit_zero zeros, View.ld_unit_zero zeros]
  exact p5 x0 x1 x2 x3 r a

theorem out_A6 (hc0 : cond0_0 i) (j : Fin 1) (a : Fin 1024) :
    out0_A_6 (F := Ideal) c i arg1 harg1 arg2 harg2 arg3 harg3 arg4 harg4 arg5 harg5 arg6 harg6 arg7 harg7 hc0 x0 x1 x2 x3 (ix2 j a) = 0 + gs x0 x1 a := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  simp only [View.readCov_cons_toLoadRect]
  rw [View.canon_cons_unit_lit _ _ _ zerosF, View.ld_unit_zero zeros, View.ld_unit_zero zeros]
  exact (p1 x0 x1 _ j a).trans (congrArg (· + _) (p6 j a))

theorem out_B4 (hc0 : ¬cond0_0 i) (xo6 : Vec Ideal S1x1024 .f32) (r : Fin 1024) (a : Fin 1024) :
    out0_B_4 (F := Ideal) c i arg1 harg1 arg2 harg2 arg3 harg3 arg4 harg4 arg5 harg5 arg6 harg6 arg7 harg7 hc0 x0 x1 x2 x3 xo6 (ix2 r a) = dxB x0 x1 x2 x3 r a := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros, View.ld_unit_zero zeros, View.ld_unit_zero zeros, View.ld_unit_zero zeros, View.ld_unit_zero zeros]
  exact p4 x0 x1 x2 x3 r a

theorem out_B5 (hc0 : ¬cond0_0 i) (xo6 : Vec Ideal S1x1024 .f32) (r : Fin 1024) (a : Fin 1024) :
    out0_B_5 (F := Ideal) c i arg1 harg1 arg2 harg2 arg3 harg3 arg4 harg4 arg5 harg5 arg6 harg6 arg7 harg7 hc0 x0 x1 x2 x3 xo6 (ix2 r a) = dxB x0 x1 x2 x3 r a := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros, View.ld_unit_zero zeros, View.ld_unit_zero zeros, View.ld_unit_zero zeros, View.ld_unit_zero zeros]
  exact p5 x0 x1 x2 x3 r a

theorem out_B6 (hc0 : ¬cond0_0 i) (xo6 : Vec Ideal S1x1024 .f32) (j : Fin 1) (a : Fin 1024) :
    out0_B_6 (F := Ideal) c i arg1 harg1 arg2 harg2 arg3 harg3 arg4 harg4 arg5 harg5 arg6 harg6 arg7 harg7 hc0 x0 x1 x2 x3 xo6 (ix2 j a) = xo6 (ix2 j a) + gs x0 x1 a := by
  unfold out0_B_6
  rw [View.read_writes_eq_canon _ _ _ (cover0_B_6 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros, View.ld_unit_zero zeros, View.ld_unit_zero zeros, View.ld_unit_zero zeros]
  rw [p7]
  exact p1 x0 x1 _ j a
end

end Cert.RmsKernelIdeal.RmsBlock
end
-- ==== Proof.RmsClaim.lean ====
module

public import proofs.«01_k».proof.Defs
public import proofs.«01_k».proof.Proof.RmsBlock
public import proofs.«01_k».proof.Proof.Gen.RmsReferenceIdeal.Run
public import proofs.«01_k».proof.Proof.Gen.RmsReferenceIdeal.Read

/-! The norm's backward call leaves what `jax.vjp` of the norm, with the residual's cotangent added, leaves. -/

@[expose] public section

set_option maxRecDepth 16384

noncomputable section

open Idealize.ShloMosaic Idealize.ShloMosaic.TcCoe Idealize.SL.Sem
open Idealize.ShloMosaic.Pipeline (Dat)

namespace Cert.Rms

abbrev Big := (⟨2, ![4096, 1024]⟩ : Shape).Idx → EReal
abbrev Gain := (⟨2, ![1, 1024]⟩ : Shape).Idx → EReal

/-- A token's row. -/
def lineOf (X : Big) (t : Fin 4096) : Line := fun a => X (ix2 t a)
def gain (G : Gain) : Line := fun a => G (ix2 0 a)
def DX (D X : Big) (G : Gain) (E : Big) (t : Fin 4096) (a : Fin 1024) : EReal := dx (lineOf D t) (lineOf X t) (gain G) (lineOf E t) a
def DG (D X : Big) (a : Fin 1024) : EReal := ∑ t : Fin 4096, D (ix2 t a) * xh (lineOf X t) a

end Cert.Rms

namespace Cert.RmsKernelIdeal.RmsArray

open Cert.RmsKernelIdeal Cert.RmsKernelIdeal.Gen Cert.Rms
open RmsBlock

variable (m : (ℓ : Loc nD τ sig) → Buf (Elt Ideal) ℓ) (c : Dev nD)

abbrev aD : Big := m ((c : Thread nD τ).loc main_arg0)
abbrev aX : Big := m ((c : Thread nD τ).loc main_arg1)
abbrev aG : Gain := m ((c : Thread nD τ).loc main_arg2)
abbrev aE : Big := m ((c : Thread nD τ).loc main_arg3)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] := by
  decide +kernel

theorem lt4 (t : Fin cfg0.N) : t.val < 4 := t.isLt

/-- The token of a row of a step's block. -/
def tk (t : Fin cfg0.N) (r : Fin 1024) : Fin 4096 := ⟨1024 * t.val + r.val, by have := lt4 t; omega⟩

theorem row_d (t : Fin cfg0.N) (r : Fin 1024) : row (n := 1024) (iblk m c 0 t) r = lineOf (aD m c) (tk t r) := by
  funext a
  unfold row lineOf aD tk
  blk_ext [iblk, V, idx t]
theorem row_x (t : Fin cfg0.N) (r : Fin 1024) : row (n := 1024) (iblk m c 1 t) r = lineOf (aX m c) (tk t r) := by
  funext a
  unfold row lineOf aX tk
  blk_ext [iblk, V, idx t]
theorem row_g (t : Fin cfg0.N) : row (n := 1) (iblk m c 2 t) 0 = gain (aG m c) := by
  funext a
  unfold row gain aG
  blk_ext [iblk, V, idx t]
theorem row_e (t : Fin cfg0.N) (r : Fin 1024) : row (n := 1024) (iblk m c 3 t) r = lineOf (aE m c) (tk t r) := by
  funext a
  unfold row lineOf aE tk
  blk_ext [iblk, V, idx t]

/-- What a step adds to the gain's cotangent. -/
def addG (t : Fin cfg0.N) (a : Fin 1024) : EReal := ∑ r : Fin 1024, aD m c (ix2 (tk t r) a) * xh (lineOf (aX m c) (tk t r)) a

theorem dxB_eq (t : Fin cfg0.N) (r a : Fin 1024) :
    dxB (iblk m c 0 t) (iblk m c 1 t) (iblk m c 2 t) (iblk m c 3 t) r a = DX (aD m c) (aX m c) (aG m c) (aE m c) (tk t r) a := by
  unfold dxB DX
  rw [row_d, row_x, row_g, row_e]
theorem gs_eq (t : Fin cfg0.N) (a : Fin 1024) : gs (iblk m c 0 t) (iblk m c 1 t) a = addG m c t a := by
  unfold gs addG
  refine Finset.sum_congr rfl fun r _ => ?_
  rw [row_x]
  exact congrArg (· * _) (congrFun (row_d m c t r) a)

theorem o4 (t : Fin cfg0.N) (r a : Fin 1024) :
    (outsAt0 m c t.val t.isLt).1 (ix2 r a) = DX (aD m c) (aX m c) (aG m c) (aE m c) (tk t r) a := by
  refine Eq.trans ?_ (dxB_eq m c t r a)
  by_cases h0 : t.val % 4 = 0
  · rw [outsAt0_A m c t h0]
    dsimp only
    exact out_A4 ..
  · rw [outsAt0_B m c t h0]
    dsimp only
    exact out_B4 ..
theorem o5 (t : Fin cfg0.N) (r a : Fin 1024) :
    (outsAt0 m c t.val t.isLt).2.1 (ix2 r a) = DX (aD m c) (aX m c) (aG m c) (aE m c) (tk t r) a := by
  refine Eq.trans ?_ (dxB_eq m c t r a)
  by_cases h0 : t.val % 4 = 0
  · rw [outsAt0_A m c t h0]
    dsimp only
    exact out_A5 ..
  · rw [outsAt0_B m c t h0]
    dsimp only
    exact out_B5 ..

/-- The step before. -/
def pre (t : Fin cfg0.N) : Fin cfg0.N := ⟨t.val - 1, Nat.lt_of_le_of_lt (Nat.sub_le _ _) t.isLt⟩

theorem o6_first (t : Fin cfg0.N) (h0 : t.val % 4 = 0) (j : Fin 1) (a : Fin 1024) :
    (outsAt0 m c t.val t.isLt).2.2 (ix2 j a) = 0 + addG m c t a := by
  rw [← gs_eq, outsAt0_A m c t h0]
  dsimp only
  exact out_A6 ..
theorem o6_next (t : Fin cfg0.N) (h0 : ¬t.val % 4 = 0) (j : Fin 1) (a : Fin 1024) :
    (outsAt0 m c t.val t.isLt).2.2 (ix2 j a) = (outsAt0 m c (pre t).val (pre t).isLt).2.2 (ix2 j a) + addG m c t a := by
  rw [← gs_eq, outsAt0_B m c t h0]
  dsimp only
  exact out_B6 ..
theorem o6_last (j : Fin 1) (a : Fin 1024) :
    (outsAt0 m c t0_3.val t0_3.isLt).2.2 (ix2 j a) = 0 + addG m c t0_0 a + addG m c t0_1 a + addG m c t0_2 a + addG m c t0_3 a := by
  refine (o6_next m c t0_3 (by decide) j a).trans (congrArg (· + addG m c t0_3 a) ?_)
  refine (o6_next m c t0_2 (by decide) j a).trans (congrArg (· + addG m c t0_2 a) ?_)
  refine (o6_next m c t0_1 (by decide) j a).trans (congrArg (· + addG m c t0_1 a) ?_)
  exact o6_first m c t0_0 (by decide) j a

theorem sum_quarters {M : Type} [AddCommMonoid M] (f : Fin 4096 → M) :
    ∑ s : Fin 4096, f s = ∑ r : Fin 1024, f ⟨r.val, by omega⟩ + ∑ r : Fin 1024, f ⟨1024 + r.val, by omega⟩
      + ∑ r : Fin 1024, f ⟨2048 + r.val, by omega⟩ + ∑ r : Fin 1024, f ⟨3072 + r.val, by omega⟩ := by
  refine (Fin.sum_univ_add (a := 3072) (b := 1024) f).trans (congrArg (· + _) ?_)
  refine (Fin.sum_univ_add (a := 2048) (b := 1024) _).trans (congrArg (· + _) ?_)
  exact Fin.sum_univ_add (a := 1024) (b := 1024) _

theorem tk0 (r : Fin 1024) : (⟨r.val, by omega⟩ : Fin 4096) = tk t0_0 r := Fin.ext (by show r.val = 1024 * 0 + r.val; omega)
theorem tk1 (r : Fin 1024) : (⟨1024 + r.val, by omega⟩ : Fin 4096) = tk t0_1 r := Fin.ext (by show 1024 + r.val = 1024 * 1 + r.val; omega)
theorem tk2 (r : Fin 1024) : (⟨2048 + r.val, by omega⟩ : Fin 4096) = tk t0_2 r := Fin.ext (by show 2048 + r.val = 1024 * 2 + r.val; omega)
theorem tk3 (r : Fin 1024) : (⟨3072 + r.val, by omega⟩ : Fin 4096) = tk t0_3 r := Fin.ext (by show 3072 + r.val = 1024 * 3 + r.val; omega)

theorem left6 (a : Fin 1024) : 0 + addG m c t0_0 a + addG m c t0_1 a + addG m c t0_2 a + addG m c t0_3 a = Rms.DG (aD m c) (aX m c) a := by
  unfold Rms.DG
  rw [sum_quarters, zero_add]
  simp only [tk0, tk1, tk2, tk3]
  rfl

def R4 : S4096x1024.Idx → EReal := fun i => DX (aD m c) (aX m c) (aG m c) (aE m c) (i 0) (i 1)
def R6 : S1x1024.Idx → EReal := fun i => Rms.DG (aD m c) (aX m c) (i 1)

theorem left4 (t : Fin cfg0.N) (r a : Fin 1024) (i : S4096x1024.Idx) (h0 : (i 0).val = 1024 * t.val + r.val) (h1 : (i 1).val = a.val) :
    DX (aD m c) (aX m c) (aG m c) (aE m c) (tk t r) a = R4 m c i := by
  have e0 : tk t r = i 0 := Fin.ext h0.symm
  have e1 : a = i 1 := Fin.ext h1.symm
  unfold R4
  rw [e0, e1]

theorem final4 : (dats m 0 c).arrAt 4 cfg0.N = R4 m c := by
  refine (dats m 0 c).arrAt_eq_of_covers 4 _ (by decide +kernel) fun t hf y => ?_
  obtain ⟨r, a, rfl⟩ : ∃ r a, y = ix2 (n0 := 1024) (n1 := 1024) r a := ⟨y 0, y 1, eta2 (m := 1024) (n := 1024) y⟩
  blk_simp
  rw [after0_4]
  refine (o4 m c t r a).trans (left4 m c t r a _ ?_ ?_)
  · blk_simp [idx t]; try omega
  · blk_simp [idx t]; try omega
theorem final5 : (dats m 0 c).arrAt 5 cfg0.N = R4 m c := by
  refine (dats m 0 c).arrAt_eq_of_covers 5 _ (by decide +kernel) fun t hf y => ?_
  obtain ⟨r, a, rfl⟩ : ∃ r a, y = ix2 (n0 := 1024) (n1 := 1024) r a := ⟨y 0, y 1, eta2 (m := 1024) (n := 1024) y⟩
  blk_simp
  rw [after0_5]
  refine (o5 m c t r a).trans (left4 m c t r a _ ?_ ?_)
  · blk_simp [idx t]; try omega
  · blk_simp [idx t]; try omega
theorem final6 : (dats m 0 c).arrAt 6 cfg0.N = R6 m c := by
  refine (dats m 0 c).arrAt_eq_of_covers 6 _ (by decide +kernel) fun t hf y => ?_
  have ht : t.val % 4 = 3 := (flush0_6 t).mp hf
  obtain rfl : t = t0_3 := Fin.ext (by have := lt4 t; show t.val = 3; omega)
  obtain ⟨j, a, rfl⟩ : ∃ j a, y = ix2 (n0 := 1) (n1 := 1024) j a := ⟨y 0, y 1, eta2 (m := 1) (n := 1024) y⟩
  blk_simp
  rw [after0_6]
  refine (o6_last m c j a).trans ((left6 m c a).trans (congrArg (Rms.DG (aD m c) (aX m c)) (Fin.ext ?_)))
  blk_simp [idx t0_3]

end Cert.RmsKernelIdeal.RmsArray

namespace Cert.RmsReferenceIdeal.RmsRef

open Cert.RmsReferenceIdeal Cert.RmsReferenceIdeal.Gen Cert.RmsReferenceIdeal.Read Cert.Rms

theorem sum_one {M : Type} [AddCommMonoid M] (f : Fin 1 → M) : ∑ k, f k = f 0 := by
  rw [Fin.sum_univ_succ]; simp

variable (x0 x1 : Big) (x2 : Gain) (x3 : Big) (t : Fin 4096) (a : Fin 1024)

theorem v6 : val_main_v6 (F := Ideal) x1 (ix2 t 0) = ms (lineOf x1 t) := by
  unfold val_main_v6 val_main_v5 val_main_cst_1 val_main_v4 val_main_v3 val_main_cst_0 val_main_v2 val_main_v1 val_main_v0 val_main_cst
  pointwise
  rfl
theorem v7 : val_main_v7 (F := Ideal) x1 (ix2 t 0) = rr (lineOf x1 t) := by
  unfold val_main_v7
  pointwise
  simp only [v6]
  rfl
theorem v10 : val_main_v10 (F := Ideal) x1 (ix2 t 0) = Ideal.ofBits .f32 3204448256#32 * Ideal.div (rr (lineOf x1 t)) (ms (lineOf x1 t)) := by
  unfold val_main_v10 val_main_v9 val_main_v8 val_main_cst_2
  pointwise
  simp only [v6, v7]
  try rfl
theorem v12 : val_main_v12 (F := Ideal) x1 (ix2 t a) = xh (lineOf x1 t) a := by
  unfold val_main_v12 val_main_v11
  pointwise
  simp only [v7]
  rfl
theorem v17 : val_main_v17 (F := Ideal) x0 x1 (ix2 0 a) = Rms.DG x0 x1 a := by
  unfold val_main_v17 val_main_v16 val_main_v15 val_main_cst_3
  pointwise
  simp only [v12]
  unfold Rms.DG
  exact Finset.sum_congr rfl fun s _ => mul_comm _ _
theorem v19 : val_main_v19 (F := Ideal) x0 x2 (ix2 t a) = lineOf x0 t a * gain x2 a := by
  unfold val_main_v19 val_main_v18
  pointwise
  rfl
theorem v22 : val_main_v22 (F := Ideal) x0 x1 x2 (ix2 t 0) = ∑ b, lineOf x1 t b * (lineOf x0 t b * gain x2 b) := by
  unfold val_main_v22 val_main_v21 val_main_v20 val_main_cst_4
  pointwise
  simp only [v19]
  rfl
theorem v27 : val_main_v27 (F := Ideal) x0 x1 x2 (ix2 t 0)
    = Ideal.div ((∑ b, lineOf x1 t b * (lineOf x0 t b * gain x2 b)) * (Ideal.ofBits .f32 3204448256#32 * Ideal.div (rr (lineOf x1 t)) (ms (lineOf x1 t)))) c1024 := by
  unfold val_main_v27 val_main_v26 val_main_v25 val_main_cst_5
  pointwise
  simp only [v22, v10]
  rfl
theorem v29 : val_main_v29 (F := Ideal) x0 x1 x2 (ix2 t a)
    = Ideal.div ((∑ b, lineOf x1 t b * (lineOf x0 t b * gain x2 b)) * (Ideal.ofBits .f32 3204448256#32 * Ideal.div (rr (lineOf x1 t)) (ms (lineOf x1 t)))) c1024 := by
  unfold val_main_v29 val_main_v28 val_main_cst_6
  pointwise
  rw [sum_one]
  exact v27 x0 x1 x2 t
theorem v34 : val_main_v34 (F := Ideal) x0 x1 x2 x3 (ix2 t a) = DX x0 x1 x2 x3 t a := by
  refine Eq.trans ?_ (dx_eq (lineOf x1 t) (lineOf x0 t) (gain x2) (lineOf x3 t) a _ rfl)
  unfold val_main_v34 val_main_v33 val_main_v32 val_main_v31 val_main_v30 val_main_v24 val_main_v23
  pointwise
  simp only [v19, v7, v29]
  rfl
theorem v35 : val_main_v35 (F := Ideal) x0 x1 x2 x3 (ix2 t a) = DX x0 x1 x2 x3 t a := by
  unfold val_main_v35
  pointwise
  exact v34 x0 x1 x2 x3 t a

end Cert.RmsReferenceIdeal.RmsRef

namespace Cert.RmsClaim

open Cert.RmsKernelIdeal.RmsArray Cert.RmsReferenceIdeal.RmsRef Cert.RmsReferenceIdeal.Read
open Cert.RmsKernelIdeal.RmsBlock (eta2)

/-- The reference's run ends with its arguments unchanged and every counter at zero. -/
theorem frame_ref : Cert.quiescent_RmsReferenceIdeal := fun m ρ _ =>
  (θ_run Cert.RmsReferenceIdeal.defs _ _).mono
    (fun r h => ⟨fun c => (h c).2.2.2, Idealize.ShloMosaic.sem_eq_zero_of_no_sems (by decide) r.2⟩)
    (Cert.RmsReferenceIdeal.Value.run m ρ)

/-- From memories agreeing on the arguments both run and leave equal arrays. -/
theorem algebraic : Cert.algebraic_RmsKernelIdeal_RmsReferenceIdeal := by
  intro m g m' g' _ ha
  refine ⟨R4 m, R4 m, R6 m, (θ_run Cert.RmsKernelIdeal.defs _ _).mono
      (fun r h c => ⟨(h c).1.trans (final4 m c), (h c).2.1.trans (final5 m c), (h c).2.2.1.trans (final6 m c), (h c).2.2.2⟩)
      (Cert.RmsKernelIdeal.Value.run_blocks m g),
    (θ_run Cert.RmsReferenceIdeal.defs _ _).mono (fun r h c => ?_) (Cert.RmsReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v34_eq, a0, a1, a2, a3]
    funext i
    obtain ⟨t, a, rfl⟩ : ∃ t a, i = ix2 (n0 := 4096) (n1 := 1024) t a := ⟨i 0, i 1, eta2 (m := 4096) (n := 1024) i⟩
    exact v34 _ _ _ _ t a
  · rw [val_main_v35_eq, a0, a1, a2, a3]
    funext i
    obtain ⟨t, a, rfl⟩ : ∃ t a, i = ix2 (n0 := 4096) (n1 := 1024) t a := ⟨i 0, i 1, eta2 (m := 4096) (n := 1024) i⟩
    exact v35 _ _ _ _ t a
  · rw [val_main_v17_eq, a0, a1]
    funext i
    obtain ⟨t, a, rfl⟩ : ∃ t a, i = ix2 (n0 := 1) (n1 := 1024) t a := ⟨i 0, i 1, eta2 (m := 1) (n := 1024) i⟩
    obtain rfl : t = 0 := Subsingleton.elim _ _
    exact v17 _ _ a

end Cert.RmsClaim
end
-- ==== Proof.H1Block.lean ====
module

public import proofs.«01_k».proof.Proof.Gen.H1KernelIdeal.Value
public import Idealize.ShloMosaic.Lib.Pipeline.Value
public import Idealize.ShloMosaic.Lib.Pipeline.ValueKit

/-! What one grid step of the rows' gradient adds: a window of the columns, rotated, against a slab of the weights. -/

@[expose] public section

set_option maxRecDepth 16384

noncomputable section

open Idealize.ShloMosaic Idealize.ShloMosaic.TcCoe Idealize.SL.Sem
open Idealize.ShloMosaic.Pipeline (Dat)

namespace Cert.H1KernelIdeal.H1Block

open Cert.H1KernelIdeal Cert.H1KernelIdeal.Gen

theorem zeros : (![0, 0] : Fin 2 → Nat) = fun _ => 0 := by
  funext a
  match a with
  | ⟨0, _⟩ => rfl
  | ⟨1, _⟩ => rfl

/-- The two column blocks side by side. -/
def cat (x0 : S1024x1280.Idx → EReal) (x1 : S1024x128.Idx → EReal) (r : Fin 1024) (j : ℕ) : EReal :=
  if h : j < 1280 then x0 (ix2 r ⟨j, h⟩) else if h' : j - 1280 < 128 then x1 (ix2 r ⟨j - 1280, h'⟩) else 0

/-- One step's product: the slab's first 1280 rows, then its last 16. -/
def pd (k : ℕ) (x0 : S1024x1280.Idx → EReal) (x1 : S1024x128.Idx → EReal) (x2 : S1x1296x1024.Idx → EReal) (r : Fin 1024) (q : Fin 1024) : EReal :=
  ∑ c : Fin 1280, cat x0 x1 r (c.val + k) * x2 (ix3 0 ⟨c.val, by omega⟩ q) + ∑ c : Fin 16, cat x0 x1 r (1280 + c.val + k) * x2 (ix3 0 ⟨1280 + c.val, by omega⟩ q)

/-- A column of the two blocks, rotated. -/
theorem cat_eq (x0 : S1024x1280.Idx → EReal) (x1 : S1024x128.Idx → EReal) (r : Fin 1024) (n j : ℕ) (e : n = j) (hj : j < 1408) :
    (if h : n < 1280 then x0 (ix2 r ⟨n, h⟩) else x1 (ix2 r ⟨n - 1280, by omega⟩)) = cat x0 x1 r j := by
  subst e
  unfold cat
  by_cases h : n < 1280
  · rw [dif_pos h, dif_pos h]
  · rw [dif_neg h, dif_neg h, dif_pos (by omega)]

section
variable (i : grid0.Coords) (x0 : Vec Ideal S1024x1280 .bf16) (x1 : Vec Ideal S1024x128 .bf16) (x2 : Vec Ideal S1x1296x1024 .bf16) (r : Fin 1024) (q : Fin 1024)

/-- The last 16 rows of a slab, and the first 1280. -/
abbrev e16 : Vec Ideal S1x16x1024 .bf16 := View.ld x2 (Rect.unit (s := S1x1296x1024) ![0, 1280, 0] S1x16x1024.size inb_S1x1296x1024_S1x16x1024_0_1280_0)
abbrev e1280 : Vec Ideal S1x1280x1024 .bf16 := View.ld x2 (Rect.unit (s := S1x1296x1024) ![0, 0, 0] S1x1280x1024.size inb_S1x1296x1024_S1x1280x1024_0_0_0)

theorem e16_eq (c : Fin 16) : e16 x2 (ix3 0 c q) = x2 (ix3 0 ⟨1280 + c.val, by omega⟩ q) :=
  View.ld_unit_apply_of _ _ _ _ _ _ (by
    intro a
    match a with
    | ⟨0, _⟩ => rfl
    | ⟨1, _⟩ => rfl
    | ⟨2, _⟩ => show q.val = 0 + q.val; omega)
theorem e1280_eq (c : Fin 1280) : e1280 x2 (ix3 0 c q) = x2 (ix3 0 ⟨c.val, by omega⟩ q) :=
  View.ld_unit_apply_of _ _ _ _ _ _ (by
    intro a
    match a with
    | ⟨0, _⟩ => rfl
    | ⟨1, _⟩ => show c.val = 0 + c.val; omega
    | ⟨2, _⟩ => show q.val = 0 + q.val; omega)

theorem shift_eq (k : ℕ) (hk : k < 8) : (Scalar.subi 1408#32 (Scalar.muli (BitVec.ofNat 32 k) 1#32)).toNat = 1408 - k := by
  match k, hk with
  | 0, _ => rfl
  | 1, _ => rfl
  | 2, _ => rfl
  | 3, _ => rfl
  | 4, _ => rfl
  | 5, _ => rfl
  | 6, _ => rfl
  | 7, _ => rfl

theorem p1 : k0_pay1 (F := Ideal) i x0 x1 (e16 x2) (e1280 x2) (ix2 r q) = pd (i 1).val x0 x1 x2 r q := by
  have hk : (i 1).val < 8 := (i 1).isLt
  unfold k0_pay1
  dsimp only
  unfold pd
  pointwise [dot_S1024x1280_S1280x1024_S1024x1024_1_0_0_1_n_n, dot_S1024x128_S128x1024_S1024x1024_1_0_0_1_n_n]
  simp only [shift_eq _ hk, mul_zero, Finset.sum_const_zero, add_zero]
  congr 1
  · refine Finset.sum_congr rfl fun c _ => ?_
    have hc := c.isLt
    rw [e1280_eq]
    exact congrArg (· * _) (cat_eq x0 x1 r _ _ (by omega) (by omega))
  · refine Finset.sum_congr rfl fun c _ => ?_
    have hc := c.isLt
    rw [e16_eq]
    exact congrArg (· * _) (cat_eq x0 x1 r _ _ (by omega) (by omega))

theorem p2 : k0_pay2 (F := Ideal) i x0 x1 (e16 x2) (e1280 x2) (ix2 r q) = pd (i 1).val x0 x1 x2 r q := by
  unfold k0_pay2
  pointwise
  exact p1 i x0 x1 x2 r q
theorem p3 (a : Vec Ideal S1024x1024 .f32) : k0_pay3 (F := Ideal) i x0 x1 (e16 x2) (e1280 x2) a (ix2 r q) = a (ix2 r q) + pd (i 1).val x0 x1 x2 r q := by
  unfold k0_pay3
  pointwise
  rw [p1]

variable (c : Dev nD) (arg2 : Memref sig .tc .vmem S1024x1280 .bf16) (harg2 : arg2.IsWhole) (arg3 : Memref sig .tc .vmem S1024x128 .bf16) (harg3 : arg3.IsWhole) (arg4 : Memref sig .tc .vmem S1x1296x1024 .bf16) (harg4 : arg4.IsWhole) (arg5 : Memref sig .tc .vmem S1024x1024 .f32) (harg5 : arg5.IsWhole) (arg6 : Memref sig .tc .vmem S1024x1024 .f32) (harg6 : arg6.IsWhole)

theorem step_A (hc0 : cond0_0 i) (hc1 : ¬cond0_1 i) (hc2 : ¬cond0_2 i) :
    sout0_A_0 (F := Ideal) c i arg2 harg2 arg3 harg3 arg4 harg4 arg5 harg5 arg6 harg6 hc0 hc1 hc2 x0 x1 x2 (ix2 r q) = pd (i 1).val x0 x1 x2 r q := by
  unfold sout0_A_0
  rw [View.read_writes_eq_canon _ _ _ (scover0_A_0 c i arg2 harg2 arg3 harg3 arg4 harg4 arg5 harg5 arg6 harg6 hc0 hc1 hc2 x0 x1 x2)]
  unfold kernelRun0_A
  dsimp only
  sl_unfold_words
  simp only [View.readAt_eq_ld, harg2.read_unread, harg3.read_unread, harg4.read_unread, harg6.read_unread]
  rw [View.canon_unit_zero zeros, View.ld_unit_zero zeros, View.ld_unit_zero zeros]
  exact p2 i x0 x1 x2 r q

theorem step_B (hc0 : ¬cond0_0 i) (hc1 : cond0_1 i) (hc2 : ¬cond0_2 i) (a : Vec Ideal S1024x1024 .f32) :
    sout0_B_0 (F := Ideal) c i arg2 harg2 arg3 harg3 arg4 harg4 arg5 harg5 arg6 harg6 hc0 hc1 hc2 x0 x1 x2 a (ix2 r q) = a (ix2 r q) + pd (i 1).val x0 x1 x2 r q := by
  unfold sout0_B_0
  rw [View.read_writes_eq_canon _ _ _ (scover0_B_0 c i arg2 harg2 arg3 harg3 arg4 harg4 arg5 harg5 arg6 harg6 hc0 hc1 hc2 x0 x1 x2 a)]
  unfold kernelRun0_B
  dsimp only
  sl_unfold_words
  simp only [View.readAt_eq_ld, harg2.read_unread, harg3.read_unread, harg4.read_unread, harg6.read_unread]
  rw [View.canon_unit_zero zeros, View.ld_unit_zero zeros, View.ld_unit_zero zeros, View.ld_unit_zero zeros]
  exact p3 i x0 x1 x2 r q a

theorem step_C (hc0 : ¬cond0_0 i) (hc1 : cond0_1 i) (hc2 : cond0_2 i) (a : Vec Ideal S1024x1024 .f32) :
    out0_C_3 (F := Ideal) c i arg2 harg2 arg3 harg3 arg4 harg4 arg5 harg5 arg6 harg6 hc0 hc1 hc2 x0 x1 x2 a (ix2 r q) = a (ix2 r q) + pd (i 1).val x0 x1 x2 r q := by
  unfold out0_C_3
  rw [View.read_writes_eq_canon _ _ _ (cover0_C_3 c i arg2 harg2 arg3 harg3 arg4 harg4 arg5 harg5 arg6 harg6 hc0 hc1 hc2 x0 x1 x2 a)]
  unfold kernelRun0_C
  dsimp only
  sl_unfold_words
  simp only [View.readAt_eq_ld, harg2.read_unread, harg3.read_unread, harg4.read_unread, harg6.read_unread]
  rw [View.canon_unit_zero zeros]
  simp only [View.readCov_cons_toLoadRect]
  rw [View.ld_unit_zero zeros, View.ld_unit_zero zeros, View.ld_unit_zero zeros]
  exact p3 i x0 x1 x2 r q a
end

end Cert.H1KernelIdeal.H1Block
end
-- ==== Proof.H1Array.lean ====
module

public import proofs.«01_k».proof.Proof.H1Block

/-! The array the rows' gradient call leaves, over its arguments. -/

@[expose] public section

set_option maxRecDepth 16384

noncomputable section

open Idealize.ShloMosaic Idealize.ShloMosaic.TcCoe Idealize.SL.Sem
open Idealize.ShloMosaic.Pipeline (Dat)

namespace Cert.H1KernelIdeal.H1Array

open Cert.H1KernelIdeal Cert.H1KernelIdeal.Gen
open H1Block

theorem eta2 {m n : ℕ} (y : (⟨2, ![m, n]⟩ : Shape).Idx) : y = ix2 (y 0) (y 1) := by
  funext a
  match a with
  | ⟨0, _⟩ => rfl
  | ⟨1, _⟩ => rfl

/-- One column's term: the gradient's column times the weights' row, for the columns there are. -/
def term (Z : (⟨2, ![4096, 10368]⟩ : Shape).Idx → EReal) (W : (⟨2, ![10248, 1024]⟩ : Shape).Idx → EReal) (r : Fin 4096) (q : Fin 1024) (n : ℕ) : EReal :=
  if h : n < 10248 then Z (ix2 r ⟨n, by omega⟩) * W (ix2 ⟨n, h⟩ q) else 0

variable (m : (ℓ : Loc nD τ sig) → Buf (Elt Ideal) ℓ) (c : Dev nD)

abbrev aZ : (⟨2, ![4096, 10368]⟩ : Shape).Idx → EReal := m ((c : Thread nD τ).loc main_arg0)
abbrev aW : (⟨2, ![10248, 1024]⟩ : Shape).Idx → EReal := m ((c : Thread nD τ).loc main_arg1)

theorem idx : ∀ t : Fin cfg0.N, win0_0.index t = ![t.val / 8, t.val % 8] ∧ win0_1.index t = ![t.val / 8, 10 * (t.val % 8) + 10] ∧ win0_2.index t = ![t.val % 8, 0, 0]
    ∧ win0_3.index t = ![t.val / 8, 0] ∧ (grid0.coords t 1).val = t.val % 8 := by
  decide +kernel
theorem ltN (t : Fin cfg0.N) : t.val < 32 := t.isLt

/-- The place of a step's row in the array. -/
def at' (t : Fin cfg0.N) (r : Fin 1024) : Fin 4096 := ⟨1024 * (t.val / 8) + r.val, by have := ltN t; omega⟩

theorem b0 (t : Fin cfg0.N) (r : Fin 1024) (k : Fin 1280) : X0_0 m c t (ix2 r k) = aZ m c (ix2 (at' t r) ⟨1280 * (t.val % 8) + k.val, by omega⟩) := by
  unfold X0_0 Pipeline.Window.fill
  rw [dif_pos (moved0_0 t _)]
  unfold aZ at'
  blk_ext [iblk, V, idx t]
theorem b1 (t : Fin cfg0.N) (r : Fin 1024) (k : Fin 128) : iblk m c 1 t (ix2 r k) = aZ m c (ix2 (at' t r) ⟨1280 * (t.val % 8) + 1280 + k.val, by omega⟩) := by
  unfold aZ at'
  blk_ext [iblk, V, idx t]

/-- The slabs: the weights' rows, 1281 to a slab, then zeros. -/
theorem slabs (k : Fin 8) (j : Fin 1296) (q : Fin 1024) : V m c main_v1 (ix3 k j q) =
    if h : j.val < 1281 then aW m c (ix2 ⟨1281 * k.val + j.val, by omega⟩ q) else 0 := by
  simp only [V, hostOps0, hostOps0_1, List.flatten_cons, List.flatten_nil, List.append_nil, List.cons_append, List.nil_append]
  after_results
  show pad S8x1296x1024 ![0, 0, 0] ![0, 15, 0] ![0, 0, 0] (shapeCast S8x1281x1024 (aW m c) shapeCasts_S10248x1024_S8x1281x1024) (sitofp (F := Ideal) .bf16 (constantI S_ 32 0#32))
    pads_S8x1281x1024_S8x1296x1024_000_0150_000 h_S_ (ix3 k j q) = _
  pointwise
  by_cases h : j.val < 1281
  · rw [dif_pos h, dif_pos h]
    congr 2
    exact Fin.ext (by
      show k.val * 1281 + j.val = 1281 * k.val + j.val
      omega)
  · rw [dif_neg h, dif_neg h]
    show (((0#32).toInt : ℝ) : EReal) = 0
    simp

theorem b2 (t : Fin cfg0.N) (k : Fin 1296) (q : Fin 1024) : iblk m c 2 t (ix3 0 k q) =
    if h : k.val < 1281 then aW m c (ix2 ⟨1281 * (t.val % 8) + k.val, by omega⟩ q) else 0 := by
  refine Eq.trans ?_ (slabs m c ⟨t.val % 8, by omega⟩ k q)
  unfold iblk
  generalize V m c = U
  blk_ext [idx t]

theorem cat_blk (t : Fin cfg0.N) (r : Fin 1024) (j : ℕ) (hj : j < 1408) :
    cat (X0_0 m c t) (iblk m c 1 t) r j = aZ m c (ix2 (at' t r) ⟨1280 * (t.val % 8) + j, by omega⟩) := by
  unfold cat
  by_cases h : j < 1280
  · rw [dif_pos h, b0]
  · rw [dif_neg h, dif_pos (by omega), b1]
    congr 2
    exact Fin.ext (by
      show 1280 * (t.val % 8) + 1280 + (j - 1280) = 1280 * (t.val % 8) + j
      omega)

/-- A column inside the slab. -/
theorem term_blk (t : Fin cfg0.N) (r : Fin 1024) (q : Fin 1024) (j : ℕ) (hj : j < 1281) :
    cat (X0_0 m c t) (iblk m c 1 t) r (j + t.val % 8) * iblk m c 2 t (ix3 0 ⟨j, by omega⟩ q) = term (aZ m c) (aW m c) (at' t r) q (1281 * (t.val % 8) + j) := by
  have h8 : t.val % 8 < 8 := Nat.mod_lt _ (by decide)
  rw [cat_blk m c t r _ (by omega), b2]
  unfold term
  rw [dif_pos hj, dif_pos (by omega)]
  congr 3
  exact Fin.ext (by
    show 1280 * (t.val % 8) + (j + t.val % 8) = 1281 * (t.val % 8) + j
    omega)

/-- One step adds the slab's 1281 columns. -/
theorem pd_blk (t : Fin cfg0.N) (r : Fin 1024) (q : Fin 1024) :
    pd (grid0.coords t 1).val (X0_0 m c t) (iblk m c 1 t) (iblk m c 2 t) r q = ∑ j ∈ Finset.range 1281, term (aZ m c) (aW m c) (at' t r) q (1281 * (t.val % 8) + j) := by
  rw [(idx t).2.2.2.2]
  unfold pd
  rw [Finset.sum_range_succ, Finset.sum_range]
  congr 1
  · exact Finset.sum_congr rfl fun j _ => term_blk m c t r q j.val (by have := j.isLt; omega)
  · rw [Finset.sum_eq_single (0 : Fin 16)]
    · exact term_blk m c t r q 1280 (by omega)
    · intro j _ hj
      have hj0 : j.val ≠ 0 := fun h => hj (Fin.ext h)
      rw [b2, dif_neg (by
        show ¬1280 + j.val < 1281
        omega), mul_zero]
    · intro h
      exact absurd (Finset.mem_univ _) h

/-- The sum of the columns before `n`. -/
def upto (t : Fin cfg0.N) (r : Fin 1024) (q : Fin 1024) (k : ℕ) : EReal := ∑ n ∈ Finset.range (1281 * k), term (aZ m c) (aW m c) (at' t r) q n

theorem upto_succ (t : Fin cfg0.N) (r : Fin 1024) (q : Fin 1024) :
    upto m c t r q (t.val % 8) + pd (grid0.coords t 1).val (X0_0 m c t) (iblk m c 1 t) (iblk m c 2 t) r q = upto m c t r q (t.val % 8 + 1) := by
  rw [pd_blk]
  unfold upto
  rw [Nat.mul_succ, Finset.sum_range_add]

theorem upto_pre (t u : Fin cfg0.N) (h : t.val / 8 = u.val / 8) (r : Fin 1024) (q : Fin 1024) (k : ℕ) : upto m c t r q k = upto m c u r q k := by
  unfold upto
  rw [show at' t r = at' u r from Fin.ext (by
    show 1024 * (t.val / 8) + r.val = 1024 * (u.val / 8) + r.val
    rw [h])]

/-- What a step leaves for the next. -/
theorem acc_eq : ∀ (n : ℕ) (h : n < cfg0.N), n % 8 ≠ 7 → ∀ (r : Fin 1024) (q : Fin 1024),
    (outsAt0 m c n h).2 (ix2 r q) = upto m c ⟨n, h⟩ r q (n % 8 + 1) := by
  intro n
  induction n with
  | zero =>
    intro h _ r q
    rw [← upto_succ m c ⟨0, h⟩ r q, outsAt0_A m c ⟨0, h⟩ (Nat.zero_mod 8) (by
      show ¬1 ≤ 0 % 8
      decide) (by
      show ¬0 % 8 = 7
      decide)]
    dsimp only
    refine (step_A ..).trans ?_
    unfold upto
    simp
  | succ n ih =>
    intro h h7 r q
    rw [← upto_succ m c ⟨n + 1, h⟩ r q]
    by_cases h0 : (n + 1) % 8 = 0
    · rw [outsAt0_A m c ⟨n + 1, h⟩ h0 (by
        show ¬1 ≤ (n + 1) % 8
        omega) h7]
      dsimp only
      refine (step_A ..).trans ?_
      unfold upto
      rw [h0]
      simp
    · rw [outsAt0_B m c ⟨n + 1, h⟩ h0 (by
        show 1 ≤ (n + 1) % 8
        omega) h7]
      dsimp only
      refine (step_B ..).trans ?_
      congr 1
      refine (ih (Nat.lt_of_succ_lt h) (by omega) r q).trans ?_
      rw [upto_pre m c ⟨n, _⟩ ⟨n + 1, h⟩ (by
        show n / 8 = (n + 1) / 8
        omega), show n % 8 + 1 = (n + 1) % 8 by omega]

/-- The product over every column. -/
def dh (Z : (⟨2, ![4096, 10368]⟩ : Shape).Idx → EReal) (W : (⟨2, ![10248, 1024]⟩ : Shape).Idx → EReal) (r : Fin 4096) (q : Fin 1024) : EReal :=
  ∑ n : Fin 10248, Z (ix2 r ⟨n.val, by omega⟩) * W (ix2 n q)

theorem upto_all (t : Fin cfg0.N) (r : Fin 1024) (q : Fin 1024) : upto m c t r q 8 = dh (aZ m c) (aW m c) (at' t r) q := by
  unfold upto dh
  rw [Finset.sum_range]
  refine Finset.sum_congr rfl fun n _ => ?_
  unfold term
  exact dif_pos n.isLt

theorem out_eq (t : Fin cfg0.N) (ht : t.val % 8 = 7) (r : Fin 1024) (q : Fin 1024) :
    (outsAt0 m c t.val t.isLt).1 (ix2 r q) = dh (aZ m c) (aW m c) (at' t r) q := by
  rw [← upto_all]
  have e := upto_succ m c t r q
  rw [ht] at e
  rw [← e, outsAt0_C m c t (by omega) (by omega) ht]
  dsimp only
  refine (step_C ..).trans ?_
  congr 1
  refine (acc_eq m c (t.val - 1) _ (by omega) r q).trans ?_
  rw [upto_pre m c ⟨t.val - 1, _⟩ t (by
    show (t.val - 1) / 8 = t.val / 8
    omega), show (t.val - 1) % 8 + 1 = 7 by omega]

def R3 : S4096x1024.Idx → EReal := fun i => dh (aZ m c) (aW m c) (i 0) (i 1)

theorem left3 (t : Fin cfg0.N) (ht : t.val % 8 = 7) (y : S1024x1024.Idx) (i : S4096x1024.Idx) (h0 : (i 0).val = 1024 * (t.val / 8) + (y 0).val)
    (h1 : (i 1).val = (y 1).val) : (outsAt0 m c t.val t.isLt).1 y = R3 m c i := by
  obtain ⟨r, q, rfl⟩ : ∃ r q, y = ix2 (n0 := 1024) (n1 := 1024) r q := ⟨y 0, y 1, eta2 (m := 1024) (n := 1024) y⟩
  have e0 : i 0 = at' t r := Fin.ext h0
  have e1 : i 1 = q := Fin.ext h1
  unfold R3
  rw [e0, e1]
  exact out_eq m c t ht r q

theorem final3 : (dats m 0 c).arrAt 3 cfg0.N = R3 m c := by
  refine (dats m 0 c).arrAt_eq_of_covers 3 _ (by decide +kernel) fun t hf y => ?_
  have ht : t.val % 8 = 7 := (flush0_3 t).mp hf
  blk_simp
  rw [after0_3]
  refine left3 m c t ht _ _ ?_ ?_
  · blk_simp [idx t]; try omega
  · blk_simp [idx t]; try omega

end Cert.H1KernelIdeal.H1Array
end
-- ==== Proof.H1Claim.lean ====
module

public import proofs.«01_k».proof.Defs
public import proofs.«01_k».proof.Proof.H1Array
public import proofs.«01_k».proof.Proof.Gen.H1ReferenceIdeal.Run
public import proofs.«01_k».proof.Proof.Gen.H1ReferenceIdeal.Read

/-! The call over the weights' slabs and `jax.vjp` of the product leave equal arrays. -/

@[expose] public section

noncomputable section

open Idealize.ShloMosaic Idealize.ShloMosaic.TcCoe Idealize.SL.Sem

namespace Cert.H1Claim

open Cert.H1KernelIdeal.H1Array

/-- The reference's run ends with its arguments unchanged and every counter at zero. -/
theorem frame_ref : Cert.quiescent_H1ReferenceIdeal := fun m ρ _ =>
  (θ_run Cert.H1ReferenceIdeal.defs _ _).mono
    (fun r h => ⟨fun c => (h c).2, Idealize.ShloMosaic.sem_eq_zero_of_no_sems (by decide) r.2⟩)
    (Cert.H1ReferenceIdeal.Value.run m ρ)

open Cert.H1ReferenceIdeal.Read

section
open Cert.H1ReferenceIdeal Cert.H1ReferenceIdeal.Gen

/-- The reference's gradient: a sum over the columns of the projection. -/
theorem ref_eq (Z : (⟨2, ![4096, 10368]⟩ : Shape).Idx → EReal) (W : (⟨2, ![10248, 1024]⟩ : Shape).Idx → EReal) (r : Fin 4096) (q : Fin 1024) :
    val_main_v6 (F := Ideal) Z W (ix2 r q) = dh Z W r q := by
  unfold val_main_v6 val_main_v5 val_main_v4 val_main_v1 val_main_v0
  pointwise [dot_S4096x10248_S1024x10248_S4096x1024_1_1_0_0_n_n]
  unfold dh
  rfl
end

/-- From memories agreeing on the arguments, both run and leave equal arrays. -/
theorem algebraic : Cert.algebraic_H1KernelIdeal_H1ReferenceIdeal := by
  intro m g m' g' _ ha
  refine ⟨R3 m, (θ_run Cert.H1KernelIdeal.defs _ _).mono (fun r h c => ⟨(h c).1.trans (final3 m c), (h c).2⟩) (Cert.H1KernelIdeal.Value.run_blocks m g),
    (θ_run Cert.H1ReferenceIdeal.defs _ _).mono (fun r h c => ?_) (Cert.H1ReferenceIdeal.Value.run m' g')⟩
  obtain ⟨h0, hk⟩ := h c
  obtain ⟨a0, a1⟩ := ha c
  refine ⟨h0.trans ?_, hk⟩
  rw [val_main_v6_eq, a0, a1]
  funext i
  obtain ⟨t, q, rfl⟩ : ∃ t q, i = ix2 (n0 := 4096) (n1 := 1024) t q := ⟨i 0, i 1, eta2 (m := 4096) (n := 1024) i⟩
  exact ref_eq (aZ m c) (aW m c) t q

end Cert.H1Claim
end
-- ==== Proof.DyxClaim.lean ====
module

public import proofs.«01_k».proof.Defs
public import proofs.«01_k».proof.Proof.Gen.DyxKernelIdeal.Value
public import proofs.«01_k».proof.Proof.Gen.DyxReferenceIdeal.Run
public import proofs.«01_k».proof.Proof.Gen.DyxReferenceIdeal.Read
public import Idealize.ShloMosaic.Lib.Pipeline.Value
public import Idealize.ShloMosaic.Lib.Pipeline.ValueKit

/-! The gradient of the memory branch's output: the cotangent times the transposed weights, blocks of 1024 rows. -/

@[expose] public section

set_option maxRecDepth 16384

noncomputable section

open Idealize.ShloMosaic Idealize.ShloMosaic.TcCoe Idealize.SL.Sem
open Idealize.ShloMosaic.Pipeline (Dat)

namespace Cert.DyxKernelIdeal.DyxArray

open Cert.DyxKernelIdeal Cert.DyxKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A row of the cotangent against a row of the weights. -/
def prod (A : (⟨2, ![4096, 1024]⟩ : Shape).Idx → EReal) (B : (⟨2, ![1024, 1024]⟩ : Shape).Idx → EReal) (r : Fin 4096) (q : Fin 1024) : EReal :=
  ∑ k : Fin 1024, A (ix2 r k) * B (ix2 q k)

/-- One grid step's block of it. -/
theorem block (x0 : Vec Ideal S1024x1024 .bf16) (x1 : Vec Ideal S1024x1024 .bf16) (r : Fin 1024) (q : Fin 1024) :
    out0_2 (F := Ideal) x0 x1 (ix2 r q) = ∑ k : Fin 1024, x0 (ix2 r k) * x1 (ix2 q k) := by
  unfold out0_2
  rw [View.canon_unit_zero zeros]
  rw [View.ld_unit_zero zeros, View.ld_unit_zero zeros]
  unfold k0_pay1
  pointwise [dot_S1024x1024_S1024x1024_S1024x1024_1_1_0_0_n_n]

variable (m : (ℓ : Loc nD τ sig) → Buf (Elt Ideal) ℓ) (c : Dev nD)

abbrev aA : (⟨2, ![4096, 1024]⟩ : Shape).Idx → EReal := m ((c : Thread nD τ).loc main_arg0)
abbrev aB : (⟨2, ![1024, 1024]⟩ : Shape).Idx → EReal := m ((c : Thread nD τ).loc main_arg1)

theorem idx : ∀ t : Fin cfg0.N, win0_0.index t = ![t.val, 0] ∧ win0_1.index t = ![0, 0] ∧ win0_2.index t = ![t.val, 0] := by
  decide +kernel
theorem ltN (t : Fin cfg0.N) : t.val < 4 := t.isLt

/-- The place of a block's row in the array. -/
def at' (t : Fin cfg0.N) (r : Fin 1024) : Fin 4096 := ⟨1024 * t.val + r.val, by have := ltN t; omega⟩

theorem b0 (t : Fin cfg0.N) (r : Fin 1024) (k : Fin 1024) : iblk m c 0 t (ix2 r k) = aA m c (ix2 (at' t r) k) := by
  unfold aA at'
  blk_ext [iblk, V, idx t]
theorem b1 (t : Fin cfg0.N) (k : Fin 1024) (q : Fin 1024) : iblk m c 1 t (ix2 k q) = aB m c (ix2 k q) := by
  unfold aB
  blk_ext [iblk, V, idx t]

theorem out_eq (t : Fin cfg0.N) (r : Fin 1024) (q : Fin 1024) :
    out0_2 (F := Ideal) (iblk m c 0 t) (iblk m c 1 t) (ix2 r q) = prod (aA m c) (aB m c) (at' t r) q := by
  rw [block]
  unfold prod
  simp only [b0, b1]

/-- What the call leaves. -/
def R2 : (⟨2, ![4096, 1024]⟩ : Shape).Idx → EReal := fun i => prod (aA m c) (aB m c) (i 0) (i 1)

theorem left2 (t : Fin cfg0.N) (y : (⟨2, ![1024, 1024]⟩ : Shape).Idx) (i : (⟨2, ![4096, 1024]⟩ : Shape).Idx) (h0 : (i 0).val = 1024 * t.val + (y 0).val)
    (h1 : (i 1).val = (y 1).val) : out0_2 (F := Ideal) (iblk m c 0 t) (iblk m c 1 t) y = R2 m c i := by
  obtain ⟨r, q, rfl⟩ : ∃ r q, y = ix2 (n0 := 1024) (n1 := 1024) r q := ⟨y 0, y 1, eta2 (m := 1024) (n := 1024) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.DyxKernelIdeal.DyxArray

namespace Cert.DyxClaim

open Cert.DyxKernelIdeal.DyxArray

/-- The reference's run ends with its arguments unchanged and every counter at zero. -/
theorem frame_ref : Cert.quiescent_DyxReferenceIdeal := fun m ρ _ =>
  (θ_run Cert.DyxReferenceIdeal.defs _ _).mono
    (fun r h => ⟨fun c => (h c).2, Idealize.ShloMosaic.sem_eq_zero_of_no_sems (by decide) r.2⟩)
    (Cert.DyxReferenceIdeal.Value.run m ρ)

open Cert.DyxReferenceIdeal.Read

section
open Cert.DyxReferenceIdeal Cert.DyxReferenceIdeal.Gen

/-- The reference's product. -/
theorem ref_eq (A : (⟨2, ![4096, 1024]⟩ : Shape).Idx → EReal) (B : (⟨2, ![1024, 1024]⟩ : Shape).Idx → EReal) (r : Fin 4096) (q : Fin 1024) :
    val_main_v5 (F := Ideal) A B (ix2 r q) = prod A B r q := by
  unfold val_main_v5 val_main_v4 val_main_v3 val_main_v0
  pointwise [dot_S4096x1024_S1024x1024_S4096x1024_1_1_0_0_n_n]
  unfold prod
  rfl
end

/-- From memories agreeing on the arguments, both run and leave equal arrays. -/
theorem algebraic : Cert.algebraic_DyxKernelIdeal_DyxReferenceIdeal := by
  intro m g m' g' _ ha
  refine ⟨R2 m, (θ_run Cert.DyxKernelIdeal.defs _ _).mono (fun r h c => ⟨(h c).1.trans (final2 m c), (h c).2⟩) (Cert.DyxKernelIdeal.Value.run_blocks m g),
    (θ_run Cert.DyxReferenceIdeal.defs _ _).mono (fun r h c => ?_) (Cert.DyxReferenceIdeal.Value.run m' g')⟩
  obtain ⟨h0, hk⟩ := h c
  obtain ⟨a0, a1⟩ := ha c
  refine ⟨h0.trans ?_, hk⟩
  rw [val_main_v5_eq, a0, a1]
  funext i
  obtain ⟨t, q, rfl⟩ : ∃ t q, i = ix2 (n0 := 4096) (n1 := 1024) t q := ⟨i 0, i 1, eta2 (m := 4096) (n := 1024) i⟩
  exact ref_eq (aA m c) (aB m c) t q

end Cert.DyxClaim
end
-- ==== Proof.GoBlock.lean ====
module

public import proofs.«01_k».proof.Proof.Gen.GoKernelIdeal.Value
public import Idealize.ShloMosaic.Lib.Pipeline.Value
public import Idealize.ShloMosaic.Lib.Pipeline.ValueKit

/-! What one grid step of the output projection's weights' gradient adds, and what a pair of steps leaves. -/

@[expose] public section

set_option maxRecDepth 16384

noncomputable section

open Idealize.ShloMosaic Idealize.ShloMosaic.TcCoe Idealize.SL.Sem
open Idealize.ShloMosaic.Pipeline (Dat)

namespace Cert.GoKernelIdeal.GoBlock

open Cert.GoKernelIdeal Cert.GoKernelIdeal.Gen

theorem zeros : (![0, 0] : Fin 2 → Nat) = fun _ => 0 := by
  funext a
  match a with
  | ⟨0, _⟩ => rfl
  | ⟨1, _⟩ => rfl

/-- One step's product: a sum over the block's tokens. -/
def pd (x0 : S2048x512.Idx → EReal) (x1 : S2048x1024.Idx → EReal) (r : Fin 512) (q : Fin 1024) : EReal :=
  ∑ s : Fin 2048, x0 (ix2 s r) * x1 (ix2 s q)

section
variable (x0 : Vec Ideal S2048x512 .bf16) (x1 : Vec Ideal S2048x1024 .bf16) (r : Fin 512) (q : Fin 1024)

theorem p1 : k0_pay1 (F := Ideal) x0 x1 (ix2 r q) = pd x0 x1 r q := by
  unfold k0_pay1
  pointwise [dot_S2048x512_S2048x1024_S512x1024_0_0_1_1_n_n]
  rfl
theorem p2 : k0_pay2 (F := Ideal) x0 x1 (ix2 r q) = pd x0 x1 r q := by
  unfold k0_pay2
  pointwise
  exact p1 x0 x1 r q
theorem p3 (a : Vec Ideal S512x1024 .f32) : k0_pay3 (F := Ideal) x0 x1 a (ix2 r q) = a (ix2 r q) + pd x0 x1 r q := by
  unfold k0_pay3
  pointwise
  rw [p1]
theorem p4 (a : Vec Ideal S512x1024 .f32) : k0_pay4 (F := Ideal) a (ix2 r q) = a (ix2 r q) := by
  unfold k0_pay4
  pointwise

variable (c : Dev nD) (i : grid0.Coords) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole)

theorem step_A (hc0 : cond0_0 i) (hc1 : ¬cond0_1 i) (hc2 : ¬cond0_2 i) :
    sout0_A_0 (F := Ideal) c i arg3 harg3 arg4 harg4 arg5 harg5 arg6 harg6 hc0 hc1 hc2 x0 x1 (ix2 r q) = pd x0 x1 r q := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread]
  rw [View.canon_unit_zero zeros, View.ld_unit_zero zeros, View.ld_unit_zero zeros]
  exact p2 x0 x1 r q

theorem step_B (hc0 : ¬cond0_0 i) (hc1 : cond0_1 i) (hc2 : cond0_2 i) (a : Vec Ideal S512x1024 .f32) :
    out0_B_2 (F := Ideal) c i arg3 harg3 arg4 harg4 arg5 harg5 arg6 harg6 hc0 hc1 hc2 x0 x1 a (ix2 r q) = a (ix2 r q) + pd x0 x1 r q := by
  unfold out0_B_2
  rw [View.read_writes_eq_canon _ _ _ (cover0_B_2 c i arg3 harg3 arg4 harg4 arg5 harg5 arg6 harg6 hc0 hc1 hc2 x0 x1 a)]
  unfold kernelRun0_B
  dsimp only
  sl_unfold_words
  simp only [View.readAt_eq_ld, harg3.read_unread, harg4.read_unread, harg6.read_unread]
  rw [View.canon_unit_zero zeros]
  rw [p4]
  simp only [View.readCov_cons_toLoadRect]
  rw [View.ld_unit_zero zeros, View.ld_unit_zero zeros, View.ld_unit_zero zeros]
  exact p3 x0 x1 r q a
end

end Cert.GoKernelIdeal.GoBlock
end
-- ==== Proof.GoArray.lean ====
module

public import proofs.«01_k».proof.Proof.GoBlock

/-! The array the output projection's weights' gradient call leaves, over its arguments. -/

@[expose] public section

set_option maxRecDepth 16384

noncomputable section

open Idealize.ShloMosaic Idealize.ShloMosaic.TcCoe Idealize.SL.Sem
open Idealize.ShloMosaic.Pipeline (Dat)

namespace Cert.GoKernelIdeal.GoArray

open Cert.GoKernelIdeal Cert.GoKernelIdeal.Gen
open GoBlock

theorem eta2 {m n : ℕ} (y : (⟨2, ![m, n]⟩ : Shape).Idx) : y = ix2 (y 0) (y 1) := by
  funext a
  match a with
  | ⟨0, _⟩ => rfl
  | ⟨1, _⟩ => rfl

/-- The product over every token. -/
def go (A : (⟨2, ![4096, 1024]⟩ : Shape).Idx → EReal) (Y : (⟨2, ![4096, 1024]⟩ : Shape).Idx → EReal) (f : Fin 1024) (k : Fin 1024) : EReal :=
  ∑ t : Fin 4096, A (ix2 t f) * Y (ix2 t k)

theorem sum_halves (f : Fin 4096 → EReal) :
    ∑ s : Fin 4096, f s = ∑ r : Fin 2048, f ⟨r.val, by omega⟩ + ∑ r : Fin 2048, f ⟨2048 + r.val, by omega⟩ :=
  Fin.sum_univ_add (a := 2048) (b := 2048) f

variable (m : (ℓ : Loc nD τ sig) → Buf (Elt Ideal) ℓ) (c : Dev nD)

abbrev aA : (⟨2, ![4096, 1024]⟩ : Shape).Idx → EReal := m ((c : Thread nD τ).loc main_arg0)
abbrev aY : (⟨2, ![4096, 1024]⟩ : Shape).Idx → EReal := m ((c : Thread nD τ).loc main_arg1)

theorem idx : ∀ t : Fin cfg0.N, win0_0.index t = ![t.val % 2, t.val / 2] ∧ win0_1.index t = ![t.val % 2, 0] ∧ win0_2.index t = ![t.val / 2, 0] := by
  decide +kernel
theorem lt4 (t : Fin cfg0.N) : t.val < 4 := t.isLt

/-- The column of a step's block's column. -/
def cl (t : Fin cfg0.N) (r : Fin 512) : Fin 1024 := ⟨512 * (t.val / 2) + r.val, by have := lt4 t; omega⟩
def tk (t : Fin cfg0.N) (s : Fin 2048) : Fin 4096 := ⟨2048 * (t.val % 2) + s.val, by omega⟩

theorem b0 (t : Fin cfg0.N) (s : Fin 2048) (r : Fin 512) : iblk m c 0 t (ix2 s r) = aA m c (ix2 (tk t s) (cl t r)) := by
  unfold aA tk cl
  blk_ext [iblk, V, idx t]
theorem b1 (t : Fin cfg0.N) (s : Fin 2048) (q : Fin 1024) : iblk m c 1 t (ix2 s q) = aY m c (ix2 (tk t s) q) := by
  unfold aY tk
  blk_ext [iblk, V, idx t]

theorem pd_blk (t : Fin cfg0.N) (r : Fin 512) (q : Fin 1024) :
    pd (iblk m c 0 t) (iblk m c 1 t) r q = ∑ s : Fin 2048, aA m c (ix2 (tk t s) (cl t r)) * aY m c (ix2 (tk t s) q) := by
  unfold pd
  simp only [b0, b1]

/-- What the even step before leaves for the odd one. -/
theorem acc_eq (u : Fin cfg0.N) (hu : u.val % 2 = 0) (r : Fin 512) (q : Fin 1024) :
    (outsAt0 m c u.val u.isLt).2 (ix2 r q) = pd (iblk m c 0 u) (iblk m c 1 u) r q := by
  rw [outsAt0_A m c u hu (by omega) (by omega)]
  dsimp only
  exact step_A ..

/-- The step before. -/
def pre (t : Fin cfg0.N) : Fin cfg0.N := ⟨t.val - 1, Nat.lt_of_le_of_lt (Nat.sub_le _ _) t.isLt⟩

theorem out_eq (t : Fin cfg0.N) (ht : t.val % 2 = 1) (r : Fin 512) (q : Fin 1024) :
    (outsAt0 m c t.val t.isLt).1 (ix2 r q) = go (aA m c) (aY m c) (cl t r) q := by
  have hl := lt4 t
  have hu : (pre t).val % 2 = 0 := by
    show (t.val - 1) % 2 = 0
    omega
  have h : (outsAt0 m c t.val t.isLt).1 (ix2 r q) = (outsAt0 m c (pre t).val (pre t).isLt).2 (ix2 r q) + pd (iblk m c 0 t) (iblk m c 1 t) r q := by
    rw [outsAt0_B m c t (by omega) ht ht]
    dsimp only
    exact step_B ..
  rw [h, acc_eq m c (pre t) hu, pd_blk, pd_blk]
  unfold go
  rw [sum_halves]
  congr 1
  · refine Finset.sum_congr rfl fun s _ => ?_
    have e : tk (pre t) s = ⟨s.val, by omega⟩ := Fin.ext (by
      show 2048 * ((t.val - 1) % 2) + s.val = s.val
      omega)
    have e' : cl (pre t) r = cl t r := Fin.ext (by
      show 512 * ((t.val - 1) / 2) + r.val = 512 * (t.val / 2) + r.val
      omega)
    rw [e, e']
  · refine Finset.sum_congr rfl fun s _ => ?_
    have e : tk t s = ⟨2048 + s.val, by omega⟩ := Fin.ext (by
      show 2048 * (t.val % 2) + s.val = 2048 + s.val
      omega)
    rw [e]

def R2 : S1024x1024.Idx → EReal := fun i => go (aA m c) (aY m c) (i 0) (i 1)

theorem left2 (t : Fin cfg0.N) (ht : t.val % 2 = 1) (y : S512x1024.Idx) (i : S1024x1024.Idx) (h0 : (i 0).val = 512 * (t.val / 2) + (y 0).val)
    (h1 : (i 1).val = (y 1).val) : (outsAt0 m c t.val t.isLt).1 y = R2 m c i := by
  obtain ⟨r, q, rfl⟩ : ∃ r q, y = ix2 (n0 := 512) (n1 := 1024) r q := ⟨y 0, y 1, eta2 (m := 512) (n := 1024) y⟩
  have e0 : i 0 = cl t r := Fin.ext h0
  have e1 : i 1 = q := Fin.ext h1
  unfold R2
  rw [e0, e1]
  exact out_eq m c t ht r q

theorem final2 : (dats m 0 c).arrAt 2 cfg0.N = R2 m c := by
  refine (dats m 0 c).arrAt_eq_of_covers 2 _ (by decide +kernel) fun t hf y => ?_
  have ht : t.val % 2 = 1 := (flush0_2 t).mp hf
  blk_simp
  rw [after0_2]
  refine left2 m c t ht _ _ ?_ ?_
  · blk_simp [idx t]; try omega
  · blk_simp [idx t]; try omega

end Cert.GoKernelIdeal.GoArray
end
-- ==== Proof.GoClaim.lean ====
module

public import proofs.«01_k».proof.Defs
public import proofs.«01_k».proof.Proof.GoArray
public import proofs.«01_k».proof.Proof.Gen.GoReferenceIdeal.Run
public import proofs.«01_k».proof.Proof.Gen.GoReferenceIdeal.Read

/-! The output projection's weights' gradient call and `jax.vjp` of the product leave equal arrays. -/

@[expose] public section

noncomputable section

open Idealize.ShloMosaic Idealize.ShloMosaic.TcCoe Idealize.SL.Sem

namespace Cert.GoClaim

open Cert.GoKernelIdeal.GoArray

/-- The reference's run ends with its arguments unchanged and every counter at zero. -/
theorem frame_ref : Cert.quiescent_GoReferenceIdeal := fun m ρ _ =>
  (θ_run Cert.GoReferenceIdeal.defs _ _).mono
    (fun r h => ⟨fun c => (h c).2, Idealize.ShloMosaic.sem_eq_zero_of_no_sems (by decide) r.2⟩)
    (Cert.GoReferenceIdeal.Value.run m ρ)

open Cert.GoReferenceIdeal.Read

section
open Cert.GoReferenceIdeal Cert.GoReferenceIdeal.Gen

/-- The reference's weights' gradient: a sum over the tokens. -/
theorem ref_eq (A : (⟨2, ![4096, 1024]⟩ : Shape).Idx → EReal) (Y : (⟨2, ![4096, 1024]⟩ : Shape).Idx → EReal) (f : Fin 1024) (k : Fin 1024) :
    val_main_v6 (F := Ideal) A Y (ix2 f k) = go A Y f k := by
  unfold val_main_v6 val_main_v5 val_main_v4 val_main_v3 val_main_v0
  pointwise [dot_S4096x1024_S4096x1024_S1024x1024_0_0_1_1_n_n]
  unfold go
  exact Finset.sum_congr rfl fun t _ => mul_comm _ _
end

/-- From memories agreeing on the arguments, both run and leave equal arrays. -/
theorem algebraic : Cert.algebraic_GoKernelIdeal_GoReferenceIdeal := by
  intro m g m' g' _ ha
  refine ⟨R2 m, (θ_run Cert.GoKernelIdeal.defs _ _).mono (fun r h c => ⟨(h c).1.trans (final2 m c), (h c).2⟩) (Cert.GoKernelIdeal.Value.run_blocks m g),
    (θ_run Cert.GoReferenceIdeal.defs _ _).mono (fun r h c => ?_) (Cert.GoReferenceIdeal.Value.run m' g')⟩
  obtain ⟨h0, hk⟩ := h c
  obtain ⟨a0, a1⟩ := ha c
  refine ⟨h0.trans ?_, hk⟩
  rw [val_main_v6_eq, a0, a1]
  funext i
  obtain ⟨t, q, rfl⟩ : ∃ t q, i = ix2 (n0 := 1024) (n1 := 1024) t q := ⟨i 0, i 1, eta2 (m := 1024) (n := 1024) i⟩
  exact ref_eq (aA m c) (aY m c) t q

end Cert.GoClaim
end
-- ==== Proof.X1Claim.lean ====
module

public import proofs.«01_k».proof.Defs
public import proofs.«01_k».proof.Proof.Gen.X1KernelIdeal.Value
public import proofs.«01_k».proof.Proof.Gen.X1ReferenceIdeal.Run
public import proofs.«01_k».proof.Proof.Gen.X1ReferenceIdeal.Read
public import Idealize.ShloMosaic.Lib.Pipeline.Value
public import Idealize.ShloMosaic.Lib.Pipeline.ValueKit

/-! The output projection: the merged branches times the weights, plus the residual, blocks of 1024 rows. -/

@[expose] public section

set_option maxRecDepth 16384

noncomputable section

open Idealize.ShloMosaic Idealize.ShloMosaic.TcCoe Idealize.SL.Sem
open Idealize.ShloMosaic.Pipeline (Dat)

namespace Cert.X1KernelIdeal.X1Array

open Cert.X1KernelIdeal Cert.X1KernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- The residual plus a row of the merged branches against a column of the weights. -/
def prod (A : (⟨2, ![4096, 1024]⟩ : Shape).Idx → EReal) (B : (⟨2, ![1024, 1024]⟩ : Shape).Idx → EReal) (X : (⟨2, ![4096, 1024]⟩ : Shape).Idx → EReal) (r : Fin 4096) (q : Fin 1024) : EReal :=
  X (ix2 r q) + ∑ k : Fin 1024, A (ix2 r k) * B (ix2 k q)

/-- One grid step's block of it. -/
theorem block (x0 : Vec Ideal S1024x1024 .bf16) (x1 : Vec Ideal S1024x1024 .bf16) (x2 : Vec Ideal S1024x1024 .f32) (r : Fin 1024) (q : Fin 1024) :
    out0_3 (F := Ideal) x0 x1 x2 (ix2 r q) = x2 (ix2 r q) + ∑ k : Fin 1024, x0 (ix2 r k) * x1 (ix2 k q) := by
  unfold out0_3
  rw [View.canon_unit_zero zeros]
  rw [View.ld_unit_zero zeros, View.ld_unit_zero zeros, View.ld_unit_zero zeros]
  unfold k0_pay1
  pointwise [dot_S1024x1024_S1024x1024_S1024x1024_1_0_0_1_n_n]
  exact add_comm _ _

variable (m : (ℓ : Loc nD τ sig) → Buf (Elt Ideal) ℓ) (c : Dev nD)

abbrev aA : (⟨2, ![4096, 1024]⟩ : Shape).Idx → EReal := m ((c : Thread nD τ).loc main_arg0)
abbrev aB : (⟨2, ![1024, 1024]⟩ : Shape).Idx → EReal := m ((c : Thread nD τ).loc main_arg1)
abbrev aX : (⟨2, ![4096, 1024]⟩ : Shape).Idx → EReal := m ((c : Thread nD τ).loc main_arg2)

theorem idx : ∀ t : Fin cfg0.N, win0_0.index t = ![t.val, 0] ∧ win0_1.index t = ![0, 0] ∧ win0_2.index t = ![t.val, 0] ∧ win0_3.index t = ![t.val, 0] := by
  decide +kernel
theorem ltN (t : Fin cfg0.N) : t.val < 4 := t.isLt

/-- The place of a block's row in the array. -/
def at' (t : Fin cfg0.N) (r : Fin 1024) : Fin 4096 := ⟨1024 * t.val + r.val, by have := ltN t; omega⟩

theorem b0 (t : Fin cfg0.N) (r : Fin 1024) (k : Fin 1024) : iblk m c 0 t (ix2 r k) = aA m c (ix2 (at' t r) k) := by
  unfold aA at'
  blk_ext [iblk, V, idx t]
theorem b1 (t : Fin cfg0.N) (k : Fin 1024) (q : Fin 1024) : iblk m c 1 t (ix2 k q) = aB m c (ix2 k q) := by
  unfold aB
  blk_ext [iblk, V, idx t]

theorem b2 (t : Fin cfg0.N) (r : Fin 1024) (k : Fin 1024) : iblk m c 2 t (ix2 r k) = aX m c (ix2 (at' t r) k) := by
  unfold aX at'
  blk_ext [iblk, V, idx t]

theorem out_eq (t : Fin cfg0.N) (r : Fin 1024) (q : Fin 1024) :
    out0_3 (F := Ideal) (iblk m c 0 t) (iblk m c 1 t) (iblk m c 2 t) (ix2 r q) = prod (aA m c) (aB m c) (aX m c) (at' t r) q := by
  rw [block]
  unfold prod
  simp only [b0, b1, b2]

/-- What the call leaves. -/
def R3 : (⟨2, ![4096, 1024]⟩ : Shape).Idx → EReal := fun i => prod (aA m c) (aB m c) (aX m c) (i 0) (i 1)

theorem left3 (t : Fin cfg0.N) (y : (⟨2, ![1024, 1024]⟩ : Shape).Idx) (i : (⟨2, ![4096, 1024]⟩ : Shape).Idx) (h0 : (i 0).val = 1024 * t.val + (y 0).val)
    (h1 : (i 1).val = (y 1).val) : out0_3 (F := Ideal) (iblk m c 0 t) (iblk m c 1 t) (iblk m c 2 t) y = R3 m c i := by
  obtain ⟨r, q, rfl⟩ : ∃ r q, y = ix2 (n0 := 1024) (n1 := 1024) r q := ⟨y 0, y 1, eta2 (m := 1024) (n := 1024) y⟩
  have e0 : i 0 = at' t r := Fin.ext h0
  have e1 : i 1 = q := Fin.ext h1
  unfold R3
  rw [e0, e1]
  exact out_eq m c t r q

theorem final3 : (dats m 0 c).arrAt 3 cfg0.N = R3 m c := by
  refine (dats m 0 c).arrAt_eq_of_covers 3 _ (by decide +kernel) fun t hf y => ?_
  blk_simp
  rw [after0_3]
  refine left3 m c t _ _ ?_ ?_
  · blk_simp [idx t]; try omega
  · blk_simp [idx t]; try omega

end Cert.X1KernelIdeal.X1Array

namespace Cert.X1Claim

open Cert.X1KernelIdeal.X1Array

/-- The reference's run ends with its arguments unchanged and every counter at zero. -/
theorem frame_ref : Cert.quiescent_X1ReferenceIdeal := fun m ρ _ =>
  (θ_run Cert.X1ReferenceIdeal.defs _ _).mono
    (fun r h => ⟨fun c => (h c).2, Idealize.ShloMosaic.sem_eq_zero_of_no_sems (by decide) r.2⟩)
    (Cert.X1ReferenceIdeal.Value.run m ρ)

open Cert.X1ReferenceIdeal.Read

section
open Cert.X1ReferenceIdeal Cert.X1ReferenceIdeal.Gen

/-- The reference's sum. -/
theorem ref_eq (A : (⟨2, ![4096, 1024]⟩ : Shape).Idx → EReal) (B : (⟨2, ![1024, 1024]⟩ : Shape).Idx → EReal) (X : (⟨2, ![4096, 1024]⟩ : Shape).Idx → EReal) (r : Fin 4096) (q : Fin 1024) :
    val_main_v3 (F := Ideal) A B X (ix2 r q) = prod A B X r q := by
  unfold val_main_v3 val_main_v2 val_main_v1 val_main_v0
  pointwise [dot_S4096x1024_S1024x1024_S4096x1024_1_0_0_1_n_n]
  unfold prod
  rfl
end

/-- From memories agreeing on the arguments, both run and leave equal arrays. -/
theorem algebraic : Cert.algebraic_X1KernelIdeal_X1ReferenceIdeal := by
  intro m g m' g' _ ha
  refine ⟨R3 m, (θ_run Cert.X1KernelIdeal.defs _ _).mono (fun r h c => ⟨(h c).1.trans (final3 m c), (h c).2⟩) (Cert.X1KernelIdeal.Value.run_blocks m g),
    (θ_run Cert.X1ReferenceIdeal.defs _ _).mono (fun r h c => ?_) (Cert.X1ReferenceIdeal.Value.run m' g')⟩
  obtain ⟨h0, hk⟩ := h c
  obtain ⟨a0, a1, a2⟩ := ha c
  refine ⟨h0.trans ?_, hk⟩
  rw [val_main_v3_eq, a0, a1, a2]
  funext i
  obtain ⟨t, q, rfl⟩ : ∃ t q, i = ix2 (n0 := 4096) (n1 := 1024) t q := ⟨i 0, i 1, eta2 (m := 4096) (n := 1024) i⟩
  exact ref_eq (aA m c) (aB m c) (aX m c) t q

end Cert.X1Claim
end
-- ==== Proof.MergeArray.lean ====
module

public import proofs.«01_k».proof.Proof.XaAlg
public import proofs.«01_k».proof.Proof.Gen.MergeKernelIdeal.Value
public import Idealize.ShloMosaic.Lib.Pipeline.Value
public import Idealize.ShloMosaic.Lib.Pipeline.ValueKit

/-! The gated merge of the branches' projections, blocks of 1024 rows and 512 columns. -/

@[expose] public section

set_option maxRecDepth 16384

noncomputable section

open Idealize.ShloMosaic Idealize.ShloMosaic.TcCoe Idealize.SL.Sem
open Idealize.ShloMosaic.Pipeline (Dat)

namespace Cert.MergeKernelIdeal.MergeArray

open Cert.MergeKernelIdeal Cert.MergeKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- The sigmoid. -/
def sg (x : EReal) : EReal := Ideal.div 1 (1 + Ideal.exp (-x))

/-- A branch's row against a column of its weights. -/
def pj {a b : ℕ} (Y : (⟨2, ![a, 1024]⟩ : Shape).Idx → EReal) (W : (⟨2, ![1024, b]⟩ : Shape).Idx → EReal) (r : Fin a) (q : Fin b) : EReal :=
  ∑ k : Fin 1024, Y (ix2 r k) * W (ix2 k q)

section
variable (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S1024x512 .bf16) (x6 : Vec Ideal S1024x512 .bf16) (x7 : Vec Ideal S1024x512 .bf16) (x8 : Vec Ideal S1024x512 .bf16) (r : Fin 1024) (q : Fin 512)

theorem p1 : k0_pay1 (F := Ideal) x2 x5 (ix2 r q) = pj x2 x5 r q := by
  unfold k0_pay1
  pointwise [dot_S1024x1024_S1024x512_S1024x512_1_0_0_1_n_n]
  rfl
theorem p7 : k0_pay7 (F := Ideal) x1 x4 (ix2 r q) = pj x1 x4 r q := by
  unfold k0_pay7
  pointwise [dot_S1024x1024_S1024x512_S1024x512_1_0_0_1_n_n]
  rfl
theorem p4 : k0_pay4 (F := Ideal) x0 x3 (ix2 r q) = pj x0 x3 r q := by
  unfold k0_pay4
  pointwise [dot_S1024x1024_S1024x512_S1024x512_1_0_0_1_n_n]
  rfl

/-- One grid step's block. -/
theorem block : out0_9 (F := Ideal) x0 x1 x2 x3 x4 x5 x6 x7 x8 (ix2 r q)
    = sg (x6 (ix2 r q)) * pj x0 x3 r q + sg (x7 (ix2 r q)) * pj x1 x4 r q + sg (x8 (ix2 r q)) * pj x2 x5 r q := by
  unfold out0_9
  rw [View.canon_unit_zero zeros]
  repeat rw [View.ld_unit_zero zeros]
  unfold k0_pay3 k0_pay6 k0_pay9
  pointwise
  rw [p1, p4, p7]
  unfold sg
  simp only [zero_sub]

theorem p5 : k0_pay5 (F := Ideal) x0 x3 (ix3 0 r q) = pj x0 x3 r q := by
  unfold k0_pay5
  pointwise
  exact p4 x0 x3 r q
theorem p8 : k0_pay8 (F := Ideal) x1 x4 (ix3 0 r q) = pj x1 x4 r q := by
  unfold k0_pay8
  pointwise
  exact p7 x1 x4 r q
theorem p2 : k0_pay2 (F := Ideal) x2 x5 (ix3 0 r q) = pj x2 x5 r q := by
  unfold k0_pay2
  pointwise
  exact p1 x2 x5 r q

/-- The step's block of the products, kept for the backward pass. -/
theorem block' (s : Fin 3) : out0_10 (F := Ideal) x0 x1 x2 x3 x4 x5 x6 x7 x8 (ix3 s r q) = ![pj x0 x3 r q, pj x1 x4 r q, pj x2 x5 r q] s := by
  unfold out0_10
  repeat rw [View.ld_unit_zero zeros]
  canon_tiles x h
  · have hs : s = 2 := Fin.ext (by have e : s.val = 2 + (x 0).val := h0; show s.val = 2; omega)
    have hx : x = ix3 0 r q := by
      funext a
      match a with
      | ⟨0, _⟩ => exact Fin.ext (by show (x 0).val = 0; omega)
      | ⟨1, _⟩ => exact Fin.ext h1.symm
      | ⟨2, _⟩ => exact Fin.ext h2.symm
    rw [hs, hx]
    exact p2 ..
  · have hs : s = 1 := Fin.ext (by have e : s.val = 1 + (x 0).val := h0; show s.val = 1; omega)
    have hx : x = ix3 0 r q := by
      funext a
      match a with
      | ⟨0, _⟩ => exact Fin.ext (by show (x 0).val = 0; omega)
      | ⟨1, _⟩ => exact Fin.ext h1.symm
      | ⟨2, _⟩ => exact Fin.ext h2.symm
    rw [hs, hx]
    exact p8 ..
  · have hs : s = 0 := Fin.ext (by have e : s.val = (x 0).val := h0; show s.val = 0; omega)
    have hx : x = ix3 0 r q := by
      funext a
      match a with
      | ⟨0, _⟩ => exact Fin.ext (by show (x 0).val = 0; omega)
      | ⟨1, _⟩ => exact Fin.ext h1.symm
      | ⟨2, _⟩ => exact Fin.ext h2.symm
    rw [hs, hx]
    exact p5 ..
end

variable (m : (ℓ : Loc nD τ sig) → Buf (Elt Ideal) ℓ) (c : Dev nD)

abbrev aZ : (⟨2, ![4096, 10240]⟩ : Shape).Idx → EReal := m ((c : Thread nD τ).loc main_arg0)
abbrev aA : (⟨2, ![4096, 1024]⟩ : Shape).Idx → EReal := m ((c : Thread nD τ).loc main_arg1)
abbrev aB : (⟨2, ![4096, 1024]⟩ : Shape).Idx → EReal := m ((c : Thread nD τ).loc main_arg2)
abbrev aC : (⟨2, ![4096, 1024]⟩ : Shape).Idx → EReal := m ((c : Thread nD τ).loc main_arg3)
abbrev wA : (⟨2, ![1024, 1024]⟩ : Shape).Idx → EReal := m ((c : Thread nD τ).loc main_arg4)
abbrev wB : (⟨2, ![1024, 1024]⟩ : Shape).Idx → EReal := m ((c : Thread nD τ).loc main_arg5)
abbrev wC : (⟨2, ![1024, 1024]⟩ : Shape).Idx → EReal := m ((c : Thread nD τ).loc main_arg6)

theorem idx : ∀ t : Fin cfg0.N, win0_0.index t = ![t.val / 2, 0] ∧ win0_1.index t = ![t.val / 2, 0] ∧ win0_2.index t = ![t.val / 2, 0]
    ∧ win0_3.index t = ![0, t.val % 2] ∧ win0_4.index t = ![0, t.val % 2] ∧ win0_5.index t = ![0, t.val % 2]
    ∧ win0_6.index t = ![t.val / 2, 14 + t.val % 2] ∧ win0_7.index t = ![t.val / 2, 16 + t.val % 2] ∧ win0_8.index t = ![t.val / 2, 18 + t.val % 2]
    ∧ win0_9.index t = ![t.val / 2, t.val % 2] ∧ win0_10.index t = ![0, t.val / 2, t.val % 2] := by
  decide +kernel
theorem ltN (t : Fin cfg0.N) : t.val < 8 := t.isLt

/-- The place of a block's row in the array, of its column, and of the gates' columns. -/
def tk (t : Fin cfg0.N) (r : Fin 1024) : Fin 4096 := ⟨1024 * (t.val / 2) + r.val, by have := ltN t; omega⟩
def cl (t : Fin cfg0.N) (q : Fin 512) : Fin 1024 := ⟨512 * (t.val % 2) + q.val, by omega⟩
def gt (s : Fin 3) (q : Fin 1024) : Fin 10240 := ⟨(7 + s.val) * 1024 + q.val, by omega⟩

section
variable (t : Fin cfg0.N) (r : Fin 1024) (k : Fin 1024) (q : Fin 512)
theorem b0 : iblk m c 0 t (ix2 r k) = aA m c (ix2 (tk t r) k) := by
  unfold aA tk
  blk_ext [iblk, V, idx t]
theorem b1 : iblk m c 1 t (ix2 r k) = aB m c (ix2 (tk t r) k) := by
  unfold aB tk
  blk_ext [iblk, V, idx t]
theorem b2 : iblk m c 2 t (ix2 r k) = aC m c (ix2 (tk t r) k) := by
  unfold aC tk
  blk_ext [iblk, V, idx t]
theorem b3 : iblk m c 3 t (ix2 k q) = wA m c (ix2 k (cl t q)) := by
  unfold wA cl
  blk_ext [iblk, V, idx t]
theorem b4 : iblk m c 4 t (ix2 k q) = wB m c (ix2 k (cl t q)) := by
  unfold wB cl
  blk_ext [iblk, V, idx t]
theorem b5 : iblk m c 5 t (ix2 k q) = wC m c (ix2 k (cl t q)) := by
  unfold wC cl
  blk_ext [iblk, V, idx t]
theorem b6 : iblk m c 6 t (ix2 r q) = aZ m c (ix2 (tk t r) (gt 0 (cl t q))) := by
  unfold aZ tk gt cl
  blk_ext [iblk, V, idx t]
theorem b7 : iblk m c 7 t (ix2 r q) = aZ m c (ix2 (tk t r) (gt 1 (cl t q))) := by
  unfold aZ tk gt cl
  blk_ext [iblk, V, idx t]
theorem b8 : iblk m c 8 t (ix2 r q) = aZ m c (ix2 (tk t r) (gt 2 (cl t q))) := by
  unfold aZ tk gt cl
  blk_ext [iblk, V, idx t]

theorem pjA : pj (iblk m c 0 t) (iblk m c 3 t) r q = pj (aA m c) (wA m c) (tk t r) (cl t q) := by
  unfold pj
  exact Finset.sum_congr rfl fun k _ => congrArg₂ (· * ·) (b0 m c t r k) (b3 m c t k q)
theorem pjB : pj (iblk m c 1 t) (iblk m c 4 t) r q = pj (aB m c) (wB m c) (tk t r) (cl t q) := by
  unfold pj
  exact Finset.sum_congr rfl fun k _ => congrArg₂ (· * ·) (b1 m c t r k) (b4 m c t k q)
theorem pjC : pj (iblk m c 2 t) (iblk m c 5 t) r q = pj (aC m c) (wC m c) (tk t r) (cl t q) := by
  unfold pj
  exact Finset.sum_congr rfl fun k _ => congrArg₂ (· * ·) (b2 m c t r k) (b5 m c t k q)
end

/-- The gated sum at one place. -/
def mg (Z : (⟨2, ![4096, 10240]⟩ : Shape).Idx → EReal) (A B C : (⟨2, ![4096, 1024]⟩ : Shape).Idx → EReal) (U V W : (⟨2, ![1024, 1024]⟩ : Shape).Idx → EReal) (r : Fin 4096) (q : Fin 1024) : EReal :=
  sg (Z (ix2 r (gt 0 q))) * pj A U r q + sg (Z (ix2 r (gt 1 q))) * pj B V r q + sg (Z (ix2 r (gt 2 q))) * pj C W r q

/-- What the call leaves: the merged branches, and the three products. -/
def R9 : (⟨2, ![4096, 1024]⟩ : Shape).Idx → EReal := fun i => mg (aZ m c) (aA m c) (aB m c) (aC m c) (wA m c) (wB m c) (wC m c) (i 0) (i 1)
def R10 : (⟨3, ![3, 4096, 1024]⟩ : Shape).Idx → EReal := fun i =>
  ![pj (aA m c) (wA m c) (i 1) (i 2), pj (aB m c) (wB m c) (i 1) (i 2), pj (aC m c) (wC m c) (i 1) (i 2)] (i 0)

abbrev o9 (t : Fin cfg0.N) := out0_9 (F := Ideal) (iblk m c 0 t) (iblk m c 1 t) (iblk m c 2 t) (iblk m c 3 t) (iblk m c 4 t) (iblk m c 5 t) (iblk m c 6 t) (iblk m c 7 t) (iblk m c 8 t)
abbrev o10 (t : Fin cfg0.N) := out0_10 (F := Ideal) (iblk m c 0 t) (iblk m c 1 t) (iblk m c 2 t) (iblk m c 3 t) (iblk m c 4 t) (iblk m c 5 t) (iblk m c 6 t) (iblk m c 7 t) (iblk m c 8 t)

theorem left9 (t : Fin cfg0.N) (y : (⟨2, ![1024, 512]⟩ : Shape).Idx) (i : (⟨2, ![4096, 1024]⟩ : Shape).Idx) (h0 : (i 0).val = 1024 * (t.val / 2) + (y 0).val)
    (h1 : (i 1).val = 512 * (t.val % 2) + (y 1).val) : o9 m c t y = R9 m c i := by
  obtain ⟨r, q, rfl⟩ : ∃ r q, y = ix2 (n0 := 1024) (n1 := 512) r q := ⟨y 0, y 1, eta2 (m := 1024) (n := 512) y⟩
  have e0 : i 0 = tk t r := Fin.ext h0
  have e1 : i 1 = cl t q := Fin.ext h1
  unfold R9 mg
  rw [e0, e1]
  refine (block ..).trans ?_
  rw [pjA, pjB, pjC, b6, b7, b8]

theorem eta3 {l m n : ℕ} (y : (⟨3, ![l, m, n]⟩ : Shape).Idx) : y = ix3 (y 0) (y 1) (y 2) := by
  funext a
  match a with
  | ⟨0, _⟩ => rfl
  | ⟨1, _⟩ => rfl
  | ⟨2, _⟩ => rfl

theorem left10 (t : Fin cfg0.N) (y : (⟨3, ![3, 1024, 512]⟩ : Shape).Idx) (i : (⟨3, ![3, 4096, 1024]⟩ : Shape).Idx) (h0 : (i 0).val = (y 0).val)
    (h1 : (i 1).val = 1024 * (t.val / 2) + (y 1).val) (h2 : (i 2).val = 512 * (t.val % 2) + (y 2).val) : o10 m c t y = R10 m c i := by
  obtain ⟨s, r, q, rfl⟩ : ∃ s r q, y = ix3 (n0 := 3) (n1 := 1024) (n2 := 512) s r q := ⟨y 0, y 1, y 2, eta3 (l := 3) (m := 1024) (n := 512) y⟩
  have e0 : i 0 = s := Fin.ext h0
  have e1 : i 1 = tk t r := Fin.ext h1
  have e2 : i 2 = cl t q := Fin.ext h2
  unfold R10
  rw [e0, e1, e2]
  refine (block' ..).trans ?_
  rw [pjA, pjB, pjC]

theorem final9 : (dats m 0 c).arrAt 9 cfg0.N = R9 m c := by
  refine (dats m 0 c).arrAt_eq_of_covers 9 _ (by decide +kernel) fun t hf y => ?_
  blk_simp
  rw [after0_9]
  refine left9 m c t _ _ ?_ ?_
  · blk_simp [idx t]; try omega
  · blk_simp [idx t]; try omega

theorem final10 : (dats m 0 c).arrAt 10 cfg0.N = R10 m c := by
  refine (dats m 0 c).arrAt_eq_of_covers 10 _ (by decide +kernel) fun t hf y => ?_
  blk_simp
  rw [after0_10]
  refine left10 m c t _ _ ?_ ?_ ?_
  · blk_simp [idx t]; try omega
  · blk_simp [idx t]; try omega
  · blk_simp [idx t]; try omega

end Cert.MergeKernelIdeal.MergeArray
end
-- ==== Proof.MergeClaim.lean ====
module

public import proofs.«01_k».proof.Defs
public import proofs.«01_k».proof.Proof.MergeArray
public import proofs.«01_k».proof.Proof.Gen.MergeReferenceIdeal.Run
public import proofs.«01_k».proof.Proof.Gen.MergeReferenceIdeal.Read

/-! The merge's call and the lines of the model leave equal arrays. -/

@[expose] public section

set_option maxRecDepth 16384

noncomputable section

open Idealize.ShloMosaic Idealize.ShloMosaic.TcCoe Idealize.SL.Sem

namespace Cert.MergeClaim

open Cert.MergeKernelIdeal.MergeArray

/-- The reference's run ends with its arguments unchanged and every counter at zero. -/
theorem frame_ref : Cert.quiescent_MergeReferenceIdeal := fun m ρ _ =>
  (θ_run Cert.MergeReferenceIdeal.defs _ _).mono
    (fun r h => ⟨fun c => (h c).2.2, Idealize.ShloMosaic.sem_eq_zero_of_no_sems (by decide) r.2⟩)
    (Cert.MergeReferenceIdeal.Value.run m ρ)

open Cert.MergeReferenceIdeal.Read

section
open Cert.MergeReferenceIdeal Cert.MergeReferenceIdeal.Gen

variable (Z : (⟨2, ![4096, 10240]⟩ : Shape).Idx → EReal) (A B C : (⟨2, ![4096, 1024]⟩ : Shape).Idx → EReal)
  (U V W : (⟨2, ![1024, 1024]⟩ : Shape).Idx → EReal) (r : Fin 4096) (q : Fin 1024)

theorem v10 : val_main_v10 (F := Ideal) A U (ix2 r q) = pj A U r q := by
  unfold val_main_v10 val_main_v1 val_main_v4
  pointwise [dot_S4096x1024_S1024x1024_S4096x1024_1_0_0_1_n_n]
  rfl
theorem v11 : val_main_v11 (F := Ideal) B V (ix2 r q) = pj B V r q := by
  unfold val_main_v11 val_main_v2 val_main_v5
  pointwise [dot_S4096x1024_S1024x1024_S4096x1024_1_0_0_1_n_n]
  rfl
theorem v12 : val_main_v12 (F := Ideal) C W (ix2 r q) = pj C W r q := by
  unfold val_main_v12 val_main_v3 val_main_v6
  pointwise [dot_S4096x1024_S1024x1024_S4096x1024_1_0_0_1_n_n]
  rfl

theorem v18 : val_main_v18 (F := Ideal) Z (ix2 r q) = sg (Z (ix2 r (gt 0 q))) := by
  unfold val_main_v18 val_main_v17 val_main_v16 val_main_v15 val_main_v14 val_main_v13 val_main_v7 val_main_v0 val_main_cst val_main_cst_0
  pointwise
  unfold sg gt
  rfl
theorem v25 : val_main_v25 (F := Ideal) Z (ix2 r q) = sg (Z (ix2 r (gt 1 q))) := by
  unfold val_main_v25 val_main_v24 val_main_v23 val_main_v22 val_main_v21 val_main_v20 val_main_v8 val_main_v0 val_main_cst_1 val_main_cst_2
  pointwise
  unfold sg gt
  rfl
theorem v33 : val_main_v33 (F := Ideal) Z (ix2 r q) = sg (Z (ix2 r (gt 2 q))) := by
  unfold val_main_v33 val_main_v32 val_main_v31 val_main_v30 val_main_v29 val_main_v28 val_main_v9 val_main_v0 val_main_cst_3 val_main_cst_4
  pointwise
  unfold sg gt
  rfl

/-- The reference's merged branches. -/
theorem v36 : val_main_v36 (F := Ideal) Z A B C U V W (ix2 r q) = mg Z A B C U V W r q := by
  unfold val_main_v36 val_main_v35 val_main_v34 val_main_v27 val_main_v26 val_main_v19
  pointwise
  rw [v10, v11, v12, v18, v25, v33]
  rfl

/-- The reference's three products. -/
theorem v41 (s : Fin 3) : val_main_v41 (F := Ideal) A B C U V W (ix3 s r q) = ![pj A U r q, pj B V r q, pj C W r q] s := by
  unfold val_main_v41 val_main_v40 val_main_v39 val_main_v38 val_main_v37
  match s with
  | ⟨0, _⟩ => pointwise; exact v10 A U r q
  | ⟨1, _⟩ => pointwise; exact v11 B V r q
  | ⟨2, _⟩ => pointwise; exact v12 C W r q
end

/-- From memories agreeing on the arguments, both run and leave equal arrays. -/
theorem algebraic : Cert.algebraic_MergeKernelIdeal_MergeReferenceIdeal := by
  intro m g m' g' _ ha
  refine ⟨R9 m, R10 m, (θ_run Cert.MergeKernelIdeal.defs _ _).mono
      (fun r h c => ⟨(h c).1.trans (final9 m c), (h c).2.1.trans (final10 m c), (h c).2.2⟩) (Cert.MergeKernelIdeal.Value.run_blocks m g),
    (θ_run Cert.MergeReferenceIdeal.defs _ _).mono (fun r h c => ?_) (Cert.MergeReferenceIdeal.Value.run m' g')⟩
  obtain ⟨h0, h1, hk⟩ := h c
  obtain ⟨a0, a1, a2, a3, a4, a5, a6⟩ := ha c
  refine ⟨h0.trans ?_, h1.trans ?_, hk⟩
  · rw [val_main_v36_eq, a0, a1, a2, a3, a4, a5, a6]
    funext i
    obtain ⟨t, q, rfl⟩ : ∃ t q, i = ix2 (n0 := 4096) (n1 := 1024) t q := ⟨i 0, i 1, eta2 (m := 4096) (n := 1024) i⟩
    exact v36 (aZ m c) (aA m c) (aB m c) (aC m c) (wA m c) (wB m c) (wC m c) t q
  · rw [val_main_v41_eq, a1, a2, a3, a4, a5, a6]
    funext i
    obtain ⟨s, t, q, rfl⟩ : ∃ s t q, i = ix3 (n0 := 3) (n1 := 4096) (n2 := 1024) s t q := ⟨i 0, i 1, i 2, eta3 (l := 3) (m := 4096) (n := 1024) i⟩
    exact v41 (aA m c) (aB m c) (aC m c) (wA m c) (wB m c) (wC m c) t q s

end Cert.MergeClaim
end
-- ==== Proof.LossBlock.lean ====
module

public import proofs.«01_k».proof.Proof.XaAlg
public import proofs.«01_k».proof.Proof.Gen.LossKernelIdeal.Frame
public import Idealize.ShloMosaic.Lib.Pipeline.Value
public import Idealize.ShloMosaic.Lib.Pipeline.ValueKit

/-! What one grid step of the loss's call leaves. -/

@[expose] public section

set_option maxRecDepth 16384

noncomputable section

open Idealize.ShloMosaic Idealize.ShloMosaic.TcCoe Idealize.SL.Sem
open Idealize.ShloMosaic.Pipeline (Dat)

namespace Cert.LossKernelIdeal.LossBlock

open Cert.LossKernelIdeal Cert.LossKernelIdeal.Gen

theorem zeros : (![0, 0] : Fin 2 → Nat) = fun _ => 0 := by
  funext a
  match a with
  | ⟨0, _⟩ => rfl
  | ⟨1, _⟩ => rfl

theorem zerosF : ∀ a, (![0, 0] : Fin 2 → ℕ) a = 0 := by decide

theorem eta2 {m n : ℕ} (y : (⟨2, ![m, n]⟩ : Shape).Idx) : y = ix2 (y 0) (y 1) := by
  funext a
  match a with
  | ⟨0, _⟩ => rfl
  | ⟨1, _⟩ => rfl

/-- The constants 1/1024 and 1/2048. -/
def cA : EReal := Ideal.ofBits .f32 0x3A800000#32
def cB : EReal := Ideal.ofBits .f32 0x3A000000#32

/-- The error: the residual plus the product, minus the target. -/
def er {n : ℕ} (A : (⟨2, ![n, 2816]⟩ : Shape).Idx → EReal) (W : (⟨2, ![2816, 1024]⟩ : Shape).Idx → EReal) (X T : (⟨2, ![n, 1024]⟩ : Shape).Idx → EReal) (r : Fin n) (q : Fin 1024) : EReal :=
  X (ix2 r q) + ∑ f : Fin 2816, A (ix2 r f) * W (ix2 f q) - T (ix2 r q)

/-- What a block's rows add to the loss. -/
def addB (x0 : S512x2816.Idx → EReal) (x1 : S2816x1024.Idx → EReal) (x2 x3 : S512x1024.Idx → EReal) : EReal :=
  (∑ r : Fin 512, ∑ a : Fin 1024, er x0 x1 x2 x3 r a * er x0 x1 x2 x3 r a) * cB

section
variable (x0 : Vec Ideal S512x2816 .bf16) (x1 : Vec Ideal S2816x1024 .bf16) (x2 : Vec Ideal S512x1024 .f32) (x3 : Vec Ideal S512x1024 .f32)

theorem p1 (r : Fin 512) (a : Fin 1024) : k0_pay1 (F := Ideal) x2 x0 x1 x3 (ix2 r a) = er x0 x1 x2 x3 r a := by
  unfold k0_pay1
  pointwise [dot_S512x2816_S2816x1024_S512x1024_1_0_0_1_n_n]
  rfl
theorem p2 (r : Fin 512) (a : Fin 1024) : k0_pay2 (F := Ideal) x2 x0 x1 x3 (ix2 r a) = er x0 x1 x2 x3 r a * cA := by
  unfold k0_pay2
  pointwise
  rw [p1]
  rfl
theorem p3 (r : Fin 512) (a : Fin 1024) : k0_pay3 (F := Ideal) x2 x0 x1 x3 (ix2 r a) = er x0 x1 x2 x3 r a * cA := by
  unfold k0_pay3
  pointwise
  exact p2 x0 x1 x2 x3 r a
theorem p4 (j : Fin 1) (a : Fin 128) : k0_pay4 (F := Ideal) (ix2 j a) = 0 := by
  unfold k0_pay4
  pointwise
theorem p5 (v : Vec Ideal S1x128 .f32) (j : Fin 1) (a : Fin 128) :
    k0_pay5 (F := Ideal) x2 x0 x1 x3 v (ix2 j a) = v (ix2 j a) + addB x0 x1 x2 x3 := by
  obtain rfl : j = 0 := Subsingleton.elim _ _
  unfold k0_pay5
  pointwise
  simp only [p1]
  rfl

variable (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x128 .f32) (harg7 : arg7.IsWhole)

theorem out_A4 (hc0 : cond0_0 i) (r : Fin 512) (a : Fin 1024) :
    out0_A_4 (F := Ideal) c i arg1 harg1 arg2 harg2 arg3 harg3 arg4 harg4 arg5 harg5 arg6 harg6 arg7 harg7 hc0 x0 x1 x2 x3 (ix2 r a) = er x0 x1 x2 x3 r a * cA := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  rw [View.canon_unit_zero zeros]
  repeat rw [View.ld_unit_zero zeros]
  exact p2 x0 x1 x2 x3 r a

theorem out_A5 (hc0 : cond0_0 i) (r : Fin 512) (a : Fin 1024) :
    out0_A_5 (F := Ideal) c i arg1 harg1 arg2 harg2 arg3 harg3 arg4 harg4 arg5 harg5 arg6 harg6 arg7 harg7 hc0 x0 x1 x2 x3 (ix2 r a) = er x0 x1 x2 x3 r a * cA := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  rw [View.canon_unit_zero zeros]
  repeat rw [View.ld_unit_zero zeros]
  exact p3 x0 x1 x2 x3 r a

theorem out_A6 (hc0 : cond0_0 i) (j : Fin 1) (a : Fin 128) :
    out0_A_6 (F := Ideal) c i arg1 harg1 arg2 harg2 arg3 harg3 arg4 harg4 arg5 harg5 arg6 harg6 arg7 harg7 hc0 x0 x1 x2 x3 (ix2 j a) = 0 + addB x0 x1 x2 x3 := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread, harg5.read_unread, harg6.read_unread, harg7.read_unread]
  simp only [View.readCov_cons_toLoadRect]
  rw [View.canon_cons_unit_lit _ _ _ zerosF]
  repeat rw [View.ld_unit_zero zeros]
  exact (p5 x0 x1 x2 x3 _ j a).trans (congrArg (· + _) (p4 j a))

theorem out_B4 (hc0 : ¬cond0_0 i) (xo6 : Vec Ideal S1x128 .f32) (r : Fin 512) (a : Fin 1024) :
    out0_B_4 (F := Ideal) c i arg1 harg1 arg2 harg2 arg3 harg3 arg4 harg4 arg5 harg5 arg6 harg6 arg7 harg7 hc0 x0 x1 x2 x3 xo6 (ix2 r a) = er x0 x1 x2 x3 r a * cA := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros]
  repeat rw [View.ld_unit_zero zeros]
  exact p2 x0 x1 x2 x3 r a

theorem out_B5 (hc0 : ¬cond0_0 i) (xo6 : Vec Ideal S1x128 .f32) (r : Fin 512) (a : Fin 1024) :
    out0_B_5 (F := Ideal) c i arg1 harg1 arg2 harg2 arg3 harg3 arg4 harg4 arg5 harg5 arg6 harg6 arg7 harg7 hc0 x0 x1 x2 x3 xo6 (ix2 r a) = er x0 x1 x2 x3 r a * cA := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros]
  repeat rw [View.ld_unit_zero zeros]
  exact p3 x0 x1 x2 x3 r a

theorem out_B6 (hc0 : ¬cond0_0 i) (xo6 : Vec Ideal S1x128 .f32) (j : Fin 1) (a : Fin 128) :
    out0_B_6 (F := Ideal) c i arg1 harg1 arg2 harg2 arg3 harg3 arg4 harg4 arg5 harg5 arg6 harg6 arg7 harg7 hc0 x0 x1 x2 x3 xo6 (ix2 j a) = xo6 (ix2 j a) + addB x0 x1 x2 x3 := by
  unfold out0_B_6
  rw [View.read_writes_eq_canon _ _ _ (cover0_B_6 c i arg1 harg1 arg2 harg2 arg3 harg3 arg4 harg4 arg5 harg5 arg6 harg6 arg7 harg7 hc0 x0 x1 x2 x3 xo6)]
  unfold kernelRun0_B
  dsimp only
  sl_unfold_words
  simp only [View.readAt_eq_ld, harg1.read_unread, harg2.read_unread, harg3.read_unread, harg4.read_unread, harg5.read_unread, harg6.read_unread, harg7.read_unread]
  rw [View.canon_unit_zero zeros]
  repeat rw [View.ld_unit_zero zeros]
  exact p5 x0 x1 x2 x3 _ j a
end

end Cert.LossKernelIdeal.LossBlock
end
-- ==== Proof.LossArray.lean ====
module

public import proofs.«01_k».proof.Proof.LossBlock

/-! What the loss's call leaves, and the host's reading of the loss. -/

@[expose] public section

set_option maxRecDepth 16384

noncomputable section

open Idealize.ShloMosaic Idealize.ShloMosaic.TcCoe Idealize.SL.Sem
open Idealize.ShloMosaic.Pipeline (Dat)

namespace Cert.LossKernelIdeal.LossArray

open Cert.LossKernelIdeal Cert.LossKernelIdeal.Gen
open LossBlock

variable (m : (ℓ : Loc nD τ sig) → Buf (Elt Ideal) ℓ) (c : Dev nD)

abbrev aA : (⟨2, ![4096, 2816]⟩ : Shape).Idx → EReal := m ((c : Thread nD τ).loc main_arg0)
abbrev aW : (⟨2, ![2816, 1024]⟩ : Shape).Idx → EReal := m ((c : Thread nD τ).loc main_arg1)
abbrev aX : (⟨2, ![4096, 1024]⟩ : Shape).Idx → EReal := m ((c : Thread nD τ).loc main_arg2)
abbrev aT : (⟨2, ![4096, 1024]⟩ : Shape).Idx → EReal := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] := by
  decide +kernel

theorem lt8 (t : Fin cfg0.N) : t.val < 8 := t.isLt

/-- The token of a row of a step's block. -/
def tk (t : Fin 8) (r : Fin 512) : Fin 4096 := ⟨r.val + 512 * t.val, by omega⟩

theorem b0 (t : Fin cfg0.N) (r : Fin 512) (f : Fin 2816) : iblk m c 0 t (ix2 r f) = aA m c (ix2 (tk t r) f) := by
  unfold aA tk
  blk_ext [iblk, V, idx t]
theorem b1 (t : Fin cfg0.N) (f : Fin 2816) (q : Fin 1024) : iblk m c 1 t (ix2 f q) = aW m c (ix2 f q) := by
  unfold aW
  blk_ext [iblk, V, idx t]
theorem b2 (t : Fin cfg0.N) (r : Fin 512) (q : Fin 1024) : iblk m c 2 t (ix2 r q) = aX m c (ix2 (tk t r) q) := by
  unfold aX tk
  blk_ext [iblk, V, idx t]
theorem b3 (t : Fin cfg0.N) (r : Fin 512) (q : Fin 1024) : iblk m c 3 t (ix2 r q) = aT m c (ix2 (tk t r) q) := by
  unfold aT tk
  blk_ext [iblk, V, idx t]

/-- The error at a token. -/
def E (r : Fin 4096) (q : Fin 1024) : EReal := er (aA m c) (aW m c) (aX m c) (aT m c) r q

theorem er_eq (t : Fin cfg0.N) (r : Fin 512) (q : Fin 1024) :
    er (iblk m c 0 t) (iblk m c 1 t) (iblk m c 2 t) (iblk m c 3 t) r q = E m c (tk t r) q := by
  unfold E er
  simp only [b0, b1, b2, b3]

/-- What a step adds to the loss. -/
def add (t : Fin 8) : EReal := (∑ r : Fin 512, ∑ a : Fin 1024, E m c (tk t r) a * E m c (tk t r) a) * cB

theorem addB_eq (t : Fin cfg0.N) : addB (iblk m c 0 t) (iblk m c 1 t) (iblk m c 2 t) (iblk m c 3 t) = add m c t := by
  unfold addB add
  simp only [er_eq]

theorem o4 (t : Fin cfg0.N) (r : Fin 512) (a : Fin 1024) : (outsAt0 m c t.val t.isLt).1 (ix2 r a) = E m c (tk t r) a * cA := by
  rw [← er_eq]
  by_cases h0 : t.val % 8 = 0
  · rw [outsAt0_A m c t h0]
    dsimp only
    exact out_A4 ..
  · rw [outsAt0_B m c t h0]
    dsimp only
    exact out_B4 ..
theorem o5 (t : Fin cfg0.N) (r : Fin 512) (a : Fin 1024) : (outsAt0 m c t.val t.isLt).2.1 (ix2 r a) = E m c (tk t r) a * cA := by
  rw [← er_eq]
  by_cases h0 : t.val % 8 = 0
  · rw [outsAt0_A m c t h0]
    dsimp only
    exact out_A5 ..
  · rw [outsAt0_B m c t h0]
    dsimp only
    exact out_B5 ..

/-- The step before. -/
def pre (t : Fin cfg0.N) : Fin cfg0.N := ⟨t.val - 1, Nat.lt_of_le_of_lt (Nat.sub_le _ _) t.isLt⟩

theorem o6_first (t : Fin cfg0.N) (h0 : t.val % 8 = 0) (j : Fin 1) (a : Fin 128) :
    (outsAt0 m c t.val t.isLt).2.2 (ix2 j a) = 0 + add m c t := by
  rw [← addB_eq, outsAt0_A m c t h0]
  dsimp only
  exact out_A6 ..
theorem o6_next (t : Fin cfg0.N) (h0 : ¬t.val % 8 = 0) (j : Fin 1) (a : Fin 128) :
    (outsAt0 m c t.val t.isLt).2.2 (ix2 j a) = (outsAt0 m c (pre t).val (pre t).isLt).2.2 (ix2 j a) + add m c t := by
  rw [← addB_eq, outsAt0_B m c t h0]
  dsimp only
  exact out_B6 ..
theorem o6_last (j : Fin 1) (a : Fin 128) : (outsAt0 m c t0_7.val t0_7.isLt).2.2 (ix2 j a) = ∑ t : Fin 8, add m c t := by
  rw [Fin.sum_univ_eight, ← zero_add (add m c 0)]
  refine (o6_next m c t0_7 (by decide) j a).trans (congrArg (· + add m c 7) ?_)
  refine (o6_next m c t0_6 (by decide) j a).trans (congrArg (· + add m c 6) ?_)
  refine (o6_next m c t0_5 (by decide) j a).trans (congrArg (· + add m c 5) ?_)
  refine (o6_next m c t0_4 (by decide) j a).trans (congrArg (· + add m c 4) ?_)
  refine (o6_next m c t0_3 (by decide) j a).trans (congrArg (· + add m c 3) ?_)
  refine (o6_next m c t0_2 (by decide) j a).trans (congrArg (· + add m c 2) ?_)
  refine (o6_next m c t0_1 (by decide) j a).trans (congrArg (· + add m c 1) ?_)
  exact o6_first m c t0_0 (by decide) j a

/-- A sum over the tokens, block by block. -/
theorem sum_blocks {M : Type} [AddCommMonoid M] (f : Fin 4096 → M) : ∑ s : Fin 4096, f s = ∑ t : Fin 8, ∑ r : Fin 512, f (tk t r) := by
  rw [← (finProdFinEquiv (m := 8) (n := 512)).sum_comp f, Fintype.sum_prod_type]
  rfl

theorem cB_eq : cB = ((1 / 2048 : ℝ) : EReal) := by
  unfold cB; simp [Ideal.ofBits, Ideal.ieee, -EReal.coe_mul]; norm_num
theorem cA_eq : cA = ((1 / 1024 : ℝ) : EReal) := by
  unfold cA; simp [Ideal.ofBits, Ideal.ieee, -EReal.coe_mul]; norm_num

/-- The loss. -/
def L : EReal := (∑ s : Fin 4096, ∑ a : Fin 1024, E m c s a * E m c s a) * cB

theorem sum_add : ∑ t : Fin 8, add m c t = L m c := by
  unfold L add
  rw [sum_blocks, cB_eq, mul_comm, Xa.mul_sum_coe _ _ (by norm_num)]
  exact Finset.sum_congr rfl fun t _ => mul_comm _ _

/-- What the call leaves: the error's multiple, twice, and the loss in every lane. -/
def R4 : S4096x1024.Idx → EReal := fun i => E m c (i 0) (i 1) * cA
def R6 : S1x128.Idx → EReal := fun _ => L m c

theorem left4 (t : Fin cfg0.N) (r : Fin 512) (a : Fin 1024) (i : S4096x1024.Idx) (h0 : (i 0).val = 512 * t.val + r.val) (h1 : (i 1).val = a.val) :
    E m c (tk t r) a * cA = R4 m c i := by
  have e0 : tk t r = i 0 := Fin.ext (by show r.val + 512 * t.val = _; omega)
  have e1 : a = i 1 := Fin.ext h1.symm
  unfold R4
  rw [e0, e1]

theorem final4 : (dats m 0 c).arrAt 4 cfg0.N = R4 m c := by
  refine (dats m 0 c).arrAt_eq_of_covers 4 _ (by decide +kernel) fun t hf y => ?_
  obtain ⟨r, a, rfl⟩ : ∃ r a, y = ix2 (n0 := 512) (n1 := 1024) r a := ⟨y 0, y 1, eta2 (m := 512) (n := 1024) y⟩
  blk_simp
  rw [after0_4]
  refine (o4 m c t r a).trans (left4 m c t r a _ ?_ ?_)
  · blk_simp [idx t]; try omega
  · blk_simp [idx t]; try omega
theorem final5 : (dats m 0 c).arrAt 5 cfg0.N = R4 m c := by
  refine (dats m 0 c).arrAt_eq_of_covers 5 _ (by decide +kernel) fun t hf y => ?_
  obtain ⟨r, a, rfl⟩ : ∃ r a, y = ix2 (n0 := 512) (n1 := 1024) r a := ⟨y 0, y 1, eta2 (m := 512) (n := 1024) y⟩
  blk_simp
  rw [after0_5]
  refine (o5 m c t r a).trans (left4 m c t r a _ ?_ ?_)
  · blk_simp [idx t]; try omega
  · blk_simp [idx t]; try omega
theorem final6 : (dats m 0 c).arrAt 6 cfg0.N = R6 m c := by
  refine (dats m 0 c).arrAt_eq_of_covers 6 _ (by decide +kernel) fun t hf y => ?_
  have ht : t.val % 8 = 7 := (flush0_6 t).mp hf
  obtain rfl : t = t0_7 := Fin.ext (by have := lt8 t; show t.val = 7; omega)
  obtain ⟨j, a, rfl⟩ : ∃ j a, y = ix2 (n0 := 1) (n1 := 128) j a := ⟨y 0, y 1, eta2 (m := 1) (n := 128) y⟩
  blk_simp
  rw [after0_6]
  exact (o6_last m c j a).trans (sum_add m c)

/-- The host's reading of the loss. -/
def R2 : S_.Idx → EReal := fun _ => L m c

theorem tail2 : Pipeline.afterTail₀ cfgs (dats m) 0 (V0 m) [hostOps1] c main_v2 = R2 m c := by
  have e : Pipeline.withArrays (cfgs 0).spec c (V0 m c) (fun w => (dats m 0 c).arrAt w (cfgs 0).N) (Proc.devRef .tc main_v0_2) = R6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v0_0) = R4 m c
      ∧ r.2.mem ((c.tc : Thread nD τ).loc main_v0_1) = R4 m c
      ∧ r.2.mem ((c.tc : Thread nD τ).loc main_v2) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), ((h.1 c).1 5).trans (final5 m c),
      ((h.1 c).2 main_v2 (Pipeline.mem_restRefs_of main_v2 (by decide) (by decide))).trans (tail2 m c), h.2 c⟩)
    (θ_run_and (run_main m ρ) (unchanged m ρ))

end Cert.LossKernelIdeal.LossArray
end
-- ==== Proof.LossClaim.lean ====
module

public import proofs.«01_k».proof.Defs
public import proofs.«01_k».proof.Proof.LossArray
public import proofs.«01_k».proof.Proof.Gen.LossReferenceIdeal.Run
public import proofs.«01_k».proof.Proof.Gen.LossReferenceIdeal.Read

/-! The loss's call leaves the loss, and the gradient that `jax.vjp` of the loss gives. -/

@[expose] public section

set_option maxRecDepth 16384

noncomputable section

open Idealize.ShloMosaic Idealize.ShloMosaic.TcCoe Idealize.SL.Sem

namespace Cert.LossReferenceIdeal.LossRef

open Cert.LossReferenceIdeal Cert.LossReferenceIdeal.Gen Cert.LossReferenceIdeal.Read
open Cert.LossKernelIdeal.LossBlock (er cA cB)
open Cert.LossKernelIdeal.LossArray (cA_eq cB_eq)

theorem c1024 : Ideal.ofBits .f32 0x44800000#32 = ((1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num

variable (A : (⟨2, ![4096, 2816]⟩ : Shape).Idx → EReal) (W : (⟨2, ![2816, 1024]⟩ : Shape).Idx → EReal) (X T : (⟨2, ![4096, 1024]⟩ : Shape).Idx → EReal)
  (r : Fin 4096) (q : Fin 1024)

/-- The reference's error. -/
theorem v4 : val_main_v4 (F := Ideal) A W X T (ix2 r q) = er A W X T r q := by
  unfold val_main_v4 val_main_v3 val_main_v2 val_main_v1 val_main_v0
  pointwise [dot_S4096x2816_S2816x1024_S4096x1024_1_0_0_1_n_n]
  rfl

/-- Its gradient. -/
theorem v18 : val_main_v18 (F := Ideal) A W X T (ix2 r q) = er A W X T r q * cA := by
  unfold val_main_v18 val_main_v17 val_main_v16 val_main_v15 val_main_v14 val_main_v13 val_main_v7 val_main_v6 val_main_cst val_main_cst_4 val_main_cst_5 val_main_cst_6
  pointwise
  rw [v4, cHalf, c1024, c2, cA_eq, Ideal.div_coe (by norm_num), ← mul_assoc, ← EReal.coe_mul, ← EReal.coe_mul, mul_comm]
  congr 2
  norm_num
theorem v19 : val_main_v19 (F := Ideal) A W X T (ix2 r q) = er A W X T r q * cA := by
  unfold val_main_v19
  pointwise
  exact v18 A W X T r q

theorem v10 : val_main_v10 (F := Ideal) A W X T (ix1 r) = (∑ a : Fin 1024, er A W X T r a * er A W X T r a) * cA := by
  unfold val_main_v10 val_main_v9 val_main_v8 val_main_v5 val_main_cst_0 val_main_cst_1
  pointwise
  simp only [v4]
  rw [c1024, cA_eq, Ideal.div_coe (by norm_num)]

/-- Its loss. -/
theorem v12 (i : S_.Idx) : val_main_v12 (F := Ideal) A W X T i = (∑ s : Fin 4096, ∑ a : Fin 1024, er A W X T s a * er A W X T s a) * cB := by
  unfold val_main_v12 val_main_v11 val_main_cst_2 val_main_cst_3
  pointwise
  simp only [v10]
  rw [cHalf, cA_eq, cB_eq, mul_comm _ ((1 / 2048 : ℝ) : EReal), show (1 / 2048 : ℝ) = 1 / 2 * (1 / 1024) by norm_num, EReal.coe_mul, mul_assoc,
    Xa.mul_sum_coe _ (1 / 1024) (by norm_num)]
  simp only [mul_comm _ ((1 / 1024 : ℝ) : EReal)]

end Cert.LossReferenceIdeal.LossRef

namespace Cert.LossClaim

open Cert.LossKernelIdeal.LossArray Cert.LossReferenceIdeal.LossRef Cert.LossReferenceIdeal.Read
open Cert.LossKernelIdeal.LossBlock (eta2)

/-- The reference's run ends with its arguments unchanged and every counter at zero. -/
theorem frame_ref : Cert.quiescent_LossReferenceIdeal := fun m ρ _ =>
  (θ_run Cert.LossReferenceIdeal.defs _ _).mono
    (fun r h => ⟨fun c => (h c).2.2.2, Idealize.ShloMosaic.sem_eq_zero_of_no_sems (by decide) r.2⟩)
    (Cert.LossReferenceIdeal.Value.run m ρ)

/-- From memories agreeing on the arguments both run and leave equal arrays. -/
theorem algebraic : Cert.algebraic_LossKernelIdeal_LossReferenceIdeal := by
  intro m g m' g' _ ha
  refine ⟨R4 m, R4 m, R2 m, Cert.LossKernelIdeal.LossArray.run m g,
    (θ_run Cert.LossReferenceIdeal.defs _ _).mono (fun r h c => ?_) (Cert.LossReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v18_eq, a0, a1, a2, a3]
    funext i
    obtain ⟨t, a, rfl⟩ : ∃ t a, i = ix2 (n0 := 4096) (n1 := 1024) t a := ⟨i 0, i 1, eta2 (m := 4096) (n := 1024) i⟩
    exact v18 (aA m c) (aW m c) (aX m c) (aT m c) t a
  · rw [val_main_v19_eq, a0, a1, a2, a3]
    funext i
    obtain ⟨t, a, rfl⟩ : ∃ t a, i = ix2 (n0 := 4096) (n1 := 1024) t a := ⟨i 0, i 1, eta2 (m := 4096) (n := 1024) i⟩
    exact v19 (aA m c) (aW m c) (aX m c) (aT m c) t a
  · rw [val_main_v12_eq, a0, a1, a2, a3]
    funext i
    exact v12 (aA m c) (aW m c) (aX m c) (aT m c) i

end Cert.LossClaim
end
-- ==== Proof.XfBlock.lean ====
module

public import proofs.«01_k».proof.Proof.XaArray
public import proofs.«01_k».proof.Proof.Gen.XfKernelIdeal.Value
public import Idealize.ShloMosaic.Lib.Pipeline.Value
public import Idealize.ShloMosaic.Lib.Pipeline.ValueKit

/-! The memory cross-attention's forward call: what one grid step stores, and what the call leaves. -/

@[expose] public section

set_option maxRecDepth 16384

noncomputable section

open Idealize.ShloMosaic Idealize.ShloMosaic.TcCoe Idealize.SL.Sem
open Idealize.ShloMosaic.Pipeline (Dat)

namespace Cert.XfKernelIdeal.XfBlock

open Cert.XfKernelIdeal Cert.XfKernelIdeal.Gen
open Cert.KernelIdeal.XaHead (row)
open Cert.KernelIdeal.XaBlock (hd lane col hd_col lane_col seg emb_col row_ld eta2)
open Cert.Xa (tok bat zr kr gr)

/-- A head's row of the output: the weights times the values. -/
def yy (g x : Xa.Row) (K V : Fin 256 → Xa.Row) (a : Fin 256) : EReal := ∑ n, Xa.pp g x K n * V n a

section head
variable (g : Vec Ideal S1x256 .f32) (X : Vec Ideal S1024x256 .bf16) (K V : Vec Ideal S256x256 .bf16)

/-- What is stored for the first head, -/
theorem pay2_apply (r : Fin 1024) (a : Fin 256) :
    k0_pay2 (F := Ideal) g X K V (ix2 r a) = yy (row g 0) (row X r) (row K) (row V) a := by
  unfold k0_pay2
  pointwise [dot_S1024x256_S256x256_S1024x256_1_1_0_0_n_n, dot_S1024x256_S256x256_S1024x256_1_0_0_1_n_n]
  rfl

/-- and, the same, for the others. -/
theorem pay5_eq : k0_pay5 (F := Ideal) g (k0_pay3 X) (k0_pay4 X) K V = k0_pay2 g X K V := rfl
theorem pay8_eq : k0_pay8 (F := Ideal) g (k0_pay6 X) (k0_pay7 X) K V = k0_pay2 g X K V := rfl
theorem pay1_eq : k0_pay1 (F := Ideal) (k0_pay9 g X K) V = k0_pay2 g X K V := rfl

end head

section piece
variable (x0 : Vec Ideal S1024x1024 .bf16) (x1 x2 : Vec Ideal S256x1024 .bf16) (x3 : Vec Ideal S1x256 .f32)

/-- One step's block of the output. -/
def yG (y : S1024x1024.Idx) : EReal :=
  yy (row x3 0) (seg x0 (hd (y 1)) (y 0)) (seg x1 (hd (y 1))) (seg x2 (hd (y 1))) (lane (y 1))

theorem piece (h : Fin 4) (o : ℕ) (ho : o = 256 * h.val)
    (i0 : ∀ a, (![0, o] : Fin 2 → ℕ) a + S1024x256.size a ≤ S1024x1024.size a)
    (i1 : ∀ a, (![0, o] : Fin 2 → ℕ) a + S256x256.size a ≤ S256x1024.size a)
    (i3 : ∀ a, (![0, 0] : Fin 2 → ℕ) a + S1x256.size a ≤ S1x256.size a) (x : S1024x256.Idx) :
    k0_pay2 (F := Ideal) (View.ld x3 (Rect.unit (s := S1x256) ![0, 0] S1x256.size i3)) (View.ld x0 (Rect.unit (s := S1024x1024) ![0, o] S1024x256.size i0))
      (View.ld x1 (Rect.unit (s := S256x1024) ![0, o] S256x256.size i1)) (View.ld x2 (Rect.unit (s := S256x1024) ![0, o] S256x256.size i1)) x
      = yG x0 x1 x2 x3 ((Rect.unit (s := S1024x1024) ![0, o] S1024x256.size i0).emb x) := by
  rw [show (Rect.unit (s := S1024x1024) ![0, o] S1024x256.size i0).emb x = ix2 (x 0) (col h (x 1)) from emb_col h o ho i0 x]
  obtain ⟨r, a, rfl⟩ : ∃ r a, x = ix2 (n0 := 1024) (n1 := 256) r a := ⟨x 0, x 1, eta2 (m := 1024) (n := 256) x⟩
  rw [pay2_apply, show View.ld x3 (Rect.unit (s := S1x256) ![0, 0] S1x256.size i3) = x3 from
    View.ld_unit_zero (by funext a; match a with | ⟨0, _⟩ => rfl | ⟨1, _⟩ => rfl) i3 x3]
  have e0 : row (m := 1024) (View.ld x0 (Rect.unit (s := S1024x1024) ![0, o] S1024x256.size i0)) r = seg x0 h r := row_ld x0 h o ho i0 r
  have e1 : row (m := 256) (View.ld x1 (Rect.unit (s := S256x1024) ![0, o] S256x256.size i1)) = seg x1 h := funext fun n => row_ld x1 h o ho i1 n
  have e2 : row (m := 256) (View.ld x2 (Rect.unit (s := S256x1024) ![0, o] S256x256.size i1)) = seg x2 h := funext fun n => row_ld x2 h o ho i1 n
  rw [e0, e1, e2]
  unfold yG
  show _ = yy _ (seg x0 (hd (col h a)) r) (seg x1 (hd (col h a))) (seg x2 (hd (col h a))) (lane (col h a))
  rw [hd_col, lane_col]

theorem out_eq : out0_4 (F := Ideal) x0 x1 x2 x3 = yG x0 x1 x2 x3 := by
  funext y
  unfold out0_4
  rw [pay5_eq, pay8_eq, pay1_eq]
  refine View.canon_apply_of_pieces (Val := Elt Ideal) (yG x0 x1 x2 x3) _ ?_ y (cover0_4 _ _ _ _ y)
  rw [List.forall_mem_cons, List.forall_mem_cons, List.forall_mem_cons, List.forall_mem_cons]
  exact ⟨fun x => piece x0 x1 x2 x3 3 768 rfl _ _ _ x, fun x => piece x0 x1 x2 x3 2 512 rfl _ _ _ x,
    fun x => piece x0 x1 x2 x3 1 256 rfl _ _ _ x, fun x => piece x0 x1 x2 x3 0 0 rfl _ _ _ x, fun _ h => absurd h List.not_mem_nil⟩

end piece

variable (m : (ℓ : Loc nD τ sig) → Buf (Elt Ideal) ℓ) (c : Dev nD)

abbrev aZ : (⟨2, ![4096, 10240]⟩ : Shape).Idx → EReal := m ((c : Thread nD τ).loc main_arg0)
abbrev aK : (⟨2, ![512, 1024]⟩ : Shape).Idx → EReal := m ((c : Thread nD τ).loc main_arg1)
abbrev aV : (⟨2, ![512, 1024]⟩ : Shape).Idx → EReal := m ((c : Thread nD τ).loc main_arg2)
abbrev aG : (⟨2, ![1, 256]⟩ : Shape).Idx → EReal := m ((c : Thread nD τ).loc main_arg3)

theorem idx : ∀ t : Fin cfg0.N, win0_0.index t = ![t.val, 6] ∧ win0_1.index t = ![t.val / 2, 0] ∧ win0_2.index t = ![t.val / 2, 0]
    ∧ win0_3.index t = ![0, 0] ∧ win0_4.index t = ![t.val, 0] := by
  decide +kernel

theorem lt4 (t : Fin cfg0.N) : t.val < 4 := t.isLt

/-- The token of a row of a step's block, and the sequence of a step. -/
def tk (t : Fin cfg0.N) (r : Fin 1024) : Fin 4096 := ⟨1024 * t.val + r.val, by have := lt4 t; omega⟩
def sq (t : Fin cfg0.N) : Fin 2 := ⟨t.val / 2, by have := lt4 t; omega⟩

theorem bat_tk (t : Fin cfg0.N) (r : Fin 1024) : bat (tk t r) = sq t := Fin.ext (by show (1024 * t.val + r.val) / 2048 = t.val / 2; omega)

theorem seg_z (t : Fin cfg0.N) (h : Fin 4) (r : Fin 1024) : seg (m := 1024) (iblk m c 0 t) h r = zr (aZ m c) (tk t r) h := by
  funext a
  unfold seg zr aZ tk
  blk_ext [iblk, V, idx t, col]
theorem seg_k (t : Fin cfg0.N) (h : Fin 4) : seg (m := 256) (iblk m c 1 t) h = kr (aK m c) (sq t) h := by
  funext n a
  unfold seg kr aK sq
  blk_ext [iblk, V, idx t, col]
theorem seg_v (t : Fin cfg0.N) (h : Fin 4) : seg (m := 256) (iblk m c 2 t) h = kr (aV m c) (sq t) h := by
  funext n a
  unfold seg kr aV sq
  blk_ext [iblk, V, idx t, col]
theorem row_g (t : Fin cfg0.N) (j : Fin 1) : row (m := 1) (iblk m c 3 t) j = gr (aG m c) := by
  funext a
  unfold row gr aG
  blk_ext [iblk, V, idx t]

/-- The output of the attention: token and column. -/
def Y (Z : (⟨2, ![4096, 10240]⟩ : Shape).Idx → EReal) (K V : (⟨2, ![512, 1024]⟩ : Shape).Idx → EReal) (G : (⟨2, ![1, 256]⟩ : Shape).Idx → EReal)
    (t : Fin 4096) (q : Fin 1024) : EReal :=
  yy (gr G) (zr Z t (hd q)) (kr K (bat t) (hd q)) (kr V (bat t) (hd q)) (lane q)

/-- What the call leaves. -/
def R4 : (⟨2, ![4096, 1024]⟩ : Shape).Idx → EReal := fun i => Y (aZ m c) (aK m c) (aV m c) (aG m c) (i 0) (i 1)

theorem left4 (t : Fin cfg0.N) (y : (⟨2, ![1024, 1024]⟩ : Shape).Idx) (i : (⟨2, ![4096, 1024]⟩ : Shape).Idx) (h0 : (i 0).val = 1024 * t.val + (y 0).val)
    (h1 : (i 1).val = (y 1).val) : out0_4 (F := Ideal) (iblk m c 0 t) (iblk m c 1 t) (iblk m c 2 t) (iblk m c 3 t) y = R4 m c i := by
  obtain ⟨r, q, rfl⟩ : ∃ r q, y = ix2 (n0 := 1024) (n1 := 1024) r q := ⟨y 0, y 1, eta2 (m := 1024) (n := 1024) y⟩
  have e0 : i 0 = tk t r := Fin.ext h0
  have e1 : i 1 = q := Fin.ext h1
  rw [out_eq]
  unfold R4 Y
  rw [e0, e1, bat_tk]
  show yy (row (iblk m c 3 t) 0) (seg (m := 1024) (iblk m c 0 t) (hd q) r) (seg (m := 256) (iblk m c 1 t) (hd q)) (seg (m := 256) (iblk m c 2 t) (hd q)) (lane q) = _
  rw [seg_z, seg_k, seg_v, row_g]

theorem final4 : (dats m 0 c).arrAt 4 cfg0.N = R4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

end Cert.XfKernelIdeal.XfBlock
end
-- ==== Proof.XfClaim.lean ====
module

public import proofs.«01_k».proof.Defs
public import proofs.«01_k».proof.Proof.XfBlock
public import proofs.«01_k».proof.Proof.XaRef
public import proofs.«01_k».proof.Proof.Gen.XfReferenceIdeal.Run
public import proofs.«01_k».proof.Proof.Gen.XfReferenceIdeal.Read

/-! The memory cross-attention's forward call against its reference. -/

@[expose] public section

set_option maxRecDepth 16384

noncomputable section

open Idealize.ShloMosaic Idealize.ShloMosaic.TcCoe Idealize.SL.Sem

namespace Cert.XfClaim

section ref
open Cert.XfReferenceIdeal Cert.XfReferenceIdeal.Gen Cert.XfReferenceIdeal.Read Cert.Xa
open Cert.KernelIdeal.XaBlock (hd lane)
open Cert.XfKernelIdeal.XfBlock (yy Y)
open Cert.ReferenceIdeal.XaRef (bot_lit)

variable (x0 : (⟨2, ![4096, 10240]⟩ : Shape).Idx → EReal) (x1 x2 : (⟨2, ![512, 1024]⟩ : Shape).Idx → EReal)
  (x3 : (⟨2, ![1, 256]⟩ : Shape).Idx → EReal) (b : Fin 2) (s : Fin 2048) (h : Fin 4) (a n : Fin 256)

theorem v4 : val_main_v4 (F := Ideal) x0 (ix4 b s h a) = (zr x0 (tok b s) h) a := by
  unfold val_main_v4 val_main_v1 val_main_v0
  pointwise
  unfold zr tok
  blk_ext

theorem v5 : val_main_v5 (F := Ideal) x1 (ix4 b n h a) = (kr x1 b h) n a := by
  unfold val_main_v5 val_main_v2
  pointwise
  unfold kr
  blk_ext

theorem v6 : val_main_v6 (F := Ideal) x2 (ix4 b n h a) = (kr x2 b h) n a := by
  unfold val_main_v6 val_main_v3
  pointwise
  unfold kr
  blk_ext

theorem v14 : val_main_v14 (F := Ideal) x0 (ix4 b s h 0) = rr (zr x0 (tok b s) h) := by
  unfold val_main_v14 val_main_v13 val_main_v12 val_main_cst_1 val_main_v11 val_main_v10 val_main_cst_0 val_main_v9 val_main_v8 val_main_v7 val_main_cst
  pointwise
  simp only [v4]
  rfl

theorem v19 : val_main_v19 (F := Ideal) x0 x3 (ix4 b s h a) = qn (gr x3) (zr x0 (tok b s) h) a := by
  unfold val_main_v19 val_main_v18 val_main_v17 val_main_v16 val_main_v15
  pointwise
  simp only [v4, v14]
  rfl

theorem v22 : val_main_v22 (F := Ideal) x0 x1 x3 (ix4 b h s n) = sc (gr x3) (zr x0 (tok b s) h) (kr x1 b h) n := by
  unfold val_main_v22 val_main_v21 val_main_cst_2 val_main_v20
  pointwise [dot_S2x2048x4x256_S2x256x4x256_S2x4x2048x256_3_3_1_1_02_02]
  simp only [v19, v5]
  rfl

theorem v23 : val_main_v23 (F := Ideal) x0 x1 x3 (ix3 b h s) = mx (gr x3) (zr x0 (tok b s) h) (kr x1 b h) := by
  unfold val_main_v23 val_main_cst_3
  pointwise
  simp only [v22]
  unfold mx bot
  rfl

theorem v25 : val_main_v25 (F := Ideal) x0 x1 x3 (ix3 b h s) = mx (gr x3) (zr x0 (tok b s) h) (kr x1 b h) := by
  rw [val_main_v25_apply, val_main_v24_apply, val_main_cst_4_apply, v23]
  exact (congrArg (fun e => max e (mx (gr x3) (zr x0 (tok b s) h) (kr x1 b h))) bot_lit).trans (max_eq_right bot_le)

theorem v29 : val_main_v29 (F := Ideal) x0 x1 x3 (ix4 b h s n) = ex (gr x3) (zr x0 (tok b s) h) (kr x1 b h) n := by
  unfold val_main_v29 val_main_v28 val_main_v27 val_main_v26
  pointwise
  simp only [v22, v25]
  rfl

theorem v31 : val_main_v31 (F := Ideal) x0 x1 x3 (ix4 b h s 0) = se (gr x3) (zr x0 (tok b s) h) (kr x1 b h) := by
  unfold val_main_v31 val_main_v30 val_main_cst_5
  pointwise
  simp only [v29]
  rfl

theorem v33 : val_main_v33 (F := Ideal) x0 x1 x3 (ix4 b h s n) = pp (gr x3) (zr x0 (tok b s) h) (kr x1 b h) n := by
  unfold val_main_v33 val_main_v32
  pointwise
  simp only [v29, v31]
  rfl

theorem v34 : val_main_v34 (F := Ideal) x0 x1 x2 x3 (ix4 b h a s) = yy (gr x3) (zr x0 (tok b s) h) (kr x1 b h) (kr x2 b h) a := by
  unfold val_main_v34
  pointwise [dot_S2x256x4x256_S2x4x2048x256_S2x4x256x2048_1_3_3_2_02_01]
  simp only [v33, v6]
  exact Finset.sum_congr rfl fun _ _ => mul_comm _ _

theorem v37 (t : Fin 4096) (q : Fin 1024) : val_main_v37 (F := Ideal) x0 x1 x2 x3 (ix2 t q) = Y x0 x1 x2 x3 t q := by
  have e : val_main_v37 (F := Ideal) x0 x1 x2 x3 (ix2 t q)
      = val_main_v34 (F := Ideal) x0 x1 x2 x3 (ix4 (bat t) (hd q) (lane q) ⟨t.val % 2048, Nat.mod_lt _ (by decide)⟩) := by
    unfold val_main_v37 val_main_v36 val_main_v35
    pointwise
    unfold bat hd lane
    blk_ext
  rw [e, v34]
  have ht : tok (bat t) ⟨t.val % 2048, Nat.mod_lt _ (by decide)⟩ = t := Fin.ext (by show 2048 * (t.val / 2048) + t.val % 2048 = t.val; omega)
  rw [ht]
  rfl

end ref

open Cert.XfKernelIdeal.XfBlock

/-- The reference's run ends with its arguments unchanged and every counter at zero. -/
theorem frame_ref : Cert.quiescent_XfReferenceIdeal := fun m ρ _ =>
  (θ_run Cert.XfReferenceIdeal.defs _ _).mono
    (fun r h => ⟨fun c => (h c).2, Idealize.ShloMosaic.sem_eq_zero_of_no_sems (by decide) r.2⟩)
    (Cert.XfReferenceIdeal.Value.run m ρ)

open Cert.XfReferenceIdeal.Read in
/-- From memories agreeing on the arguments, both run and leave equal arrays. -/
theorem algebraic : Cert.algebraic_XfKernelIdeal_XfReferenceIdeal := by
  intro m g m' g' _ ha
  refine ⟨R4 m, (θ_run Cert.XfKernelIdeal.defs _ _).mono (fun r h c => ⟨(h c).1.trans (final4 m c), (h c).2⟩) (Cert.XfKernelIdeal.Value.run_blocks m g),
    (θ_run Cert.XfReferenceIdeal.defs _ _).mono (fun r h c => ?_) (Cert.XfReferenceIdeal.Value.run m' g')⟩
  obtain ⟨h0, hk⟩ := h c
  obtain ⟨a0, a1, a2, a3⟩ := ha c
  refine ⟨h0.trans ?_, hk⟩
  rw [val_main_v37_eq, a0, a1, a2, a3]
  funext i
  obtain ⟨t, q, rfl⟩ : ∃ t q, i = ix2 (n0 := 4096) (n1 := 1024) t q := ⟨i 0, i 1, Cert.KernelIdeal.XaBlock.eta2 (m := 4096) (n := 1024) i⟩
  exact v37 (aZ m c) (aK m c) (aV m c) (aG m c) t q

end Cert.XfClaim
end
-- ==== Proof.KvClaim.lean ====
module

public import proofs.«01_k».proof.Defs
public import proofs.«01_k».proof.Proof.Gen.KvKernelIdeal.Value
public import proofs.«01_k».proof.Proof.Gen.KvReferenceIdeal.Run
public import proofs.«01_k».proof.Proof.Gen.KvReferenceIdeal.Read
public import Idealize.ShloMosaic.Lib.Pipeline.Value
public import Idealize.ShloMosaic.Lib.Pipeline.ValueKit

/-! The memory's keys and values: the rows of the memory against the rows of the transposed weights, blocks of 1024 columns. -/

@[expose] public section

set_option maxRecDepth 16384

noncomputable section

open Idealize.ShloMosaic Idealize.ShloMosaic.TcCoe Idealize.SL.Sem
open Idealize.ShloMosaic.Pipeline (Dat)

namespace Cert.KvKernelIdeal.KvArray

open Cert.KvKernelIdeal Cert.KvKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A row of the memory against a row of the transposed weights. -/
def prod (A : (⟨2, ![512, 1024]⟩ : Shape).Idx → EReal) (B : (⟨2, ![2048, 1024]⟩ : Shape).Idx → EReal) (r : Fin 512) (q : Fin 2048) : EReal :=
  ∑ k : Fin 1024, A (ix2 r k) * B (ix2 q k)

/-- One grid step's block of it. -/
theorem block (x0 : Vec Ideal S512x1024 .bf16) (x1 : Vec Ideal S1024x1024 .bf16) (r : Fin 512) (q : Fin 1024) :
    out0_2 (F := Ideal) x0 x1 (ix2 r q) = ∑ k : Fin 1024, x0 (ix2 r k) * x1 (ix2 q k) := by
  unfold out0_2
  rw [View.canon_unit_zero zeros]
  rw [View.ld_unit_zero zeros, View.ld_unit_zero zeros]
  unfold k0_pay1
  pointwise [dot_S512x1024_S1024x1024_S512x1024_1_1_0_0_n_n]

variable (m : (ℓ : Loc nD τ sig) → Buf (Elt Ideal) ℓ) (c : Dev nD)

abbrev aA : (⟨2, ![512, 1024]⟩ : Shape).Idx → EReal := m ((c : Thread nD τ).loc main_arg0)
abbrev aB : (⟨2, ![2048, 1024]⟩ : Shape).Idx → EReal := m ((c : Thread nD τ).loc main_arg1)

theorem idx : ∀ t : Fin cfg0.N, win0_0.index t = ![0, 0] ∧ win0_1.index t = ![t.val, 0] ∧ win0_2.index t = ![0, t.val] := by
  decide +kernel
theorem ltN (t : Fin cfg0.N) : t.val < 2 := t.isLt

/-- The place of a block's column in the array. -/
def at' (t : Fin cfg0.N) (r : Fin 1024) : Fin 2048 := ⟨1024 * t.val + r.val, by have := ltN t; omega⟩

theorem b0 (t : Fin cfg0.N) (r : Fin 512) (k : Fin 1024) : iblk m c 0 t (ix2 r k) = aA m c (ix2 r k) := by
  unfold aA
  blk_ext [iblk, V, idx t]
theorem b1 (t : Fin cfg0.N) (q : Fin 1024) (k : Fin 1024) : iblk m c 1 t (ix2 q k) = aB m c (ix2 (at' t q) k) := by
  unfold aB at'
  blk_ext [iblk, V, idx t]

theorem out_eq (t : Fin cfg0.N) (r : Fin 512) (q : Fin 1024) :
    out0_2 (F := Ideal) (iblk m c 0 t) (iblk m c 1 t) (ix2 r q) = prod (aA m c) (aB m c) r (at' t q) := by
  rw [block]
  unfold prod
  simp only [b0, b1]

/-- What the call leaves. -/
def R2 : (⟨2, ![512, 2048]⟩ : Shape).Idx → EReal := fun i => prod (aA m c) (aB m c) (i 0) (i 1)

theorem left2 (t : Fin cfg0.N) (y : (⟨2, ![512, 1024]⟩ : Shape).Idx) (i : (⟨2, ![512, 2048]⟩ : Shape).Idx) (h0 : (i 0).val = (y 0).val)
    (h1 : (i 1).val = 1024 * t.val + (y 1).val) : out0_2 (F := Ideal) (iblk m c 0 t) (iblk m c 1 t) y = R2 m c i := by
  obtain ⟨r, q, rfl⟩ : ∃ r q, y = ix2 (n0 := 512) (n1 := 1024) r q := ⟨y 0, y 1, eta2 (m := 512) (n := 1024) y⟩
  have e0 : i 0 = r := Fin.ext h0
  have e1 : i 1 = at' t q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.KvKernelIdeal.KvArray

namespace Cert.KvClaim

open Cert.KvKernelIdeal.KvArray

/-- The reference's run ends with its arguments unchanged and every counter at zero. -/
theorem frame_ref : Cert.quiescent_KvReferenceIdeal := fun m ρ _ =>
  (θ_run Cert.KvReferenceIdeal.defs _ _).mono
    (fun r h => ⟨fun c => (h c).2, Idealize.ShloMosaic.sem_eq_zero_of_no_sems (by decide) r.2⟩)
    (Cert.KvReferenceIdeal.Value.run m ρ)

open Cert.KvReferenceIdeal.Read

section
open Cert.KvReferenceIdeal Cert.KvReferenceIdeal.Gen

/-- The reference's product. -/
theorem ref_eq (A : (⟨2, ![512, 1024]⟩ : Shape).Idx → EReal) (B : (⟨2, ![2048, 1024]⟩ : Shape).Idx → EReal) (r : Fin 512) (q : Fin 2048) :
    val_main_v3 (F := Ideal) A B (ix2 r q) = prod A B r q := by
  unfold val_main_v3 val_main_v0 val_main_v2 val_main_v1
  pointwise [dot_S512x1024_S1024x2048_S512x2048_1_0_0_1_n_n]
  unfold prod
  rfl
end

/-- From memories agreeing on the arguments, both run and leave equal arrays. -/
theorem algebraic : Cert.algebraic_KvKernelIdeal_KvReferenceIdeal := by
  intro m g m' g' _ ha
  refine ⟨R2 m, (θ_run Cert.KvKernelIdeal.defs _ _).mono (fun r h c => ⟨(h c).1.trans (final2 m c), (h c).2⟩) (Cert.KvKernelIdeal.Value.run_blocks m g),
    (θ_run Cert.KvReferenceIdeal.defs _ _).mono (fun r h c => ?_) (Cert.KvReferenceIdeal.Value.run m' g')⟩
  obtain ⟨h0, hk⟩ := h c
  obtain ⟨a0, a1⟩ := ha c
  refine ⟨h0.trans ?_, hk⟩
  rw [val_main_v3_eq, a0, a1]
  funext i
  obtain ⟨t, q, rfl⟩ : ∃ t q, i = ix2 (n0 := 512) (n1 := 2048) t q := ⟨i 0, i 1, eta2 (m := 512) (n := 2048) i⟩
  exact ref_eq (aA m c) (aB m c) t q

end Cert.KvClaim
end
-- ==== Proof.GkvClaim.lean ====
module

public import proofs.«01_k».proof.Defs
public import proofs.«01_k».proof.Proof.Gen.GkvKernelIdeal.Value
public import proofs.«01_k».proof.Proof.Gen.GkvReferenceIdeal.Run
public import proofs.«01_k».proof.Proof.Gen.GkvReferenceIdeal.Read
public import Idealize.ShloMosaic.Lib.Pipeline.Value
public import Idealize.ShloMosaic.Lib.Pipeline.ValueKit

/-! The gradient of the weights of the memory's keys and values, transposed: a sum over the memory's rows, blocks of 512 rows of the result. -/

@[expose] public section

set_option maxRecDepth 16384

noncomputable section

open Idealize.ShloMosaic Idealize.ShloMosaic.TcCoe Idealize.SL.Sem
open Idealize.ShloMosaic.Pipeline (Dat)

namespace Cert.GkvKernelIdeal.GkvArray

open Cert.GkvKernelIdeal Cert.GkvKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A column of the cotangent against a column of the memory. -/
def prod (A : (⟨2, ![512, 2048]⟩ : Shape).Idx → EReal) (B : (⟨2, ![512, 1024]⟩ : Shape).Idx → EReal) (r : Fin 2048) (q : Fin 1024) : EReal :=
  ∑ k : Fin 512, A (ix2 k r) * B (ix2 k q)

/-- One grid step's block of it. -/
theorem block (x0 : Vec Ideal S512x512 .bf16) (x1 : Vec Ideal S512x1024 .bf16) (r : Fin 512) (q : Fin 1024) :
    out0_2 (F := Ideal) x0 x1 (ix2 r q) = ∑ k : Fin 512, x0 (ix2 k r) * x1 (ix2 k q) := by
  unfold out0_2
  rw [View.canon_unit_zero zeros]
  rw [View.ld_unit_zero zeros, View.ld_unit_zero zeros]
  unfold k0_pay1
  pointwise [dot_S512x512_S512x1024_S512x1024_0_0_1_1_n_n]

variable (m : (ℓ : Loc nD τ sig) → Buf (Elt Ideal) ℓ) (c : Dev nD)

abbrev aA : (⟨2, ![512, 2048]⟩ : Shape).Idx → EReal := m ((c : Thread nD τ).loc main_arg0)
abbrev aB : (⟨2, ![512, 1024]⟩ : Shape).Idx → EReal := m ((c : Thread nD τ).loc main_arg1)

theorem idx : ∀ t : Fin cfg0.N, win0_0.index t = ![0, t.val] ∧ win0_1.index t = ![0, 0] ∧ win0_2.index t = ![t.val, 0] := by
  decide +kernel
theorem ltN (t : Fin cfg0.N) : t.val < 4 := t.isLt

/-- The place of a block's row in the array. -/
def at' (t : Fin cfg0.N) (r : Fin 512) : Fin 2048 := ⟨512 * t.val + r.val, by have := ltN t; omega⟩

theorem b0 (t : Fin cfg0.N) (k : Fin 512) (r : Fin 512) : iblk m c 0 t (ix2 k r) = aA m c (ix2 k (at' t r)) := by
  unfold aA at'
  blk_ext [iblk, V, idx t]
theorem b1 (t : Fin cfg0.N) (k : Fin 512) (q : Fin 1024) : iblk m c 1 t (ix2 k q) = aB m c (ix2 k q) := by
  unfold aB
  blk_ext [iblk, V, idx t]

theorem out_eq (t : Fin cfg0.N) (r : Fin 512) (q : Fin 1024) :
    out0_2 (F := Ideal) (iblk m c 0 t) (iblk m c 1 t) (ix2 r q) = prod (aA m c) (aB m c) (at' t r) q := by
  rw [block]
  unfold prod
  simp only [b0, b1]

/-- What the call leaves. -/
def R2 : (⟨2, ![2048, 1024]⟩ : Shape).Idx → EReal := fun i => prod (aA m c) (aB m c) (i 0) (i 1)

theorem left2 (t : Fin cfg0.N) (y : (⟨2, ![512, 1024]⟩ : Shape).Idx) (i : (⟨2, ![2048, 1024]⟩ : Shape).Idx) (h0 : (i 0).val = 512 * t.val + (y 0).val)
    (h1 : (i 1).val = (y 1).val) : out0_2 (F := Ideal) (iblk m c 0 t) (iblk m c 1 t) y = R2 m c i := by
  obtain ⟨r, q, rfl⟩ : ∃ r q, y = ix2 (n0 := 512) (n1 := 1024) r q := ⟨y 0, y 1, eta2 (m := 512) (n := 1024) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.GkvKernelIdeal.GkvArray

namespace Cert.GkvClaim

open Cert.GkvKernelIdeal.GkvArray

/-- The reference's run ends with its arguments unchanged and every counter at zero. -/
theorem frame_ref : Cert.quiescent_GkvReferenceIdeal := fun m ρ _ =>
  (θ_run Cert.GkvReferenceIdeal.defs _ _).mono
    (fun r h => ⟨fun c => (h c).2, Idealize.ShloMosaic.sem_eq_zero_of_no_sems (by decide) r.2⟩)
    (Cert.GkvReferenceIdeal.Value.run m ρ)

open Cert.GkvReferenceIdeal.Read

section
open Cert.GkvReferenceIdeal Cert.GkvReferenceIdeal.Gen

/-- The reference's product. -/
theorem ref_eq (A : (⟨2, ![512, 2048]⟩ : Shape).Idx → EReal) (B : (⟨2, ![512, 1024]⟩ : Shape).Idx → EReal) (r : Fin 2048) (q : Fin 1024) :
    val_main_v7 (F := Ideal) A B (ix2 r q) = prod A B r q := by
  unfold val_main_v7 val_main_v6 val_main_v5 val_main_v4 val_main_v3 val_main_v0
  pointwise [dot_S512x2048_S512x1024_S2048x1024_0_0_1_1_n_n]
  unfold prod
  rfl
end

/-- From memories agreeing on the arguments, both run and leave equal arrays. -/
theorem algebraic : Cert.algebraic_GkvKernelIdeal_GkvReferenceIdeal := by
  intro m g m' g' _ ha
  refine ⟨R2 m, (θ_run Cert.GkvKernelIdeal.defs _ _).mono (fun r h c => ⟨(h c).1.trans (final2 m c), (h c).2⟩) (Cert.GkvKernelIdeal.Value.run_blocks m g),
    (θ_run Cert.GkvReferenceIdeal.defs _ _).mono (fun r h c => ?_) (Cert.GkvReferenceIdeal.Value.run m' g')⟩
  obtain ⟨h0, hk⟩ := h c
  obtain ⟨a0, a1⟩ := ha c
  refine ⟨h0.trans ?_, hk⟩
  rw [val_main_v7_eq, a0, a1]
  funext i
  obtain ⟨t, q, rfl⟩ : ∃ t q, i = ix2 (n0 := 2048) (n1 := 1024) t q := ⟨i 0, i 1, eta2 (m := 2048) (n := 1024) i⟩
  exact ref_eq (aA m c) (aB m c) t q

end Cert.GkvClaim
end
-- ==== Proof.DmClaim.lean ====
module

public import proofs.«01_k».proof.Defs
public import proofs.«01_k».proof.Proof.Gen.DmKernelIdeal.Value
public import proofs.«01_k».proof.Proof.Gen.DmReferenceIdeal.Run
public import proofs.«01_k».proof.Proof.Gen.DmReferenceIdeal.Read
public import Idealize.ShloMosaic.Lib.Pipeline.Value
public import Idealize.ShloMosaic.Lib.Pipeline.ValueKit

/-! The gradient of the memory's normed rows: the cotangent of the keys and values times the transposed weights, in one block. -/

@[expose] public section

set_option maxRecDepth 16384

noncomputable section

open Idealize.ShloMosaic Idealize.ShloMosaic.TcCoe Idealize.SL.Sem
open Idealize.ShloMosaic.Pipeline (Dat)

namespace Cert.DmKernelIdeal.DmArray

open Cert.DmKernelIdeal Cert.DmKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A row of the cotangent against a column of the transposed weights. -/
def prod (A : (⟨2, ![512, 2048]⟩ : Shape).Idx → EReal) (B : (⟨2, ![2048, 1024]⟩ : Shape).Idx → EReal) (r : Fin 512) (q : Fin 1024) : EReal :=
  ∑ k : Fin 2048, A (ix2 r k) * B (ix2 k q)

/-- One grid step's block of it. -/
theorem block (x0 : Vec Ideal S512x2048 .bf16) (x1 : Vec Ideal S2048x1024 .bf16) (r : Fin 512) (q : Fin 1024) :
    out0_2 (F := Ideal) x0 x1 (ix2 r q) = ∑ k : Fin 2048, x0 (ix2 r k) * x1 (ix2 k q) := by
  unfold out0_2
  rw [View.canon_unit_zero zeros]
  rw [View.ld_unit_zero zeros, View.ld_unit_zero zeros]
  unfold k0_pay1
  pointwise [dot_S512x2048_S2048x1024_S512x1024_1_0_0_1_n_n]

variable (m : (ℓ : Loc nD τ sig) → Buf (Elt Ideal) ℓ) (c : Dev nD)

abbrev aA : (⟨2, ![512, 2048]⟩ : Shape).Idx → EReal := m ((c : Thread nD τ).loc main_arg0)
abbrev aB : (⟨2, ![2048, 1024]⟩ : Shape).Idx → EReal := m ((c : Thread nD τ).loc main_arg1)

theorem idx : ∀ t : Fin cfg0.N, win0_0.index t = ![0, 0] ∧ win0_1.index t = ![0, 0] ∧ win0_2.index t = ![0, 0] := by
  decide +kernel

theorem b0 (t : Fin cfg0.N) (r : Fin 512) (k : Fin 2048) : iblk m c 0 t (ix2 r k) = aA m c (ix2 r k) := by
  unfold aA
  blk_ext [iblk, V, idx t]
theorem b1 (t : Fin cfg0.N) (k : Fin 2048) (q : Fin 1024) : iblk m c 1 t (ix2 k q) = aB m c (ix2 k q) := by
  unfold aB
  blk_ext [iblk, V, idx t]

theorem out_eq (t : Fin cfg0.N) (r : Fin 512) (q : Fin 1024) :
    out0_2 (F := Ideal) (iblk m c 0 t) (iblk m c 1 t) (ix2 r q) = prod (aA m c) (aB m c) r q := by
  rw [block]
  unfold prod
  simp only [b0, b1]

/-- What the call leaves. -/
def R2 : (⟨2, ![512, 1024]⟩ : Shape).Idx → EReal := fun i => prod (aA m c) (aB m c) (i 0) (i 1)

theorem left2 (t : Fin cfg0.N) (y : (⟨2, ![512, 1024]⟩ : Shape).Idx) (i : (⟨2, ![512, 1024]⟩ : Shape).Idx) (h0 : (i 0).val = (y 0).val)
    (h1 : (i 1).val = (y 1).val) : out0_2 (F := Ideal) (iblk m c 0 t) (iblk m c 1 t) y = R2 m c i := by
  obtain ⟨r, q, rfl⟩ : ∃ r q, y = ix2 (n0 := 512) (n1 := 1024) r q := ⟨y 0, y 1, eta2 (m := 512) (n := 1024) y⟩
  have e0 : i 0 = r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.DmKernelIdeal.DmArray

namespace Cert.DmClaim

open Cert.DmKernelIdeal.DmArray

/-- The reference's run ends with its arguments unchanged and every counter at zero. -/
theorem frame_ref : Cert.quiescent_DmReferenceIdeal := fun m ρ _ =>
  (θ_run Cert.DmReferenceIdeal.defs _ _).mono
    (fun r h => ⟨fun c => (h c).2, Idealize.ShloMosaic.sem_eq_zero_of_no_sems (by decide) r.2⟩)
    (Cert.DmReferenceIdeal.Value.run m ρ)

open Cert.DmReferenceIdeal.Read

section
open Cert.DmReferenceIdeal Cert.DmReferenceIdeal.Gen

/-- The reference's product. -/
theorem ref_eq (A : (⟨2, ![512, 2048]⟩ : Shape).Idx → EReal) (B : (⟨2, ![2048, 1024]⟩ : Shape).Idx → EReal) (r : Fin 512) (q : Fin 1024) :
    val_main_v5 (F := Ideal) A B (ix2 r q) = prod A B r q := by
  unfold val_main_v5 val_main_v4 val_main_v1 val_main_v0
  pointwise [dot_S512x2048_S1024x2048_S512x1024_1_1_0_0_n_n]
  unfold prod
  rfl
end

/-- From memories agreeing on the arguments, both run and leave equal arrays. -/
theorem algebraic : Cert.algebraic_DmKernelIdeal_DmReferenceIdeal := by
  intro m g m' g' _ ha
  refine ⟨R2 m, (θ_run Cert.DmKernelIdeal.defs _ _).mono (fun r h c => ⟨(h c).1.trans (final2 m c), (h c).2⟩) (Cert.DmKernelIdeal.Value.run_blocks m g),
    (θ_run Cert.DmReferenceIdeal.defs _ _).mono (fun r h c => ?_) (Cert.DmReferenceIdeal.Value.run m' g')⟩
  obtain ⟨h0, hk⟩ := h c
  obtain ⟨a0, a1⟩ := ha c
  refine ⟨h0.trans ?_, hk⟩
  rw [val_main_v5_eq, a0, a1]
  funext i
  obtain ⟨t, q, rfl⟩ : ∃ t q, i = ix2 (n0 := 512) (n1 := 1024) t q := ⟨i 0, i 1, eta2 (m := 512) (n := 1024) i⟩
  exact ref_eq (aA m c) (aB m c) t q

end Cert.DmClaim
end
-- ==== Proof.ZffClaim.lean ====
module

public import proofs.«01_k».proof.Defs
public import proofs.«01_k».proof.Proof.Gen.ZffKernelIdeal.Value
public import proofs.«01_k».proof.Proof.Gen.ZffReferenceIdeal.Run
public import proofs.«01_k».proof.Proof.Gen.ZffReferenceIdeal.Read
public import Idealize.ShloMosaic.Lib.Pipeline.Value
public import Idealize.ShloMosaic.Lib.Pipeline.ValueKit

/-! The forget gates' columns of the projections: the rows against the rows of the transposed weights, blocks of 1024 rows. -/

@[expose] public section

set_option maxRecDepth 16384

noncomputable section

open Idealize.ShloMosaic Idealize.ShloMosaic.TcCoe Idealize.SL.Sem
open Idealize.ShloMosaic.Pipeline (Dat)

namespace Cert.ZffKernelIdeal.ZffArray

open Cert.ZffKernelIdeal Cert.ZffKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- A row against a row of the transposed weights. -/
def prod (A : (⟨2, ![4096, 1024]⟩ : Shape).Idx → EReal) (B : (⟨2, ![128, 1024]⟩ : Shape).Idx → EReal) (r : Fin 4096) (q : Fin 128) : EReal :=
  ∑ k : Fin 1024, A (ix2 r k) * B (ix2 q k)

/-- One grid step's block of it. -/
theorem block (x0 : Vec Ideal S1024x1024 .bf16) (x1 : Vec Ideal S128x1024 .bf16) (r : Fin 1024) (q : Fin 128) :
    out0_2 (F := Ideal) x0 x1 (ix2 r q) = ∑ k : Fin 1024, x0 (ix2 r k) * x1 (ix2 q k) := by
  unfold out0_2
  rw [View.canon_unit_zero zeros]
  rw [View.ld_unit_zero zeros, View.ld_unit_zero zeros]
  unfold k0_pay1
  pointwise [dot_S1024x1024_S128x1024_S1024x128_1_1_0_0_n_n]

variable (m : (ℓ : Loc nD τ sig) → Buf (Elt Ideal) ℓ) (c : Dev nD)

abbrev aA : (⟨2, ![4096, 1024]⟩ : Shape).Idx → EReal := m ((c : Thread nD τ).loc main_arg0)
abbrev aB : (⟨2, ![128, 1024]⟩ : Shape).Idx → EReal := m ((c : Thread nD τ).loc main_arg1)

theorem idx : ∀ t : Fin cfg0.N, win0_0.index t = ![t.val, 0] ∧ win0_1.index t = ![0, 0] ∧ win0_2.index t = ![t.val, 0] := by
  decide +kernel
theorem ltN (t : Fin cfg0.N) : t.val < 4 := t.isLt

/-- The place of a block's row in the array. -/
def at' (t : Fin cfg0.N) (r : Fin 1024) : Fin 4096 := ⟨1024 * t.val + r.val, by have := ltN t; omega⟩

theorem b0 (t : Fin cfg0.N) (r : Fin 1024) (k : Fin 1024) : iblk m c 0 t (ix2 r k) = aA m c (ix2 (at' t r) k) := by
  unfold aA at'
  blk_ext [iblk, V, idx t]
theorem b1 (t : Fin cfg0.N) (q : Fin 128) (k : Fin 1024) : iblk m c 1 t (ix2 q k) = aB m c (ix2 q k) := by
  unfold aB
  blk_ext [iblk, V, idx t]

theorem out_eq (t : Fin cfg0.N) (r : Fin 1024) (q : Fin 128) :
    out0_2 (F := Ideal) (iblk m c 0 t) (iblk m c 1 t) (ix2 r q) = prod (aA m c) (aB m c) (at' t r) q := by
  rw [block]
  unfold prod
  simp only [b0, b1]

/-- What the call leaves. -/
def R2 : (⟨2, ![4096, 128]⟩ : Shape).Idx → EReal := fun i => prod (aA m c) (aB m c) (i 0) (i 1)

theorem left2 (t : Fin cfg0.N) (y : (⟨2, ![1024, 128]⟩ : Shape).Idx) (i : (⟨2, ![4096, 128]⟩ : Shape).Idx) (h0 : (i 0).val = 1024 * t.val + (y 0).val)
    (h1 : (i 1).val = (y 1).val) : out0_2 (F := Ideal) (iblk m c 0 t) (iblk m c 1 t) y = R2 m c i := by
  obtain ⟨r, q, rfl⟩ : ∃ r q, y = ix2 (n0 := 1024) (n1 := 128) r q := ⟨y 0, y 1, eta2 (m := 1024) (n := 128) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.ZffKernelIdeal.ZffArray

namespace Cert.ZffClaim

open Cert.ZffKernelIdeal.ZffArray

/-- The reference's run ends with its arguments unchanged and every counter at zero. -/
theorem frame_ref : Cert.quiescent_ZffReferenceIdeal := fun m ρ _ =>
  (θ_run Cert.ZffReferenceIdeal.defs _ _).mono
    (fun r h => ⟨fun c => (h c).2, Idealize.ShloMosaic.sem_eq_zero_of_no_sems (by decide) r.2⟩)
    (Cert.ZffReferenceIdeal.Value.run m ρ)

open Cert.ZffReferenceIdeal.Read

section
open Cert.ZffReferenceIdeal Cert.ZffReferenceIdeal.Gen

/-- The reference's product. -/
theorem ref_eq (A : (⟨2, ![4096, 1024]⟩ : Shape).Idx → EReal) (B : (⟨2, ![128, 1024]⟩ : Shape).Idx → EReal) (r : Fin 4096) (q : Fin 128) :
    val_main_v3 (F := Ideal) A B (ix2 r q) = prod A B r q := by
  unfold val_main_v3 val_main_v0 val_main_v2 val_main_v1
  pointwise [dot_S4096x1024_S1024x128_S4096x128_1_0_0_1_n_n]
  unfold prod
  rfl
end

/-- From memories agreeing on the arguments, both run and leave equal arrays. -/
theorem algebraic : Cert.algebraic_ZffKernelIdeal_ZffReferenceIdeal := by
  intro m g m' g' _ ha
  refine ⟨R2 m, (θ_run Cert.ZffKernelIdeal.defs _ _).mono (fun r h c => ⟨(h c).1.trans (final2 m c), (h c).2⟩) (Cert.ZffKernelIdeal.Value.run_blocks m g),
    (θ_run Cert.ZffReferenceIdeal.defs _ _).mono (fun r h c => ?_) (Cert.ZffReferenceIdeal.Value.run m' g')⟩
  obtain ⟨h0, hk⟩ := h c
  obtain ⟨a0, a1⟩ := ha c
  refine ⟨h0.trans ?_, hk⟩
  rw [val_main_v3_eq, a0, a1]
  funext i
  obtain ⟨t, q, rfl⟩ : ∃ t q, i = ix2 (n0 := 4096) (n1 := 128) t q := ⟨i 0, i 1, eta2 (m := 4096) (n := 128) i⟩
  exact ref_eq (aA m c) (aB m c) t q

end Cert.ZffClaim
end
-- ==== Proof.NfClaim.lean ====
module

public import proofs.«01_k».proof.Defs
public import proofs.«01_k».proof.Proof.RmsSpec
public import proofs.«01_k».proof.Proof.Gen.NfKernelIdeal.Value
public import proofs.«01_k».proof.Proof.Gen.NfReferenceIdeal.Run
public import proofs.«01_k».proof.Proof.Gen.NfReferenceIdeal.Read
public import Idealize.ShloMosaic.Lib.Pipeline.Value
public import Idealize.ShloMosaic.Lib.Pipeline.ValueKit

/-! The norm's forward call, blocks of 1024 rows. -/

@[expose] public section

set_option maxRecDepth 16384

noncomputable section

open Idealize.ShloMosaic Idealize.ShloMosaic.TcCoe Idealize.SL.Sem
open Idealize.ShloMosaic.Pipeline (Dat)

namespace Cert.NfKernelIdeal.NfArray

open Cert.NfKernelIdeal Cert.NfKernelIdeal.Gen

theorem zeros : (![0, 0] : Fin 2 → Nat) = fun _ => 0 := by
  funext a
  match a with
  | ⟨0, _⟩ => rfl
  | ⟨1, _⟩ => rfl

theorem eta2 {m n : ℕ} (y : (⟨2, ![m, n]⟩ : Shape).Idx) : y = ix2 (y 0) (y 1) := by
  funext a
  match a with
  | ⟨0, _⟩ => rfl
  | ⟨1, _⟩ => rfl

/-- An element of a normed row. -/
def norm (X : (⟨2, ![4096, 1024]⟩ : Shape).Idx → EReal) (G : (⟨2, ![1, 1024]⟩ : Shape).Idx → EReal) (r : Fin 4096) (q : Fin 1024) : EReal :=
  Rms.xh (fun a => X (ix2 r a)) q * G (ix2 0 q)

/-- One grid step's block of it. -/
theorem block (x0 : Vec Ideal S1024x1024 .f32) (x1 : Vec Ideal S1x1024 .f32) (r : Fin 1024) (q : Fin 1024) :
    out0_2 (F := Ideal) x0 x1 (ix2 r q) = Rms.xh (fun a => x0 (ix2 r a)) q * x1 (ix2 0 q) := by
  unfold out0_2
  rw [View.canon_unit_zero zeros]
  rw [View.ld_unit_zero zeros, View.ld_unit_zero zeros]
  unfold k0_pay1
  pointwise
  rfl

variable (m : (ℓ : Loc nD τ sig) → Buf (Elt Ideal) ℓ) (c : Dev nD)

abbrev aX : (⟨2, ![4096, 1024]⟩ : Shape).Idx → EReal := m ((c : Thread nD τ).loc main_arg0)
abbrev aG : (⟨2, ![1, 1024]⟩ : Shape).Idx → EReal := m ((c : Thread nD τ).loc main_arg1)

theorem idx : ∀ t : Fin cfg0.N, win0_0.index t = ![t.val, 0] ∧ win0_1.index t = ![0, 0] ∧ win0_2.index t = ![t.val, 0] := by
  decide +kernel
theorem ltN (t : Fin cfg0.N) : t.val < 4 := t.isLt

/-- The place of a block's row in the array. -/
def at' (t : Fin cfg0.N) (r : Fin 1024) : Fin 4096 := ⟨1024 * t.val + r.val, by have := ltN t; omega⟩

theorem b0 (t : Fin cfg0.N) (r : Fin 1024) (k : Fin 1024) : iblk m c 0 t (ix2 r k) = aX m c (ix2 (at' t r) k) := by
  unfold aX at'
  blk_ext [iblk, V, idx t]
theorem b1 (t : Fin cfg0.N) (k : Fin 1) (q : Fin 1024) : iblk m c 1 t (ix2 k q) = aG m c (ix2 k q) := by
  unfold aG
  blk_ext [iblk, V, idx t]

theorem out_eq (t : Fin cfg0.N) (r : Fin 1024) (q : Fin 1024) :
    out0_2 (F := Ideal) (iblk m c 0 t) (iblk m c 1 t) (ix2 r q) = norm (aX m c) (aG m c) (at' t r) q := by
  rw [block]
  unfold norm
  simp only [b0, b1]

/-- What the call leaves. -/
def R2 : (⟨2, ![4096, 1024]⟩ : Shape).Idx → EReal := fun i => norm (aX m c) (aG m c) (i 0) (i 1)

theorem left2 (t : Fin cfg0.N) (y : (⟨2, ![1024, 1024]⟩ : Shape).Idx) (i : (⟨2, ![4096, 1024]⟩ : Shape).Idx) (h0 : (i 0).val = 1024 * t.val + (y 0).val)
    (h1 : (i 1).val = (y 1).val) : out0_2 (F := Ideal) (iblk m c 0 t) (iblk m c 1 t) y = R2 m c i := by
  obtain ⟨r, q, rfl⟩ : ∃ r q, y = ix2 (n0 := 1024) (n1 := 1024) r q := ⟨y 0, y 1, eta2 (m := 1024) (n := 1024) y⟩
  have e0 : i 0 = at' t r := Fin.ext h0
  have e1 : i 1 = q := Fin.ext h1
  unfold R2
  rw [e0, e1]
  exact out_eq m c t r q

theorem final2 : (dats m 0 c).arrAt 2 cfg0.N = R2 m c := by
  refine (dats m 0 c).arrAt_eq_of_covers 2 _ (by decide +kernel) fun t hf y => ?_
  blk_simp
  rw [after0_2]
  refine left2 m c t _ _ ?_ ?_
  · blk_simp [idx t]; try omega
  · blk_simp [idx t]; try omega

end Cert.NfKernelIdeal.NfArray

namespace Cert.NfClaim

open Cert.NfKernelIdeal.NfArray

/-- The reference's run ends with its arguments unchanged and every counter at zero. -/
theorem frame_ref : Cert.quiescent_NfReferenceIdeal := fun m ρ _ =>
  (θ_run Cert.NfReferenceIdeal.defs _ _).mono
    (fun r h => ⟨fun c => (h c).2, Idealize.ShloMosaic.sem_eq_zero_of_no_sems (by decide) r.2⟩)
    (Cert.NfReferenceIdeal.Value.run m ρ)

open Cert.NfReferenceIdeal.Read

section
open Cert.NfReferenceIdeal Cert.NfReferenceIdeal.Gen

/-- The reference's norm. -/
theorem ref_eq (X : (⟨2, ![4096, 1024]⟩ : Shape).Idx → EReal) (G : (⟨2, ![1, 1024]⟩ : Shape).Idx → EReal) (r : Fin 4096) (q : Fin 1024) :
    val_main_v12 (F := Ideal) X G (ix2 r q) = norm X G r q := by
  unfold val_main_v12 val_main_v11 val_main_v10 val_main_v9 val_main_v8 val_main_v7 val_main_v6 val_main_v5 val_main_cst_1 val_main_v4 val_main_v3
    val_main_cst_0 val_main_v2 val_main_v1 val_main_cst val_main_v0
  pointwise
  rfl
end

/-- From memories agreeing on the arguments, both run and leave equal arrays. -/
theorem algebraic : Cert.algebraic_NfKernelIdeal_NfReferenceIdeal := by
  intro m g m' g' _ ha
  refine ⟨R2 m, (θ_run Cert.NfKernelIdeal.defs _ _).mono (fun r h c => ⟨(h c).1.trans (final2 m c), (h c).2⟩) (Cert.NfKernelIdeal.Value.run_blocks m g),
    (θ_run Cert.NfReferenceIdeal.defs _ _).mono (fun r h c => ?_) (Cert.NfReferenceIdeal.Value.run m' g')⟩
  obtain ⟨h0, hk⟩ := h c
  obtain ⟨a0, a1⟩ := ha c
  refine ⟨h0.trans ?_, hk⟩
  rw [val_main_v12_eq, a0, a1]
  funext i
  obtain ⟨t, q, rfl⟩ : ∃ t q, i = ix2 (n0 := 4096) (n1 := 1024) t q := ⟨i 0, i 1, eta2 (m := 4096) (n := 1024) i⟩
  exact ref_eq (aX m c) (aG m c) t q

end Cert.NfClaim
end
-- ==== Proof.AdamSpec.lean ====
module

public import Idealize.ShloMosaic.Lib.Pipeline.ValueKit

/-! One element of the optimiser's step: the two moments, and the difference of the weight. -/

@[expose] public section

noncomputable section

open Idealize.ShloMosaic

namespace Cert.Adam

/-- A constant of the programs. -/
def k (b : BitVec 32) : EReal := FloatOps.ofBits (F := Ideal) .f32 b

/-- The first moment. -/
def mom (g m : EReal) : EReal := k 0x3F666666#32 * m + k 0x3DCCCCCD#32 * g

/-- The second moment. -/
def sec (g v : EReal) : EReal := k 0x3F7FBE77#32 * v + k 0x3A83126F#32 * (g * g)

/-- The difference of the weight. -/
def dif (w g m v : EReal) : EReal :=
  k 0xBA83126F#32 * (FloatOps.divf (F := Ideal) (φ := .f32) (FloatOps.divf (F := Ideal) (φ := .f32) (mom g m) (k 0x3F26BD02#32))
      (FloatOps.sqrt (F := Ideal) (φ := .f32) (FloatOps.divf (F := Ideal) (φ := .f32) (sec g v) (k 0x3C231ACC#32)) + k 0x322BCC77#32)
    + k 0x3C23D70A#32 * w)

theorem eta2 {m n : ℕ} (y : (⟨2, ![m, n]⟩ : Shape).Idx) : y = ix2 (y 0) (y 1) := by
  funext a
  match a with
  | ⟨0, _⟩ => rfl
  | ⟨1, _⟩ => rfl

theorem eta3 {m n : ℕ} (y : (⟨3, ![1, m, n]⟩ : Shape).Idx) : y = ix3 0 (y 1) (y 2) := by
  funext a
  match a with
  | ⟨0, h⟩ => exact Subsingleton.elim (α := Fin 1) _ _
  | ⟨1, _⟩ => rfl
  | ⟨2, _⟩ => rfl

end Cert.Adam
end
-- ==== Proof.AnClaim.lean ====
module

public import proofs.«01_k».proof.Defs
public import proofs.«01_k».proof.Proof.AdamSpec
public import proofs.«01_k».proof.Proof.Gen.AnKernelIdeal.Value
public import proofs.«01_k».proof.Proof.Gen.AnReferenceIdeal.Run
public import proofs.«01_k».proof.Proof.Gen.AnReferenceIdeal.Read
public import Idealize.ShloMosaic.Lib.Pipeline.Value
public import Idealize.ShloMosaic.Lib.Pipeline.ValueKit

/-! The optimiser's call over an array of 1 row and 1024 columns, in one block. -/

@[expose] public section

set_option maxRecDepth 16384

noncomputable section

open Idealize.ShloMosaic Idealize.ShloMosaic.TcCoe Idealize.SL.Sem

namespace Cert.AnKernelIdeal.AdamArray

open Cert.AnKernelIdeal Cert.AnKernelIdeal.Gen Cert.AnKernelIdeal.Value

theorem call5 (g m : (⟨2, ![1, 1024]⟩ : Shape).Idx → EReal) (i : (⟨2, ![1, 1024]⟩ : Shape).Idx) : G5 (F := Ideal) g m i = Adam.mom (g i) (m i) := by
  unfold G5
  pointwise
  rfl

theorem call6 (g v : (⟨2, ![1, 1024]⟩ : Shape).Idx → EReal) (i : (⟨2, ![1, 1024]⟩ : Shape).Idx) : G6 (F := Ideal) g v i = Adam.sec (g i) (v i) := by
  unfold G6
  pointwise
  rfl

theorem call4 (w g m v : (⟨2, ![1, 1024]⟩ : Shape).Idx → EReal) (i : (⟨2, ![1, 1024]⟩ : Shape).Idx) : G4 (F := Ideal) g m v w i = Adam.dif (w i) (g i) (m i) (v i) := by
  unfold G4
  pointwise
  rfl

end Cert.AnKernelIdeal.AdamArray

namespace Cert.AnClaim

open Cert.AnKernelIdeal.AdamArray

/-- The reference's run ends with its arguments unchanged and every counter at zero. -/
theorem frame_ref : Cert.quiescent_AnReferenceIdeal := fun m ρ _ =>
  (θ_run Cert.AnReferenceIdeal.defs _ _).mono
    (fun r h => ⟨fun c => (h c).2.2.2, Idealize.ShloMosaic.sem_eq_zero_of_no_sems (by decide) r.2⟩)
    (Cert.AnReferenceIdeal.Value.run m ρ)

open Cert.AnReferenceIdeal.Read

section
open Cert.AnReferenceIdeal Cert.AnReferenceIdeal.Gen

theorem ref5 (g m : (⟨2, ![1, 1024]⟩ : Shape).Idx → EReal) (i : (⟨2, ![1, 1024]⟩ : Shape).Idx) : val_main_v4 (F := Ideal) g m i = Adam.mom (g i) (m i) := by
  unfold val_main_v4 val_main_v3 val_main_v2 val_main_cst_0 val_main_v1 val_main_v0 val_main_cst
  pointwise
  rfl

theorem ref6 (g v : (⟨2, ![1, 1024]⟩ : Shape).Idx → EReal) (i : (⟨2, ![1, 1024]⟩ : Shape).Idx) : val_main_v10 (F := Ideal) g v i = Adam.sec (g i) (v i) := by
  unfold val_main_v10 val_main_v9 val_main_v8 val_main_cst_2 val_main_v7 val_main_v6 val_main_v5 val_main_cst_1
  pointwise
  rfl

theorem ref4 (w g m v : (⟨2, ![1, 1024]⟩ : Shape).Idx → EReal) (i : (⟨2, ![1, 1024]⟩ : Shape).Idx) :
    val_main_v23 (F := Ideal) w g m v i = Adam.dif (w i) (g i) (m i) (v i) := by
  unfold val_main_v23 val_main_v22 val_main_cst_7 val_main_v21 val_main_v20 val_main_v19 val_main_cst_6 val_main_v18 val_main_v17 val_main_v16
    val_main_cst_5 val_main_v15 val_main_v14 val_main_v13 val_main_cst_4 val_main_v12 val_main_v11 val_main_cst_3
  pointwise [ref5, ref6]
  rfl
end

/-- From memories agreeing on the arguments, both run and leave equal arrays. -/
theorem algebraic : Cert.algebraic_AnKernelIdeal_AnReferenceIdeal := by
  intro m g m' g' _ ha
  refine ⟨_, _, _, Cert.AnKernelIdeal.Value.run m g,
    (θ_run Cert.AnReferenceIdeal.defs _ _).mono (fun r h c => ?_) (Cert.AnReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v23_eq, a0, a1, a2, a3]
    funext i
    exact (ref4 _ _ _ _ i).trans (call4 _ _ _ _ i).symm
  · rw [val_main_v4_eq, a1, a2]
    funext i
    exact (ref5 _ _ i).trans (call5 _ _ i).symm
  · rw [val_main_v10_eq, a1, a3]
    funext i
    exact (ref6 _ _ i).trans (call6 _ _ i).symm

end Cert.AnClaim
end
-- ==== Proof.AcClaim.lean ====
module

public import proofs.«01_k».proof.Defs
public import proofs.«01_k».proof.Proof.AdamSpec
public import proofs.«01_k».proof.Proof.Gen.AcKernelIdeal.Frame
public import proofs.«01_k».proof.Proof.Gen.AcReferenceIdeal.Run
public import proofs.«01_k».proof.Proof.Gen.AcReferenceIdeal.Read
public import Idealize.ShloMosaic.Lib.Pipeline.Value
public import Idealize.ShloMosaic.Lib.Pipeline.ValueKit

/-! The optimiser's call over 3 rows of 128 columns, in one block, with the host's reshapes around it. -/

@[expose] public section

set_option maxRecDepth 16384

noncomputable section

open Idealize.ShloMosaic Idealize.ShloMosaic.TcCoe Idealize.SL.Sem
open Idealize.ShloMosaic.Pipeline (Dat)

namespace Cert.AcKernelIdeal.AdamArray

open Cert.AcKernelIdeal Cert.AcKernelIdeal.Gen
open Cert.Adam (eta2 eta3)

theorem zeros : (![0, 0] : Fin 2 → Nat) = fun _ => 0 := by
  funext a
  match a with
  | ⟨0, _⟩ => rfl
  | ⟨1, _⟩ => rfl

/-- One grid step's blocks. -/
theorem pay1 (x1 x2 : Vec Ideal S3x128 .f32) (y : (⟨2, ![3, 128]⟩ : Shape).Idx) : k0_pay1 (F := Ideal) x1 x2 y = Adam.mom (x1 y) (x2 y) := by
  unfold k0_pay1
  pointwise
  rfl
theorem pay2 (x1 x3 : Vec Ideal S3x128 .f32) (y : (⟨2, ![3, 128]⟩ : Shape).Idx) : k0_pay2 (F := Ideal) x1 x3 y = Adam.sec (x1 y) (x3 y) := by
  unfold k0_pay2
  pointwise
  rfl
theorem pay3 (x0 x1 x2 x3 : Vec Ideal S3x128 .f32) (y : (⟨2, ![3, 128]⟩ : Shape).Idx) :
    k0_pay3 (F := Ideal) x1 x2 x3 x0 y = Adam.dif (x0 y) (x1 y) (x2 y) (x3 y) := by
  unfold k0_pay3
  pointwise [pay1, pay2]
  rfl
theorem blk4 (x0 x1 x2 x3 : Vec Ideal S3x128 .f32) (y : (⟨2, ![3, 128]⟩ : Shape).Idx) :
    out0_4 (F := Ideal) x0 x1 x2 x3 y = Adam.dif (x0 y) (x1 y) (x2 y) (x3 y) := by
  unfold out0_4
  rw [View.canon_unit_zero zeros]
  rw [View.ld_unit_zero zeros, View.ld_unit_zero zeros, View.ld_unit_zero zeros, View.ld_unit_zero zeros]
  exact pay3 x0 x1 x2 x3 y
theorem blk5 (x0 x1 x2 x3 : Vec Ideal S3x128 .f32) (y : (⟨2, ![3, 128]⟩ : Shape).Idx) : out0_5 (F := Ideal) x0 x1 x2 x3 y = Adam.mom (x1 y) (x2 y) := by
  unfold out0_5
  rw [View.canon_unit_zero zeros]
  rw [View.ld_unit_zero zeros, View.ld_unit_zero zeros]
  exact pay1 x1 x2 y
theorem blk6 (x0 x1 x2 x3 : Vec Ideal S3x128 .f32) (y : (⟨2, ![3, 128]⟩ : Shape).Idx) : out0_6 (F := Ideal) x0 x1 x2 x3 y = Adam.sec (x1 y) (x3 y) := by
  unfold out0_6
  rw [View.canon_unit_zero zeros]
  rw [View.ld_unit_zero zeros, View.ld_unit_zero zeros]
  exact pay2 x1 x3 y

variable (m : (ℓ : Loc nD τ sig) → Buf (Elt Ideal) ℓ) (c : Dev nD)

abbrev aW : (⟨3, ![1, 3, 128]⟩ : Shape).Idx → EReal := m ((c : Thread nD τ).loc main_arg0)
abbrev aG : (⟨2, ![3, 128]⟩ : Shape).Idx → EReal := m ((c : Thread nD τ).loc main_arg1)
abbrev aM : (⟨3, ![1, 3, 128]⟩ : Shape).Idx → EReal := m ((c : Thread nD τ).loc main_arg2)
abbrev aV : (⟨3, ![1, 3, 128]⟩ : Shape).Idx → EReal := m ((c : Thread nD τ).loc main_arg3)

theorem hostW (r : Fin 3) (q : Fin 128) : V m c main_v0 (ix2 r q) = aW m c (ix3 0 r q) := by
  unfold V V0
  simp only [hostOps0, List.flatten_cons, List.flatten_nil, List.append_nil, List.cons_append, List.nil_append]
  after_results
  show shapeCast S3x128 (aW m c) shapeCasts_S1x3x128_S3x128 (ix2 r q) = _
  pointwise
theorem hostM (r : Fin 3) (q : Fin 128) : V m c main_v1 (ix2 r q) = aM m c (ix3 0 r q) := by
  unfold V V0
  simp only [hostOps0, List.flatten_cons, List.flatten_nil, List.append_nil, List.cons_append, List.nil_append]
  after_results
  show shapeCast S3x128 (aM m c) shapeCasts_S1x3x128_S3x128 (ix2 r q) = _
  pointwise
theorem hostV (r : Fin 3) (q : Fin 128) : V m c main_v2 (ix2 r q) = aV m c (ix3 0 r q) := by
  unfold V V0
  simp only [hostOps0, List.flatten_cons, List.flatten_nil, List.append_nil, List.cons_append, List.nil_append]
  after_results
  show shapeCast S3x128 (aV m c) shapeCasts_S1x3x128_S3x128 (ix2 r q) = _
  pointwise

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

theorem b0 (t : Fin cfg0.N) (r : Fin 3) (q : Fin 128) : iblk m c 0 t (ix2 r q) = aW m c (ix3 0 r q) := by
  refine Eq.trans ?_ (hostW m c r q)
  unfold iblk
  generalize V m c = U
  blk_ext [idx t]
theorem b2 (t : Fin cfg0.N) (r : Fin 3) (q : Fin 128) : iblk m c 2 t (ix2 r q) = aM m c (ix3 0 r q) := by
  refine Eq.trans ?_ (hostM m c r q)
  unfold iblk
  generalize V m c = U
  blk_ext [idx t]
theorem b3 (t : Fin cfg0.N) (r : Fin 3) (q : Fin 128) : iblk m c 3 t (ix2 r q) = aV m c (ix3 0 r q) := by
  refine Eq.trans ?_ (hostV m c r q)
  unfold iblk
  generalize V m c = U
  blk_ext [idx t]
theorem b1 (t : Fin cfg0.N) (r : Fin 3) (q : Fin 128) : iblk m c 1 t (ix2 r q) = aG m c (ix2 r q) := by
  refine Eq.trans ?_ (congrFun (V_main_arg1 m c) _)
  unfold iblk
  generalize V m c = U
  blk_ext [idx t]

/-- An element of the three results. -/
def D (r : Fin 3) (q : Fin 128) : EReal := Adam.dif (aW m c (ix3 0 r q)) (aG m c (ix2 r q)) (aM m c (ix3 0 r q)) (aV m c (ix3 0 r q))
def M (r : Fin 3) (q : Fin 128) : EReal := Adam.mom (aG m c (ix2 r q)) (aM m c (ix3 0 r q))
def S (r : Fin 3) (q : Fin 128) : EReal := Adam.sec (aG m c (ix2 r q)) (aV m c (ix3 0 r q))

theorem out4 (t : Fin cfg0.N) (r : Fin 3) (q : Fin 128) :
    out0_4 (F := Ideal) (iblk m c 0 t) (iblk m c 1 t) (iblk m c 2 t) (iblk m c 3 t) (ix2 r q) = D m c r q := by
  unfold D
  rw [blk4, b0, b1, b2, b3]
theorem out5 (t : Fin cfg0.N) (r : Fin 3) (q : Fin 128) :
    out0_5 (F := Ideal) (iblk m c 0 t) (iblk m c 1 t) (iblk m c 2 t) (iblk m c 3 t) (ix2 r q) = M m c r q := by
  unfold M
  rw [blk5, b1, b2]
theorem out6 (t : Fin cfg0.N) (r : Fin 3) (q : Fin 128) :
    out0_6 (F := Ideal) (iblk m c 0 t) (iblk m c 1 t) (iblk m c 2 t) (iblk m c 3 t) (ix2 r q) = S m c r q := by
  unfold S
  rw [blk6, b1, b3]

/-- What the call leaves in result 0. -/
def L4 : (⟨2, ![3, 128]⟩ : Shape).Idx → EReal := fun i => D m c (i 0) (i 1)

theorem left4 (t : Fin cfg0.N) (y : (⟨2, ![3, 128]⟩ : Shape).Idx) (i : (⟨2, ![3, 128]⟩ : Shape).Idx) (h0 : (i 0).val = (y 0).val) (h1 : (i 1).val = (y 1).val) :
    out0_4 (F := Ideal) (iblk m c 0 t) (iblk m c 1 t) (iblk m c 2 t) (iblk m c 3 t) y = L4 m c i := by
  obtain ⟨r, q, rfl⟩ : ∃ r q, y = ix2 (n0 := 3) (n1 := 128) r q := ⟨y 0, y 1, eta2 (m := 3) (n := 128) y⟩
  have e0 : i 0 = r := Fin.ext h0
  have e1 : i 1 = q := Fin.ext h1
  unfold L4
  rw [e0, e1]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 3, 128]⟩ : Shape).Idx → EReal := fun i => D m c (i 1) (i 2)

theorem tail4 : Pipeline.afterTail₀ cfgs (dats m) 0 (V0 m) [hostOps1] c main_v4 = R4 m c := by
  have e : Pipeline.withArrays (cfgs 0).spec c (V0 m c) (fun w => (dats m 0 c).arrAt w (cfgs 0).N) (Proc.devRef .tc main_v3_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x3x128 (L4 m c) shapeCasts_S3x128_S1x3x128 (ix3 0 r q) = _
  pointwise
  rfl

/-- What the call leaves in result 1. -/
def L5 : (⟨2, ![3, 128]⟩ : Shape).Idx → EReal := fun i => M m c (i 0) (i 1)

theorem left5 (t : Fin cfg0.N) (y : (⟨2, ![3, 128]⟩ : Shape).Idx) (i : (⟨2, ![3, 128]⟩ : Shape).Idx) (h0 : (i 0).val = (y 0).val) (h1 : (i 1).val = (y 1).val) :
    out0_5 (F := Ideal) (iblk m c 0 t) (iblk m c 1 t) (iblk m c 2 t) (iblk m c 3 t) y = L5 m c i := by
  obtain ⟨r, q, rfl⟩ : ∃ r q, y = ix2 (n0 := 3) (n1 := 128) r q := ⟨y 0, y 1, eta2 (m := 3) (n := 128) y⟩
  have e0 : i 0 = r := Fin.ext h0
  have e1 : i 1 = q := Fin.ext h1
  unfold L5
  rw [e0, e1]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 3, 128]⟩ : Shape).Idx → EReal := fun i => M m c (i 1) (i 2)

theorem tail5 : Pipeline.afterTail₀ cfgs (dats m) 0 (V0 m) [hostOps1] c main_v5 = R5 m c := by
  have e : Pipeline.withArrays (cfgs 0).spec c (V0 m c) (fun w => (dats m 0 c).arrAt w (cfgs 0).N) (Proc.devRef .tc main_v3_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x3x128 (L5 m c) shapeCasts_S3x128_S1x3x128 (ix3 0 r q) = _
  pointwise
  rfl

/-- What the call leaves in result 2. -/
def L6 : (⟨2, ![3, 128]⟩ : Shape).Idx → EReal := fun i => S m c (i 0) (i 1)

theorem left6 (t : Fin cfg0.N) (y : (⟨2, ![3, 128]⟩ : Shape).Idx) (i : (⟨2, ![3, 128]⟩ : Shape).Idx) (h0 : (i 0).val = (y 0).val) (h1 : (i 1).val = (y 1).val) :
    out0_6 (F := Ideal) (iblk m c 0 t) (iblk m c 1 t) (iblk m c 2 t) (iblk m c 3 t) y = L6 m c i := by
  obtain ⟨r, q, rfl⟩ : ∃ r q, y = ix2 (n0 := 3) (n1 := 128) r q := ⟨y 0, y 1, eta2 (m := 3) (n := 128) y⟩
  have e0 : i 0 = r := Fin.ext h0
  have e1 : i 1 = q := Fin.ext h1
  unfold L6
  rw [e0, e1]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 3, 128]⟩ : Shape).Idx → EReal := fun i => S m c (i 1) (i 2)

theorem tail6 : Pipeline.afterTail₀ cfgs (dats m) 0 (V0 m) [hostOps1] c main_v6 = R6 m c := by
  have e : Pipeline.withArrays (cfgs 0).spec c (V0 m c) (fun w => (dats m 0 c).arrAt w (cfgs 0).N) (Proc.devRef .tc main_v3_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x3x128 (L6 m c) shapeCasts_S3x128_S1x3x128 (ix3 0 r q) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v4) = R4 m c
      ∧ r.2.mem ((c.tc : Thread nD τ).loc main_v5) = R5 m c
      ∧ r.2.mem ((c.tc : Thread nD τ).loc main_v6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c), h.2 c⟩)
    (θ_run_and (run_main m ρ) (unchanged m ρ))

end Cert.AcKernelIdeal.AdamArray

namespace Cert.AcClaim

open Cert.AcKernelIdeal.AdamArray
open Cert.Adam (eta3)

/-- The reference's run ends with its arguments unchanged and every counter at zero. -/
theorem frame_ref : Cert.quiescent_AcReferenceIdeal := fun m ρ _ =>
  (θ_run Cert.AcReferenceIdeal.defs _ _).mono
    (fun r h => ⟨fun c => (h c).2.2.2, Idealize.ShloMosaic.sem_eq_zero_of_no_sems (by decide) r.2⟩)
    (Cert.AcReferenceIdeal.Value.run m ρ)

open Cert.AcReferenceIdeal.Read

section
open Cert.AcReferenceIdeal Cert.AcReferenceIdeal.Gen

theorem refg (g : (⟨2, ![3, 128]⟩ : Shape).Idx → EReal) (r : Fin 3) (q : Fin 128) : val_main_v0 (F := Ideal) g (ix3 0 r q) = g (ix2 r q) := by
  unfold val_main_v0
  pointwise

theorem ref5 (g : (⟨2, ![3, 128]⟩ : Shape).Idx → EReal) (m : (⟨3, ![1, 3, 128]⟩ : Shape).Idx → EReal) (r : Fin 3) (q : Fin 128) :
    val_main_v5 (F := Ideal) g m (ix3 0 r q) = Adam.mom (g (ix2 r q)) (m (ix3 0 r q)) := by
  unfold val_main_v5 val_main_v4 val_main_v3 val_main_cst_0 val_main_v2 val_main_v1 val_main_cst
  pointwise [refg]
  rfl

theorem ref6 (g : (⟨2, ![3, 128]⟩ : Shape).Idx → EReal) (v : (⟨3, ![1, 3, 128]⟩ : Shape).Idx → EReal) (r : Fin 3) (q : Fin 128) :
    val_main_v11 (F := Ideal) g v (ix3 0 r q) = Adam.sec (g (ix2 r q)) (v (ix3 0 r q)) := by
  unfold val_main_v11 val_main_v10 val_main_v9 val_main_cst_2 val_main_v8 val_main_v7 val_main_v6 val_main_cst_1
  pointwise [refg]
  rfl

theorem ref4 (w : (⟨3, ![1, 3, 128]⟩ : Shape).Idx → EReal) (g : (⟨2, ![3, 128]⟩ : Shape).Idx → EReal) (m v : (⟨3, ![1, 3, 128]⟩ : Shape).Idx → EReal) (r : Fin 3) (q : Fin 128) :
    val_main_v24 (F := Ideal) w g m v (ix3 0 r q) = Adam.dif (w (ix3 0 r q)) (g (ix2 r q)) (m (ix3 0 r q)) (v (ix3 0 r q)) := by
  unfold val_main_v24 val_main_v23 val_main_cst_7 val_main_v22 val_main_v21 val_main_v20 val_main_cst_6 val_main_v19 val_main_v18 val_main_v17
    val_main_cst_5 val_main_v16 val_main_v15 val_main_v14 val_main_cst_4 val_main_v13 val_main_v12 val_main_cst_3
  pointwise [ref5, ref6]
  rfl
end

/-- From memories agreeing on the arguments, both run and leave equal arrays. -/
theorem algebraic : Cert.algebraic_AcKernelIdeal_AcReferenceIdeal := by
  intro m g m' g' _ ha
  refine ⟨R4 m, R5 m, R6 m, Cert.AcKernelIdeal.AdamArray.run m g,
    (θ_run Cert.AcReferenceIdeal.defs _ _).mono (fun r h c => ?_) (Cert.AcReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v24_eq, a0, a1, a2, a3]
    funext i
    obtain ⟨r, q, rfl⟩ : ∃ r q, i = ix3 0 r q := ⟨i 1, i 2, eta3 i⟩
    exact ref4 (aW m c) (aG m c) (aM m c) (aV m c) r q
  · rw [val_main_v5_eq, a1, a2]
    funext i
    obtain ⟨r, q, rfl⟩ : ∃ r q, i = ix3 0 r q := ⟨i 1, i 2, eta3 i⟩
    exact ref5 (aG m c) (aM m c) r q
  · rw [val_main_v11_eq, a1, a3]
    funext i
    obtain ⟨r, q, rfl⟩ : ∃ r q, i = ix3 0 r q := ⟨i 1, i 2, eta3 i⟩
    exact ref6 (aG m c) (aV m c) r q

end Cert.AcClaim
end
-- ==== Proof.AfClaim.lean ====
module

public import proofs.«01_k».proof.Defs
public import proofs.«01_k».proof.Proof.AdamSpec
public import proofs.«01_k».proof.Proof.Gen.AfKernelIdeal.Value
public import proofs.«01_k».proof.Proof.Gen.AfReferenceIdeal.Run
public import proofs.«01_k».proof.Proof.Gen.AfReferenceIdeal.Read
public import Idealize.ShloMosaic.Lib.Pipeline.Value
public import Idealize.ShloMosaic.Lib.Pipeline.ValueKit

/-! The optimiser's call over an array of 1 row and 8 columns, in one block. -/

@[expose] public section

set_option maxRecDepth 16384

noncomputable section

open Idealize.ShloMosaic Idealize.ShloMosaic.TcCoe Idealize.SL.Sem

namespace Cert.AfKernelIdeal.AdamArray

open Cert.AfKernelIdeal Cert.AfKernelIdeal.Gen Cert.AfKernelIdeal.Value

theorem call5 (g m : (⟨2, ![1, 8]⟩ : Shape).Idx → EReal) (i : (⟨2, ![1, 8]⟩ : Shape).Idx) : G5 (F := Ideal) g m i = Adam.mom (g i) (m i) := by
  unfold G5
  pointwise
  rfl

theorem call6 (g v : (⟨2, ![1, 8]⟩ : Shape).Idx → EReal) (i : (⟨2, ![1, 8]⟩ : Shape).Idx) : G6 (F := Ideal) g v i = Adam.sec (g i) (v i) := by
  unfold G6
  pointwise
  rfl

theorem call4 (w g m v : (⟨2, ![1, 8]⟩ : Shape).Idx → EReal) (i : (⟨2, ![1, 8]⟩ : Shape).Idx) : G4 (F := Ideal) g m v w i = Adam.dif (w i) (g i) (m i) (v i) := by
  unfold G4
  pointwise
  rfl

end Cert.AfKernelIdeal.AdamArray

namespace Cert.AfClaim

open Cert.AfKernelIdeal.AdamArray

/-- The reference's run ends with its arguments unchanged and every counter at zero. -/
theorem frame_ref : Cert.quiescent_AfReferenceIdeal := fun m ρ _ =>
  (θ_run Cert.AfReferenceIdeal.defs _ _).mono
    (fun r h => ⟨fun c => (h c).2.2.2, Idealize.ShloMosaic.sem_eq_zero_of_no_sems (by decide) r.2⟩)
    (Cert.AfReferenceIdeal.Value.run m ρ)

open Cert.AfReferenceIdeal.Read

section
open Cert.AfReferenceIdeal Cert.AfReferenceIdeal.Gen

theorem ref5 (g m : (⟨2, ![1, 8]⟩ : Shape).Idx → EReal) (i : (⟨2, ![1, 8]⟩ : Shape).Idx) : val_main_v4 (F := Ideal) g m i = Adam.mom (g i) (m i) := by
  unfold val_main_v4 val_main_v3 val_main_v2 val_main_cst_0 val_main_v1 val_main_v0 val_main_cst
  pointwise
  rfl

theorem ref6 (g v : (⟨2, ![1, 8]⟩ : Shape).Idx → EReal) (i : (⟨2, ![1, 8]⟩ : Shape).Idx) : val_main_v10 (F := Ideal) g v i = Adam.sec (g i) (v i) := by
  unfold val_main_v10 val_main_v9 val_main_v8 val_main_cst_2 val_main_v7 val_main_v6 val_main_v5 val_main_cst_1
  pointwise
  rfl

theorem ref4 (w g m v : (⟨2, ![1, 8]⟩ : Shape).Idx → EReal) (i : (⟨2, ![1, 8]⟩ : Shape).Idx) :
    val_main_v23 (F := Ideal) w g m v i = Adam.dif (w i) (g i) (m i) (v i) := by
  unfold val_main_v23 val_main_v22 val_main_cst_7 val_main_v21 val_main_v20 val_main_v19 val_main_cst_6 val_main_v18 val_main_v17 val_main_v16
    val_main_cst_5 val_main_v15 val_main_v14 val_main_v13 val_main_cst_4 val_main_v12 val_main_v11 val_main_cst_3
  pointwise [ref5, ref6]
  rfl
end

/-- From memories agreeing on the arguments, both run and leave equal arrays. -/
theorem algebraic : Cert.algebraic_AfKernelIdeal_AfReferenceIdeal := by
  intro m g m' g' _ ha
  refine ⟨_, _, _, Cert.AfKernelIdeal.Value.run m g,
    (θ_run Cert.AfReferenceIdeal.defs _ _).mono (fun r h c => ?_) (Cert.AfReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v23_eq, a0, a1, a2, a3]
    funext i
    exact (ref4 _ _ _ _ i).trans (call4 _ _ _ _ i).symm
  · rw [val_main_v4_eq, a1, a2]
    funext i
    exact (ref5 _ _ i).trans (call5 _ _ i).symm
  · rw [val_main_v10_eq, a1, a3]
    funext i
    exact (ref6 _ _ i).trans (call6 _ _ i).symm

end Cert.AfClaim
end
-- ==== Proof.AgClaim.lean ====
module

public import proofs.«01_k».proof.Defs
public import proofs.«01_k».proof.Proof.AdamSpec
public import proofs.«01_k».proof.Proof.Gen.AgKernelIdeal.Value
public import proofs.«01_k».proof.Proof.Gen.AgReferenceIdeal.Run
public import proofs.«01_k».proof.Proof.Gen.AgReferenceIdeal.Read
public import Idealize.ShloMosaic.Lib.Pipeline.Value
public import Idealize.ShloMosaic.Lib.Pipeline.ValueKit

/-! The optimiser's call over an array of 1 row and 128 columns, in one block. -/

@[expose] public section

set_option maxRecDepth 16384

noncomputable section

open Idealize.ShloMosaic Idealize.ShloMosaic.TcCoe Idealize.SL.Sem

namespace Cert.AgKernelIdeal.AdamArray

open Cert.AgKernelIdeal Cert.AgKernelIdeal.Gen Cert.AgKernelIdeal.Value

theorem call5 (g m : (⟨2, ![1, 128]⟩ : Shape).Idx → EReal) (i : (⟨2, ![1, 128]⟩ : Shape).Idx) : G5 (F := Ideal) g m i = Adam.mom (g i) (m i) := by
  unfold G5
  pointwise
  rfl

theorem call6 (g v : (⟨2, ![1, 128]⟩ : Shape).Idx → EReal) (i : (⟨2, ![1, 128]⟩ : Shape).Idx) : G6 (F := Ideal) g v i = Adam.sec (g i) (v i) := by
  unfold G6
  pointwise
  rfl

theorem call4 (w g m v : (⟨2, ![1, 128]⟩ : Shape).Idx → EReal) (i : (⟨2, ![1, 128]⟩ : Shape).Idx) : G4 (F := Ideal) g m v w i = Adam.dif (w i) (g i) (m i) (v i) := by
  unfold G4
  pointwise
  rfl

end Cert.AgKernelIdeal.AdamArray

namespace Cert.AgClaim

open Cert.AgKernelIdeal.AdamArray

/-- The reference's run ends with its arguments unchanged and every counter at zero. -/
theorem frame_ref : Cert.quiescent_AgReferenceIdeal := fun m ρ _ =>
  (θ_run Cert.AgReferenceIdeal.defs _ _).mono
    (fun r h => ⟨fun c => (h c).2.2.2, Idealize.ShloMosaic.sem_eq_zero_of_no_sems (by decide) r.2⟩)
    (Cert.AgReferenceIdeal.Value.run m ρ)

open Cert.AgReferenceIdeal.Read

section
open Cert.AgReferenceIdeal Cert.AgReferenceIdeal.Gen

theorem ref5 (g m : (⟨2, ![1, 128]⟩ : Shape).Idx → EReal) (i : (⟨2, ![1, 128]⟩ : Shape).Idx) : val_main_v4 (F := Ideal) g m i = Adam.mom (g i) (m i) := by
  unfold val_main_v4 val_main_v3 val_main_v2 val_main_cst_0 val_main_v1 val_main_v0 val_main_cst
  pointwise
  rfl

theorem ref6 (g v : (⟨2, ![1, 128]⟩ : Shape).Idx → EReal) (i : (⟨2, ![1, 128]⟩ : Shape).Idx) : val_main_v10 (F := Ideal) g v i = Adam.sec (g i) (v i) := by
  unfold val_main_v10 val_main_v9 val_main_v8 val_main_cst_2 val_main_v7 val_main_v6 val_main_v5 val_main_cst_1
  pointwise
  rfl

theorem ref4 (w g m v : (⟨2, ![1, 128]⟩ : Shape).Idx → EReal) (i : (⟨2, ![1, 128]⟩ : Shape).Idx) :
    val_main_v23 (F := Ideal) w g m v i = Adam.dif (w i) (g i) (m i) (v i) := by
  unfold val_main_v23 val_main_v22 val_main_cst_7 val_main_v21 val_main_v20 val_main_v19 val_main_cst_6 val_main_v18 val_main_v17 val_main_v16
    val_main_cst_5 val_main_v15 val_main_v14 val_main_v13 val_main_cst_4 val_main_v12 val_main_v11 val_main_cst_3
  pointwise [ref5, ref6]
  rfl
end

/-- From memories agreeing on the arguments, both run and leave equal arrays. -/
theorem algebraic : Cert.algebraic_AgKernelIdeal_AgReferenceIdeal := by
  intro m g m' g' _ ha
  refine ⟨_, _, _, Cert.AgKernelIdeal.Value.run m g,
    (θ_run Cert.AgReferenceIdeal.defs _ _).mono (fun r h c => ?_) (Cert.AgReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v23_eq, a0, a1, a2, a3]
    funext i
    exact (ref4 _ _ _ _ i).trans (call4 _ _ _ _ i).symm
  · rw [val_main_v4_eq, a1, a2]
    funext i
    exact (ref5 _ _ i).trans (call5 _ _ i).symm
  · rw [val_main_v10_eq, a1, a3]
    funext i
    exact (ref6 _ _ i).trans (call6 _ _ i).symm

end Cert.AgClaim
end
-- ==== Proof.AxClaim.lean ====
module

public import proofs.«01_k».proof.Defs
public import proofs.«01_k».proof.Proof.AdamSpec
public import proofs.«01_k».proof.Proof.Gen.AxKernelIdeal.Value
public import proofs.«01_k».proof.Proof.Gen.AxReferenceIdeal.Run
public import proofs.«01_k».proof.Proof.Gen.AxReferenceIdeal.Read
public import Idealize.ShloMosaic.Lib.Pipeline.Value
public import Idealize.ShloMosaic.Lib.Pipeline.ValueKit

/-! The optimiser's call over an array of 1 row and 256 columns, in one block. -/

@[expose] public section

set_option maxRecDepth 16384

noncomputable section

open Idealize.ShloMosaic Idealize.ShloMosaic.TcCoe Idealize.SL.Sem

namespace Cert.AxKernelIdeal.AdamArray

open Cert.AxKernelIdeal Cert.AxKernelIdeal.Gen Cert.AxKernelIdeal.Value

theorem call5 (g m : (⟨2, ![1, 256]⟩ : Shape).Idx → EReal) (i : (⟨2, ![1, 256]⟩ : Shape).Idx) : G5 (F := Ideal) g m i = Adam.mom (g i) (m i) := by
  unfold G5
  pointwise
  rfl

theorem call6 (g v : (⟨2, ![1, 256]⟩ : Shape).Idx → EReal) (i : (⟨2, ![1, 256]⟩ : Shape).Idx) : G6 (F := Ideal) g v i = Adam.sec (g i) (v i) := by
  unfold G6
  pointwise
  rfl

theorem call4 (w g m v : (⟨2, ![1, 256]⟩ : Shape).Idx → EReal) (i : (⟨2, ![1, 256]⟩ : Shape).Idx) : G4 (F := Ideal) g m v w i = Adam.dif (w i) (g i) (m i) (v i) := by
  unfold G4
  pointwise
  rfl

end Cert.AxKernelIdeal.AdamArray

namespace Cert.AxClaim

open Cert.AxKernelIdeal.AdamArray

/-- The reference's run ends with its arguments unchanged and every counter at zero. -/
theorem frame_ref : Cert.quiescent_AxReferenceIdeal := fun m ρ _ =>
  (θ_run Cert.AxReferenceIdeal.defs _ _).mono
    (fun r h => ⟨fun c => (h c).2.2.2, Idealize.ShloMosaic.sem_eq_zero_of_no_sems (by decide) r.2⟩)
    (Cert.AxReferenceIdeal.Value.run m ρ)

open Cert.AxReferenceIdeal.Read

section
open Cert.AxReferenceIdeal Cert.AxReferenceIdeal.Gen

theorem ref5 (g m : (⟨2, ![1, 256]⟩ : Shape).Idx → EReal) (i : (⟨2, ![1, 256]⟩ : Shape).Idx) : val_main_v4 (F := Ideal) g m i = Adam.mom (g i) (m i) := by
  unfold val_main_v4 val_main_v3 val_main_v2 val_main_cst_0 val_main_v1 val_main_v0 val_main_cst
  pointwise
  rfl

theorem ref6 (g v : (⟨2, ![1, 256]⟩ : Shape).Idx → EReal) (i : (⟨2, ![1, 256]⟩ : Shape).Idx) : val_main_v10 (F := Ideal) g v i = Adam.sec (g i) (v i) := by
  unfold val_main_v10 val_main_v9 val_main_v8 val_main_cst_2 val_main_v7 val_main_v6 val_main_v5 val_main_cst_1
  pointwise
  rfl

theorem ref4 (w g m v : (⟨2, ![1, 256]⟩ : Shape).Idx → EReal) (i : (⟨2, ![1, 256]⟩ : Shape).Idx) :
    val_main_v23 (F := Ideal) w g m v i = Adam.dif (w i) (g i) (m i) (v i) := by
  unfold val_main_v23 val_main_v22 val_main_cst_7 val_main_v21 val_main_v20 val_main_v19 val_main_cst_6 val_main_v18 val_main_v17 val_main_v16
    val_main_cst_5 val_main_v15 val_main_v14 val_main_v13 val_main_cst_4 val_main_v12 val_main_v11 val_main_cst_3
  pointwise [ref5, ref6]
  rfl
end

/-- From memories agreeing on the arguments, both run and leave equal arrays. -/
theorem algebraic : Cert.algebraic_AxKernelIdeal_AxReferenceIdeal := by
  intro m g m' g' _ ha
  refine ⟨_, _, _, Cert.AxKernelIdeal.Value.run m g,
    (θ_run Cert.AxReferenceIdeal.defs _ _).mono (fun r h c => ?_) (Cert.AxReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v23_eq, a0, a1, a2, a3]
    funext i
    exact (ref4 _ _ _ _ i).trans (call4 _ _ _ _ i).symm
  · rw [val_main_v4_eq, a1, a2]
    funext i
    exact (ref5 _ _ i).trans (call5 _ _ i).symm
  · rw [val_main_v10_eq, a1, a3]
    funext i
    exact (ref6 _ _ i).trans (call6 _ _ i).symm

end Cert.AxClaim
end
-- ==== Proof.AiClaim.lean ====
module

public import proofs.«01_k».proof.Defs
public import proofs.«01_k».proof.Proof.AdamSpec
public import proofs.«01_k».proof.Proof.Gen.AiKernelIdeal.Frame
public import proofs.«01_k».proof.Proof.Gen.AiReferenceIdeal.Run
public import proofs.«01_k».proof.Proof.Gen.AiReferenceIdeal.Read
public import Idealize.ShloMosaic.Lib.Pipeline.Value
public import Idealize.ShloMosaic.Lib.Pipeline.ValueKit

/-! The optimiser's call over 1281 slabs of 1024 elements, blocks of 61, with the host's transposes around it. -/

@[expose] public section

set_option maxRecDepth 16384

noncomputable section

open Idealize.ShloMosaic Idealize.ShloMosaic.TcCoe Idealize.SL.Sem
open Idealize.ShloMosaic.Pipeline (Dat)

namespace Cert.AiKernelIdeal.AdamArray

open Cert.AiKernelIdeal Cert.AiKernelIdeal.Gen
open Cert.Adam (eta2 eta3)

theorem zeros : (![0, 0, 0] : Fin 3 → Nat) = fun _ => 0 := by
  funext a
  match a with
  | ⟨0, _⟩ => rfl
  | ⟨1, _⟩ => rfl
  | ⟨2, _⟩ => rfl

theorem etaM {m n : ℕ} (y : (⟨3, ![m, 1, n]⟩ : Shape).Idx) : y = ix3 (y 0) 0 (y 2) := by
  funext a
  match a with
  | ⟨0, _⟩ => rfl
  | ⟨1, h⟩ => exact Subsingleton.elim (α := Fin 1) _ _
  | ⟨2, _⟩ => rfl

section
variable (x0 x1 x2 x3 : Vec Ideal S61x1x1024 .f32)

theorem p5 (r : Fin 61) (q : Fin 1024) : k0_pay5 (F := Ideal) x1 x2 (ix2 r q) = Adam.mom (x1 (ix3 r 0 q)) (x2 (ix3 r 0 q)) := by
  unfold k0_pay5 k0_pay4
  pointwise
  rfl
theorem p6 (r : Fin 61) (q : Fin 1024) : k0_pay6 (F := Ideal) x1 x3 (ix2 r q) = Adam.sec (x1 (ix3 r 0 q)) (x3 (ix3 r 0 q)) := by
  unfold k0_pay6 k0_pay4
  pointwise
  rfl
theorem p7 (r : Fin 61) (q : Fin 1024) :
    k0_pay7 (F := Ideal) x1 x2 x3 x0 (ix2 r q) = Adam.dif (x0 (ix3 r 0 q)) (x1 (ix3 r 0 q)) (x2 (ix3 r 0 q)) (x3 (ix3 r 0 q)) := by
  unfold k0_pay7
  pointwise [p5, p6]
  rfl
theorem q4 (r : Fin 61) (q : Fin 1024) : k0_pay1 (F := Ideal) (k0_pay7 x1 x2 x3 x0) (ix3 r 0 q)
    = Adam.dif (x0 (ix3 r 0 q)) (x1 (ix3 r 0 q)) (x2 (ix3 r 0 q)) (x3 (ix3 r 0 q)) := by
  unfold k0_pay1
  pointwise [p7]
theorem q5 (r : Fin 61) (q : Fin 1024) : k0_pay2 (F := Ideal) (k0_pay5 x1 x2) (ix3 r 0 q) = Adam.mom (x1 (ix3 r 0 q)) (x2 (ix3 r 0 q)) := by
  unfold k0_pay2
  pointwise [p5]
theorem q6 (r : Fin 61) (q : Fin 1024) : k0_pay3 (F := Ideal) (k0_pay6 x1 x3) (ix3 r 0 q) = Adam.sec (x1 (ix3 r 0 q)) (x3 (ix3 r 0 q)) := by
  unfold k0_pay3
  pointwise [p6]

variable (c : Dev nD) (i : grid0.Coords) (arg2 : Memref sig .tc .vmem S61x1x1024 .f32) (harg2 : arg2.IsWhole) (arg3 : Memref sig .tc .vmem S61x1x1024 .f32) (harg3 : arg3.IsWhole) (arg4 : Memref sig .tc .vmem S61x1x1024 .f32) (harg4 : arg4.IsWhole) (arg5 : Memref sig .tc .vmem S61x1x1024 .f32) (harg5 : arg5.IsWhole) (arg6 : Memref sig .tc .vmem S61x1x1024 .f32) (harg6 : arg6.IsWhole) (arg7 : Memref sig .tc .vmem S61x1x1024 .f32) (harg7 : arg7.IsWhole) (arg8 : Memref sig .tc .vmem S61x1x1024 .f32) (harg8 : arg8.IsWhole)

theorem blk4 (r : Fin 61) (q : Fin 1024) :
    out0_A_4 (F := Ideal) c i arg2 harg2 arg3 harg3 arg4 harg4 arg5 harg5 arg6 harg6 arg7 harg7 arg8 harg8 x0 x1 x2 x3 (ix3 r 0 q) = Adam.dif (x0 (ix3 r 0 q)) (x1 (ix3 r 0 q)) (x2 (ix3 r 0 q)) (x3 (ix3 r 0 q)) := by
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  sl_unfold_words
  simp only [View.readAt_eq_ld, harg2.read_unread, harg3.read_unread, harg4.read_unread, harg5.read_unread]
  rw [View.canon_unit_zero zeros]
  repeat rw [View.ld_unit_zero zeros]
  exact q4 x0 x1 x2 x3 r q
theorem blk5 (r : Fin 61) (q : Fin 1024) :
    out0_A_5 (F := Ideal) c i arg2 harg2 arg3 harg3 arg4 harg4 arg5 harg5 arg6 harg6 arg7 harg7 arg8 harg8 x0 x1 x2 x3 (ix3 r 0 q) = Adam.mom (x1 (ix3 r 0 q)) (x2 (ix3 r 0 q)) := by
  unfold out0_A_5
  rw [View.read_writes_eq_canon _ _ _ (cover0_A_5 c i arg2 harg2 arg3 harg3 arg4 harg4 arg5 harg5 arg6 harg6 arg7 harg7 arg8 harg8 x0 x1 x2 x3)]
  unfold kernelRun0_A
  dsimp only
  sl_unfold_words
  simp only [View.readAt_eq_ld, harg2.read_unread, harg3.read_unread, harg4.read_unread, harg5.read_unread]
  rw [View.canon_unit_zero zeros]
  repeat rw [View.ld_unit_zero zeros]
  exact q5 x1 x2 r q
theorem blk6 (r : Fin 61) (q : Fin 1024) :
    out0_A_6 (F := Ideal) c i arg2 harg2 arg3 harg3 arg4 harg4 arg5 harg5 arg6 harg6 arg7 harg7 arg8 harg8 x0 x1 x2 x3 (ix3 r 0 q) = Adam.sec (x1 (ix3 r 0 q)) (x3 (ix3 r 0 q)) := by
  unfold out0_A_6
  rw [View.read_writes_eq_canon _ _ _ (cover0_A_6 c i arg2 harg2 arg3 harg3 arg4 harg4 arg5 harg5 arg6 harg6 arg7 harg7 arg8 harg8 x0 x1 x2 x3)]
  unfold kernelRun0_A
  dsimp only
  sl_unfold_words
  simp only [View.readAt_eq_ld, harg2.read_unread, harg3.read_unread, harg4.read_unread, harg5.read_unread]
  rw [View.canon_unit_zero zeros]
  repeat rw [View.ld_unit_zero zeros]
  exact q6 x1 x3 r q
end

variable (m : (ℓ : Loc nD τ sig) → Buf (Elt Ideal) ℓ) (c : Dev nD)

abbrev aW : (⟨3, ![1, 1024, 1281]⟩ : Shape).Idx → EReal := m ((c : Thread nD τ).loc main_arg0)
abbrev aG : (⟨3, ![1296, 1, 1024]⟩ : Shape).Idx → EReal := m ((c : Thread nD τ).loc main_arg1)
abbrev aM : (⟨3, ![1, 1024, 1281]⟩ : Shape).Idx → EReal := m ((c : Thread nD τ).loc main_arg2)
abbrev aV : (⟨3, ![1, 1024, 1281]⟩ : Shape).Idx → EReal := m ((c : Thread nD τ).loc main_arg3)

theorem hostW (r : Fin 1281) (q : Fin 1024) : V m c main_v0 (ix3 r 0 q) = aW m c (ix3 0 q r) := by
  unfold V V0
  simp only [hostOps0, List.flatten_cons, List.flatten_nil, List.append_nil, List.cons_append, List.nil_append]
  after_results
  show transpose S1281x1x1024 [2, 0, 1] (aW m c) transposes_S1x1024x1281_S1281x1x1024_2_0_1 (ix3 r 0 q) = _
  pointwise
theorem hostM (r : Fin 1281) (q : Fin 1024) : V m c main_v1 (ix3 r 0 q) = aM m c (ix3 0 q r) := by
  unfold V V0
  simp only [hostOps0, List.flatten_cons, List.flatten_nil, List.append_nil, List.cons_append, List.nil_append]
  after_results
  show transpose S1281x1x1024 [2, 0, 1] (aM m c) transposes_S1x1024x1281_S1281x1x1024_2_0_1 (ix3 r 0 q) = _
  pointwise
theorem hostV (r : Fin 1281) (q : Fin 1024) : V m c main_v2 (ix3 r 0 q) = aV m c (ix3 0 q r) := by
  unfold V V0
  simp only [hostOps0, List.flatten_cons, List.flatten_nil, List.append_nil, List.cons_append, List.nil_append]
  after_results
  show transpose S1281x1x1024 [2, 0, 1] (aV m c) transposes_S1x1024x1281_S1281x1x1024_2_0_1 (ix3 r 0 q) = _
  pointwise

theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] := by
  decide +kernel

theorem ltN (t : Fin cfg0.N) : t.val < 21 := t.isLt

/-- The place of a block's slab in the array. -/
def at' (t : Fin cfg0.N) (r : Fin 61) : Fin 1281 := ⟨61 * t.val + r.val, by have := ltN t; omega⟩

/-- The place of a slab in the gradient's array, which has fifteen more. -/
def up (r : Fin 1281) : Fin 1296 := ⟨r.val, by omega⟩

theorem b0 (t : Fin cfg0.N) (r : Fin 61) (q : Fin 1024) : iblk m c 0 t (ix3 r 0 q) = aW m c (ix3 0 q (at' t r)) := by
  refine Eq.trans ?_ (hostW m c (at' t r) q)
  unfold iblk at'
  generalize V m c = U
  blk_ext [idx t]
theorem b2 (t : Fin cfg0.N) (r : Fin 61) (q : Fin 1024) : iblk m c 2 t (ix3 r 0 q) = aM m c (ix3 0 q (at' t r)) := by
  refine Eq.trans ?_ (hostM m c (at' t r) q)
  unfold iblk at'
  generalize V m c = U
  blk_ext [idx t]
theorem b3 (t : Fin cfg0.N) (r : Fin 61) (q : Fin 1024) : iblk m c 3 t (ix3 r 0 q) = aV m c (ix3 0 q (at' t r)) := by
  refine Eq.trans ?_ (hostV m c (at' t r) q)
  unfold iblk at'
  generalize V m c = U
  blk_ext [idx t]
theorem b1 (t : Fin cfg0.N) (r : Fin 61) (q : Fin 1024) : X0_1 m c t (ix3 r 0 q) = aG m c (ix3 (up (at' t r)) 0 q) := by
  refine Eq.trans ?_ (congrFun (V_main_arg1 m c) _)
  unfold X0_1 Pipeline.Window.fill
  rw [dif_pos (moved0_1 t _)]
  unfold iblk at' up
  generalize V m c = U
  blk_ext [idx t]

/-- An element of the three results. -/
def D (r : Fin 1281) (q : Fin 1024) : EReal := Adam.dif (aW m c (ix3 0 q r)) (aG m c (ix3 (up r) 0 q)) (aM m c (ix3 0 q r)) (aV m c (ix3 0 q r))
def M (r : Fin 1281) (q : Fin 1024) : EReal := Adam.mom (aG m c (ix3 (up r) 0 q)) (aM m c (ix3 0 q r))
def S (r : Fin 1281) (q : Fin 1024) : EReal := Adam.sec (aG m c (ix3 (up r) 0 q)) (aV m c (ix3 0 q r))

theorem out4 (t : Fin cfg0.N) (r : Fin 61) (q : Fin 1024) : (outsAt0 m c t).1 (ix3 r 0 q) = D m c (at' t r) q := by
  unfold outsAt0
  dsimp only
  unfold D
  rw [blk4, b0, b1, b2, b3]

/-- What the call leaves in result 0. -/
def L4 : (⟨3, ![1281, 1, 1024]⟩ : Shape).Idx → EReal := fun i => D m c (i 0) (i 2)

theorem left4 (t : Fin cfg0.N) (y : (⟨3, ![61, 1, 1024]⟩ : Shape).Idx) (i : (⟨3, ![1281, 1, 1024]⟩ : Shape).Idx) (h0 : (i 0).val = 61 * t.val + (y 0).val) (h2 : (i 2).val = (y 2).val) :
    (outsAt0 m c t).1 y = L4 m c i := by
  obtain ⟨r, q, rfl⟩ : ∃ r q, y = ix3 (n0 := 61) (n1 := 1) (n2 := 1024) r 0 q := ⟨y 0, y 2, etaM (m := 61) (n := 1024) y⟩
  have e0 : i 0 = at' t r := Fin.ext h0
  have e2 : i 2 = q := Fin.ext h2
  unfold L4
  rw [e0, e2]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 1024, 1281]⟩ : Shape).Idx → EReal := fun i => D m c (i 2) (i 1)

theorem tail4 : Pipeline.afterTail₀ cfgs (dats m) 0 (V0 m) [hostOps1] c main_v4 = R4 m c := by
  have e : Pipeline.withArrays (cfgs 0).spec c (V0 m c) (fun w => (dats m 0 c).arrAt w (cfgs 0).N) (Proc.devRef .tc main_v3_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show transpose S1x1024x1281 [1, 2, 0] (L4 m c) transposes_S1281x1x1024_S1x1024x1281_1_2_0 (ix3 0 q r) = _
  pointwise
  rfl

theorem out5 (t : Fin cfg0.N) (r : Fin 61) (q : Fin 1024) : (outsAt0 m c t).2.1 (ix3 r 0 q) = M m c (at' t r) q := by
  unfold outsAt0
  dsimp only
  unfold M
  rw [blk5, b1, b2]

/-- What the call leaves in result 1. -/
def L5 : (⟨3, ![1281, 1, 1024]⟩ : Shape).Idx → EReal := fun i => M m c (i 0) (i 2)

theorem left5 (t : Fin cfg0.N) (y : (⟨3, ![61, 1, 1024]⟩ : Shape).Idx) (i : (⟨3, ![1281, 1, 1024]⟩ : Shape).Idx) (h0 : (i 0).val = 61 * t.val + (y 0).val) (h2 : (i 2).val = (y 2).val) :
    (outsAt0 m c t).2.1 y = L5 m c i := by
  obtain ⟨r, q, rfl⟩ : ∃ r q, y = ix3 (n0 := 61) (n1 := 1) (n2 := 1024) r 0 q := ⟨y 0, y 2, etaM (m := 61) (n := 1024) y⟩
  have e0 : i 0 = at' t r := Fin.ext h0
  have e2 : i 2 = q := Fin.ext h2
  unfold L5
  rw [e0, e2]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 1024, 1281]⟩ : Shape).Idx → EReal := fun i => M m c (i 2) (i 1)

theorem tail5 : Pipeline.afterTail₀ cfgs (dats m) 0 (V0 m) [hostOps1] c main_v5 = R5 m c := by
  have e : Pipeline.withArrays (cfgs 0).spec c (V0 m c) (fun w => (dats m 0 c).arrAt w (cfgs 0).N) (Proc.devRef .tc main_v3_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show transpose S1x1024x1281 [1, 2, 0] (L5 m c) transposes_S1281x1x1024_S1x1024x1281_1_2_0 (ix3 0 q r) = _
  pointwise
  rfl

theorem out6 (t : Fin cfg0.N) (r : Fin 61) (q : Fin 1024) : (outsAt0 m c t).2.2 (ix3 r 0 q) = S m c (at' t r) q := by
  unfold outsAt0
  dsimp only
  unfold S
  rw [blk6, b1, b3]

/-- What the call leaves in result 2. -/
def L6 : (⟨3, ![1281, 1, 1024]⟩ : Shape).Idx → EReal := fun i => S m c (i 0) (i 2)

theorem left6 (t : Fin cfg0.N) (y : (⟨3, ![61, 1, 1024]⟩ : Shape).Idx) (i : (⟨3, ![1281, 1, 1024]⟩ : Shape).Idx) (h0 : (i 0).val = 61 * t.val + (y 0).val) (h2 : (i 2).val = (y 2).val) :
    (outsAt0 m c t).2.2 y = L6 m c i := by
  obtain ⟨r, q, rfl⟩ : ∃ r q, y = ix3 (n0 := 61) (n1 := 1) (n2 := 1024) r 0 q := ⟨y 0, y 2, etaM (m := 61) (n := 1024) y⟩
  have e0 : i 0 = at' t r := Fin.ext h0
  have e2 : i 2 = q := Fin.ext h2
  unfold L6
  rw [e0, e2]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 1024, 1281]⟩ : Shape).Idx → EReal := fun i => S m c (i 2) (i 1)

theorem tail6 : Pipeline.afterTail₀ cfgs (dats m) 0 (V0 m) [hostOps1] c main_v6 = R6 m c := by
  have e : Pipeline.withArrays (cfgs 0).spec c (V0 m c) (fun w => (dats m 0 c).arrAt w (cfgs 0).N) (Proc.devRef .tc main_v3_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show transpose S1x1024x1281 [1, 2, 0] (L6 m c) transposes_S1281x1x1024_S1x1024x1281_1_2_0 (ix3 0 q r) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v4) = R4 m c
      ∧ r.2.mem ((c.tc : Thread nD τ).loc main_v5) = R5 m c
      ∧ r.2.mem ((c.tc : Thread nD τ).loc main_v6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c), h.2 c⟩)
    (θ_run_and (run_main m ρ) (unchanged m ρ))

end Cert.AiKernelIdeal.AdamArray

namespace Cert.AiClaim

open Cert.AiKernelIdeal.AdamArray
open Cert.Adam (eta3)

/-- The reference's run ends with its arguments unchanged and every counter at zero. -/
theorem frame_ref : Cert.quiescent_AiReferenceIdeal := fun m ρ _ =>
  (θ_run Cert.AiReferenceIdeal.defs _ _).mono
    (fun r h => ⟨fun c => (h c).2.2.2, Idealize.ShloMosaic.sem_eq_zero_of_no_sems (by decide) r.2⟩)
    (Cert.AiReferenceIdeal.Value.run m ρ)

open Cert.AiReferenceIdeal.Read

section
open Cert.AiReferenceIdeal Cert.AiReferenceIdeal.Gen

theorem refg (g : (⟨3, ![1296, 1, 1024]⟩ : Shape).Idx → EReal) (r : Fin 1281) (q : Fin 1024) : val_main_v1 (F := Ideal) g (ix3 0 q r) = g (ix3 (up r) 0 q) := by
  unfold val_main_v1 val_main_v0 up
  pointwise

theorem ref5 (g : (⟨3, ![1296, 1, 1024]⟩ : Shape).Idx → EReal) (m : (⟨3, ![1, 1024, 1281]⟩ : Shape).Idx → EReal) (r : Fin 1281) (q : Fin 1024) :
    val_main_v6 (F := Ideal) g m (ix3 0 q r) = Adam.mom (g (ix3 (up r) 0 q)) (m (ix3 0 q r)) := by
  unfold val_main_v6 val_main_v5 val_main_v4 val_main_cst_0 val_main_v3 val_main_v2 val_main_cst
  pointwise [refg]
  rfl

theorem ref6 (g : (⟨3, ![1296, 1, 1024]⟩ : Shape).Idx → EReal) (v : (⟨3, ![1, 1024, 1281]⟩ : Shape).Idx → EReal) (r : Fin 1281) (q : Fin 1024) :
    val_main_v12 (F := Ideal) g v (ix3 0 q r) = Adam.sec (g (ix3 (up r) 0 q)) (v (ix3 0 q r)) := by
  unfold val_main_v12 val_main_v11 val_main_v10 val_main_cst_2 val_main_v9 val_main_v8 val_main_v7 val_main_cst_1
  pointwise [refg]
  rfl

theorem ref4 (w : (⟨3, ![1, 1024, 1281]⟩ : Shape).Idx → EReal) (g : (⟨3, ![1296, 1, 1024]⟩ : Shape).Idx → EReal) (m v : (⟨3, ![1, 1024, 1281]⟩ : Shape).Idx → EReal) (r : Fin 1281) (q : Fin 1024) :
    val_main_v25 (F := Ideal) w g m v (ix3 0 q r) = Adam.dif (w (ix3 0 q r)) (g (ix3 (up r) 0 q)) (m (ix3 0 q r)) (v (ix3 0 q r)) := by
  unfold val_main_v25 val_main_v24 val_main_cst_7 val_main_v23 val_main_v22 val_main_v21 val_main_cst_6 val_main_v20 val_main_v19 val_main_v18
    val_main_cst_5 val_main_v17 val_main_v16 val_main_v15 val_main_cst_4 val_main_v14 val_main_v13 val_main_cst_3
  pointwise [ref5, ref6]
  rfl
end

/-- From memories agreeing on the arguments, both run and leave equal arrays. -/
theorem algebraic : Cert.algebraic_AiKernelIdeal_AiReferenceIdeal := by
  intro m g m' g' _ ha
  refine ⟨R4 m, R5 m, R6 m, Cert.AiKernelIdeal.AdamArray.run m g,
    (θ_run Cert.AiReferenceIdeal.defs _ _).mono (fun r h c => ?_) (Cert.AiReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v25_eq, a0, a1, a2, a3]
    funext i
    obtain ⟨r, q, rfl⟩ : ∃ r q, i = ix3 0 q r := ⟨i 2, i 1, eta3 i⟩
    exact ref4 (aW m c) (aG m c) (aM m c) (aV m c) r q
  · rw [val_main_v6_eq, a1, a2]
    funext i
    obtain ⟨r, q, rfl⟩ : ∃ r q, i = ix3 0 q r := ⟨i 2, i 1, eta3 i⟩
    exact ref5 (aG m c) (aM m c) r q
  · rw [val_main_v12_eq, a1, a3]
    funext i
    obtain ⟨r, q, rfl⟩ : ∃ r q, i = ix3 0 q r := ⟨i 2, i 1, eta3 i⟩
    exact ref6 (aG m c) (aV m c) r q

end Cert.AiClaim
end
-- ==== Proof.AkClaim.lean ====
module

public import proofs.«01_k».proof.Defs
public import proofs.«01_k».proof.Proof.AdamSpec
public import proofs.«01_k».proof.Proof.Gen.AkKernelIdeal.Frame
public import proofs.«01_k».proof.Proof.Gen.AkReferenceIdeal.Run
public import proofs.«01_k».proof.Proof.Gen.AkReferenceIdeal.Read
public import Idealize.ShloMosaic.Lib.Pipeline.Value
public import Idealize.ShloMosaic.Lib.Pipeline.ValueKit

/-! The optimiser's call over 256 rows of 1024 columns, in one block, with the host's transposes around it. -/

@[expose] public section

set_option maxRecDepth 16384

noncomputable section

open Idealize.ShloMosaic Idealize.ShloMosaic.TcCoe Idealize.SL.Sem
open Idealize.ShloMosaic.Pipeline (Dat)

namespace Cert.AkKernelIdeal.AdamArray

open Cert.AkKernelIdeal Cert.AkKernelIdeal.Gen
open Cert.Adam (eta2 eta3)

theorem zeros : (![0, 0] : Fin 2 → Nat) = fun _ => 0 := by
  funext a
  match a with
  | ⟨0, _⟩ => rfl
  | ⟨1, _⟩ => rfl

/-- One grid step's blocks. -/
theorem pay1 (x1 x2 : Vec Ideal S256x1024 .f32) (y : (⟨2, ![256, 1024]⟩ : Shape).Idx) : k0_pay1 (F := Ideal) x1 x2 y = Adam.mom (x1 y) (x2 y) := by
  unfold k0_pay1
  pointwise
  rfl
theorem pay2 (x1 x3 : Vec Ideal S256x1024 .f32) (y : (⟨2, ![256, 1024]⟩ : Shape).Idx) : k0_pay2 (F := Ideal) x1 x3 y = Adam.sec (x1 y) (x3 y) := by
  unfold k0_pay2
  pointwise
  rfl
theorem pay3 (x0 x1 x2 x3 : Vec Ideal S256x1024 .f32) (y : (⟨2, ![256, 1024]⟩ : Shape).Idx) :
    k0_pay3 (F := Ideal) x1 x2 x3 x0 y = Adam.dif (x0 y) (x1 y) (x2 y) (x3 y) := by
  unfold k0_pay3
  pointwise [pay1, pay2]
  rfl
theorem blk4 (x0 x1 x2 x3 : Vec Ideal S256x1024 .f32) (y : (⟨2, ![256, 1024]⟩ : Shape).Idx) :
    out0_4 (F := Ideal) x0 x1 x2 x3 y = Adam.dif (x0 y) (x1 y) (x2 y) (x3 y) := by
  unfold out0_4
  rw [View.canon_unit_zero zeros]
  rw [View.ld_unit_zero zeros, View.ld_unit_zero zeros, View.ld_unit_zero zeros, View.ld_unit_zero zeros]
  exact pay3 x0 x1 x2 x3 y
theorem blk5 (x0 x1 x2 x3 : Vec Ideal S256x1024 .f32) (y : (⟨2, ![256, 1024]⟩ : Shape).Idx) : out0_5 (F := Ideal) x0 x1 x2 x3 y = Adam.mom (x1 y) (x2 y) := by
  unfold out0_5
  rw [View.canon_unit_zero zeros]
  rw [View.ld_unit_zero zeros, View.ld_unit_zero zeros]
  exact pay1 x1 x2 y
theorem blk6 (x0 x1 x2 x3 : Vec Ideal S256x1024 .f32) (y : (⟨2, ![256, 1024]⟩ : Shape).Idx) : out0_6 (F := Ideal) x0 x1 x2 x3 y = Adam.sec (x1 y) (x3 y) := by
  unfold out0_6
  rw [View.canon_unit_zero zeros]
  rw [View.ld_unit_zero zeros, View.ld_unit_zero zeros]
  exact pay2 x1 x3 y

variable (m : (ℓ : Loc nD τ sig) → Buf (Elt Ideal) ℓ) (c : Dev nD)

abbrev aW : (⟨3, ![1, 1024, 256]⟩ : Shape).Idx → EReal := m ((c : Thread nD τ).loc main_arg0)
abbrev aG : (⟨2, ![256, 1024]⟩ : Shape).Idx → EReal := m ((c : Thread nD τ).loc main_arg1)
abbrev aM : (⟨3, ![1, 1024, 256]⟩ : Shape).Idx → EReal := m ((c : Thread nD τ).loc main_arg2)
abbrev aV : (⟨3, ![1, 1024, 256]⟩ : Shape).Idx → EReal := m ((c : Thread nD τ).loc main_arg3)

theorem hostW (r : Fin 256) (q : Fin 1024) : V m c main_v1 (ix2 r q) = aW m c (ix3 0 q r) := by
  unfold V V0
  simp only [hostOps0, List.flatten_cons, List.flatten_nil, List.append_nil, List.cons_append, List.nil_append]
  after_results
  show transpose S256x1024 [1, 0] (shapeCast S1024x256 (aW m c) shapeCasts_S1x1024x256_S1024x256) transposes_S1024x256_S256x1024_1_0 (ix2 r q) = _
  pointwise
theorem hostM (r : Fin 256) (q : Fin 1024) : V m c main_v3 (ix2 r q) = aM m c (ix3 0 q r) := by
  unfold V V0
  simp only [hostOps0, List.flatten_cons, List.flatten_nil, List.append_nil, List.cons_append, List.nil_append]
  after_results
  show transpose S256x1024 [1, 0] (shapeCast S1024x256 (aM m c) shapeCasts_S1x1024x256_S1024x256) transposes_S1024x256_S256x1024_1_0 (ix2 r q) = _
  pointwise
theorem hostV (r : Fin 256) (q : Fin 1024) : V m c main_v5 (ix2 r q) = aV m c (ix3 0 q r) := by
  unfold V V0
  simp only [hostOps0, List.flatten_cons, List.flatten_nil, List.append_nil, List.cons_append, List.nil_append]
  after_results
  show transpose S256x1024 [1, 0] (shapeCast S1024x256 (aV m c) shapeCasts_S1x1024x256_S1024x256) transposes_S1024x256_S256x1024_1_0 (ix2 r q) = _
  pointwise

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

theorem b0 (t : Fin cfg0.N) (r : Fin 256) (q : Fin 1024) : iblk m c 0 t (ix2 r q) = aW m c (ix3 0 q r) := by
  refine Eq.trans ?_ (hostW m c r q)
  unfold iblk
  generalize V m c = U
  blk_ext [idx t]
theorem b2 (t : Fin cfg0.N) (r : Fin 256) (q : Fin 1024) : iblk m c 2 t (ix2 r q) = aM m c (ix3 0 q r) := by
  refine Eq.trans ?_ (hostM m c r q)
  unfold iblk
  generalize V m c = U
  blk_ext [idx t]
theorem b3 (t : Fin cfg0.N) (r : Fin 256) (q : Fin 1024) : iblk m c 3 t (ix2 r q) = aV m c (ix3 0 q r) := by
  refine Eq.trans ?_ (hostV m c r q)
  unfold iblk
  generalize V m c = U
  blk_ext [idx t]
theorem b1 (t : Fin cfg0.N) (r : Fin 256) (q : Fin 1024) : iblk m c 1 t (ix2 r q) = aG m c (ix2 r q) := by
  refine Eq.trans ?_ (congrFun (V_main_arg1 m c) _)
  unfold iblk
  generalize V m c = U
  blk_ext [idx t]

/-- An element of the three results. -/
def D (r : Fin 256) (q : Fin 1024) : EReal := Adam.dif (aW m c (ix3 0 q r)) (aG m c (ix2 r q)) (aM m c (ix3 0 q r)) (aV m c (ix3 0 q r))
def M (r : Fin 256) (q : Fin 1024) : EReal := Adam.mom (aG m c (ix2 r q)) (aM m c (ix3 0 q r))
def S (r : Fin 256) (q : Fin 1024) : EReal := Adam.sec (aG m c (ix2 r q)) (aV m c (ix3 0 q r))

theorem out4 (t : Fin cfg0.N) (r : Fin 256) (q : Fin 1024) :
    out0_4 (F := Ideal) (iblk m c 0 t) (iblk m c 1 t) (iblk m c 2 t) (iblk m c 3 t) (ix2 r q) = D m c r q := by
  unfold D
  rw [blk4, b0, b1, b2, b3]
theorem out5 (t : Fin cfg0.N) (r : Fin 256) (q : Fin 1024) :
    out0_5 (F := Ideal) (iblk m c 0 t) (iblk m c 1 t) (iblk m c 2 t) (iblk m c 3 t) (ix2 r q) = M m c r q := by
  unfold M
  rw [blk5, b1, b2]
theorem out6 (t : Fin cfg0.N) (r : Fin 256) (q : Fin 1024) :
    out0_6 (F := Ideal) (iblk m c 0 t) (iblk m c 1 t) (iblk m c 2 t) (iblk m c 3 t) (ix2 r q) = S m c r q := by
  unfold S
  rw [blk6, b1, b3]

/-- What the call leaves in result 0. -/
def L4 : (⟨2, ![256, 1024]⟩ : Shape).Idx → EReal := fun i => D m c (i 0) (i 1)

theorem left4 (t : Fin cfg0.N) (y : (⟨2, ![256, 1024]⟩ : Shape).Idx) (i : (⟨2, ![256, 1024]⟩ : Shape).Idx) (h0 : (i 0).val = (y 0).val) (h1 : (i 1).val = (y 1).val) :
    out0_4 (F := Ideal) (iblk m c 0 t) (iblk m c 1 t) (iblk m c 2 t) (iblk m c 3 t) y = L4 m c i := by
  obtain ⟨r, q, rfl⟩ : ∃ r q, y = ix2 (n0 := 256) (n1 := 1024) r q := ⟨y 0, y 1, eta2 (m := 256) (n := 1024) y⟩
  have e0 : i 0 = r := Fin.ext h0
  have e1 : i 1 = q := Fin.ext h1
  unfold L4
  rw [e0, e1]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 1024, 256]⟩ : Shape).Idx → EReal := fun i => D m c (i 2) (i 1)

theorem tail4 : Pipeline.afterTail₀ cfgs (dats m) 0 (V0 m) [hostOps1] c main_v8 = R4 m c := by
  have e : Pipeline.withArrays (cfgs 0).spec c (V0 m c) (fun w => (dats m 0 c).arrAt w (cfgs 0).N) (Proc.devRef .tc main_v6_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x256 (transpose S1024x256 [1, 0] (L4 m c) transposes_S256x1024_S1024x256_1_0) shapeCasts_S1024x256_S1x1024x256 (ix3 0 q r) = _
  pointwise
  rfl

/-- What the call leaves in result 1. -/
def L5 : (⟨2, ![256, 1024]⟩ : Shape).Idx → EReal := fun i => M m c (i 0) (i 1)

theorem left5 (t : Fin cfg0.N) (y : (⟨2, ![256, 1024]⟩ : Shape).Idx) (i : (⟨2, ![256, 1024]⟩ : Shape).Idx) (h0 : (i 0).val = (y 0).val) (h1 : (i 1).val = (y 1).val) :
    out0_5 (F := Ideal) (iblk m c 0 t) (iblk m c 1 t) (iblk m c 2 t) (iblk m c 3 t) y = L5 m c i := by
  obtain ⟨r, q, rfl⟩ : ∃ r q, y = ix2 (n0 := 256) (n1 := 1024) r q := ⟨y 0, y 1, eta2 (m := 256) (n := 1024) y⟩
  have e0 : i 0 = r := Fin.ext h0
  have e1 : i 1 = q := Fin.ext h1
  unfold L5
  rw [e0, e1]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 1024, 256]⟩ : Shape).Idx → EReal := fun i => M m c (i 2) (i 1)

theorem tail5 : Pipeline.afterTail₀ cfgs (dats m) 0 (V0 m) [hostOps1] c main_v10 = R5 m c := by
  have e : Pipeline.withArrays (cfgs 0).spec c (V0 m c) (fun w => (dats m 0 c).arrAt w (cfgs 0).N) (Proc.devRef .tc main_v6_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x256 (transpose S1024x256 [1, 0] (L5 m c) transposes_S256x1024_S1024x256_1_0) shapeCasts_S1024x256_S1x1024x256 (ix3 0 q r) = _
  pointwise
  rfl

/-- What the call leaves in result 2. -/
def L6 : (⟨2, ![256, 1024]⟩ : Shape).Idx → EReal := fun i => S m c (i 0) (i 1)

theorem left6 (t : Fin cfg0.N) (y : (⟨2, ![256, 1024]⟩ : Shape).Idx) (i : (⟨2, ![256, 1024]⟩ : Shape).Idx) (h0 : (i 0).val = (y 0).val) (h1 : (i 1).val = (y 1).val) :
    out0_6 (F := Ideal) (iblk m c 0 t) (iblk m c 1 t) (iblk m c 2 t) (iblk m c 3 t) y = L6 m c i := by
  obtain ⟨r, q, rfl⟩ : ∃ r q, y = ix2 (n0 := 256) (n1 := 1024) r q := ⟨y 0, y 1, eta2 (m := 256) (n := 1024) y⟩
  have e0 : i 0 = r := Fin.ext h0
  have e1 : i 1 = q := Fin.ext h1
  unfold L6
  rw [e0, e1]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 1024, 256]⟩ : Shape).Idx → EReal := fun i => S m c (i 2) (i 1)

theorem tail6 : Pipeline.afterTail₀ cfgs (dats m) 0 (V0 m) [hostOps1] c main_v12 = R6 m c := by
  have e : Pipeline.withArrays (cfgs 0).spec c (V0 m c) (fun w => (dats m 0 c).arrAt w (cfgs 0).N) (Proc.devRef .tc main_v6_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x256 (transpose S1024x256 [1, 0] (L6 m c) transposes_S256x1024_S1024x256_1_0) shapeCasts_S1024x256_S1x1024x256 (ix3 0 q r) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v8) = R4 m c
      ∧ r.2.mem ((c.tc : Thread nD τ).loc main_v10) = R5 m c
      ∧ r.2.mem ((c.tc : Thread nD τ).loc main_v12) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v8 (Pipeline.mem_restRefs_of main_v8 (by decide) (by decide))).trans (tail4 m c),
      ((h.1 c).2 main_v10 (Pipeline.mem_restRefs_of main_v10 (by decide) (by decide))).trans (tail5 m c),
      ((h.1 c).2 main_v12 (Pipeline.mem_restRefs_of main_v12 (by decide) (by decide))).trans (tail6 m c), h.2 c⟩)
    (θ_run_and (run_main m ρ) (unchanged m ρ))

end Cert.AkKernelIdeal.AdamArray

namespace Cert.AkClaim

open Cert.AkKernelIdeal.AdamArray
open Cert.Adam (eta3)

/-- The reference's run ends with its arguments unchanged and every counter at zero. -/
theorem frame_ref : Cert.quiescent_AkReferenceIdeal := fun m ρ _ =>
  (θ_run Cert.AkReferenceIdeal.defs _ _).mono
    (fun r h => ⟨fun c => (h c).2.2.2, Idealize.ShloMosaic.sem_eq_zero_of_no_sems (by decide) r.2⟩)
    (Cert.AkReferenceIdeal.Value.run m ρ)

open Cert.AkReferenceIdeal.Read

section
open Cert.AkReferenceIdeal Cert.AkReferenceIdeal.Gen

theorem refg (g : (⟨2, ![256, 1024]⟩ : Shape).Idx → EReal) (r : Fin 256) (q : Fin 1024) : val_main_v1 (F := Ideal) g (ix3 0 q r) = g (ix2 r q) := by
  unfold val_main_v1 val_main_v0
  pointwise

theorem ref5 (g : (⟨2, ![256, 1024]⟩ : Shape).Idx → EReal) (m : (⟨3, ![1, 1024, 256]⟩ : Shape).Idx → EReal) (r : Fin 256) (q : Fin 1024) :
    val_main_v6 (F := Ideal) g m (ix3 0 q r) = Adam.mom (g (ix2 r q)) (m (ix3 0 q r)) := by
  unfold val_main_v6 val_main_v5 val_main_v4 val_main_cst_0 val_main_v3 val_main_v2 val_main_cst
  pointwise [refg]
  rfl

theorem ref6 (g : (⟨2, ![256, 1024]⟩ : Shape).Idx → EReal) (v : (⟨3, ![1, 1024, 256]⟩ : Shape).Idx → EReal) (r : Fin 256) (q : Fin 1024) :
    val_main_v12 (F := Ideal) g v (ix3 0 q r) = Adam.sec (g (ix2 r q)) (v (ix3 0 q r)) := by
  unfold val_main_v12 val_main_v11 val_main_v10 val_main_cst_2 val_main_v9 val_main_v8 val_main_v7 val_main_cst_1
  pointwise [refg]
  rfl

theorem ref4 (w : (⟨3, ![1, 1024, 256]⟩ : Shape).Idx → EReal) (g : (⟨2, ![256, 1024]⟩ : Shape).Idx → EReal) (m v : (⟨3, ![1, 1024, 256]⟩ : Shape).Idx → EReal) (r : Fin 256) (q : Fin 1024) :
    val_main_v25 (F := Ideal) w g m v (ix3 0 q r) = Adam.dif (w (ix3 0 q r)) (g (ix2 r q)) (m (ix3 0 q r)) (v (ix3 0 q r)) := by
  unfold val_main_v25 val_main_v24 val_main_cst_7 val_main_v23 val_main_v22 val_main_v21 val_main_cst_6 val_main_v20 val_main_v19 val_main_v18
    val_main_cst_5 val_main_v17 val_main_v16 val_main_v15 val_main_cst_4 val_main_v14 val_main_v13 val_main_cst_3
  pointwise [ref5, ref6]
  rfl
end

/-- From memories agreeing on the arguments, both run and leave equal arrays. -/
theorem algebraic : Cert.algebraic_AkKernelIdeal_AkReferenceIdeal := by
  intro m g m' g' _ ha
  refine ⟨R4 m, R5 m, R6 m, Cert.AkKernelIdeal.AdamArray.run m g,
    (θ_run Cert.AkReferenceIdeal.defs _ _).mono (fun r h c => ?_) (Cert.AkReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v25_eq, a0, a1, a2, a3]
    funext i
    obtain ⟨r, q, rfl⟩ : ∃ r q, i = ix3 0 q r := ⟨i 2, i 1, eta3 i⟩
    exact ref4 (aW m c) (aG m c) (aM m c) (aV m c) r q
  · rw [val_main_v6_eq, a1, a2]
    funext i
    obtain ⟨r, q, rfl⟩ : ∃ r q, i = ix3 0 q r := ⟨i 2, i 1, eta3 i⟩
    exact ref5 (aG m c) (aM m c) r q
  · rw [val_main_v12_eq, a1, a3]
    funext i
    obtain ⟨r, q, rfl⟩ : ∃ r q, i = ix3 0 q r := ⟨i 2, i 1, eta3 i⟩
    exact ref6 (aG m c) (aV m c) r q

end Cert.AkClaim
end
-- ==== Proof.AbClaim.lean ====
module

public import proofs.«01_k».proof.Defs
public import proofs.«01_k».proof.Proof.AdamSpec
public import proofs.«01_k».proof.Proof.Gen.AbKernelIdeal.Frame
public import proofs.«01_k».proof.Proof.Gen.AbReferenceIdeal.Run
public import proofs.«01_k».proof.Proof.Gen.AbReferenceIdeal.Read
public import Idealize.ShloMosaic.Lib.Pipeline.Value
public import Idealize.ShloMosaic.Lib.Pipeline.ValueKit

/-! The optimiser's call over 128 rows of 1024 columns, in one block, with the host's reshapes around it. -/

@[expose] public section

set_option maxRecDepth 16384

noncomputable section

open Idealize.ShloMosaic Idealize.ShloMosaic.TcCoe Idealize.SL.Sem
open Idealize.ShloMosaic.Pipeline (Dat)

namespace Cert.AbKernelIdeal.AdamArray

open Cert.AbKernelIdeal Cert.AbKernelIdeal.Gen
open Cert.Adam (eta2 eta3)

theorem zeros : (![0, 0] : Fin 2 → Nat) = fun _ => 0 := by
  funext a
  match a with
  | ⟨0, _⟩ => rfl
  | ⟨1, _⟩ => rfl

/-- One grid step's blocks. -/
theorem pay1 (x1 x2 : Vec Ideal S128x1024 .f32) (y : (⟨2, ![128, 1024]⟩ : Shape).Idx) : k0_pay1 (F := Ideal) x1 x2 y = Adam.mom (x1 y) (x2 y) := by
  unfold k0_pay1
  pointwise
  rfl
theorem pay2 (x1 x3 : Vec Ideal S128x1024 .f32) (y : (⟨2, ![128, 1024]⟩ : Shape).Idx) : k0_pay2 (F := Ideal) x1 x3 y = Adam.sec (x1 y) (x3 y) := by
  unfold k0_pay2
  pointwise
  rfl
theorem pay3 (x0 x1 x2 x3 : Vec Ideal S128x1024 .f32) (y : (⟨2, ![128, 1024]⟩ : Shape).Idx) :
    k0_pay3 (F := Ideal) x1 x2 x3 x0 y = Adam.dif (x0 y) (x1 y) (x2 y) (x3 y) := by
  unfold k0_pay3
  pointwise [pay1, pay2]
  rfl
theorem blk4 (x0 x1 x2 x3 : Vec Ideal S128x1024 .f32) (y : (⟨2, ![128, 1024]⟩ : Shape).Idx) :
    out0_4 (F := Ideal) x0 x1 x2 x3 y = Adam.dif (x0 y) (x1 y) (x2 y) (x3 y) := by
  unfold out0_4
  rw [View.canon_unit_zero zeros]
  rw [View.ld_unit_zero zeros, View.ld_unit_zero zeros, View.ld_unit_zero zeros, View.ld_unit_zero zeros]
  exact pay3 x0 x1 x2 x3 y
theorem blk5 (x0 x1 x2 x3 : Vec Ideal S128x1024 .f32) (y : (⟨2, ![128, 1024]⟩ : Shape).Idx) : out0_5 (F := Ideal) x0 x1 x2 x3 y = Adam.mom (x1 y) (x2 y) := by
  unfold out0_5
  rw [View.canon_unit_zero zeros]
  rw [View.ld_unit_zero zeros, View.ld_unit_zero zeros]
  exact pay1 x1 x2 y
theorem blk6 (x0 x1 x2 x3 : Vec Ideal S128x1024 .f32) (y : (⟨2, ![128, 1024]⟩ : Shape).Idx) : out0_6 (F := Ideal) x0 x1 x2 x3 y = Adam.sec (x1 y) (x3 y) := by
  unfold out0_6
  rw [View.canon_unit_zero zeros]
  rw [View.ld_unit_zero zeros, View.ld_unit_zero zeros]
  exact pay2 x1 x3 y

variable (m : (ℓ : Loc nD τ sig) → Buf (Elt Ideal) ℓ) (c : Dev nD)

abbrev aW : (⟨3, ![1, 128, 1024]⟩ : Shape).Idx → EReal := m ((c : Thread nD τ).loc main_arg0)
abbrev aG : (⟨2, ![128, 1024]⟩ : Shape).Idx → EReal := m ((c : Thread nD τ).loc main_arg1)
abbrev aM : (⟨3, ![1, 128, 1024]⟩ : Shape).Idx → EReal := m ((c : Thread nD τ).loc main_arg2)
abbrev aV : (⟨3, ![1, 128, 1024]⟩ : Shape).Idx → EReal := m ((c : Thread nD τ).loc main_arg3)

theorem hostW (r : Fin 128) (q : Fin 1024) : V m c main_v0 (ix2 r q) = aW m c (ix3 0 r q) := by
  unfold V V0
  simp only [hostOps0, List.flatten_cons, List.flatten_nil, List.append_nil, List.cons_append, List.nil_append]
  after_results
  show shapeCast S128x1024 (aW m c) shapeCasts_S1x128x1024_S128x1024 (ix2 r q) = _
  pointwise
theorem hostM (r : Fin 128) (q : Fin 1024) : V m c main_v1 (ix2 r q) = aM m c (ix3 0 r q) := by
  unfold V V0
  simp only [hostOps0, List.flatten_cons, List.flatten_nil, List.append_nil, List.cons_append, List.nil_append]
  after_results
  show shapeCast S128x1024 (aM m c) shapeCasts_S1x128x1024_S128x1024 (ix2 r q) = _
  pointwise
theorem hostV (r : Fin 128) (q : Fin 1024) : V m c main_v2 (ix2 r q) = aV m c (ix3 0 r q) := by
  unfold V V0
  simp only [hostOps0, List.flatten_cons, List.flatten_nil, List.append_nil, List.cons_append, List.nil_append]
  after_results
  show shapeCast S128x1024 (aV m c) shapeCasts_S1x128x1024_S128x1024 (ix2 r q) = _
  pointwise

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

theorem b0 (t : Fin cfg0.N) (r : Fin 128) (q : Fin 1024) : iblk m c 0 t (ix2 r q) = aW m c (ix3 0 r q) := by
  refine Eq.trans ?_ (hostW m c r q)
  unfold iblk
  generalize V m c = U
  blk_ext [idx t]
theorem b2 (t : Fin cfg0.N) (r : Fin 128) (q : Fin 1024) : iblk m c 2 t (ix2 r q) = aM m c (ix3 0 r q) := by
  refine Eq.trans ?_ (hostM m c r q)
  unfold iblk
  generalize V m c = U
  blk_ext [idx t]
theorem b3 (t : Fin cfg0.N) (r : Fin 128) (q : Fin 1024) : iblk m c 3 t (ix2 r q) = aV m c (ix3 0 r q) := by
  refine Eq.trans ?_ (hostV m c r q)
  unfold iblk
  generalize V m c = U
  blk_ext [idx t]
theorem b1 (t : Fin cfg0.N) (r : Fin 128) (q : Fin 1024) : iblk m c 1 t (ix2 r q) = aG m c (ix2 r q) := by
  refine Eq.trans ?_ (congrFun (V_main_arg1 m c) _)
  unfold iblk
  generalize V m c = U
  blk_ext [idx t]

/-- An element of the three results. -/
def D (r : Fin 128) (q : Fin 1024) : EReal := Adam.dif (aW m c (ix3 0 r q)) (aG m c (ix2 r q)) (aM m c (ix3 0 r q)) (aV m c (ix3 0 r q))
def M (r : Fin 128) (q : Fin 1024) : EReal := Adam.mom (aG m c (ix2 r q)) (aM m c (ix3 0 r q))
def S (r : Fin 128) (q : Fin 1024) : EReal := Adam.sec (aG m c (ix2 r q)) (aV m c (ix3 0 r q))

theorem out4 (t : Fin cfg0.N) (r : Fin 128) (q : Fin 1024) :
    out0_4 (F := Ideal) (iblk m c 0 t) (iblk m c 1 t) (iblk m c 2 t) (iblk m c 3 t) (ix2 r q) = D m c r q := by
  unfold D
  rw [blk4, b0, b1, b2, b3]
theorem out5 (t : Fin cfg0.N) (r : Fin 128) (q : Fin 1024) :
    out0_5 (F := Ideal) (iblk m c 0 t) (iblk m c 1 t) (iblk m c 2 t) (iblk m c 3 t) (ix2 r q) = M m c r q := by
  unfold M
  rw [blk5, b1, b2]
theorem out6 (t : Fin cfg0.N) (r : Fin 128) (q : Fin 1024) :
    out0_6 (F := Ideal) (iblk m c 0 t) (iblk m c 1 t) (iblk m c 2 t) (iblk m c 3 t) (ix2 r q) = S m c r q := by
  unfold S
  rw [blk6, b1, b3]

/-- What the call leaves in result 0. -/
def L4 : (⟨2, ![128, 1024]⟩ : Shape).Idx → EReal := fun i => D m c (i 0) (i 1)

theorem left4 (t : Fin cfg0.N) (y : (⟨2, ![128, 1024]⟩ : Shape).Idx) (i : (⟨2, ![128, 1024]⟩ : Shape).Idx) (h0 : (i 0).val = (y 0).val) (h1 : (i 1).val = (y 1).val) :
    out0_4 (F := Ideal) (iblk m c 0 t) (iblk m c 1 t) (iblk m c 2 t) (iblk m c 3 t) y = L4 m c i := by
  obtain ⟨r, q, rfl⟩ : ∃ r q, y = ix2 (n0 := 128) (n1 := 1024) r q := ⟨y 0, y 1, eta2 (m := 128) (n := 1024) y⟩
  have e0 : i 0 = r := Fin.ext h0
  have e1 : i 1 = q := Fin.ext h1
  unfold L4
  rw [e0, e1]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 128, 1024]⟩ : Shape).Idx → EReal := fun i => D m c (i 1) (i 2)

theorem tail4 : Pipeline.afterTail₀ cfgs (dats m) 0 (V0 m) [hostOps1] c main_v4 = R4 m c := by
  have e : Pipeline.withArrays (cfgs 0).spec c (V0 m c) (fun w => (dats m 0 c).arrAt w (cfgs 0).N) (Proc.devRef .tc main_v3_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x128x1024 (L4 m c) shapeCasts_S128x1024_S1x128x1024 (ix3 0 r q) = _
  pointwise
  rfl

/-- What the call leaves in result 1. -/
def L5 : (⟨2, ![128, 1024]⟩ : Shape).Idx → EReal := fun i => M m c (i 0) (i 1)

theorem left5 (t : Fin cfg0.N) (y : (⟨2, ![128, 1024]⟩ : Shape).Idx) (i : (⟨2, ![128, 1024]⟩ : Shape).Idx) (h0 : (i 0).val = (y 0).val) (h1 : (i 1).val = (y 1).val) :
    out0_5 (F := Ideal) (iblk m c 0 t) (iblk m c 1 t) (iblk m c 2 t) (iblk m c 3 t) y = L5 m c i := by
  obtain ⟨r, q, rfl⟩ : ∃ r q, y = ix2 (n0 := 128) (n1 := 1024) r q := ⟨y 0, y 1, eta2 (m := 128) (n := 1024) y⟩
  have e0 : i 0 = r := Fin.ext h0
  have e1 : i 1 = q := Fin.ext h1
  unfold L5
  rw [e0, e1]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 128, 1024]⟩ : Shape).Idx → EReal := fun i => M m c (i 1) (i 2)

theorem tail5 : Pipeline.afterTail₀ cfgs (dats m) 0 (V0 m) [hostOps1] c main_v5 = R5 m c := by
  have e : Pipeline.withArrays (cfgs 0).spec c (V0 m c) (fun w => (dats m 0 c).arrAt w (cfgs 0).N) (Proc.devRef .tc main_v3_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x128x1024 (L5 m c) shapeCasts_S128x1024_S1x128x1024 (ix3 0 r q) = _
  pointwise
  rfl

/-- What the call leaves in result 2. -/
def L6 : (⟨2, ![128, 1024]⟩ : Shape).Idx → EReal := fun i => S m c (i 0) (i 1)

theorem left6 (t : Fin cfg0.N) (y : (⟨2, ![128, 1024]⟩ : Shape).Idx) (i : (⟨2, ![128, 1024]⟩ : Shape).Idx) (h0 : (i 0).val = (y 0).val) (h1 : (i 1).val = (y 1).val) :
    out0_6 (F := Ideal) (iblk m c 0 t) (iblk m c 1 t) (iblk m c 2 t) (iblk m c 3 t) y = L6 m c i := by
  obtain ⟨r, q, rfl⟩ : ∃ r q, y = ix2 (n0 := 128) (n1 := 1024) r q := ⟨y 0, y 1, eta2 (m := 128) (n := 1024) y⟩
  have e0 : i 0 = r := Fin.ext h0
  have e1 : i 1 = q := Fin.ext h1
  unfold L6
  rw [e0, e1]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 128, 1024]⟩ : Shape).Idx → EReal := fun i => S m c (i 1) (i 2)

theorem tail6 : Pipeline.afterTail₀ cfgs (dats m) 0 (V0 m) [hostOps1] c main_v6 = R6 m c := by
  have e : Pipeline.withArrays (cfgs 0).spec c (V0 m c) (fun w => (dats m 0 c).arrAt w (cfgs 0).N) (Proc.devRef .tc main_v3_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x128x1024 (L6 m c) shapeCasts_S128x1024_S1x128x1024 (ix3 0 r q) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v4) = R4 m c
      ∧ r.2.mem ((c.tc : Thread nD τ).loc main_v5) = R5 m c
      ∧ r.2.mem ((c.tc : Thread nD τ).loc main_v6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c), h.2 c⟩)
    (θ_run_and (run_main m ρ) (unchanged m ρ))

end Cert.AbKernelIdeal.AdamArray

namespace Cert.AbClaim

open Cert.AbKernelIdeal.AdamArray
open Cert.Adam (eta3)

/-- The reference's run ends with its arguments unchanged and every counter at zero. -/
theorem frame_ref : Cert.quiescent_AbReferenceIdeal := fun m ρ _ =>
  (θ_run Cert.AbReferenceIdeal.defs _ _).mono
    (fun r h => ⟨fun c => (h c).2.2.2, Idealize.ShloMosaic.sem_eq_zero_of_no_sems (by decide) r.2⟩)
    (Cert.AbReferenceIdeal.Value.run m ρ)

open Cert.AbReferenceIdeal.Read

section
open Cert.AbReferenceIdeal Cert.AbReferenceIdeal.Gen

theorem refg (g : (⟨2, ![128, 1024]⟩ : Shape).Idx → EReal) (r : Fin 128) (q : Fin 1024) : val_main_v0 (F := Ideal) g (ix3 0 r q) = g (ix2 r q) := by
  unfold val_main_v0
  pointwise

theorem ref5 (g : (⟨2, ![128, 1024]⟩ : Shape).Idx → EReal) (m : (⟨3, ![1, 128, 1024]⟩ : Shape).Idx → EReal) (r : Fin 128) (q : Fin 1024) :
    val_main_v5 (F := Ideal) g m (ix3 0 r q) = Adam.mom (g (ix2 r q)) (m (ix3 0 r q)) := by
  unfold val_main_v5 val_main_v4 val_main_v3 val_main_cst_0 val_main_v2 val_main_v1 val_main_cst
  pointwise [refg]
  rfl

theorem ref6 (g : (⟨2, ![128, 1024]⟩ : Shape).Idx → EReal) (v : (⟨3, ![1, 128, 1024]⟩ : Shape).Idx → EReal) (r : Fin 128) (q : Fin 1024) :
    val_main_v11 (F := Ideal) g v (ix3 0 r q) = Adam.sec (g (ix2 r q)) (v (ix3 0 r q)) := by
  unfold val_main_v11 val_main_v10 val_main_v9 val_main_cst_2 val_main_v8 val_main_v7 val_main_v6 val_main_cst_1
  pointwise [refg]
  rfl

theorem ref4 (w : (⟨3, ![1, 128, 1024]⟩ : Shape).Idx → EReal) (g : (⟨2, ![128, 1024]⟩ : Shape).Idx → EReal) (m v : (⟨3, ![1, 128, 1024]⟩ : Shape).Idx → EReal) (r : Fin 128) (q : Fin 1024) :
    val_main_v24 (F := Ideal) w g m v (ix3 0 r q) = Adam.dif (w (ix3 0 r q)) (g (ix2 r q)) (m (ix3 0 r q)) (v (ix3 0 r q)) := by
  unfold val_main_v24 val_main_v23 val_main_cst_7 val_main_v22 val_main_v21 val_main_v20 val_main_cst_6 val_main_v19 val_main_v18 val_main_v17
    val_main_cst_5 val_main_v16 val_main_v15 val_main_v14 val_main_cst_4 val_main_v13 val_main_v12 val_main_cst_3
  pointwise [ref5, ref6]
  rfl
end

/-- From memories agreeing on the arguments, both run and leave equal arrays. -/
theorem algebraic : Cert.algebraic_AbKernelIdeal_AbReferenceIdeal := by
  intro m g m' g' _ ha
  refine ⟨R4 m, R5 m, R6 m, Cert.AbKernelIdeal.AdamArray.run m g,
    (θ_run Cert.AbReferenceIdeal.defs _ _).mono (fun r h c => ?_) (Cert.AbReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v24_eq, a0, a1, a2, a3]
    funext i
    obtain ⟨r, q, rfl⟩ : ∃ r q, i = ix3 0 r q := ⟨i 1, i 2, eta3 i⟩
    exact ref4 (aW m c) (aG m c) (aM m c) (aV m c) r q
  · rw [val_main_v5_eq, a1, a2]
    funext i
    obtain ⟨r, q, rfl⟩ : ∃ r q, i = ix3 0 r q := ⟨i 1, i 2, eta3 i⟩
    exact ref5 (aG m c) (aM m c) r q
  · rw [val_main_v11_eq, a1, a3]
    funext i
    obtain ⟨r, q, rfl⟩ : ∃ r q, i = ix3 0 r q := ⟨i 1, i 2, eta3 i⟩
    exact ref6 (aG m c) (aV m c) r q

end Cert.AbClaim
end
-- ==== Proof.ApClaim.lean ====
module

public import proofs.«01_k».proof.Defs
public import proofs.«01_k».proof.Proof.AdamSpec
public import proofs.«01_k».proof.Proof.Gen.ApKernelIdeal.Frame
public import proofs.«01_k».proof.Proof.Gen.ApReferenceIdeal.Run
public import proofs.«01_k».proof.Proof.Gen.ApReferenceIdeal.Read
public import Idealize.ShloMosaic.Lib.Pipeline.Value
public import Idealize.ShloMosaic.Lib.Pipeline.ValueKit

/-! The optimiser's call over 704 rows of 1024 columns, blocks of 352 rows, with the host's transposes around it. -/

@[expose] public section

set_option maxRecDepth 16384

noncomputable section

open Idealize.ShloMosaic Idealize.ShloMosaic.TcCoe Idealize.SL.Sem
open Idealize.ShloMosaic.Pipeline (Dat)

namespace Cert.ApKernelIdeal.AdamArray

open Cert.ApKernelIdeal Cert.ApKernelIdeal.Gen
open Cert.Adam (eta2 eta3)

theorem zeros : (![0, 0] : Fin 2 → Nat) = fun _ => 0 := by
  funext a
  match a with
  | ⟨0, _⟩ => rfl
  | ⟨1, _⟩ => rfl

/-- One grid step's blocks. -/
theorem pay1 (x1 x2 : Vec Ideal S352x1024 .f32) (y : (⟨2, ![352, 1024]⟩ : Shape).Idx) : k0_pay1 (F := Ideal) x1 x2 y = Adam.mom (x1 y) (x2 y) := by
  unfold k0_pay1
  pointwise
  rfl
theorem pay2 (x1 x3 : Vec Ideal S352x1024 .f32) (y : (⟨2, ![352, 1024]⟩ : Shape).Idx) : k0_pay2 (F := Ideal) x1 x3 y = Adam.sec (x1 y) (x3 y) := by
  unfold k0_pay2
  pointwise
  rfl
theorem pay3 (x0 x1 x2 x3 : Vec Ideal S352x1024 .f32) (y : (⟨2, ![352, 1024]⟩ : Shape).Idx) :
    k0_pay3 (F := Ideal) x1 x2 x3 x0 y = Adam.dif (x0 y) (x1 y) (x2 y) (x3 y) := by
  unfold k0_pay3
  pointwise [pay1, pay2]
  rfl
theorem blk4 (x0 x1 x2 x3 : Vec Ideal S352x1024 .f32) (y : (⟨2, ![352, 1024]⟩ : Shape).Idx) :
    out0_4 (F := Ideal) x0 x1 x2 x3 y = Adam.dif (x0 y) (x1 y) (x2 y) (x3 y) := by
  unfold out0_4
  rw [View.canon_unit_zero zeros]
  rw [View.ld_unit_zero zeros, View.ld_unit_zero zeros, View.ld_unit_zero zeros, View.ld_unit_zero zeros]
  exact pay3 x0 x1 x2 x3 y
theorem blk5 (x0 x1 x2 x3 : Vec Ideal S352x1024 .f32) (y : (⟨2, ![352, 1024]⟩ : Shape).Idx) : out0_5 (F := Ideal) x0 x1 x2 x3 y = Adam.mom (x1 y) (x2 y) := by
  unfold out0_5
  rw [View.canon_unit_zero zeros]
  rw [View.ld_unit_zero zeros, View.ld_unit_zero zeros]
  exact pay1 x1 x2 y
theorem blk6 (x0 x1 x2 x3 : Vec Ideal S352x1024 .f32) (y : (⟨2, ![352, 1024]⟩ : Shape).Idx) : out0_6 (F := Ideal) x0 x1 x2 x3 y = Adam.sec (x1 y) (x3 y) := by
  unfold out0_6
  rw [View.canon_unit_zero zeros]
  rw [View.ld_unit_zero zeros, View.ld_unit_zero zeros]
  exact pay2 x1 x3 y

variable (m : (ℓ : Loc nD τ sig) → Buf (Elt Ideal) ℓ) (c : Dev nD)

abbrev aW : (⟨3, ![1, 1024, 704]⟩ : Shape).Idx → EReal := m ((c : Thread nD τ).loc main_arg0)
abbrev aG : (⟨2, ![704, 1024]⟩ : Shape).Idx → EReal := m ((c : Thread nD τ).loc main_arg1)
abbrev aM : (⟨3, ![1, 1024, 704]⟩ : Shape).Idx → EReal := m ((c : Thread nD τ).loc main_arg2)
abbrev aV : (⟨3, ![1, 1024, 704]⟩ : Shape).Idx → EReal := m ((c : Thread nD τ).loc main_arg3)

theorem hostW (r : Fin 704) (q : Fin 1024) : V m c main_v1 (ix2 r q) = aW m c (ix3 0 q r) := by
  unfold V V0
  simp only [hostOps0, List.flatten_cons, List.flatten_nil, List.append_nil, List.cons_append, List.nil_append]
  after_results
  show transpose S704x1024 [1, 0] (shapeCast S1024x704 (aW m c) shapeCasts_S1x1024x704_S1024x704) transposes_S1024x704_S704x1024_1_0 (ix2 r q) = _
  pointwise
theorem hostM (r : Fin 704) (q : Fin 1024) : V m c main_v3 (ix2 r q) = aM m c (ix3 0 q r) := by
  unfold V V0
  simp only [hostOps0, List.flatten_cons, List.flatten_nil, List.append_nil, List.cons_append, List.nil_append]
  after_results
  show transpose S704x1024 [1, 0] (shapeCast S1024x704 (aM m c) shapeCasts_S1x1024x704_S1024x704) transposes_S1024x704_S704x1024_1_0 (ix2 r q) = _
  pointwise
theorem hostV (r : Fin 704) (q : Fin 1024) : V m c main_v5 (ix2 r q) = aV m c (ix3 0 q r) := by
  unfold V V0
  simp only [hostOps0, List.flatten_cons, List.flatten_nil, List.append_nil, List.cons_append, List.nil_append]
  after_results
  show transpose S704x1024 [1, 0] (shapeCast S1024x704 (aV m c) shapeCasts_S1x1024x704_S1024x704) transposes_S1024x704_S704x1024_1_0 (ix2 r q) = _
  pointwise

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel
theorem ltN (t : Fin cfg0.N) : t.val < 2 := t.isLt

/-- The place of a block's row in the array. -/
def at' (t : Fin cfg0.N) (r : Fin 352) : Fin 704 := ⟨352 * t.val + r.val, by have := ltN t; omega⟩

theorem b0 (t : Fin cfg0.N) (r : Fin 352) (q : Fin 1024) : iblk m c 0 t (ix2 r q) = aW m c (ix3 0 q (at' t r)) := by
  refine Eq.trans ?_ (hostW m c (at' t r) q)
  unfold iblk at'
  generalize V m c = U
  blk_ext [idx t]
theorem b2 (t : Fin cfg0.N) (r : Fin 352) (q : Fin 1024) : iblk m c 2 t (ix2 r q) = aM m c (ix3 0 q (at' t r)) := by
  refine Eq.trans ?_ (hostM m c (at' t r) q)
  unfold iblk at'
  generalize V m c = U
  blk_ext [idx t]
theorem b3 (t : Fin cfg0.N) (r : Fin 352) (q : Fin 1024) : iblk m c 3 t (ix2 r q) = aV m c (ix3 0 q (at' t r)) := by
  refine Eq.trans ?_ (hostV m c (at' t r) q)
  unfold iblk at'
  generalize V m c = U
  blk_ext [idx t]
theorem b1 (t : Fin cfg0.N) (r : Fin 352) (q : Fin 1024) : iblk m c 1 t (ix2 r q) = aG m c (ix2 (at' t r) q) := by
  refine Eq.trans ?_ (congrFun (V_main_arg1 m c) _)
  unfold iblk at'
  generalize V m c = U
  blk_ext [idx t]

/-- An element of the three results. -/
def D (r : Fin 704) (q : Fin 1024) : EReal := Adam.dif (aW m c (ix3 0 q r)) (aG m c (ix2 r q)) (aM m c (ix3 0 q r)) (aV m c (ix3 0 q r))
def M (r : Fin 704) (q : Fin 1024) : EReal := Adam.mom (aG m c (ix2 r q)) (aM m c (ix3 0 q r))
def S (r : Fin 704) (q : Fin 1024) : EReal := Adam.sec (aG m c (ix2 r q)) (aV m c (ix3 0 q r))

theorem out4 (t : Fin cfg0.N) (r : Fin 352) (q : Fin 1024) :
    out0_4 (F := Ideal) (iblk m c 0 t) (iblk m c 1 t) (iblk m c 2 t) (iblk m c 3 t) (ix2 r q) = D m c (at' t r) q := by
  unfold D
  rw [blk4, b0, b1, b2, b3]
theorem out5 (t : Fin cfg0.N) (r : Fin 352) (q : Fin 1024) :
    out0_5 (F := Ideal) (iblk m c 0 t) (iblk m c 1 t) (iblk m c 2 t) (iblk m c 3 t) (ix2 r q) = M m c (at' t r) q := by
  unfold M
  rw [blk5, b1, b2]
theorem out6 (t : Fin cfg0.N) (r : Fin 352) (q : Fin 1024) :
    out0_6 (F := Ideal) (iblk m c 0 t) (iblk m c 1 t) (iblk m c 2 t) (iblk m c 3 t) (ix2 r q) = S m c (at' t r) q := by
  unfold S
  rw [blk6, b1, b3]

/-- What the call leaves in result 0. -/
def L4 : (⟨2, ![704, 1024]⟩ : Shape).Idx → EReal := fun i => D m c (i 0) (i 1)

theorem left4 (t : Fin cfg0.N) (y : (⟨2, ![352, 1024]⟩ : Shape).Idx) (i : (⟨2, ![704, 1024]⟩ : Shape).Idx) (h0 : (i 0).val = 352 * t.val + (y 0).val) (h1 : (i 1).val = (y 1).val) :
    out0_4 (F := Ideal) (iblk m c 0 t) (iblk m c 1 t) (iblk m c 2 t) (iblk m c 3 t) y = L4 m c i := by
  obtain ⟨r, q, rfl⟩ : ∃ r q, y = ix2 (n0 := 352) (n1 := 1024) r q := ⟨y 0, y 1, eta2 (m := 352) (n := 1024) y⟩
  have e0 : i 0 = at' t r := Fin.ext h0
  have e1 : i 1 = q := Fin.ext h1
  unfold L4
  rw [e0, e1]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 1024, 704]⟩ : Shape).Idx → EReal := fun i => D m c (i 2) (i 1)

theorem tail4 : Pipeline.afterTail₀ cfgs (dats m) 0 (V0 m) [hostOps1] c main_v8 = R4 m c := by
  have e : Pipeline.withArrays (cfgs 0).spec c (V0 m c) (fun w => (dats m 0 c).arrAt w (cfgs 0).N) (Proc.devRef .tc main_v6_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x704 (transpose S1024x704 [1, 0] (L4 m c) transposes_S704x1024_S1024x704_1_0) shapeCasts_S1024x704_S1x1024x704 (ix3 0 q r) = _
  pointwise
  rfl

/-- What the call leaves in result 1. -/
def L5 : (⟨2, ![704, 1024]⟩ : Shape).Idx → EReal := fun i => M m c (i 0) (i 1)

theorem left5 (t : Fin cfg0.N) (y : (⟨2, ![352, 1024]⟩ : Shape).Idx) (i : (⟨2, ![704, 1024]⟩ : Shape).Idx) (h0 : (i 0).val = 352 * t.val + (y 0).val) (h1 : (i 1).val = (y 1).val) :
    out0_5 (F := Ideal) (iblk m c 0 t) (iblk m c 1 t) (iblk m c 2 t) (iblk m c 3 t) y = L5 m c i := by
  obtain ⟨r, q, rfl⟩ : ∃ r q, y = ix2 (n0 := 352) (n1 := 1024) r q := ⟨y 0, y 1, eta2 (m := 352) (n := 1024) y⟩
  have e0 : i 0 = at' t r := Fin.ext h0
  have e1 : i 1 = q := Fin.ext h1
  unfold L5
  rw [e0, e1]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 1024, 704]⟩ : Shape).Idx → EReal := fun i => M m c (i 2) (i 1)

theorem tail5 : Pipeline.afterTail₀ cfgs (dats m) 0 (V0 m) [hostOps1] c main_v10 = R5 m c := by
  have e : Pipeline.withArrays (cfgs 0).spec c (V0 m c) (fun w => (dats m 0 c).arrAt w (cfgs 0).N) (Proc.devRef .tc main_v6_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x704 (transpose S1024x704 [1, 0] (L5 m c) transposes_S704x1024_S1024x704_1_0) shapeCasts_S1024x704_S1x1024x704 (ix3 0 q r) = _
  pointwise
  rfl

/-- What the call leaves in result 2. -/
def L6 : (⟨2, ![704, 1024]⟩ : Shape).Idx → EReal := fun i => S m c (i 0) (i 1)

theorem left6 (t : Fin cfg0.N) (y : (⟨2, ![352, 1024]⟩ : Shape).Idx) (i : (⟨2, ![704, 1024]⟩ : Shape).Idx) (h0 : (i 0).val = 352 * t.val + (y 0).val) (h1 : (i 1).val = (y 1).val) :
    out0_6 (F := Ideal) (iblk m c 0 t) (iblk m c 1 t) (iblk m c 2 t) (iblk m c 3 t) y = L6 m c i := by
  obtain ⟨r, q, rfl⟩ : ∃ r q, y = ix2 (n0 := 352) (n1 := 1024) r q := ⟨y 0, y 1, eta2 (m := 352) (n := 1024) y⟩
  have e0 : i 0 = at' t r := Fin.ext h0
  have e1 : i 1 = q := Fin.ext h1
  unfold L6
  rw [e0, e1]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 1024, 704]⟩ : Shape).Idx → EReal := fun i => S m c (i 2) (i 1)

theorem tail6 : Pipeline.afterTail₀ cfgs (dats m) 0 (V0 m) [hostOps1] c main_v12 = R6 m c := by
  have e : Pipeline.withArrays (cfgs 0).spec c (V0 m c) (fun w => (dats m 0 c).arrAt w (cfgs 0).N) (Proc.devRef .tc main_v6_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 q r := ⟨i 2, i 1, eta3 i⟩
  show shapeCast S1x1024x704 (transpose S1024x704 [1, 0] (L6 m c) transposes_S704x1024_S1024x704_1_0) shapeCasts_S1024x704_S1x1024x704 (ix3 0 q r) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v8) = R4 m c
      ∧ r.2.mem ((c.tc : Thread nD τ).loc main_v10) = R5 m c
      ∧ r.2.mem ((c.tc : Thread nD τ).loc main_v12) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v8 (Pipeline.mem_restRefs_of main_v8 (by decide) (by decide))).trans (tail4 m c),
      ((h.1 c).2 main_v10 (Pipeline.mem_restRefs_of main_v10 (by decide) (by decide))).trans (tail5 m c),
      ((h.1 c).2 main_v12 (Pipeline.mem_restRefs_of main_v12 (by decide) (by decide))).trans (tail6 m c), h.2 c⟩)
    (θ_run_and (run_main m ρ) (unchanged m ρ))

end Cert.ApKernelIdeal.AdamArray

namespace Cert.ApClaim

open Cert.ApKernelIdeal.AdamArray
open Cert.Adam (eta3)

/-- The reference's run ends with its arguments unchanged and every counter at zero. -/
theorem frame_ref : Cert.quiescent_ApReferenceIdeal := fun m ρ _ =>
  (θ_run Cert.ApReferenceIdeal.defs _ _).mono
    (fun r h => ⟨fun c => (h c).2.2.2, Idealize.ShloMosaic.sem_eq_zero_of_no_sems (by decide) r.2⟩)
    (Cert.ApReferenceIdeal.Value.run m ρ)

open Cert.ApReferenceIdeal.Read

section
open Cert.ApReferenceIdeal Cert.ApReferenceIdeal.Gen

theorem refg (g : (⟨2, ![704, 1024]⟩ : Shape).Idx → EReal) (r : Fin 704) (q : Fin 1024) : val_main_v1 (F := Ideal) g (ix3 0 q r) = g (ix2 r q) := by
  unfold val_main_v1 val_main_v0
  pointwise

theorem ref5 (g : (⟨2, ![704, 1024]⟩ : Shape).Idx → EReal) (m : (⟨3, ![1, 1024, 704]⟩ : Shape).Idx → EReal) (r : Fin 704) (q : Fin 1024) :
    val_main_v6 (F := Ideal) g m (ix3 0 q r) = Adam.mom (g (ix2 r q)) (m (ix3 0 q r)) := by
  unfold val_main_v6 val_main_v5 val_main_v4 val_main_cst_0 val_main_v3 val_main_v2 val_main_cst
  pointwise [refg]
  rfl

theorem ref6 (g : (⟨2, ![704, 1024]⟩ : Shape).Idx → EReal) (v : (⟨3, ![1, 1024, 704]⟩ : Shape).Idx → EReal) (r : Fin 704) (q : Fin 1024) :
    val_main_v12 (F := Ideal) g v (ix3 0 q r) = Adam.sec (g (ix2 r q)) (v (ix3 0 q r)) := by
  unfold val_main_v12 val_main_v11 val_main_v10 val_main_cst_2 val_main_v9 val_main_v8 val_main_v7 val_main_cst_1
  pointwise [refg]
  rfl

theorem ref4 (w : (⟨3, ![1, 1024, 704]⟩ : Shape).Idx → EReal) (g : (⟨2, ![704, 1024]⟩ : Shape).Idx → EReal) (m v : (⟨3, ![1, 1024, 704]⟩ : Shape).Idx → EReal) (r : Fin 704) (q : Fin 1024) :
    val_main_v25 (F := Ideal) w g m v (ix3 0 q r) = Adam.dif (w (ix3 0 q r)) (g (ix2 r q)) (m (ix3 0 q r)) (v (ix3 0 q r)) := by
  unfold val_main_v25 val_main_v24 val_main_cst_7 val_main_v23 val_main_v22 val_main_v21 val_main_cst_6 val_main_v20 val_main_v19 val_main_v18
    val_main_cst_5 val_main_v17 val_main_v16 val_main_v15 val_main_cst_4 val_main_v14 val_main_v13 val_main_cst_3
  pointwise [ref5, ref6]
  rfl
end

/-- From memories agreeing on the arguments, both run and leave equal arrays. -/
theorem algebraic : Cert.algebraic_ApKernelIdeal_ApReferenceIdeal := by
  intro m g m' g' _ ha
  refine ⟨R4 m, R5 m, R6 m, Cert.ApKernelIdeal.AdamArray.run m g,
    (θ_run Cert.ApReferenceIdeal.defs _ _).mono (fun r h c => ?_) (Cert.ApReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v25_eq, a0, a1, a2, a3]
    funext i
    obtain ⟨r, q, rfl⟩ : ∃ r q, i = ix3 0 q r := ⟨i 2, i 1, eta3 i⟩
    exact ref4 (aW m c) (aG m c) (aM m c) (aV m c) r q
  · rw [val_main_v6_eq, a1, a2]
    funext i
    obtain ⟨r, q, rfl⟩ : ∃ r q, i = ix3 0 q r := ⟨i 2, i 1, eta3 i⟩
    exact ref5 (aG m c) (aM m c) r q
  · rw [val_main_v12_eq, a1, a3]
    funext i
    obtain ⟨r, q, rfl⟩ : ∃ r q, i = ix3 0 q r := ⟨i 2, i 1, eta3 i⟩
    exact ref6 (aG m c) (aV m c) r q

end Cert.ApClaim
end
-- ==== Proof.AoClaim.lean ====
module

public import proofs.«01_k».proof.Defs
public import proofs.«01_k».proof.Proof.AdamSpec
public import proofs.«01_k».proof.Proof.Gen.AoKernelIdeal.Frame
public import proofs.«01_k».proof.Proof.Gen.AoReferenceIdeal.Run
public import proofs.«01_k».proof.Proof.Gen.AoReferenceIdeal.Read
public import Idealize.ShloMosaic.Lib.Pipeline.Value
public import Idealize.ShloMosaic.Lib.Pipeline.ValueKit

/-! The optimiser's call over 352 rows of 1024 columns, in one block, with the host's reshapes around it. -/

@[expose] public section

set_option maxRecDepth 16384

noncomputable section

open Idealize.ShloMosaic Idealize.ShloMosaic.TcCoe Idealize.SL.Sem
open Idealize.ShloMosaic.Pipeline (Dat)

namespace Cert.AoKernelIdeal.AdamArray

open Cert.AoKernelIdeal Cert.AoKernelIdeal.Gen
open Cert.Adam (eta2 eta3)

theorem zeros : (![0, 0] : Fin 2 → Nat) = fun _ => 0 := by
  funext a
  match a with
  | ⟨0, _⟩ => rfl
  | ⟨1, _⟩ => rfl

/-- One grid step's blocks. -/
theorem pay1 (x1 x2 : Vec Ideal S352x1024 .f32) (y : (⟨2, ![352, 1024]⟩ : Shape).Idx) : k0_pay1 (F := Ideal) x1 x2 y = Adam.mom (x1 y) (x2 y) := by
  unfold k0_pay1
  pointwise
  rfl
theorem pay2 (x1 x3 : Vec Ideal S352x1024 .f32) (y : (⟨2, ![352, 1024]⟩ : Shape).Idx) : k0_pay2 (F := Ideal) x1 x3 y = Adam.sec (x1 y) (x3 y) := by
  unfold k0_pay2
  pointwise
  rfl
theorem pay3 (x0 x1 x2 x3 : Vec Ideal S352x1024 .f32) (y : (⟨2, ![352, 1024]⟩ : Shape).Idx) :
    k0_pay3 (F := Ideal) x1 x2 x3 x0 y = Adam.dif (x0 y) (x1 y) (x2 y) (x3 y) := by
  unfold k0_pay3
  pointwise [pay1, pay2]
  rfl
theorem blk4 (x0 x1 x2 x3 : Vec Ideal S352x1024 .f32) (y : (⟨2, ![352, 1024]⟩ : Shape).Idx) :
    out0_4 (F := Ideal) x0 x1 x2 x3 y = Adam.dif (x0 y) (x1 y) (x2 y) (x3 y) := by
  unfold out0_4
  rw [View.canon_unit_zero zeros]
  rw [View.ld_unit_zero zeros, View.ld_unit_zero zeros, View.ld_unit_zero zeros, View.ld_unit_zero zeros]
  exact pay3 x0 x1 x2 x3 y
theorem blk5 (x0 x1 x2 x3 : Vec Ideal S352x1024 .f32) (y : (⟨2, ![352, 1024]⟩ : Shape).Idx) : out0_5 (F := Ideal) x0 x1 x2 x3 y = Adam.mom (x1 y) (x2 y) := by
  unfold out0_5
  rw [View.canon_unit_zero zeros]
  rw [View.ld_unit_zero zeros, View.ld_unit_zero zeros]
  exact pay1 x1 x2 y
theorem blk6 (x0 x1 x2 x3 : Vec Ideal S352x1024 .f32) (y : (⟨2, ![352, 1024]⟩ : Shape).Idx) : out0_6 (F := Ideal) x0 x1 x2 x3 y = Adam.sec (x1 y) (x3 y) := by
  unfold out0_6
  rw [View.canon_unit_zero zeros]
  rw [View.ld_unit_zero zeros, View.ld_unit_zero zeros]
  exact pay2 x1 x3 y

variable (m : (ℓ : Loc nD τ sig) → Buf (Elt Ideal) ℓ) (c : Dev nD)

abbrev aW : (⟨3, ![1, 352, 1024]⟩ : Shape).Idx → EReal := m ((c : Thread nD τ).loc main_arg0)
abbrev aG : (⟨2, ![352, 1024]⟩ : Shape).Idx → EReal := m ((c : Thread nD τ).loc main_arg1)
abbrev aM : (⟨3, ![1, 352, 1024]⟩ : Shape).Idx → EReal := m ((c : Thread nD τ).loc main_arg2)
abbrev aV : (⟨3, ![1, 352, 1024]⟩ : Shape).Idx → EReal := m ((c : Thread nD τ).loc main_arg3)

theorem hostW (r : Fin 352) (q : Fin 1024) : V m c main_v0 (ix2 r q) = aW m c (ix3 0 r q) := by
  unfold V V0
  simp only [hostOps0, List.flatten_cons, List.flatten_nil, List.append_nil, List.cons_append, List.nil_append]
  after_results
  show shapeCast S352x1024 (aW m c) shapeCasts_S1x352x1024_S352x1024 (ix2 r q) = _
  pointwise
theorem hostM (r : Fin 352) (q : Fin 1024) : V m c main_v1 (ix2 r q) = aM m c (ix3 0 r q) := by
  unfold V V0
  simp only [hostOps0, List.flatten_cons, List.flatten_nil, List.append_nil, List.cons_append, List.nil_append]
  after_results
  show shapeCast S352x1024 (aM m c) shapeCasts_S1x352x1024_S352x1024 (ix2 r q) = _
  pointwise
theorem hostV (r : Fin 352) (q : Fin 1024) : V m c main_v2 (ix2 r q) = aV m c (ix3 0 r q) := by
  unfold V V0
  simp only [hostOps0, List.flatten_cons, List.flatten_nil, List.append_nil, List.cons_append, List.nil_append]
  after_results
  show shapeCast S352x1024 (aV m c) shapeCasts_S1x352x1024_S352x1024 (ix2 r q) = _
  pointwise

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  decide +kernel

theorem b0 (t : Fin cfg0.N) (r : Fin 352) (q : Fin 1024) : iblk m c 0 t (ix2 r q) = aW m c (ix3 0 r q) := by
  refine Eq.trans ?_ (hostW m c r q)
  unfold iblk
  generalize V m c = U
  blk_ext [idx t]
theorem b2 (t : Fin cfg0.N) (r : Fin 352) (q : Fin 1024) : iblk m c 2 t (ix2 r q) = aM m c (ix3 0 r q) := by
  refine Eq.trans ?_ (hostM m c r q)
  unfold iblk
  generalize V m c = U
  blk_ext [idx t]
theorem b3 (t : Fin cfg0.N) (r : Fin 352) (q : Fin 1024) : iblk m c 3 t (ix2 r q) = aV m c (ix3 0 r q) := by
  refine Eq.trans ?_ (hostV m c r q)
  unfold iblk
  generalize V m c = U
  blk_ext [idx t]
theorem b1 (t : Fin cfg0.N) (r : Fin 352) (q : Fin 1024) : iblk m c 1 t (ix2 r q) = aG m c (ix2 r q) := by
  refine Eq.trans ?_ (congrFun (V_main_arg1 m c) _)
  unfold iblk
  generalize V m c = U
  blk_ext [idx t]

/-- An element of the three results. -/
def D (r : Fin 352) (q : Fin 1024) : EReal := Adam.dif (aW m c (ix3 0 r q)) (aG m c (ix2 r q)) (aM m c (ix3 0 r q)) (aV m c (ix3 0 r q))
def M (r : Fin 352) (q : Fin 1024) : EReal := Adam.mom (aG m c (ix2 r q)) (aM m c (ix3 0 r q))
def S (r : Fin 352) (q : Fin 1024) : EReal := Adam.sec (aG m c (ix2 r q)) (aV m c (ix3 0 r q))

theorem out4 (t : Fin cfg0.N) (r : Fin 352) (q : Fin 1024) :
    out0_4 (F := Ideal) (iblk m c 0 t) (iblk m c 1 t) (iblk m c 2 t) (iblk m c 3 t) (ix2 r q) = D m c r q := by
  unfold D
  rw [blk4, b0, b1, b2, b3]
theorem out5 (t : Fin cfg0.N) (r : Fin 352) (q : Fin 1024) :
    out0_5 (F := Ideal) (iblk m c 0 t) (iblk m c 1 t) (iblk m c 2 t) (iblk m c 3 t) (ix2 r q) = M m c r q := by
  unfold M
  rw [blk5, b1, b2]
theorem out6 (t : Fin cfg0.N) (r : Fin 352) (q : Fin 1024) :
    out0_6 (F := Ideal) (iblk m c 0 t) (iblk m c 1 t) (iblk m c 2 t) (iblk m c 3 t) (ix2 r q) = S m c r q := by
  unfold S
  rw [blk6, b1, b3]

/-- What the call leaves in result 0. -/
def L4 : (⟨2, ![352, 1024]⟩ : Shape).Idx → EReal := fun i => D m c (i 0) (i 1)

theorem left4 (t : Fin cfg0.N) (y : (⟨2, ![352, 1024]⟩ : Shape).Idx) (i : (⟨2, ![352, 1024]⟩ : Shape).Idx) (h0 : (i 0).val = (y 0).val) (h1 : (i 1).val = (y 1).val) :
    out0_4 (F := Ideal) (iblk m c 0 t) (iblk m c 1 t) (iblk m c 2 t) (iblk m c 3 t) y = L4 m c i := by
  obtain ⟨r, q, rfl⟩ : ∃ r q, y = ix2 (n0 := 352) (n1 := 1024) r q := ⟨y 0, y 1, eta2 (m := 352) (n := 1024) y⟩
  have e0 : i 0 = r := Fin.ext h0
  have e1 : i 1 = q := Fin.ext h1
  unfold L4
  rw [e0, e1]
  exact out4 m c t r q

theorem final4 : (dats m 0 c).arrAt 4 cfg0.N = L4 m c := by
  refine (dats m 0 c).arrAt_eq_of_covers 4 _ (by decide +kernel) fun t hf y => ?_
  blk_simp
  rw [after0_4]
  refine left4 m c t _ _ ?_ ?_
  · blk_simp [idx t]; try omega
  · blk_simp [idx t]; try omega

/-- Result 0 in the weight's shape. -/
def R4 : (⟨3, ![1, 352, 1024]⟩ : Shape).Idx → EReal := fun i => D m c (i 1) (i 2)

theorem tail4 : Pipeline.afterTail₀ cfgs (dats m) 0 (V0 m) [hostOps1] c main_v4 = R4 m c := by
  have e : Pipeline.withArrays (cfgs 0).spec c (V0 m c) (fun w => (dats m 0 c).arrAt w (cfgs 0).N) (Proc.devRef .tc main_v3_0) = L4 m c :=
    (Pipeline.withArrays_arr spec0 winFacts0.arr_inj c (V0 m c) (fun w => (dats m 0 c).arrAt w cfg0.N) 4).trans (final4 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x352x1024 (L4 m c) shapeCasts_S352x1024_S1x352x1024 (ix3 0 r q) = _
  pointwise
  rfl

/-- What the call leaves in result 1. -/
def L5 : (⟨2, ![352, 1024]⟩ : Shape).Idx → EReal := fun i => M m c (i 0) (i 1)

theorem left5 (t : Fin cfg0.N) (y : (⟨2, ![352, 1024]⟩ : Shape).Idx) (i : (⟨2, ![352, 1024]⟩ : Shape).Idx) (h0 : (i 0).val = (y 0).val) (h1 : (i 1).val = (y 1).val) :
    out0_5 (F := Ideal) (iblk m c 0 t) (iblk m c 1 t) (iblk m c 2 t) (iblk m c 3 t) y = L5 m c i := by
  obtain ⟨r, q, rfl⟩ : ∃ r q, y = ix2 (n0 := 352) (n1 := 1024) r q := ⟨y 0, y 1, eta2 (m := 352) (n := 1024) y⟩
  have e0 : i 0 = r := Fin.ext h0
  have e1 : i 1 = q := Fin.ext h1
  unfold L5
  rw [e0, e1]
  exact out5 m c t r q

theorem final5 : (dats m 0 c).arrAt 5 cfg0.N = L5 m c := by
  refine (dats m 0 c).arrAt_eq_of_covers 5 _ (by decide +kernel) fun t hf y => ?_
  blk_simp
  rw [after0_5]
  refine left5 m c t _ _ ?_ ?_
  · blk_simp [idx t]; try omega
  · blk_simp [idx t]; try omega

/-- Result 1 in the weight's shape. -/
def R5 : (⟨3, ![1, 352, 1024]⟩ : Shape).Idx → EReal := fun i => M m c (i 1) (i 2)

theorem tail5 : Pipeline.afterTail₀ cfgs (dats m) 0 (V0 m) [hostOps1] c main_v5 = R5 m c := by
  have e : Pipeline.withArrays (cfgs 0).spec c (V0 m c) (fun w => (dats m 0 c).arrAt w (cfgs 0).N) (Proc.devRef .tc main_v3_1) = L5 m c :=
    (Pipeline.withArrays_arr spec0 winFacts0.arr_inj c (V0 m c) (fun w => (dats m 0 c).arrAt w cfg0.N) 5).trans (final5 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x352x1024 (L5 m c) shapeCasts_S352x1024_S1x352x1024 (ix3 0 r q) = _
  pointwise
  rfl

/-- What the call leaves in result 2. -/
def L6 : (⟨2, ![352, 1024]⟩ : Shape).Idx → EReal := fun i => S m c (i 0) (i 1)

theorem left6 (t : Fin cfg0.N) (y : (⟨2, ![352, 1024]⟩ : Shape).Idx) (i : (⟨2, ![352, 1024]⟩ : Shape).Idx) (h0 : (i 0).val = (y 0).val) (h1 : (i 1).val = (y 1).val) :
    out0_6 (F := Ideal) (iblk m c 0 t) (iblk m c 1 t) (iblk m c 2 t) (iblk m c 3 t) y = L6 m c i := by
  obtain ⟨r, q, rfl⟩ : ∃ r q, y = ix2 (n0 := 352) (n1 := 1024) r q := ⟨y 0, y 1, eta2 (m := 352) (n := 1024) y⟩
  have e0 : i 0 = r := Fin.ext h0
  have e1 : i 1 = q := Fin.ext h1
  unfold L6
  rw [e0, e1]
  exact out6 m c t r q

theorem final6 : (dats m 0 c).arrAt 6 cfg0.N = L6 m c := by
  refine (dats m 0 c).arrAt_eq_of_covers 6 _ (by decide +kernel) fun t hf y => ?_
  blk_simp
  rw [after0_6]
  refine left6 m c t _ _ ?_ ?_
  · blk_simp [idx t]; try omega
  · blk_simp [idx t]; try omega

/-- Result 2 in the weight's shape. -/
def R6 : (⟨3, ![1, 352, 1024]⟩ : Shape).Idx → EReal := fun i => S m c (i 1) (i 2)

theorem tail6 : Pipeline.afterTail₀ cfgs (dats m) 0 (V0 m) [hostOps1] c main_v6 = R6 m c := by
  have e : Pipeline.withArrays (cfgs 0).spec c (V0 m c) (fun w => (dats m 0 c).arrAt w (cfgs 0).N) (Proc.devRef .tc main_v3_2) = L6 m c :=
    (Pipeline.withArrays_arr spec0 winFacts0.arr_inj c (V0 m c) (fun w => (dats m 0 c).arrAt w cfg0.N) 6).trans (final6 m c)
  unfold Pipeline.afterTail₀
  simp only [hostOps1, List.flatten_cons, List.flatten_nil, List.append_nil]
  after_results
  rw [e]
  funext i
  obtain ⟨r, q, rfl⟩ : ∃ r q, i = ix3 0 r q := ⟨i 1, i 2, eta3 i⟩
  show shapeCast S1x352x1024 (L6 m c) shapeCasts_S352x1024_S1x352x1024 (ix3 0 r q) = _
  pointwise
  rfl

variable (ρ : Dev nD → PrngReg)

/-- The run: where the results and the arguments are. -/
theorem run : θ_run defs (onTc (τ := τ) (main (F := Ideal))) ⟨m, fun _ => 0, ρ⟩ (fun r => ∀ c : Dev nD,
      r.2.mem ((c.tc : Thread nD τ).loc main_v4) = R4 m c
      ∧ r.2.mem ((c.tc : Thread nD τ).loc main_v5) = R5 m c
      ∧ r.2.mem ((c.tc : Thread nD τ).loc main_v6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c), h.2 c⟩)
    (θ_run_and (run_main m ρ) (unchanged m ρ))

end Cert.AoKernelIdeal.AdamArray

namespace Cert.AoClaim

open Cert.AoKernelIdeal.AdamArray
open Cert.Adam (eta3)

/-- The reference's run ends with its arguments unchanged and every counter at zero. -/
theorem frame_ref : Cert.quiescent_AoReferenceIdeal := fun m ρ _ =>
  (θ_run Cert.AoReferenceIdeal.defs _ _).mono
    (fun r h => ⟨fun c => (h c).2.2.2, Idealize.ShloMosaic.sem_eq_zero_of_no_sems (by decide) r.2⟩)
    (Cert.AoReferenceIdeal.Value.run m ρ)

open Cert.AoReferenceIdeal.Read

section
open Cert.AoReferenceIdeal Cert.AoReferenceIdeal.Gen

theorem refg (g : (⟨2, ![352, 1024]⟩ : Shape).Idx → EReal) (r : Fin 352) (q : Fin 1024) : val_main_v0 (F := Ideal) g (ix3 0 r q) = g (ix2 r q) := by
  unfold val_main_v0
  pointwise

theorem ref5 (g : (⟨2, ![352, 1024]⟩ : Shape).Idx → EReal) (m : (⟨3, ![1, 352, 1024]⟩ : Shape).Idx → EReal) (r : Fin 352) (q : Fin 1024) :
    val_main_v5 (F := Ideal) g m (ix3 0 r q) = Adam.mom (g (ix2 r q)) (m (ix3 0 r q)) := by
  unfold val_main_v5 val_main_v4 val_main_v3 val_main_cst_0 val_main_v2 val_main_v1 val_main_cst
  pointwise [refg]
  rfl

theorem ref6 (g : (⟨2, ![352, 1024]⟩ : Shape).Idx → EReal) (v : (⟨3, ![1, 352, 1024]⟩ : Shape).Idx → EReal) (r : Fin 352) (q : Fin 1024) :
    val_main_v11 (F := Ideal) g v (ix3 0 r q) = Adam.sec (g (ix2 r q)) (v (ix3 0 r q)) := by
  unfold val_main_v11 val_main_v10 val_main_v9 val_main_cst_2 val_main_v8 val_main_v7 val_main_v6 val_main_cst_1
  pointwise [refg]
  rfl

theorem ref4 (w : (⟨3, ![1, 352, 1024]⟩ : Shape).Idx → EReal) (g : (⟨2, ![352, 1024]⟩ : Shape).Idx → EReal) (m v : (⟨3, ![1, 352, 1024]⟩ : Shape).Idx → EReal) (r : Fin 352) (q : Fin 1024) :
    val_main_v24 (F := Ideal) w g m v (ix3 0 r q) = Adam.dif (w (ix3 0 r q)) (g (ix2 r q)) (m (ix3 0 r q)) (v (ix3 0 r q)) := by
  unfold val_main_v24 val_main_v23 val_main_cst_7 val_main_v22 val_main_v21 val_main_v20 val_main_cst_6 val_main_v19 val_main_v18 val_main_v17
    val_main_cst_5 val_main_v16 val_main_v15 val_main_v14 val_main_cst_4 val_main_v13 val_main_v12 val_main_cst_3
  pointwise [ref5, ref6]
  rfl
end

/-- From memories agreeing on the arguments, both run and leave equal arrays. -/
theorem algebraic : Cert.algebraic_AoKernelIdeal_AoReferenceIdeal := by
  intro m g m' g' _ ha
  refine ⟨R4 m, R5 m, R6 m, Cert.AoKernelIdeal.AdamArray.run m g,
    (θ_run Cert.AoReferenceIdeal.defs _ _).mono (fun r h c => ?_) (Cert.AoReferenceIdeal.Value.run m' g')⟩
  obtain ⟨h0, h1, h2, hk⟩ := h c
  obtain ⟨a0, a1, a2, a3⟩ := ha c
  refine ⟨h0.trans ?_, h1.trans ?_, h2.trans ?_, hk⟩
  · rw [val_main_v24_eq, a0, a1, a2, a3]
    funext i
    obtain ⟨r, q, rfl⟩ : ∃ r q, i = ix3 0 r q := ⟨i 1, i 2, eta3 i⟩
    exact ref4 (aW m c) (aG m c) (aM m c) (aV m c) r q
  · rw [val_main_v5_eq, a1, a2]
    funext i
    obtain ⟨r, q, rfl⟩ : ∃ r q, i = ix3 0 r q := ⟨i 1, i 2, eta3 i⟩
    exact ref5 (aG m c) (aM m c) r q
  · rw [val_main_v11_eq, a1, a3]
    funext i
    obtain ⟨r, q, rfl⟩ : ∃ r q, i = ix3 0 r q := ⟨i 1, i 2, eta3 i⟩
    exact ref6 (aG m c) (aV m c) r q

end Cert.AoClaim
end
-- ==== Proof.lean ====
module

public import proofs.«01_k».proof.Defs
public import proofs.«01_k».proof.Proof.XaClaim
public import proofs.«01_k».proof.Proof.FfnClaim
public import proofs.«01_k».proof.Proof.GwClaim
public import proofs.«01_k».proof.Proof.DyClaim
public import proofs.«01_k».proof.Proof.GbClaim
public import proofs.«01_k».proof.Proof.RmsClaim
public import proofs.«01_k».proof.Proof.H1Claim
public import proofs.«01_k».proof.Proof.DyxClaim
public import proofs.«01_k».proof.Proof.GoClaim
public import proofs.«01_k».proof.Proof.X1Claim
public import proofs.«01_k».proof.Proof.MergeClaim
public import proofs.«01_k».proof.Proof.LossClaim
public import proofs.«01_k».proof.Proof.XfClaim
public import proofs.«01_k».proof.Proof.KvClaim
public import proofs.«01_k».proof.Proof.GkvClaim
public import proofs.«01_k».proof.Proof.DmClaim
public import proofs.«01_k».proof.Proof.ZffClaim
public import proofs.«01_k».proof.Proof.NfClaim
public import proofs.«01_k».proof.Proof.AnClaim
public import proofs.«01_k».proof.Proof.AcClaim
public import proofs.«01_k».proof.Proof.AfClaim
public import proofs.«01_k».proof.Proof.AgClaim
public import proofs.«01_k».proof.Proof.AxClaim
public import proofs.«01_k».proof.Proof.AiClaim
public import proofs.«01_k».proof.Proof.AkClaim
public import proofs.«01_k».proof.Proof.AbClaim
public import proofs.«01_k».proof.Proof.ApClaim
public import proofs.«01_k».proof.Proof.AoClaim
public import proofs.«01_k».proof.Proof.Gen.H1KernelIdeal.Value
public import proofs.«01_k».proof.Proof.Gen.H1ReferenceIdeal.Run
public import proofs.«01_k».proof.Proof.Gen.H1ReferenceIdeal.Read
public import proofs.«01_k».proof.Proof.Gen.DyxKernelIdeal.Value
public import proofs.«01_k».proof.Proof.Gen.DyxReferenceIdeal.Run
public import proofs.«01_k».proof.Proof.Gen.DyxReferenceIdeal.Read
public import proofs.«01_k».proof.Proof.Gen.GoKernelIdeal.Value
public import proofs.«01_k».proof.Proof.Gen.GoReferenceIdeal.Run
public import proofs.«01_k».proof.Proof.Gen.GoReferenceIdeal.Read
public import proofs.«01_k».proof.Proof.Gen.X1KernelIdeal.Value
public import proofs.«01_k».proof.Proof.Gen.X1ReferenceIdeal.Run
public import proofs.«01_k».proof.Proof.Gen.X1ReferenceIdeal.Read
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.LossReferenceIdeal.Run
public import proofs.«01_k».proof.Proof.Gen.LossReferenceIdeal.Read
public import proofs.«01_k».proof.Proof.Gen.XfKernelIdeal.Value
public import proofs.«01_k».proof.Proof.Gen.XfReferenceIdeal.Run
public import proofs.«01_k».proof.Proof.Gen.XfReferenceIdeal.Read
public import proofs.«01_k».proof.Proof.Gen.KvKernelIdeal.Value
public import proofs.«01_k».proof.Proof.Gen.KvReferenceIdeal.Run
public import proofs.«01_k».proof.Proof.Gen.KvReferenceIdeal.Read
public import proofs.«01_k».proof.Proof.Gen.GkvKernelIdeal.Value
public import proofs.«01_k».proof.Proof.Gen.GkvReferenceIdeal.Run
public import proofs.«01_k».proof.Proof.Gen.GkvReferenceIdeal.Read
public import proofs.«01_k».proof.Proof.Gen.DmKernelIdeal.Value
public import proofs.«01_k».proof.Proof.Gen.DmReferenceIdeal.Run
public import proofs.«01_k».proof.Proof.Gen.DmReferenceIdeal.Read
public import proofs.«01_k».proof.Proof.Gen.ZffKernelIdeal.Value
public import proofs.«01_k».proof.Proof.Gen.ZffReferenceIdeal.Run
public import proofs.«01_k».proof.Proof.Gen.ZffReferenceIdeal.Read
public import proofs.«01_k».proof.Proof.Gen.NfKernelIdeal.Value
public import proofs.«01_k».proof.Proof.Gen.NfReferenceIdeal.Run
public import proofs.«01_k».proof.Proof.Gen.NfReferenceIdeal.Read
public import proofs.«01_k».proof.Proof.Gen.AnKernelIdeal.Value
public import proofs.«01_k».proof.Proof.Gen.AnReferenceIdeal.Run
public import proofs.«01_k».proof.Proof.Gen.AnReferenceIdeal.Read
public import proofs.«01_k».proof.Proof.Gen.AcReferenceIdeal.Run
public import proofs.«01_k».proof.Proof.Gen.AcReferenceIdeal.Read
public import proofs.«01_k».proof.Proof.Gen.AfKernelIdeal.Value
public import proofs.«01_k».proof.Proof.Gen.AfReferenceIdeal.Run
public import proofs.«01_k».proof.Proof.Gen.AfReferenceIdeal.Read
public import proofs.«01_k».proof.Proof.Gen.AgKernelIdeal.Value
public import proofs.«01_k».proof.Proof.Gen.AgReferenceIdeal.Run
public import proofs.«01_k».proof.Proof.Gen.AgReferenceIdeal.Read
public import proofs.«01_k».proof.Proof.Gen.AxKernelIdeal.Value
public import proofs.«01_k».proof.Proof.Gen.AxReferenceIdeal.Run
public import proofs.«01_k».proof.Proof.Gen.AxReferenceIdeal.Read
public import proofs.«01_k».proof.Proof.Gen.AiReferenceIdeal.Run
public import proofs.«01_k».proof.Proof.Gen.AiReferenceIdeal.Read
public import proofs.«01_k».proof.Proof.Gen.AkReferenceIdeal.Run
public import proofs.«01_k».proof.Proof.Gen.AkReferenceIdeal.Read
public import proofs.«01_k».proof.Proof.Gen.AbReferenceIdeal.Run
public import proofs.«01_k».proof.Proof.Gen.AbReferenceIdeal.Read
public import proofs.«01_k».proof.Proof.Gen.ApReferenceIdeal.Run
public import proofs.«01_k».proof.Proof.Gen.ApReferenceIdeal.Read
public import proofs.«01_k».proof.Proof.Gen.AoReferenceIdeal.Run
public import proofs.«01_k».proof.Proof.Gen.AoReferenceIdeal.Read
public import proofs.«01_k».proof.Proof.XaClaim
public import proofs.«01_k».proof.Proof.FfnClaim
public import proofs.«01_k».proof.Proof.GwClaim
public import proofs.«01_k».proof.Proof.DyClaim
public import proofs.«01_k».proof.Proof.GbClaim
public import proofs.«01_k».proof.Proof.RmsClaim
public import proofs.«01_k».proof.Proof.H1Claim
public import proofs.«01_k».proof.Proof.DyxClaim
public import proofs.«01_k».proof.Proof.GoClaim
public import proofs.«01_k».proof.Proof.X1Claim
public import proofs.«01_k».proof.Proof.MergeClaim
public import proofs.«01_k».proof.Proof.LossClaim
public import proofs.«01_k».proof.Proof.XfClaim
public import proofs.«01_k».proof.Proof.KvClaim
public import proofs.«01_k».proof.Proof.GkvClaim
public import proofs.«01_k».proof.Proof.DmClaim
public import proofs.«01_k».proof.Proof.ZffClaim
public import proofs.«01_k».proof.Proof.NfClaim
public import proofs.«01_k».proof.Proof.AnClaim
public import proofs.«01_k».proof.Proof.AcClaim
public import proofs.«01_k».proof.Proof.AfClaim
public import proofs.«01_k».proof.Proof.AgClaim
public import proofs.«01_k».proof.Proof.AxClaim
public import proofs.«01_k».proof.Proof.AiClaim
public import proofs.«01_k».proof.Proof.AkClaim
public import proofs.«01_k».proof.Proof.AbClaim
public import proofs.«01_k».proof.Proof.ApClaim
public import proofs.«01_k».proof.Proof.AoClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.GwKernel
public import proofs.«01_k».proof.Proof.Gen.GwKernel.Skeleton
public import proofs.«01_k».proof.Proof.Gen.GwKernel.Launch
public import proofs.«01_k».proof.Proof.Gen.GwKernel.Points
public import proofs.«01_k».proof.Proof.Gen.GwKernel.Frame
public import proofs.«01_k».proof.Proof.Gen.GwKernelIdeal
public import proofs.«01_k».proof.Proof.Gen.GwKernelIdeal.Skeleton
public import proofs.«01_k».proof.Proof.Gen.GwKernelIdeal.Launch
public import proofs.«01_k».proof.Proof.Gen.GwKernelIdeal.Points
public import proofs.«01_k».proof.Proof.Gen.GwKernelIdeal.Frame
public import proofs.«01_k».proof.Proof.Gen.GwReferenceIdeal
public import proofs.«01_k».proof.Proof.Gen.DyKernel
public import proofs.«01_k».proof.Proof.Gen.DyKernel.Skeleton
public import proofs.«01_k».proof.Proof.Gen.DyKernel.Launch
public import proofs.«01_k».proof.Proof.Gen.DyKernel.Points
public import proofs.«01_k».proof.Proof.Gen.DyKernel.Frame
public import proofs.«01_k».proof.Proof.Gen.DyKernelIdeal
public import proofs.«01_k».proof.Proof.Gen.DyKernelIdeal.Skeleton
public import proofs.«01_k».proof.Proof.Gen.DyKernelIdeal.Launch
public import proofs.«01_k».proof.Proof.Gen.DyKernelIdeal.Points
public import proofs.«01_k».proof.Proof.Gen.DyKernelIdeal.Frame
public import proofs.«01_k».proof.Proof.Gen.DyReferenceIdeal
public import proofs.«01_k».proof.Proof.Gen.GbKernel
public import proofs.«01_k».proof.Proof.Gen.GbKernel.Skeleton
public import proofs.«01_k».proof.Proof.Gen.GbKernel.Launch
public import proofs.«01_k».proof.Proof.Gen.GbKernel.Points
public import proofs.«01_k».proof.Proof.Gen.GbKernel.Frame
public import proofs.«01_k».proof.Proof.Gen.GbKernelIdeal
public import proofs.«01_k».proof.Proof.Gen.GbKernelIdeal.Skeleton
public import proofs.«01_k».proof.Proof.Gen.GbKernelIdeal.Launch
public import proofs.«01_k».proof.Proof.Gen.GbKernelIdeal.Points
public import proofs.«01_k».proof.Proof.Gen.GbKernelIdeal.Frame
public import proofs.«01_k».proof.Proof.Gen.GbReferenceIdeal
public import proofs.«01_k».proof.Proof.Gen.RmsKernel
public import proofs.«01_k».proof.Proof.Gen.RmsKernel.Skeleton
public import proofs.«01_k».proof.Proof.Gen.RmsKernel.Launch
public import proofs.«01_k».proof.Proof.Gen.RmsKernel.Points
public import proofs.«01_k».proof.Proof.Gen.RmsKernel.Frame
public import proofs.«01_k».proof.Proof.Gen.RmsKernelIdeal
public import proofs.«01_k».proof.Proof.Gen.RmsKernelIdeal.Skeleton
public import proofs.«01_k».proof.Proof.Gen.RmsKernelIdeal.Launch
public import proofs.«01_k».proof.Proof.Gen.RmsKernelIdeal.Points
public import proofs.«01_k».proof.Proof.Gen.RmsKernelIdeal.Frame
public import proofs.«01_k».proof.Proof.Gen.RmsReferenceIdeal
public import proofs.«01_k».proof.Proof.Gen.H1Kernel
public import proofs.«01_k».proof.Proof.Gen.H1Kernel.Skeleton
public import proofs.«01_k».proof.Proof.Gen.H1Kernel.Launch
public import proofs.«01_k».proof.Proof.Gen.H1Kernel.Points
public import proofs.«01_k».proof.Proof.Gen.H1Kernel.Frame
public import proofs.«01_k».proof.Proof.Gen.H1KernelIdeal
public import proofs.«01_k».proof.Proof.Gen.H1KernelIdeal.Skeleton
public import proofs.«01_k».proof.Proof.Gen.H1KernelIdeal.Launch
public import proofs.«01_k».proof.Proof.Gen.H1KernelIdeal.Points
public import proofs.«01_k».proof.Proof.Gen.H1KernelIdeal.Frame
public import proofs.«01_k».proof.Proof.Gen.H1ReferenceIdeal
public import proofs.«01_k».proof.Proof.Gen.DyxKernel
public import proofs.«01_k».proof.Proof.Gen.DyxKernel.Skeleton
public import proofs.«01_k».proof.Proof.Gen.DyxKernel.Launch
public import proofs.«01_k».proof.Proof.Gen.DyxKernel.Points
public import proofs.«01_k».proof.Proof.Gen.DyxKernel.Frame
public import proofs.«01_k».proof.Proof.Gen.DyxKernelIdeal
public import proofs.«01_k».proof.Proof.Gen.DyxKernelIdeal.Skeleton
public import proofs.«01_k».proof.Proof.Gen.DyxKernelIdeal.Launch
public import proofs.«01_k».proof.Proof.Gen.DyxKernelIdeal.Points
public import proofs.«01_k».proof.Proof.Gen.DyxKernelIdeal.Frame
public import proofs.«01_k».proof.Proof.Gen.DyxReferenceIdeal
public import proofs.«01_k».proof.Proof.Gen.GoKernel
public import proofs.«01_k».proof.Proof.Gen.GoKernel.Skeleton
public import proofs.«01_k».proof.Proof.Gen.GoKernel.Launch
public import proofs.«01_k».proof.Proof.Gen.GoKernel.Points
public import proofs.«01_k».proof.Proof.Gen.GoKernel.Frame
public import proofs.«01_k».proof.Proof.Gen.GoKernelIdeal
public import proofs.«01_k».proof.Proof.Gen.GoKernelIdeal.Skeleton
public import proofs.«01_k».proof.Proof.Gen.GoKernelIdeal.Launch
public import proofs.«01_k».proof.Proof.Gen.GoKernelIdeal.Points
public import proofs.«01_k».proof.Proof.Gen.GoKernelIdeal.Frame
public import proofs.«01_k».proof.Proof.Gen.GoReferenceIdeal
public import proofs.«01_k».proof.Proof.Gen.X1Kernel
public import proofs.«01_k».proof.Proof.Gen.X1Kernel.Skeleton
public import proofs.«01_k».proof.Proof.Gen.X1Kernel.Launch
public import proofs.«01_k».proof.Proof.Gen.X1Kernel.Points
public import proofs.«01_k».proof.Proof.Gen.X1Kernel.Frame
public import proofs.«01_k».proof.Proof.Gen.X1KernelIdeal
public import proofs.«01_k».proof.Proof.Gen.X1KernelIdeal.Skeleton
public import proofs.«01_k».proof.Proof.Gen.X1KernelIdeal.Launch
public import proofs.«01_k».proof.Proof.Gen.X1KernelIdeal.Points
public import proofs.«01_k».proof.Proof.Gen.X1KernelIdeal.Frame
public import proofs.«01_k».proof.Proof.Gen.X1ReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.XfKernel
public import proofs.«01_k».proof.Proof.Gen.XfKernel.Skeleton
public import proofs.«01_k».proof.Proof.Gen.XfKernel.Launch
public import proofs.«01_k».proof.Proof.Gen.XfKernel.Points
public import proofs.«01_k».proof.Proof.Gen.XfKernel.Frame
public import proofs.«01_k».proof.Proof.Gen.XfKernelIdeal
public import proofs.«01_k».proof.Proof.Gen.XfKernelIdeal.Skeleton
public import proofs.«01_k».proof.Proof.Gen.XfKernelIdeal.Launch
public import proofs.«01_k».proof.Proof.Gen.XfKernelIdeal.Points
public import proofs.«01_k».proof.Proof.Gen.XfKernelIdeal.Frame
public import proofs.«01_k».proof.Proof.Gen.XfReferenceIdeal
public import proofs.«01_k».proof.Proof.Gen.KvKernel
public import proofs.«01_k».proof.Proof.Gen.KvKernel.Skeleton
public import proofs.«01_k».proof.Proof.Gen.KvKernel.Launch
public import proofs.«01_k».proof.Proof.Gen.KvKernel.Points
public import proofs.«01_k».proof.Proof.Gen.KvKernel.Frame
public import proofs.«01_k».proof.Proof.Gen.KvKernelIdeal
public import proofs.«01_k».proof.Proof.Gen.KvKernelIdeal.Skeleton
public import proofs.«01_k».proof.Proof.Gen.KvKernelIdeal.Launch
public import proofs.«01_k».proof.Proof.Gen.KvKernelIdeal.Points
public import proofs.«01_k».proof.Proof.Gen.KvKernelIdeal.Frame
public import proofs.«01_k».proof.Proof.Gen.KvReferenceIdeal
public import proofs.«01_k».proof.Proof.Gen.GkvKernel
public import proofs.«01_k».proof.Proof.Gen.GkvKernel.Skeleton
public import proofs.«01_k».proof.Proof.Gen.GkvKernel.Launch
public import proofs.«01_k».proof.Proof.Gen.GkvKernel.Points
public import proofs.«01_k».proof.Proof.Gen.GkvKernel.Frame
public import proofs.«01_k».proof.Proof.Gen.GkvKernelIdeal
public import proofs.«01_k».proof.Proof.Gen.GkvKernelIdeal.Skeleton
public import proofs.«01_k».proof.Proof.Gen.GkvKernelIdeal.Launch
public import proofs.«01_k».proof.Proof.Gen.GkvKernelIdeal.Points
public import proofs.«01_k».proof.Proof.Gen.GkvKernelIdeal.Frame
public import proofs.«01_k».proof.Proof.Gen.GkvReferenceIdeal
public import proofs.«01_k».proof.Proof.Gen.DmKernel
public import proofs.«01_k».proof.Proof.Gen.DmKernel.Skeleton
public import proofs.«01_k».proof.Proof.Gen.DmKernel.Launch
public import proofs.«01_k».proof.Proof.Gen.DmKernel.Points
public import proofs.«01_k».proof.Proof.Gen.DmKernel.Frame
public import proofs.«01_k».proof.Proof.Gen.DmKernelIdeal
public import proofs.«01_k».proof.Proof.Gen.DmKernelIdeal.Skeleton
public import proofs.«01_k».proof.Proof.Gen.DmKernelIdeal.Launch
public import proofs.«01_k».proof.Proof.Gen.DmKernelIdeal.Points
public import proofs.«01_k».proof.Proof.Gen.DmKernelIdeal.Frame
public import proofs.«01_k».proof.Proof.Gen.DmReferenceIdeal
public import proofs.«01_k».proof.Proof.Gen.ZffKernel
public import proofs.«01_k».proof.Proof.Gen.ZffKernel.Skeleton
public import proofs.«01_k».proof.Proof.Gen.ZffKernel.Launch
public import proofs.«01_k».proof.Proof.Gen.ZffKernel.Points
public import proofs.«01_k».proof.Proof.Gen.ZffKernel.Frame
public import proofs.«01_k».proof.Proof.Gen.ZffKernelIdeal
public import proofs.«01_k».proof.Proof.Gen.ZffKernelIdeal.Skeleton
public import proofs.«01_k».proof.Proof.Gen.ZffKernelIdeal.Launch
public import proofs.«01_k».proof.Proof.Gen.ZffKernelIdeal.Points
public import proofs.«01_k».proof.Proof.Gen.ZffKernelIdeal.Frame
public import proofs.«01_k».proof.Proof.Gen.ZffReferenceIdeal
public import proofs.«01_k».proof.Proof.Gen.NfKernel
public import proofs.«01_k».proof.Proof.Gen.NfKernel.Skeleton
public import proofs.«01_k».proof.Proof.Gen.NfKernel.Launch
public import proofs.«01_k».proof.Proof.Gen.NfKernel.Points
public import proofs.«01_k».proof.Proof.Gen.NfKernel.Frame
public import proofs.«01_k».proof.Proof.Gen.NfKernelIdeal
public import proofs.«01_k».proof.Proof.Gen.NfKernelIdeal.Skeleton
public import proofs.«01_k».proof.Proof.Gen.NfKernelIdeal.Launch
public import proofs.«01_k».proof.Proof.Gen.NfKernelIdeal.Points
public import proofs.«01_k».proof.Proof.Gen.NfKernelIdeal.Frame
public import proofs.«01_k».proof.Proof.Gen.NfReferenceIdeal
public import proofs.«01_k».proof.Proof.Gen.AnKernel
public import proofs.«01_k».proof.Proof.Gen.AnKernel.Skeleton
public import proofs.«01_k».proof.Proof.Gen.AnKernel.Launch
public import proofs.«01_k».proof.Proof.Gen.AnKernel.Points
public import proofs.«01_k».proof.Proof.Gen.AnKernel.Frame
public import proofs.«01_k».proof.Proof.Gen.AnKernelIdeal
public import proofs.«01_k».proof.Proof.Gen.AnKernelIdeal.Skeleton
public import proofs.«01_k».proof.Proof.Gen.AnKernelIdeal.Launch
public import proofs.«01_k».proof.Proof.Gen.AnKernelIdeal.Points
public import proofs.«01_k».proof.Proof.Gen.AnKernelIdeal.Frame
public import proofs.«01_k».proof.Proof.Gen.AnReferenceIdeal
public import proofs.«01_k».proof.Proof.Gen.AcKernel
public import proofs.«01_k».proof.Proof.Gen.AcKernel.Skeleton
public import proofs.«01_k».proof.Proof.Gen.AcKernel.Launch
public import proofs.«01_k».proof.Proof.Gen.AcKernel.Points
public import proofs.«01_k».proof.Proof.Gen.AcKernel.Frame
public import proofs.«01_k».proof.Proof.Gen.AcKernelIdeal
public import proofs.«01_k».proof.Proof.Gen.AcKernelIdeal.Skeleton
public import proofs.«01_k».proof.Proof.Gen.AcKernelIdeal.Launch
public import proofs.«01_k».proof.Proof.Gen.AcKernelIdeal.Points
public import proofs.«01_k».proof.Proof.Gen.AcKernelIdeal.Frame
public import proofs.«01_k».proof.Proof.Gen.AcReferenceIdeal
public import proofs.«01_k».proof.Proof.Gen.AfKernel
public import proofs.«01_k».proof.Proof.Gen.AfKernel.Skeleton
public import proofs.«01_k».proof.Proof.Gen.AfKernel.Launch
public import proofs.«01_k».proof.Proof.Gen.AfKernel.Points
public import proofs.«01_k».proof.Proof.Gen.AfKernel.Frame
public import proofs.«01_k».proof.Proof.Gen.AfKernelIdeal
public import proofs.«01_k».proof.Proof.Gen.AfKernelIdeal.Skeleton
public import proofs.«01_k».proof.Proof.Gen.AfKernelIdeal.Launch
public import proofs.«01_k».proof.Proof.Gen.AfKernelIdeal.Points
public import proofs.«01_k».proof.Proof.Gen.AfKernelIdeal.Frame
public import proofs.«01_k».proof.Proof.Gen.AfReferenceIdeal
public import proofs.«01_k».proof.Proof.Gen.AgKernel
public import proofs.«01_k».proof.Proof.Gen.AgKernel.Skeleton
public import proofs.«01_k».proof.Proof.Gen.AgKernel.Launch
public import proofs.«01_k».proof.Proof.Gen.AgKernel.Points
public import proofs.«01_k».proof.Proof.Gen.AgKernel.Frame
public import proofs.«01_k».proof.Proof.Gen.AgKernelIdeal
public import proofs.«01_k».proof.Proof.Gen.AgKernelIdeal.Skeleton
public import proofs.«01_k».proof.Proof.Gen.AgKernelIdeal.Launch
public import proofs.«01_k».proof.Proof.Gen.AgKernelIdeal.Points
public import proofs.«01_k».proof.Proof.Gen.AgKernelIdeal.Frame
public import proofs.«01_k».proof.Proof.Gen.AgReferenceIdeal
public import proofs.«01_k».proof.Proof.Gen.AxKernel
public import proofs.«01_k».proof.Proof.Gen.AxKernel.Skeleton
public import proofs.«01_k».proof.Proof.Gen.AxKernel.Launch
public import proofs.«01_k».proof.Proof.Gen.AxKernel.Points
public import proofs.«01_k».proof.Proof.Gen.AxKernel.Frame
public import proofs.«01_k».proof.Proof.Gen.AxKernelIdeal
public import proofs.«01_k».proof.Proof.Gen.AxKernelIdeal.Skeleton
public import proofs.«01_k».proof.Proof.Gen.AxKernelIdeal.Launch
public import proofs.«01_k».proof.Proof.Gen.AxKernelIdeal.Points
public import proofs.«01_k».proof.Proof.Gen.AxKernelIdeal.Frame
public import proofs.«01_k».proof.Proof.Gen.AxReferenceIdeal
public import proofs.«01_k».proof.Proof.Gen.AiKernel
public import proofs.«01_k».proof.Proof.Gen.AiKernel.Skeleton
public import proofs.«01_k».proof.Proof.Gen.AiKernel.Launch
public import proofs.«01_k».proof.Proof.Gen.AiKernel.Points
public import proofs.«01_k».proof.Proof.Gen.AiKernel.Frame
public import proofs.«01_k».proof.Proof.Gen.AiKernelIdeal
public import proofs.«01_k».proof.Proof.Gen.AiKernelIdeal.Skeleton
public import proofs.«01_k».proof.Proof.Gen.AiKernelIdeal.Launch
public import proofs.«01_k».proof.Proof.Gen.AiKernelIdeal.Points
public import proofs.«01_k».proof.Proof.Gen.AiKernelIdeal.Frame
public import proofs.«01_k».proof.Proof.Gen.AiReferenceIdeal
public import proofs.«01_k».proof.Proof.Gen.AkKernel
public import proofs.«01_k».proof.Proof.Gen.AkKernel.Skeleton
public import proofs.«01_k».proof.Proof.Gen.AkKernel.Launch
public import proofs.«01_k».proof.Proof.Gen.AkKernel.Points
public import proofs.«01_k».proof.Proof.Gen.AkKernel.Frame
public import proofs.«01_k».proof.Proof.Gen.AkKernelIdeal
public import proofs.«01_k».proof.Proof.Gen.AkKernelIdeal.Skeleton
public import proofs.«01_k».proof.Proof.Gen.AkKernelIdeal.Launch
public import proofs.«01_k».proof.Proof.Gen.AkKernelIdeal.Points
public import proofs.«01_k».proof.Proof.Gen.AkKernelIdeal.Frame
public import proofs.«01_k».proof.Proof.Gen.AkReferenceIdeal
public import proofs.«01_k».proof.Proof.Gen.AbKernel
public import proofs.«01_k».proof.Proof.Gen.AbKernel.Skeleton
public import proofs.«01_k».proof.Proof.Gen.AbKernel.Launch
public import proofs.«01_k».proof.Proof.Gen.AbKernel.Points
public import proofs.«01_k».proof.Proof.Gen.AbKernel.Frame
public import proofs.«01_k».proof.Proof.Gen.AbKernelIdeal
public import proofs.«01_k».proof.Proof.Gen.AbKernelIdeal.Skeleton
public import proofs.«01_k».proof.Proof.Gen.AbKernelIdeal.Launch
public import proofs.«01_k».proof.Proof.Gen.AbKernelIdeal.Points
public import proofs.«01_k».proof.Proof.Gen.AbKernelIdeal.Frame
public import proofs.«01_k».proof.Proof.Gen.AbReferenceIdeal
public import proofs.«01_k».proof.Proof.Gen.ApKernel
public import proofs.«01_k».proof.Proof.Gen.ApKernel.Skeleton
public import proofs.«01_k».proof.Proof.Gen.ApKernel.Launch
public import proofs.«01_k».proof.Proof.Gen.ApKernel.Points
public import proofs.«01_k».proof.Proof.Gen.ApKernel.Frame
public import proofs.«01_k».proof.Proof.Gen.ApKernelIdeal
public import proofs.«01_k».proof.Proof.Gen.ApKernelIdeal.Skeleton
public import proofs.«01_k».proof.Proof.Gen.ApKernelIdeal.Launch
public import proofs.«01_k».proof.Proof.Gen.ApKernelIdeal.Points
public import proofs.«01_k».proof.Proof.Gen.ApKernelIdeal.Frame
public import proofs.«01_k».proof.Proof.Gen.ApReferenceIdeal
public import proofs.«01_k».proof.Proof.Gen.AoKernel
public import proofs.«01_k».proof.Proof.Gen.AoKernel.Skeleton
public import proofs.«01_k».proof.Proof.Gen.AoKernel.Launch
public import proofs.«01_k».proof.Proof.Gen.AoKernel.Points
public import proofs.«01_k».proof.Proof.Gen.AoKernel.Frame
public import proofs.«01_k».proof.Proof.Gen.AoKernelIdeal
public import proofs.«01_k».proof.Proof.Gen.AoKernelIdeal.Skeleton
public import proofs.«01_k».proof.Proof.Gen.AoKernelIdeal.Launch
public import proofs.«01_k».proof.Proof.Gen.AoKernelIdeal.Points
public import proofs.«01_k».proof.Proof.Gen.AoKernelIdeal.Frame
public import proofs.«01_k».proof.Proof.Gen.AoReferenceIdeal
public import proofs.«01_k».proof.Proof.Gen.Pre_finite
public import proofs.«01_k».proof.Proof.Gen.Pre_finite_ffn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnKernel.Gen.facts, Cert.FfnKernelIdeal.Gen.facts, Cert.FfnReferenceIdeal.Gen.facts, Cert.GwKernel.Gen.facts, Cert.GwKernelIdeal.Gen.facts, Cert.GwReferenceIdeal.Gen.facts, Cert.DyKernel.Gen.facts, Cert.DyKernelIdeal.Gen.facts, Cert.DyReferenceIdeal.Gen.facts, Cert.GbKernel.Gen.facts, Cert.GbKernelIdeal.Gen.facts, Cert.GbReferenceIdeal.Gen.facts, Cert.RmsKernel.Gen.facts, Cert.RmsKernelIdeal.Gen.facts, Cert.RmsReferenceIdeal.Gen.facts, Cert.H1Kernel.Gen.facts, Cert.H1KernelIdeal.Gen.facts, Cert.H1ReferenceIdeal.Gen.facts, Cert.DyxKernel.Gen.facts, Cert.DyxKernelIdeal.Gen.facts, Cert.DyxReferenceIdeal.Gen.facts, Cert.GoKernel.Gen.facts, Cert.GoKernelIdeal.Gen.facts, Cert.GoReferenceIdeal.Gen.facts, Cert.X1Kernel.Gen.facts, Cert.X1KernelIdeal.Gen.facts, Cert.X1ReferenceIdeal.Gen.facts, Cert.MergeKernel.Gen.facts, Cert.MergeKernelIdeal.Gen.facts, Cert.MergeReferenceIdeal.Gen.facts, Cert.LossKernel.Gen.facts, Cert.LossKernelIdeal.Gen.facts, Cert.LossReferenceIdeal.Gen.facts, Cert.XfKernel.Gen.facts, Cert.XfKernelIdeal.Gen.facts, Cert.XfReferenceIdeal.Gen.facts, Cert.KvKernel.Gen.facts, Cert.KvKernelIdeal.Gen.facts, Cert.KvReferenceIdeal.Gen.facts, Cert.GkvKernel.Gen.facts, Cert.GkvKernelIdeal.Gen.facts, Cert.GkvReferenceIdeal.Gen.facts, Cert.DmKernel.Gen.facts, Cert.DmKernelIdeal.Gen.facts, Cert.DmReferenceIdeal.Gen.facts, Cert.ZffKernel.Gen.facts, Cert.ZffKernelIdeal.Gen.facts, Cert.ZffReferenceIdeal.Gen.facts, Cert.NfKernel.Gen.facts, Cert.NfKernelIdeal.Gen.facts, Cert.NfReferenceIdeal.Gen.facts, Cert.AnKernel.Gen.facts, Cert.AnKernelIdeal.Gen.facts, Cert.AnReferenceIdeal.Gen.facts, Cert.AcKernel.Gen.facts, Cert.AcKernelIdeal.Gen.facts, Cert.AcReferenceIdeal.Gen.facts, Cert.AfKernel.Gen.facts, Cert.AfKernelIdeal.Gen.facts, Cert.AfReferenceIdeal.Gen.facts, Cert.AgKernel.Gen.facts, Cert.AgKernelIdeal.Gen.facts, Cert.AgReferenceIdeal.Gen.facts, Cert.AxKernel.Gen.facts, Cert.AxKernelIdeal.Gen.facts, Cert.AxReferenceIdeal.Gen.facts, Cert.AiKernel.Gen.facts, Cert.AiKernelIdeal.Gen.facts, Cert.AiReferenceIdeal.Gen.facts, Cert.AkKernel.Gen.facts, Cert.AkKernelIdeal.Gen.facts, Cert.AkReferenceIdeal.Gen.facts, Cert.AbKernel.Gen.facts, Cert.AbKernelIdeal.Gen.facts, Cert.AbReferenceIdeal.Gen.facts, Cert.ApKernel.Gen.facts, Cert.ApKernelIdeal.Gen.facts, Cert.ApReferenceIdeal.Gen.facts, Cert.AoKernel.Gen.facts, Cert.AoKernelIdeal.Gen.facts, Cert.AoReferenceIdeal.Gen.facts, Cert.Pre_finite.Gen.facts, Cert.Pre_finite_ffn.Gen.facts,
    fun m ρ _ => Cert.Kernel.Gen.frame m ρ,
    fun m ρ _ => Cert.KernelIdeal.Gen.frame m ρ,
    fun m ρ _ => Cert.KernelIdeal.Gen.frame m ρ,
    Cert.XaClaim.frame_ref,
    fun m ρ _ => Cert.XaClaim.frame_ref m ρ trivial,
    fun m ρ _ => Cert.FfnKernel.Gen.frame m ρ,
    fun m ρ _ => Cert.FfnKernelIdeal.Gen.frame m ρ,
    fun m ρ _ => Cert.FfnKernelIdeal.Gen.frame m ρ,
    Cert.FfnClaim.frame_ref,
    fun m ρ _ => Cert.FfnClaim.frame_ref m ρ trivial,
    fun m ρ _ => Cert.GwKernel.Gen.frame m ρ,
    fun m ρ _ => Cert.GwKernelIdeal.Gen.frame m ρ,
    Cert.GwClaim.frame_ref,
    fun m ρ _ => Cert.DyKernel.Gen.frame m ρ,
    fun m ρ _ => Cert.DyKernelIdeal.Gen.frame m ρ,
    Cert.DyClaim.frame_ref,
    fun m ρ _ => Cert.GbKernel.Gen.frame m ρ,
    fun m ρ _ => Cert.GbKernelIdeal.Gen.frame m ρ,
    Cert.GbClaim.frame_ref,
    fun m ρ _ => Cert.RmsKernel.Gen.frame m ρ,
    fun m ρ _ => Cert.RmsKernelIdeal.Gen.frame m ρ,
    Cert.RmsClaim.frame_ref,
    fun m ρ _ => Cert.H1Kernel.Gen.frame m ρ,
    fun m ρ _ => Cert.H1KernelIdeal.Gen.frame m ρ,
    Cert.H1Claim.frame_ref,
    fun m ρ _ => Cert.DyxKernel.Gen.frame m ρ,
    fun m ρ _ => Cert.DyxKernelIdeal.Gen.frame m ρ,
    Cert.DyxClaim.frame_ref,
    fun m ρ _ => Cert.GoKernel.Gen.frame m ρ,
    fun m ρ _ => Cert.GoKernelIdeal.Gen.frame m ρ,
    Cert.GoClaim.frame_ref,
    fun m ρ _ => Cert.X1Kernel.Gen.frame m ρ,
    fun m ρ _ => Cert.X1KernelIdeal.Gen.frame m ρ,
    Cert.X1Claim.frame_ref,
    fun m ρ _ => Cert.MergeKernel.Gen.frame m ρ,
    fun m ρ _ => Cert.MergeKernelIdeal.Gen.frame m ρ,
    Cert.MergeClaim.frame_ref,
    fun m ρ _ => Cert.LossKernel.Gen.frame m ρ,
    fun m ρ _ => Cert.LossKernelIdeal.Gen.frame m ρ,
    Cert.LossClaim.frame_ref,
    fun m ρ _ => Cert.XfKernel.Gen.frame m ρ,
    fun m ρ _ => Cert.XfKernelIdeal.Gen.frame m ρ,
    Cert.XfClaim.frame_ref,
    fun m ρ _ => Cert.KvKernel.Gen.frame m ρ,
    fun m ρ _ => Cert.KvKernelIdeal.Gen.frame m ρ,
    Cert.KvClaim.frame_ref,
    fun m ρ _ => Cert.GkvKernel.Gen.frame m ρ,
    fun m ρ _ => Cert.GkvKernelIdeal.Gen.frame m ρ,
    Cert.GkvClaim.frame_ref,
    fun m ρ _ => Cert.DmKernel.Gen.frame m ρ,
    fun m ρ _ => Cert.DmKernelIdeal.Gen.frame m ρ,
    Cert.DmClaim.frame_ref,
    fun m ρ _ => Cert.ZffKernel.Gen.frame m ρ,
    fun m ρ _ => Cert.ZffKernelIdeal.Gen.frame m ρ,
    Cert.ZffClaim.frame_ref,
    fun m ρ _ => Cert.NfKernel.Gen.frame m ρ,
    fun m ρ _ => Cert.NfKernelIdeal.Gen.frame m ρ,
    Cert.NfClaim.frame_ref,
    fun m ρ _ => Cert.AnKernel.Gen.frame m ρ,
    fun m ρ _ => Cert.AnKernelIdeal.Gen.frame m ρ,
    Cert.AnClaim.frame_ref,
    fun m ρ _ => Cert.AcKernel.Gen.frame m ρ,
    fun m ρ _ => Cert.AcKernelIdeal.Gen.frame m ρ,
    Cert.AcClaim.frame_ref,
    fun m ρ _ => Cert.AfKernel.Gen.frame m ρ,
    fun m ρ _ => Cert.AfKernelIdeal.Gen.frame m ρ,
    Cert.AfClaim.frame_ref,
    fun m ρ _ => Cert.AgKernel.Gen.frame m ρ,
    fun m ρ _ => Cert.AgKernelIdeal.Gen.frame m ρ,
    Cert.AgClaim.frame_ref,
    fun m ρ _ => Cert.AxKernel.Gen.frame m ρ,
    fun m ρ _ => Cert.AxKernelIdeal.Gen.frame m ρ,
    Cert.AxClaim.frame_ref,
    fun m ρ _ => Cert.AiKernel.Gen.frame m ρ,
    fun m ρ _ => Cert.AiKernelIdeal.Gen.frame m ρ,
    Cert.AiClaim.frame_ref,
    fun m ρ _ => Cert.AkKernel.Gen.frame m ρ,
    fun m ρ _ => Cert.AkKernelIdeal.Gen.frame m ρ,
    Cert.AkClaim.frame_ref,
    fun m ρ _ => Cert.AbKernel.Gen.frame m ρ,
    fun m ρ _ => Cert.AbKernelIdeal.Gen.frame m ρ,
    Cert.AbClaim.frame_ref,
    fun m ρ _ => Cert.ApKernel.Gen.frame m ρ,
    fun m ρ _ => Cert.ApKernelIdeal.Gen.frame m ρ,
    Cert.ApClaim.frame_ref,
    fun m ρ _ => Cert.AoKernel.Gen.frame m ρ,
    fun m ρ _ => Cert.AoKernelIdeal.Gen.frame m ρ,
    Cert.AoClaim.frame_ref,
    trivial,
    Cert.XaClaim.algebraic,
    trivial,
    Cert.FfnClaim.algebraic,
    trivial,
    Cert.GwClaim.algebraic,
    trivial,
    Cert.DyClaim.algebraic,
    trivial,
    Cert.GbClaim.algebraic,
    trivial,
    Cert.RmsClaim.algebraic,
    trivial,
    Cert.H1Claim.algebraic,
    trivial,
    Cert.DyxClaim.algebraic,
    trivial,
    Cert.GoClaim.algebraic,
    trivial,
    Cert.X1Claim.algebraic,
    trivial,
    Cert.MergeClaim.algebraic,
    trivial,
    Cert.LossClaim.algebraic,
    trivial,
    Cert.XfClaim.algebraic,
    trivial,
    Cert.KvClaim.algebraic,
    trivial,
    Cert.GkvClaim.algebraic,
    trivial,
    Cert.DmClaim.algebraic,
    trivial,
    Cert.ZffClaim.algebraic,
    trivial,
    Cert.NfClaim.algebraic,
    trivial,
    Cert.AnClaim.algebraic,
    trivial,
    Cert.AcClaim.algebraic,
    trivial,
    Cert.AfClaim.algebraic,
    trivial,
    Cert.AgClaim.algebraic,
    trivial,
    Cert.AxClaim.algebraic,
    trivial,
    Cert.AiClaim.algebraic,
    trivial,
    Cert.AkClaim.algebraic,
    trivial,
    Cert.AbClaim.algebraic,
    trivial,
    Cert.ApClaim.algebraic,
    trivial,
    Cert.AoClaim.algebraic⟩

end Cert.Proof

end
